-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts) (hPre_finite : Cert.Pre_finite.Facts),
    quiescent_Kernel (hKernel := hKernel) (hPre_in_range := hPre_in_range)
    ∧ quiescent_KernelIdeal (hKernelIdeal := hKernelIdeal) (hPre_in_range := hPre_in_range)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32x1x128x512 : Shape := ⟨4, ![32, 1, 128, 512]⟩
abbrev S32x1x128x64 : Shape := ⟨4, ![32, 1, 128, 64]⟩
abbrev S32x1x656 : Shape := ⟨3, ![32, 1, 656]⟩
abbrev S40960x16x656 : Shape := ⟨3, ![40960, 16, 656]⟩
abbrev S32x1024 : Shape := ⟨2, ![32, 1024]⟩
abbrev S32 : Shape := ⟨1, ![32]⟩
abbrev S_ : Shape := ⟨0, ![]⟩
abbrev S32x1x512 : Shape := ⟨3, ![32, 1, 512]⟩
abbrev S32x1x16 : Shape := ⟨3, ![32, 1, 16]⟩
abbrev S32x1x128 : Shape := ⟨3, ![32, 1, 128]⟩
abbrev S32x1x4x4 : Shape := ⟨4, ![32, 1, 4, 4]⟩
abbrev S32x1x64x2 : Shape := ⟨4, ![32, 1, 64, 2]⟩
abbrev S32x1x4x1 : Shape := ⟨4, ![32, 1, 4, 1]⟩
abbrev S32x1x4 : Shape := ⟨3, ![32, 1, 4]⟩
abbrev S32x1x64x1 : Shape := ⟨4, ![32, 1, 64, 1]⟩
abbrev S32x1x64 : Shape := ⟨3, ![32, 1, 64]⟩
abbrev S40960x16x512 : Shape := ⟨3, ![40960, 16, 512]⟩
abbrev S40960x16x16 : Shape := ⟨3, ![40960, 16, 16]⟩
abbrev S40960x16x128 : Shape := ⟨3, ![40960, 16, 128]⟩
abbrev S40960x16x4x4 : Shape := ⟨4, ![40960, 16, 4, 4]⟩
abbrev S40960x16x64x2 : Shape := ⟨4, ![40960, 16, 64, 2]⟩
abbrev S40960x16x4x1 : Shape := ⟨4, ![40960, 16, 4, 1]⟩
abbrev S40960x16x4 : Shape := ⟨3, ![40960, 16, 4]⟩
abbrev S40960x16x64x1 : Shape := ⟨4, ![40960, 16, 64, 1]⟩
abbrev S40960x16x64 : Shape := ⟨3, ![40960, 16, 64]⟩

class Facts : Prop where
  bcast_S_S32x1x128x512 : S_.BroadcastsInDim S32x1x128x512 (![] : Fin 0 → Fin S32x1x128x512.rank)
  reducesTo_S32x1x128x512_S_d0_1_2_3 : S32x1x128x512.ReducesTo [0, 1, 2, 3] S_
  h_S_ : 0 < S_.numel
  bcast_S_S32x1x128x64 : S_.BroadcastsInDim S32x1x128x64 (![] : Fin 0 → Fin S32x1x128x64.rank)
  reducesTo_S32x1x128x64_S_d0_1_2_3 : S32x1x128x64.ReducesTo [0, 1, 2, 3] S_
  bcast_S_S32x1024 : S_.BroadcastsInDim S32x1024 (![] : Fin 0 → Fin S32x1024.rank)
  reducesTo_S32x1024_S_d0_1 : S32x1024.ReducesTo [0, 1] S_
  bcast_S_S32 : S_.BroadcastsInDim S32 (![] : Fin 0 → Fin S32.rank)
  reducesTo_S32_S_d0 : S32.ReducesTo [0] S_
  slices_S32x1x656_S32x1x512_0_0_0 : S32x1x656.Slices ![0, 0, 0] S32x1x512
  slices_S32x1x656_S32x1x16_0_0_512 : S32x1x656.Slices ![0, 0, 512] S32x1x16
  slices_S32x1x656_S32x1x128_0_0_528 : S32x1x656.Slices ![0, 0, 528] S32x1x128
  shapeCasts_S32x1x16_S32x1x4x4 : S32x1x16.ShapeCasts S32x1x4x4
  shapeCasts_S32x1x128_S32x1x64x2 : S32x1x128.ShapeCasts S32x1x64x2
  bcast_S_S32x1x512 : S_.BroadcastsInDim S32x1x512 (![] : Fin 0 → Fin S32x1x512.rank)
  reducesTo_S32x1x512_S_d0_1_2 : S32x1x512.ReducesTo [0, 1, 2] S_
  slices_S32x1x4x4_S32x1x4x1_0_0_0_3 : S32x1x4x4.Slices ![0, 0, 0, 3] S32x1x4x1
  shapeCasts_S32x1x4x1_S32x1x4 : S32x1x4x1.ShapeCasts S32x1x4
  bcast_S_S32x1x4 : S_.BroadcastsInDim S32x1x4 (![] : Fin 0 → Fin S32x1x4.rank)
  slices_S32x1x4x4_S32x1x4x1_0_0_0_2 : S32x1x4x4.Slices ![0, 0, 0, 2] S32x1x4x1
  reducesTo_S32x1x4_S_d0_1_2 : S32x1x4.ReducesTo [0, 1, 2] S_
  slices_S32x1x64x2_S32x1x64x1_0_0_0_1 : S32x1x64x2.Slices ![0, 0, 0, 1] S32x1x64x1
  shapeCasts_S32x1x64x1_S32x1x64 : S32x1x64x1.ShapeCasts S32x1x64
  bcast_S_S32x1x64 : S_.BroadcastsInDim S32x1x64 (![] : Fin 0 → Fin S32x1x64.rank)
  slices_S32x1x64x2_S32x1x64x1_0_0_0_0 : S32x1x64x2.Slices ![0, 0, 0, 0] S32x1x64x1
  reducesTo_S32x1x64_S_d0_1_2 : S32x1x64.ReducesTo [0, 1, 2] S_
  slices_S40960x16x656_S40960x16x512_0_0_0 : S40960x16x656.Slices ![0, 0, 0] S40960x16x512
  slices_S40960x16x656_S40960x16x16_0_0_512 : S40960x16x656.Slices ![0, 0, 512] S40960x16x16
  slices_S40960x16x656_S40960x16x128_0_0_528 : S40960x16x656.Slices ![0, 0, 528] S40960x16x128
  shapeCasts_S40960x16x16_S40960x16x4x4 : S40960x16x16.ShapeCasts S40960x16x4x4
  shapeCasts_S40960x16x128_S40960x16x64x2 : S40960x16x128.ShapeCasts S40960x16x64x2
  bcast_S_S40960x16x512 : S_.BroadcastsInDim S40960x16x512 (![] : Fin 0 → Fin S40960x16x512.rank)
  reducesTo_S40960x16x512_S_d0_1_2 : S40960x16x512.ReducesTo [0, 1, 2] S_
  slices_S40960x16x4x4_S40960x16x4x1_0_0_0_3 : S40960x16x4x4.Slices ![0, 0, 0, 3] S40960x16x4x1
  shapeCasts_S40960x16x4x1_S40960x16x4 : S40960x16x4x1.ShapeCasts S40960x16x4
  bcast_S_S40960x16x4 : S_.BroadcastsInDim S40960x16x4 (![] : Fin 0 → Fin S40960x16x4.rank)
  slices_S40960x16x4x4_S40960x16x4x1_0_0_0_2 : S40960x16x4x4.Slices ![0, 0, 0, 2] S40960x16x4x1
  reducesTo_S40960x16x4_S_d0_1_2 : S40960x16x4.ReducesTo [0, 1, 2] S_
  slices_S40960x16x64x2_S40960x16x64x1_0_0_0_1 : S40960x16x64x2.Slices ![0, 0, 0, 1] S40960x16x64x1
  shapeCasts_S40960x16x64x1_S40960x16x64 : S40960x16x64x1.ShapeCasts S40960x16x64
  bcast_S_S40960x16x64 : S_.BroadcastsInDim S40960x16x64 (![] : Fin 0 → Fin S40960x16x64.rank)
  slices_S40960x16x64x2_S40960x16x64x1_0_0_0_0 : S40960x16x64x2.Slices ![0, 0, 0, 0] S40960x16x64x1
  reducesTo_S40960x16x64_S_d0_1_2 : S40960x16x64.ReducesTo [0, 1, 2] S_

variable [Facts]

def fn_part5 {F : FTy → Type} [FloatOps F] (main_v66 : IVec S_ 1) (main_v71 : IVec S40960x16x64x2 8) (main_v77 : IVec S_ 1) (main_v91 : IVec S40960x16x4 1) (main_c_25 : IVec S_ 1) : IVec S_ 1 :=
  let main_v92 : IVec S_ 1 := (fun x v => Host.reduce IntOp.andi x v reducesTo_S40960x16x4_S_d0_1_2 h_S_) main_v91 main_c_25
  let main_v93 : IVec S_ 1 := andi main_v77 main_v92
  let main_v94 : IVec S40960x16x64x1 8 := (extractStridedSlice S40960x16x64x1 ![0, 0, 0, 1] · slices_S40960x16x64x2_S40960x16x64x1_0_0_0_1) main_v71
  let main_v95 : IVec S40960x16x64 8 := shapeCast S40960x16x64 main_v94 shapeCasts_S40960x16x64x1_S40960x16x64
  let main_c_26 : IVec S_ 8 := constantI S_ 8 127#8
  let main_v96 : IVec S40960x16x64 8 := broadcastInDim S40960x16x64 ![] bcast_S_S40960x16x64 main_c_26
  let main_v97 : IVec S40960x16x64 1 := cmpi .ne main_v95 main_v96
  let main_v98 : IVec S40960x16x64x1 8 := (extractStridedSlice S40960x16x64x1 ![0, 0, 0, 1] · slices_S40960x16x64x2_S40960x16x64x1_0_0_0_1) main_v71
  let main_v99 : IVec S40960x16x64 8 := shapeCast S40960x16x64 main_v98 shapeCasts_S40960x16x64x1_S40960x16x64
  let main_c_27 : IVec S_ 8 := constantI S_ 8 255#8
  let main_v100 : IVec S40960x16x64 8 := broadcastInDim S40960x16x64 ![] bcast_S_S40960x16x64 main_c_27
  let main_v101 : IVec S40960x16x64 1 := cmpi .ne main_v99 main_v100
  let main_v102 : IVec S40960x16x64 1 := andi main_v97 main_v101
  let main_v103 : IVec S40960x16x64x1 8 := (extractStridedSlice S40960x16x64x1 ![0, 0, 0, 0] · slices_S40960x16x64x2_S40960x16x64x1_0_0_0_0) main_v71
  let main_v104 : IVec S40960x16x64 8 := shapeCast S40960x16x64 main_v103 shapeCasts_S40960x16x64x1_S40960x16x64
  let main_c_28 : IVec S_ 8 := constantI S_ 8 128#8
  let main_v105 : IVec S40960x16x64 8 := broadcastInDim S40960x16x64 ![] bcast_S_S40960x16x64 main_c_28
  let main_v106 : IVec S40960x16x64 1 := cmpi .ult main_v104 main_v105
  let main_v107 : IVec S40960x16x64 1 := ori main_v102 main_v106
  let main_c_29 : IVec S_ 1 := constantI S_ 1 1#1
  let main_v108 : IVec S_ 1 := (fun x v => Host.reduce IntOp.andi x v reducesTo_S40960x16x64_S_d0_1_2 h_S_) main_v107 main_c_29
  let main_v109 : IVec S_ 1 := andi main_v93 main_v108
  let main_v110 : IVec S_ 1 := andi main_v66 main_v109
  main_v110

def fn_part4 {F : FTy → Type} [FloatOps F] (main_v66 : IVec S_ 1) (main_v67 : IVec S40960x16x512 8) (main_v70 : IVec S40960x16x4x4 8) (main_v71 : IVec S40960x16x64x2 8) (main_v73 : IVec S40960x16x512 1) : IVec S_ 1 :=
  let main_c_20 : IVec S_ 8 := constantI S_ 8 255#8
  let main_v74 : IVec S40960x16x512 8 := broadcastInDim S40960x16x512 ![] bcast_S_S40960x16x512 main_c_20
  let main_v75 : IVec S40960x16x512 1 := cmpi .ne main_v67 main_v74
  let main_v76 : IVec S40960x16x512 1 := andi main_v73 main_v75
  let main_c_21 : IVec S_ 1 := constantI S_ 1 1#1
  let main_v77 : IVec S_ 1 := (fun x v => Host.reduce IntOp.andi x v reducesTo_S40960x16x512_S_d0_1_2 h_S_) main_v76 main_c_21
  let main_v78 : IVec S40960x16x4x1 8 := (extractStridedSlice S40960x16x4x1 ![0, 0, 0, 3] · slices_S40960x16x4x4_S40960x16x4x1_0_0_0_3) main_v70
  let main_v79 : IVec S40960x16x4 8 := shapeCast S40960x16x4 main_v78 shapeCasts_S40960x16x4x1_S40960x16x4
  let main_c_22 : IVec S_ 8 := constantI S_ 8 127#8
  let main_v80 : IVec S40960x16x4 8 := broadcastInDim S40960x16x4 ![] bcast_S_S40960x16x4 main_c_22
  let main_v81 : IVec S40960x16x4 1 := cmpi .ne main_v79 main_v80
  let main_v82 : IVec S40960x16x4x1 8 := (extractStridedSlice S40960x16x4x1 ![0, 0, 0, 3] · slices_S40960x16x4x4_S40960x16x4x1_0_0_0_3) main_v70
  let main_v83 : IVec S40960x16x4 8 := shapeCast S40960x16x4 main_v82 shapeCasts_S40960x16x4x1_S40960x16x4
  let main_c_23 : IVec S_ 8 := constantI S_ 8 255#8
  let main_v84 : IVec S40960x16x4 8 := broadcastInDim S40960x16x4 ![] bcast_S_S40960x16x4 main_c_23
  let main_v85 : IVec S40960x16x4 1 := cmpi .ne main_v83 main_v84
  let main_v86 : IVec S40960x16x4 1 := andi main_v81 main_v85
  let main_v87 : IVec S40960x16x4x1 8 := (extractStridedSlice S40960x16x4x1 ![0, 0, 0, 2] · slices_S40960x16x4x4_S40960x16x4x1_0_0_0_2) main_v70
  let main_v88 : IVec S40960x16x4 8 := shapeCast S40960x16x4 main_v87 shapeCasts_S40960x16x4x1_S40960x16x4
  let main_c_24 : IVec S_ 8 := constantI S_ 8 128#8
  let main_v89 : IVec S40960x16x4 8 := broadcastInDim S40960x16x4 ![] bcast_S_S40960x16x4 main_c_24
  let main_v90 : IVec S40960x16x4 1 := cmpi .ult main_v88 main_v89
  let main_v91 : IVec S40960x16x4 1 := ori main_v86 main_v90
  let main_c_25 : IVec S_ 1 := constantI S_ 1 1#1
  fn_part5 (F := F) main_v66 main_v71 main_v77 main_v91 main_c_25

def fn_part3 {F : FTy → Type} [FloatOps F] (main_arg3 : IVec S40960x16x656 8) (main_v22 : IVec S_ 1) (main_v27 : IVec S32x1x64x2 8) (main_v49 : IVec S_ 1) (main_v53 : IVec S32x1x64 1) : IVec S_ 1 :=
  let main_v54 : IVec S32x1x64x1 8 := (extractStridedSlice S32x1x64x1 ![0, 0, 0, 1] · slices_S32x1x64x2_S32x1x64x1_0_0_0_1) main_v27
  let main_v55 : IVec S32x1x64 8 := shapeCast S32x1x64 main_v54 shapeCasts_S32x1x64x1_S32x1x64
  let main_c_16 : IVec S_ 8 := constantI S_ 8 255#8
  let main_v56 : IVec S32x1x64 8 := broadcastInDim S32x1x64 ![] bcast_S_S32x1x64 main_c_16
  let main_v57 : IVec S32x1x64 1 := cmpi .ne main_v55 main_v56
  let main_v58 : IVec S32x1x64 1 := andi main_v53 main_v57
  let main_v59 : IVec S32x1x64x1 8 := (extractStridedSlice S32x1x64x1 ![0, 0, 0, 0] · slices_S32x1x64x2_S32x1x64x1_0_0_0_0) main_v27
  let main_v60 : IVec S32x1x64 8 := shapeCast S32x1x64 main_v59 shapeCasts_S32x1x64x1_S32x1x64
  let main_c_17 : IVec S_ 8 := constantI S_ 8 128#8
  let main_v61 : IVec S32x1x64 8 := broadcastInDim S32x1x64 ![] bcast_S_S32x1x64 main_c_17
  let main_v62 : IVec S32x1x64 1 := cmpi .ult main_v60 main_v61
  let main_v63 : IVec S32x1x64 1 := ori main_v58 main_v62
  let main_c_18 : IVec S_ 1 := constantI S_ 1 1#1
  let main_v64 : IVec S_ 1 := (fun x v => Host.reduce IntOp.andi x v reducesTo_S32x1x64_S_d0_1_2 h_S_) main_v63 main_c_18
  let main_v65 : IVec S_ 1 := andi main_v49 main_v64
  let main_v66 : IVec S_ 1 := andi main_v22 main_v65
  let main_v67 : IVec S40960x16x512 8 := (extractStridedSlice S40960x16x512 ![0, 0, 0] · slices_S40960x16x656_S40960x16x512_0_0_0) main_arg3
  let main_v68 : IVec S40960x16x16 8 := (extractStridedSlice S40960x16x16 ![0, 0, 512] · slices_S40960x16x656_S40960x16x16_0_0_512) main_arg3
  let main_v69 : IVec S40960x16x128 8 := (extractStridedSlice S40960x16x128 ![0, 0, 528] · slices_S40960x16x656_S40960x16x128_0_0_528) main_arg3
  let main_v70 : IVec S40960x16x4x4 8 := shapeCast S40960x16x4x4 main_v68 shapeCasts_S40960x16x16_S40960x16x4x4
  let main_v71 : IVec S40960x16x64x2 8 := shapeCast S40960x16x64x2 main_v69 shapeCasts_S40960x16x128_S40960x16x64x2
  let main_c_19 : IVec S_ 8 := constantI S_ 8 127#8
  let main_v72 : IVec S40960x16x512 8 := broadcastInDim S40960x16x512 ![] bcast_S_S40960x16x512 main_c_19
  let main_v73 : IVec S40960x16x512 1 := cmpi .ne main_v67 main_v72
  fn_part4 (F := F) main_v66 main_v67 main_v70 main_v71 main_v73

def fn_part2 {F : FTy → Type} [FloatOps F] (main_arg3 : IVec S40960x16x656 8) (main_v22 : IVec S_ 1) (main_v26 : IVec S32x1x4x4 8) (main_v27 : IVec S32x1x64x2 8) (main_v33 : IVec S_ 1) (main_v34 : IVec S32x1x4x1 8) : IVec S_ 1 :=
  let main_v35 : IVec S32x1x4 8 := shapeCast S32x1x4 main_v34 shapeCasts_S32x1x4x1_S32x1x4
  let main_c_11 : IVec S_ 8 := constantI S_ 8 127#8
  let main_v36 : IVec S32x1x4 8 := broadcastInDim S32x1x4 ![] bcast_S_S32x1x4 main_c_11
  let main_v37 : IVec S32x1x4 1 := cmpi .ne main_v35 main_v36
  let main_v38 : IVec S32x1x4x1 8 := (extractStridedSlice S32x1x4x1 ![0, 0, 0, 3] · slices_S32x1x4x4_S32x1x4x1_0_0_0_3) main_v26
  let main_v39 : IVec S32x1x4 8 := shapeCast S32x1x4 main_v38 shapeCasts_S32x1x4x1_S32x1x4
  let main_c_12 : IVec S_ 8 := constantI S_ 8 255#8
  let main_v40 : IVec S32x1x4 8 := broadcastInDim S32x1x4 ![] bcast_S_S32x1x4 main_c_12
  let main_v41 : IVec S32x1x4 1 := cmpi .ne main_v39 main_v40
  let main_v42 : IVec S32x1x4 1 := andi main_v37 main_v41
  let main_v43 : IVec S32x1x4x1 8 := (extractStridedSlice S32x1x4x1 ![0, 0, 0, 2] · slices_S32x1x4x4_S32x1x4x1_0_0_0_2) main_v26
  let main_v44 : IVec S32x1x4 8 := shapeCast S32x1x4 main_v43 shapeCasts_S32x1x4x1_S32x1x4
  let main_c_13 : IVec S_ 8 := constantI S_ 8 128#8
  let main_v45 : IVec S32x1x4 8 := broadcastInDim S32x1x4 ![] bcast_S_S32x1x4 main_c_13
  let main_v46 : IVec S32x1x4 1 := cmpi .ult main_v44 main_v45
  let main_v47 : IVec S32x1x4 1 := ori main_v42 main_v46
  let main_c_14 : IVec S_ 1 := constantI S_ 1 1#1
  let main_v48 : IVec S_ 1 := (fun x v => Host.reduce IntOp.andi x v reducesTo_S32x1x4_S_d0_1_2 h_S_) main_v47 main_c_14
  let main_v49 : IVec S_ 1 := andi main_v33 main_v48
  let main_v50 : IVec S32x1x64x1 8 := (extractStridedSlice S32x1x64x1 ![0, 0, 0, 1] · slices_S32x1x64x2_S32x1x64x1_0_0_0_1) main_v27
  let main_v51 : IVec S32x1x64 8 := shapeCast S32x1x64 main_v50 shapeCasts_S32x1x64x1_S32x1x64
  let main_c_15 : IVec S_ 8 := constantI S_ 8 127#8
  let main_v52 : IVec S32x1x64 8 := broadcastInDim S32x1x64 ![] bcast_S_S32x1x64 main_c_15
  let main_v53 : IVec S32x1x64 1 := cmpi .ne main_v51 main_v52
  fn_part3 (F := F) main_arg3 main_v22 main_v27 main_v49 main_v53

def fn_part1 {F : FTy → Type} [FloatOps F] (main_arg2 : IVec S32x1x656 8) (main_arg3 : IVec S40960x16x656 8) (main_arg5 : IVec S32 32) (main_v8 : IVec S_ 1) (main_v14 : IVec S_ 1) (main_v15 : IVec S32 32) : IVec S_ 1 :=
  let main_v16 : IVec S32 1 := cmpi .sge main_arg5 main_v15
  let main_c_6 : IVec S_ 32 := constantI S_ 32 16384#32
  let main_v17 : IVec S32 32 := broadcastInDim S32 ![] bcast_S_S32 main_c_6
  let main_v18 : IVec S32 1 := cmpi .sle main_arg5 main_v17
  let main_v19 : IVec S32 1 := andi main_v16 main_v18
  let main_c_7 : IVec S_ 1 := constantI S_ 1 1#1
  let main_v20 : IVec S_ 1 := (fun x v => Host.reduce IntOp.andi x v reducesTo_S32_S_d0 h_S_) main_v19 main_c_7
  let main_v21 : IVec S_ 1 := andi main_v14 main_v20
  let main_v22 : IVec S_ 1 := andi main_v21 main_v8
  let main_v23 : IVec S32x1x512 8 := (extractStridedSlice S32x1x512 ![0, 0, 0] · slices_S32x1x656_S32x1x512_0_0_0) main_arg2
  let main_v24 : IVec S32x1x16 8 := (extractStridedSlice S32x1x16 ![0, 0, 512] · slices_S32x1x656_S32x1x16_0_0_512) main_arg2
  let main_v25 : IVec S32x1x128 8 := (extractStridedSlice S32x1x128 ![0, 0, 528] · slices_S32x1x656_S32x1x128_0_0_528) main_arg2
  let main_v26 : IVec S32x1x4x4 8 := shapeCast S32x1x4x4 main_v24 shapeCasts_S32x1x16_S32x1x4x4
  let main_v27 : IVec S32x1x64x2 8 := shapeCast S32x1x64x2 main_v25 shapeCasts_S32x1x128_S32x1x64x2
  let main_c_8 : IVec S_ 8 := constantI S_ 8 127#8
  let main_v28 : IVec S32x1x512 8 := broadcastInDim S32x1x512 ![] bcast_S_S32x1x512 main_c_8
  let main_v29 : IVec S32x1x512 1 := cmpi .ne main_v23 main_v28
  let main_c_9 : IVec S_ 8 := constantI S_ 8 255#8
  let main_v30 : IVec S32x1x512 8 := broadcastInDim S32x1x512 ![] bcast_S_S32x1x512 main_c_9
  let main_v31 : IVec S32x1x512 1 := cmpi .ne main_v23 main_v30
  let main_v32 : IVec S32x1x512 1 := andi main_v29 main_v31
  let main_c_10 : IVec S_ 1 := constantI S_ 1 1#1
  let main_v33 : IVec S_ 1 := (fun x v => Host.reduce IntOp.andi x v reducesTo_S32x1x512_S_d0_1_2 h_S_) main_v32 main_c_10
  let main_v34 : IVec S32x1x4x1 8 := (extractStridedSlice S32x1x4x1 ![0, 0, 0, 3] · slices_S32x1x4x4_S32x1x4x1_0_0_0_3) main_v26
  fn_part2 (F := F) main_arg3 main_v22 main_v26 main_v27 main_v33 main_v34

def fn {F : FTy → Type} [FloatOps F] (main_arg0 : FVec F S32x1x128x512 .bf16) (main_arg1 : FVec F S32x1x128x64 .bf16) (main_arg2 : IVec S32x1x656 8) (main_arg3 : IVec S40960x16x656 8) (main_arg4 : IVec S32x1024 32) (main_arg5 : IVec S32 32) : IVec S_ 1 :=
  let main_v0 : FVec F S32x1x128x512 .bf16 := Host.absf main_arg0
  let main_cst : FVec F S_ .bf16 := constant S_ .bf16 0x7F80#16
  let main_v1 : FVec F S32x1x128x512 .bf16 := broadcastInDim S32x1x128x512 ![] bcast_S_S32x1x128x512 main_cst
  let main_v2 : IVec S32x1x128x512 1 := cmpf .olt main_v0 main_v1
  let main_c : IVec S_ 1 := constantI S_ 1 1#1
  let main_v3 : IVec S_ 1 := (fun x v => Host.reduce IntOp.andi x v reducesTo_S32x1x128x512_S_d0_1_2_3 h_S_) main_v2 main_c
  let main_v4 : FVec F S32x1x128x64 .bf16 := Host.absf main_arg1
  let main_cst_0 : FVec F S_ .bf16 := constant S_ .bf16 0x7F80#16
  let main_v5 : FVec F S32x1x128x64 .bf16 := broadcastInDim S32x1x128x64 ![] bcast_S_S32x1x128x64 main_cst_0
  let main_v6 : IVec S32x1x128x64 1 := cmpf .olt main_v4 main_v5
  let main_c_1 : IVec S_ 1 := constantI S_ 1 1#1
  let main_v7 : IVec S_ 1 := (fun x v => Host.reduce IntOp.andi x v reducesTo_S32x1x128x64_S_d0_1_2_3 h_S_) main_v6 main_c_1
  let main_v8 : IVec S_ 1 := andi main_v3 main_v7
  let main_c_2 : IVec S_ 32 := constantI S_ 32 0#32
  let main_v9 : IVec S32x1024 32 := broadcastInDim S32x1024 ![] bcast_S_S32x1024 main_c_2
  let main_v10 : IVec S32x1024 1 := cmpi .sge main_arg4 main_v9
  let main_c_3 : IVec S_ 32 := constantI S_ 32 40960#32
  let main_v11 : IVec S32x1024 32 := broadcastInDim S32x1024 ![] bcast_S_S32x1024 main_c_3
  let main_v12 : IVec S32x1024 1 := cmpi .slt main_arg4 main_v11
  let main_v13 : IVec S32x1024 1 := andi main_v10 main_v12
  let main_c_4 : IVec S_ 1 := constantI S_ 1 1#1
  let main_v14 : IVec S_ 1 := (fun x v => Host.reduce IntOp.andi x v reducesTo_S32x1024_S_d0_1 h_S_) main_v13 main_c_4
  let main_c_5 : IVec S_ 32 := constantI S_ 32 0#32
  let main_v15 : IVec S32 32 := broadcastInDim S32 ![] bcast_S_S32 main_c_5
  fn_part1 (F := F) main_arg2 main_arg3 main_arg5 main_v8 main_v14 main_v15
-- ==== Pre_in_range.lean ====
abbrev S32x1x128x512 : Shape := ⟨4, ![32, 1, 128, 512]⟩
abbrev S32x1x128x64 : Shape := ⟨4, ![32, 1, 128, 64]⟩
abbrev S32x1x656 : Shape := ⟨3, ![32, 1, 656]⟩
abbrev S40960x16x656 : Shape := ⟨3, ![40960, 16, 656]⟩
abbrev S32x1024 : Shape := ⟨2, ![32, 1024]⟩
abbrev S32 : Shape := ⟨1, ![32]⟩
abbrev S_ : Shape := ⟨0, ![]⟩

class Facts : Prop where
  bcast_S_S32x1024 : S_.BroadcastsInDim S32x1024 (![] : Fin 0 → Fin S32x1024.rank)
  reducesTo_S32x1024_S_d0_1 : S32x1024.ReducesTo [0, 1] S_
  h_S_ : 0 < S_.numel
  bcast_S_S32 : S_.BroadcastsInDim S32 (![] : Fin 0 → Fin S32.rank)
  reducesTo_S32_S_d0 : S32.ReducesTo [0] S_

variable [Facts]

def fn {F : FTy → Type} [FloatOps F] (main_arg0 : FVec F S32x1x128x512 .bf16) (main_arg1 : FVec F S32x1x128x64 .bf16) (main_arg2 : IVec S32x1x656 8) (main_arg3 : IVec S40960x16x656 8) (main_arg4 : IVec S32x1024 32) (main_arg5 : IVec S32 32) : IVec S_ 1 :=
  let main_c : IVec S_ 32 := constantI S_ 32 0#32
  let main_v0 : IVec S32x1024 32 := broadcastInDim S32x1024 ![] bcast_S_S32x1024 main_c
  let main_v1 : IVec S32x1024 1 := cmpi .sge main_arg4 main_v0
  let main_c_0 : IVec S_ 32 := constantI S_ 32 40960#32
  let main_v2 : IVec S32x1024 32 := broadcastInDim S32x1024 ![] bcast_S_S32x1024 main_c_0
  let main_v3 : IVec S32x1024 1 := cmpi .slt main_arg4 main_v2
  let main_v4 : IVec S32x1024 1 := andi main_v1 main_v3
  let main_c_1 : IVec S_ 1 := constantI S_ 1 1#1
  let main_v5 : IVec S_ 1 := (fun x v => Host.reduce IntOp.andi x v reducesTo_S32x1024_S_d0_1 h_S_) main_v4 main_c_1
  let main_c_2 : IVec S_ 32 := constantI S_ 32 0#32
  let main_v6 : IVec S32 32 := broadcastInDim S32 ![] bcast_S_S32 main_c_2
  let main_v7 : IVec S32 1 := cmpi .sge main_arg5 main_v6
  let main_c_3 : IVec S_ 32 := constantI S_ 32 16384#32
  let main_v8 : IVec S32 32 := broadcastInDim S32 ![] bcast_S_S32 main_c_3
  let main_v9 : IVec S32 1 := cmpi .sle main_arg5 main_v8
  let main_v10 : IVec S32 1 := andi main_v7 main_v9
  let main_c_4 : IVec S_ 1 := constantI S_ 1 1#1
  let main_v11 : IVec S_ 1 := (fun x v => Host.reduce IntOp.andi x v reducesTo_S32_S_d0 h_S_) main_v10 main_c_4
  let main_v12 : IVec S_ 1 := andi main_v5 main_v11
  main_v12
-- ==== Kernel.lean ====
abbrev S32x1x128x512 : Shape := ⟨4, ![32, 1, 128, 512]⟩
abbrev S32x1x128x64 : Shape := ⟨4, ![32, 1, 128, 64]⟩
abbrev S32x1x656 : Shape := ⟨3, ![32, 1, 656]⟩
abbrev S40960x16x656 : Shape := ⟨3, ![40960, 16, 656]⟩
abbrev S32x1024 : Shape := ⟨2, ![32, 1024]⟩
abbrev S32 : Shape := ⟨1, ![32]⟩
abbrev S32x128x64 : Shape := ⟨3, ![32, 128, 64]⟩
abbrev S_ : Shape := ⟨0, ![]⟩
abbrev S32x128x144 : Shape := ⟨3, ![32, 128, 144]⟩
abbrev S32x128x512 : Shape := ⟨3, ![32, 128, 512]⟩
abbrev S32x128x1 : Shape := ⟨3, ![32, 128, 1]⟩
abbrev S1x128x512 : Shape := ⟨3, ![1, 128, 512]⟩
abbrev S1x128x144 : Shape := ⟨3, ![1, 128, 144]⟩
abbrev S1x1x656 : Shape := ⟨3, ![1, 1, 656]⟩
abbrev S1x128x1 : Shape := ⟨3, ![1, 128, 1]⟩
abbrev S2x32x16x656 : Shape := ⟨4, ![2, 32, 16, 656]⟩
abbrev S2 : Shape := ⟨1, ![2]⟩
abbrev S1 : Shape := ⟨1, ![1]⟩
abbrev S128x512 : Shape := ⟨2, ![128, 512]⟩
abbrev S128x144 : Shape := ⟨2, ![128, 144]⟩
abbrev S1x1 : Shape := ⟨2, ![1, 1]⟩
abbrev S1x1x16x656 : Shape := ⟨4, ![1, 1, 16, 656]⟩
abbrev S16x656 : Shape := ⟨2, ![16, 656]⟩
abbrev S1x16x656 : Shape := ⟨3, ![1, 16, 656]⟩
abbrev S128x1 : Shape := ⟨2, ![128, 1]⟩
abbrev S1x656 : Shape := ⟨2, ![1, 656]⟩
abbrev S32x656 : Shape := ⟨2, ![32, 656]⟩
abbrev S128x32 : Shape := ⟨2, ![128, 32]⟩
abbrev S32x512 : Shape := ⟨2, ![32, 512]⟩
abbrev S32x144 : Shape := ⟨2, ![32, 144]⟩
abbrev S32x128 : Shape := ⟨2, ![32, 128]⟩
abbrev S32x1 : Shape := ⟨2, ![32, 1]⟩
abbrev S128 : Shape := ⟨1, ![128]⟩
abbrev S1x32x16x656 : Shape := ⟨4, ![1, 32, 16, 656]⟩
abbrev S32x16x656 : Shape := ⟨3, ![32, 16, 656]⟩
abbrev S512x656 : Shape := ⟨2, ![512, 656]⟩
abbrev S512x512 : Shape := ⟨2, ![512, 512]⟩
abbrev S512x144 : Shape := ⟨2, ![512, 144]⟩
abbrev S512x128 : Shape := ⟨2, ![512, 128]⟩
abbrev S512x1 : Shape := ⟨2, ![512, 1]⟩

abbrev nBuf : Space → Nat
  | .hbm => 10
  | .vmem => 11
  | .smem => 2
  | _ => 0

abbrev bufTy : (tb : Table) → Fin (tcTables nBuf tb) → BufTy
  | .hbm, ⟨0, _⟩ => ⟨S32x1x128x512, .bf16⟩
  | .hbm, ⟨1, _⟩ => ⟨S32x1x128x64, .bf16⟩
  | .hbm, ⟨2, _⟩ => ⟨S32x1x656, .i8⟩
  | .hbm, ⟨3, _⟩ => ⟨S40960x16x656, .i8⟩
  | .hbm, ⟨4, _⟩ => ⟨S32x128x64, .bf16⟩
  | .hbm, ⟨5, _⟩ => ⟨S_, .bf16⟩
  | .hbm, ⟨6, _⟩ => ⟨S32x128x144, .bf16⟩
  | .hbm, ⟨7, _⟩ => ⟨S32x128x512, .bf16⟩
  | .hbm, ⟨8, _⟩ => ⟨S32x128x512, .bf16⟩
  | .hbm, ⟨9, _⟩ => ⟨S32x128x1, .f32⟩
  | .local _ .vmem, ⟨0, _⟩ => ⟨S1x128x512, .bf16⟩
  | .local _ .vmem, ⟨1, _⟩ => ⟨S1x128x512, .bf16⟩
  | .local _ .vmem, ⟨2, _⟩ => ⟨S1x128x144, .bf16⟩
  | .local _ .vmem, ⟨3, _⟩ => ⟨S1x128x144, .bf16⟩
  | .local _ .vmem, ⟨4, _⟩ => ⟨S1x1x656, .i8⟩
  | .local _ .vmem, ⟨5, _⟩ => ⟨S1x1x656, .i8⟩
  | .local _ .vmem, ⟨6, _⟩ => ⟨S1x128x512, .bf16⟩
  | .local _ .vmem, ⟨7, _⟩ => ⟨S1x128x512, .bf16⟩
  | .local _ .vmem, ⟨8, _⟩ => ⟨S1x128x1, .f32⟩
  | .local _ .vmem, ⟨9, _⟩ => ⟨S1x128x1, .f32⟩
  | .local _ .vmem, ⟨10, _⟩ => ⟨S2x32x16x656, .i8⟩
  | .local _ .smem, ⟨0, _⟩ => ⟨S32x1024, .i32⟩
  | .local _ .smem, ⟨1, _⟩ => ⟨S32, .i32⟩
  | _, _ => ⟨S32x1x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_arg4 : Ref sig .tc := ⟨.smem, 0, rfl⟩
abbrev main_arg5 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

abbrev pre0 : Pipeline.Prefetch sig := ⟨2, ![main_arg4.idx, main_arg5.idx], fun | 0 => main_arg4.names | 1 => main_arg5.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 2 → Nat :=
  let arg0 : BitVec 32 := BitVec.ofNat 32 (i 0).val
  let v135 : Index := Scalar.indexCast arg0
  let c0_39 : Index := 0#32
  ![v135.toNat, 0]
def k0_off3 (v136 : BitVec 32) : Fin 3 → Nat :=
  let c0_i32_45 : BitVec 32 := 0#32
  let c0_i32_46 : BitVec 32 := 0#32
  ![v136.toNat, 0, 0]
def k0_cond1 (v1 : BitVec 32) : BitVec 1 :=
  let c511_i32 : BitVec 32 := 511#32
  let v2 : BitVec 32 := Scalar.addi v1 c511_i32
  let c512_i32 : BitVec 32 := 512#32
  let v3 : BitVec 32 := Scalar.divsi v2 c512_i32
  let c0_i32 : BitVec 32 := 0#32
  let v8 : BitVec 1 := Scalar.cmpi .sgt v3 c0_i32
  let v9 : BitVec 32 := Scalar.extui v8
  let c0_i32_5 : BitVec 32 := 0#32
  let v10 : BitVec 1 := Scalar.cmpi .ne v9 c0_i32_5
  v10

def k0_chk1 (v1 : BitVec 32) (v136 : BitVec 32) : Prop :=
  (∀ (k0_h1 : k0_cond1 v1 = 1#1), ∀ a, (k0_off3 v136) a + S1x16x656.size a ≤ S40960x16x656.size a) ∧
  (∀ (k0_h1 : k0_cond1 v1 = 1#1), ∀ (hinb : ∀ a, (k0_off3 v136) a + S1x16x656.size a ≤ S40960x16x656.size a), (Rect.unit (s := S40960x16x656) (k0_off3 v136) S1x16x656.size hinb).WholeWords (EltTy.packing .i8))
theorem k0_off3_inb : ∀ (v1 : BitVec 32) (v136 : BitVec 32) (k0_hw1 : k0_chk1 v1 v136), ∀ (k0_h1 : k0_cond1 v1 = 1#1), ∀ a, (k0_off3 v136) a + S1x16x656.size a ≤ S40960x16x656.size a := fun v1 v136 k0_hw1 k0_h1 => k0_hw1.1 k0_h1
theorem k0_off3_wordsi8 : ∀ (v1 : BitVec 32) (v136 : BitVec 32) (k0_hw1 : k0_chk1 v1 v136), ∀ (k0_h1 : k0_cond1 v1 = 1#1), (Rect.unit (s := S40960x16x656) (k0_off3 v136) S1x16x656.size (k0_off3_inb v1 v136 k0_hw1 k0_h1)).WholeWords (EltTy.packing .i8) := fun v1 v136 k0_hw1 k0_h1 => k0_hw1.2 k0_h1 (k0_off3_inb v1 v136 k0_hw1 k0_h1)

def k0_off4 (i : grid0.Coords) : Fin 2 → Nat :=
  let arg0 : BitVec 32 := BitVec.ofNat 32 (i 0).val
  let v143 : Index := Scalar.indexCast arg0
  let c1 : Index := 1#32
  ![v143.toNat, 1]
def k0_off5 (v144 : BitVec 32) : Fin 3 → Nat :=
  let c0_i32_52 : BitVec 32 := 0#32
  let c0_i32_53 : BitVec 32 := 0#32
  ![v144.toNat, 0, 0]

def k0_chk2 (v1 : BitVec 32) (v144 : BitVec 32) : Prop :=
  (∀ (k0_h1 : k0_cond1 v1 = 1#1), ∀ a, (k0_off5 v144) a + S1x16x656.size a ≤ S40960x16x656.size a) ∧
  (∀ (k0_h1 : k0_cond1 v1 = 1#1), ∀ (hinb : ∀ a, (k0_off5 v144) a + S1x16x656.size a ≤ S40960x16x656.size a), (Rect.unit (s := S40960x16x656) (k0_off5 v144) S1x16x656.size hinb).WholeWords (EltTy.packing .i8))
theorem k0_off5_inb : ∀ (v1 : BitVec 32) (v144 : BitVec 32) (k0_hw2 : k0_chk2 v1 v144), ∀ (k0_h1 : k0_cond1 v1 = 1#1), ∀ a, (k0_off5 v144) a + S1x16x656.size a ≤ S40960x16x656.size a := fun v1 v144 k0_hw2 k0_h1 => k0_hw2.1 k0_h1
theorem k0_off5_wordsi8 : ∀ (v1 : BitVec 32) (v144 : BitVec 32) (k0_hw2 : k0_chk2 v1 v144), ∀ (k0_h1 : k0_cond1 v1 = 1#1), (Rect.unit (s := S40960x16x656) (k0_off5 v144) S1x16x656.size (k0_off5_inb v1 v144 k0_hw2 k0_h1)).WholeWords (EltTy.packing .i8) := fun v1 v144 k0_hw2 k0_h1 => k0_hw2.2 k0_h1 (k0_off5_inb v1 v144 k0_hw2 k0_h1)

def k0_off6 (i : grid0.Coords) : Fin 2 → Nat :=
  let arg0 : BitVec 32 := BitVec.ofNat 32 (i 0).val
  let v151 : Index := Scalar.indexCast arg0
  let c2 : Index := 2#32
  ![v151.toNat, 2]
def k0_off7 (v152 : BitVec 32) : Fin 3 → Nat :=
  let c0_i32_59 : BitVec 32 := 0#32
  let c0_i32_60 : BitVec 32 := 0#32
  ![v152.toNat, 0, 0]

def k0_chk3 (v1 : BitVec 32) (v152 : BitVec 32) : Prop :=
  (∀ (k0_h1 : k0_cond1 v1 = 1#1), ∀ a, (k0_off7 v152) a + S1x16x656.size a ≤ S40960x16x656.size a) ∧
  (∀ (k0_h1 : k0_cond1 v1 = 1#1), ∀ (hinb : ∀ a, (k0_off7 v152) a + S1x16x656.size a ≤ S40960x16x656.size a), (Rect.unit (s := S40960x16x656) (k0_off7 v152) S1x16x656.size hinb).WholeWords (EltTy.packing .i8))
theorem k0_off7_inb : ∀ (v1 : BitVec 32) (v152 : BitVec 32) (k0_hw3 : k0_chk3 v1 v152), ∀ (k0_h1 : k0_cond1 v1 = 1#1), ∀ a, (k0_off7 v152) a + S1x16x656.size a ≤ S40960x16x656.size a := fun v1 v152 k0_hw3 k0_h1 => k0_hw3.1 k0_h1
theorem k0_off7_wordsi8 : ∀ (v1 : BitVec 32) (v152 : BitVec 32) (k0_hw3 : k0_chk3 v1 v152), ∀ (k0_h1 : k0_cond1 v1 = 1#1), (Rect.unit (s := S40960x16x656) (k0_off7 v152) S1x16x656.size (k0_off7_inb v1 v152 k0_hw3 k0_h1)).WholeWords (EltTy.packing .i8) := fun v1 v152 k0_hw3 k0_h1 => k0_hw3.2 k0_h1 (k0_off7_inb v1 v152 k0_hw3 k0_h1)

def k0_off8 (i : grid0.Coords) : Fin 2 → Nat :=
  let arg0 : BitVec 32 := BitVec.ofNat 32 (i 0).val
  let v159 : Index := Scalar.indexCast arg0
  let c3 : Index := 3#32
  ![v159.toNat, 3]
def k0_off9 (v160 : BitVec 32) : Fin 3 → Nat :=
  let c0_i32_65 : BitVec 32 := 0#32
  let c0_i32_66 : BitVec 32 := 0#32
  ![v160.toNat, 0, 0]

def k0_chk4 (v1 : BitVec 32) (v160 : BitVec 32) : Prop :=
  (∀ (k0_h1 : k0_cond1 v1 = 1#1), ∀ a, (k0_off9 v160) a + S1x16x656.size a ≤ S40960x16x656.size a) ∧
  (∀ (k0_h1 : k0_cond1 v1 = 1#1), ∀ (hinb : ∀ a, (k0_off9 v160) a + S1x16x656.size a ≤ S40960x16x656.size a), (Rect.unit (s := S40960x16x656) (k0_off9 v160) S1x16x656.size hinb).WholeWords (EltTy.packing .i8))
theorem k0_off9_inb : ∀ (v1 : BitVec 32) (v160 : BitVec 32) (k0_hw4 : k0_chk4 v1 v160), ∀ (k0_h1 : k0_cond1 v1 = 1#1), ∀ a, (k0_off9 v160) a + S1x16x656.size a ≤ S40960x16x656.size a := fun v1 v160 k0_hw4 k0_h1 => k0_hw4.1 k0_h1
theorem k0_off9_wordsi8 : ∀ (v1 : BitVec 32) (v160 : BitVec 32) (k0_hw4 : k0_chk4 v1 v160), ∀ (k0_h1 : k0_cond1 v1 = 1#1), (Rect.unit (s := S40960x16x656) (k0_off9 v160) S1x16x656.size (k0_off9_inb v1 v160 k0_hw4 k0_h1)).WholeWords (EltTy.packing .i8) := fun v1 v160 k0_hw4 k0_h1 => k0_hw4.2 k0_h1 (k0_off9_inb v1 v160 k0_hw4 k0_h1)

def k0_off10 (i : grid0.Coords) : Fin 2 → Nat :=
  let arg0 : BitVec 32 := BitVec.ofNat 32 (i 0).val
  let v167 : Index := Scalar.indexCast arg0
  let c4 : Index := 4#32
  ![v167.toNat, 4]
def k0_off11 (v168 : BitVec 32) : Fin 3 → Nat :=
  let c0_i32_71 : BitVec 32 := 0#32
  let c0_i32_72 : BitVec 32 := 0#32
  ![v168.toNat, 0, 0]

def k0_chk5 (v1 : BitVec 32) (v168 : BitVec 32) : Prop :=
  (∀ (k0_h1 : k0_cond1 v1 = 1#1), ∀ a, (k0_off11 v168) a + S1x16x656.size a ≤ S40960x16x656.size a) ∧
  (∀ (k0_h1 : k0_cond1 v1 = 1#1), ∀ (hinb : ∀ a, (k0_off11 v168) a + S1x16x656.size a ≤ S40960x16x656.size a), (Rect.unit (s := S40960x16x656) (k0_off11 v168) S1x16x656.size hinb).WholeWords (EltTy.packing .i8))
theorem k0_off11_inb : ∀ (v1 : BitVec 32) (v168 : BitVec 32) (k0_hw5 : k0_chk5 v1 v168), ∀ (k0_h1 : k0_cond1 v1 = 1#1), ∀ a, (k0_off11 v168) a + S1x16x656.size a ≤ S40960x16x656.size a := fun v1 v168 k0_hw5 k0_h1 => k0_hw5.1 k0_h1
theorem k0_off11_wordsi8 : ∀ (v1 : BitVec 32) (v168 : BitVec 32) (k0_hw5 : k0_chk5 v1 v168), ∀ (k0_h1 : k0_cond1 v1 = 1#1), (Rect.unit (s := S40960x16x656) (k0_off11 v168) S1x16x656.size (k0_off11_inb v1 v168 k0_hw5 k0_h1)).WholeWords (EltTy.packing .i8) := fun v1 v168 k0_hw5 k0_h1 => k0_hw5.2 k0_h1 (k0_off11_inb v1 v168 k0_hw5 k0_h1)

def k0_off12 (i : grid0.Coords) : Fin 2 → Nat :=
  let arg0 : BitVec 32 := BitVec.ofNat 32 (i 0).val
  let v175 : Index := Scalar.indexCast arg0
  let c5 : Index := 5#32
  ![v175.toNat, 5]
def k0_off13 (v176 : BitVec 32) : Fin 3 → Nat :=
  let c0_i32_77 : BitVec 32 := 0#32
  let c0_i32_78 : BitVec 32 := 0#32
  ![v176.toNat, 0, 0]

def k0_chk6 (v1 : BitVec 32) (v176 : BitVec 32) : Prop :=
  (∀ (k0_h1 : k0_cond1 v1 = 1#1), ∀ a, (k0_off13 v176) a + S1x16x656.size a ≤ S40960x16x656.size a) ∧
  (∀ (k0_h1 : k0_cond1 v1 = 1#1), ∀ (hinb : ∀ a, (k0_off13 v176) a + S1x16x656.size a ≤ S40960x16x656.size a), (Rect.unit (s := S40960x16x656) (k0_off13 v176) S1x16x656.size hinb).WholeWords (EltTy.packing .i8))
theorem k0_off13_inb : ∀ (v1 : BitVec 32) (v176 : BitVec 32) (k0_hw6 : k0_chk6 v1 v176), ∀ (k0_h1 : k0_cond1 v1 = 1#1), ∀ a, (k0_off13 v176) a + S1x16x656.size a ≤ S40960x16x656.size a := fun v1 v176 k0_hw6 k0_h1 => k0_hw6.1 k0_h1
theorem k0_off13_wordsi8 : ∀ (v1 : BitVec 32) (v176 : BitVec 32) (k0_hw6 : k0_chk6 v1 v176), ∀ (k0_h1 : k0_cond1 v1 = 1#1), (Rect.unit (s := S40960x16x656) (k0_off13 v176) S1x16x656.size (k0_off13_inb v1 v176 k0_hw6 k0_h1)).WholeWords (EltTy.packing .i8) := fun v1 v176 k0_hw6 k0_h1 => k0_hw6.2 k0_h1 (k0_off13_inb v1 v176 k0_hw6 k0_h1)

def k0_off14 (i : grid0.Coords) : Fin 2 → Nat :=
  let arg0 : BitVec 32 := BitVec.ofNat 32 (i 0).val
  let v183 : Index := Scalar.indexCast arg0
  let c6 : Index := 6#32
  ![v183.toNat, 6]
def k0_off15 (v184 : BitVec 32) : Fin 3 → Nat :=
  let c0_i32_83 : BitVec 32 := 0#32
  let c0_i32_84 : BitVec 32 := 0#32
  ![v184.toNat, 0, 0]

def k0_chk7 (v1 : BitVec 32) (v184 : BitVec 32) : Prop :=
  (∀ (k0_h1 : k0_cond1 v1 = 1#1), ∀ a, (k0_off15 v184) a + S1x16x656.size a ≤ S40960x16x656.size a) ∧
  (∀ (k0_h1 : k0_cond1 v1 = 1#1), ∀ (hinb : ∀ a, (k0_off15 v184) a + S1x16x656.size a ≤ S40960x16x656.size a), (Rect.unit (s := S40960x16x656) (k0_off15 v184) S1x16x656.size hinb).WholeWords (EltTy.packing .i8))
theorem k0_off15_inb : ∀ (v1 : BitVec 32) (v184 : BitVec 32) (k0_hw7 : k0_chk7 v1 v184), ∀ (k0_h1 : k0_cond1 v1 = 1#1), ∀ a, (k0_off15 v184) a + S1x16x656.size a ≤ S40960x16x656.size a := fun v1 v184 k0_hw7 k0_h1 => k0_hw7.1 k0_h1
theorem k0_off15_wordsi8 : ∀ (v1 : BitVec 32) (v184 : BitVec 32) (k0_hw7 : k0_chk7 v1 v184), ∀ (k0_h1 : k0_cond1 v1 = 1#1), (Rect.unit (s := S40960x16x656) (k0_off15 v184) S1x16x656.size (k0_off15_inb v1 v184 k0_hw7 k0_h1)).WholeWords (EltTy.packing .i8) := fun v1 v184 k0_hw7 k0_h1 => k0_hw7.2 k0_h1 (k0_off15_inb v1 v184 k0_hw7 k0_h1)

def k0_off16 (i : grid0.Coords) : Fin 2 → Nat :=
  let arg0 : BitVec 32 := BitVec.ofNat 32 (i 0).val
  let v191 : Index := Scalar.indexCast arg0
  let c7 : Index := 7#32
  ![v191.toNat, 7]
def k0_off17 (v192 : BitVec 32) : Fin 3 → Nat :=
  let c0_i32_89 : BitVec 32 := 0#32
  let c0_i32_90 : BitVec 32 := 0#32
  ![v192.toNat, 0, 0]

def k0_chk8 (v1 : BitVec 32) (v192 : BitVec 32) : Prop :=
  (∀ (k0_h1 : k0_cond1 v1 = 1#1), ∀ a, (k0_off17 v192) a + S1x16x656.size a ≤ S40960x16x656.size a) ∧
  (∀ (k0_h1 : k0_cond1 v1 = 1#1), ∀ (hinb : ∀ a, (k0_off17 v192) a + S1x16x656.size a ≤ S40960x16x656.size a), (Rect.unit (s := S40960x16x656) (k0_off17 v192) S1x16x656.size hinb).WholeWords (EltTy.packing .i8))
theorem k0_off17_inb : ∀ (v1 : BitVec 32) (v192 : BitVec 32) (k0_hw8 : k0_chk8 v1 v192), ∀ (k0_h1 : k0_cond1 v1 = 1#1), ∀ a, (k0_off17 v192) a + S1x16x656.size a ≤ S40960x16x656.size a := fun v1 v192 k0_hw8 k0_h1 => k0_hw8.1 k0_h1
theorem k0_off17_wordsi8 : ∀ (v1 : BitVec 32) (v192 : BitVec 32) (k0_hw8 : k0_chk8 v1 v192), ∀ (k0_h1 : k0_cond1 v1 = 1#1), (Rect.unit (s := S40960x16x656) (k0_off17 v192) S1x16x656.size (k0_off17_inb v1 v192 k0_hw8 k0_h1)).WholeWords (EltTy.packing .i8) := fun v1 v192 k0_hw8 k0_h1 => k0_hw8.2 k0_h1 (k0_off17_inb v1 v192 k0_hw8 k0_h1)

def k0_off18 (i : grid0.Coords) : Fin 2 → Nat :=
  let arg0 : BitVec 32 := BitVec.ofNat 32 (i 0).val
  let v199 : Index := Scalar.indexCast arg0
  let c8 : Index := 8#32
  ![v199.toNat, 8]
def k0_off19 (v200 : BitVec 32) : Fin 3 → Nat :=
  let c0_i32_96 : BitVec 32 := 0#32
  let c0_i32_97 : BitVec 32 := 0#32
  ![v200.toNat, 0, 0]

def k0_chk9 (v1 : BitVec 32) (v200 : BitVec 32) : Prop :=
  (∀ (k0_h1 : k0_cond1 v1 = 1#1), ∀ a, (k0_off19 v200) a + S1x16x656.size a ≤ S40960x16x656.size a) ∧
  (∀ (k0_h1 : k0_cond1 v1 = 1#1), ∀ (hinb : ∀ a, (k0_off19 v200) a + S1x16x656.size a ≤ S40960x16x656.size a), (Rect.unit (s := S40960x16x656) (k0_off19 v200) S1x16x656.size hinb).WholeWords (EltTy.packing .i8))
theorem k0_off19_inb : ∀ (v1 : BitVec 32) (v200 : BitVec 32) (k0_hw9 : k0_chk9 v1 v200), ∀ (k0_h1 : k0_cond1 v1 = 1#1), ∀ a, (k0_off19 v200) a + S1x16x656.size a ≤ S40960x16x656.size a := fun v1 v200 k0_hw9 k0_h1 => k0_hw9.1 k0_h1
theorem k0_off19_wordsi8 : ∀ (v1 : BitVec 32) (v200 : BitVec 32) (k0_hw9 : k0_chk9 v1 v200), ∀ (k0_h1 : k0_cond1 v1 = 1#1), (Rect.unit (s := S40960x16x656) (k0_off19 v200) S1x16x656.size (k0_off19_inb v1 v200 k0_hw9 k0_h1)).WholeWords (EltTy.packing .i8) := fun v1 v200 k0_hw9 k0_h1 => k0_hw9.2 k0_h1 (k0_off19_inb v1 v200 k0_hw9 k0_h1)

def k0_off20 (i : grid0.Coords) : Fin 2 → Nat :=
  let arg0 : BitVec 32 := BitVec.ofNat 32 (i 0).val
  let v207 : Index := Scalar.indexCast arg0
  let c9 : Index := 9#32
  ![v207.toNat, 9]
def k0_off21 (v208 : BitVec 32) : Fin 3 → Nat :=
  let c0_i32_102 : BitVec 32 := 0#32
  let c0_i32_103 : BitVec 32 := 0#32
  ![v208.toNat, 0, 0]

def k0_chk10 (v1 : BitVec 32) (v208 : BitVec 32) : Prop :=
  (∀ (k0_h1 : k0_cond1 v1 = 1#1), ∀ a, (k0_off21 v208) a + S1x16x656.size a ≤ S40960x16x656.size a) ∧
  (∀ (k0_h1 : k0_cond1 v1 = 1#1), ∀ (hinb : ∀ a, (k0_off21 v208) a + S1x16x656.size a ≤ S40960x16x656.size a), (Rect.unit (s := S40960x16x656) (k0_off21 v208) S1x16x656.size hinb).WholeWords (EltTy.packing .i8))
theorem k0_off21_inb : ∀ (v1 : BitVec 32) (v208 : BitVec 32) (k0_hw10 : k0_chk10 v1 v208), ∀ (k0_h1 : k0_cond1 v1 = 1#1), ∀ a, (k0_off21 v208) a + S1x16x656.size a ≤ S40960x16x656.size a := fun v1 v208 k0_hw10 k0_h1 => k0_hw10.1 k0_h1
theorem k0_off21_wordsi8 : ∀ (v1 : BitVec 32) (v208 : BitVec 32) (k0_hw10 : k0_chk10 v1 v208), ∀ (k0_h1 : k0_cond1 v1 = 1#1), (Rect.unit (s := S40960x16x656) (k0_off21 v208) S1x16x656.size (k0_off21_inb v1 v208 k0_hw10 k0_h1)).WholeWords (EltTy.packing .i8) := fun v1 v208 k0_hw10 k0_h1 => k0_hw10.2 k0_h1 (k0_off21_inb v1 v208 k0_hw10 k0_h1)

def k0_off22 (i : grid0.Coords) : Fin 2 → Nat :=
  let arg0 : BitVec 32 := BitVec.ofNat 32 (i 0).val
  let v215 : Index := Scalar.indexCast arg0
  let c10 : Index := 10#32
  ![v215.toNat, 10]
def k0_off23 (v216 : BitVec 32) : Fin 3 → Nat :=
  let c0_i32_108 : BitVec 32 := 0#32
  let c0_i32_109 : BitVec 32 := 0#32
  ![v216.toNat, 0, 0]

def k0_chk11 (v1 : BitVec 32) (v216 : BitVec 32) : Prop :=
  (∀ (k0_h1 : k0_cond1 v1 = 1#1), ∀ a, (k0_off23 v216) a + S1x16x656.size a ≤ S40960x16x656.size a) ∧
  (∀ (k0_h1 : k0_cond1 v1 = 1#1), ∀ (hinb : ∀ a, (k0_off23 v216) a + S1x16x656.size a ≤ S40960x16x656.size a), (Rect.unit (s := S40960x16x656) (k0_off23 v216) S1x16x656.size hinb).WholeWords (EltTy.packing .i8))
theorem k0_off23_inb : ∀ (v1 : BitVec 32) (v216 : BitVec 32) (k0_hw11 : k0_chk11 v1 v216), ∀ (k0_h1 : k0_cond1 v1 = 1#1), ∀ a, (k0_off23 v216) a + S1x16x656.size a ≤ S40960x16x656.size a := fun v1 v216 k0_hw11 k0_h1 => k0_hw11.1 k0_h1
theorem k0_off23_wordsi8 : ∀ (v1 : BitVec 32) (v216 : BitVec 32) (k0_hw11 : k0_chk11 v1 v216), ∀ (k0_h1 : k0_cond1 v1 = 1#1), (Rect.unit (s := S40960x16x656) (k0_off23 v216) S1x16x656.size (k0_off23_inb v1 v216 k0_hw11 k0_h1)).WholeWords (EltTy.packing .i8) := fun v1 v216 k0_hw11 k0_h1 => k0_hw11.2 k0_h1 (k0_off23_inb v1 v216 k0_hw11 k0_h1)

def k0_off24 (i : grid0.Coords) : Fin 2 → Nat :=
  let arg0 : BitVec 32 := BitVec.ofNat 32 (i 0).val
  let v223 : Index := Scalar.indexCast arg0
  let c11 : Index := 11#32
  ![v223.toNat, 11]
def k0_off25 (v224 : BitVec 32) : Fin 3 → Nat :=
  let c0_i32_114 : BitVec 32 := 0#32
  let c0_i32_115 : BitVec 32 := 0#32
  ![v224.toNat, 0, 0]

def k0_chk12 (v1 : BitVec 32) (v224 : BitVec 32) : Prop :=
  (∀ (k0_h1 : k0_cond1 v1 = 1#1), ∀ a, (k0_off25 v224) a + S1x16x656.size a ≤ S40960x16x656.size a) ∧
  (∀ (k0_h1 : k0_cond1 v1 = 1#1), ∀ (hinb : ∀ a, (k0_off25 v224) a + S1x16x656.size a ≤ S40960x16x656.size a), (Rect.unit (s := S40960x16x656) (k0_off25 v224) S1x16x656.size hinb).WholeWords (EltTy.packing .i8))
theorem k0_off25_inb : ∀ (v1 : BitVec 32) (v224 : BitVec 32) (k0_hw12 : k0_chk12 v1 v224), ∀ (k0_h1 : k0_cond1 v1 = 1#1), ∀ a, (k0_off25 v224) a + S1x16x656.size a ≤ S40960x16x656.size a := fun v1 v224 k0_hw12 k0_h1 => k0_hw12.1 k0_h1
theorem k0_off25_wordsi8 : ∀ (v1 : BitVec 32) (v224 : BitVec 32) (k0_hw12 : k0_chk12 v1 v224), ∀ (k0_h1 : k0_cond1 v1 = 1#1), (Rect.unit (s := S40960x16x656) (k0_off25 v224) S1x16x656.size (k0_off25_inb v1 v224 k0_hw12 k0_h1)).WholeWords (EltTy.packing .i8) := fun v1 v224 k0_hw12 k0_h1 => k0_hw12.2 k0_h1 (k0_off25_inb v1 v224 k0_hw12 k0_h1)

def k0_off26 (i : grid0.Coords) : Fin 2 → Nat :=
  let arg0 : BitVec 32 := BitVec.ofNat 32 (i 0).val
  let v231 : Index := Scalar.indexCast arg0
  let c12 : Index := 12#32
  ![v231.toNat, 12]
def k0_off27 (v232 : BitVec 32) : Fin 3 → Nat :=
  let c0_i32_120 : BitVec 32 := 0#32
  let c0_i32_121 : BitVec 32 := 0#32
  ![v232.toNat, 0, 0]

def k0_chk13 (v1 : BitVec 32) (v232 : BitVec 32) : Prop :=
  (∀ (k0_h1 : k0_cond1 v1 = 1#1), ∀ a, (k0_off27 v232) a + S1x16x656.size a ≤ S40960x16x656.size a) ∧
  (∀ (k0_h1 : k0_cond1 v1 = 1#1), ∀ (hinb : ∀ a, (k0_off27 v232) a + S1x16x656.size a ≤ S40960x16x656.size a), (Rect.unit (s := S40960x16x656) (k0_off27 v232) S1x16x656.size hinb).WholeWords (EltTy.packing .i8))
theorem k0_off27_inb : ∀ (v1 : BitVec 32) (v232 : BitVec 32) (k0_hw13 : k0_chk13 v1 v232), ∀ (k0_h1 : k0_cond1 v1 = 1#1), ∀ a, (k0_off27 v232) a + S1x16x656.size a ≤ S40960x16x656.size a := fun v1 v232 k0_hw13 k0_h1 => k0_hw13.1 k0_h1
theorem k0_off27_wordsi8 : ∀ (v1 : BitVec 32) (v232 : BitVec 32) (k0_hw13 : k0_chk13 v1 v232), ∀ (k0_h1 : k0_cond1 v1 = 1#1), (Rect.unit (s := S40960x16x656) (k0_off27 v232) S1x16x656.size (k0_off27_inb v1 v232 k0_hw13 k0_h1)).WholeWords (EltTy.packing .i8) := fun v1 v232 k0_hw13 k0_h1 => k0_hw13.2 k0_h1 (k0_off27_inb v1 v232 k0_hw13 k0_h1)

def k0_off28 (i : grid0.Coords) : Fin 2 → Nat :=
  let arg0 : BitVec 32 := BitVec.ofNat 32 (i 0).val
  let v239 : Index := Scalar.indexCast arg0
  let c13 : Index := 13#32
  ![v239.toNat, 13]
def k0_off29 (v240 : BitVec 32) : Fin 3 → Nat :=
  let c0_i32_126 : BitVec 32 := 0#32
  let c0_i32_127 : BitVec 32 := 0#32
  ![v240.toNat, 0, 0]

def k0_chk14 (v1 : BitVec 32) (v240 : BitVec 32) : Prop :=
  (∀ (k0_h1 : k0_cond1 v1 = 1#1), ∀ a, (k0_off29 v240) a + S1x16x656.size a ≤ S40960x16x656.size a) ∧
  (∀ (k0_h1 : k0_cond1 v1 = 1#1), ∀ (hinb : ∀ a, (k0_off29 v240) a + S1x16x656.size a ≤ S40960x16x656.size a), (Rect.unit (s := S40960x16x656) (k0_off29 v240) S1x16x656.size hinb).WholeWords (EltTy.packing .i8))
theorem k0_off29_inb : ∀ (v1 : BitVec 32) (v240 : BitVec 32) (k0_hw14 : k0_chk14 v1 v240), ∀ (k0_h1 : k0_cond1 v1 = 1#1), ∀ a, (k0_off29 v240) a + S1x16x656.size a ≤ S40960x16x656.size a := fun v1 v240 k0_hw14 k0_h1 => k0_hw14.1 k0_h1
theorem k0_off29_wordsi8 : ∀ (v1 : BitVec 32) (v240 : BitVec 32) (k0_hw14 : k0_chk14 v1 v240), ∀ (k0_h1 : k0_cond1 v1 = 1#1), (Rect.unit (s := S40960x16x656) (k0_off29 v240) S1x16x656.size (k0_off29_inb v1 v240 k0_hw14 k0_h1)).WholeWords (EltTy.packing .i8) := fun v1 v240 k0_hw14 k0_h1 => k0_hw14.2 k0_h1 (k0_off29_inb v1 v240 k0_hw14 k0_h1)

def k0_off30 (i : grid0.Coords) : Fin 2 → Nat :=
  let arg0 : BitVec 32 := BitVec.ofNat 32 (i 0).val
  let v247 : Index := Scalar.indexCast arg0
  let c14 : Index := 14#32
  ![v247.toNat, 14]
def k0_off31 (v248 : BitVec 32) : Fin 3 → Nat :=
  let c0_i32_132 : BitVec 32 := 0#32
  let c0_i32_133 : BitVec 32 := 0#32
  ![v248.toNat, 0, 0]

def k0_chk15 (v1 : BitVec 32) (v248 : BitVec 32) : Prop :=
  (∀ (k0_h1 : k0_cond1 v1 = 1#1), ∀ a, (k0_off31 v248) a + S1x16x656.size a ≤ S40960x16x656.size a) ∧
  (∀ (k0_h1 : k0_cond1 v1 = 1#1), ∀ (hinb : ∀ a, (k0_off31 v248) a + S1x16x656.size a ≤ S40960x16x656.size a), (Rect.unit (s := S40960x16x656) (k0_off31 v248) S1x16x656.size hinb).WholeWords (EltTy.packing .i8))
theorem k0_off31_inb : ∀ (v1 : BitVec 32) (v248 : BitVec 32) (k0_hw15 : k0_chk15 v1 v248), ∀ (k0_h1 : k0_cond1 v1 = 1#1), ∀ a, (k0_off31 v248) a + S1x16x656.size a ≤ S40960x16x656.size a := fun v1 v248 k0_hw15 k0_h1 => k0_hw15.1 k0_h1
theorem k0_off31_wordsi8 : ∀ (v1 : BitVec 32) (v248 : BitVec 32) (k0_hw15 : k0_chk15 v1 v248), ∀ (k0_h1 : k0_cond1 v1 = 1#1), (Rect.unit (s := S40960x16x656) (k0_off31 v248) S1x16x656.size (k0_off31_inb v1 v248 k0_hw15 k0_h1)).WholeWords (EltTy.packing .i8) := fun v1 v248 k0_hw15 k0_h1 => k0_hw15.2 k0_h1 (k0_off31_inb v1 v248 k0_hw15 k0_h1)

def k0_off32 (i : grid0.Coords) : Fin 2 → Nat :=
  let arg0 : BitVec 32 := BitVec.ofNat 32 (i 0).val
  let v255 : Index := Scalar.indexCast arg0
  let c15 : Index := 15#32
  ![v255.toNat, 15]
def k0_off33 (v256 : BitVec 32) : Fin 3 → Nat :=
  let c0_i32_138 : BitVec 32 := 0#32
  let c0_i32_139 : BitVec 32 := 0#32
  ![v256.toNat, 0, 0]

def k0_chk16 (v1 : BitVec 32) (v256 : BitVec 32) : Prop :=
  (∀ (k0_h1 : k0_cond1 v1 = 1#1), ∀ a, (k0_off33 v256) a + S1x16x656.size a ≤ S40960x16x656.size a) ∧
  (∀ (k0_h1 : k0_cond1 v1 = 1#1), ∀ (hinb : ∀ a, (k0_off33 v256) a + S1x16x656.size a ≤ S40960x16x656.size a), (Rect.unit (s := S40960x16x656) (k0_off33 v256) S1x16x656.size hinb).WholeWords (EltTy.packing .i8))
theorem k0_off33_inb : ∀ (v1 : BitVec 32) (v256 : BitVec 32) (k0_hw16 : k0_chk16 v1 v256), ∀ (k0_h1 : k0_cond1 v1 = 1#1), ∀ a, (k0_off33 v256) a + S1x16x656.size a ≤ S40960x16x656.size a := fun v1 v256 k0_hw16 k0_h1 => k0_hw16.1 k0_h1
theorem k0_off33_wordsi8 : ∀ (v1 : BitVec 32) (v256 : BitVec 32) (k0_hw16 : k0_chk16 v1 v256), ∀ (k0_h1 : k0_cond1 v1 = 1#1), (Rect.unit (s := S40960x16x656) (k0_off33 v256) S1x16x656.size (k0_off33_inb v1 v256 k0_hw16 k0_h1)).WholeWords (EltTy.packing .i8) := fun v1 v256 k0_hw16 k0_h1 => k0_hw16.2 k0_h1 (k0_off33_inb v1 v256 k0_hw16 k0_h1)

def k0_off34 (i : grid0.Coords) : Fin 2 → Nat :=
  let arg0 : BitVec 32 := BitVec.ofNat 32 (i 0).val
  let v263 : Index := Scalar.indexCast arg0
  let c16 : Index := 16#32
  ![v263.toNat, 16]
def k0_off35 (v264 : BitVec 32) : Fin 3 → Nat :=
  let c0_i32_145 : BitVec 32 := 0#32
  let c0_i32_146 : BitVec 32 := 0#32
  ![v264.toNat, 0, 0]

def k0_chk17 (v1 : BitVec 32) (v264 : BitVec 32) : Prop :=
  (∀ (k0_h1 : k0_cond1 v1 = 1#1), ∀ a, (k0_off35 v264) a + S1x16x656.size a ≤ S40960x16x656.size a) ∧
  (∀ (k0_h1 : k0_cond1 v1 = 1#1), ∀ (hinb : ∀ a, (k0_off35 v264) a + S1x16x656.size a ≤ S40960x16x656.size a), (Rect.unit (s := S40960x16x656) (k0_off35 v264) S1x16x656.size hinb).WholeWords (EltTy.packing .i8))
theorem k0_off35_inb : ∀ (v1 : BitVec 32) (v264 : BitVec 32) (k0_hw17 : k0_chk17 v1 v264), ∀ (k0_h1 : k0_cond1 v1 = 1#1), ∀ a, (k0_off35 v264) a + S1x16x656.size a ≤ S40960x16x656.size a := fun v1 v264 k0_hw17 k0_h1 => k0_hw17.1 k0_h1
theorem k0_off35_wordsi8 : ∀ (v1 : BitVec 32) (v264 : BitVec 32) (k0_hw17 : k0_chk17 v1 v264), ∀ (k0_h1 : k0_cond1 v1 = 1#1), (Rect.unit (s := S40960x16x656) (k0_off35 v264) S1x16x656.size (k0_off35_inb v1 v264 k0_hw17 k0_h1)).WholeWords (EltTy.packing .i8) := fun v1 v264 k0_hw17 k0_h1 => k0_hw17.2 k0_h1 (k0_off35_inb v1 v264 k0_hw17 k0_h1)

def k0_off36 (i : grid0.Coords) : Fin 2 → Nat :=
  let arg0 : BitVec 32 := BitVec.ofNat 32 (i 0).val
  let v271 : Index := Scalar.indexCast arg0
  let c17 : Index := 17#32
  ![v271.toNat, 17]
def k0_off37 (v272 : BitVec 32) : Fin 3 → Nat :=
  let c0_i32_151 : BitVec 32 := 0#32
  let c0_i32_152 : BitVec 32 := 0#32
  ![v272.toNat, 0, 0]

def k0_chk18 (v1 : BitVec 32) (v272 : BitVec 32) : Prop :=
  (∀ (k0_h1 : k0_cond1 v1 = 1#1), ∀ a, (k0_off37 v272) a + S1x16x656.size a ≤ S40960x16x656.size a) ∧
  (∀ (k0_h1 : k0_cond1 v1 = 1#1), ∀ (hinb : ∀ a, (k0_off37 v272) a + S1x16x656.size a ≤ S40960x16x656.size a), (Rect.unit (s := S40960x16x656) (k0_off37 v272) S1x16x656.size hinb).WholeWords (EltTy.packing .i8))
theorem k0_off37_inb : ∀ (v1 : BitVec 32) (v272 : BitVec 32) (k0_hw18 : k0_chk18 v1 v272), ∀ (k0_h1 : k0_cond1 v1 = 1#1), ∀ a, (k0_off37 v272) a + S1x16x656.size a ≤ S40960x16x656.size a := fun v1 v272 k0_hw18 k0_h1 => k0_hw18.1 k0_h1
theorem k0_off37_wordsi8 : ∀ (v1 : BitVec 32) (v272 : BitVec 32) (k0_hw18 : k0_chk18 v1 v272), ∀ (k0_h1 : k0_cond1 v1 = 1#1), (Rect.unit (s := S40960x16x656) (k0_off37 v272) S1x16x656.size (k0_off37_inb v1 v272 k0_hw18 k0_h1)).WholeWords (EltTy.packing .i8) := fun v1 v272 k0_hw18 k0_h1 => k0_hw18.2 k0_h1 (k0_off37_inb v1 v272 k0_hw18 k0_h1)

def k0_off38 (i : grid0.Coords) : Fin 2 → Nat :=
  let arg0 : BitVec 32 := BitVec.ofNat 32 (i 0).val
  let v279 : Index := Scalar.indexCast arg0
  let c18 : Index := 18#32
  ![v279.toNat, 18]
def k0_off39 (v280 : BitVec 32) : Fin 3 → Nat :=
  let c0_i32_157 : BitVec 32 := 0#32
  let c0_i32_158 : BitVec 32 := 0#32
  ![v280.toNat, 0, 0]

def k0_chk19 (v1 : BitVec 32) (v280 : BitVec 32) : Prop :=
  (∀ (k0_h1 : k0_cond1 v1 = 1#1), ∀ a, (k0_off39 v280) a + S1x16x656.size a ≤ S40960x16x656.size a) ∧
  (∀ (k0_h1 : k0_cond1 v1 = 1#1), ∀ (hinb : ∀ a, (k0_off39 v280) a + S1x16x656.size a ≤ S40960x16x656.size a), (Rect.unit (s := S40960x16x656) (k0_off39 v280) S1x16x656.size hinb).WholeWords (EltTy.packing .i8))
theorem k0_off39_inb : ∀ (v1 : BitVec 32) (v280 : BitVec 32) (k0_hw19 : k0_chk19 v1 v280), ∀ (k0_h1 : k0_cond1 v1 = 1#1), ∀ a, (k0_off39 v280) a + S1x16x656.size a ≤ S40960x16x656.size a := fun v1 v280 k0_hw19 k0_h1 => k0_hw19.1 k0_h1
theorem k0_off39_wordsi8 : ∀ (v1 : BitVec 32) (v280 : BitVec 32) (k0_hw19 : k0_chk19 v1 v280), ∀ (k0_h1 : k0_cond1 v1 = 1#1), (Rect.unit (s := S40960x16x656) (k0_off39 v280) S1x16x656.size (k0_off39_inb v1 v280 k0_hw19 k0_h1)).WholeWords (EltTy.packing .i8) := fun v1 v280 k0_hw19 k0_h1 => k0_hw19.2 k0_h1 (k0_off39_inb v1 v280 k0_hw19 k0_h1)

def k0_off40 (i : grid0.Coords) : Fin 2 → Nat :=
  let arg0 : BitVec 32 := BitVec.ofNat 32 (i 0).val
  let v287 : Index := Scalar.indexCast arg0
  let c19 : Index := 19#32
  ![v287.toNat, 19]
def k0_off41 (v288 : BitVec 32) : Fin 3 → Nat :=
  let c0_i32_163 : BitVec 32 := 0#32
  let c0_i32_164 : BitVec 32 := 0#32
  ![v288.toNat, 0, 0]

def k0_chk20 (v1 : BitVec 32) (v288 : BitVec 32) : Prop :=
  (∀ (k0_h1 : k0_cond1 v1 = 1#1), ∀ a, (k0_off41 v288) a + S1x16x656.size a ≤ S40960x16x656.size a) ∧
  (∀ (k0_h1 : k0_cond1 v1 = 1#1), ∀ (hinb : ∀ a, (k0_off41 v288) a + S1x16x656.size a ≤ S40960x16x656.size a), (Rect.unit (s := S40960x16x656) (k0_off41 v288) S1x16x656.size hinb).WholeWords (EltTy.packing .i8))
theorem k0_off41_inb : ∀ (v1 : BitVec 32) (v288 : BitVec 32) (k0_hw20 : k0_chk20 v1 v288), ∀ (k0_h1 : k0_cond1 v1 = 1#1), ∀ a, (k0_off41 v288) a + S1x16x656.size a ≤ S40960x16x656.size a := fun v1 v288 k0_hw20 k0_h1 => k0_hw20.1 k0_h1
theorem k0_off41_wordsi8 : ∀ (v1 : BitVec 32) (v288 : BitVec 32) (k0_hw20 : k0_chk20 v1 v288), ∀ (k0_h1 : k0_cond1 v1 = 1#1), (Rect.unit (s := S40960x16x656) (k0_off41 v288) S1x16x656.size (k0_off41_inb v1 v288 k0_hw20 k0_h1)).WholeWords (EltTy.packing .i8) := fun v1 v288 k0_hw20 k0_h1 => k0_hw20.2 k0_h1 (k0_off41_inb v1 v288 k0_hw20 k0_h1)

def k0_off42 (i : grid0.Coords) : Fin 2 → Nat :=
  let arg0 : BitVec 32 := BitVec.ofNat 32 (i 0).val
  let v295 : Index := Scalar.indexCast arg0
  let c20 : Index := 20#32
  ![v295.toNat, 20]
def k0_off43 (v296 : BitVec 32) : Fin 3 → Nat :=
  let c0_i32_169 : BitVec 32 := 0#32
  let c0_i32_170 : BitVec 32 := 0#32
  ![v296.toNat, 0, 0]

def k0_chk21 (v1 : BitVec 32) (v296 : BitVec 32) : Prop :=
  (∀ (k0_h1 : k0_cond1 v1 = 1#1), ∀ a, (k0_off43 v296) a + S1x16x656.size a ≤ S40960x16x656.size a) ∧
  (∀ (k0_h1 : k0_cond1 v1 = 1#1), ∀ (hinb : ∀ a, (k0_off43 v296) a + S1x16x656.size a ≤ S40960x16x656.size a), (Rect.unit (s := S40960x16x656) (k0_off43 v296) S1x16x656.size hinb).WholeWords (EltTy.packing .i8))
theorem k0_off43_inb : ∀ (v1 : BitVec 32) (v296 : BitVec 32) (k0_hw21 : k0_chk21 v1 v296), ∀ (k0_h1 : k0_cond1 v1 = 1#1), ∀ a, (k0_off43 v296) a + S1x16x656.size a ≤ S40960x16x656.size a := fun v1 v296 k0_hw21 k0_h1 => k0_hw21.1 k0_h1
theorem k0_off43_wordsi8 : ∀ (v1 : BitVec 32) (v296 : BitVec 32) (k0_hw21 : k0_chk21 v1 v296), ∀ (k0_h1 : k0_cond1 v1 = 1#1), (Rect.unit (s := S40960x16x656) (k0_off43 v296) S1x16x656.size (k0_off43_inb v1 v296 k0_hw21 k0_h1)).WholeWords (EltTy.packing .i8) := fun v1 v296 k0_hw21 k0_h1 => k0_hw21.2 k0_h1 (k0_off43_inb v1 v296 k0_hw21 k0_h1)

def k0_off44 (i : grid0.Coords) : Fin 2 → Nat :=
  let arg0 : BitVec 32 := BitVec.ofNat 32 (i 0).val
  let v303 : Index := Scalar.indexCast arg0
  let c21 : Index := 21#32
  ![v303.toNat, 21]
def k0_off45 (v304 : BitVec 32) : Fin 3 → Nat :=
  let c0_i32_175 : BitVec 32 := 0#32
  let c0_i32_176 : BitVec 32 := 0#32
  ![v304.toNat, 0, 0]

def k0_chk22 (v1 : BitVec 32) (v304 : BitVec 32) : Prop :=
  (∀ (k0_h1 : k0_cond1 v1 = 1#1), ∀ a, (k0_off45 v304) a + S1x16x656.size a ≤ S40960x16x656.size a) ∧
  (∀ (k0_h1 : k0_cond1 v1 = 1#1), ∀ (hinb : ∀ a, (k0_off45 v304) a + S1x16x656.size a ≤ S40960x16x656.size a), (Rect.unit (s := S40960x16x656) (k0_off45 v304) S1x16x656.size hinb).WholeWords (EltTy.packing .i8))
theorem k0_off45_inb : ∀ (v1 : BitVec 32) (v304 : BitVec 32) (k0_hw22 : k0_chk22 v1 v304), ∀ (k0_h1 : k0_cond1 v1 = 1#1), ∀ a, (k0_off45 v304) a + S1x16x656.size a ≤ S40960x16x656.size a := fun v1 v304 k0_hw22 k0_h1 => k0_hw22.1 k0_h1
theorem k0_off45_wordsi8 : ∀ (v1 : BitVec 32) (v304 : BitVec 32) (k0_hw22 : k0_chk22 v1 v304), ∀ (k0_h1 : k0_cond1 v1 = 1#1), (Rect.unit (s := S40960x16x656) (k0_off45 v304) S1x16x656.size (k0_off45_inb v1 v304 k0_hw22 k0_h1)).WholeWords (EltTy.packing .i8) := fun v1 v304 k0_hw22 k0_h1 => k0_hw22.2 k0_h1 (k0_off45_inb v1 v304 k0_hw22 k0_h1)

def k0_off46 (i : grid0.Coords) : Fin 2 → Nat :=
  let arg0 : BitVec 32 := BitVec.ofNat 32 (i 0).val
  let v311 : Index := Scalar.indexCast arg0
  let c22 : Index := 22#32
  ![v311.toNat, 22]
def k0_off47 (v312 : BitVec 32) : Fin 3 → Nat :=
  let c0_i32_181 : BitVec 32 := 0#32
  let c0_i32_182 : BitVec 32 := 0#32
  ![v312.toNat, 0, 0]

def k0_chk23 (v1 : BitVec 32) (v312 : BitVec 32) : Prop :=
  (∀ (k0_h1 : k0_cond1 v1 = 1#1), ∀ a, (k0_off47 v312) a + S1x16x656.size a ≤ S40960x16x656.size a) ∧
  (∀ (k0_h1 : k0_cond1 v1 = 1#1), ∀ (hinb : ∀ a, (k0_off47 v312) a + S1x16x656.size a ≤ S40960x16x656.size a), (Rect.unit (s := S40960x16x656) (k0_off47 v312) S1x16x656.size hinb).WholeWords (EltTy.packing .i8))
theorem k0_off47_inb : ∀ (v1 : BitVec 32) (v312 : BitVec 32) (k0_hw23 : k0_chk23 v1 v312), ∀ (k0_h1 : k0_cond1 v1 = 1#1), ∀ a, (k0_off47 v312) a + S1x16x656.size a ≤ S40960x16x656.size a := fun v1 v312 k0_hw23 k0_h1 => k0_hw23.1 k0_h1
theorem k0_off47_wordsi8 : ∀ (v1 : BitVec 32) (v312 : BitVec 32) (k0_hw23 : k0_chk23 v1 v312), ∀ (k0_h1 : k0_cond1 v1 = 1#1), (Rect.unit (s := S40960x16x656) (k0_off47 v312) S1x16x656.size (k0_off47_inb v1 v312 k0_hw23 k0_h1)).WholeWords (EltTy.packing .i8) := fun v1 v312 k0_hw23 k0_h1 => k0_hw23.2 k0_h1 (k0_off47_inb v1 v312 k0_hw23 k0_h1)

def k0_off48 (i : grid0.Coords) : Fin 2 → Nat :=
  let arg0 : BitVec 32 := BitVec.ofNat 32 (i 0).val
  let v319 : Index := Scalar.indexCast arg0
  let c23 : Index := 23#32
  ![v319.toNat, 23]
def k0_off49 (v320 : BitVec 32) : Fin 3 → Nat :=
  let c0_i32_187 : BitVec 32 := 0#32
  let c0_i32_188 : BitVec 32 := 0#32
  ![v320.toNat, 0, 0]

def k0_chk24 (v1 : BitVec 32) (v320 : BitVec 32) : Prop :=
  (∀ (k0_h1 : k0_cond1 v1 = 1#1), ∀ a, (k0_off49 v320) a + S1x16x656.size a ≤ S40960x16x656.size a) ∧
  (∀ (k0_h1 : k0_cond1 v1 = 1#1), ∀ (hinb : ∀ a, (k0_off49 v320) a + S1x16x656.size a ≤ S40960x16x656.size a), (Rect.unit (s := S40960x16x656) (k0_off49 v320) S1x16x656.size hinb).WholeWords (EltTy.packing .i8))
theorem k0_off49_inb : ∀ (v1 : BitVec 32) (v320 : BitVec 32) (k0_hw24 : k0_chk24 v1 v320), ∀ (k0_h1 : k0_cond1 v1 = 1#1), ∀ a, (k0_off49 v320) a + S1x16x656.size a ≤ S40960x16x656.size a := fun v1 v320 k0_hw24 k0_h1 => k0_hw24.1 k0_h1
theorem k0_off49_wordsi8 : ∀ (v1 : BitVec 32) (v320 : BitVec 32) (k0_hw24 : k0_chk24 v1 v320), ∀ (k0_h1 : k0_cond1 v1 = 1#1), (Rect.unit (s := S40960x16x656) (k0_off49 v320) S1x16x656.size (k0_off49_inb v1 v320 k0_hw24 k0_h1)).WholeWords (EltTy.packing .i8) := fun v1 v320 k0_hw24 k0_h1 => k0_hw24.2 k0_h1 (k0_off49_inb v1 v320 k0_hw24 k0_h1)

def k0_off50 (i : grid0.Coords) : Fin 2 → Nat :=
  let arg0 : BitVec 32 := BitVec.ofNat 32 (i 0).val
  let v327 : Index := Scalar.indexCast arg0
  let c24 : Index := 24#32
  ![v327.toNat, 24]
def k0_off51 (v328 : BitVec 32) : Fin 3 → Nat :=
  let c0_i32_193 : BitVec 32 := 0#32
  let c0_i32_194 : BitVec 32 := 0#32
  ![v328.toNat, 0, 0]

def k0_chk25 (v1 : BitVec 32) (v328 : BitVec 32) : Prop :=
  (∀ (k0_h1 : k0_cond1 v1 = 1#1), ∀ a, (k0_off51 v328) a + S1x16x656.size a ≤ S40960x16x656.size a) ∧
  (∀ (k0_h1 : k0_cond1 v1 = 1#1), ∀ (hinb : ∀ a, (k0_off51 v328) a + S1x16x656.size a ≤ S40960x16x656.size a), (Rect.unit (s := S40960x16x656) (k0_off51 v328) S1x16x656.size hinb).WholeWords (EltTy.packing .i8))
theorem k0_off51_inb : ∀ (v1 : BitVec 32) (v328 : BitVec 32) (k0_hw25 : k0_chk25 v1 v328), ∀ (k0_h1 : k0_cond1 v1 = 1#1), ∀ a, (k0_off51 v328) a + S1x16x656.size a ≤ S40960x16x656.size a := fun v1 v328 k0_hw25 k0_h1 => k0_hw25.1 k0_h1
theorem k0_off51_wordsi8 : ∀ (v1 : BitVec 32) (v328 : BitVec 32) (k0_hw25 : k0_chk25 v1 v328), ∀ (k0_h1 : k0_cond1 v1 = 1#1), (Rect.unit (s := S40960x16x656) (k0_off51 v328) S1x16x656.size (k0_off51_inb v1 v328 k0_hw25 k0_h1)).WholeWords (EltTy.packing .i8) := fun v1 v328 k0_hw25 k0_h1 => k0_hw25.2 k0_h1 (k0_off51_inb v1 v328 k0_hw25 k0_h1)

def k0_off52 (i : grid0.Coords) : Fin 2 → Nat :=
  let arg0 : BitVec 32 := BitVec.ofNat 32 (i 0).val
  let v335 : Index := Scalar.indexCast arg0
  let c25 : Index := 25#32
  ![v335.toNat, 25]
def k0_off53 (v336 : BitVec 32) : Fin 3 → Nat :=
  let c0_i32_199 : BitVec 32 := 0#32
  let c0_i32_200 : BitVec 32 := 0#32
  ![v336.toNat, 0, 0]

def k0_chk26 (v1 : BitVec 32) (v336 : BitVec 32) : Prop :=
  (∀ (k0_h1 : k0_cond1 v1 = 1#1), ∀ a, (k0_off53 v336) a + S1x16x656.size a ≤ S40960x16x656.size a) ∧
  (∀ (k0_h1 : k0_cond1 v1 = 1#1), ∀ (hinb : ∀ a, (k0_off53 v336) a + S1x16x656.size a ≤ S40960x16x656.size a), (Rect.unit (s := S40960x16x656) (k0_off53 v336) S1x16x656.size hinb).WholeWords (EltTy.packing .i8))
theorem k0_off53_inb : ∀ (v1 : BitVec 32) (v336 : BitVec 32) (k0_hw26 : k0_chk26 v1 v336), ∀ (k0_h1 : k0_cond1 v1 = 1#1), ∀ a, (k0_off53 v336) a + S1x16x656.size a ≤ S40960x16x656.size a := fun v1 v336 k0_hw26 k0_h1 => k0_hw26.1 k0_h1
theorem k0_off53_wordsi8 : ∀ (v1 : BitVec 32) (v336 : BitVec 32) (k0_hw26 : k0_chk26 v1 v336), ∀ (k0_h1 : k0_cond1 v1 = 1#1), (Rect.unit (s := S40960x16x656) (k0_off53 v336) S1x16x656.size (k0_off53_inb v1 v336 k0_hw26 k0_h1)).WholeWords (EltTy.packing .i8) := fun v1 v336 k0_hw26 k0_h1 => k0_hw26.2 k0_h1 (k0_off53_inb v1 v336 k0_hw26 k0_h1)

def k0_off54 (i : grid0.Coords) : Fin 2 → Nat :=
  let arg0 : BitVec 32 := BitVec.ofNat 32 (i 0).val
  let v343 : Index := Scalar.indexCast arg0
  let c26 : Index := 26#32
  ![v343.toNat, 26]
def k0_off55 (v344 : BitVec 32) : Fin 3 → Nat :=
  let c0_i32_205 : BitVec 32 := 0#32
  let c0_i32_206 : BitVec 32 := 0#32
  ![v344.toNat, 0, 0]

def k0_chk27 (v1 : BitVec 32) (v344 : BitVec 32) : Prop :=
  (∀ (k0_h1 : k0_cond1 v1 = 1#1), ∀ a, (k0_off55 v344) a + S1x16x656.size a ≤ S40960x16x656.size a) ∧
  (∀ (k0_h1 : k0_cond1 v1 = 1#1), ∀ (hinb : ∀ a, (k0_off55 v344) a + S1x16x656.size a ≤ S40960x16x656.size a), (Rect.unit (s := S40960x16x656) (k0_off55 v344) S1x16x656.size hinb).WholeWords (EltTy.packing .i8))
theorem k0_off55_inb : ∀ (v1 : BitVec 32) (v344 : BitVec 32) (k0_hw27 : k0_chk27 v1 v344), ∀ (k0_h1 : k0_cond1 v1 = 1#1), ∀ a, (k0_off55 v344) a + S1x16x656.size a ≤ S40960x16x656.size a := fun v1 v344 k0_hw27 k0_h1 => k0_hw27.1 k0_h1
theorem k0_off55_wordsi8 : ∀ (v1 : BitVec 32) (v344 : BitVec 32) (k0_hw27 : k0_chk27 v1 v344), ∀ (k0_h1 : k0_cond1 v1 = 1#1), (Rect.unit (s := S40960x16x656) (k0_off55 v344) S1x16x656.size (k0_off55_inb v1 v344 k0_hw27 k0_h1)).WholeWords (EltTy.packing .i8) := fun v1 v344 k0_hw27 k0_h1 => k0_hw27.2 k0_h1 (k0_off55_inb v1 v344 k0_hw27 k0_h1)

def k0_off56 (i : grid0.Coords) : Fin 2 → Nat :=
  let arg0 : BitVec 32 := BitVec.ofNat 32 (i 0).val
  let v351 : Index := Scalar.indexCast arg0
  let c27 : Index := 27#32
  ![v351.toNat, 27]
def k0_off57 (v352 : BitVec 32) : Fin 3 → Nat :=
  let c0_i32_211 : BitVec 32 := 0#32
  let c0_i32_212 : BitVec 32 := 0#32
  ![v352.toNat, 0, 0]

def k0_chk28 (v1 : BitVec 32) (v352 : BitVec 32) : Prop :=
  (∀ (k0_h1 : k0_cond1 v1 = 1#1), ∀ a, (k0_off57 v352) a + S1x16x656.size a ≤ S40960x16x656.size a) ∧
  (∀ (k0_h1 : k0_cond1 v1 = 1#1), ∀ (hinb : ∀ a, (k0_off57 v352) a + S1x16x656.size a ≤ S40960x16x656.size a), (Rect.unit (s := S40960x16x656) (k0_off57 v352) S1x16x656.size hinb).WholeWords (EltTy.packing .i8))
theorem k0_off57_inb : ∀ (v1 : BitVec 32) (v352 : BitVec 32) (k0_hw28 : k0_chk28 v1 v352), ∀ (k0_h1 : k0_cond1 v1 = 1#1), ∀ a, (k0_off57 v352) a + S1x16x656.size a ≤ S40960x16x656.size a := fun v1 v352 k0_hw28 k0_h1 => k0_hw28.1 k0_h1
theorem k0_off57_wordsi8 : ∀ (v1 : BitVec 32) (v352 : BitVec 32) (k0_hw28 : k0_chk28 v1 v352), ∀ (k0_h1 : k0_cond1 v1 = 1#1), (Rect.unit (s := S40960x16x656) (k0_off57 v352) S1x16x656.size (k0_off57_inb v1 v352 k0_hw28 k0_h1)).WholeWords (EltTy.packing .i8) := fun v1 v352 k0_hw28 k0_h1 => k0_hw28.2 k0_h1 (k0_off57_inb v1 v352 k0_hw28 k0_h1)

def k0_off58 (i : grid0.Coords) : Fin 2 → Nat :=
  let arg0 : BitVec 32 := BitVec.ofNat 32 (i 0).val
  let v359 : Index := Scalar.indexCast arg0
  let c28 : Index := 28#32
  ![v359.toNat, 28]
def k0_off59 (v360 : BitVec 32) : Fin 3 → Nat :=
  let c0_i32_217 : BitVec 32 := 0#32
  let c0_i32_218 : BitVec 32 := 0#32
  ![v360.toNat, 0, 0]

def k0_chk29 (v1 : BitVec 32) (v360 : BitVec 32) : Prop :=
  (∀ (k0_h1 : k0_cond1 v1 = 1#1), ∀ a, (k0_off59 v360) a + S1x16x656.size a ≤ S40960x16x656.size a) ∧
  (∀ (k0_h1 : k0_cond1 v1 = 1#1), ∀ (hinb : ∀ a, (k0_off59 v360) a + S1x16x656.size a ≤ S40960x16x656.size a), (Rect.unit (s := S40960x16x656) (k0_off59 v360) S1x16x656.size hinb).WholeWords (EltTy.packing .i8))
theorem k0_off59_inb : ∀ (v1 : BitVec 32) (v360 : BitVec 32) (k0_hw29 : k0_chk29 v1 v360), ∀ (k0_h1 : k0_cond1 v1 = 1#1), ∀ a, (k0_off59 v360) a + S1x16x656.size a ≤ S40960x16x656.size a := fun v1 v360 k0_hw29 k0_h1 => k0_hw29.1 k0_h1
theorem k0_off59_wordsi8 : ∀ (v1 : BitVec 32) (v360 : BitVec 32) (k0_hw29 : k0_chk29 v1 v360), ∀ (k0_h1 : k0_cond1 v1 = 1#1), (Rect.unit (s := S40960x16x656) (k0_off59 v360) S1x16x656.size (k0_off59_inb v1 v360 k0_hw29 k0_h1)).WholeWords (EltTy.packing .i8) := fun v1 v360 k0_hw29 k0_h1 => k0_hw29.2 k0_h1 (k0_off59_inb v1 v360 k0_hw29 k0_h1)

def k0_off60 (i : grid0.Coords) : Fin 2 → Nat :=
  let arg0 : BitVec 32 := BitVec.ofNat 32 (i 0).val
  let v367 : Index := Scalar.indexCast arg0
  let c29 : Index := 29#32
  ![v367.toNat, 29]
def k0_off61 (v368 : BitVec 32) : Fin 3 → Nat :=
  let c0_i32_223 : BitVec 32 := 0#32
  let c0_i32_224 : BitVec 32 := 0#32
  ![v368.toNat, 0, 0]

def k0_chk30 (v1 : BitVec 32) (v368 : BitVec 32) : Prop :=
  (∀ (k0_h1 : k0_cond1 v1 = 1#1), ∀ a, (k0_off61 v368) a + S1x16x656.size a ≤ S40960x16x656.size a) ∧
  (∀ (k0_h1 : k0_cond1 v1 = 1#1), ∀ (hinb : ∀ a, (k0_off61 v368) a + S1x16x656.size a ≤ S40960x16x656.size a), (Rect.unit (s := S40960x16x656) (k0_off61 v368) S1x16x656.size hinb).WholeWords (EltTy.packing .i8))
theorem k0_off61_inb : ∀ (v1 : BitVec 32) (v368 : BitVec 32) (k0_hw30 : k0_chk30 v1 v368), ∀ (k0_h1 : k0_cond1 v1 = 1#1), ∀ a, (k0_off61 v368) a + S1x16x656.size a ≤ S40960x16x656.size a := fun v1 v368 k0_hw30 k0_h1 => k0_hw30.1 k0_h1
theorem k0_off61_wordsi8 : ∀ (v1 : BitVec 32) (v368 : BitVec 32) (k0_hw30 : k0_chk30 v1 v368), ∀ (k0_h1 : k0_cond1 v1 = 1#1), (Rect.unit (s := S40960x16x656) (k0_off61 v368) S1x16x656.size (k0_off61_inb v1 v368 k0_hw30 k0_h1)).WholeWords (EltTy.packing .i8) := fun v1 v368 k0_hw30 k0_h1 => k0_hw30.2 k0_h1 (k0_off61_inb v1 v368 k0_hw30 k0_h1)

def k0_off62 (i : grid0.Coords) : Fin 2 → Nat :=
  let arg0 : BitVec 32 := BitVec.ofNat 32 (i 0).val
  let v375 : Index := Scalar.indexCast arg0
  let c30 : Index := 30#32
  ![v375.toNat, 30]
def k0_off63 (v376 : BitVec 32) : Fin 3 → Nat :=
  let c0_i32_229 : BitVec 32 := 0#32
  let c0_i32_230 : BitVec 32 := 0#32
  ![v376.toNat, 0, 0]

def k0_chk31 (v1 : BitVec 32) (v376 : BitVec 32) : Prop :=
  (∀ (k0_h1 : k0_cond1 v1 = 1#1), ∀ a, (k0_off63 v376) a + S1x16x656.size a ≤ S40960x16x656.size a) ∧
  (∀ (k0_h1 : k0_cond1 v1 = 1#1), ∀ (hinb : ∀ a, (k0_off63 v376) a + S1x16x656.size a ≤ S40960x16x656.size a), (Rect.unit (s := S40960x16x656) (k0_off63 v376) S1x16x656.size hinb).WholeWords (EltTy.packing .i8))
theorem k0_off63_inb : ∀ (v1 : BitVec 32) (v376 : BitVec 32) (k0_hw31 : k0_chk31 v1 v376), ∀ (k0_h1 : k0_cond1 v1 = 1#1), ∀ a, (k0_off63 v376) a + S1x16x656.size a ≤ S40960x16x656.size a := fun v1 v376 k0_hw31 k0_h1 => k0_hw31.1 k0_h1
theorem k0_off63_wordsi8 : ∀ (v1 : BitVec 32) (v376 : BitVec 32) (k0_hw31 : k0_chk31 v1 v376), ∀ (k0_h1 : k0_cond1 v1 = 1#1), (Rect.unit (s := S40960x16x656) (k0_off63 v376) S1x16x656.size (k0_off63_inb v1 v376 k0_hw31 k0_h1)).WholeWords (EltTy.packing .i8) := fun v1 v376 k0_hw31 k0_h1 => k0_hw31.2 k0_h1 (k0_off63_inb v1 v376 k0_hw31 k0_h1)

def k0_off64 (i : grid0.Coords) : Fin 2 → Nat :=
  let arg0 : BitVec 32 := BitVec.ofNat 32 (i 0).val
  let v383 : Index := Scalar.indexCast arg0
  let c31 : Index := 31#32
  ![v383.toNat, 31]
def k0_off65 (v384 : BitVec 32) : Fin 3 → Nat :=
  let c0_i32_235 : BitVec 32 := 0#32
  let c0_i32_236 : BitVec 32 := 0#32
  ![v384.toNat, 0, 0]

def k0_chk32 (v1 : BitVec 32) (v384 : BitVec 32) : Prop :=
  (∀ (k0_h1 : k0_cond1 v1 = 1#1), ∀ a, (k0_off65 v384) a + S1x16x656.size a ≤ S40960x16x656.size a) ∧
  (∀ (k0_h1 : k0_cond1 v1 = 1#1), ∀ (hinb : ∀ a, (k0_off65 v384) a + S1x16x656.size a ≤ S40960x16x656.size a), (Rect.unit (s := S40960x16x656) (k0_off65 v384) S1x16x656.size hinb).WholeWords (EltTy.packing .i8))
theorem k0_off65_inb : ∀ (v1 : BitVec 32) (v384 : BitVec 32) (k0_hw32 : k0_chk32 v1 v384), ∀ (k0_h1 : k0_cond1 v1 = 1#1), ∀ a, (k0_off65 v384) a + S1x16x656.size a ≤ S40960x16x656.size a := fun v1 v384 k0_hw32 k0_h1 => k0_hw32.1 k0_h1
theorem k0_off65_wordsi8 : ∀ (v1 : BitVec 32) (v384 : BitVec 32) (k0_hw32 : k0_chk32 v1 v384), ∀ (k0_h1 : k0_cond1 v1 = 1#1), (Rect.unit (s := S40960x16x656) (k0_off65 v384) S1x16x656.size (k0_off65_inb v1 v384 k0_hw32 k0_h1)).WholeWords (EltTy.packing .i8) := fun v1 v384 k0_hw32 k0_h1 => k0_hw32.2 k0_h1 (k0_off65_inb v1 v384 k0_hw32 k0_h1)

@[reducible] def k0_t1_loop (v1 : BitVec 32) : Scf.Loop 32 :=
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_30 : BitVec 32 := 1#32
  ⟨c0_i32_28, v116, c1_i32_30⟩

def k0_off66 (i : grid0.Coords) (v1 : BitVec 32) (k0_t1 : Fin (k0_t1_loop v1).trips) : Fin 2 → Nat :=
  let arg0 : BitVec 32 := BitVec.ofNat 32 (i 0).val
  let v444 : Index := Scalar.indexCast arg0
  let c0_i32_28 : BitVec 32 := 0#32
  let c1_i32_30 : BitVec 32 := 1#32
  let arg11 : BitVec 32 := Scf.iv c0_i32_28 c1_i32_30 k0_t1
  let c1_i32_238 : BitVec 32 := 1#32
  let v440 : BitVec 32 := Scalar.addi arg11 c1_i32_238
  let c32_i32 : BitVec 32 := 32#32
  let v442 : BitVec 32 := Scalar.muli v440 c32_i32
  let c0_i32_240 : BitVec 32 := 0#32
  let v443 : BitVec 32 := Scalar.addi v442 c0_i32_240
  let v445 : Index := Scalar.indexCast v443
  ![v444.toNat, v445.toNat]
def k0_cond2 (v1 : BitVec 32) (k0_t1 : Fin (k0_t1_loop v1).trips) : BitVec 1 :=
  let c0_i32_28 : BitVec 32 := 0#32
  let c1_i32_30 : BitVec 32 := 1#32
  let arg11 : BitVec 32 := Scf.iv c0_i32_28 c1_i32_30 k0_t1
  let c1_i32_45 : BitVec 32 := 1#32
  let v145 : BitVec 32 := Scalar.addi arg11 c1_i32_45
  let c511_i32 : BitVec 32 := 511#32
  let v2 : BitVec 32 := Scalar.addi v1 c511_i32
  let c512_i32 : BitVec 32 := 512#32
  let v3 : BitVec 32 := Scalar.divsi v2 c512_i32
  let v146 : BitVec 1 := Scalar.cmpi .slt v145 v3
  let v147 : BitVec 32 := Scalar.extui v146
  let c0_i32_46 : BitVec 32 := 0#32
  let v148 : BitVec 1 := Scalar.cmpi .ne v147 c0_i32_46
  v148

def k0_off67 (v1 : BitVec 32) (k0_t1 : Fin (k0_t1_loop v1).trips) : Fin 1 → Nat :=
  let c1_i32_239 : BitVec 32 := 1#32
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  ![v441.toNat]
def k0_off68 (v1 : BitVec 32) (k0_t1 : Fin (k0_t1_loop v1).trips) : Fin 4 → Nat :=
  let c1_i32_239 : BitVec 32 := 1#32
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  let c0_i32_241 : BitVec 32 := 0#32
  let c0_i32_242 : BitVec 32 := 0#32
  let c0_i32_243 : BitVec 32 := 0#32
  ![v441.toNat, 0, 0, 0]
def k0_off69 (v446 : BitVec 32) : Fin 3 → Nat :=
  let c0_i32_244 : BitVec 32 := 0#32
  let c0_i32_245 : BitVec 32 := 0#32
  ![v446.toNat, 0, 0]

def k0_chk34 (v1 : BitVec 32) (k0_t1 : Fin (k0_t1_loop v1).trips) (v446 : BitVec 32) : Prop :=
  (∀ (k0_h2 : k0_cond2 v1 k0_t1 = 1#1), ∀ a, (k0_off69 v446) a + S1x16x656.size a ≤ S40960x16x656.size a) ∧
  (∀ (k0_h2 : k0_cond2 v1 k0_t1 = 1#1), ∀ (hinb : ∀ a, (k0_off69 v446) a + S1x16x656.size a ≤ S40960x16x656.size a), (Rect.unit (s := S40960x16x656) (k0_off69 v446) S1x16x656.size hinb).WholeWords (EltTy.packing .i8))
theorem k0_off69_inb : ∀ (v1 : BitVec 32) (k0_t1 : Fin (k0_t1_loop v1).trips) (v446 : BitVec 32) (k0_hw34 : k0_chk34 v1 k0_t1 v446), ∀ (k0_h2 : k0_cond2 v1 k0_t1 = 1#1), ∀ a, (k0_off69 v446) a + S1x16x656.size a ≤ S40960x16x656.size a := fun v1 k0_t1 v446 k0_hw34 k0_h2 => k0_hw34.1 k0_h2
theorem k0_off69_wordsi8 : ∀ (v1 : BitVec 32) (k0_t1 : Fin (k0_t1_loop v1).trips) (v446 : BitVec 32) (k0_hw34 : k0_chk34 v1 k0_t1 v446), ∀ (k0_h2 : k0_cond2 v1 k0_t1 = 1#1), (Rect.unit (s := S40960x16x656) (k0_off69 v446) S1x16x656.size (k0_off69_inb v1 k0_t1 v446 k0_hw34 k0_h2)).WholeWords (EltTy.packing .i8) := fun v1 k0_t1 v446 k0_hw34 k0_h2 => k0_hw34.2 k0_h2 (k0_off69_inb v1 k0_t1 v446 k0_hw34 k0_h2)

def k0_off70 (i : grid0.Coords) (v1 : BitVec 32) (k0_t1 : Fin (k0_t1_loop v1).trips) : Fin 2 → Nat :=
  let arg0 : BitVec 32 := BitVec.ofNat 32 (i 0).val
  let v455 : Index := Scalar.indexCast arg0
  let c0_i32_28 : BitVec 32 := 0#32
  let c1_i32_30 : BitVec 32 := 1#32
  let arg11 : BitVec 32 := Scf.iv c0_i32_28 c1_i32_30 k0_t1
  let c1_i32_238 : BitVec 32 := 1#32
  let v440 : BitVec 32 := Scalar.addi arg11 c1_i32_238
  let c32_i32_246 : BitVec 32 := 32#32
  let v453 : BitVec 32 := Scalar.muli v440 c32_i32_246
  let c1_i32_247 : BitVec 32 := 1#32
  let v454 : BitVec 32 := Scalar.addi v453 c1_i32_247
  let v456 : Index := Scalar.indexCast v454
  ![v455.toNat, v456.toNat]
def k0_off71 (v1 : BitVec 32) (k0_t1 : Fin (k0_t1_loop v1).trips) : Fin 1 → Nat :=
  let c1_i32_239 : BitVec 32 := 1#32
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  ![v441.toNat]
def k0_off72 (v1 : BitVec 32) (k0_t1 : Fin (k0_t1_loop v1).trips) : Fin 4 → Nat :=
  let c1_i32_239 : BitVec 32 := 1#32
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  let c1_i32_248 : BitVec 32 := 1#32
  let c0_i32_249 : BitVec 32 := 0#32
  let c0_i32_250 : BitVec 32 := 0#32
  ![v441.toNat, 1, 0, 0]
def k0_off73 (v457 : BitVec 32) : Fin 3 → Nat :=
  let c0_i32_251 : BitVec 32 := 0#32
  let c0_i32_252 : BitVec 32 := 0#32
  ![v457.toNat, 0, 0]

def k0_chk35 (v1 : BitVec 32) (k0_t1 : Fin (k0_t1_loop v1).trips) (v457 : BitVec 32) : Prop :=
  (∀ (k0_h2 : k0_cond2 v1 k0_t1 = 1#1), ∀ a, (k0_off73 v457) a + S1x16x656.size a ≤ S40960x16x656.size a) ∧
  (∀ (k0_h2 : k0_cond2 v1 k0_t1 = 1#1), ∀ (hinb : ∀ a, (k0_off73 v457) a + S1x16x656.size a ≤ S40960x16x656.size a), (Rect.unit (s := S40960x16x656) (k0_off73 v457) S1x16x656.size hinb).WholeWords (EltTy.packing .i8))
theorem k0_off73_inb : ∀ (v1 : BitVec 32) (k0_t1 : Fin (k0_t1_loop v1).trips) (v457 : BitVec 32) (k0_hw35 : k0_chk35 v1 k0_t1 v457), ∀ (k0_h2 : k0_cond2 v1 k0_t1 = 1#1), ∀ a, (k0_off73 v457) a + S1x16x656.size a ≤ S40960x16x656.size a := fun v1 k0_t1 v457 k0_hw35 k0_h2 => k0_hw35.1 k0_h2
theorem k0_off73_wordsi8 : ∀ (v1 : BitVec 32) (k0_t1 : Fin (k0_t1_loop v1).trips) (v457 : BitVec 32) (k0_hw35 : k0_chk35 v1 k0_t1 v457), ∀ (k0_h2 : k0_cond2 v1 k0_t1 = 1#1), (Rect.unit (s := S40960x16x656) (k0_off73 v457) S1x16x656.size (k0_off73_inb v1 k0_t1 v457 k0_hw35 k0_h2)).WholeWords (EltTy.packing .i8) := fun v1 k0_t1 v457 k0_hw35 k0_h2 => k0_hw35.2 k0_h2 (k0_off73_inb v1 k0_t1 v457 k0_hw35 k0_h2)

def k0_off74 (i : grid0.Coords) (v1 : BitVec 32) (k0_t1 : Fin (k0_t1_loop v1).trips) : Fin 2 → Nat :=
  let arg0 : BitVec 32 := BitVec.ofNat 32 (i 0).val
  let v466 : Index := Scalar.indexCast arg0
  let c0_i32_28 : BitVec 32 := 0#32
  let c1_i32_30 : BitVec 32 := 1#32
  let arg11 : BitVec 32 := Scf.iv c0_i32_28 c1_i32_30 k0_t1
  let c1_i32_238 : BitVec 32 := 1#32
  let v440 : BitVec 32 := Scalar.addi arg11 c1_i32_238
  let c32_i32_253 : BitVec 32 := 32#32
  let v464 : BitVec 32 := Scalar.muli v440 c32_i32_253
  let c2_i32_254 : BitVec 32 := 2#32
  let v465 : BitVec 32 := Scalar.addi v464 c2_i32_254
  let v467 : Index := Scalar.indexCast v465
  ![v466.toNat, v467.toNat]
def k0_off75 (v1 : BitVec 32) (k0_t1 : Fin (k0_t1_loop v1).trips) : Fin 1 → Nat :=
  let c1_i32_239 : BitVec 32 := 1#32
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  ![v441.toNat]
def k0_off76 (v1 : BitVec 32) (k0_t1 : Fin (k0_t1_loop v1).trips) : Fin 4 → Nat :=
  let c1_i32_239 : BitVec 32 := 1#32
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  let c2_i32_255 : BitVec 32 := 2#32
  let c0_i32_256 : BitVec 32 := 0#32
  let c0_i32_257 : BitVec 32 := 0#32
  ![v441.toNat, 2, 0, 0]
def k0_off77 (v468 : BitVec 32) : Fin 3 → Nat :=
  let c0_i32_258 : BitVec 32 := 0#32
  let c0_i32_259 : BitVec 32 := 0#32
  ![v468.toNat, 0, 0]

def k0_chk36 (v1 : BitVec 32) (k0_t1 : Fin (k0_t1_loop v1).trips) (v468 : BitVec 32) : Prop :=
  (∀ (k0_h2 : k0_cond2 v1 k0_t1 = 1#1), ∀ a, (k0_off77 v468) a + S1x16x656.size a ≤ S40960x16x656.size a) ∧
  (∀ (k0_h2 : k0_cond2 v1 k0_t1 = 1#1), ∀ (hinb : ∀ a, (k0_off77 v468) a + S1x16x656.size a ≤ S40960x16x656.size a), (Rect.unit (s := S40960x16x656) (k0_off77 v468) S1x16x656.size hinb).WholeWords (EltTy.packing .i8))
theorem k0_off77_inb : ∀ (v1 : BitVec 32) (k0_t1 : Fin (k0_t1_loop v1).trips) (v468 : BitVec 32) (k0_hw36 : k0_chk36 v1 k0_t1 v468), ∀ (k0_h2 : k0_cond2 v1 k0_t1 = 1#1), ∀ a, (k0_off77 v468) a + S1x16x656.size a ≤ S40960x16x656.size a := fun v1 k0_t1 v468 k0_hw36 k0_h2 => k0_hw36.1 k0_h2
theorem k0_off77_wordsi8 : ∀ (v1 : BitVec 32) (k0_t1 : Fin (k0_t1_loop v1).trips) (v468 : BitVec 32) (k0_hw36 : k0_chk36 v1 k0_t1 v468), ∀ (k0_h2 : k0_cond2 v1 k0_t1 = 1#1), (Rect.unit (s := S40960x16x656) (k0_off77 v468) S1x16x656.size (k0_off77_inb v1 k0_t1 v468 k0_hw36 k0_h2)).WholeWords (EltTy.packing .i8) := fun v1 k0_t1 v468 k0_hw36 k0_h2 => k0_hw36.2 k0_h2 (k0_off77_inb v1 k0_t1 v468 k0_hw36 k0_h2)

def k0_off78 (i : grid0.Coords) (v1 : BitVec 32) (k0_t1 : Fin (k0_t1_loop v1).trips) : Fin 2 → Nat :=
  let arg0 : BitVec 32 := BitVec.ofNat 32 (i 0).val
  let v477 : Index := Scalar.indexCast arg0
  let c0_i32_28 : BitVec 32 := 0#32
  let c1_i32_30 : BitVec 32 := 1#32
  let arg11 : BitVec 32 := Scf.iv c0_i32_28 c1_i32_30 k0_t1
  let c1_i32_238 : BitVec 32 := 1#32
  let v440 : BitVec 32 := Scalar.addi arg11 c1_i32_238
  let c32_i32_260 : BitVec 32 := 32#32
  let v475 : BitVec 32 := Scalar.muli v440 c32_i32_260
  let c3_i32_261 : BitVec 32 := 3#32
  let v476 : BitVec 32 := Scalar.addi v475 c3_i32_261
  let v478 : Index := Scalar.indexCast v476
  ![v477.toNat, v478.toNat]
def k0_off79 (v1 : BitVec 32) (k0_t1 : Fin (k0_t1_loop v1).trips) : Fin 1 → Nat :=
  let c1_i32_239 : BitVec 32 := 1#32
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  ![v441.toNat]
def k0_off80 (v1 : BitVec 32) (k0_t1 : Fin (k0_t1_loop v1).trips) : Fin 4 → Nat :=
  let c1_i32_239 : BitVec 32 := 1#32
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  let c3_i32_262 : BitVec 32 := 3#32
  let c0_i32_263 : BitVec 32 := 0#32
  let c0_i32_264 : BitVec 32 := 0#32
  ![v441.toNat, 3, 0, 0]
def k0_off81 (v479 : BitVec 32) : Fin 3 → Nat :=
  let c0_i32_265 : BitVec 32 := 0#32
  let c0_i32_266 : BitVec 32 := 0#32
  ![v479.toNat, 0, 0]

def k0_chk37 (v1 : BitVec 32) (k0_t1 : Fin (k0_t1_loop v1).trips) (v479 : BitVec 32) : Prop :=
  (∀ (k0_h2 : k0_cond2 v1 k0_t1 = 1#1), ∀ a, (k0_off81 v479) a + S1x16x656.size a ≤ S40960x16x656.size a) ∧
  (∀ (k0_h2 : k0_cond2 v1 k0_t1 = 1#1), ∀ (hinb : ∀ a, (k0_off81 v479) a + S1x16x656.size a ≤ S40960x16x656.size a), (Rect.unit (s := S40960x16x656) (k0_off81 v479) S1x16x656.size hinb).WholeWords (EltTy.packing .i8))
theorem k0_off81_inb : ∀ (v1 : BitVec 32) (k0_t1 : Fin (k0_t1_loop v1).trips) (v479 : BitVec 32) (k0_hw37 : k0_chk37 v1 k0_t1 v479), ∀ (k0_h2 : k0_cond2 v1 k0_t1 = 1#1), ∀ a, (k0_off81 v479) a + S1x16x656.size a ≤ S40960x16x656.size a := fun v1 k0_t1 v479 k0_hw37 k0_h2 => k0_hw37.1 k0_h2
theorem k0_off81_wordsi8 : ∀ (v1 : BitVec 32) (k0_t1 : Fin (k0_t1_loop v1).trips) (v479 : BitVec 32) (k0_hw37 : k0_chk37 v1 k0_t1 v479), ∀ (k0_h2 : k0_cond2 v1 k0_t1 = 1#1), (Rect.unit (s := S40960x16x656) (k0_off81 v479) S1x16x656.size (k0_off81_inb v1 k0_t1 v479 k0_hw37 k0_h2)).WholeWords (EltTy.packing .i8) := fun v1 k0_t1 v479 k0_hw37 k0_h2 => k0_hw37.2 k0_h2 (k0_off81_inb v1 k0_t1 v479 k0_hw37 k0_h2)

def k0_off82 (i : grid0.Coords) (v1 : BitVec 32) (k0_t1 : Fin (k0_t1_loop v1).trips) : Fin 2 → Nat :=
  let arg0 : BitVec 32 := BitVec.ofNat 32 (i 0).val
  let v488 : Index := Scalar.indexCast arg0
  let c0_i32_28 : BitVec 32 := 0#32
  let c1_i32_30 : BitVec 32 := 1#32
  let arg11 : BitVec 32 := Scf.iv c0_i32_28 c1_i32_30 k0_t1
  let c1_i32_238 : BitVec 32 := 1#32
  let v440 : BitVec 32 := Scalar.addi arg11 c1_i32_238
  let c32_i32_267 : BitVec 32 := 32#32
  let v486 : BitVec 32 := Scalar.muli v440 c32_i32_267
  let c4_i32_268 : BitVec 32 := 4#32
  let v487 : BitVec 32 := Scalar.addi v486 c4_i32_268
  let v489 : Index := Scalar.indexCast v487
  ![v488.toNat, v489.toNat]
def k0_off83 (v1 : BitVec 32) (k0_t1 : Fin (k0_t1_loop v1).trips) : Fin 1 → Nat :=
  let c1_i32_239 : BitVec 32 := 1#32
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  ![v441.toNat]
def k0_off84 (v1 : BitVec 32) (k0_t1 : Fin (k0_t1_loop v1).trips) : Fin 4 → Nat :=
  let c1_i32_239 : BitVec 32 := 1#32
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  let c4_i32_269 : BitVec 32 := 4#32
  let c0_i32_270 : BitVec 32 := 0#32
  let c0_i32_271 : BitVec 32 := 0#32
  ![v441.toNat, 4, 0, 0]
def k0_off85 (v490 : BitVec 32) : Fin 3 → Nat :=
  let c0_i32_272 : BitVec 32 := 0#32
  let c0_i32_273 : BitVec 32 := 0#32
  ![v490.toNat, 0, 0]

def k0_chk38 (v1 : BitVec 32) (k0_t1 : Fin (k0_t1_loop v1).trips) (v490 : BitVec 32) : Prop :=
  (∀ (k0_h2 : k0_cond2 v1 k0_t1 = 1#1), ∀ a, (k0_off85 v490) a + S1x16x656.size a ≤ S40960x16x656.size a) ∧
  (∀ (k0_h2 : k0_cond2 v1 k0_t1 = 1#1), ∀ (hinb : ∀ a, (k0_off85 v490) a + S1x16x656.size a ≤ S40960x16x656.size a), (Rect.unit (s := S40960x16x656) (k0_off85 v490) S1x16x656.size hinb).WholeWords (EltTy.packing .i8))
theorem k0_off85_inb : ∀ (v1 : BitVec 32) (k0_t1 : Fin (k0_t1_loop v1).trips) (v490 : BitVec 32) (k0_hw38 : k0_chk38 v1 k0_t1 v490), ∀ (k0_h2 : k0_cond2 v1 k0_t1 = 1#1), ∀ a, (k0_off85 v490) a + S1x16x656.size a ≤ S40960x16x656.size a := fun v1 k0_t1 v490 k0_hw38 k0_h2 => k0_hw38.1 k0_h2
theorem k0_off85_wordsi8 : ∀ (v1 : BitVec 32) (k0_t1 : Fin (k0_t1_loop v1).trips) (v490 : BitVec 32) (k0_hw38 : k0_chk38 v1 k0_t1 v490), ∀ (k0_h2 : k0_cond2 v1 k0_t1 = 1#1), (Rect.unit (s := S40960x16x656) (k0_off85 v490) S1x16x656.size (k0_off85_inb v1 k0_t1 v490 k0_hw38 k0_h2)).WholeWords (EltTy.packing .i8) := fun v1 k0_t1 v490 k0_hw38 k0_h2 => k0_hw38.2 k0_h2 (k0_off85_inb v1 k0_t1 v490 k0_hw38 k0_h2)

def k0_off86 (i : grid0.Coords) (v1 : BitVec 32) (k0_t1 : Fin (k0_t1_loop v1).trips) : Fin 2 → Nat :=
  let arg0 : BitVec 32 := BitVec.ofNat 32 (i 0).val
  let v499 : Index := Scalar.indexCast arg0
  let c0_i32_28 : BitVec 32 := 0#32
  let c1_i32_30 : BitVec 32 := 1#32
  let arg11 : BitVec 32 := Scf.iv c0_i32_28 c1_i32_30 k0_t1
  let c1_i32_238 : BitVec 32 := 1#32
  let v440 : BitVec 32 := Scalar.addi arg11 c1_i32_238
  let c32_i32_274 : BitVec 32 := 32#32
  let v497 : BitVec 32 := Scalar.muli v440 c32_i32_274
  let c5_i32_275 : BitVec 32 := 5#32
  let v498 : BitVec 32 := Scalar.addi v497 c5_i32_275
  let v500 : Index := Scalar.indexCast v498
  ![v499.toNat, v500.toNat]
def k0_off87 (v1 : BitVec 32) (k0_t1 : Fin (k0_t1_loop v1).trips) : Fin 1 → Nat :=
  let c1_i32_239 : BitVec 32 := 1#32
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  ![v441.toNat]
def k0_off88 (v1 : BitVec 32) (k0_t1 : Fin (k0_t1_loop v1).trips) : Fin 4 → Nat :=
  let c1_i32_239 : BitVec 32 := 1#32
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  let c5_i32_276 : BitVec 32 := 5#32
  let c0_i32_277 : BitVec 32 := 0#32
  let c0_i32_278 : BitVec 32 := 0#32
  ![v441.toNat, 5, 0, 0]
def k0_off89 (v501 : BitVec 32) : Fin 3 → Nat :=
  let c0_i32_279 : BitVec 32 := 0#32
  let c0_i32_280 : BitVec 32 := 0#32
  ![v501.toNat, 0, 0]

def k0_chk39 (v1 : BitVec 32) (k0_t1 : Fin (k0_t1_loop v1).trips) (v501 : BitVec 32) : Prop :=
  (∀ (k0_h2 : k0_cond2 v1 k0_t1 = 1#1), ∀ a, (k0_off89 v501) a + S1x16x656.size a ≤ S40960x16x656.size a) ∧
  (∀ (k0_h2 : k0_cond2 v1 k0_t1 = 1#1), ∀ (hinb : ∀ a, (k0_off89 v501) a + S1x16x656.size a ≤ S40960x16x656.size a), (Rect.unit (s := S40960x16x656) (k0_off89 v501) S1x16x656.size hinb).WholeWords (EltTy.packing .i8))
theorem k0_off89_inb : ∀ (v1 : BitVec 32) (k0_t1 : Fin (k0_t1_loop v1).trips) (v501 : BitVec 32) (k0_hw39 : k0_chk39 v1 k0_t1 v501), ∀ (k0_h2 : k0_cond2 v1 k0_t1 = 1#1), ∀ a, (k0_off89 v501) a + S1x16x656.size a ≤ S40960x16x656.size a := fun v1 k0_t1 v501 k0_hw39 k0_h2 => k0_hw39.1 k0_h2
theorem k0_off89_wordsi8 : ∀ (v1 : BitVec 32) (k0_t1 : Fin (k0_t1_loop v1).trips) (v501 : BitVec 32) (k0_hw39 : k0_chk39 v1 k0_t1 v501), ∀ (k0_h2 : k0_cond2 v1 k0_t1 = 1#1), (Rect.unit (s := S40960x16x656) (k0_off89 v501) S1x16x656.size (k0_off89_inb v1 k0_t1 v501 k0_hw39 k0_h2)).WholeWords (EltTy.packing .i8) := fun v1 k0_t1 v501 k0_hw39 k0_h2 => k0_hw39.2 k0_h2 (k0_off89_inb v1 k0_t1 v501 k0_hw39 k0_h2)

def k0_off90 (i : grid0.Coords) (v1 : BitVec 32) (k0_t1 : Fin (k0_t1_loop v1).trips) : Fin 2 → Nat :=
  let arg0 : BitVec 32 := BitVec.ofNat 32 (i 0).val
  let v510 : Index := Scalar.indexCast arg0
  let c0_i32_28 : BitVec 32 := 0#32
  let c1_i32_30 : BitVec 32 := 1#32
  let arg11 : BitVec 32 := Scf.iv c0_i32_28 c1_i32_30 k0_t1
  let c1_i32_238 : BitVec 32 := 1#32
  let v440 : BitVec 32 := Scalar.addi arg11 c1_i32_238
  let c32_i32_281 : BitVec 32 := 32#32
  let v508 : BitVec 32 := Scalar.muli v440 c32_i32_281
  let c6_i32_282 : BitVec 32 := 6#32
  let v509 : BitVec 32 := Scalar.addi v508 c6_i32_282
  let v511 : Index := Scalar.indexCast v509
  ![v510.toNat, v511.toNat]
def k0_off91 (v1 : BitVec 32) (k0_t1 : Fin (k0_t1_loop v1).trips) : Fin 1 → Nat :=
  let c1_i32_239 : BitVec 32 := 1#32
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  ![v441.toNat]
def k0_off92 (v1 : BitVec 32) (k0_t1 : Fin (k0_t1_loop v1).trips) : Fin 4 → Nat :=
  let c1_i32_239 : BitVec 32 := 1#32
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  let c6_i32_283 : BitVec 32 := 6#32
  let c0_i32_284 : BitVec 32 := 0#32
  let c0_i32_285 : BitVec 32 := 0#32
  ![v441.toNat, 6, 0, 0]
def k0_off93 (v512 : BitVec 32) : Fin 3 → Nat :=
  let c0_i32_286 : BitVec 32 := 0#32
  let c0_i32_287 : BitVec 32 := 0#32
  ![v512.toNat, 0, 0]

def k0_chk40 (v1 : BitVec 32) (k0_t1 : Fin (k0_t1_loop v1).trips) (v512 : BitVec 32) : Prop :=
  (∀ (k0_h2 : k0_cond2 v1 k0_t1 = 1#1), ∀ a, (k0_off93 v512) a + S1x16x656.size a ≤ S40960x16x656.size a) ∧
  (∀ (k0_h2 : k0_cond2 v1 k0_t1 = 1#1), ∀ (hinb : ∀ a, (k0_off93 v512) a + S1x16x656.size a ≤ S40960x16x656.size a), (Rect.unit (s := S40960x16x656) (k0_off93 v512) S1x16x656.size hinb).WholeWords (EltTy.packing .i8))
theorem k0_off93_inb : ∀ (v1 : BitVec 32) (k0_t1 : Fin (k0_t1_loop v1).trips) (v512 : BitVec 32) (k0_hw40 : k0_chk40 v1 k0_t1 v512), ∀ (k0_h2 : k0_cond2 v1 k0_t1 = 1#1), ∀ a, (k0_off93 v512) a + S1x16x656.size a ≤ S40960x16x656.size a := fun v1 k0_t1 v512 k0_hw40 k0_h2 => k0_hw40.1 k0_h2
theorem k0_off93_wordsi8 : ∀ (v1 : BitVec 32) (k0_t1 : Fin (k0_t1_loop v1).trips) (v512 : BitVec 32) (k0_hw40 : k0_chk40 v1 k0_t1 v512), ∀ (k0_h2 : k0_cond2 v1 k0_t1 = 1#1), (Rect.unit (s := S40960x16x656) (k0_off93 v512) S1x16x656.size (k0_off93_inb v1 k0_t1 v512 k0_hw40 k0_h2)).WholeWords (EltTy.packing .i8) := fun v1 k0_t1 v512 k0_hw40 k0_h2 => k0_hw40.2 k0_h2 (k0_off93_inb v1 k0_t1 v512 k0_hw40 k0_h2)

def k0_off94 (i : grid0.Coords) (v1 : BitVec 32) (k0_t1 : Fin (k0_t1_loop v1).trips) : Fin 2 → Nat :=
  let arg0 : BitVec 32 := BitVec.ofNat 32 (i 0).val
  let v521 : Index := Scalar.indexCast arg0
  let c0_i32_28 : BitVec 32 := 0#32
  let c1_i32_30 : BitVec 32 := 1#32
  let arg11 : BitVec 32 := Scf.iv c0_i32_28 c1_i32_30 k0_t1
  let c1_i32_238 : BitVec 32 := 1#32
  let v440 : BitVec 32 := Scalar.addi arg11 c1_i32_238
  let c32_i32_288 : BitVec 32 := 32#32
  let v519 : BitVec 32 := Scalar.muli v440 c32_i32_288
  let c7_i32_289 : BitVec 32 := 7#32
  let v520 : BitVec 32 := Scalar.addi v519 c7_i32_289
  let v522 : Index := Scalar.indexCast v520
  ![v521.toNat, v522.toNat]
def k0_off95 (v1 : BitVec 32) (k0_t1 : Fin (k0_t1_loop v1).trips) : Fin 1 → Nat :=
  let c1_i32_239 : BitVec 32 := 1#32
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  ![v441.toNat]
def k0_off96 (v1 : BitVec 32) (k0_t1 : Fin (k0_t1_loop v1).trips) : Fin 4 → Nat :=
  let c1_i32_239 : BitVec 32 := 1#32
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  let c7_i32_290 : BitVec 32 := 7#32
  let c0_i32_291 : BitVec 32 := 0#32
  let c0_i32_292 : BitVec 32 := 0#32
  ![v441.toNat, 7, 0, 0]
def k0_off97 (v523 : BitVec 32) : Fin 3 → Nat :=
  let c0_i32_293 : BitVec 32 := 0#32
  let c0_i32_294 : BitVec 32 := 0#32
  ![v523.toNat, 0, 0]

def k0_chk41 (v1 : BitVec 32) (k0_t1 : Fin (k0_t1_loop v1).trips) (v523 : BitVec 32) : Prop :=
  (∀ (k0_h2 : k0_cond2 v1 k0_t1 = 1#1), ∀ a, (k0_off97 v523) a + S1x16x656.size a ≤ S40960x16x656.size a) ∧
  (∀ (k0_h2 : k0_cond2 v1 k0_t1 = 1#1), ∀ (hinb : ∀ a, (k0_off97 v523) a + S1x16x656.size a ≤ S40960x16x656.size a), (Rect.unit (s := S40960x16x656) (k0_off97 v523) S1x16x656.size hinb).WholeWords (EltTy.packing .i8))
theorem k0_off97_inb : ∀ (v1 : BitVec 32) (k0_t1 : Fin (k0_t1_loop v1).trips) (v523 : BitVec 32) (k0_hw41 : k0_chk41 v1 k0_t1 v523), ∀ (k0_h2 : k0_cond2 v1 k0_t1 = 1#1), ∀ a, (k0_off97 v523) a + S1x16x656.size a ≤ S40960x16x656.size a := fun v1 k0_t1 v523 k0_hw41 k0_h2 => k0_hw41.1 k0_h2
theorem k0_off97_wordsi8 : ∀ (v1 : BitVec 32) (k0_t1 : Fin (k0_t1_loop v1).trips) (v523 : BitVec 32) (k0_hw41 : k0_chk41 v1 k0_t1 v523), ∀ (k0_h2 : k0_cond2 v1 k0_t1 = 1#1), (Rect.unit (s := S40960x16x656) (k0_off97 v523) S1x16x656.size (k0_off97_inb v1 k0_t1 v523 k0_hw41 k0_h2)).WholeWords (EltTy.packing .i8) := fun v1 k0_t1 v523 k0_hw41 k0_h2 => k0_hw41.2 k0_h2 (k0_off97_inb v1 k0_t1 v523 k0_hw41 k0_h2)

def k0_off98 (i : grid0.Coords) (v1 : BitVec 32) (k0_t1 : Fin (k0_t1_loop v1).trips) : Fin 2 → Nat :=
  let arg0 : BitVec 32 := BitVec.ofNat 32 (i 0).val
  let v532 : Index := Scalar.indexCast arg0
  let c0_i32_28 : BitVec 32 := 0#32
  let c1_i32_30 : BitVec 32 := 1#32
  let arg11 : BitVec 32 := Scf.iv c0_i32_28 c1_i32_30 k0_t1
  let c1_i32_238 : BitVec 32 := 1#32
  let v440 : BitVec 32 := Scalar.addi arg11 c1_i32_238
  let c32_i32_295 : BitVec 32 := 32#32
  let v530 : BitVec 32 := Scalar.muli v440 c32_i32_295
  let c8_i32_296 : BitVec 32 := 8#32
  let v531 : BitVec 32 := Scalar.addi v530 c8_i32_296
  let v533 : Index := Scalar.indexCast v531
  ![v532.toNat, v533.toNat]
def k0_off99 (v1 : BitVec 32) (k0_t1 : Fin (k0_t1_loop v1).trips) : Fin 1 → Nat :=
  let c1_i32_239 : BitVec 32 := 1#32
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  ![v441.toNat]
def k0_off100 (v1 : BitVec 32) (k0_t1 : Fin (k0_t1_loop v1).trips) : Fin 4 → Nat :=
  let c1_i32_239 : BitVec 32 := 1#32
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  let c8_i32_297 : BitVec 32 := 8#32
  let c0_i32_298 : BitVec 32 := 0#32
  let c0_i32_299 : BitVec 32 := 0#32
  ![v441.toNat, 8, 0, 0]
def k0_off101 (v534 : BitVec 32) : Fin 3 → Nat :=
  let c0_i32_300 : BitVec 32 := 0#32
  let c0_i32_301 : BitVec 32 := 0#32
  ![v534.toNat, 0, 0]

def k0_chk42 (v1 : BitVec 32) (k0_t1 : Fin (k0_t1_loop v1).trips) (v534 : BitVec 32) : Prop :=
  (∀ (k0_h2 : k0_cond2 v1 k0_t1 = 1#1), ∀ a, (k0_off101 v534) a + S1x16x656.size a ≤ S40960x16x656.size a) ∧
  (∀ (k0_h2 : k0_cond2 v1 k0_t1 = 1#1), ∀ (hinb : ∀ a, (k0_off101 v534) a + S1x16x656.size a ≤ S40960x16x656.size a), (Rect.unit (s := S40960x16x656) (k0_off101 v534) S1x16x656.size hinb).WholeWords (EltTy.packing .i8))
theorem k0_off101_inb : ∀ (v1 : BitVec 32) (k0_t1 : Fin (k0_t1_loop v1).trips) (v534 : BitVec 32) (k0_hw42 : k0_chk42 v1 k0_t1 v534), ∀ (k0_h2 : k0_cond2 v1 k0_t1 = 1#1), ∀ a, (k0_off101 v534) a + S1x16x656.size a ≤ S40960x16x656.size a := fun v1 k0_t1 v534 k0_hw42 k0_h2 => k0_hw42.1 k0_h2
theorem k0_off101_wordsi8 : ∀ (v1 : BitVec 32) (k0_t1 : Fin (k0_t1_loop v1).trips) (v534 : BitVec 32) (k0_hw42 : k0_chk42 v1 k0_t1 v534), ∀ (k0_h2 : k0_cond2 v1 k0_t1 = 1#1), (Rect.unit (s := S40960x16x656) (k0_off101 v534) S1x16x656.size (k0_off101_inb v1 k0_t1 v534 k0_hw42 k0_h2)).WholeWords (EltTy.packing .i8) := fun v1 k0_t1 v534 k0_hw42 k0_h2 => k0_hw42.2 k0_h2 (k0_off101_inb v1 k0_t1 v534 k0_hw42 k0_h2)

def k0_off102 (i : grid0.Coords) (v1 : BitVec 32) (k0_t1 : Fin (k0_t1_loop v1).trips) : Fin 2 → Nat :=
  let arg0 : BitVec 32 := BitVec.ofNat 32 (i 0).val
  let v543 : Index := Scalar.indexCast arg0
  let c0_i32_28 : BitVec 32 := 0#32
  let c1_i32_30 : BitVec 32 := 1#32
  let arg11 : BitVec 32 := Scf.iv c0_i32_28 c1_i32_30 k0_t1
  let c1_i32_238 : BitVec 32 := 1#32
  let v440 : BitVec 32 := Scalar.addi arg11 c1_i32_238
  let c32_i32_302 : BitVec 32 := 32#32
  let v541 : BitVec 32 := Scalar.muli v440 c32_i32_302
  let c9_i32_303 : BitVec 32 := 9#32
  let v542 : BitVec 32 := Scalar.addi v541 c9_i32_303
  let v544 : Index := Scalar.indexCast v542
  ![v543.toNat, v544.toNat]
def k0_off103 (v1 : BitVec 32) (k0_t1 : Fin (k0_t1_loop v1).trips) : Fin 1 → Nat :=
  let c1_i32_239 : BitVec 32 := 1#32
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  ![v441.toNat]
def k0_off104 (v1 : BitVec 32) (k0_t1 : Fin (k0_t1_loop v1).trips) : Fin 4 → Nat :=
  let c1_i32_239 : BitVec 32 := 1#32
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  let c9_i32_304 : BitVec 32 := 9#32
  let c0_i32_305 : BitVec 32 := 0#32
  let c0_i32_306 : BitVec 32 := 0#32
  ![v441.toNat, 9, 0, 0]
def k0_off105 (v545 : BitVec 32) : Fin 3 → Nat :=
  let c0_i32_307 : BitVec 32 := 0#32
  let c0_i32_308 : BitVec 32 := 0#32
  ![v545.toNat, 0, 0]

def k0_chk43 (v1 : BitVec 32) (k0_t1 : Fin (k0_t1_loop v1).trips) (v545 : BitVec 32) : Prop :=
  (∀ (k0_h2 : k0_cond2 v1 k0_t1 = 1#1), ∀ a, (k0_off105 v545) a + S1x16x656.size a ≤ S40960x16x656.size a) ∧
  (∀ (k0_h2 : k0_cond2 v1 k0_t1 = 1#1), ∀ (hinb : ∀ a, (k0_off105 v545) a + S1x16x656.size a ≤ S40960x16x656.size a), (Rect.unit (s := S40960x16x656) (k0_off105 v545) S1x16x656.size hinb).WholeWords (EltTy.packing .i8))
theorem k0_off105_inb : ∀ (v1 : BitVec 32) (k0_t1 : Fin (k0_t1_loop v1).trips) (v545 : BitVec 32) (k0_hw43 : k0_chk43 v1 k0_t1 v545), ∀ (k0_h2 : k0_cond2 v1 k0_t1 = 1#1), ∀ a, (k0_off105 v545) a + S1x16x656.size a ≤ S40960x16x656.size a := fun v1 k0_t1 v545 k0_hw43 k0_h2 => k0_hw43.1 k0_h2
theorem k0_off105_wordsi8 : ∀ (v1 : BitVec 32) (k0_t1 : Fin (k0_t1_loop v1).trips) (v545 : BitVec 32) (k0_hw43 : k0_chk43 v1 k0_t1 v545), ∀ (k0_h2 : k0_cond2 v1 k0_t1 = 1#1), (Rect.unit (s := S40960x16x656) (k0_off105 v545) S1x16x656.size (k0_off105_inb v1 k0_t1 v545 k0_hw43 k0_h2)).WholeWords (EltTy.packing .i8) := fun v1 k0_t1 v545 k0_hw43 k0_h2 => k0_hw43.2 k0_h2 (k0_off105_inb v1 k0_t1 v545 k0_hw43 k0_h2)

def k0_off106 (i : grid0.Coords) (v1 : BitVec 32) (k0_t1 : Fin (k0_t1_loop v1).trips) : Fin 2 → Nat :=
  let arg0 : BitVec 32 := BitVec.ofNat 32 (i 0).val
  let v554 : Index := Scalar.indexCast arg0
  let c0_i32_28 : BitVec 32 := 0#32
  let c1_i32_30 : BitVec 32 := 1#32
  let arg11 : BitVec 32 := Scf.iv c0_i32_28 c1_i32_30 k0_t1
  let c1_i32_238 : BitVec 32 := 1#32
  let v440 : BitVec 32 := Scalar.addi arg11 c1_i32_238
  let c32_i32_309 : BitVec 32 := 32#32
  let v552 : BitVec 32 := Scalar.muli v440 c32_i32_309
  let c10_i32_310 : BitVec 32 := 10#32
  let v553 : BitVec 32 := Scalar.addi v552 c10_i32_310
  let v555 : Index := Scalar.indexCast v553
  ![v554.toNat, v555.toNat]
def k0_off107 (v1 : BitVec 32) (k0_t1 : Fin (k0_t1_loop v1).trips) : Fin 1 → Nat :=
  let c1_i32_239 : BitVec 32 := 1#32
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  ![v441.toNat]
def k0_off108 (v1 : BitVec 32) (k0_t1 : Fin (k0_t1_loop v1).trips) : Fin 4 → Nat :=
  let c1_i32_239 : BitVec 32 := 1#32
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  let c10_i32_311 : BitVec 32 := 10#32
  let c0_i32_312 : BitVec 32 := 0#32
  let c0_i32_313 : BitVec 32 := 0#32
  ![v441.toNat, 10, 0, 0]
def k0_off109 (v556 : BitVec 32) : Fin 3 → Nat :=
  let c0_i32_314 : BitVec 32 := 0#32
  let c0_i32_315 : BitVec 32 := 0#32
  ![v556.toNat, 0, 0]

def k0_chk44 (v1 : BitVec 32) (k0_t1 : Fin (k0_t1_loop v1).trips) (v556 : BitVec 32) : Prop :=
  (∀ (k0_h2 : k0_cond2 v1 k0_t1 = 1#1), ∀ a, (k0_off109 v556) a + S1x16x656.size a ≤ S40960x16x656.size a) ∧
  (∀ (k0_h2 : k0_cond2 v1 k0_t1 = 1#1), ∀ (hinb : ∀ a, (k0_off109 v556) a + S1x16x656.size a ≤ S40960x16x656.size a), (Rect.unit (s := S40960x16x656) (k0_off109 v556) S1x16x656.size hinb).WholeWords (EltTy.packing .i8))
theorem k0_off109_inb : ∀ (v1 : BitVec 32) (k0_t1 : Fin (k0_t1_loop v1).trips) (v556 : BitVec 32) (k0_hw44 : k0_chk44 v1 k0_t1 v556), ∀ (k0_h2 : k0_cond2 v1 k0_t1 = 1#1), ∀ a, (k0_off109 v556) a + S1x16x656.size a ≤ S40960x16x656.size a := fun v1 k0_t1 v556 k0_hw44 k0_h2 => k0_hw44.1 k0_h2
theorem k0_off109_wordsi8 : ∀ (v1 : BitVec 32) (k0_t1 : Fin (k0_t1_loop v1).trips) (v556 : BitVec 32) (k0_hw44 : k0_chk44 v1 k0_t1 v556), ∀ (k0_h2 : k0_cond2 v1 k0_t1 = 1#1), (Rect.unit (s := S40960x16x656) (k0_off109 v556) S1x16x656.size (k0_off109_inb v1 k0_t1 v556 k0_hw44 k0_h2)).WholeWords (EltTy.packing .i8) := fun v1 k0_t1 v556 k0_hw44 k0_h2 => k0_hw44.2 k0_h2 (k0_off109_inb v1 k0_t1 v556 k0_hw44 k0_h2)

def k0_off110 (i : grid0.Coords) (v1 : BitVec 32) (k0_t1 : Fin (k0_t1_loop v1).trips) : Fin 2 → Nat :=
  let arg0 : BitVec 32 := BitVec.ofNat 32 (i 0).val
  let v565 : Index := Scalar.indexCast arg0
  let c0_i32_28 : BitVec 32 := 0#32
  let c1_i32_30 : BitVec 32 := 1#32
  let arg11 : BitVec 32 := Scf.iv c0_i32_28 c1_i32_30 k0_t1
  let c1_i32_238 : BitVec 32 := 1#32
  let v440 : BitVec 32 := Scalar.addi arg11 c1_i32_238
  let c32_i32_316 : BitVec 32 := 32#32
  let v563 : BitVec 32 := Scalar.muli v440 c32_i32_316
  let c11_i32_317 : BitVec 32 := 11#32
  let v564 : BitVec 32 := Scalar.addi v563 c11_i32_317
  let v566 : Index := Scalar.indexCast v564
  ![v565.toNat, v566.toNat]
def k0_off111 (v1 : BitVec 32) (k0_t1 : Fin (k0_t1_loop v1).trips) : Fin 1 → Nat :=
  let c1_i32_239 : BitVec 32 := 1#32
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  ![v441.toNat]
def k0_off112 (v1 : BitVec 32) (k0_t1 : Fin (k0_t1_loop v1).trips) : Fin 4 → Nat :=
  let c1_i32_239 : BitVec 32 := 1#32
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  let c11_i32_318 : BitVec 32 := 11#32
  let c0_i32_319 : BitVec 32 := 0#32
  let c0_i32_320 : BitVec 32 := 0#32
  ![v441.toNat, 11, 0, 0]
def k0_off113 (v567 : BitVec 32) : Fin 3 → Nat :=
  let c0_i32_321 : BitVec 32 := 0#32
  let c0_i32_322 : BitVec 32 := 0#32
  ![v567.toNat, 0, 0]

def k0_chk45 (v1 : BitVec 32) (k0_t1 : Fin (k0_t1_loop v1).trips) (v567 : BitVec 32) : Prop :=
  (∀ (k0_h2 : k0_cond2 v1 k0_t1 = 1#1), ∀ a, (k0_off113 v567) a + S1x16x656.size a ≤ S40960x16x656.size a) ∧
  (∀ (k0_h2 : k0_cond2 v1 k0_t1 = 1#1), ∀ (hinb : ∀ a, (k0_off113 v567) a + S1x16x656.size a ≤ S40960x16x656.size a), (Rect.unit (s := S40960x16x656) (k0_off113 v567) S1x16x656.size hinb).WholeWords (EltTy.packing .i8))
theorem k0_off113_inb : ∀ (v1 : BitVec 32) (k0_t1 : Fin (k0_t1_loop v1).trips) (v567 : BitVec 32) (k0_hw45 : k0_chk45 v1 k0_t1 v567), ∀ (k0_h2 : k0_cond2 v1 k0_t1 = 1#1), ∀ a, (k0_off113 v567) a + S1x16x656.size a ≤ S40960x16x656.size a := fun v1 k0_t1 v567 k0_hw45 k0_h2 => k0_hw45.1 k0_h2
theorem k0_off113_wordsi8 : ∀ (v1 : BitVec 32) (k0_t1 : Fin (k0_t1_loop v1).trips) (v567 : BitVec 32) (k0_hw45 : k0_chk45 v1 k0_t1 v567), ∀ (k0_h2 : k0_cond2 v1 k0_t1 = 1#1), (Rect.unit (s := S40960x16x656) (k0_off113 v567) S1x16x656.size (k0_off113_inb v1 k0_t1 v567 k0_hw45 k0_h2)).WholeWords (EltTy.packing .i8) := fun v1 k0_t1 v567 k0_hw45 k0_h2 => k0_hw45.2 k0_h2 (k0_off113_inb v1 k0_t1 v567 k0_hw45 k0_h2)

def k0_off114 (i : grid0.Coords) (v1 : BitVec 32) (k0_t1 : Fin (k0_t1_loop v1).trips) : Fin 2 → Nat :=
  let arg0 : BitVec 32 := BitVec.ofNat 32 (i 0).val
  let v576 : Index := Scalar.indexCast arg0
  let c0_i32_28 : BitVec 32 := 0#32
  let c1_i32_30 : BitVec 32 := 1#32
  let arg11 : BitVec 32 := Scf.iv c0_i32_28 c1_i32_30 k0_t1
  let c1_i32_238 : BitVec 32 := 1#32
  let v440 : BitVec 32 := Scalar.addi arg11 c1_i32_238
  let c32_i32_323 : BitVec 32 := 32#32
  let v574 : BitVec 32 := Scalar.muli v440 c32_i32_323
  let c12_i32_324 : BitVec 32 := 12#32
  let v575 : BitVec 32 := Scalar.addi v574 c12_i32_324
  let v577 : Index := Scalar.indexCast v575
  ![v576.toNat, v577.toNat]
def k0_off115 (v1 : BitVec 32) (k0_t1 : Fin (k0_t1_loop v1).trips) : Fin 1 → Nat :=
  let c1_i32_239 : BitVec 32 := 1#32
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  ![v441.toNat]
def k0_off116 (v1 : BitVec 32) (k0_t1 : Fin (k0_t1_loop v1).trips) : Fin 4 → Nat :=
  let c1_i32_239 : BitVec 32 := 1#32
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  let c12_i32_325 : BitVec 32 := 12#32
  let c0_i32_326 : BitVec 32 := 0#32
  let c0_i32_327 : BitVec 32 := 0#32
  ![v441.toNat, 12, 0, 0]
def k0_off117 (v578 : BitVec 32) : Fin 3 → Nat :=
  let c0_i32_328 : BitVec 32 := 0#32
  let c0_i32_329 : BitVec 32 := 0#32
  ![v578.toNat, 0, 0]

def k0_chk46 (v1 : BitVec 32) (k0_t1 : Fin (k0_t1_loop v1).trips) (v578 : BitVec 32) : Prop :=
  (∀ (k0_h2 : k0_cond2 v1 k0_t1 = 1#1), ∀ a, (k0_off117 v578) a + S1x16x656.size a ≤ S40960x16x656.size a) ∧
  (∀ (k0_h2 : k0_cond2 v1 k0_t1 = 1#1), ∀ (hinb : ∀ a, (k0_off117 v578) a + S1x16x656.size a ≤ S40960x16x656.size a), (Rect.unit (s := S40960x16x656) (k0_off117 v578) S1x16x656.size hinb).WholeWords (EltTy.packing .i8))
theorem k0_off117_inb : ∀ (v1 : BitVec 32) (k0_t1 : Fin (k0_t1_loop v1).trips) (v578 : BitVec 32) (k0_hw46 : k0_chk46 v1 k0_t1 v578), ∀ (k0_h2 : k0_cond2 v1 k0_t1 = 1#1), ∀ a, (k0_off117 v578) a + S1x16x656.size a ≤ S40960x16x656.size a := fun v1 k0_t1 v578 k0_hw46 k0_h2 => k0_hw46.1 k0_h2
theorem k0_off117_wordsi8 : ∀ (v1 : BitVec 32) (k0_t1 : Fin (k0_t1_loop v1).trips) (v578 : BitVec 32) (k0_hw46 : k0_chk46 v1 k0_t1 v578), ∀ (k0_h2 : k0_cond2 v1 k0_t1 = 1#1), (Rect.unit (s := S40960x16x656) (k0_off117 v578) S1x16x656.size (k0_off117_inb v1 k0_t1 v578 k0_hw46 k0_h2)).WholeWords (EltTy.packing .i8) := fun v1 k0_t1 v578 k0_hw46 k0_h2 => k0_hw46.2 k0_h2 (k0_off117_inb v1 k0_t1 v578 k0_hw46 k0_h2)

def k0_off118 (i : grid0.Coords) (v1 : BitVec 32) (k0_t1 : Fin (k0_t1_loop v1).trips) : Fin 2 → Nat :=
  let arg0 : BitVec 32 := BitVec.ofNat 32 (i 0).val
  let v587 : Index := Scalar.indexCast arg0
  let c0_i32_28 : BitVec 32 := 0#32
  let c1_i32_30 : BitVec 32 := 1#32
  let arg11 : BitVec 32 := Scf.iv c0_i32_28 c1_i32_30 k0_t1
  let c1_i32_238 : BitVec 32 := 1#32
  let v440 : BitVec 32 := Scalar.addi arg11 c1_i32_238
  let c32_i32_330 : BitVec 32 := 32#32
  let v585 : BitVec 32 := Scalar.muli v440 c32_i32_330
  let c13_i32_331 : BitVec 32 := 13#32
  let v586 : BitVec 32 := Scalar.addi v585 c13_i32_331
  let v588 : Index := Scalar.indexCast v586
  ![v587.toNat, v588.toNat]
def k0_off119 (v1 : BitVec 32) (k0_t1 : Fin (k0_t1_loop v1).trips) : Fin 1 → Nat :=
  let c1_i32_239 : BitVec 32 := 1#32
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  ![v441.toNat]
def k0_off120 (v1 : BitVec 32) (k0_t1 : Fin (k0_t1_loop v1).trips) : Fin 4 → Nat :=
  let c1_i32_239 : BitVec 32 := 1#32
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  let c13_i32_332 : BitVec 32 := 13#32
  let c0_i32_333 : BitVec 32 := 0#32
  let c0_i32_334 : BitVec 32 := 0#32
  ![v441.toNat, 13, 0, 0]
def k0_off121 (v589 : BitVec 32) : Fin 3 → Nat :=
  let c0_i32_335 : BitVec 32 := 0#32
  let c0_i32_336 : BitVec 32 := 0#32
  ![v589.toNat, 0, 0]

def k0_chk47 (v1 : BitVec 32) (k0_t1 : Fin (k0_t1_loop v1).trips) (v589 : BitVec 32) : Prop :=
  (∀ (k0_h2 : k0_cond2 v1 k0_t1 = 1#1), ∀ a, (k0_off121 v589) a + S1x16x656.size a ≤ S40960x16x656.size a) ∧
  (∀ (k0_h2 : k0_cond2 v1 k0_t1 = 1#1), ∀ (hinb : ∀ a, (k0_off121 v589) a + S1x16x656.size a ≤ S40960x16x656.size a), (Rect.unit (s := S40960x16x656) (k0_off121 v589) S1x16x656.size hinb).WholeWords (EltTy.packing .i8))
theorem k0_off121_inb : ∀ (v1 : BitVec 32) (k0_t1 : Fin (k0_t1_loop v1).trips) (v589 : BitVec 32) (k0_hw47 : k0_chk47 v1 k0_t1 v589), ∀ (k0_h2 : k0_cond2 v1 k0_t1 = 1#1), ∀ a, (k0_off121 v589) a + S1x16x656.size a ≤ S40960x16x656.size a := fun v1 k0_t1 v589 k0_hw47 k0_h2 => k0_hw47.1 k0_h2
theorem k0_off121_wordsi8 : ∀ (v1 : BitVec 32) (k0_t1 : Fin (k0_t1_loop v1).trips) (v589 : BitVec 32) (k0_hw47 : k0_chk47 v1 k0_t1 v589), ∀ (k0_h2 : k0_cond2 v1 k0_t1 = 1#1), (Rect.unit (s := S40960x16x656) (k0_off121 v589) S1x16x656.size (k0_off121_inb v1 k0_t1 v589 k0_hw47 k0_h2)).WholeWords (EltTy.packing .i8) := fun v1 k0_t1 v589 k0_hw47 k0_h2 => k0_hw47.2 k0_h2 (k0_off121_inb v1 k0_t1 v589 k0_hw47 k0_h2)

def k0_off122 (i : grid0.Coords) (v1 : BitVec 32) (k0_t1 : Fin (k0_t1_loop v1).trips) : Fin 2 → Nat :=
  let arg0 : BitVec 32 := BitVec.ofNat 32 (i 0).val
  let v598 : Index := Scalar.indexCast arg0
  let c0_i32_28 : BitVec 32 := 0#32
  let c1_i32_30 : BitVec 32 := 1#32
  let arg11 : BitVec 32 := Scf.iv c0_i32_28 c1_i32_30 k0_t1
  let c1_i32_238 : BitVec 32 := 1#32
  let v440 : BitVec 32 := Scalar.addi arg11 c1_i32_238
  let c32_i32_337 : BitVec 32 := 32#32
  let v596 : BitVec 32 := Scalar.muli v440 c32_i32_337
  let c14_i32_338 : BitVec 32 := 14#32
  let v597 : BitVec 32 := Scalar.addi v596 c14_i32_338
  let v599 : Index := Scalar.indexCast v597
  ![v598.toNat, v599.toNat]
def k0_off123 (v1 : BitVec 32) (k0_t1 : Fin (k0_t1_loop v1).trips) : Fin 1 → Nat :=
  let c1_i32_239 : BitVec 32 := 1#32
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  ![v441.toNat]
def k0_off124 (v1 : BitVec 32) (k0_t1 : Fin (k0_t1_loop v1).trips) : Fin 4 → Nat :=
  let c1_i32_239 : BitVec 32 := 1#32
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  let c14_i32_339 : BitVec 32 := 14#32
  let c0_i32_340 : BitVec 32 := 0#32
  let c0_i32_341 : BitVec 32 := 0#32
  ![v441.toNat, 14, 0, 0]
def k0_off125 (v600 : BitVec 32) : Fin 3 → Nat :=
  let c0_i32_342 : BitVec 32 := 0#32
  let c0_i32_343 : BitVec 32 := 0#32
  ![v600.toNat, 0, 0]

def k0_chk48 (v1 : BitVec 32) (k0_t1 : Fin (k0_t1_loop v1).trips) (v600 : BitVec 32) : Prop :=
  (∀ (k0_h2 : k0_cond2 v1 k0_t1 = 1#1), ∀ a, (k0_off125 v600) a + S1x16x656.size a ≤ S40960x16x656.size a) ∧
  (∀ (k0_h2 : k0_cond2 v1 k0_t1 = 1#1), ∀ (hinb : ∀ a, (k0_off125 v600) a + S1x16x656.size a ≤ S40960x16x656.size a), (Rect.unit (s := S40960x16x656) (k0_off125 v600) S1x16x656.size hinb).WholeWords (EltTy.packing .i8))
theorem k0_off125_inb : ∀ (v1 : BitVec 32) (k0_t1 : Fin (k0_t1_loop v1).trips) (v600 : BitVec 32) (k0_hw48 : k0_chk48 v1 k0_t1 v600), ∀ (k0_h2 : k0_cond2 v1 k0_t1 = 1#1), ∀ a, (k0_off125 v600) a + S1x16x656.size a ≤ S40960x16x656.size a := fun v1 k0_t1 v600 k0_hw48 k0_h2 => k0_hw48.1 k0_h2
theorem k0_off125_wordsi8 : ∀ (v1 : BitVec 32) (k0_t1 : Fin (k0_t1_loop v1).trips) (v600 : BitVec 32) (k0_hw48 : k0_chk48 v1 k0_t1 v600), ∀ (k0_h2 : k0_cond2 v1 k0_t1 = 1#1), (Rect.unit (s := S40960x16x656) (k0_off125 v600) S1x16x656.size (k0_off125_inb v1 k0_t1 v600 k0_hw48 k0_h2)).WholeWords (EltTy.packing .i8) := fun v1 k0_t1 v600 k0_hw48 k0_h2 => k0_hw48.2 k0_h2 (k0_off125_inb v1 k0_t1 v600 k0_hw48 k0_h2)

def k0_off126 (i : grid0.Coords) (v1 : BitVec 32) (k0_t1 : Fin (k0_t1_loop v1).trips) : Fin 2 → Nat :=
  let arg0 : BitVec 32 := BitVec.ofNat 32 (i 0).val
  let v609 : Index := Scalar.indexCast arg0
  let c0_i32_28 : BitVec 32 := 0#32
  let c1_i32_30 : BitVec 32 := 1#32
  let arg11 : BitVec 32 := Scf.iv c0_i32_28 c1_i32_30 k0_t1
  let c1_i32_238 : BitVec 32 := 1#32
  let v440 : BitVec 32 := Scalar.addi arg11 c1_i32_238
  let c32_i32_344 : BitVec 32 := 32#32
  let v607 : BitVec 32 := Scalar.muli v440 c32_i32_344
  let c15_i32_345 : BitVec 32 := 15#32
  let v608 : BitVec 32 := Scalar.addi v607 c15_i32_345
  let v610 : Index := Scalar.indexCast v608
  ![v609.toNat, v610.toNat]
def k0_off127 (v1 : BitVec 32) (k0_t1 : Fin (k0_t1_loop v1).trips) : Fin 1 → Nat :=
  let c1_i32_239 : BitVec 32 := 1#32
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  ![v441.toNat]
def k0_off128 (v1 : BitVec 32) (k0_t1 : Fin (k0_t1_loop v1).trips) : Fin 4 → Nat :=
  let c1_i32_239 : BitVec 32 := 1#32
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  let c15_i32_346 : BitVec 32 := 15#32
  let c0_i32_347 : BitVec 32 := 0#32
  let c0_i32_348 : BitVec 32 := 0#32
  ![v441.toNat, 15, 0, 0]
def k0_off129 (v611 : BitVec 32) : Fin 3 → Nat :=
  let c0_i32_349 : BitVec 32 := 0#32
  let c0_i32_350 : BitVec 32 := 0#32
  ![v611.toNat, 0, 0]

def k0_chk49 (v1 : BitVec 32) (k0_t1 : Fin (k0_t1_loop v1).trips) (v611 : BitVec 32) : Prop :=
  (∀ (k0_h2 : k0_cond2 v1 k0_t1 = 1#1), ∀ a, (k0_off129 v611) a + S1x16x656.size a ≤ S40960x16x656.size a) ∧
  (∀ (k0_h2 : k0_cond2 v1 k0_t1 = 1#1), ∀ (hinb : ∀ a, (k0_off129 v611) a + S1x16x656.size a ≤ S40960x16x656.size a), (Rect.unit (s := S40960x16x656) (k0_off129 v611) S1x16x656.size hinb).WholeWords (EltTy.packing .i8))
theorem k0_off129_inb : ∀ (v1 : BitVec 32) (k0_t1 : Fin (k0_t1_loop v1).trips) (v611 : BitVec 32) (k0_hw49 : k0_chk49 v1 k0_t1 v611), ∀ (k0_h2 : k0_cond2 v1 k0_t1 = 1#1), ∀ a, (k0_off129 v611) a + S1x16x656.size a ≤ S40960x16x656.size a := fun v1 k0_t1 v611 k0_hw49 k0_h2 => k0_hw49.1 k0_h2
theorem k0_off129_wordsi8 : ∀ (v1 : BitVec 32) (k0_t1 : Fin (k0_t1_loop v1).trips) (v611 : BitVec 32) (k0_hw49 : k0_chk49 v1 k0_t1 v611), ∀ (k0_h2 : k0_cond2 v1 k0_t1 = 1#1), (Rect.unit (s := S40960x16x656) (k0_off129 v611) S1x16x656.size (k0_off129_inb v1 k0_t1 v611 k0_hw49 k0_h2)).WholeWords (EltTy.packing .i8) := fun v1 k0_t1 v611 k0_hw49 k0_h2 => k0_hw49.2 k0_h2 (k0_off129_inb v1 k0_t1 v611 k0_hw49 k0_h2)

def k0_off130 (i : grid0.Coords) (v1 : BitVec 32) (k0_t1 : Fin (k0_t1_loop v1).trips) : Fin 2 → Nat :=
  let arg0 : BitVec 32 := BitVec.ofNat 32 (i 0).val
  let v620 : Index := Scalar.indexCast arg0
  let c0_i32_28 : BitVec 32 := 0#32
  let c1_i32_30 : BitVec 32 := 1#32
  let arg11 : BitVec 32 := Scf.iv c0_i32_28 c1_i32_30 k0_t1
  let c1_i32_238 : BitVec 32 := 1#32
  let v440 : BitVec 32 := Scalar.addi arg11 c1_i32_238
  let c32_i32_351 : BitVec 32 := 32#32
  let v618 : BitVec 32 := Scalar.muli v440 c32_i32_351
  let c16_i32_352 : BitVec 32 := 16#32
  let v619 : BitVec 32 := Scalar.addi v618 c16_i32_352
  let v621 : Index := Scalar.indexCast v619
  ![v620.toNat, v621.toNat]
def k0_off131 (v1 : BitVec 32) (k0_t1 : Fin (k0_t1_loop v1).trips) : Fin 1 → Nat :=
  let c1_i32_239 : BitVec 32 := 1#32
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  ![v441.toNat]
def k0_off132 (v1 : BitVec 32) (k0_t1 : Fin (k0_t1_loop v1).trips) : Fin 4 → Nat :=
  let c1_i32_239 : BitVec 32 := 1#32
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  let c16_i32_353 : BitVec 32 := 16#32
  let c0_i32_354 : BitVec 32 := 0#32
  let c0_i32_355 : BitVec 32 := 0#32
  ![v441.toNat, 16, 0, 0]
def k0_off133 (v622 : BitVec 32) : Fin 3 → Nat :=
  let c0_i32_356 : BitVec 32 := 0#32
  let c0_i32_357 : BitVec 32 := 0#32
  ![v622.toNat, 0, 0]

def k0_chk50 (v1 : BitVec 32) (k0_t1 : Fin (k0_t1_loop v1).trips) (v622 : BitVec 32) : Prop :=
  (∀ (k0_h2 : k0_cond2 v1 k0_t1 = 1#1), ∀ a, (k0_off133 v622) a + S1x16x656.size a ≤ S40960x16x656.size a) ∧
  (∀ (k0_h2 : k0_cond2 v1 k0_t1 = 1#1), ∀ (hinb : ∀ a, (k0_off133 v622) a + S1x16x656.size a ≤ S40960x16x656.size a), (Rect.unit (s := S40960x16x656) (k0_off133 v622) S1x16x656.size hinb).WholeWords (EltTy.packing .i8))
theorem k0_off133_inb : ∀ (v1 : BitVec 32) (k0_t1 : Fin (k0_t1_loop v1).trips) (v622 : BitVec 32) (k0_hw50 : k0_chk50 v1 k0_t1 v622), ∀ (k0_h2 : k0_cond2 v1 k0_t1 = 1#1), ∀ a, (k0_off133 v622) a + S1x16x656.size a ≤ S40960x16x656.size a := fun v1 k0_t1 v622 k0_hw50 k0_h2 => k0_hw50.1 k0_h2
theorem k0_off133_wordsi8 : ∀ (v1 : BitVec 32) (k0_t1 : Fin (k0_t1_loop v1).trips) (v622 : BitVec 32) (k0_hw50 : k0_chk50 v1 k0_t1 v622), ∀ (k0_h2 : k0_cond2 v1 k0_t1 = 1#1), (Rect.unit (s := S40960x16x656) (k0_off133 v622) S1x16x656.size (k0_off133_inb v1 k0_t1 v622 k0_hw50 k0_h2)).WholeWords (EltTy.packing .i8) := fun v1 k0_t1 v622 k0_hw50 k0_h2 => k0_hw50.2 k0_h2 (k0_off133_inb v1 k0_t1 v622 k0_hw50 k0_h2)

def k0_off134 (i : grid0.Coords) (v1 : BitVec 32) (k0_t1 : Fin (k0_t1_loop v1).trips) : Fin 2 → Nat :=
  let arg0 : BitVec 32 := BitVec.ofNat 32 (i 0).val
  let v631 : Index := Scalar.indexCast arg0
  let c0_i32_28 : BitVec 32 := 0#32
  let c1_i32_30 : BitVec 32 := 1#32
  let arg11 : BitVec 32 := Scf.iv c0_i32_28 c1_i32_30 k0_t1
  let c1_i32_238 : BitVec 32 := 1#32
  let v440 : BitVec 32 := Scalar.addi arg11 c1_i32_238
  let c32_i32_358 : BitVec 32 := 32#32
  let v629 : BitVec 32 := Scalar.muli v440 c32_i32_358
  let c17_i32_359 : BitVec 32 := 17#32
  let v630 : BitVec 32 := Scalar.addi v629 c17_i32_359
  let v632 : Index := Scalar.indexCast v630
  ![v631.toNat, v632.toNat]
def k0_off135 (v1 : BitVec 32) (k0_t1 : Fin (k0_t1_loop v1).trips) : Fin 1 → Nat :=
  let c1_i32_239 : BitVec 32 := 1#32
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  ![v441.toNat]
def k0_off136 (v1 : BitVec 32) (k0_t1 : Fin (k0_t1_loop v1).trips) : Fin 4 → Nat :=
  let c1_i32_239 : BitVec 32 := 1#32
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  let c17_i32_360 : BitVec 32 := 17#32
  let c0_i32_361 : BitVec 32 := 0#32
  let c0_i32_362 : BitVec 32 := 0#32
  ![v441.toNat, 17, 0, 0]
def k0_off137 (v633 : BitVec 32) : Fin 3 → Nat :=
  let c0_i32_363 : BitVec 32 := 0#32
  let c0_i32_364 : BitVec 32 := 0#32
  ![v633.toNat, 0, 0]

def k0_chk51 (v1 : BitVec 32) (k0_t1 : Fin (k0_t1_loop v1).trips) (v633 : BitVec 32) : Prop :=
  (∀ (k0_h2 : k0_cond2 v1 k0_t1 = 1#1), ∀ a, (k0_off137 v633) a + S1x16x656.size a ≤ S40960x16x656.size a) ∧
  (∀ (k0_h2 : k0_cond2 v1 k0_t1 = 1#1), ∀ (hinb : ∀ a, (k0_off137 v633) a + S1x16x656.size a ≤ S40960x16x656.size a), (Rect.unit (s := S40960x16x656) (k0_off137 v633) S1x16x656.size hinb).WholeWords (EltTy.packing .i8))
theorem k0_off137_inb : ∀ (v1 : BitVec 32) (k0_t1 : Fin (k0_t1_loop v1).trips) (v633 : BitVec 32) (k0_hw51 : k0_chk51 v1 k0_t1 v633), ∀ (k0_h2 : k0_cond2 v1 k0_t1 = 1#1), ∀ a, (k0_off137 v633) a + S1x16x656.size a ≤ S40960x16x656.size a := fun v1 k0_t1 v633 k0_hw51 k0_h2 => k0_hw51.1 k0_h2
theorem k0_off137_wordsi8 : ∀ (v1 : BitVec 32) (k0_t1 : Fin (k0_t1_loop v1).trips) (v633 : BitVec 32) (k0_hw51 : k0_chk51 v1 k0_t1 v633), ∀ (k0_h2 : k0_cond2 v1 k0_t1 = 1#1), (Rect.unit (s := S40960x16x656) (k0_off137 v633) S1x16x656.size (k0_off137_inb v1 k0_t1 v633 k0_hw51 k0_h2)).WholeWords (EltTy.packing .i8) := fun v1 k0_t1 v633 k0_hw51 k0_h2 => k0_hw51.2 k0_h2 (k0_off137_inb v1 k0_t1 v633 k0_hw51 k0_h2)

def k0_off138 (i : grid0.Coords) (v1 : BitVec 32) (k0_t1 : Fin (k0_t1_loop v1).trips) : Fin 2 → Nat :=
  let arg0 : BitVec 32 := BitVec.ofNat 32 (i 0).val
  let v642 : Index := Scalar.indexCast arg0
  let c0_i32_28 : BitVec 32 := 0#32
  let c1_i32_30 : BitVec 32 := 1#32
  let arg11 : BitVec 32 := Scf.iv c0_i32_28 c1_i32_30 k0_t1
  let c1_i32_238 : BitVec 32 := 1#32
  let v440 : BitVec 32 := Scalar.addi arg11 c1_i32_238
  let c32_i32_365 : BitVec 32 := 32#32
  let v640 : BitVec 32 := Scalar.muli v440 c32_i32_365
  let c18_i32_366 : BitVec 32 := 18#32
  let v641 : BitVec 32 := Scalar.addi v640 c18_i32_366
  let v643 : Index := Scalar.indexCast v641
  ![v642.toNat, v643.toNat]
def k0_off139 (v1 : BitVec 32) (k0_t1 : Fin (k0_t1_loop v1).trips) : Fin 1 → Nat :=
  let c1_i32_239 : BitVec 32 := 1#32
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  ![v441.toNat]
def k0_off140 (v1 : BitVec 32) (k0_t1 : Fin (k0_t1_loop v1).trips) : Fin 4 → Nat :=
  let c1_i32_239 : BitVec 32 := 1#32
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  let c18_i32_367 : BitVec 32 := 18#32
  let c0_i32_368 : BitVec 32 := 0#32
  let c0_i32_369 : BitVec 32 := 0#32
  ![v441.toNat, 18, 0, 0]
def k0_off141 (v644 : BitVec 32) : Fin 3 → Nat :=
  let c0_i32_370 : BitVec 32 := 0#32
  let c0_i32_371 : BitVec 32 := 0#32
  ![v644.toNat, 0, 0]

def k0_chk52 (v1 : BitVec 32) (k0_t1 : Fin (k0_t1_loop v1).trips) (v644 : BitVec 32) : Prop :=
  (∀ (k0_h2 : k0_cond2 v1 k0_t1 = 1#1), ∀ a, (k0_off141 v644) a + S1x16x656.size a ≤ S40960x16x656.size a) ∧
  (∀ (k0_h2 : k0_cond2 v1 k0_t1 = 1#1), ∀ (hinb : ∀ a, (k0_off141 v644) a + S1x16x656.size a ≤ S40960x16x656.size a), (Rect.unit (s := S40960x16x656) (k0_off141 v644) S1x16x656.size hinb).WholeWords (EltTy.packing .i8))
theorem k0_off141_inb : ∀ (v1 : BitVec 32) (k0_t1 : Fin (k0_t1_loop v1).trips) (v644 : BitVec 32) (k0_hw52 : k0_chk52 v1 k0_t1 v644), ∀ (k0_h2 : k0_cond2 v1 k0_t1 = 1#1), ∀ a, (k0_off141 v644) a + S1x16x656.size a ≤ S40960x16x656.size a := fun v1 k0_t1 v644 k0_hw52 k0_h2 => k0_hw52.1 k0_h2
theorem k0_off141_wordsi8 : ∀ (v1 : BitVec 32) (k0_t1 : Fin (k0_t1_loop v1).trips) (v644 : BitVec 32) (k0_hw52 : k0_chk52 v1 k0_t1 v644), ∀ (k0_h2 : k0_cond2 v1 k0_t1 = 1#1), (Rect.unit (s := S40960x16x656) (k0_off141 v644) S1x16x656.size (k0_off141_inb v1 k0_t1 v644 k0_hw52 k0_h2)).WholeWords (EltTy.packing .i8) := fun v1 k0_t1 v644 k0_hw52 k0_h2 => k0_hw52.2 k0_h2 (k0_off141_inb v1 k0_t1 v644 k0_hw52 k0_h2)

def k0_off142 (i : grid0.Coords) (v1 : BitVec 32) (k0_t1 : Fin (k0_t1_loop v1).trips) : Fin 2 → Nat :=
  let arg0 : BitVec 32 := BitVec.ofNat 32 (i 0).val
  let v653 : Index := Scalar.indexCast arg0
  let c0_i32_28 : BitVec 32 := 0#32
  let c1_i32_30 : BitVec 32 := 1#32
  let arg11 : BitVec 32 := Scf.iv c0_i32_28 c1_i32_30 k0_t1
  let c1_i32_238 : BitVec 32 := 1#32
  let v440 : BitVec 32 := Scalar.addi arg11 c1_i32_238
  let c32_i32_372 : BitVec 32 := 32#32
  let v651 : BitVec 32 := Scalar.muli v440 c32_i32_372
  let c19_i32_373 : BitVec 32 := 19#32
  let v652 : BitVec 32 := Scalar.addi v651 c19_i32_373
  let v654 : Index := Scalar.indexCast v652
  ![v653.toNat, v654.toNat]
def k0_off143 (v1 : BitVec 32) (k0_t1 : Fin (k0_t1_loop v1).trips) : Fin 1 → Nat :=
  let c1_i32_239 : BitVec 32 := 1#32
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  ![v441.toNat]
def k0_off144 (v1 : BitVec 32) (k0_t1 : Fin (k0_t1_loop v1).trips) : Fin 4 → Nat :=
  let c1_i32_239 : BitVec 32 := 1#32
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  let c19_i32_374 : BitVec 32 := 19#32
  let c0_i32_375 : BitVec 32 := 0#32
  let c0_i32_376 : BitVec 32 := 0#32
  ![v441.toNat, 19, 0, 0]
def k0_off145 (v655 : BitVec 32) : Fin 3 → Nat :=
  let c0_i32_377 : BitVec 32 := 0#32
  let c0_i32_378 : BitVec 32 := 0#32
  ![v655.toNat, 0, 0]

def k0_chk53 (v1 : BitVec 32) (k0_t1 : Fin (k0_t1_loop v1).trips) (v655 : BitVec 32) : Prop :=
  (∀ (k0_h2 : k0_cond2 v1 k0_t1 = 1#1), ∀ a, (k0_off145 v655) a + S1x16x656.size a ≤ S40960x16x656.size a) ∧
  (∀ (k0_h2 : k0_cond2 v1 k0_t1 = 1#1), ∀ (hinb : ∀ a, (k0_off145 v655) a + S1x16x656.size a ≤ S40960x16x656.size a), (Rect.unit (s := S40960x16x656) (k0_off145 v655) S1x16x656.size hinb).WholeWords (EltTy.packing .i8))
theorem k0_off145_inb : ∀ (v1 : BitVec 32) (k0_t1 : Fin (k0_t1_loop v1).trips) (v655 : BitVec 32) (k0_hw53 : k0_chk53 v1 k0_t1 v655), ∀ (k0_h2 : k0_cond2 v1 k0_t1 = 1#1), ∀ a, (k0_off145 v655) a + S1x16x656.size a ≤ S40960x16x656.size a := fun v1 k0_t1 v655 k0_hw53 k0_h2 => k0_hw53.1 k0_h2
theorem k0_off145_wordsi8 : ∀ (v1 : BitVec 32) (k0_t1 : Fin (k0_t1_loop v1).trips) (v655 : BitVec 32) (k0_hw53 : k0_chk53 v1 k0_t1 v655), ∀ (k0_h2 : k0_cond2 v1 k0_t1 = 1#1), (Rect.unit (s := S40960x16x656) (k0_off145 v655) S1x16x656.size (k0_off145_inb v1 k0_t1 v655 k0_hw53 k0_h2)).WholeWords (EltTy.packing .i8) := fun v1 k0_t1 v655 k0_hw53 k0_h2 => k0_hw53.2 k0_h2 (k0_off145_inb v1 k0_t1 v655 k0_hw53 k0_h2)

def k0_off146 (i : grid0.Coords) (v1 : BitVec 32) (k0_t1 : Fin (k0_t1_loop v1).trips) : Fin 2 → Nat :=
  let arg0 : BitVec 32 := BitVec.ofNat 32 (i 0).val
  let v664 : Index := Scalar.indexCast arg0
  let c0_i32_28 : BitVec 32 := 0#32
  let c1_i32_30 : BitVec 32 := 1#32
  let arg11 : BitVec 32 := Scf.iv c0_i32_28 c1_i32_30 k0_t1
  let c1_i32_238 : BitVec 32 := 1#32
  let v440 : BitVec 32 := Scalar.addi arg11 c1_i32_238
  let c32_i32_379 : BitVec 32 := 32#32
  let v662 : BitVec 32 := Scalar.muli v440 c32_i32_379
  let c20_i32_380 : BitVec 32 := 20#32
  let v663 : BitVec 32 := Scalar.addi v662 c20_i32_380
  let v665 : Index := Scalar.indexCast v663
  ![v664.toNat, v665.toNat]
def k0_off147 (v1 : BitVec 32) (k0_t1 : Fin (k0_t1_loop v1).trips) : Fin 1 → Nat :=
  let c1_i32_239 : BitVec 32 := 1#32
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  ![v441.toNat]
def k0_off148 (v1 : BitVec 32) (k0_t1 : Fin (k0_t1_loop v1).trips) : Fin 4 → Nat :=
  let c1_i32_239 : BitVec 32 := 1#32
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  let c20_i32_381 : BitVec 32 := 20#32
  let c0_i32_382 : BitVec 32 := 0#32
  let c0_i32_383 : BitVec 32 := 0#32
  ![v441.toNat, 20, 0, 0]
def k0_off149 (v666 : BitVec 32) : Fin 3 → Nat :=
  let c0_i32_384 : BitVec 32 := 0#32
  let c0_i32_385 : BitVec 32 := 0#32
  ![v666.toNat, 0, 0]

def k0_chk54 (v1 : BitVec 32) (k0_t1 : Fin (k0_t1_loop v1).trips) (v666 : BitVec 32) : Prop :=
  (∀ (k0_h2 : k0_cond2 v1 k0_t1 = 1#1), ∀ a, (k0_off149 v666) a + S1x16x656.size a ≤ S40960x16x656.size a) ∧
  (∀ (k0_h2 : k0_cond2 v1 k0_t1 = 1#1), ∀ (hinb : ∀ a, (k0_off149 v666) a + S1x16x656.size a ≤ S40960x16x656.size a), (Rect.unit (s := S40960x16x656) (k0_off149 v666) S1x16x656.size hinb).WholeWords (EltTy.packing .i8))
theorem k0_off149_inb : ∀ (v1 : BitVec 32) (k0_t1 : Fin (k0_t1_loop v1).trips) (v666 : BitVec 32) (k0_hw54 : k0_chk54 v1 k0_t1 v666), ∀ (k0_h2 : k0_cond2 v1 k0_t1 = 1#1), ∀ a, (k0_off149 v666) a + S1x16x656.size a ≤ S40960x16x656.size a := fun v1 k0_t1 v666 k0_hw54 k0_h2 => k0_hw54.1 k0_h2
theorem k0_off149_wordsi8 : ∀ (v1 : BitVec 32) (k0_t1 : Fin (k0_t1_loop v1).trips) (v666 : BitVec 32) (k0_hw54 : k0_chk54 v1 k0_t1 v666), ∀ (k0_h2 : k0_cond2 v1 k0_t1 = 1#1), (Rect.unit (s := S40960x16x656) (k0_off149 v666) S1x16x656.size (k0_off149_inb v1 k0_t1 v666 k0_hw54 k0_h2)).WholeWords (EltTy.packing .i8) := fun v1 k0_t1 v666 k0_hw54 k0_h2 => k0_hw54.2 k0_h2 (k0_off149_inb v1 k0_t1 v666 k0_hw54 k0_h2)

def k0_off150 (i : grid0.Coords) (v1 : BitVec 32) (k0_t1 : Fin (k0_t1_loop v1).trips) : Fin 2 → Nat :=
  let arg0 : BitVec 32 := BitVec.ofNat 32 (i 0).val
  let v675 : Index := Scalar.indexCast arg0
  let c0_i32_28 : BitVec 32 := 0#32
  let c1_i32_30 : BitVec 32 := 1#32
  let arg11 : BitVec 32 := Scf.iv c0_i32_28 c1_i32_30 k0_t1
  let c1_i32_238 : BitVec 32 := 1#32
  let v440 : BitVec 32 := Scalar.addi arg11 c1_i32_238
  let c32_i32_386 : BitVec 32 := 32#32
  let v673 : BitVec 32 := Scalar.muli v440 c32_i32_386
  let c21_i32_387 : BitVec 32 := 21#32
  let v674 : BitVec 32 := Scalar.addi v673 c21_i32_387
  let v676 : Index := Scalar.indexCast v674
  ![v675.toNat, v676.toNat]
def k0_off151 (v1 : BitVec 32) (k0_t1 : Fin (k0_t1_loop v1).trips) : Fin 1 → Nat :=
  let c1_i32_239 : BitVec 32 := 1#32
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  ![v441.toNat]
def k0_off152 (v1 : BitVec 32) (k0_t1 : Fin (k0_t1_loop v1).trips) : Fin 4 → Nat :=
  let c1_i32_239 : BitVec 32 := 1#32
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  let c21_i32_388 : BitVec 32 := 21#32
  let c0_i32_389 : BitVec 32 := 0#32
  let c0_i32_390 : BitVec 32 := 0#32
  ![v441.toNat, 21, 0, 0]
def k0_off153 (v677 : BitVec 32) : Fin 3 → Nat :=
  let c0_i32_391 : BitVec 32 := 0#32
  let c0_i32_392 : BitVec 32 := 0#32
  ![v677.toNat, 0, 0]

def k0_chk55 (v1 : BitVec 32) (k0_t1 : Fin (k0_t1_loop v1).trips) (v677 : BitVec 32) : Prop :=
  (∀ (k0_h2 : k0_cond2 v1 k0_t1 = 1#1), ∀ a, (k0_off153 v677) a + S1x16x656.size a ≤ S40960x16x656.size a) ∧
  (∀ (k0_h2 : k0_cond2 v1 k0_t1 = 1#1), ∀ (hinb : ∀ a, (k0_off153 v677) a + S1x16x656.size a ≤ S40960x16x656.size a), (Rect.unit (s := S40960x16x656) (k0_off153 v677) S1x16x656.size hinb).WholeWords (EltTy.packing .i8))
theorem k0_off153_inb : ∀ (v1 : BitVec 32) (k0_t1 : Fin (k0_t1_loop v1).trips) (v677 : BitVec 32) (k0_hw55 : k0_chk55 v1 k0_t1 v677), ∀ (k0_h2 : k0_cond2 v1 k0_t1 = 1#1), ∀ a, (k0_off153 v677) a + S1x16x656.size a ≤ S40960x16x656.size a := fun v1 k0_t1 v677 k0_hw55 k0_h2 => k0_hw55.1 k0_h2
theorem k0_off153_wordsi8 : ∀ (v1 : BitVec 32) (k0_t1 : Fin (k0_t1_loop v1).trips) (v677 : BitVec 32) (k0_hw55 : k0_chk55 v1 k0_t1 v677), ∀ (k0_h2 : k0_cond2 v1 k0_t1 = 1#1), (Rect.unit (s := S40960x16x656) (k0_off153 v677) S1x16x656.size (k0_off153_inb v1 k0_t1 v677 k0_hw55 k0_h2)).WholeWords (EltTy.packing .i8) := fun v1 k0_t1 v677 k0_hw55 k0_h2 => k0_hw55.2 k0_h2 (k0_off153_inb v1 k0_t1 v677 k0_hw55 k0_h2)

def k0_off154 (i : grid0.Coords) (v1 : BitVec 32) (k0_t1 : Fin (k0_t1_loop v1).trips) : Fin 2 → Nat :=
  let arg0 : BitVec 32 := BitVec.ofNat 32 (i 0).val
  let v686 : Index := Scalar.indexCast arg0
  let c0_i32_28 : BitVec 32 := 0#32
  let c1_i32_30 : BitVec 32 := 1#32
  let arg11 : BitVec 32 := Scf.iv c0_i32_28 c1_i32_30 k0_t1
  let c1_i32_238 : BitVec 32 := 1#32
  let v440 : BitVec 32 := Scalar.addi arg11 c1_i32_238
  let c32_i32_393 : BitVec 32 := 32#32
  let v684 : BitVec 32 := Scalar.muli v440 c32_i32_393
  let c22_i32_394 : BitVec 32 := 22#32
  let v685 : BitVec 32 := Scalar.addi v684 c22_i32_394
  let v687 : Index := Scalar.indexCast v685
  ![v686.toNat, v687.toNat]
def k0_off155 (v1 : BitVec 32) (k0_t1 : Fin (k0_t1_loop v1).trips) : Fin 1 → Nat :=
  let c1_i32_239 : BitVec 32 := 1#32
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  ![v441.toNat]
def k0_off156 (v1 : BitVec 32) (k0_t1 : Fin (k0_t1_loop v1).trips) : Fin 4 → Nat :=
  let c1_i32_239 : BitVec 32 := 1#32
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  let c22_i32_395 : BitVec 32 := 22#32
  let c0_i32_396 : BitVec 32 := 0#32
  let c0_i32_397 : BitVec 32 := 0#32
  ![v441.toNat, 22, 0, 0]
def k0_off157 (v688 : BitVec 32) : Fin 3 → Nat :=
  let c0_i32_398 : BitVec 32 := 0#32
  let c0_i32_399 : BitVec 32 := 0#32
  ![v688.toNat, 0, 0]

def k0_chk56 (v1 : BitVec 32) (k0_t1 : Fin (k0_t1_loop v1).trips) (v688 : BitVec 32) : Prop :=
  (∀ (k0_h2 : k0_cond2 v1 k0_t1 = 1#1), ∀ a, (k0_off157 v688) a + S1x16x656.size a ≤ S40960x16x656.size a) ∧
  (∀ (k0_h2 : k0_cond2 v1 k0_t1 = 1#1), ∀ (hinb : ∀ a, (k0_off157 v688) a + S1x16x656.size a ≤ S40960x16x656.size a), (Rect.unit (s := S40960x16x656) (k0_off157 v688) S1x16x656.size hinb).WholeWords (EltTy.packing .i8))
theorem k0_off157_inb : ∀ (v1 : BitVec 32) (k0_t1 : Fin (k0_t1_loop v1).trips) (v688 : BitVec 32) (k0_hw56 : k0_chk56 v1 k0_t1 v688), ∀ (k0_h2 : k0_cond2 v1 k0_t1 = 1#1), ∀ a, (k0_off157 v688) a + S1x16x656.size a ≤ S40960x16x656.size a := fun v1 k0_t1 v688 k0_hw56 k0_h2 => k0_hw56.1 k0_h2
theorem k0_off157_wordsi8 : ∀ (v1 : BitVec 32) (k0_t1 : Fin (k0_t1_loop v1).trips) (v688 : BitVec 32) (k0_hw56 : k0_chk56 v1 k0_t1 v688), ∀ (k0_h2 : k0_cond2 v1 k0_t1 = 1#1), (Rect.unit (s := S40960x16x656) (k0_off157 v688) S1x16x656.size (k0_off157_inb v1 k0_t1 v688 k0_hw56 k0_h2)).WholeWords (EltTy.packing .i8) := fun v1 k0_t1 v688 k0_hw56 k0_h2 => k0_hw56.2 k0_h2 (k0_off157_inb v1 k0_t1 v688 k0_hw56 k0_h2)

def k0_off158 (i : grid0.Coords) (v1 : BitVec 32) (k0_t1 : Fin (k0_t1_loop v1).trips) : Fin 2 → Nat :=
  let arg0 : BitVec 32 := BitVec.ofNat 32 (i 0).val
  let v697 : Index := Scalar.indexCast arg0
  let c0_i32_28 : BitVec 32 := 0#32
  let c1_i32_30 : BitVec 32 := 1#32
  let arg11 : BitVec 32 := Scf.iv c0_i32_28 c1_i32_30 k0_t1
  let c1_i32_238 : BitVec 32 := 1#32
  let v440 : BitVec 32 := Scalar.addi arg11 c1_i32_238
  let c32_i32_400 : BitVec 32 := 32#32
  let v695 : BitVec 32 := Scalar.muli v440 c32_i32_400
  let c23_i32_401 : BitVec 32 := 23#32
  let v696 : BitVec 32 := Scalar.addi v695 c23_i32_401
  let v698 : Index := Scalar.indexCast v696
  ![v697.toNat, v698.toNat]
def k0_off159 (v1 : BitVec 32) (k0_t1 : Fin (k0_t1_loop v1).trips) : Fin 1 → Nat :=
  let c1_i32_239 : BitVec 32 := 1#32
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  ![v441.toNat]
def k0_off160 (v1 : BitVec 32) (k0_t1 : Fin (k0_t1_loop v1).trips) : Fin 4 → Nat :=
  let c1_i32_239 : BitVec 32 := 1#32
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  let c23_i32_402 : BitVec 32 := 23#32
  let c0_i32_403 : BitVec 32 := 0#32
  let c0_i32_404 : BitVec 32 := 0#32
  ![v441.toNat, 23, 0, 0]
def k0_off161 (v699 : BitVec 32) : Fin 3 → Nat :=
  let c0_i32_405 : BitVec 32 := 0#32
  let c0_i32_406 : BitVec 32 := 0#32
  ![v699.toNat, 0, 0]

def k0_chk57 (v1 : BitVec 32) (k0_t1 : Fin (k0_t1_loop v1).trips) (v699 : BitVec 32) : Prop :=
  (∀ (k0_h2 : k0_cond2 v1 k0_t1 = 1#1), ∀ a, (k0_off161 v699) a + S1x16x656.size a ≤ S40960x16x656.size a) ∧
  (∀ (k0_h2 : k0_cond2 v1 k0_t1 = 1#1), ∀ (hinb : ∀ a, (k0_off161 v699) a + S1x16x656.size a ≤ S40960x16x656.size a), (Rect.unit (s := S40960x16x656) (k0_off161 v699) S1x16x656.size hinb).WholeWords (EltTy.packing .i8))
theorem k0_off161_inb : ∀ (v1 : BitVec 32) (k0_t1 : Fin (k0_t1_loop v1).trips) (v699 : BitVec 32) (k0_hw57 : k0_chk57 v1 k0_t1 v699), ∀ (k0_h2 : k0_cond2 v1 k0_t1 = 1#1), ∀ a, (k0_off161 v699) a + S1x16x656.size a ≤ S40960x16x656.size a := fun v1 k0_t1 v699 k0_hw57 k0_h2 => k0_hw57.1 k0_h2
theorem k0_off161_wordsi8 : ∀ (v1 : BitVec 32) (k0_t1 : Fin (k0_t1_loop v1).trips) (v699 : BitVec 32) (k0_hw57 : k0_chk57 v1 k0_t1 v699), ∀ (k0_h2 : k0_cond2 v1 k0_t1 = 1#1), (Rect.unit (s := S40960x16x656) (k0_off161 v699) S1x16x656.size (k0_off161_inb v1 k0_t1 v699 k0_hw57 k0_h2)).WholeWords (EltTy.packing .i8) := fun v1 k0_t1 v699 k0_hw57 k0_h2 => k0_hw57.2 k0_h2 (k0_off161_inb v1 k0_t1 v699 k0_hw57 k0_h2)

def k0_off162 (i : grid0.Coords) (v1 : BitVec 32) (k0_t1 : Fin (k0_t1_loop v1).trips) : Fin 2 → Nat :=
  let arg0 : BitVec 32 := BitVec.ofNat 32 (i 0).val
  let v708 : Index := Scalar.indexCast arg0
  let c0_i32_28 : BitVec 32 := 0#32
  let c1_i32_30 : BitVec 32 := 1#32
  let arg11 : BitVec 32 := Scf.iv c0_i32_28 c1_i32_30 k0_t1
  let c1_i32_238 : BitVec 32 := 1#32
  let v440 : BitVec 32 := Scalar.addi arg11 c1_i32_238
  let c32_i32_407 : BitVec 32 := 32#32
  let v706 : BitVec 32 := Scalar.muli v440 c32_i32_407
  let c24_i32_408 : BitVec 32 := 24#32
  let v707 : BitVec 32 := Scalar.addi v706 c24_i32_408
  let v709 : Index := Scalar.indexCast v707
  ![v708.toNat, v709.toNat]
def k0_off163 (v1 : BitVec 32) (k0_t1 : Fin (k0_t1_loop v1).trips) : Fin 1 → Nat :=
  let c1_i32_239 : BitVec 32 := 1#32
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  ![v441.toNat]
def k0_off164 (v1 : BitVec 32) (k0_t1 : Fin (k0_t1_loop v1).trips) : Fin 4 → Nat :=
  let c1_i32_239 : BitVec 32 := 1#32
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  let c24_i32_409 : BitVec 32 := 24#32
  let c0_i32_410 : BitVec 32 := 0#32
  let c0_i32_411 : BitVec 32 := 0#32
  ![v441.toNat, 24, 0, 0]
def k0_off165 (v710 : BitVec 32) : Fin 3 → Nat :=
  let c0_i32_412 : BitVec 32 := 0#32
  let c0_i32_413 : BitVec 32 := 0#32
  ![v710.toNat, 0, 0]

def k0_chk58 (v1 : BitVec 32) (k0_t1 : Fin (k0_t1_loop v1).trips) (v710 : BitVec 32) : Prop :=
  (∀ (k0_h2 : k0_cond2 v1 k0_t1 = 1#1), ∀ a, (k0_off165 v710) a + S1x16x656.size a ≤ S40960x16x656.size a) ∧
  (∀ (k0_h2 : k0_cond2 v1 k0_t1 = 1#1), ∀ (hinb : ∀ a, (k0_off165 v710) a + S1x16x656.size a ≤ S40960x16x656.size a), (Rect.unit (s := S40960x16x656) (k0_off165 v710) S1x16x656.size hinb).WholeWords (EltTy.packing .i8))
theorem k0_off165_inb : ∀ (v1 : BitVec 32) (k0_t1 : Fin (k0_t1_loop v1).trips) (v710 : BitVec 32) (k0_hw58 : k0_chk58 v1 k0_t1 v710), ∀ (k0_h2 : k0_cond2 v1 k0_t1 = 1#1), ∀ a, (k0_off165 v710) a + S1x16x656.size a ≤ S40960x16x656.size a := fun v1 k0_t1 v710 k0_hw58 k0_h2 => k0_hw58.1 k0_h2
theorem k0_off165_wordsi8 : ∀ (v1 : BitVec 32) (k0_t1 : Fin (k0_t1_loop v1).trips) (v710 : BitVec 32) (k0_hw58 : k0_chk58 v1 k0_t1 v710), ∀ (k0_h2 : k0_cond2 v1 k0_t1 = 1#1), (Rect.unit (s := S40960x16x656) (k0_off165 v710) S1x16x656.size (k0_off165_inb v1 k0_t1 v710 k0_hw58 k0_h2)).WholeWords (EltTy.packing .i8) := fun v1 k0_t1 v710 k0_hw58 k0_h2 => k0_hw58.2 k0_h2 (k0_off165_inb v1 k0_t1 v710 k0_hw58 k0_h2)

def k0_off166 (i : grid0.Coords) (v1 : BitVec 32) (k0_t1 : Fin (k0_t1_loop v1).trips) : Fin 2 → Nat :=
  let arg0 : BitVec 32 := BitVec.ofNat 32 (i 0).val
  let v719 : Index := Scalar.indexCast arg0
  let c0_i32_28 : BitVec 32 := 0#32
  let c1_i32_30 : BitVec 32 := 1#32
  let arg11 : BitVec 32 := Scf.iv c0_i32_28 c1_i32_30 k0_t1
  let c1_i32_238 : BitVec 32 := 1#32
  let v440 : BitVec 32 := Scalar.addi arg11 c1_i32_238
  let c32_i32_414 : BitVec 32 := 32#32
  let v717 : BitVec 32 := Scalar.muli v440 c32_i32_414
  let c25_i32_415 : BitVec 32 := 25#32
  let v718 : BitVec 32 := Scalar.addi v717 c25_i32_415
  let v720 : Index := Scalar.indexCast v718
  ![v719.toNat, v720.toNat]
def k0_off167 (v1 : BitVec 32) (k0_t1 : Fin (k0_t1_loop v1).trips) : Fin 1 → Nat :=
  let c1_i32_239 : BitVec 32 := 1#32
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  ![v441.toNat]
def k0_off168 (v1 : BitVec 32) (k0_t1 : Fin (k0_t1_loop v1).trips) : Fin 4 → Nat :=
  let c1_i32_239 : BitVec 32 := 1#32
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  let c25_i32_416 : BitVec 32 := 25#32
  let c0_i32_417 : BitVec 32 := 0#32
  let c0_i32_418 : BitVec 32 := 0#32
  ![v441.toNat, 25, 0, 0]
def k0_off169 (v721 : BitVec 32) : Fin 3 → Nat :=
  let c0_i32_419 : BitVec 32 := 0#32
  let c0_i32_420 : BitVec 32 := 0#32
  ![v721.toNat, 0, 0]

def k0_chk59 (v1 : BitVec 32) (k0_t1 : Fin (k0_t1_loop v1).trips) (v721 : BitVec 32) : Prop :=
  (∀ (k0_h2 : k0_cond2 v1 k0_t1 = 1#1), ∀ a, (k0_off169 v721) a + S1x16x656.size a ≤ S40960x16x656.size a) ∧
  (∀ (k0_h2 : k0_cond2 v1 k0_t1 = 1#1), ∀ (hinb : ∀ a, (k0_off169 v721) a + S1x16x656.size a ≤ S40960x16x656.size a), (Rect.unit (s := S40960x16x656) (k0_off169 v721) S1x16x656.size hinb).WholeWords (EltTy.packing .i8))
theorem k0_off169_inb : ∀ (v1 : BitVec 32) (k0_t1 : Fin (k0_t1_loop v1).trips) (v721 : BitVec 32) (k0_hw59 : k0_chk59 v1 k0_t1 v721), ∀ (k0_h2 : k0_cond2 v1 k0_t1 = 1#1), ∀ a, (k0_off169 v721) a + S1x16x656.size a ≤ S40960x16x656.size a := fun v1 k0_t1 v721 k0_hw59 k0_h2 => k0_hw59.1 k0_h2
theorem k0_off169_wordsi8 : ∀ (v1 : BitVec 32) (k0_t1 : Fin (k0_t1_loop v1).trips) (v721 : BitVec 32) (k0_hw59 : k0_chk59 v1 k0_t1 v721), ∀ (k0_h2 : k0_cond2 v1 k0_t1 = 1#1), (Rect.unit (s := S40960x16x656) (k0_off169 v721) S1x16x656.size (k0_off169_inb v1 k0_t1 v721 k0_hw59 k0_h2)).WholeWords (EltTy.packing .i8) := fun v1 k0_t1 v721 k0_hw59 k0_h2 => k0_hw59.2 k0_h2 (k0_off169_inb v1 k0_t1 v721 k0_hw59 k0_h2)

def k0_off170 (i : grid0.Coords) (v1 : BitVec 32) (k0_t1 : Fin (k0_t1_loop v1).trips) : Fin 2 → Nat :=
  let arg0 : BitVec 32 := BitVec.ofNat 32 (i 0).val
  let v730 : Index := Scalar.indexCast arg0
  let c0_i32_28 : BitVec 32 := 0#32
  let c1_i32_30 : BitVec 32 := 1#32
  let arg11 : BitVec 32 := Scf.iv c0_i32_28 c1_i32_30 k0_t1
  let c1_i32_238 : BitVec 32 := 1#32
  let v440 : BitVec 32 := Scalar.addi arg11 c1_i32_238
  let c32_i32_421 : BitVec 32 := 32#32
  let v728 : BitVec 32 := Scalar.muli v440 c32_i32_421
  let c26_i32_422 : BitVec 32 := 26#32
  let v729 : BitVec 32 := Scalar.addi v728 c26_i32_422
  let v731 : Index := Scalar.indexCast v729
  ![v730.toNat, v731.toNat]
def k0_off171 (v1 : BitVec 32) (k0_t1 : Fin (k0_t1_loop v1).trips) : Fin 1 → Nat :=
  let c1_i32_239 : BitVec 32 := 1#32
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  ![v441.toNat]
def k0_off172 (v1 : BitVec 32) (k0_t1 : Fin (k0_t1_loop v1).trips) : Fin 4 → Nat :=
  let c1_i32_239 : BitVec 32 := 1#32
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  let c26_i32_423 : BitVec 32 := 26#32
  let c0_i32_424 : BitVec 32 := 0#32
  let c0_i32_425 : BitVec 32 := 0#32
  ![v441.toNat, 26, 0, 0]
def k0_off173 (v732 : BitVec 32) : Fin 3 → Nat :=
  let c0_i32_426 : BitVec 32 := 0#32
  let c0_i32_427 : BitVec 32 := 0#32
  ![v732.toNat, 0, 0]

def k0_chk60 (v1 : BitVec 32) (k0_t1 : Fin (k0_t1_loop v1).trips) (v732 : BitVec 32) : Prop :=
  (∀ (k0_h2 : k0_cond2 v1 k0_t1 = 1#1), ∀ a, (k0_off173 v732) a + S1x16x656.size a ≤ S40960x16x656.size a) ∧
  (∀ (k0_h2 : k0_cond2 v1 k0_t1 = 1#1), ∀ (hinb : ∀ a, (k0_off173 v732) a + S1x16x656.size a ≤ S40960x16x656.size a), (Rect.unit (s := S40960x16x656) (k0_off173 v732) S1x16x656.size hinb).WholeWords (EltTy.packing .i8))
theorem k0_off173_inb : ∀ (v1 : BitVec 32) (k0_t1 : Fin (k0_t1_loop v1).trips) (v732 : BitVec 32) (k0_hw60 : k0_chk60 v1 k0_t1 v732), ∀ (k0_h2 : k0_cond2 v1 k0_t1 = 1#1), ∀ a, (k0_off173 v732) a + S1x16x656.size a ≤ S40960x16x656.size a := fun v1 k0_t1 v732 k0_hw60 k0_h2 => k0_hw60.1 k0_h2
theorem k0_off173_wordsi8 : ∀ (v1 : BitVec 32) (k0_t1 : Fin (k0_t1_loop v1).trips) (v732 : BitVec 32) (k0_hw60 : k0_chk60 v1 k0_t1 v732), ∀ (k0_h2 : k0_cond2 v1 k0_t1 = 1#1), (Rect.unit (s := S40960x16x656) (k0_off173 v732) S1x16x656.size (k0_off173_inb v1 k0_t1 v732 k0_hw60 k0_h2)).WholeWords (EltTy.packing .i8) := fun v1 k0_t1 v732 k0_hw60 k0_h2 => k0_hw60.2 k0_h2 (k0_off173_inb v1 k0_t1 v732 k0_hw60 k0_h2)

def k0_off174 (i : grid0.Coords) (v1 : BitVec 32) (k0_t1 : Fin (k0_t1_loop v1).trips) : Fin 2 → Nat :=
  let arg0 : BitVec 32 := BitVec.ofNat 32 (i 0).val
  let v741 : Index := Scalar.indexCast arg0
  let c0_i32_28 : BitVec 32 := 0#32
  let c1_i32_30 : BitVec 32 := 1#32
  let arg11 : BitVec 32 := Scf.iv c0_i32_28 c1_i32_30 k0_t1
  let c1_i32_238 : BitVec 32 := 1#32
  let v440 : BitVec 32 := Scalar.addi arg11 c1_i32_238
  let c32_i32_428 : BitVec 32 := 32#32
  let v739 : BitVec 32 := Scalar.muli v440 c32_i32_428
  let c27_i32_429 : BitVec 32 := 27#32
  let v740 : BitVec 32 := Scalar.addi v739 c27_i32_429
  let v742 : Index := Scalar.indexCast v740
  ![v741.toNat, v742.toNat]
def k0_off175 (v1 : BitVec 32) (k0_t1 : Fin (k0_t1_loop v1).trips) : Fin 1 → Nat :=
  let c1_i32_239 : BitVec 32 := 1#32
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  ![v441.toNat]
def k0_off176 (v1 : BitVec 32) (k0_t1 : Fin (k0_t1_loop v1).trips) : Fin 4 → Nat :=
  let c1_i32_239 : BitVec 32 := 1#32
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  let c27_i32_430 : BitVec 32 := 27#32
  let c0_i32_431 : BitVec 32 := 0#32
  let c0_i32_432 : BitVec 32 := 0#32
  ![v441.toNat, 27, 0, 0]
def k0_off177 (v743 : BitVec 32) : Fin 3 → Nat :=
  let c0_i32_433 : BitVec 32 := 0#32
  let c0_i32_434 : BitVec 32 := 0#32
  ![v743.toNat, 0, 0]

def k0_chk61 (v1 : BitVec 32) (k0_t1 : Fin (k0_t1_loop v1).trips) (v743 : BitVec 32) : Prop :=
  (∀ (k0_h2 : k0_cond2 v1 k0_t1 = 1#1), ∀ a, (k0_off177 v743) a + S1x16x656.size a ≤ S40960x16x656.size a) ∧
  (∀ (k0_h2 : k0_cond2 v1 k0_t1 = 1#1), ∀ (hinb : ∀ a, (k0_off177 v743) a + S1x16x656.size a ≤ S40960x16x656.size a), (Rect.unit (s := S40960x16x656) (k0_off177 v743) S1x16x656.size hinb).WholeWords (EltTy.packing .i8))
theorem k0_off177_inb : ∀ (v1 : BitVec 32) (k0_t1 : Fin (k0_t1_loop v1).trips) (v743 : BitVec 32) (k0_hw61 : k0_chk61 v1 k0_t1 v743), ∀ (k0_h2 : k0_cond2 v1 k0_t1 = 1#1), ∀ a, (k0_off177 v743) a + S1x16x656.size a ≤ S40960x16x656.size a := fun v1 k0_t1 v743 k0_hw61 k0_h2 => k0_hw61.1 k0_h2
theorem k0_off177_wordsi8 : ∀ (v1 : BitVec 32) (k0_t1 : Fin (k0_t1_loop v1).trips) (v743 : BitVec 32) (k0_hw61 : k0_chk61 v1 k0_t1 v743), ∀ (k0_h2 : k0_cond2 v1 k0_t1 = 1#1), (Rect.unit (s := S40960x16x656) (k0_off177 v743) S1x16x656.size (k0_off177_inb v1 k0_t1 v743 k0_hw61 k0_h2)).WholeWords (EltTy.packing .i8) := fun v1 k0_t1 v743 k0_hw61 k0_h2 => k0_hw61.2 k0_h2 (k0_off177_inb v1 k0_t1 v743 k0_hw61 k0_h2)

def k0_off178 (i : grid0.Coords) (v1 : BitVec 32) (k0_t1 : Fin (k0_t1_loop v1).trips) : Fin 2 → Nat :=
  let arg0 : BitVec 32 := BitVec.ofNat 32 (i 0).val
  let v752 : Index := Scalar.indexCast arg0
  let c0_i32_28 : BitVec 32 := 0#32
  let c1_i32_30 : BitVec 32 := 1#32
  let arg11 : BitVec 32 := Scf.iv c0_i32_28 c1_i32_30 k0_t1
  let c1_i32_238 : BitVec 32 := 1#32
  let v440 : BitVec 32 := Scalar.addi arg11 c1_i32_238
  let c32_i32_435 : BitVec 32 := 32#32
  let v750 : BitVec 32 := Scalar.muli v440 c32_i32_435
  let c28_i32_436 : BitVec 32 := 28#32
  let v751 : BitVec 32 := Scalar.addi v750 c28_i32_436
  let v753 : Index := Scalar.indexCast v751
  ![v752.toNat, v753.toNat]
def k0_off179 (v1 : BitVec 32) (k0_t1 : Fin (k0_t1_loop v1).trips) : Fin 1 → Nat :=
  let c1_i32_239 : BitVec 32 := 1#32
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  ![v441.toNat]
def k0_off180 (v1 : BitVec 32) (k0_t1 : Fin (k0_t1_loop v1).trips) : Fin 4 → Nat :=
  let c1_i32_239 : BitVec 32 := 1#32
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  let c28_i32_437 : BitVec 32 := 28#32
  let c0_i32_438 : BitVec 32 := 0#32
  let c0_i32_439 : BitVec 32 := 0#32
  ![v441.toNat, 28, 0, 0]
def k0_off181 (v754 : BitVec 32) : Fin 3 → Nat :=
  let c0_i32_440 : BitVec 32 := 0#32
  let c0_i32_441 : BitVec 32 := 0#32
  ![v754.toNat, 0, 0]

def k0_chk62 (v1 : BitVec 32) (k0_t1 : Fin (k0_t1_loop v1).trips) (v754 : BitVec 32) : Prop :=
  (∀ (k0_h2 : k0_cond2 v1 k0_t1 = 1#1), ∀ a, (k0_off181 v754) a + S1x16x656.size a ≤ S40960x16x656.size a) ∧
  (∀ (k0_h2 : k0_cond2 v1 k0_t1 = 1#1), ∀ (hinb : ∀ a, (k0_off181 v754) a + S1x16x656.size a ≤ S40960x16x656.size a), (Rect.unit (s := S40960x16x656) (k0_off181 v754) S1x16x656.size hinb).WholeWords (EltTy.packing .i8))
theorem k0_off181_inb : ∀ (v1 : BitVec 32) (k0_t1 : Fin (k0_t1_loop v1).trips) (v754 : BitVec 32) (k0_hw62 : k0_chk62 v1 k0_t1 v754), ∀ (k0_h2 : k0_cond2 v1 k0_t1 = 1#1), ∀ a, (k0_off181 v754) a + S1x16x656.size a ≤ S40960x16x656.size a := fun v1 k0_t1 v754 k0_hw62 k0_h2 => k0_hw62.1 k0_h2
theorem k0_off181_wordsi8 : ∀ (v1 : BitVec 32) (k0_t1 : Fin (k0_t1_loop v1).trips) (v754 : BitVec 32) (k0_hw62 : k0_chk62 v1 k0_t1 v754), ∀ (k0_h2 : k0_cond2 v1 k0_t1 = 1#1), (Rect.unit (s := S40960x16x656) (k0_off181 v754) S1x16x656.size (k0_off181_inb v1 k0_t1 v754 k0_hw62 k0_h2)).WholeWords (EltTy.packing .i8) := fun v1 k0_t1 v754 k0_hw62 k0_h2 => k0_hw62.2 k0_h2 (k0_off181_inb v1 k0_t1 v754 k0_hw62 k0_h2)

def k0_off182 (i : grid0.Coords) (v1 : BitVec 32) (k0_t1 : Fin (k0_t1_loop v1).trips) : Fin 2 → Nat :=
  let arg0 : BitVec 32 := BitVec.ofNat 32 (i 0).val
  let v763 : Index := Scalar.indexCast arg0
  let c0_i32_28 : BitVec 32 := 0#32
  let c1_i32_30 : BitVec 32 := 1#32
  let arg11 : BitVec 32 := Scf.iv c0_i32_28 c1_i32_30 k0_t1
  let c1_i32_238 : BitVec 32 := 1#32
  let v440 : BitVec 32 := Scalar.addi arg11 c1_i32_238
  let c32_i32_442 : BitVec 32 := 32#32
  let v761 : BitVec 32 := Scalar.muli v440 c32_i32_442
  let c29_i32_443 : BitVec 32 := 29#32
  let v762 : BitVec 32 := Scalar.addi v761 c29_i32_443
  let v764 : Index := Scalar.indexCast v762
  ![v763.toNat, v764.toNat]
def k0_off183 (v1 : BitVec 32) (k0_t1 : Fin (k0_t1_loop v1).trips) : Fin 1 → Nat :=
  let c1_i32_239 : BitVec 32 := 1#32
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  ![v441.toNat]
def k0_off184 (v1 : BitVec 32) (k0_t1 : Fin (k0_t1_loop v1).trips) : Fin 4 → Nat :=
  let c1_i32_239 : BitVec 32 := 1#32
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  let c29_i32_444 : BitVec 32 := 29#32
  let c0_i32_445 : BitVec 32 := 0#32
  let c0_i32_446 : BitVec 32 := 0#32
  ![v441.toNat, 29, 0, 0]
def k0_off185 (v765 : BitVec 32) : Fin 3 → Nat :=
  let c0_i32_447 : BitVec 32 := 0#32
  let c0_i32_448 : BitVec 32 := 0#32
  ![v765.toNat, 0, 0]

def k0_chk63 (v1 : BitVec 32) (k0_t1 : Fin (k0_t1_loop v1).trips) (v765 : BitVec 32) : Prop :=
  (∀ (k0_h2 : k0_cond2 v1 k0_t1 = 1#1), ∀ a, (k0_off185 v765) a + S1x16x656.size a ≤ S40960x16x656.size a) ∧
  (∀ (k0_h2 : k0_cond2 v1 k0_t1 = 1#1), ∀ (hinb : ∀ a, (k0_off185 v765) a + S1x16x656.size a ≤ S40960x16x656.size a), (Rect.unit (s := S40960x16x656) (k0_off185 v765) S1x16x656.size hinb).WholeWords (EltTy.packing .i8))
theorem k0_off185_inb : ∀ (v1 : BitVec 32) (k0_t1 : Fin (k0_t1_loop v1).trips) (v765 : BitVec 32) (k0_hw63 : k0_chk63 v1 k0_t1 v765), ∀ (k0_h2 : k0_cond2 v1 k0_t1 = 1#1), ∀ a, (k0_off185 v765) a + S1x16x656.size a ≤ S40960x16x656.size a := fun v1 k0_t1 v765 k0_hw63 k0_h2 => k0_hw63.1 k0_h2
theorem k0_off185_wordsi8 : ∀ (v1 : BitVec 32) (k0_t1 : Fin (k0_t1_loop v1).trips) (v765 : BitVec 32) (k0_hw63 : k0_chk63 v1 k0_t1 v765), ∀ (k0_h2 : k0_cond2 v1 k0_t1 = 1#1), (Rect.unit (s := S40960x16x656) (k0_off185 v765) S1x16x656.size (k0_off185_inb v1 k0_t1 v765 k0_hw63 k0_h2)).WholeWords (EltTy.packing .i8) := fun v1 k0_t1 v765 k0_hw63 k0_h2 => k0_hw63.2 k0_h2 (k0_off185_inb v1 k0_t1 v765 k0_hw63 k0_h2)

def k0_off186 (i : grid0.Coords) (v1 : BitVec 32) (k0_t1 : Fin (k0_t1_loop v1).trips) : Fin 2 → Nat :=
  let arg0 : BitVec 32 := BitVec.ofNat 32 (i 0).val
  let v774 : Index := Scalar.indexCast arg0
  let c0_i32_28 : BitVec 32 := 0#32
  let c1_i32_30 : BitVec 32 := 1#32
  let arg11 : BitVec 32 := Scf.iv c0_i32_28 c1_i32_30 k0_t1
  let c1_i32_238 : BitVec 32 := 1#32
  let v440 : BitVec 32 := Scalar.addi arg11 c1_i32_238
  let c32_i32_449 : BitVec 32 := 32#32
  let v772 : BitVec 32 := Scalar.muli v440 c32_i32_449
  let c30_i32_450 : BitVec 32 := 30#32
  let v773 : BitVec 32 := Scalar.addi v772 c30_i32_450
  let v775 : Index := Scalar.indexCast v773
  ![v774.toNat, v775.toNat]
def k0_off187 (v1 : BitVec 32) (k0_t1 : Fin (k0_t1_loop v1).trips) : Fin 1 → Nat :=
  let c1_i32_239 : BitVec 32 := 1#32
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  ![v441.toNat]
def k0_off188 (v1 : BitVec 32) (k0_t1 : Fin (k0_t1_loop v1).trips) : Fin 4 → Nat :=
  let c1_i32_239 : BitVec 32 := 1#32
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  let c30_i32_451 : BitVec 32 := 30#32
  let c0_i32_452 : BitVec 32 := 0#32
  let c0_i32_453 : BitVec 32 := 0#32
  ![v441.toNat, 30, 0, 0]
def k0_off189 (v776 : BitVec 32) : Fin 3 → Nat :=
  let c0_i32_454 : BitVec 32 := 0#32
  let c0_i32_455 : BitVec 32 := 0#32
  ![v776.toNat, 0, 0]

def k0_chk64 (v1 : BitVec 32) (k0_t1 : Fin (k0_t1_loop v1).trips) (v776 : BitVec 32) : Prop :=
  (∀ (k0_h2 : k0_cond2 v1 k0_t1 = 1#1), ∀ a, (k0_off189 v776) a + S1x16x656.size a ≤ S40960x16x656.size a) ∧
  (∀ (k0_h2 : k0_cond2 v1 k0_t1 = 1#1), ∀ (hinb : ∀ a, (k0_off189 v776) a + S1x16x656.size a ≤ S40960x16x656.size a), (Rect.unit (s := S40960x16x656) (k0_off189 v776) S1x16x656.size hinb).WholeWords (EltTy.packing .i8))
theorem k0_off189_inb : ∀ (v1 : BitVec 32) (k0_t1 : Fin (k0_t1_loop v1).trips) (v776 : BitVec 32) (k0_hw64 : k0_chk64 v1 k0_t1 v776), ∀ (k0_h2 : k0_cond2 v1 k0_t1 = 1#1), ∀ a, (k0_off189 v776) a + S1x16x656.size a ≤ S40960x16x656.size a := fun v1 k0_t1 v776 k0_hw64 k0_h2 => k0_hw64.1 k0_h2
theorem k0_off189_wordsi8 : ∀ (v1 : BitVec 32) (k0_t1 : Fin (k0_t1_loop v1).trips) (v776 : BitVec 32) (k0_hw64 : k0_chk64 v1 k0_t1 v776), ∀ (k0_h2 : k0_cond2 v1 k0_t1 = 1#1), (Rect.unit (s := S40960x16x656) (k0_off189 v776) S1x16x656.size (k0_off189_inb v1 k0_t1 v776 k0_hw64 k0_h2)).WholeWords (EltTy.packing .i8) := fun v1 k0_t1 v776 k0_hw64 k0_h2 => k0_hw64.2 k0_h2 (k0_off189_inb v1 k0_t1 v776 k0_hw64 k0_h2)

def k0_off190 (i : grid0.Coords) (v1 : BitVec 32) (k0_t1 : Fin (k0_t1_loop v1).trips) : Fin 2 → Nat :=
  let arg0 : BitVec 32 := BitVec.ofNat 32 (i 0).val
  let v785 : Index := Scalar.indexCast arg0
  let c0_i32_28 : BitVec 32 := 0#32
  let c1_i32_30 : BitVec 32 := 1#32
  let arg11 : BitVec 32 := Scf.iv c0_i32_28 c1_i32_30 k0_t1
  let c1_i32_238 : BitVec 32 := 1#32
  let v440 : BitVec 32 := Scalar.addi arg11 c1_i32_238
  let c32_i32_456 : BitVec 32 := 32#32
  let v783 : BitVec 32 := Scalar.muli v440 c32_i32_456
  let c31_i32_457 : BitVec 32 := 31#32
  let v784 : BitVec 32 := Scalar.addi v783 c31_i32_457
  let v786 : Index := Scalar.indexCast v784
  ![v785.toNat, v786.toNat]
def k0_off191 (v1 : BitVec 32) (k0_t1 : Fin (k0_t1_loop v1).trips) : Fin 1 → Nat :=
  let c1_i32_239 : BitVec 32 := 1#32
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  ![v441.toNat]
def k0_off192 (v1 : BitVec 32) (k0_t1 : Fin (k0_t1_loop v1).trips) : Fin 4 → Nat :=
  let c1_i32_239 : BitVec 32 := 1#32
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  let c31_i32_458 : BitVec 32 := 31#32
  let c0_i32_459 : BitVec 32 := 0#32
  let c0_i32_460 : BitVec 32 := 0#32
  ![v441.toNat, 31, 0, 0]
def k0_off193 (v787 : BitVec 32) : Fin 3 → Nat :=
  let c0_i32_461 : BitVec 32 := 0#32
  let c0_i32_462 : BitVec 32 := 0#32
  ![v787.toNat, 0, 0]

def k0_chk65 (v1 : BitVec 32) (k0_t1 : Fin (k0_t1_loop v1).trips) (v787 : BitVec 32) : Prop :=
  (∀ (k0_h2 : k0_cond2 v1 k0_t1 = 1#1), ∀ a, (k0_off193 v787) a + S1x16x656.size a ≤ S40960x16x656.size a) ∧
  (∀ (k0_h2 : k0_cond2 v1 k0_t1 = 1#1), ∀ (hinb : ∀ a, (k0_off193 v787) a + S1x16x656.size a ≤ S40960x16x656.size a), (Rect.unit (s := S40960x16x656) (k0_off193 v787) S1x16x656.size hinb).WholeWords (EltTy.packing .i8))
theorem k0_off193_inb : ∀ (v1 : BitVec 32) (k0_t1 : Fin (k0_t1_loop v1).trips) (v787 : BitVec 32) (k0_hw65 : k0_chk65 v1 k0_t1 v787), ∀ (k0_h2 : k0_cond2 v1 k0_t1 = 1#1), ∀ a, (k0_off193 v787) a + S1x16x656.size a ≤ S40960x16x656.size a := fun v1 k0_t1 v787 k0_hw65 k0_h2 => k0_hw65.1 k0_h2
theorem k0_off193_wordsi8 : ∀ (v1 : BitVec 32) (k0_t1 : Fin (k0_t1_loop v1).trips) (v787 : BitVec 32) (k0_hw65 : k0_chk65 v1 k0_t1 v787), ∀ (k0_h2 : k0_cond2 v1 k0_t1 = 1#1), (Rect.unit (s := S40960x16x656) (k0_off193 v787) S1x16x656.size (k0_off193_inb v1 k0_t1 v787 k0_hw65 k0_h2)).WholeWords (EltTy.packing .i8) := fun v1 k0_t1 v787 k0_hw65 k0_h2 => k0_hw65.2 k0_h2 (k0_off193_inb v1 k0_t1 v787 k0_hw65 k0_h2)

def k0_off194 (v1 : BitVec 32) (k0_t1 : Fin (k0_t1_loop v1).trips) : Fin 1 → Nat :=
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  ![v144.toNat]
def k0_off195 (v1 : BitVec 32) (k0_t1 : Fin (k0_t1_loop v1).trips) : Fin 4 → Nat :=
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let c0_i32_48 : BitVec 32 := 0#32
  let c0_i32_49 : BitVec 32 := 0#32
  let c0_i32_50 : BitVec 32 := 0#32
  ![v144.toNat, 0, 0, 0]
def k0_off196 (v1 : BitVec 32) (k0_t1 : Fin (k0_t1_loop v1).trips) : Fin 4 → Nat :=
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let c1_i32_54 : BitVec 32 := 1#32
  let c0_i32_55 : BitVec 32 := 0#32
  let c0_i32_56 : BitVec 32 := 0#32
  ![v144.toNat, 1, 0, 0]
def k0_off197 (v1 : BitVec 32) (k0_t1 : Fin (k0_t1_loop v1).trips) : Fin 4 → Nat :=
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let c2_i32_60 : BitVec 32 := 2#32
  let c0_i32_61 : BitVec 32 := 0#32
  let c0_i32_62 : BitVec 32 := 0#32
  ![v144.toNat, 2, 0, 0]
def k0_off198 (v1 : BitVec 32) (k0_t1 : Fin (k0_t1_loop v1).trips) : Fin 4 → Nat :=
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let c3_i32 : BitVec 32 := 3#32
  let c0_i32_66 : BitVec 32 := 0#32
  let c0_i32_67 : BitVec 32 := 0#32
  ![v144.toNat, 3, 0, 0]
def k0_off199 (v1 : BitVec 32) (k0_t1 : Fin (k0_t1_loop v1).trips) : Fin 4 → Nat :=
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let c4_i32 : BitVec 32 := 4#32
  let c0_i32_71 : BitVec 32 := 0#32
  let c0_i32_72 : BitVec 32 := 0#32
  ![v144.toNat, 4, 0, 0]
def k0_off200 (v1 : BitVec 32) (k0_t1 : Fin (k0_t1_loop v1).trips) : Fin 4 → Nat :=
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let c5_i32 : BitVec 32 := 5#32
  let c0_i32_76 : BitVec 32 := 0#32
  let c0_i32_77 : BitVec 32 := 0#32
  ![v144.toNat, 5, 0, 0]
def k0_off201 (v1 : BitVec 32) (k0_t1 : Fin (k0_t1_loop v1).trips) : Fin 4 → Nat :=
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let c6_i32 : BitVec 32 := 6#32
  let c0_i32_81 : BitVec 32 := 0#32
  let c0_i32_82 : BitVec 32 := 0#32
  ![v144.toNat, 6, 0, 0]
def k0_off202 (v1 : BitVec 32) (k0_t1 : Fin (k0_t1_loop v1).trips) : Fin 4 → Nat :=
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let c7_i32 : BitVec 32 := 7#32
  let c0_i32_86 : BitVec 32 := 0#32
  let c0_i32_87 : BitVec 32 := 0#32
  ![v144.toNat, 7, 0, 0]
def k0_off203 (v1 : BitVec 32) (k0_t1 : Fin (k0_t1_loop v1).trips) : Fin 4 → Nat :=
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let c8_i32_91 : BitVec 32 := 8#32
  let c0_i32_92 : BitVec 32 := 0#32
  let c0_i32_93 : BitVec 32 := 0#32
  ![v144.toNat, 8, 0, 0]
def k0_off204 (v1 : BitVec 32) (k0_t1 : Fin (k0_t1_loop v1).trips) : Fin 4 → Nat :=
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let c9_i32 : BitVec 32 := 9#32
  let c0_i32_97 : BitVec 32 := 0#32
  let c0_i32_98 : BitVec 32 := 0#32
  ![v144.toNat, 9, 0, 0]
def k0_off205 (v1 : BitVec 32) (k0_t1 : Fin (k0_t1_loop v1).trips) : Fin 4 → Nat :=
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let c10_i32 : BitVec 32 := 10#32
  let c0_i32_102 : BitVec 32 := 0#32
  let c0_i32_103 : BitVec 32 := 0#32
  ![v144.toNat, 10, 0, 0]
def k0_off206 (v1 : BitVec 32) (k0_t1 : Fin (k0_t1_loop v1).trips) : Fin 4 → Nat :=
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let c11_i32 : BitVec 32 := 11#32
  let c0_i32_107 : BitVec 32 := 0#32
  let c0_i32_108 : BitVec 32 := 0#32
  ![v144.toNat, 11, 0, 0]
def k0_off207 (v1 : BitVec 32) (k0_t1 : Fin (k0_t1_loop v1).trips) : Fin 4 → Nat :=
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let c12_i32 : BitVec 32 := 12#32
  let c0_i32_112 : BitVec 32 := 0#32
  let c0_i32_113 : BitVec 32 := 0#32
  ![v144.toNat, 12, 0, 0]
def k0_off208 (v1 : BitVec 32) (k0_t1 : Fin (k0_t1_loop v1).trips) : Fin 4 → Nat :=
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let c13_i32 : BitVec 32 := 13#32
  let c0_i32_117 : BitVec 32 := 0#32
  let c0_i32_118 : BitVec 32 := 0#32
  ![v144.toNat, 13, 0, 0]
def k0_off209 (v1 : BitVec 32) (k0_t1 : Fin (k0_t1_loop v1).trips) : Fin 4 → Nat :=
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let c14_i32 : BitVec 32 := 14#32
  let c0_i32_122 : BitVec 32 := 0#32
  let c0_i32_123 : BitVec 32 := 0#32
  ![v144.toNat, 14, 0, 0]
def k0_off210 (v1 : BitVec 32) (k0_t1 : Fin (k0_t1_loop v1).trips) : Fin 4 → Nat :=
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let c15_i32 : BitVec 32 := 15#32
  let c0_i32_127 : BitVec 32 := 0#32
  let c0_i32_128 : BitVec 32 := 0#32
  ![v144.toNat, 15, 0, 0]
def k0_off211 (v1 : BitVec 32) (k0_t1 : Fin (k0_t1_loop v1).trips) : Fin 4 → Nat :=
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let c16_i32_132 : BitVec 32 := 16#32
  let c0_i32_133 : BitVec 32 := 0#32
  let c0_i32_134 : BitVec 32 := 0#32
  ![v144.toNat, 16, 0, 0]
def k0_off212 (v1 : BitVec 32) (k0_t1 : Fin (k0_t1_loop v1).trips) : Fin 4 → Nat :=
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let c17_i32 : BitVec 32 := 17#32
  let c0_i32_138 : BitVec 32 := 0#32
  let c0_i32_139 : BitVec 32 := 0#32
  ![v144.toNat, 17, 0, 0]
def k0_off213 (v1 : BitVec 32) (k0_t1 : Fin (k0_t1_loop v1).trips) : Fin 4 → Nat :=
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let c18_i32 : BitVec 32 := 18#32
  let c0_i32_143 : BitVec 32 := 0#32
  let c0_i32_144 : BitVec 32 := 0#32
  ![v144.toNat, 18, 0, 0]
def k0_off214 (v1 : BitVec 32) (k0_t1 : Fin (k0_t1_loop v1).trips) : Fin 4 → Nat :=
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let c19_i32 : BitVec 32 := 19#32
  let c0_i32_148 : BitVec 32 := 0#32
  let c0_i32_149 : BitVec 32 := 0#32
  ![v144.toNat, 19, 0, 0]
def k0_off215 (v1 : BitVec 32) (k0_t1 : Fin (k0_t1_loop v1).trips) : Fin 4 → Nat :=
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let c20_i32 : BitVec 32 := 20#32
  let c0_i32_153 : BitVec 32 := 0#32
  let c0_i32_154 : BitVec 32 := 0#32
  ![v144.toNat, 20, 0, 0]
def k0_off216 (v1 : BitVec 32) (k0_t1 : Fin (k0_t1_loop v1).trips) : Fin 4 → Nat :=
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let c21_i32 : BitVec 32 := 21#32
  let c0_i32_158 : BitVec 32 := 0#32
  let c0_i32_159 : BitVec 32 := 0#32
  ![v144.toNat, 21, 0, 0]
def k0_off217 (v1 : BitVec 32) (k0_t1 : Fin (k0_t1_loop v1).trips) : Fin 4 → Nat :=
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let c22_i32 : BitVec 32 := 22#32
  let c0_i32_163 : BitVec 32 := 0#32
  let c0_i32_164 : BitVec 32 := 0#32
  ![v144.toNat, 22, 0, 0]
def k0_off218 (v1 : BitVec 32) (k0_t1 : Fin (k0_t1_loop v1).trips) : Fin 4 → Nat :=
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let c23_i32 : BitVec 32 := 23#32
  let c0_i32_168 : BitVec 32 := 0#32
  let c0_i32_169 : BitVec 32 := 0#32
  ![v144.toNat, 23, 0, 0]
def k0_off219 (v1 : BitVec 32) (k0_t1 : Fin (k0_t1_loop v1).trips) : Fin 4 → Nat :=
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let c24_i32 : BitVec 32 := 24#32
  let c0_i32_173 : BitVec 32 := 0#32
  let c0_i32_174 : BitVec 32 := 0#32
  ![v144.toNat, 24, 0, 0]
def k0_off220 (v1 : BitVec 32) (k0_t1 : Fin (k0_t1_loop v1).trips) : Fin 4 → Nat :=
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let c25_i32 : BitVec 32 := 25#32
  let c0_i32_178 : BitVec 32 := 0#32
  let c0_i32_179 : BitVec 32 := 0#32
  ![v144.toNat, 25, 0, 0]
def k0_off221 (v1 : BitVec 32) (k0_t1 : Fin (k0_t1_loop v1).trips) : Fin 4 → Nat :=
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let c26_i32 : BitVec 32 := 26#32
  let c0_i32_183 : BitVec 32 := 0#32
  let c0_i32_184 : BitVec 32 := 0#32
  ![v144.toNat, 26, 0, 0]
def k0_off222 (v1 : BitVec 32) (k0_t1 : Fin (k0_t1_loop v1).trips) : Fin 4 → Nat :=
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let c27_i32 : BitVec 32 := 27#32
  let c0_i32_188 : BitVec 32 := 0#32
  let c0_i32_189 : BitVec 32 := 0#32
  ![v144.toNat, 27, 0, 0]
def k0_off223 (v1 : BitVec 32) (k0_t1 : Fin (k0_t1_loop v1).trips) : Fin 4 → Nat :=
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let c28_i32 : BitVec 32 := 28#32
  let c0_i32_193 : BitVec 32 := 0#32
  let c0_i32_194 : BitVec 32 := 0#32
  ![v144.toNat, 28, 0, 0]
def k0_off224 (v1 : BitVec 32) (k0_t1 : Fin (k0_t1_loop v1).trips) : Fin 4 → Nat :=
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let c29_i32 : BitVec 32 := 29#32
  let c0_i32_198 : BitVec 32 := 0#32
  let c0_i32_199 : BitVec 32 := 0#32
  ![v144.toNat, 29, 0, 0]
def k0_off225 (v1 : BitVec 32) (k0_t1 : Fin (k0_t1_loop v1).trips) : Fin 4 → Nat :=
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let c30_i32 : BitVec 32 := 30#32
  let c0_i32_203 : BitVec 32 := 0#32
  let c0_i32_204 : BitVec 32 := 0#32
  ![v144.toNat, 30, 0, 0]
def k0_off226 (v1 : BitVec 32) (k0_t1 : Fin (k0_t1_loop v1).trips) : Fin 4 → Nat :=
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let c31_i32 : BitVec 32 := 31#32
  let c0_i32_208 : BitVec 32 := 0#32
  let c0_i32_209 : BitVec 32 := 0#32
  ![v144.toNat, 31, 0, 0]
def k0_off227 (v1 : BitVec 32) (k0_t1 : Fin (k0_t1_loop v1).trips) : Fin 4 → Nat :=
  let c0_i32_28 : BitVec 32 := 0#32
  let c1_i32_30 : BitVec 32 := 1#32
  let arg11 : BitVec 32 := Scf.iv c0_i32_28 c1_i32_30 k0_t1
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v345 : Index := Scalar.indexCast v144
  let c0_213 : Index := 0#32
  let c0_214 : Index := 0#32
  let c0_215 : Index := 0#32
  ![v345.toNat, 0, 0, 0]
@[reducible] def k0_t2_loop (v1 : BitVec 32) : Scf.Loop 32 :=
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let v113 : BitVec 32 := Scalar.addi c0_i32_28 v112
  let c1_i32_31 : BitVec 32 := 1#32
  ⟨v116, v113, c1_i32_31⟩
def k0_off228 (i : grid0.Coords) (v1 : BitVec 32) (k0_t2 : Fin (k0_t2_loop v1).trips) : Fin 2 → Nat :=
  let arg0 : BitVec 32 := BitVec.ofNat 32 (i 0).val
  let v444 : Index := Scalar.indexCast arg0
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c1_i32_238 : BitVec 32 := 1#32
  let v440 : BitVec 32 := Scalar.addi arg11 c1_i32_238
  let c32_i32 : BitVec 32 := 32#32
  let v442 : BitVec 32 := Scalar.muli v440 c32_i32
  let c0_i32_240 : BitVec 32 := 0#32
  let v443 : BitVec 32 := Scalar.addi v442 c0_i32_240
  let v445 : Index := Scalar.indexCast v443
  ![v444.toNat, v445.toNat]
def k0_cond3 (v1 : BitVec 32) (k0_t2 : Fin (k0_t2_loop v1).trips) : BitVec 1 :=
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c1_i32_45 : BitVec 32 := 1#32
  let v145 : BitVec 32 := Scalar.addi arg11 c1_i32_45
  let v146 : BitVec 1 := Scalar.cmpi .slt v145 v3
  let v147 : BitVec 32 := Scalar.extui v146
  let c0_i32_46 : BitVec 32 := 0#32
  let v148 : BitVec 1 := Scalar.cmpi .ne v147 c0_i32_46
  v148

def k0_off229 (v1 : BitVec 32) (k0_t2 : Fin (k0_t2_loop v1).trips) : Fin 1 → Nat :=
  let c1_i32_239 : BitVec 32 := 1#32
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  ![v441.toNat]
def k0_off230 (v1 : BitVec 32) (k0_t2 : Fin (k0_t2_loop v1).trips) : Fin 4 → Nat :=
  let c1_i32_239 : BitVec 32 := 1#32
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  let c0_i32_241 : BitVec 32 := 0#32
  let c0_i32_242 : BitVec 32 := 0#32
  let c0_i32_243 : BitVec 32 := 0#32
  ![v441.toNat, 0, 0, 0]
def k0_off231 (v446 : BitVec 32) : Fin 3 → Nat :=
  let c0_i32_244 : BitVec 32 := 0#32
  let c0_i32_245 : BitVec 32 := 0#32
  ![v446.toNat, 0, 0]

def k0_chk66 (v1 : BitVec 32) (k0_t2 : Fin (k0_t2_loop v1).trips) (v446 : BitVec 32) : Prop :=
  (∀ (k0_h3 : k0_cond3 v1 k0_t2 = 1#1), ∀ a, (k0_off231 v446) a + S1x16x656.size a ≤ S40960x16x656.size a) ∧
  (∀ (k0_h3 : k0_cond3 v1 k0_t2 = 1#1), ∀ (hinb : ∀ a, (k0_off231 v446) a + S1x16x656.size a ≤ S40960x16x656.size a), (Rect.unit (s := S40960x16x656) (k0_off231 v446) S1x16x656.size hinb).WholeWords (EltTy.packing .i8))
theorem k0_off231_inb : ∀ (v1 : BitVec 32) (k0_t2 : Fin (k0_t2_loop v1).trips) (v446 : BitVec 32) (k0_hw66 : k0_chk66 v1 k0_t2 v446), ∀ (k0_h3 : k0_cond3 v1 k0_t2 = 1#1), ∀ a, (k0_off231 v446) a + S1x16x656.size a ≤ S40960x16x656.size a := fun v1 k0_t2 v446 k0_hw66 k0_h3 => k0_hw66.1 k0_h3
theorem k0_off231_wordsi8 : ∀ (v1 : BitVec 32) (k0_t2 : Fin (k0_t2_loop v1).trips) (v446 : BitVec 32) (k0_hw66 : k0_chk66 v1 k0_t2 v446), ∀ (k0_h3 : k0_cond3 v1 k0_t2 = 1#1), (Rect.unit (s := S40960x16x656) (k0_off231 v446) S1x16x656.size (k0_off231_inb v1 k0_t2 v446 k0_hw66 k0_h3)).WholeWords (EltTy.packing .i8) := fun v1 k0_t2 v446 k0_hw66 k0_h3 => k0_hw66.2 k0_h3 (k0_off231_inb v1 k0_t2 v446 k0_hw66 k0_h3)

def k0_off232 (i : grid0.Coords) (v1 : BitVec 32) (k0_t2 : Fin (k0_t2_loop v1).trips) : Fin 2 → Nat :=
  let arg0 : BitVec 32 := BitVec.ofNat 32 (i 0).val
  let v455 : Index := Scalar.indexCast arg0
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c1_i32_238 : BitVec 32 := 1#32
  let v440 : BitVec 32 := Scalar.addi arg11 c1_i32_238
  let c32_i32_246 : BitVec 32 := 32#32
  let v453 : BitVec 32 := Scalar.muli v440 c32_i32_246
  let c1_i32_247 : BitVec 32 := 1#32
  let v454 : BitVec 32 := Scalar.addi v453 c1_i32_247
  let v456 : Index := Scalar.indexCast v454
  ![v455.toNat, v456.toNat]
def k0_off233 (v1 : BitVec 32) (k0_t2 : Fin (k0_t2_loop v1).trips) : Fin 1 → Nat :=
  let c1_i32_239 : BitVec 32 := 1#32
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  ![v441.toNat]
def k0_off234 (v1 : BitVec 32) (k0_t2 : Fin (k0_t2_loop v1).trips) : Fin 4 → Nat :=
  let c1_i32_239 : BitVec 32 := 1#32
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  let c1_i32_248 : BitVec 32 := 1#32
  let c0_i32_249 : BitVec 32 := 0#32
  let c0_i32_250 : BitVec 32 := 0#32
  ![v441.toNat, 1, 0, 0]
def k0_off235 (v457 : BitVec 32) : Fin 3 → Nat :=
  let c0_i32_251 : BitVec 32 := 0#32
  let c0_i32_252 : BitVec 32 := 0#32
  ![v457.toNat, 0, 0]

def k0_chk67 (v1 : BitVec 32) (k0_t2 : Fin (k0_t2_loop v1).trips) (v457 : BitVec 32) : Prop :=
  (∀ (k0_h3 : k0_cond3 v1 k0_t2 = 1#1), ∀ a, (k0_off235 v457) a + S1x16x656.size a ≤ S40960x16x656.size a) ∧
  (∀ (k0_h3 : k0_cond3 v1 k0_t2 = 1#1), ∀ (hinb : ∀ a, (k0_off235 v457) a + S1x16x656.size a ≤ S40960x16x656.size a), (Rect.unit (s := S40960x16x656) (k0_off235 v457) S1x16x656.size hinb).WholeWords (EltTy.packing .i8))
theorem k0_off235_inb : ∀ (v1 : BitVec 32) (k0_t2 : Fin (k0_t2_loop v1).trips) (v457 : BitVec 32) (k0_hw67 : k0_chk67 v1 k0_t2 v457), ∀ (k0_h3 : k0_cond3 v1 k0_t2 = 1#1), ∀ a, (k0_off235 v457) a + S1x16x656.size a ≤ S40960x16x656.size a := fun v1 k0_t2 v457 k0_hw67 k0_h3 => k0_hw67.1 k0_h3
theorem k0_off235_wordsi8 : ∀ (v1 : BitVec 32) (k0_t2 : Fin (k0_t2_loop v1).trips) (v457 : BitVec 32) (k0_hw67 : k0_chk67 v1 k0_t2 v457), ∀ (k0_h3 : k0_cond3 v1 k0_t2 = 1#1), (Rect.unit (s := S40960x16x656) (k0_off235 v457) S1x16x656.size (k0_off235_inb v1 k0_t2 v457 k0_hw67 k0_h3)).WholeWords (EltTy.packing .i8) := fun v1 k0_t2 v457 k0_hw67 k0_h3 => k0_hw67.2 k0_h3 (k0_off235_inb v1 k0_t2 v457 k0_hw67 k0_h3)

def k0_off236 (i : grid0.Coords) (v1 : BitVec 32) (k0_t2 : Fin (k0_t2_loop v1).trips) : Fin 2 → Nat :=
  let arg0 : BitVec 32 := BitVec.ofNat 32 (i 0).val
  let v466 : Index := Scalar.indexCast arg0
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c1_i32_238 : BitVec 32 := 1#32
  let v440 : BitVec 32 := Scalar.addi arg11 c1_i32_238
  let c32_i32_253 : BitVec 32 := 32#32
  let v464 : BitVec 32 := Scalar.muli v440 c32_i32_253
  let c2_i32_254 : BitVec 32 := 2#32
  let v465 : BitVec 32 := Scalar.addi v464 c2_i32_254
  let v467 : Index := Scalar.indexCast v465
  ![v466.toNat, v467.toNat]
def k0_off237 (v1 : BitVec 32) (k0_t2 : Fin (k0_t2_loop v1).trips) : Fin 1 → Nat :=
  let c1_i32_239 : BitVec 32 := 1#32
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  ![v441.toNat]
def k0_off238 (v1 : BitVec 32) (k0_t2 : Fin (k0_t2_loop v1).trips) : Fin 4 → Nat :=
  let c1_i32_239 : BitVec 32 := 1#32
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  let c2_i32_255 : BitVec 32 := 2#32
  let c0_i32_256 : BitVec 32 := 0#32
  let c0_i32_257 : BitVec 32 := 0#32
  ![v441.toNat, 2, 0, 0]
def k0_off239 (v468 : BitVec 32) : Fin 3 → Nat :=
  let c0_i32_258 : BitVec 32 := 0#32
  let c0_i32_259 : BitVec 32 := 0#32
  ![v468.toNat, 0, 0]

def k0_chk68 (v1 : BitVec 32) (k0_t2 : Fin (k0_t2_loop v1).trips) (v468 : BitVec 32) : Prop :=
  (∀ (k0_h3 : k0_cond3 v1 k0_t2 = 1#1), ∀ a, (k0_off239 v468) a + S1x16x656.size a ≤ S40960x16x656.size a) ∧
  (∀ (k0_h3 : k0_cond3 v1 k0_t2 = 1#1), ∀ (hinb : ∀ a, (k0_off239 v468) a + S1x16x656.size a ≤ S40960x16x656.size a), (Rect.unit (s := S40960x16x656) (k0_off239 v468) S1x16x656.size hinb).WholeWords (EltTy.packing .i8))
theorem k0_off239_inb : ∀ (v1 : BitVec 32) (k0_t2 : Fin (k0_t2_loop v1).trips) (v468 : BitVec 32) (k0_hw68 : k0_chk68 v1 k0_t2 v468), ∀ (k0_h3 : k0_cond3 v1 k0_t2 = 1#1), ∀ a, (k0_off239 v468) a + S1x16x656.size a ≤ S40960x16x656.size a := fun v1 k0_t2 v468 k0_hw68 k0_h3 => k0_hw68.1 k0_h3
theorem k0_off239_wordsi8 : ∀ (v1 : BitVec 32) (k0_t2 : Fin (k0_t2_loop v1).trips) (v468 : BitVec 32) (k0_hw68 : k0_chk68 v1 k0_t2 v468), ∀ (k0_h3 : k0_cond3 v1 k0_t2 = 1#1), (Rect.unit (s := S40960x16x656) (k0_off239 v468) S1x16x656.size (k0_off239_inb v1 k0_t2 v468 k0_hw68 k0_h3)).WholeWords (EltTy.packing .i8) := fun v1 k0_t2 v468 k0_hw68 k0_h3 => k0_hw68.2 k0_h3 (k0_off239_inb v1 k0_t2 v468 k0_hw68 k0_h3)

def k0_off240 (i : grid0.Coords) (v1 : BitVec 32) (k0_t2 : Fin (k0_t2_loop v1).trips) : Fin 2 → Nat :=
  let arg0 : BitVec 32 := BitVec.ofNat 32 (i 0).val
  let v477 : Index := Scalar.indexCast arg0
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c1_i32_238 : BitVec 32 := 1#32
  let v440 : BitVec 32 := Scalar.addi arg11 c1_i32_238
  let c32_i32_260 : BitVec 32 := 32#32
  let v475 : BitVec 32 := Scalar.muli v440 c32_i32_260
  let c3_i32_261 : BitVec 32 := 3#32
  let v476 : BitVec 32 := Scalar.addi v475 c3_i32_261
  let v478 : Index := Scalar.indexCast v476
  ![v477.toNat, v478.toNat]
def k0_off241 (v1 : BitVec 32) (k0_t2 : Fin (k0_t2_loop v1).trips) : Fin 1 → Nat :=
  let c1_i32_239 : BitVec 32 := 1#32
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  ![v441.toNat]
def k0_off242 (v1 : BitVec 32) (k0_t2 : Fin (k0_t2_loop v1).trips) : Fin 4 → Nat :=
  let c1_i32_239 : BitVec 32 := 1#32
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  let c3_i32_262 : BitVec 32 := 3#32
  let c0_i32_263 : BitVec 32 := 0#32
  let c0_i32_264 : BitVec 32 := 0#32
  ![v441.toNat, 3, 0, 0]
def k0_off243 (v479 : BitVec 32) : Fin 3 → Nat :=
  let c0_i32_265 : BitVec 32 := 0#32
  let c0_i32_266 : BitVec 32 := 0#32
  ![v479.toNat, 0, 0]

def k0_chk69 (v1 : BitVec 32) (k0_t2 : Fin (k0_t2_loop v1).trips) (v479 : BitVec 32) : Prop :=
  (∀ (k0_h3 : k0_cond3 v1 k0_t2 = 1#1), ∀ a, (k0_off243 v479) a + S1x16x656.size a ≤ S40960x16x656.size a) ∧
  (∀ (k0_h3 : k0_cond3 v1 k0_t2 = 1#1), ∀ (hinb : ∀ a, (k0_off243 v479) a + S1x16x656.size a ≤ S40960x16x656.size a), (Rect.unit (s := S40960x16x656) (k0_off243 v479) S1x16x656.size hinb).WholeWords (EltTy.packing .i8))
theorem k0_off243_inb : ∀ (v1 : BitVec 32) (k0_t2 : Fin (k0_t2_loop v1).trips) (v479 : BitVec 32) (k0_hw69 : k0_chk69 v1 k0_t2 v479), ∀ (k0_h3 : k0_cond3 v1 k0_t2 = 1#1), ∀ a, (k0_off243 v479) a + S1x16x656.size a ≤ S40960x16x656.size a := fun v1 k0_t2 v479 k0_hw69 k0_h3 => k0_hw69.1 k0_h3
theorem k0_off243_wordsi8 : ∀ (v1 : BitVec 32) (k0_t2 : Fin (k0_t2_loop v1).trips) (v479 : BitVec 32) (k0_hw69 : k0_chk69 v1 k0_t2 v479), ∀ (k0_h3 : k0_cond3 v1 k0_t2 = 1#1), (Rect.unit (s := S40960x16x656) (k0_off243 v479) S1x16x656.size (k0_off243_inb v1 k0_t2 v479 k0_hw69 k0_h3)).WholeWords (EltTy.packing .i8) := fun v1 k0_t2 v479 k0_hw69 k0_h3 => k0_hw69.2 k0_h3 (k0_off243_inb v1 k0_t2 v479 k0_hw69 k0_h3)

def k0_off244 (i : grid0.Coords) (v1 : BitVec 32) (k0_t2 : Fin (k0_t2_loop v1).trips) : Fin 2 → Nat :=
  let arg0 : BitVec 32 := BitVec.ofNat 32 (i 0).val
  let v488 : Index := Scalar.indexCast arg0
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c1_i32_238 : BitVec 32 := 1#32
  let v440 : BitVec 32 := Scalar.addi arg11 c1_i32_238
  let c32_i32_267 : BitVec 32 := 32#32
  let v486 : BitVec 32 := Scalar.muli v440 c32_i32_267
  let c4_i32_268 : BitVec 32 := 4#32
  let v487 : BitVec 32 := Scalar.addi v486 c4_i32_268
  let v489 : Index := Scalar.indexCast v487
  ![v488.toNat, v489.toNat]
def k0_off245 (v1 : BitVec 32) (k0_t2 : Fin (k0_t2_loop v1).trips) : Fin 1 → Nat :=
  let c1_i32_239 : BitVec 32 := 1#32
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  ![v441.toNat]
def k0_off246 (v1 : BitVec 32) (k0_t2 : Fin (k0_t2_loop v1).trips) : Fin 4 → Nat :=
  let c1_i32_239 : BitVec 32 := 1#32
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  let c4_i32_269 : BitVec 32 := 4#32
  let c0_i32_270 : BitVec 32 := 0#32
  let c0_i32_271 : BitVec 32 := 0#32
  ![v441.toNat, 4, 0, 0]
def k0_off247 (v490 : BitVec 32) : Fin 3 → Nat :=
  let c0_i32_272 : BitVec 32 := 0#32
  let c0_i32_273 : BitVec 32 := 0#32
  ![v490.toNat, 0, 0]

def k0_chk70 (v1 : BitVec 32) (k0_t2 : Fin (k0_t2_loop v1).trips) (v490 : BitVec 32) : Prop :=
  (∀ (k0_h3 : k0_cond3 v1 k0_t2 = 1#1), ∀ a, (k0_off247 v490) a + S1x16x656.size a ≤ S40960x16x656.size a) ∧
  (∀ (k0_h3 : k0_cond3 v1 k0_t2 = 1#1), ∀ (hinb : ∀ a, (k0_off247 v490) a + S1x16x656.size a ≤ S40960x16x656.size a), (Rect.unit (s := S40960x16x656) (k0_off247 v490) S1x16x656.size hinb).WholeWords (EltTy.packing .i8))
theorem k0_off247_inb : ∀ (v1 : BitVec 32) (k0_t2 : Fin (k0_t2_loop v1).trips) (v490 : BitVec 32) (k0_hw70 : k0_chk70 v1 k0_t2 v490), ∀ (k0_h3 : k0_cond3 v1 k0_t2 = 1#1), ∀ a, (k0_off247 v490) a + S1x16x656.size a ≤ S40960x16x656.size a := fun v1 k0_t2 v490 k0_hw70 k0_h3 => k0_hw70.1 k0_h3
theorem k0_off247_wordsi8 : ∀ (v1 : BitVec 32) (k0_t2 : Fin (k0_t2_loop v1).trips) (v490 : BitVec 32) (k0_hw70 : k0_chk70 v1 k0_t2 v490), ∀ (k0_h3 : k0_cond3 v1 k0_t2 = 1#1), (Rect.unit (s := S40960x16x656) (k0_off247 v490) S1x16x656.size (k0_off247_inb v1 k0_t2 v490 k0_hw70 k0_h3)).WholeWords (EltTy.packing .i8) := fun v1 k0_t2 v490 k0_hw70 k0_h3 => k0_hw70.2 k0_h3 (k0_off247_inb v1 k0_t2 v490 k0_hw70 k0_h3)

def k0_off248 (i : grid0.Coords) (v1 : BitVec 32) (k0_t2 : Fin (k0_t2_loop v1).trips) : Fin 2 → Nat :=
  let arg0 : BitVec 32 := BitVec.ofNat 32 (i 0).val
  let v499 : Index := Scalar.indexCast arg0
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c1_i32_238 : BitVec 32 := 1#32
  let v440 : BitVec 32 := Scalar.addi arg11 c1_i32_238
  let c32_i32_274 : BitVec 32 := 32#32
  let v497 : BitVec 32 := Scalar.muli v440 c32_i32_274
  let c5_i32_275 : BitVec 32 := 5#32
  let v498 : BitVec 32 := Scalar.addi v497 c5_i32_275
  let v500 : Index := Scalar.indexCast v498
  ![v499.toNat, v500.toNat]
def k0_off249 (v1 : BitVec 32) (k0_t2 : Fin (k0_t2_loop v1).trips) : Fin 1 → Nat :=
  let c1_i32_239 : BitVec 32 := 1#32
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  ![v441.toNat]
def k0_off250 (v1 : BitVec 32) (k0_t2 : Fin (k0_t2_loop v1).trips) : Fin 4 → Nat :=
  let c1_i32_239 : BitVec 32 := 1#32
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  let c5_i32_276 : BitVec 32 := 5#32
  let c0_i32_277 : BitVec 32 := 0#32
  let c0_i32_278 : BitVec 32 := 0#32
  ![v441.toNat, 5, 0, 0]
def k0_off251 (v501 : BitVec 32) : Fin 3 → Nat :=
  let c0_i32_279 : BitVec 32 := 0#32
  let c0_i32_280 : BitVec 32 := 0#32
  ![v501.toNat, 0, 0]

def k0_chk71 (v1 : BitVec 32) (k0_t2 : Fin (k0_t2_loop v1).trips) (v501 : BitVec 32) : Prop :=
  (∀ (k0_h3 : k0_cond3 v1 k0_t2 = 1#1), ∀ a, (k0_off251 v501) a + S1x16x656.size a ≤ S40960x16x656.size a) ∧
  (∀ (k0_h3 : k0_cond3 v1 k0_t2 = 1#1), ∀ (hinb : ∀ a, (k0_off251 v501) a + S1x16x656.size a ≤ S40960x16x656.size a), (Rect.unit (s := S40960x16x656) (k0_off251 v501) S1x16x656.size hinb).WholeWords (EltTy.packing .i8))
theorem k0_off251_inb : ∀ (v1 : BitVec 32) (k0_t2 : Fin (k0_t2_loop v1).trips) (v501 : BitVec 32) (k0_hw71 : k0_chk71 v1 k0_t2 v501), ∀ (k0_h3 : k0_cond3 v1 k0_t2 = 1#1), ∀ a, (k0_off251 v501) a + S1x16x656.size a ≤ S40960x16x656.size a := fun v1 k0_t2 v501 k0_hw71 k0_h3 => k0_hw71.1 k0_h3
theorem k0_off251_wordsi8 : ∀ (v1 : BitVec 32) (k0_t2 : Fin (k0_t2_loop v1).trips) (v501 : BitVec 32) (k0_hw71 : k0_chk71 v1 k0_t2 v501), ∀ (k0_h3 : k0_cond3 v1 k0_t2 = 1#1), (Rect.unit (s := S40960x16x656) (k0_off251 v501) S1x16x656.size (k0_off251_inb v1 k0_t2 v501 k0_hw71 k0_h3)).WholeWords (EltTy.packing .i8) := fun v1 k0_t2 v501 k0_hw71 k0_h3 => k0_hw71.2 k0_h3 (k0_off251_inb v1 k0_t2 v501 k0_hw71 k0_h3)

def k0_off252 (i : grid0.Coords) (v1 : BitVec 32) (k0_t2 : Fin (k0_t2_loop v1).trips) : Fin 2 → Nat :=
  let arg0 : BitVec 32 := BitVec.ofNat 32 (i 0).val
  let v510 : Index := Scalar.indexCast arg0
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c1_i32_238 : BitVec 32 := 1#32
  let v440 : BitVec 32 := Scalar.addi arg11 c1_i32_238
  let c32_i32_281 : BitVec 32 := 32#32
  let v508 : BitVec 32 := Scalar.muli v440 c32_i32_281
  let c6_i32_282 : BitVec 32 := 6#32
  let v509 : BitVec 32 := Scalar.addi v508 c6_i32_282
  let v511 : Index := Scalar.indexCast v509
  ![v510.toNat, v511.toNat]
def k0_off253 (v1 : BitVec 32) (k0_t2 : Fin (k0_t2_loop v1).trips) : Fin 1 → Nat :=
  let c1_i32_239 : BitVec 32 := 1#32
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  ![v441.toNat]
def k0_off254 (v1 : BitVec 32) (k0_t2 : Fin (k0_t2_loop v1).trips) : Fin 4 → Nat :=
  let c1_i32_239 : BitVec 32 := 1#32
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  let c6_i32_283 : BitVec 32 := 6#32
  let c0_i32_284 : BitVec 32 := 0#32
  let c0_i32_285 : BitVec 32 := 0#32
  ![v441.toNat, 6, 0, 0]
def k0_off255 (v512 : BitVec 32) : Fin 3 → Nat :=
  let c0_i32_286 : BitVec 32 := 0#32
  let c0_i32_287 : BitVec 32 := 0#32
  ![v512.toNat, 0, 0]

def k0_chk72 (v1 : BitVec 32) (k0_t2 : Fin (k0_t2_loop v1).trips) (v512 : BitVec 32) : Prop :=
  (∀ (k0_h3 : k0_cond3 v1 k0_t2 = 1#1), ∀ a, (k0_off255 v512) a + S1x16x656.size a ≤ S40960x16x656.size a) ∧
  (∀ (k0_h3 : k0_cond3 v1 k0_t2 = 1#1), ∀ (hinb : ∀ a, (k0_off255 v512) a + S1x16x656.size a ≤ S40960x16x656.size a), (Rect.unit (s := S40960x16x656) (k0_off255 v512) S1x16x656.size hinb).WholeWords (EltTy.packing .i8))
theorem k0_off255_inb : ∀ (v1 : BitVec 32) (k0_t2 : Fin (k0_t2_loop v1).trips) (v512 : BitVec 32) (k0_hw72 : k0_chk72 v1 k0_t2 v512), ∀ (k0_h3 : k0_cond3 v1 k0_t2 = 1#1), ∀ a, (k0_off255 v512) a + S1x16x656.size a ≤ S40960x16x656.size a := fun v1 k0_t2 v512 k0_hw72 k0_h3 => k0_hw72.1 k0_h3
theorem k0_off255_wordsi8 : ∀ (v1 : BitVec 32) (k0_t2 : Fin (k0_t2_loop v1).trips) (v512 : BitVec 32) (k0_hw72 : k0_chk72 v1 k0_t2 v512), ∀ (k0_h3 : k0_cond3 v1 k0_t2 = 1#1), (Rect.unit (s := S40960x16x656) (k0_off255 v512) S1x16x656.size (k0_off255_inb v1 k0_t2 v512 k0_hw72 k0_h3)).WholeWords (EltTy.packing .i8) := fun v1 k0_t2 v512 k0_hw72 k0_h3 => k0_hw72.2 k0_h3 (k0_off255_inb v1 k0_t2 v512 k0_hw72 k0_h3)

def k0_off256 (i : grid0.Coords) (v1 : BitVec 32) (k0_t2 : Fin (k0_t2_loop v1).trips) : Fin 2 → Nat :=
  let arg0 : BitVec 32 := BitVec.ofNat 32 (i 0).val
  let v521 : Index := Scalar.indexCast arg0
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c1_i32_238 : BitVec 32 := 1#32
  let v440 : BitVec 32 := Scalar.addi arg11 c1_i32_238
  let c32_i32_288 : BitVec 32 := 32#32
  let v519 : BitVec 32 := Scalar.muli v440 c32_i32_288
  let c7_i32_289 : BitVec 32 := 7#32
  let v520 : BitVec 32 := Scalar.addi v519 c7_i32_289
  let v522 : Index := Scalar.indexCast v520
  ![v521.toNat, v522.toNat]
def k0_off257 (v1 : BitVec 32) (k0_t2 : Fin (k0_t2_loop v1).trips) : Fin 1 → Nat :=
  let c1_i32_239 : BitVec 32 := 1#32
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  ![v441.toNat]
def k0_off258 (v1 : BitVec 32) (k0_t2 : Fin (k0_t2_loop v1).trips) : Fin 4 → Nat :=
  let c1_i32_239 : BitVec 32 := 1#32
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  let c7_i32_290 : BitVec 32 := 7#32
  let c0_i32_291 : BitVec 32 := 0#32
  let c0_i32_292 : BitVec 32 := 0#32
  ![v441.toNat, 7, 0, 0]
def k0_off259 (v523 : BitVec 32) : Fin 3 → Nat :=
  let c0_i32_293 : BitVec 32 := 0#32
  let c0_i32_294 : BitVec 32 := 0#32
  ![v523.toNat, 0, 0]

def k0_chk73 (v1 : BitVec 32) (k0_t2 : Fin (k0_t2_loop v1).trips) (v523 : BitVec 32) : Prop :=
  (∀ (k0_h3 : k0_cond3 v1 k0_t2 = 1#1), ∀ a, (k0_off259 v523) a + S1x16x656.size a ≤ S40960x16x656.size a) ∧
  (∀ (k0_h3 : k0_cond3 v1 k0_t2 = 1#1), ∀ (hinb : ∀ a, (k0_off259 v523) a + S1x16x656.size a ≤ S40960x16x656.size a), (Rect.unit (s := S40960x16x656) (k0_off259 v523) S1x16x656.size hinb).WholeWords (EltTy.packing .i8))
theorem k0_off259_inb : ∀ (v1 : BitVec 32) (k0_t2 : Fin (k0_t2_loop v1).trips) (v523 : BitVec 32) (k0_hw73 : k0_chk73 v1 k0_t2 v523), ∀ (k0_h3 : k0_cond3 v1 k0_t2 = 1#1), ∀ a, (k0_off259 v523) a + S1x16x656.size a ≤ S40960x16x656.size a := fun v1 k0_t2 v523 k0_hw73 k0_h3 => k0_hw73.1 k0_h3
theorem k0_off259_wordsi8 : ∀ (v1 : BitVec 32) (k0_t2 : Fin (k0_t2_loop v1).trips) (v523 : BitVec 32) (k0_hw73 : k0_chk73 v1 k0_t2 v523), ∀ (k0_h3 : k0_cond3 v1 k0_t2 = 1#1), (Rect.unit (s := S40960x16x656) (k0_off259 v523) S1x16x656.size (k0_off259_inb v1 k0_t2 v523 k0_hw73 k0_h3)).WholeWords (EltTy.packing .i8) := fun v1 k0_t2 v523 k0_hw73 k0_h3 => k0_hw73.2 k0_h3 (k0_off259_inb v1 k0_t2 v523 k0_hw73 k0_h3)

def k0_off260 (i : grid0.Coords) (v1 : BitVec 32) (k0_t2 : Fin (k0_t2_loop v1).trips) : Fin 2 → Nat :=
  let arg0 : BitVec 32 := BitVec.ofNat 32 (i 0).val
  let v532 : Index := Scalar.indexCast arg0
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c1_i32_238 : BitVec 32 := 1#32
  let v440 : BitVec 32 := Scalar.addi arg11 c1_i32_238
  let c32_i32_295 : BitVec 32 := 32#32
  let v530 : BitVec 32 := Scalar.muli v440 c32_i32_295
  let c8_i32_296 : BitVec 32 := 8#32
  let v531 : BitVec 32 := Scalar.addi v530 c8_i32_296
  let v533 : Index := Scalar.indexCast v531
  ![v532.toNat, v533.toNat]
def k0_off261 (v1 : BitVec 32) (k0_t2 : Fin (k0_t2_loop v1).trips) : Fin 1 → Nat :=
  let c1_i32_239 : BitVec 32 := 1#32
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  ![v441.toNat]
def k0_off262 (v1 : BitVec 32) (k0_t2 : Fin (k0_t2_loop v1).trips) : Fin 4 → Nat :=
  let c1_i32_239 : BitVec 32 := 1#32
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  let c8_i32_297 : BitVec 32 := 8#32
  let c0_i32_298 : BitVec 32 := 0#32
  let c0_i32_299 : BitVec 32 := 0#32
  ![v441.toNat, 8, 0, 0]
def k0_off263 (v534 : BitVec 32) : Fin 3 → Nat :=
  let c0_i32_300 : BitVec 32 := 0#32
  let c0_i32_301 : BitVec 32 := 0#32
  ![v534.toNat, 0, 0]

def k0_chk74 (v1 : BitVec 32) (k0_t2 : Fin (k0_t2_loop v1).trips) (v534 : BitVec 32) : Prop :=
  (∀ (k0_h3 : k0_cond3 v1 k0_t2 = 1#1), ∀ a, (k0_off263 v534) a + S1x16x656.size a ≤ S40960x16x656.size a) ∧
  (∀ (k0_h3 : k0_cond3 v1 k0_t2 = 1#1), ∀ (hinb : ∀ a, (k0_off263 v534) a + S1x16x656.size a ≤ S40960x16x656.size a), (Rect.unit (s := S40960x16x656) (k0_off263 v534) S1x16x656.size hinb).WholeWords (EltTy.packing .i8))
theorem k0_off263_inb : ∀ (v1 : BitVec 32) (k0_t2 : Fin (k0_t2_loop v1).trips) (v534 : BitVec 32) (k0_hw74 : k0_chk74 v1 k0_t2 v534), ∀ (k0_h3 : k0_cond3 v1 k0_t2 = 1#1), ∀ a, (k0_off263 v534) a + S1x16x656.size a ≤ S40960x16x656.size a := fun v1 k0_t2 v534 k0_hw74 k0_h3 => k0_hw74.1 k0_h3
theorem k0_off263_wordsi8 : ∀ (v1 : BitVec 32) (k0_t2 : Fin (k0_t2_loop v1).trips) (v534 : BitVec 32) (k0_hw74 : k0_chk74 v1 k0_t2 v534), ∀ (k0_h3 : k0_cond3 v1 k0_t2 = 1#1), (Rect.unit (s := S40960x16x656) (k0_off263 v534) S1x16x656.size (k0_off263_inb v1 k0_t2 v534 k0_hw74 k0_h3)).WholeWords (EltTy.packing .i8) := fun v1 k0_t2 v534 k0_hw74 k0_h3 => k0_hw74.2 k0_h3 (k0_off263_inb v1 k0_t2 v534 k0_hw74 k0_h3)

def k0_off264 (i : grid0.Coords) (v1 : BitVec 32) (k0_t2 : Fin (k0_t2_loop v1).trips) : Fin 2 → Nat :=
  let arg0 : BitVec 32 := BitVec.ofNat 32 (i 0).val
  let v543 : Index := Scalar.indexCast arg0
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c1_i32_238 : BitVec 32 := 1#32
  let v440 : BitVec 32 := Scalar.addi arg11 c1_i32_238
  let c32_i32_302 : BitVec 32 := 32#32
  let v541 : BitVec 32 := Scalar.muli v440 c32_i32_302
  let c9_i32_303 : BitVec 32 := 9#32
  let v542 : BitVec 32 := Scalar.addi v541 c9_i32_303
  let v544 : Index := Scalar.indexCast v542
  ![v543.toNat, v544.toNat]
def k0_off265 (v1 : BitVec 32) (k0_t2 : Fin (k0_t2_loop v1).trips) : Fin 1 → Nat :=
  let c1_i32_239 : BitVec 32 := 1#32
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  ![v441.toNat]
def k0_off266 (v1 : BitVec 32) (k0_t2 : Fin (k0_t2_loop v1).trips) : Fin 4 → Nat :=
  let c1_i32_239 : BitVec 32 := 1#32
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  let c9_i32_304 : BitVec 32 := 9#32
  let c0_i32_305 : BitVec 32 := 0#32
  let c0_i32_306 : BitVec 32 := 0#32
  ![v441.toNat, 9, 0, 0]
def k0_off267 (v545 : BitVec 32) : Fin 3 → Nat :=
  let c0_i32_307 : BitVec 32 := 0#32
  let c0_i32_308 : BitVec 32 := 0#32
  ![v545.toNat, 0, 0]

def k0_chk75 (v1 : BitVec 32) (k0_t2 : Fin (k0_t2_loop v1).trips) (v545 : BitVec 32) : Prop :=
  (∀ (k0_h3 : k0_cond3 v1 k0_t2 = 1#1), ∀ a, (k0_off267 v545) a + S1x16x656.size a ≤ S40960x16x656.size a) ∧
  (∀ (k0_h3 : k0_cond3 v1 k0_t2 = 1#1), ∀ (hinb : ∀ a, (k0_off267 v545) a + S1x16x656.size a ≤ S40960x16x656.size a), (Rect.unit (s := S40960x16x656) (k0_off267 v545) S1x16x656.size hinb).WholeWords (EltTy.packing .i8))
theorem k0_off267_inb : ∀ (v1 : BitVec 32) (k0_t2 : Fin (k0_t2_loop v1).trips) (v545 : BitVec 32) (k0_hw75 : k0_chk75 v1 k0_t2 v545), ∀ (k0_h3 : k0_cond3 v1 k0_t2 = 1#1), ∀ a, (k0_off267 v545) a + S1x16x656.size a ≤ S40960x16x656.size a := fun v1 k0_t2 v545 k0_hw75 k0_h3 => k0_hw75.1 k0_h3
theorem k0_off267_wordsi8 : ∀ (v1 : BitVec 32) (k0_t2 : Fin (k0_t2_loop v1).trips) (v545 : BitVec 32) (k0_hw75 : k0_chk75 v1 k0_t2 v545), ∀ (k0_h3 : k0_cond3 v1 k0_t2 = 1#1), (Rect.unit (s := S40960x16x656) (k0_off267 v545) S1x16x656.size (k0_off267_inb v1 k0_t2 v545 k0_hw75 k0_h3)).WholeWords (EltTy.packing .i8) := fun v1 k0_t2 v545 k0_hw75 k0_h3 => k0_hw75.2 k0_h3 (k0_off267_inb v1 k0_t2 v545 k0_hw75 k0_h3)

def k0_off268 (i : grid0.Coords) (v1 : BitVec 32) (k0_t2 : Fin (k0_t2_loop v1).trips) : Fin 2 → Nat :=
  let arg0 : BitVec 32 := BitVec.ofNat 32 (i 0).val
  let v554 : Index := Scalar.indexCast arg0
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c1_i32_238 : BitVec 32 := 1#32
  let v440 : BitVec 32 := Scalar.addi arg11 c1_i32_238
  let c32_i32_309 : BitVec 32 := 32#32
  let v552 : BitVec 32 := Scalar.muli v440 c32_i32_309
  let c10_i32_310 : BitVec 32 := 10#32
  let v553 : BitVec 32 := Scalar.addi v552 c10_i32_310
  let v555 : Index := Scalar.indexCast v553
  ![v554.toNat, v555.toNat]
def k0_off269 (v1 : BitVec 32) (k0_t2 : Fin (k0_t2_loop v1).trips) : Fin 1 → Nat :=
  let c1_i32_239 : BitVec 32 := 1#32
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  ![v441.toNat]
def k0_off270 (v1 : BitVec 32) (k0_t2 : Fin (k0_t2_loop v1).trips) : Fin 4 → Nat :=
  let c1_i32_239 : BitVec 32 := 1#32
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  let c10_i32_311 : BitVec 32 := 10#32
  let c0_i32_312 : BitVec 32 := 0#32
  let c0_i32_313 : BitVec 32 := 0#32
  ![v441.toNat, 10, 0, 0]
def k0_off271 (v556 : BitVec 32) : Fin 3 → Nat :=
  let c0_i32_314 : BitVec 32 := 0#32
  let c0_i32_315 : BitVec 32 := 0#32
  ![v556.toNat, 0, 0]

def k0_chk76 (v1 : BitVec 32) (k0_t2 : Fin (k0_t2_loop v1).trips) (v556 : BitVec 32) : Prop :=
  (∀ (k0_h3 : k0_cond3 v1 k0_t2 = 1#1), ∀ a, (k0_off271 v556) a + S1x16x656.size a ≤ S40960x16x656.size a) ∧
  (∀ (k0_h3 : k0_cond3 v1 k0_t2 = 1#1), ∀ (hinb : ∀ a, (k0_off271 v556) a + S1x16x656.size a ≤ S40960x16x656.size a), (Rect.unit (s := S40960x16x656) (k0_off271 v556) S1x16x656.size hinb).WholeWords (EltTy.packing .i8))
theorem k0_off271_inb : ∀ (v1 : BitVec 32) (k0_t2 : Fin (k0_t2_loop v1).trips) (v556 : BitVec 32) (k0_hw76 : k0_chk76 v1 k0_t2 v556), ∀ (k0_h3 : k0_cond3 v1 k0_t2 = 1#1), ∀ a, (k0_off271 v556) a + S1x16x656.size a ≤ S40960x16x656.size a := fun v1 k0_t2 v556 k0_hw76 k0_h3 => k0_hw76.1 k0_h3
theorem k0_off271_wordsi8 : ∀ (v1 : BitVec 32) (k0_t2 : Fin (k0_t2_loop v1).trips) (v556 : BitVec 32) (k0_hw76 : k0_chk76 v1 k0_t2 v556), ∀ (k0_h3 : k0_cond3 v1 k0_t2 = 1#1), (Rect.unit (s := S40960x16x656) (k0_off271 v556) S1x16x656.size (k0_off271_inb v1 k0_t2 v556 k0_hw76 k0_h3)).WholeWords (EltTy.packing .i8) := fun v1 k0_t2 v556 k0_hw76 k0_h3 => k0_hw76.2 k0_h3 (k0_off271_inb v1 k0_t2 v556 k0_hw76 k0_h3)

def k0_off272 (i : grid0.Coords) (v1 : BitVec 32) (k0_t2 : Fin (k0_t2_loop v1).trips) : Fin 2 → Nat :=
  let arg0 : BitVec 32 := BitVec.ofNat 32 (i 0).val
  let v565 : Index := Scalar.indexCast arg0
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c1_i32_238 : BitVec 32 := 1#32
  let v440 : BitVec 32 := Scalar.addi arg11 c1_i32_238
  let c32_i32_316 : BitVec 32 := 32#32
  let v563 : BitVec 32 := Scalar.muli v440 c32_i32_316
  let c11_i32_317 : BitVec 32 := 11#32
  let v564 : BitVec 32 := Scalar.addi v563 c11_i32_317
  let v566 : Index := Scalar.indexCast v564
  ![v565.toNat, v566.toNat]
def k0_off273 (v1 : BitVec 32) (k0_t2 : Fin (k0_t2_loop v1).trips) : Fin 1 → Nat :=
  let c1_i32_239 : BitVec 32 := 1#32
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  ![v441.toNat]
def k0_off274 (v1 : BitVec 32) (k0_t2 : Fin (k0_t2_loop v1).trips) : Fin 4 → Nat :=
  let c1_i32_239 : BitVec 32 := 1#32
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  let c11_i32_318 : BitVec 32 := 11#32
  let c0_i32_319 : BitVec 32 := 0#32
  let c0_i32_320 : BitVec 32 := 0#32
  ![v441.toNat, 11, 0, 0]
def k0_off275 (v567 : BitVec 32) : Fin 3 → Nat :=
  let c0_i32_321 : BitVec 32 := 0#32
  let c0_i32_322 : BitVec 32 := 0#32
  ![v567.toNat, 0, 0]

def k0_chk77 (v1 : BitVec 32) (k0_t2 : Fin (k0_t2_loop v1).trips) (v567 : BitVec 32) : Prop :=
  (∀ (k0_h3 : k0_cond3 v1 k0_t2 = 1#1), ∀ a, (k0_off275 v567) a + S1x16x656.size a ≤ S40960x16x656.size a) ∧
  (∀ (k0_h3 : k0_cond3 v1 k0_t2 = 1#1), ∀ (hinb : ∀ a, (k0_off275 v567) a + S1x16x656.size a ≤ S40960x16x656.size a), (Rect.unit (s := S40960x16x656) (k0_off275 v567) S1x16x656.size hinb).WholeWords (EltTy.packing .i8))
theorem k0_off275_inb : ∀ (v1 : BitVec 32) (k0_t2 : Fin (k0_t2_loop v1).trips) (v567 : BitVec 32) (k0_hw77 : k0_chk77 v1 k0_t2 v567), ∀ (k0_h3 : k0_cond3 v1 k0_t2 = 1#1), ∀ a, (k0_off275 v567) a + S1x16x656.size a ≤ S40960x16x656.size a := fun v1 k0_t2 v567 k0_hw77 k0_h3 => k0_hw77.1 k0_h3
theorem k0_off275_wordsi8 : ∀ (v1 : BitVec 32) (k0_t2 : Fin (k0_t2_loop v1).trips) (v567 : BitVec 32) (k0_hw77 : k0_chk77 v1 k0_t2 v567), ∀ (k0_h3 : k0_cond3 v1 k0_t2 = 1#1), (Rect.unit (s := S40960x16x656) (k0_off275 v567) S1x16x656.size (k0_off275_inb v1 k0_t2 v567 k0_hw77 k0_h3)).WholeWords (EltTy.packing .i8) := fun v1 k0_t2 v567 k0_hw77 k0_h3 => k0_hw77.2 k0_h3 (k0_off275_inb v1 k0_t2 v567 k0_hw77 k0_h3)

def k0_off276 (i : grid0.Coords) (v1 : BitVec 32) (k0_t2 : Fin (k0_t2_loop v1).trips) : Fin 2 → Nat :=
  let arg0 : BitVec 32 := BitVec.ofNat 32 (i 0).val
  let v576 : Index := Scalar.indexCast arg0
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c1_i32_238 : BitVec 32 := 1#32
  let v440 : BitVec 32 := Scalar.addi arg11 c1_i32_238
  let c32_i32_323 : BitVec 32 := 32#32
  let v574 : BitVec 32 := Scalar.muli v440 c32_i32_323
  let c12_i32_324 : BitVec 32 := 12#32
  let v575 : BitVec 32 := Scalar.addi v574 c12_i32_324
  let v577 : Index := Scalar.indexCast v575
  ![v576.toNat, v577.toNat]
def k0_off277 (v1 : BitVec 32) (k0_t2 : Fin (k0_t2_loop v1).trips) : Fin 1 → Nat :=
  let c1_i32_239 : BitVec 32 := 1#32
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  ![v441.toNat]
def k0_off278 (v1 : BitVec 32) (k0_t2 : Fin (k0_t2_loop v1).trips) : Fin 4 → Nat :=
  let c1_i32_239 : BitVec 32 := 1#32
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  let c12_i32_325 : BitVec 32 := 12#32
  let c0_i32_326 : BitVec 32 := 0#32
  let c0_i32_327 : BitVec 32 := 0#32
  ![v441.toNat, 12, 0, 0]
def k0_off279 (v578 : BitVec 32) : Fin 3 → Nat :=
  let c0_i32_328 : BitVec 32 := 0#32
  let c0_i32_329 : BitVec 32 := 0#32
  ![v578.toNat, 0, 0]

def k0_chk78 (v1 : BitVec 32) (k0_t2 : Fin (k0_t2_loop v1).trips) (v578 : BitVec 32) : Prop :=
  (∀ (k0_h3 : k0_cond3 v1 k0_t2 = 1#1), ∀ a, (k0_off279 v578) a + S1x16x656.size a ≤ S40960x16x656.size a) ∧
  (∀ (k0_h3 : k0_cond3 v1 k0_t2 = 1#1), ∀ (hinb : ∀ a, (k0_off279 v578) a + S1x16x656.size a ≤ S40960x16x656.size a), (Rect.unit (s := S40960x16x656) (k0_off279 v578) S1x16x656.size hinb).WholeWords (EltTy.packing .i8))
theorem k0_off279_inb : ∀ (v1 : BitVec 32) (k0_t2 : Fin (k0_t2_loop v1).trips) (v578 : BitVec 32) (k0_hw78 : k0_chk78 v1 k0_t2 v578), ∀ (k0_h3 : k0_cond3 v1 k0_t2 = 1#1), ∀ a, (k0_off279 v578) a + S1x16x656.size a ≤ S40960x16x656.size a := fun v1 k0_t2 v578 k0_hw78 k0_h3 => k0_hw78.1 k0_h3
theorem k0_off279_wordsi8 : ∀ (v1 : BitVec 32) (k0_t2 : Fin (k0_t2_loop v1).trips) (v578 : BitVec 32) (k0_hw78 : k0_chk78 v1 k0_t2 v578), ∀ (k0_h3 : k0_cond3 v1 k0_t2 = 1#1), (Rect.unit (s := S40960x16x656) (k0_off279 v578) S1x16x656.size (k0_off279_inb v1 k0_t2 v578 k0_hw78 k0_h3)).WholeWords (EltTy.packing .i8) := fun v1 k0_t2 v578 k0_hw78 k0_h3 => k0_hw78.2 k0_h3 (k0_off279_inb v1 k0_t2 v578 k0_hw78 k0_h3)

def k0_off280 (i : grid0.Coords) (v1 : BitVec 32) (k0_t2 : Fin (k0_t2_loop v1).trips) : Fin 2 → Nat :=
  let arg0 : BitVec 32 := BitVec.ofNat 32 (i 0).val
  let v587 : Index := Scalar.indexCast arg0
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c1_i32_238 : BitVec 32 := 1#32
  let v440 : BitVec 32 := Scalar.addi arg11 c1_i32_238
  let c32_i32_330 : BitVec 32 := 32#32
  let v585 : BitVec 32 := Scalar.muli v440 c32_i32_330
  let c13_i32_331 : BitVec 32 := 13#32
  let v586 : BitVec 32 := Scalar.addi v585 c13_i32_331
  let v588 : Index := Scalar.indexCast v586
  ![v587.toNat, v588.toNat]
def k0_off281 (v1 : BitVec 32) (k0_t2 : Fin (k0_t2_loop v1).trips) : Fin 1 → Nat :=
  let c1_i32_239 : BitVec 32 := 1#32
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  ![v441.toNat]
def k0_off282 (v1 : BitVec 32) (k0_t2 : Fin (k0_t2_loop v1).trips) : Fin 4 → Nat :=
  let c1_i32_239 : BitVec 32 := 1#32
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  let c13_i32_332 : BitVec 32 := 13#32
  let c0_i32_333 : BitVec 32 := 0#32
  let c0_i32_334 : BitVec 32 := 0#32
  ![v441.toNat, 13, 0, 0]
def k0_off283 (v589 : BitVec 32) : Fin 3 → Nat :=
  let c0_i32_335 : BitVec 32 := 0#32
  let c0_i32_336 : BitVec 32 := 0#32
  ![v589.toNat, 0, 0]

def k0_chk79 (v1 : BitVec 32) (k0_t2 : Fin (k0_t2_loop v1).trips) (v589 : BitVec 32) : Prop :=
  (∀ (k0_h3 : k0_cond3 v1 k0_t2 = 1#1), ∀ a, (k0_off283 v589) a + S1x16x656.size a ≤ S40960x16x656.size a) ∧
  (∀ (k0_h3 : k0_cond3 v1 k0_t2 = 1#1), ∀ (hinb : ∀ a, (k0_off283 v589) a + S1x16x656.size a ≤ S40960x16x656.size a), (Rect.unit (s := S40960x16x656) (k0_off283 v589) S1x16x656.size hinb).WholeWords (EltTy.packing .i8))
theorem k0_off283_inb : ∀ (v1 : BitVec 32) (k0_t2 : Fin (k0_t2_loop v1).trips) (v589 : BitVec 32) (k0_hw79 : k0_chk79 v1 k0_t2 v589), ∀ (k0_h3 : k0_cond3 v1 k0_t2 = 1#1), ∀ a, (k0_off283 v589) a + S1x16x656.size a ≤ S40960x16x656.size a := fun v1 k0_t2 v589 k0_hw79 k0_h3 => k0_hw79.1 k0_h3
theorem k0_off283_wordsi8 : ∀ (v1 : BitVec 32) (k0_t2 : Fin (k0_t2_loop v1).trips) (v589 : BitVec 32) (k0_hw79 : k0_chk79 v1 k0_t2 v589), ∀ (k0_h3 : k0_cond3 v1 k0_t2 = 1#1), (Rect.unit (s := S40960x16x656) (k0_off283 v589) S1x16x656.size (k0_off283_inb v1 k0_t2 v589 k0_hw79 k0_h3)).WholeWords (EltTy.packing .i8) := fun v1 k0_t2 v589 k0_hw79 k0_h3 => k0_hw79.2 k0_h3 (k0_off283_inb v1 k0_t2 v589 k0_hw79 k0_h3)

def k0_off284 (i : grid0.Coords) (v1 : BitVec 32) (k0_t2 : Fin (k0_t2_loop v1).trips) : Fin 2 → Nat :=
  let arg0 : BitVec 32 := BitVec.ofNat 32 (i 0).val
  let v598 : Index := Scalar.indexCast arg0
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c1_i32_238 : BitVec 32 := 1#32
  let v440 : BitVec 32 := Scalar.addi arg11 c1_i32_238
  let c32_i32_337 : BitVec 32 := 32#32
  let v596 : BitVec 32 := Scalar.muli v440 c32_i32_337
  let c14_i32_338 : BitVec 32 := 14#32
  let v597 : BitVec 32 := Scalar.addi v596 c14_i32_338
  let v599 : Index := Scalar.indexCast v597
  ![v598.toNat, v599.toNat]
def k0_off285 (v1 : BitVec 32) (k0_t2 : Fin (k0_t2_loop v1).trips) : Fin 1 → Nat :=
  let c1_i32_239 : BitVec 32 := 1#32
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  ![v441.toNat]
def k0_off286 (v1 : BitVec 32) (k0_t2 : Fin (k0_t2_loop v1).trips) : Fin 4 → Nat :=
  let c1_i32_239 : BitVec 32 := 1#32
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  let c14_i32_339 : BitVec 32 := 14#32
  let c0_i32_340 : BitVec 32 := 0#32
  let c0_i32_341 : BitVec 32 := 0#32
  ![v441.toNat, 14, 0, 0]
def k0_off287 (v600 : BitVec 32) : Fin 3 → Nat :=
  let c0_i32_342 : BitVec 32 := 0#32
  let c0_i32_343 : BitVec 32 := 0#32
  ![v600.toNat, 0, 0]

def k0_chk80 (v1 : BitVec 32) (k0_t2 : Fin (k0_t2_loop v1).trips) (v600 : BitVec 32) : Prop :=
  (∀ (k0_h3 : k0_cond3 v1 k0_t2 = 1#1), ∀ a, (k0_off287 v600) a + S1x16x656.size a ≤ S40960x16x656.size a) ∧
  (∀ (k0_h3 : k0_cond3 v1 k0_t2 = 1#1), ∀ (hinb : ∀ a, (k0_off287 v600) a + S1x16x656.size a ≤ S40960x16x656.size a), (Rect.unit (s := S40960x16x656) (k0_off287 v600) S1x16x656.size hinb).WholeWords (EltTy.packing .i8))
theorem k0_off287_inb : ∀ (v1 : BitVec 32) (k0_t2 : Fin (k0_t2_loop v1).trips) (v600 : BitVec 32) (k0_hw80 : k0_chk80 v1 k0_t2 v600), ∀ (k0_h3 : k0_cond3 v1 k0_t2 = 1#1), ∀ a, (k0_off287 v600) a + S1x16x656.size a ≤ S40960x16x656.size a := fun v1 k0_t2 v600 k0_hw80 k0_h3 => k0_hw80.1 k0_h3
theorem k0_off287_wordsi8 : ∀ (v1 : BitVec 32) (k0_t2 : Fin (k0_t2_loop v1).trips) (v600 : BitVec 32) (k0_hw80 : k0_chk80 v1 k0_t2 v600), ∀ (k0_h3 : k0_cond3 v1 k0_t2 = 1#1), (Rect.unit (s := S40960x16x656) (k0_off287 v600) S1x16x656.size (k0_off287_inb v1 k0_t2 v600 k0_hw80 k0_h3)).WholeWords (EltTy.packing .i8) := fun v1 k0_t2 v600 k0_hw80 k0_h3 => k0_hw80.2 k0_h3 (k0_off287_inb v1 k0_t2 v600 k0_hw80 k0_h3)

def k0_off288 (i : grid0.Coords) (v1 : BitVec 32) (k0_t2 : Fin (k0_t2_loop v1).trips) : Fin 2 → Nat :=
  let arg0 : BitVec 32 := BitVec.ofNat 32 (i 0).val
  let v609 : Index := Scalar.indexCast arg0
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c1_i32_238 : BitVec 32 := 1#32
  let v440 : BitVec 32 := Scalar.addi arg11 c1_i32_238
  let c32_i32_344 : BitVec 32 := 32#32
  let v607 : BitVec 32 := Scalar.muli v440 c32_i32_344
  let c15_i32_345 : BitVec 32 := 15#32
  let v608 : BitVec 32 := Scalar.addi v607 c15_i32_345
  let v610 : Index := Scalar.indexCast v608
  ![v609.toNat, v610.toNat]
def k0_off289 (v1 : BitVec 32) (k0_t2 : Fin (k0_t2_loop v1).trips) : Fin 1 → Nat :=
  let c1_i32_239 : BitVec 32 := 1#32
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  ![v441.toNat]
def k0_off290 (v1 : BitVec 32) (k0_t2 : Fin (k0_t2_loop v1).trips) : Fin 4 → Nat :=
  let c1_i32_239 : BitVec 32 := 1#32
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  let c15_i32_346 : BitVec 32 := 15#32
  let c0_i32_347 : BitVec 32 := 0#32
  let c0_i32_348 : BitVec 32 := 0#32
  ![v441.toNat, 15, 0, 0]
def k0_off291 (v611 : BitVec 32) : Fin 3 → Nat :=
  let c0_i32_349 : BitVec 32 := 0#32
  let c0_i32_350 : BitVec 32 := 0#32
  ![v611.toNat, 0, 0]

def k0_chk81 (v1 : BitVec 32) (k0_t2 : Fin (k0_t2_loop v1).trips) (v611 : BitVec 32) : Prop :=
  (∀ (k0_h3 : k0_cond3 v1 k0_t2 = 1#1), ∀ a, (k0_off291 v611) a + S1x16x656.size a ≤ S40960x16x656.size a) ∧
  (∀ (k0_h3 : k0_cond3 v1 k0_t2 = 1#1), ∀ (hinb : ∀ a, (k0_off291 v611) a + S1x16x656.size a ≤ S40960x16x656.size a), (Rect.unit (s := S40960x16x656) (k0_off291 v611) S1x16x656.size hinb).WholeWords (EltTy.packing .i8))
theorem k0_off291_inb : ∀ (v1 : BitVec 32) (k0_t2 : Fin (k0_t2_loop v1).trips) (v611 : BitVec 32) (k0_hw81 : k0_chk81 v1 k0_t2 v611), ∀ (k0_h3 : k0_cond3 v1 k0_t2 = 1#1), ∀ a, (k0_off291 v611) a + S1x16x656.size a ≤ S40960x16x656.size a := fun v1 k0_t2 v611 k0_hw81 k0_h3 => k0_hw81.1 k0_h3
theorem k0_off291_wordsi8 : ∀ (v1 : BitVec 32) (k0_t2 : Fin (k0_t2_loop v1).trips) (v611 : BitVec 32) (k0_hw81 : k0_chk81 v1 k0_t2 v611), ∀ (k0_h3 : k0_cond3 v1 k0_t2 = 1#1), (Rect.unit (s := S40960x16x656) (k0_off291 v611) S1x16x656.size (k0_off291_inb v1 k0_t2 v611 k0_hw81 k0_h3)).WholeWords (EltTy.packing .i8) := fun v1 k0_t2 v611 k0_hw81 k0_h3 => k0_hw81.2 k0_h3 (k0_off291_inb v1 k0_t2 v611 k0_hw81 k0_h3)

def k0_off292 (i : grid0.Coords) (v1 : BitVec 32) (k0_t2 : Fin (k0_t2_loop v1).trips) : Fin 2 → Nat :=
  let arg0 : BitVec 32 := BitVec.ofNat 32 (i 0).val
  let v620 : Index := Scalar.indexCast arg0
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c1_i32_238 : BitVec 32 := 1#32
  let v440 : BitVec 32 := Scalar.addi arg11 c1_i32_238
  let c32_i32_351 : BitVec 32 := 32#32
  let v618 : BitVec 32 := Scalar.muli v440 c32_i32_351
  let c16_i32_352 : BitVec 32 := 16#32
  let v619 : BitVec 32 := Scalar.addi v618 c16_i32_352
  let v621 : Index := Scalar.indexCast v619
  ![v620.toNat, v621.toNat]
def k0_off293 (v1 : BitVec 32) (k0_t2 : Fin (k0_t2_loop v1).trips) : Fin 1 → Nat :=
  let c1_i32_239 : BitVec 32 := 1#32
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  ![v441.toNat]
def k0_off294 (v1 : BitVec 32) (k0_t2 : Fin (k0_t2_loop v1).trips) : Fin 4 → Nat :=
  let c1_i32_239 : BitVec 32 := 1#32
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  let c16_i32_353 : BitVec 32 := 16#32
  let c0_i32_354 : BitVec 32 := 0#32
  let c0_i32_355 : BitVec 32 := 0#32
  ![v441.toNat, 16, 0, 0]
def k0_off295 (v622 : BitVec 32) : Fin 3 → Nat :=
  let c0_i32_356 : BitVec 32 := 0#32
  let c0_i32_357 : BitVec 32 := 0#32
  ![v622.toNat, 0, 0]

def k0_chk82 (v1 : BitVec 32) (k0_t2 : Fin (k0_t2_loop v1).trips) (v622 : BitVec 32) : Prop :=
  (∀ (k0_h3 : k0_cond3 v1 k0_t2 = 1#1), ∀ a, (k0_off295 v622) a + S1x16x656.size a ≤ S40960x16x656.size a) ∧
  (∀ (k0_h3 : k0_cond3 v1 k0_t2 = 1#1), ∀ (hinb : ∀ a, (k0_off295 v622) a + S1x16x656.size a ≤ S40960x16x656.size a), (Rect.unit (s := S40960x16x656) (k0_off295 v622) S1x16x656.size hinb).WholeWords (EltTy.packing .i8))
theorem k0_off295_inb : ∀ (v1 : BitVec 32) (k0_t2 : Fin (k0_t2_loop v1).trips) (v622 : BitVec 32) (k0_hw82 : k0_chk82 v1 k0_t2 v622), ∀ (k0_h3 : k0_cond3 v1 k0_t2 = 1#1), ∀ a, (k0_off295 v622) a + S1x16x656.size a ≤ S40960x16x656.size a := fun v1 k0_t2 v622 k0_hw82 k0_h3 => k0_hw82.1 k0_h3
theorem k0_off295_wordsi8 : ∀ (v1 : BitVec 32) (k0_t2 : Fin (k0_t2_loop v1).trips) (v622 : BitVec 32) (k0_hw82 : k0_chk82 v1 k0_t2 v622), ∀ (k0_h3 : k0_cond3 v1 k0_t2 = 1#1), (Rect.unit (s := S40960x16x656) (k0_off295 v622) S1x16x656.size (k0_off295_inb v1 k0_t2 v622 k0_hw82 k0_h3)).WholeWords (EltTy.packing .i8) := fun v1 k0_t2 v622 k0_hw82 k0_h3 => k0_hw82.2 k0_h3 (k0_off295_inb v1 k0_t2 v622 k0_hw82 k0_h3)

def k0_off296 (i : grid0.Coords) (v1 : BitVec 32) (k0_t2 : Fin (k0_t2_loop v1).trips) : Fin 2 → Nat :=
  let arg0 : BitVec 32 := BitVec.ofNat 32 (i 0).val
  let v631 : Index := Scalar.indexCast arg0
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c1_i32_238 : BitVec 32 := 1#32
  let v440 : BitVec 32 := Scalar.addi arg11 c1_i32_238
  let c32_i32_358 : BitVec 32 := 32#32
  let v629 : BitVec 32 := Scalar.muli v440 c32_i32_358
  let c17_i32_359 : BitVec 32 := 17#32
  let v630 : BitVec 32 := Scalar.addi v629 c17_i32_359
  let v632 : Index := Scalar.indexCast v630
  ![v631.toNat, v632.toNat]
def k0_off297 (v1 : BitVec 32) (k0_t2 : Fin (k0_t2_loop v1).trips) : Fin 1 → Nat :=
  let c1_i32_239 : BitVec 32 := 1#32
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  ![v441.toNat]
def k0_off298 (v1 : BitVec 32) (k0_t2 : Fin (k0_t2_loop v1).trips) : Fin 4 → Nat :=
  let c1_i32_239 : BitVec 32 := 1#32
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  let c17_i32_360 : BitVec 32 := 17#32
  let c0_i32_361 : BitVec 32 := 0#32
  let c0_i32_362 : BitVec 32 := 0#32
  ![v441.toNat, 17, 0, 0]
def k0_off299 (v633 : BitVec 32) : Fin 3 → Nat :=
  let c0_i32_363 : BitVec 32 := 0#32
  let c0_i32_364 : BitVec 32 := 0#32
  ![v633.toNat, 0, 0]

def k0_chk83 (v1 : BitVec 32) (k0_t2 : Fin (k0_t2_loop v1).trips) (v633 : BitVec 32) : Prop :=
  (∀ (k0_h3 : k0_cond3 v1 k0_t2 = 1#1), ∀ a, (k0_off299 v633) a + S1x16x656.size a ≤ S40960x16x656.size a) ∧
  (∀ (k0_h3 : k0_cond3 v1 k0_t2 = 1#1), ∀ (hinb : ∀ a, (k0_off299 v633) a + S1x16x656.size a ≤ S40960x16x656.size a), (Rect.unit (s := S40960x16x656) (k0_off299 v633) S1x16x656.size hinb).WholeWords (EltTy.packing .i8))
theorem k0_off299_inb : ∀ (v1 : BitVec 32) (k0_t2 : Fin (k0_t2_loop v1).trips) (v633 : BitVec 32) (k0_hw83 : k0_chk83 v1 k0_t2 v633), ∀ (k0_h3 : k0_cond3 v1 k0_t2 = 1#1), ∀ a, (k0_off299 v633) a + S1x16x656.size a ≤ S40960x16x656.size a := fun v1 k0_t2 v633 k0_hw83 k0_h3 => k0_hw83.1 k0_h3
theorem k0_off299_wordsi8 : ∀ (v1 : BitVec 32) (k0_t2 : Fin (k0_t2_loop v1).trips) (v633 : BitVec 32) (k0_hw83 : k0_chk83 v1 k0_t2 v633), ∀ (k0_h3 : k0_cond3 v1 k0_t2 = 1#1), (Rect.unit (s := S40960x16x656) (k0_off299 v633) S1x16x656.size (k0_off299_inb v1 k0_t2 v633 k0_hw83 k0_h3)).WholeWords (EltTy.packing .i8) := fun v1 k0_t2 v633 k0_hw83 k0_h3 => k0_hw83.2 k0_h3 (k0_off299_inb v1 k0_t2 v633 k0_hw83 k0_h3)

def k0_off300 (i : grid0.Coords) (v1 : BitVec 32) (k0_t2 : Fin (k0_t2_loop v1).trips) : Fin 2 → Nat :=
  let arg0 : BitVec 32 := BitVec.ofNat 32 (i 0).val
  let v642 : Index := Scalar.indexCast arg0
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c1_i32_238 : BitVec 32 := 1#32
  let v440 : BitVec 32 := Scalar.addi arg11 c1_i32_238
  let c32_i32_365 : BitVec 32 := 32#32
  let v640 : BitVec 32 := Scalar.muli v440 c32_i32_365
  let c18_i32_366 : BitVec 32 := 18#32
  let v641 : BitVec 32 := Scalar.addi v640 c18_i32_366
  let v643 : Index := Scalar.indexCast v641
  ![v642.toNat, v643.toNat]
def k0_off301 (v1 : BitVec 32) (k0_t2 : Fin (k0_t2_loop v1).trips) : Fin 1 → Nat :=
  let c1_i32_239 : BitVec 32 := 1#32
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  ![v441.toNat]
def k0_off302 (v1 : BitVec 32) (k0_t2 : Fin (k0_t2_loop v1).trips) : Fin 4 → Nat :=
  let c1_i32_239 : BitVec 32 := 1#32
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  let c18_i32_367 : BitVec 32 := 18#32
  let c0_i32_368 : BitVec 32 := 0#32
  let c0_i32_369 : BitVec 32 := 0#32
  ![v441.toNat, 18, 0, 0]
def k0_off303 (v644 : BitVec 32) : Fin 3 → Nat :=
  let c0_i32_370 : BitVec 32 := 0#32
  let c0_i32_371 : BitVec 32 := 0#32
  ![v644.toNat, 0, 0]

def k0_chk84 (v1 : BitVec 32) (k0_t2 : Fin (k0_t2_loop v1).trips) (v644 : BitVec 32) : Prop :=
  (∀ (k0_h3 : k0_cond3 v1 k0_t2 = 1#1), ∀ a, (k0_off303 v644) a + S1x16x656.size a ≤ S40960x16x656.size a) ∧
  (∀ (k0_h3 : k0_cond3 v1 k0_t2 = 1#1), ∀ (hinb : ∀ a, (k0_off303 v644) a + S1x16x656.size a ≤ S40960x16x656.size a), (Rect.unit (s := S40960x16x656) (k0_off303 v644) S1x16x656.size hinb).WholeWords (EltTy.packing .i8))
theorem k0_off303_inb : ∀ (v1 : BitVec 32) (k0_t2 : Fin (k0_t2_loop v1).trips) (v644 : BitVec 32) (k0_hw84 : k0_chk84 v1 k0_t2 v644), ∀ (k0_h3 : k0_cond3 v1 k0_t2 = 1#1), ∀ a, (k0_off303 v644) a + S1x16x656.size a ≤ S40960x16x656.size a := fun v1 k0_t2 v644 k0_hw84 k0_h3 => k0_hw84.1 k0_h3
theorem k0_off303_wordsi8 : ∀ (v1 : BitVec 32) (k0_t2 : Fin (k0_t2_loop v1).trips) (v644 : BitVec 32) (k0_hw84 : k0_chk84 v1 k0_t2 v644), ∀ (k0_h3 : k0_cond3 v1 k0_t2 = 1#1), (Rect.unit (s := S40960x16x656) (k0_off303 v644) S1x16x656.size (k0_off303_inb v1 k0_t2 v644 k0_hw84 k0_h3)).WholeWords (EltTy.packing .i8) := fun v1 k0_t2 v644 k0_hw84 k0_h3 => k0_hw84.2 k0_h3 (k0_off303_inb v1 k0_t2 v644 k0_hw84 k0_h3)

def k0_off304 (i : grid0.Coords) (v1 : BitVec 32) (k0_t2 : Fin (k0_t2_loop v1).trips) : Fin 2 → Nat :=
  let arg0 : BitVec 32 := BitVec.ofNat 32 (i 0).val
  let v653 : Index := Scalar.indexCast arg0
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c1_i32_238 : BitVec 32 := 1#32
  let v440 : BitVec 32 := Scalar.addi arg11 c1_i32_238
  let c32_i32_372 : BitVec 32 := 32#32
  let v651 : BitVec 32 := Scalar.muli v440 c32_i32_372
  let c19_i32_373 : BitVec 32 := 19#32
  let v652 : BitVec 32 := Scalar.addi v651 c19_i32_373
  let v654 : Index := Scalar.indexCast v652
  ![v653.toNat, v654.toNat]
def k0_off305 (v1 : BitVec 32) (k0_t2 : Fin (k0_t2_loop v1).trips) : Fin 1 → Nat :=
  let c1_i32_239 : BitVec 32 := 1#32
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  ![v441.toNat]
def k0_off306 (v1 : BitVec 32) (k0_t2 : Fin (k0_t2_loop v1).trips) : Fin 4 → Nat :=
  let c1_i32_239 : BitVec 32 := 1#32
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  let c19_i32_374 : BitVec 32 := 19#32
  let c0_i32_375 : BitVec 32 := 0#32
  let c0_i32_376 : BitVec 32 := 0#32
  ![v441.toNat, 19, 0, 0]
def k0_off307 (v655 : BitVec 32) : Fin 3 → Nat :=
  let c0_i32_377 : BitVec 32 := 0#32
  let c0_i32_378 : BitVec 32 := 0#32
  ![v655.toNat, 0, 0]

def k0_chk85 (v1 : BitVec 32) (k0_t2 : Fin (k0_t2_loop v1).trips) (v655 : BitVec 32) : Prop :=
  (∀ (k0_h3 : k0_cond3 v1 k0_t2 = 1#1), ∀ a, (k0_off307 v655) a + S1x16x656.size a ≤ S40960x16x656.size a) ∧
  (∀ (k0_h3 : k0_cond3 v1 k0_t2 = 1#1), ∀ (hinb : ∀ a, (k0_off307 v655) a + S1x16x656.size a ≤ S40960x16x656.size a), (Rect.unit (s := S40960x16x656) (k0_off307 v655) S1x16x656.size hinb).WholeWords (EltTy.packing .i8))
theorem k0_off307_inb : ∀ (v1 : BitVec 32) (k0_t2 : Fin (k0_t2_loop v1).trips) (v655 : BitVec 32) (k0_hw85 : k0_chk85 v1 k0_t2 v655), ∀ (k0_h3 : k0_cond3 v1 k0_t2 = 1#1), ∀ a, (k0_off307 v655) a + S1x16x656.size a ≤ S40960x16x656.size a := fun v1 k0_t2 v655 k0_hw85 k0_h3 => k0_hw85.1 k0_h3
theorem k0_off307_wordsi8 : ∀ (v1 : BitVec 32) (k0_t2 : Fin (k0_t2_loop v1).trips) (v655 : BitVec 32) (k0_hw85 : k0_chk85 v1 k0_t2 v655), ∀ (k0_h3 : k0_cond3 v1 k0_t2 = 1#1), (Rect.unit (s := S40960x16x656) (k0_off307 v655) S1x16x656.size (k0_off307_inb v1 k0_t2 v655 k0_hw85 k0_h3)).WholeWords (EltTy.packing .i8) := fun v1 k0_t2 v655 k0_hw85 k0_h3 => k0_hw85.2 k0_h3 (k0_off307_inb v1 k0_t2 v655 k0_hw85 k0_h3)

def k0_off308 (i : grid0.Coords) (v1 : BitVec 32) (k0_t2 : Fin (k0_t2_loop v1).trips) : Fin 2 → Nat :=
  let arg0 : BitVec 32 := BitVec.ofNat 32 (i 0).val
  let v664 : Index := Scalar.indexCast arg0
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c1_i32_238 : BitVec 32 := 1#32
  let v440 : BitVec 32 := Scalar.addi arg11 c1_i32_238
  let c32_i32_379 : BitVec 32 := 32#32
  let v662 : BitVec 32 := Scalar.muli v440 c32_i32_379
  let c20_i32_380 : BitVec 32 := 20#32
  let v663 : BitVec 32 := Scalar.addi v662 c20_i32_380
  let v665 : Index := Scalar.indexCast v663
  ![v664.toNat, v665.toNat]
def k0_off309 (v1 : BitVec 32) (k0_t2 : Fin (k0_t2_loop v1).trips) : Fin 1 → Nat :=
  let c1_i32_239 : BitVec 32 := 1#32
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  ![v441.toNat]
def k0_off310 (v1 : BitVec 32) (k0_t2 : Fin (k0_t2_loop v1).trips) : Fin 4 → Nat :=
  let c1_i32_239 : BitVec 32 := 1#32
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  let c20_i32_381 : BitVec 32 := 20#32
  let c0_i32_382 : BitVec 32 := 0#32
  let c0_i32_383 : BitVec 32 := 0#32
  ![v441.toNat, 20, 0, 0]
def k0_off311 (v666 : BitVec 32) : Fin 3 → Nat :=
  let c0_i32_384 : BitVec 32 := 0#32
  let c0_i32_385 : BitVec 32 := 0#32
  ![v666.toNat, 0, 0]

def k0_chk86 (v1 : BitVec 32) (k0_t2 : Fin (k0_t2_loop v1).trips) (v666 : BitVec 32) : Prop :=
  (∀ (k0_h3 : k0_cond3 v1 k0_t2 = 1#1), ∀ a, (k0_off311 v666) a + S1x16x656.size a ≤ S40960x16x656.size a) ∧
  (∀ (k0_h3 : k0_cond3 v1 k0_t2 = 1#1), ∀ (hinb : ∀ a, (k0_off311 v666) a + S1x16x656.size a ≤ S40960x16x656.size a), (Rect.unit (s := S40960x16x656) (k0_off311 v666) S1x16x656.size hinb).WholeWords (EltTy.packing .i8))
theorem k0_off311_inb : ∀ (v1 : BitVec 32) (k0_t2 : Fin (k0_t2_loop v1).trips) (v666 : BitVec 32) (k0_hw86 : k0_chk86 v1 k0_t2 v666), ∀ (k0_h3 : k0_cond3 v1 k0_t2 = 1#1), ∀ a, (k0_off311 v666) a + S1x16x656.size a ≤ S40960x16x656.size a := fun v1 k0_t2 v666 k0_hw86 k0_h3 => k0_hw86.1 k0_h3
theorem k0_off311_wordsi8 : ∀ (v1 : BitVec 32) (k0_t2 : Fin (k0_t2_loop v1).trips) (v666 : BitVec 32) (k0_hw86 : k0_chk86 v1 k0_t2 v666), ∀ (k0_h3 : k0_cond3 v1 k0_t2 = 1#1), (Rect.unit (s := S40960x16x656) (k0_off311 v666) S1x16x656.size (k0_off311_inb v1 k0_t2 v666 k0_hw86 k0_h3)).WholeWords (EltTy.packing .i8) := fun v1 k0_t2 v666 k0_hw86 k0_h3 => k0_hw86.2 k0_h3 (k0_off311_inb v1 k0_t2 v666 k0_hw86 k0_h3)

def k0_off312 (i : grid0.Coords) (v1 : BitVec 32) (k0_t2 : Fin (k0_t2_loop v1).trips) : Fin 2 → Nat :=
  let arg0 : BitVec 32 := BitVec.ofNat 32 (i 0).val
  let v675 : Index := Scalar.indexCast arg0
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c1_i32_238 : BitVec 32 := 1#32
  let v440 : BitVec 32 := Scalar.addi arg11 c1_i32_238
  let c32_i32_386 : BitVec 32 := 32#32
  let v673 : BitVec 32 := Scalar.muli v440 c32_i32_386
  let c21_i32_387 : BitVec 32 := 21#32
  let v674 : BitVec 32 := Scalar.addi v673 c21_i32_387
  let v676 : Index := Scalar.indexCast v674
  ![v675.toNat, v676.toNat]
def k0_off313 (v1 : BitVec 32) (k0_t2 : Fin (k0_t2_loop v1).trips) : Fin 1 → Nat :=
  let c1_i32_239 : BitVec 32 := 1#32
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  ![v441.toNat]
def k0_off314 (v1 : BitVec 32) (k0_t2 : Fin (k0_t2_loop v1).trips) : Fin 4 → Nat :=
  let c1_i32_239 : BitVec 32 := 1#32
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  let c21_i32_388 : BitVec 32 := 21#32
  let c0_i32_389 : BitVec 32 := 0#32
  let c0_i32_390 : BitVec 32 := 0#32
  ![v441.toNat, 21, 0, 0]
def k0_off315 (v677 : BitVec 32) : Fin 3 → Nat :=
  let c0_i32_391 : BitVec 32 := 0#32
  let c0_i32_392 : BitVec 32 := 0#32
  ![v677.toNat, 0, 0]

def k0_chk87 (v1 : BitVec 32) (k0_t2 : Fin (k0_t2_loop v1).trips) (v677 : BitVec 32) : Prop :=
  (∀ (k0_h3 : k0_cond3 v1 k0_t2 = 1#1), ∀ a, (k0_off315 v677) a + S1x16x656.size a ≤ S40960x16x656.size a) ∧
  (∀ (k0_h3 : k0_cond3 v1 k0_t2 = 1#1), ∀ (hinb : ∀ a, (k0_off315 v677) a + S1x16x656.size a ≤ S40960x16x656.size a), (Rect.unit (s := S40960x16x656) (k0_off315 v677) S1x16x656.size hinb).WholeWords (EltTy.packing .i8))
theorem k0_off315_inb : ∀ (v1 : BitVec 32) (k0_t2 : Fin (k0_t2_loop v1).trips) (v677 : BitVec 32) (k0_hw87 : k0_chk87 v1 k0_t2 v677), ∀ (k0_h3 : k0_cond3 v1 k0_t2 = 1#1), ∀ a, (k0_off315 v677) a + S1x16x656.size a ≤ S40960x16x656.size a := fun v1 k0_t2 v677 k0_hw87 k0_h3 => k0_hw87.1 k0_h3
theorem k0_off315_wordsi8 : ∀ (v1 : BitVec 32) (k0_t2 : Fin (k0_t2_loop v1).trips) (v677 : BitVec 32) (k0_hw87 : k0_chk87 v1 k0_t2 v677), ∀ (k0_h3 : k0_cond3 v1 k0_t2 = 1#1), (Rect.unit (s := S40960x16x656) (k0_off315 v677) S1x16x656.size (k0_off315_inb v1 k0_t2 v677 k0_hw87 k0_h3)).WholeWords (EltTy.packing .i8) := fun v1 k0_t2 v677 k0_hw87 k0_h3 => k0_hw87.2 k0_h3 (k0_off315_inb v1 k0_t2 v677 k0_hw87 k0_h3)

def k0_off316 (i : grid0.Coords) (v1 : BitVec 32) (k0_t2 : Fin (k0_t2_loop v1).trips) : Fin 2 → Nat :=
  let arg0 : BitVec 32 := BitVec.ofNat 32 (i 0).val
  let v686 : Index := Scalar.indexCast arg0
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c1_i32_238 : BitVec 32 := 1#32
  let v440 : BitVec 32 := Scalar.addi arg11 c1_i32_238
  let c32_i32_393 : BitVec 32 := 32#32
  let v684 : BitVec 32 := Scalar.muli v440 c32_i32_393
  let c22_i32_394 : BitVec 32 := 22#32
  let v685 : BitVec 32 := Scalar.addi v684 c22_i32_394
  let v687 : Index := Scalar.indexCast v685
  ![v686.toNat, v687.toNat]
def k0_off317 (v1 : BitVec 32) (k0_t2 : Fin (k0_t2_loop v1).trips) : Fin 1 → Nat :=
  let c1_i32_239 : BitVec 32 := 1#32
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  ![v441.toNat]
def k0_off318 (v1 : BitVec 32) (k0_t2 : Fin (k0_t2_loop v1).trips) : Fin 4 → Nat :=
  let c1_i32_239 : BitVec 32 := 1#32
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  let c22_i32_395 : BitVec 32 := 22#32
  let c0_i32_396 : BitVec 32 := 0#32
  let c0_i32_397 : BitVec 32 := 0#32
  ![v441.toNat, 22, 0, 0]
def k0_off319 (v688 : BitVec 32) : Fin 3 → Nat :=
  let c0_i32_398 : BitVec 32 := 0#32
  let c0_i32_399 : BitVec 32 := 0#32
  ![v688.toNat, 0, 0]

def k0_chk88 (v1 : BitVec 32) (k0_t2 : Fin (k0_t2_loop v1).trips) (v688 : BitVec 32) : Prop :=
  (∀ (k0_h3 : k0_cond3 v1 k0_t2 = 1#1), ∀ a, (k0_off319 v688) a + S1x16x656.size a ≤ S40960x16x656.size a) ∧
  (∀ (k0_h3 : k0_cond3 v1 k0_t2 = 1#1), ∀ (hinb : ∀ a, (k0_off319 v688) a + S1x16x656.size a ≤ S40960x16x656.size a), (Rect.unit (s := S40960x16x656) (k0_off319 v688) S1x16x656.size hinb).WholeWords (EltTy.packing .i8))
theorem k0_off319_inb : ∀ (v1 : BitVec 32) (k0_t2 : Fin (k0_t2_loop v1).trips) (v688 : BitVec 32) (k0_hw88 : k0_chk88 v1 k0_t2 v688), ∀ (k0_h3 : k0_cond3 v1 k0_t2 = 1#1), ∀ a, (k0_off319 v688) a + S1x16x656.size a ≤ S40960x16x656.size a := fun v1 k0_t2 v688 k0_hw88 k0_h3 => k0_hw88.1 k0_h3
theorem k0_off319_wordsi8 : ∀ (v1 : BitVec 32) (k0_t2 : Fin (k0_t2_loop v1).trips) (v688 : BitVec 32) (k0_hw88 : k0_chk88 v1 k0_t2 v688), ∀ (k0_h3 : k0_cond3 v1 k0_t2 = 1#1), (Rect.unit (s := S40960x16x656) (k0_off319 v688) S1x16x656.size (k0_off319_inb v1 k0_t2 v688 k0_hw88 k0_h3)).WholeWords (EltTy.packing .i8) := fun v1 k0_t2 v688 k0_hw88 k0_h3 => k0_hw88.2 k0_h3 (k0_off319_inb v1 k0_t2 v688 k0_hw88 k0_h3)

def k0_off320 (i : grid0.Coords) (v1 : BitVec 32) (k0_t2 : Fin (k0_t2_loop v1).trips) : Fin 2 → Nat :=
  let arg0 : BitVec 32 := BitVec.ofNat 32 (i 0).val
  let v697 : Index := Scalar.indexCast arg0
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c1_i32_238 : BitVec 32 := 1#32
  let v440 : BitVec 32 := Scalar.addi arg11 c1_i32_238
  let c32_i32_400 : BitVec 32 := 32#32
  let v695 : BitVec 32 := Scalar.muli v440 c32_i32_400
  let c23_i32_401 : BitVec 32 := 23#32
  let v696 : BitVec 32 := Scalar.addi v695 c23_i32_401
  let v698 : Index := Scalar.indexCast v696
  ![v697.toNat, v698.toNat]
def k0_off321 (v1 : BitVec 32) (k0_t2 : Fin (k0_t2_loop v1).trips) : Fin 1 → Nat :=
  let c1_i32_239 : BitVec 32 := 1#32
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  ![v441.toNat]
def k0_off322 (v1 : BitVec 32) (k0_t2 : Fin (k0_t2_loop v1).trips) : Fin 4 → Nat :=
  let c1_i32_239 : BitVec 32 := 1#32
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  let c23_i32_402 : BitVec 32 := 23#32
  let c0_i32_403 : BitVec 32 := 0#32
  let c0_i32_404 : BitVec 32 := 0#32
  ![v441.toNat, 23, 0, 0]
def k0_off323 (v699 : BitVec 32) : Fin 3 → Nat :=
  let c0_i32_405 : BitVec 32 := 0#32
  let c0_i32_406 : BitVec 32 := 0#32
  ![v699.toNat, 0, 0]

def k0_chk89 (v1 : BitVec 32) (k0_t2 : Fin (k0_t2_loop v1).trips) (v699 : BitVec 32) : Prop :=
  (∀ (k0_h3 : k0_cond3 v1 k0_t2 = 1#1), ∀ a, (k0_off323 v699) a + S1x16x656.size a ≤ S40960x16x656.size a) ∧
  (∀ (k0_h3 : k0_cond3 v1 k0_t2 = 1#1), ∀ (hinb : ∀ a, (k0_off323 v699) a + S1x16x656.size a ≤ S40960x16x656.size a), (Rect.unit (s := S40960x16x656) (k0_off323 v699) S1x16x656.size hinb).WholeWords (EltTy.packing .i8))
theorem k0_off323_inb : ∀ (v1 : BitVec 32) (k0_t2 : Fin (k0_t2_loop v1).trips) (v699 : BitVec 32) (k0_hw89 : k0_chk89 v1 k0_t2 v699), ∀ (k0_h3 : k0_cond3 v1 k0_t2 = 1#1), ∀ a, (k0_off323 v699) a + S1x16x656.size a ≤ S40960x16x656.size a := fun v1 k0_t2 v699 k0_hw89 k0_h3 => k0_hw89.1 k0_h3
theorem k0_off323_wordsi8 : ∀ (v1 : BitVec 32) (k0_t2 : Fin (k0_t2_loop v1).trips) (v699 : BitVec 32) (k0_hw89 : k0_chk89 v1 k0_t2 v699), ∀ (k0_h3 : k0_cond3 v1 k0_t2 = 1#1), (Rect.unit (s := S40960x16x656) (k0_off323 v699) S1x16x656.size (k0_off323_inb v1 k0_t2 v699 k0_hw89 k0_h3)).WholeWords (EltTy.packing .i8) := fun v1 k0_t2 v699 k0_hw89 k0_h3 => k0_hw89.2 k0_h3 (k0_off323_inb v1 k0_t2 v699 k0_hw89 k0_h3)

def k0_off324 (i : grid0.Coords) (v1 : BitVec 32) (k0_t2 : Fin (k0_t2_loop v1).trips) : Fin 2 → Nat :=
  let arg0 : BitVec 32 := BitVec.ofNat 32 (i 0).val
  let v708 : Index := Scalar.indexCast arg0
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c1_i32_238 : BitVec 32 := 1#32
  let v440 : BitVec 32 := Scalar.addi arg11 c1_i32_238
  let c32_i32_407 : BitVec 32 := 32#32
  let v706 : BitVec 32 := Scalar.muli v440 c32_i32_407
  let c24_i32_408 : BitVec 32 := 24#32
  let v707 : BitVec 32 := Scalar.addi v706 c24_i32_408
  let v709 : Index := Scalar.indexCast v707
  ![v708.toNat, v709.toNat]
def k0_off325 (v1 : BitVec 32) (k0_t2 : Fin (k0_t2_loop v1).trips) : Fin 1 → Nat :=
  let c1_i32_239 : BitVec 32 := 1#32
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  ![v441.toNat]
def k0_off326 (v1 : BitVec 32) (k0_t2 : Fin (k0_t2_loop v1).trips) : Fin 4 → Nat :=
  let c1_i32_239 : BitVec 32 := 1#32
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  let c24_i32_409 : BitVec 32 := 24#32
  let c0_i32_410 : BitVec 32 := 0#32
  let c0_i32_411 : BitVec 32 := 0#32
  ![v441.toNat, 24, 0, 0]
def k0_off327 (v710 : BitVec 32) : Fin 3 → Nat :=
  let c0_i32_412 : BitVec 32 := 0#32
  let c0_i32_413 : BitVec 32 := 0#32
  ![v710.toNat, 0, 0]

def k0_chk90 (v1 : BitVec 32) (k0_t2 : Fin (k0_t2_loop v1).trips) (v710 : BitVec 32) : Prop :=
  (∀ (k0_h3 : k0_cond3 v1 k0_t2 = 1#1), ∀ a, (k0_off327 v710) a + S1x16x656.size a ≤ S40960x16x656.size a) ∧
  (∀ (k0_h3 : k0_cond3 v1 k0_t2 = 1#1), ∀ (hinb : ∀ a, (k0_off327 v710) a + S1x16x656.size a ≤ S40960x16x656.size a), (Rect.unit (s := S40960x16x656) (k0_off327 v710) S1x16x656.size hinb).WholeWords (EltTy.packing .i8))
theorem k0_off327_inb : ∀ (v1 : BitVec 32) (k0_t2 : Fin (k0_t2_loop v1).trips) (v710 : BitVec 32) (k0_hw90 : k0_chk90 v1 k0_t2 v710), ∀ (k0_h3 : k0_cond3 v1 k0_t2 = 1#1), ∀ a, (k0_off327 v710) a + S1x16x656.size a ≤ S40960x16x656.size a := fun v1 k0_t2 v710 k0_hw90 k0_h3 => k0_hw90.1 k0_h3
theorem k0_off327_wordsi8 : ∀ (v1 : BitVec 32) (k0_t2 : Fin (k0_t2_loop v1).trips) (v710 : BitVec 32) (k0_hw90 : k0_chk90 v1 k0_t2 v710), ∀ (k0_h3 : k0_cond3 v1 k0_t2 = 1#1), (Rect.unit (s := S40960x16x656) (k0_off327 v710) S1x16x656.size (k0_off327_inb v1 k0_t2 v710 k0_hw90 k0_h3)).WholeWords (EltTy.packing .i8) := fun v1 k0_t2 v710 k0_hw90 k0_h3 => k0_hw90.2 k0_h3 (k0_off327_inb v1 k0_t2 v710 k0_hw90 k0_h3)

def k0_off328 (i : grid0.Coords) (v1 : BitVec 32) (k0_t2 : Fin (k0_t2_loop v1).trips) : Fin 2 → Nat :=
  let arg0 : BitVec 32 := BitVec.ofNat 32 (i 0).val
  let v719 : Index := Scalar.indexCast arg0
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c1_i32_238 : BitVec 32 := 1#32
  let v440 : BitVec 32 := Scalar.addi arg11 c1_i32_238
  let c32_i32_414 : BitVec 32 := 32#32
  let v717 : BitVec 32 := Scalar.muli v440 c32_i32_414
  let c25_i32_415 : BitVec 32 := 25#32
  let v718 : BitVec 32 := Scalar.addi v717 c25_i32_415
  let v720 : Index := Scalar.indexCast v718
  ![v719.toNat, v720.toNat]
def k0_off329 (v1 : BitVec 32) (k0_t2 : Fin (k0_t2_loop v1).trips) : Fin 1 → Nat :=
  let c1_i32_239 : BitVec 32 := 1#32
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  ![v441.toNat]
def k0_off330 (v1 : BitVec 32) (k0_t2 : Fin (k0_t2_loop v1).trips) : Fin 4 → Nat :=
  let c1_i32_239 : BitVec 32 := 1#32
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  let c25_i32_416 : BitVec 32 := 25#32
  let c0_i32_417 : BitVec 32 := 0#32
  let c0_i32_418 : BitVec 32 := 0#32
  ![v441.toNat, 25, 0, 0]
def k0_off331 (v721 : BitVec 32) : Fin 3 → Nat :=
  let c0_i32_419 : BitVec 32 := 0#32
  let c0_i32_420 : BitVec 32 := 0#32
  ![v721.toNat, 0, 0]

def k0_chk91 (v1 : BitVec 32) (k0_t2 : Fin (k0_t2_loop v1).trips) (v721 : BitVec 32) : Prop :=
  (∀ (k0_h3 : k0_cond3 v1 k0_t2 = 1#1), ∀ a, (k0_off331 v721) a + S1x16x656.size a ≤ S40960x16x656.size a) ∧
  (∀ (k0_h3 : k0_cond3 v1 k0_t2 = 1#1), ∀ (hinb : ∀ a, (k0_off331 v721) a + S1x16x656.size a ≤ S40960x16x656.size a), (Rect.unit (s := S40960x16x656) (k0_off331 v721) S1x16x656.size hinb).WholeWords (EltTy.packing .i8))
theorem k0_off331_inb : ∀ (v1 : BitVec 32) (k0_t2 : Fin (k0_t2_loop v1).trips) (v721 : BitVec 32) (k0_hw91 : k0_chk91 v1 k0_t2 v721), ∀ (k0_h3 : k0_cond3 v1 k0_t2 = 1#1), ∀ a, (k0_off331 v721) a + S1x16x656.size a ≤ S40960x16x656.size a := fun v1 k0_t2 v721 k0_hw91 k0_h3 => k0_hw91.1 k0_h3
theorem k0_off331_wordsi8 : ∀ (v1 : BitVec 32) (k0_t2 : Fin (k0_t2_loop v1).trips) (v721 : BitVec 32) (k0_hw91 : k0_chk91 v1 k0_t2 v721), ∀ (k0_h3 : k0_cond3 v1 k0_t2 = 1#1), (Rect.unit (s := S40960x16x656) (k0_off331 v721) S1x16x656.size (k0_off331_inb v1 k0_t2 v721 k0_hw91 k0_h3)).WholeWords (EltTy.packing .i8) := fun v1 k0_t2 v721 k0_hw91 k0_h3 => k0_hw91.2 k0_h3 (k0_off331_inb v1 k0_t2 v721 k0_hw91 k0_h3)

def k0_off332 (i : grid0.Coords) (v1 : BitVec 32) (k0_t2 : Fin (k0_t2_loop v1).trips) : Fin 2 → Nat :=
  let arg0 : BitVec 32 := BitVec.ofNat 32 (i 0).val
  let v730 : Index := Scalar.indexCast arg0
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c1_i32_238 : BitVec 32 := 1#32
  let v440 : BitVec 32 := Scalar.addi arg11 c1_i32_238
  let c32_i32_421 : BitVec 32 := 32#32
  let v728 : BitVec 32 := Scalar.muli v440 c32_i32_421
  let c26_i32_422 : BitVec 32 := 26#32
  let v729 : BitVec 32 := Scalar.addi v728 c26_i32_422
  let v731 : Index := Scalar.indexCast v729
  ![v730.toNat, v731.toNat]
def k0_off333 (v1 : BitVec 32) (k0_t2 : Fin (k0_t2_loop v1).trips) : Fin 1 → Nat :=
  let c1_i32_239 : BitVec 32 := 1#32
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  ![v441.toNat]
def k0_off334 (v1 : BitVec 32) (k0_t2 : Fin (k0_t2_loop v1).trips) : Fin 4 → Nat :=
  let c1_i32_239 : BitVec 32 := 1#32
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  let c26_i32_423 : BitVec 32 := 26#32
  let c0_i32_424 : BitVec 32 := 0#32
  let c0_i32_425 : BitVec 32 := 0#32
  ![v441.toNat, 26, 0, 0]
def k0_off335 (v732 : BitVec 32) : Fin 3 → Nat :=
  let c0_i32_426 : BitVec 32 := 0#32
  let c0_i32_427 : BitVec 32 := 0#32
  ![v732.toNat, 0, 0]

def k0_chk92 (v1 : BitVec 32) (k0_t2 : Fin (k0_t2_loop v1).trips) (v732 : BitVec 32) : Prop :=
  (∀ (k0_h3 : k0_cond3 v1 k0_t2 = 1#1), ∀ a, (k0_off335 v732) a + S1x16x656.size a ≤ S40960x16x656.size a) ∧
  (∀ (k0_h3 : k0_cond3 v1 k0_t2 = 1#1), ∀ (hinb : ∀ a, (k0_off335 v732) a + S1x16x656.size a ≤ S40960x16x656.size a), (Rect.unit (s := S40960x16x656) (k0_off335 v732) S1x16x656.size hinb).WholeWords (EltTy.packing .i8))
theorem k0_off335_inb : ∀ (v1 : BitVec 32) (k0_t2 : Fin (k0_t2_loop v1).trips) (v732 : BitVec 32) (k0_hw92 : k0_chk92 v1 k0_t2 v732), ∀ (k0_h3 : k0_cond3 v1 k0_t2 = 1#1), ∀ a, (k0_off335 v732) a + S1x16x656.size a ≤ S40960x16x656.size a := fun v1 k0_t2 v732 k0_hw92 k0_h3 => k0_hw92.1 k0_h3
theorem k0_off335_wordsi8 : ∀ (v1 : BitVec 32) (k0_t2 : Fin (k0_t2_loop v1).trips) (v732 : BitVec 32) (k0_hw92 : k0_chk92 v1 k0_t2 v732), ∀ (k0_h3 : k0_cond3 v1 k0_t2 = 1#1), (Rect.unit (s := S40960x16x656) (k0_off335 v732) S1x16x656.size (k0_off335_inb v1 k0_t2 v732 k0_hw92 k0_h3)).WholeWords (EltTy.packing .i8) := fun v1 k0_t2 v732 k0_hw92 k0_h3 => k0_hw92.2 k0_h3 (k0_off335_inb v1 k0_t2 v732 k0_hw92 k0_h3)

def k0_off336 (i : grid0.Coords) (v1 : BitVec 32) (k0_t2 : Fin (k0_t2_loop v1).trips) : Fin 2 → Nat :=
  let arg0 : BitVec 32 := BitVec.ofNat 32 (i 0).val
  let v741 : Index := Scalar.indexCast arg0
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c1_i32_238 : BitVec 32 := 1#32
  let v440 : BitVec 32 := Scalar.addi arg11 c1_i32_238
  let c32_i32_428 : BitVec 32 := 32#32
  let v739 : BitVec 32 := Scalar.muli v440 c32_i32_428
  let c27_i32_429 : BitVec 32 := 27#32
  let v740 : BitVec 32 := Scalar.addi v739 c27_i32_429
  let v742 : Index := Scalar.indexCast v740
  ![v741.toNat, v742.toNat]
def k0_off337 (v1 : BitVec 32) (k0_t2 : Fin (k0_t2_loop v1).trips) : Fin 1 → Nat :=
  let c1_i32_239 : BitVec 32 := 1#32
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  ![v441.toNat]
def k0_off338 (v1 : BitVec 32) (k0_t2 : Fin (k0_t2_loop v1).trips) : Fin 4 → Nat :=
  let c1_i32_239 : BitVec 32 := 1#32
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  let c27_i32_430 : BitVec 32 := 27#32
  let c0_i32_431 : BitVec 32 := 0#32
  let c0_i32_432 : BitVec 32 := 0#32
  ![v441.toNat, 27, 0, 0]
def k0_off339 (v743 : BitVec 32) : Fin 3 → Nat :=
  let c0_i32_433 : BitVec 32 := 0#32
  let c0_i32_434 : BitVec 32 := 0#32
  ![v743.toNat, 0, 0]

def k0_chk93 (v1 : BitVec 32) (k0_t2 : Fin (k0_t2_loop v1).trips) (v743 : BitVec 32) : Prop :=
  (∀ (k0_h3 : k0_cond3 v1 k0_t2 = 1#1), ∀ a, (k0_off339 v743) a + S1x16x656.size a ≤ S40960x16x656.size a) ∧
  (∀ (k0_h3 : k0_cond3 v1 k0_t2 = 1#1), ∀ (hinb : ∀ a, (k0_off339 v743) a + S1x16x656.size a ≤ S40960x16x656.size a), (Rect.unit (s := S40960x16x656) (k0_off339 v743) S1x16x656.size hinb).WholeWords (EltTy.packing .i8))
theorem k0_off339_inb : ∀ (v1 : BitVec 32) (k0_t2 : Fin (k0_t2_loop v1).trips) (v743 : BitVec 32) (k0_hw93 : k0_chk93 v1 k0_t2 v743), ∀ (k0_h3 : k0_cond3 v1 k0_t2 = 1#1), ∀ a, (k0_off339 v743) a + S1x16x656.size a ≤ S40960x16x656.size a := fun v1 k0_t2 v743 k0_hw93 k0_h3 => k0_hw93.1 k0_h3
theorem k0_off339_wordsi8 : ∀ (v1 : BitVec 32) (k0_t2 : Fin (k0_t2_loop v1).trips) (v743 : BitVec 32) (k0_hw93 : k0_chk93 v1 k0_t2 v743), ∀ (k0_h3 : k0_cond3 v1 k0_t2 = 1#1), (Rect.unit (s := S40960x16x656) (k0_off339 v743) S1x16x656.size (k0_off339_inb v1 k0_t2 v743 k0_hw93 k0_h3)).WholeWords (EltTy.packing .i8) := fun v1 k0_t2 v743 k0_hw93 k0_h3 => k0_hw93.2 k0_h3 (k0_off339_inb v1 k0_t2 v743 k0_hw93 k0_h3)

def k0_off340 (i : grid0.Coords) (v1 : BitVec 32) (k0_t2 : Fin (k0_t2_loop v1).trips) : Fin 2 → Nat :=
  let arg0 : BitVec 32 := BitVec.ofNat 32 (i 0).val
  let v752 : Index := Scalar.indexCast arg0
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c1_i32_238 : BitVec 32 := 1#32
  let v440 : BitVec 32 := Scalar.addi arg11 c1_i32_238
  let c32_i32_435 : BitVec 32 := 32#32
  let v750 : BitVec 32 := Scalar.muli v440 c32_i32_435
  let c28_i32_436 : BitVec 32 := 28#32
  let v751 : BitVec 32 := Scalar.addi v750 c28_i32_436
  let v753 : Index := Scalar.indexCast v751
  ![v752.toNat, v753.toNat]
def k0_off341 (v1 : BitVec 32) (k0_t2 : Fin (k0_t2_loop v1).trips) : Fin 1 → Nat :=
  let c1_i32_239 : BitVec 32 := 1#32
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  ![v441.toNat]
def k0_off342 (v1 : BitVec 32) (k0_t2 : Fin (k0_t2_loop v1).trips) : Fin 4 → Nat :=
  let c1_i32_239 : BitVec 32 := 1#32
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  let c28_i32_437 : BitVec 32 := 28#32
  let c0_i32_438 : BitVec 32 := 0#32
  let c0_i32_439 : BitVec 32 := 0#32
  ![v441.toNat, 28, 0, 0]
def k0_off343 (v754 : BitVec 32) : Fin 3 → Nat :=
  let c0_i32_440 : BitVec 32 := 0#32
  let c0_i32_441 : BitVec 32 := 0#32
  ![v754.toNat, 0, 0]

def k0_chk94 (v1 : BitVec 32) (k0_t2 : Fin (k0_t2_loop v1).trips) (v754 : BitVec 32) : Prop :=
  (∀ (k0_h3 : k0_cond3 v1 k0_t2 = 1#1), ∀ a, (k0_off343 v754) a + S1x16x656.size a ≤ S40960x16x656.size a) ∧
  (∀ (k0_h3 : k0_cond3 v1 k0_t2 = 1#1), ∀ (hinb : ∀ a, (k0_off343 v754) a + S1x16x656.size a ≤ S40960x16x656.size a), (Rect.unit (s := S40960x16x656) (k0_off343 v754) S1x16x656.size hinb).WholeWords (EltTy.packing .i8))
theorem k0_off343_inb : ∀ (v1 : BitVec 32) (k0_t2 : Fin (k0_t2_loop v1).trips) (v754 : BitVec 32) (k0_hw94 : k0_chk94 v1 k0_t2 v754), ∀ (k0_h3 : k0_cond3 v1 k0_t2 = 1#1), ∀ a, (k0_off343 v754) a + S1x16x656.size a ≤ S40960x16x656.size a := fun v1 k0_t2 v754 k0_hw94 k0_h3 => k0_hw94.1 k0_h3
theorem k0_off343_wordsi8 : ∀ (v1 : BitVec 32) (k0_t2 : Fin (k0_t2_loop v1).trips) (v754 : BitVec 32) (k0_hw94 : k0_chk94 v1 k0_t2 v754), ∀ (k0_h3 : k0_cond3 v1 k0_t2 = 1#1), (Rect.unit (s := S40960x16x656) (k0_off343 v754) S1x16x656.size (k0_off343_inb v1 k0_t2 v754 k0_hw94 k0_h3)).WholeWords (EltTy.packing .i8) := fun v1 k0_t2 v754 k0_hw94 k0_h3 => k0_hw94.2 k0_h3 (k0_off343_inb v1 k0_t2 v754 k0_hw94 k0_h3)

def k0_off344 (i : grid0.Coords) (v1 : BitVec 32) (k0_t2 : Fin (k0_t2_loop v1).trips) : Fin 2 → Nat :=
  let arg0 : BitVec 32 := BitVec.ofNat 32 (i 0).val
  let v763 : Index := Scalar.indexCast arg0
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c1_i32_238 : BitVec 32 := 1#32
  let v440 : BitVec 32 := Scalar.addi arg11 c1_i32_238
  let c32_i32_442 : BitVec 32 := 32#32
  let v761 : BitVec 32 := Scalar.muli v440 c32_i32_442
  let c29_i32_443 : BitVec 32 := 29#32
  let v762 : BitVec 32 := Scalar.addi v761 c29_i32_443
  let v764 : Index := Scalar.indexCast v762
  ![v763.toNat, v764.toNat]
def k0_off345 (v1 : BitVec 32) (k0_t2 : Fin (k0_t2_loop v1).trips) : Fin 1 → Nat :=
  let c1_i32_239 : BitVec 32 := 1#32
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  ![v441.toNat]
def k0_off346 (v1 : BitVec 32) (k0_t2 : Fin (k0_t2_loop v1).trips) : Fin 4 → Nat :=
  let c1_i32_239 : BitVec 32 := 1#32
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  let c29_i32_444 : BitVec 32 := 29#32
  let c0_i32_445 : BitVec 32 := 0#32
  let c0_i32_446 : BitVec 32 := 0#32
  ![v441.toNat, 29, 0, 0]
def k0_off347 (v765 : BitVec 32) : Fin 3 → Nat :=
  let c0_i32_447 : BitVec 32 := 0#32
  let c0_i32_448 : BitVec 32 := 0#32
  ![v765.toNat, 0, 0]

def k0_chk95 (v1 : BitVec 32) (k0_t2 : Fin (k0_t2_loop v1).trips) (v765 : BitVec 32) : Prop :=
  (∀ (k0_h3 : k0_cond3 v1 k0_t2 = 1#1), ∀ a, (k0_off347 v765) a + S1x16x656.size a ≤ S40960x16x656.size a) ∧
  (∀ (k0_h3 : k0_cond3 v1 k0_t2 = 1#1), ∀ (hinb : ∀ a, (k0_off347 v765) a + S1x16x656.size a ≤ S40960x16x656.size a), (Rect.unit (s := S40960x16x656) (k0_off347 v765) S1x16x656.size hinb).WholeWords (EltTy.packing .i8))
theorem k0_off347_inb : ∀ (v1 : BitVec 32) (k0_t2 : Fin (k0_t2_loop v1).trips) (v765 : BitVec 32) (k0_hw95 : k0_chk95 v1 k0_t2 v765), ∀ (k0_h3 : k0_cond3 v1 k0_t2 = 1#1), ∀ a, (k0_off347 v765) a + S1x16x656.size a ≤ S40960x16x656.size a := fun v1 k0_t2 v765 k0_hw95 k0_h3 => k0_hw95.1 k0_h3
theorem k0_off347_wordsi8 : ∀ (v1 : BitVec 32) (k0_t2 : Fin (k0_t2_loop v1).trips) (v765 : BitVec 32) (k0_hw95 : k0_chk95 v1 k0_t2 v765), ∀ (k0_h3 : k0_cond3 v1 k0_t2 = 1#1), (Rect.unit (s := S40960x16x656) (k0_off347 v765) S1x16x656.size (k0_off347_inb v1 k0_t2 v765 k0_hw95 k0_h3)).WholeWords (EltTy.packing .i8) := fun v1 k0_t2 v765 k0_hw95 k0_h3 => k0_hw95.2 k0_h3 (k0_off347_inb v1 k0_t2 v765 k0_hw95 k0_h3)

def k0_off348 (i : grid0.Coords) (v1 : BitVec 32) (k0_t2 : Fin (k0_t2_loop v1).trips) : Fin 2 → Nat :=
  let arg0 : BitVec 32 := BitVec.ofNat 32 (i 0).val
  let v774 : Index := Scalar.indexCast arg0
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c1_i32_238 : BitVec 32 := 1#32
  let v440 : BitVec 32 := Scalar.addi arg11 c1_i32_238
  let c32_i32_449 : BitVec 32 := 32#32
  let v772 : BitVec 32 := Scalar.muli v440 c32_i32_449
  let c30_i32_450 : BitVec 32 := 30#32
  let v773 : BitVec 32 := Scalar.addi v772 c30_i32_450
  let v775 : Index := Scalar.indexCast v773
  ![v774.toNat, v775.toNat]
def k0_off349 (v1 : BitVec 32) (k0_t2 : Fin (k0_t2_loop v1).trips) : Fin 1 → Nat :=
  let c1_i32_239 : BitVec 32 := 1#32
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  ![v441.toNat]
def k0_off350 (v1 : BitVec 32) (k0_t2 : Fin (k0_t2_loop v1).trips) : Fin 4 → Nat :=
  let c1_i32_239 : BitVec 32 := 1#32
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  let c30_i32_451 : BitVec 32 := 30#32
  let c0_i32_452 : BitVec 32 := 0#32
  let c0_i32_453 : BitVec 32 := 0#32
  ![v441.toNat, 30, 0, 0]
def k0_off351 (v776 : BitVec 32) : Fin 3 → Nat :=
  let c0_i32_454 : BitVec 32 := 0#32
  let c0_i32_455 : BitVec 32 := 0#32
  ![v776.toNat, 0, 0]

def k0_chk96 (v1 : BitVec 32) (k0_t2 : Fin (k0_t2_loop v1).trips) (v776 : BitVec 32) : Prop :=
  (∀ (k0_h3 : k0_cond3 v1 k0_t2 = 1#1), ∀ a, (k0_off351 v776) a + S1x16x656.size a ≤ S40960x16x656.size a) ∧
  (∀ (k0_h3 : k0_cond3 v1 k0_t2 = 1#1), ∀ (hinb : ∀ a, (k0_off351 v776) a + S1x16x656.size a ≤ S40960x16x656.size a), (Rect.unit (s := S40960x16x656) (k0_off351 v776) S1x16x656.size hinb).WholeWords (EltTy.packing .i8))
theorem k0_off351_inb : ∀ (v1 : BitVec 32) (k0_t2 : Fin (k0_t2_loop v1).trips) (v776 : BitVec 32) (k0_hw96 : k0_chk96 v1 k0_t2 v776), ∀ (k0_h3 : k0_cond3 v1 k0_t2 = 1#1), ∀ a, (k0_off351 v776) a + S1x16x656.size a ≤ S40960x16x656.size a := fun v1 k0_t2 v776 k0_hw96 k0_h3 => k0_hw96.1 k0_h3
theorem k0_off351_wordsi8 : ∀ (v1 : BitVec 32) (k0_t2 : Fin (k0_t2_loop v1).trips) (v776 : BitVec 32) (k0_hw96 : k0_chk96 v1 k0_t2 v776), ∀ (k0_h3 : k0_cond3 v1 k0_t2 = 1#1), (Rect.unit (s := S40960x16x656) (k0_off351 v776) S1x16x656.size (k0_off351_inb v1 k0_t2 v776 k0_hw96 k0_h3)).WholeWords (EltTy.packing .i8) := fun v1 k0_t2 v776 k0_hw96 k0_h3 => k0_hw96.2 k0_h3 (k0_off351_inb v1 k0_t2 v776 k0_hw96 k0_h3)

def k0_off352 (i : grid0.Coords) (v1 : BitVec 32) (k0_t2 : Fin (k0_t2_loop v1).trips) : Fin 2 → Nat :=
  let arg0 : BitVec 32 := BitVec.ofNat 32 (i 0).val
  let v785 : Index := Scalar.indexCast arg0
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c1_i32_238 : BitVec 32 := 1#32
  let v440 : BitVec 32 := Scalar.addi arg11 c1_i32_238
  let c32_i32_456 : BitVec 32 := 32#32
  let v783 : BitVec 32 := Scalar.muli v440 c32_i32_456
  let c31_i32_457 : BitVec 32 := 31#32
  let v784 : BitVec 32 := Scalar.addi v783 c31_i32_457
  let v786 : Index := Scalar.indexCast v784
  ![v785.toNat, v786.toNat]
def k0_off353 (v1 : BitVec 32) (k0_t2 : Fin (k0_t2_loop v1).trips) : Fin 1 → Nat :=
  let c1_i32_239 : BitVec 32 := 1#32
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  ![v441.toNat]
def k0_off354 (v1 : BitVec 32) (k0_t2 : Fin (k0_t2_loop v1).trips) : Fin 4 → Nat :=
  let c1_i32_239 : BitVec 32 := 1#32
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v441 : BitVec 32 := Scalar.subi c1_i32_239 v144
  let c31_i32_458 : BitVec 32 := 31#32
  let c0_i32_459 : BitVec 32 := 0#32
  let c0_i32_460 : BitVec 32 := 0#32
  ![v441.toNat, 31, 0, 0]
def k0_off355 (v787 : BitVec 32) : Fin 3 → Nat :=
  let c0_i32_461 : BitVec 32 := 0#32
  let c0_i32_462 : BitVec 32 := 0#32
  ![v787.toNat, 0, 0]

def k0_chk97 (v1 : BitVec 32) (k0_t2 : Fin (k0_t2_loop v1).trips) (v787 : BitVec 32) : Prop :=
  (∀ (k0_h3 : k0_cond3 v1 k0_t2 = 1#1), ∀ a, (k0_off355 v787) a + S1x16x656.size a ≤ S40960x16x656.size a) ∧
  (∀ (k0_h3 : k0_cond3 v1 k0_t2 = 1#1), ∀ (hinb : ∀ a, (k0_off355 v787) a + S1x16x656.size a ≤ S40960x16x656.size a), (Rect.unit (s := S40960x16x656) (k0_off355 v787) S1x16x656.size hinb).WholeWords (EltTy.packing .i8))
theorem k0_off355_inb : ∀ (v1 : BitVec 32) (k0_t2 : Fin (k0_t2_loop v1).trips) (v787 : BitVec 32) (k0_hw97 : k0_chk97 v1 k0_t2 v787), ∀ (k0_h3 : k0_cond3 v1 k0_t2 = 1#1), ∀ a, (k0_off355 v787) a + S1x16x656.size a ≤ S40960x16x656.size a := fun v1 k0_t2 v787 k0_hw97 k0_h3 => k0_hw97.1 k0_h3
theorem k0_off355_wordsi8 : ∀ (v1 : BitVec 32) (k0_t2 : Fin (k0_t2_loop v1).trips) (v787 : BitVec 32) (k0_hw97 : k0_chk97 v1 k0_t2 v787), ∀ (k0_h3 : k0_cond3 v1 k0_t2 = 1#1), (Rect.unit (s := S40960x16x656) (k0_off355 v787) S1x16x656.size (k0_off355_inb v1 k0_t2 v787 k0_hw97 k0_h3)).WholeWords (EltTy.packing .i8) := fun v1 k0_t2 v787 k0_hw97 k0_h3 => k0_hw97.2 k0_h3 (k0_off355_inb v1 k0_t2 v787 k0_hw97 k0_h3)

def k0_off356 (v1 : BitVec 32) (k0_t2 : Fin (k0_t2_loop v1).trips) : Fin 1 → Nat :=
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  ![v144.toNat]
def k0_off357 (v1 : BitVec 32) (k0_t2 : Fin (k0_t2_loop v1).trips) : Fin 4 → Nat :=
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let c0_i32_48 : BitVec 32 := 0#32
  let c0_i32_49 : BitVec 32 := 0#32
  let c0_i32_50 : BitVec 32 := 0#32
  ![v144.toNat, 0, 0, 0]
def k0_off358 (v1 : BitVec 32) (k0_t2 : Fin (k0_t2_loop v1).trips) : Fin 4 → Nat :=
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let c1_i32_54 : BitVec 32 := 1#32
  let c0_i32_55 : BitVec 32 := 0#32
  let c0_i32_56 : BitVec 32 := 0#32
  ![v144.toNat, 1, 0, 0]
def k0_off359 (v1 : BitVec 32) (k0_t2 : Fin (k0_t2_loop v1).trips) : Fin 4 → Nat :=
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let c2_i32_60 : BitVec 32 := 2#32
  let c0_i32_61 : BitVec 32 := 0#32
  let c0_i32_62 : BitVec 32 := 0#32
  ![v144.toNat, 2, 0, 0]
def k0_off360 (v1 : BitVec 32) (k0_t2 : Fin (k0_t2_loop v1).trips) : Fin 4 → Nat :=
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let c3_i32 : BitVec 32 := 3#32
  let c0_i32_66 : BitVec 32 := 0#32
  let c0_i32_67 : BitVec 32 := 0#32
  ![v144.toNat, 3, 0, 0]
def k0_off361 (v1 : BitVec 32) (k0_t2 : Fin (k0_t2_loop v1).trips) : Fin 4 → Nat :=
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let c4_i32 : BitVec 32 := 4#32
  let c0_i32_71 : BitVec 32 := 0#32
  let c0_i32_72 : BitVec 32 := 0#32
  ![v144.toNat, 4, 0, 0]
def k0_off362 (v1 : BitVec 32) (k0_t2 : Fin (k0_t2_loop v1).trips) : Fin 4 → Nat :=
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let c5_i32 : BitVec 32 := 5#32
  let c0_i32_76 : BitVec 32 := 0#32
  let c0_i32_77 : BitVec 32 := 0#32
  ![v144.toNat, 5, 0, 0]
def k0_off363 (v1 : BitVec 32) (k0_t2 : Fin (k0_t2_loop v1).trips) : Fin 4 → Nat :=
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let c6_i32 : BitVec 32 := 6#32
  let c0_i32_81 : BitVec 32 := 0#32
  let c0_i32_82 : BitVec 32 := 0#32
  ![v144.toNat, 6, 0, 0]
def k0_off364 (v1 : BitVec 32) (k0_t2 : Fin (k0_t2_loop v1).trips) : Fin 4 → Nat :=
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let c7_i32 : BitVec 32 := 7#32
  let c0_i32_86 : BitVec 32 := 0#32
  let c0_i32_87 : BitVec 32 := 0#32
  ![v144.toNat, 7, 0, 0]
def k0_off365 (v1 : BitVec 32) (k0_t2 : Fin (k0_t2_loop v1).trips) : Fin 4 → Nat :=
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let c8_i32_91 : BitVec 32 := 8#32
  let c0_i32_92 : BitVec 32 := 0#32
  let c0_i32_93 : BitVec 32 := 0#32
  ![v144.toNat, 8, 0, 0]
def k0_off366 (v1 : BitVec 32) (k0_t2 : Fin (k0_t2_loop v1).trips) : Fin 4 → Nat :=
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let c9_i32 : BitVec 32 := 9#32
  let c0_i32_97 : BitVec 32 := 0#32
  let c0_i32_98 : BitVec 32 := 0#32
  ![v144.toNat, 9, 0, 0]
def k0_off367 (v1 : BitVec 32) (k0_t2 : Fin (k0_t2_loop v1).trips) : Fin 4 → Nat :=
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let c10_i32 : BitVec 32 := 10#32
  let c0_i32_102 : BitVec 32 := 0#32
  let c0_i32_103 : BitVec 32 := 0#32
  ![v144.toNat, 10, 0, 0]
def k0_off368 (v1 : BitVec 32) (k0_t2 : Fin (k0_t2_loop v1).trips) : Fin 4 → Nat :=
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let c11_i32 : BitVec 32 := 11#32
  let c0_i32_107 : BitVec 32 := 0#32
  let c0_i32_108 : BitVec 32 := 0#32
  ![v144.toNat, 11, 0, 0]
def k0_off369 (v1 : BitVec 32) (k0_t2 : Fin (k0_t2_loop v1).trips) : Fin 4 → Nat :=
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let c12_i32 : BitVec 32 := 12#32
  let c0_i32_112 : BitVec 32 := 0#32
  let c0_i32_113 : BitVec 32 := 0#32
  ![v144.toNat, 12, 0, 0]
def k0_off370 (v1 : BitVec 32) (k0_t2 : Fin (k0_t2_loop v1).trips) : Fin 4 → Nat :=
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let c13_i32 : BitVec 32 := 13#32
  let c0_i32_117 : BitVec 32 := 0#32
  let c0_i32_118 : BitVec 32 := 0#32
  ![v144.toNat, 13, 0, 0]
def k0_off371 (v1 : BitVec 32) (k0_t2 : Fin (k0_t2_loop v1).trips) : Fin 4 → Nat :=
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let c14_i32 : BitVec 32 := 14#32
  let c0_i32_122 : BitVec 32 := 0#32
  let c0_i32_123 : BitVec 32 := 0#32
  ![v144.toNat, 14, 0, 0]
def k0_off372 (v1 : BitVec 32) (k0_t2 : Fin (k0_t2_loop v1).trips) : Fin 4 → Nat :=
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let c15_i32 : BitVec 32 := 15#32
  let c0_i32_127 : BitVec 32 := 0#32
  let c0_i32_128 : BitVec 32 := 0#32
  ![v144.toNat, 15, 0, 0]
def k0_off373 (v1 : BitVec 32) (k0_t2 : Fin (k0_t2_loop v1).trips) : Fin 4 → Nat :=
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let c16_i32_132 : BitVec 32 := 16#32
  let c0_i32_133 : BitVec 32 := 0#32
  let c0_i32_134 : BitVec 32 := 0#32
  ![v144.toNat, 16, 0, 0]
def k0_off374 (v1 : BitVec 32) (k0_t2 : Fin (k0_t2_loop v1).trips) : Fin 4 → Nat :=
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let c17_i32 : BitVec 32 := 17#32
  let c0_i32_138 : BitVec 32 := 0#32
  let c0_i32_139 : BitVec 32 := 0#32
  ![v144.toNat, 17, 0, 0]
def k0_off375 (v1 : BitVec 32) (k0_t2 : Fin (k0_t2_loop v1).trips) : Fin 4 → Nat :=
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let c18_i32 : BitVec 32 := 18#32
  let c0_i32_143 : BitVec 32 := 0#32
  let c0_i32_144 : BitVec 32 := 0#32
  ![v144.toNat, 18, 0, 0]
def k0_off376 (v1 : BitVec 32) (k0_t2 : Fin (k0_t2_loop v1).trips) : Fin 4 → Nat :=
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let c19_i32 : BitVec 32 := 19#32
  let c0_i32_148 : BitVec 32 := 0#32
  let c0_i32_149 : BitVec 32 := 0#32
  ![v144.toNat, 19, 0, 0]
def k0_off377 (v1 : BitVec 32) (k0_t2 : Fin (k0_t2_loop v1).trips) : Fin 4 → Nat :=
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let c20_i32 : BitVec 32 := 20#32
  let c0_i32_153 : BitVec 32 := 0#32
  let c0_i32_154 : BitVec 32 := 0#32
  ![v144.toNat, 20, 0, 0]
def k0_off378 (v1 : BitVec 32) (k0_t2 : Fin (k0_t2_loop v1).trips) : Fin 4 → Nat :=
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let c21_i32 : BitVec 32 := 21#32
  let c0_i32_158 : BitVec 32 := 0#32
  let c0_i32_159 : BitVec 32 := 0#32
  ![v144.toNat, 21, 0, 0]
def k0_off379 (v1 : BitVec 32) (k0_t2 : Fin (k0_t2_loop v1).trips) : Fin 4 → Nat :=
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let c22_i32 : BitVec 32 := 22#32
  let c0_i32_163 : BitVec 32 := 0#32
  let c0_i32_164 : BitVec 32 := 0#32
  ![v144.toNat, 22, 0, 0]
def k0_off380 (v1 : BitVec 32) (k0_t2 : Fin (k0_t2_loop v1).trips) : Fin 4 → Nat :=
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let c23_i32 : BitVec 32 := 23#32
  let c0_i32_168 : BitVec 32 := 0#32
  let c0_i32_169 : BitVec 32 := 0#32
  ![v144.toNat, 23, 0, 0]
def k0_off381 (v1 : BitVec 32) (k0_t2 : Fin (k0_t2_loop v1).trips) : Fin 4 → Nat :=
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let c24_i32 : BitVec 32 := 24#32
  let c0_i32_173 : BitVec 32 := 0#32
  let c0_i32_174 : BitVec 32 := 0#32
  ![v144.toNat, 24, 0, 0]
def k0_off382 (v1 : BitVec 32) (k0_t2 : Fin (k0_t2_loop v1).trips) : Fin 4 → Nat :=
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let c25_i32 : BitVec 32 := 25#32
  let c0_i32_178 : BitVec 32 := 0#32
  let c0_i32_179 : BitVec 32 := 0#32
  ![v144.toNat, 25, 0, 0]
def k0_off383 (v1 : BitVec 32) (k0_t2 : Fin (k0_t2_loop v1).trips) : Fin 4 → Nat :=
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let c26_i32 : BitVec 32 := 26#32
  let c0_i32_183 : BitVec 32 := 0#32
  let c0_i32_184 : BitVec 32 := 0#32
  ![v144.toNat, 26, 0, 0]
def k0_off384 (v1 : BitVec 32) (k0_t2 : Fin (k0_t2_loop v1).trips) : Fin 4 → Nat :=
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let c27_i32 : BitVec 32 := 27#32
  let c0_i32_188 : BitVec 32 := 0#32
  let c0_i32_189 : BitVec 32 := 0#32
  ![v144.toNat, 27, 0, 0]
def k0_off385 (v1 : BitVec 32) (k0_t2 : Fin (k0_t2_loop v1).trips) : Fin 4 → Nat :=
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let c28_i32 : BitVec 32 := 28#32
  let c0_i32_193 : BitVec 32 := 0#32
  let c0_i32_194 : BitVec 32 := 0#32
  ![v144.toNat, 28, 0, 0]
def k0_off386 (v1 : BitVec 32) (k0_t2 : Fin (k0_t2_loop v1).trips) : Fin 4 → Nat :=
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let c29_i32 : BitVec 32 := 29#32
  let c0_i32_198 : BitVec 32 := 0#32
  let c0_i32_199 : BitVec 32 := 0#32
  ![v144.toNat, 29, 0, 0]
def k0_off387 (v1 : BitVec 32) (k0_t2 : Fin (k0_t2_loop v1).trips) : Fin 4 → Nat :=
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let c30_i32 : BitVec 32 := 30#32
  let c0_i32_203 : BitVec 32 := 0#32
  let c0_i32_204 : BitVec 32 := 0#32
  ![v144.toNat, 30, 0, 0]
def k0_off388 (v1 : BitVec 32) (k0_t2 : Fin (k0_t2_loop v1).trips) : Fin 4 → Nat :=
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let c31_i32 : BitVec 32 := 31#32
  let c0_i32_208 : BitVec 32 := 0#32
  let c0_i32_209 : BitVec 32 := 0#32
  ![v144.toNat, 31, 0, 0]
def k0_off389 (v1 : BitVec 32) (k0_t2 : Fin (k0_t2_loop v1).trips) : Fin 4 → Nat :=
  let c0_i32_28 : BitVec 32 := 0#32
  let c511_i32 : BitVec 32 := 511#32
  let v2 : BitVec 32 := Scalar.addi v1 c511_i32
  let c512_i32 : BitVec 32 := 512#32
  let v3 : BitVec 32 := Scalar.divsi v2 c512_i32
  let v112 : BitVec 32 := Scalar.subi v3 c0_i32_28
  let c1_i32_29 : BitVec 32 := 1#32
  let v114 : BitVec 32 := Scalar.divsi v112 c1_i32_29
  let v115 : BitVec 32 := Scalar.muli v114 c1_i32_29
  let v116 : BitVec 32 := Scalar.addi c0_i32_28 v115
  let c1_i32_31 : BitVec 32 := 1#32
  let arg11 : BitVec 32 := Scf.iv v116 c1_i32_31 k0_t2
  let c2_i32_39 : BitVec 32 := 2#32
  let c0_i32_40 : BitVec 32 := 0#32
  let v135 : BitVec 1 := Scalar.cmpi .eq c2_i32_39 c0_i32_40
  let c1_i32_41 : BitVec 32 := 1#32
  let v136 : BitVec 32 := Scalar.select v135 c1_i32_41 c2_i32_39
  let v137 : BitVec 32 := Scalar.remsi arg11 v136
  let c0_i32_43 : BitVec 32 := 0#32
  let v139 : BitVec 1 := Scalar.cmpi .slt v137 c0_i32_43
  let c0_i32_44 : BitVec 32 := 0#32
  let v140 : BitVec 1 := Scalar.cmpi .slt v136 c0_i32_44
  let v141 : BitVec 1 := Scalar.xori v139 v140
  let c0_i32_42 : BitVec 32 := 0#32
  let v138 : BitVec 1 := Scalar.cmpi .ne v137 c0_i32_42
  let v142 : BitVec 1 := Scalar.andi v141 v138
  let v143 : BitVec 32 := Scalar.addi v137 v136
  let v144 : BitVec 32 := Scalar.select v142 v143 v137
  let v345 : Index := Scalar.indexCast v144
  let c0_213 : Index := 0#32
  let c0_214 : Index := 0#32
  let c0_215 : Index := 0#32
  ![v345.toNat, 0, 0, 0]

def k0_chk33_0 (i : grid0.Coords) (v1 : BitVec 32) : Prop :=
  ((k0_t1_loop v1).OK) ∧
  (∀ k0_t1 : Fin (k0_t1_loop v1).trips, ∀ (k0_h2 : k0_cond2 v1 k0_t1 = 1#1), ∀ a, (k0_off66 i v1 k0_t1) a + S1x1.size a ≤ S32x1024.size a) ∧
  (∀ k0_t1 : Fin (k0_t1_loop v1).trips, ∀ (k0_h2 : k0_cond2 v1 k0_t1 = 1#1), ∀ a, (k0_off67 v1 k0_t1) a + S1.size a ≤ S2.size a) ∧
  (∀ k0_t1 : Fin (k0_t1_loop v1).trips, ∀ (k0_h2 : k0_cond2 v1 k0_t1 = 1#1), ∀ a, (k0_off68 v1 k0_t1) a + S1x1x16x656.size a ≤ S2x32x16x656.size a) ∧
  (∀ k0_t1 : Fin (k0_t1_loop v1).trips, ∀ (k0_h2 : k0_cond2 v1 k0_t1 = 1#1), ∀ (hinb : ∀ a, (k0_off68 v1 k0_t1) a + S1x1x16x656.size a ≤ S2x32x16x656.size a), (Rect.unit (s := S2x32x16x656) (k0_off68 v1 k0_t1) S1x1x16x656.size hinb).WholeWords (EltTy.packing .i8)) ∧
  (∀ k0_t1 : Fin (k0_t1_loop v1).trips, ∀ (k0_h2 : k0_cond2 v1 k0_t1 = 1#1), ∀ a, (k0_off70 i v1 k0_t1) a + S1x1.size a ≤ S32x1024.size a) ∧
  (∀ k0_t1 : Fin (k0_t1_loop v1).trips, ∀ (k0_h2 : k0_cond2 v1 k0_t1 = 1#1), ∀ a, (k0_off71 v1 k0_t1) a + S1.size a ≤ S2.size a) ∧
  (∀ k0_t1 : Fin (k0_t1_loop v1).trips, ∀ (k0_h2 : k0_cond2 v1 k0_t1 = 1#1), ∀ a, (k0_off72 v1 k0_t1) a + S1x1x16x656.size a ≤ S2x32x16x656.size a) ∧
  (∀ k0_t1 : Fin (k0_t1_loop v1).trips, ∀ (k0_h2 : k0_cond2 v1 k0_t1 = 1#1), ∀ (hinb : ∀ a, (k0_off72 v1 k0_t1) a + S1x1x16x656.size a ≤ S2x32x16x656.size a), (Rect.unit (s := S2x32x16x656) (k0_off72 v1 k0_t1) S1x1x16x656.size hinb).WholeWords (EltTy.packing .i8)) ∧
  (∀ k0_t1 : Fin (k0_t1_loop v1).trips, ∀ (k0_h2 : k0_cond2 v1 k0_t1 = 1#1), ∀ a, (k0_off74 i v1 k0_t1) a + S1x1.size a ≤ S32x1024.size a) ∧
  (∀ k0_t1 : Fin (k0_t1_loop v1).trips, ∀ (k0_h2 : k0_cond2 v1 k0_t1 = 1#1), ∀ a, (k0_off75 v1 k0_t1) a + S1.size a ≤ S2.size a) ∧
  (∀ k0_t1 : Fin (k0_t1_loop v1).trips, ∀ (k0_h2 : k0_cond2 v1 k0_t1 = 1#1), ∀ a, (k0_off76 v1 k0_t1) a + S1x1x16x656.size a ≤ S2x32x16x656.size a) ∧
  (∀ k0_t1 : Fin (k0_t1_loop v1).trips, ∀ (k0_h2 : k0_cond2 v1 k0_t1 = 1#1), ∀ (hinb : ∀ a, (k0_off76 v1 k0_t1) a + S1x1x16x656.size a ≤ S2x32x16x656.size a), (Rect.unit (s := S2x32x16x656) (k0_off76 v1 k0_t1) S1x1x16x656.size hinb).WholeWords (EltTy.packing .i8)) ∧
  (∀ k0_t1 : Fin (k0_t1_loop v1).trips, ∀ (k0_h2 : k0_cond2 v1 k0_t1 = 1#1), ∀ a, (k0_off78 i v1 k0_t1) a + S1x1.size a ≤ S32x1024.size a) ∧
  (∀ k0_t1 : Fin (k0_t1_loop v1).trips, ∀ (k0_h2 : k0_cond2 v1 k0_t1 = 1#1), ∀ a, (k0_off79 v1 k0_t1) a + S1.size a ≤ S2.size a) ∧
  (∀ k0_t1 : Fin (k0_t1_loop v1).trips, ∀ (k0_h2 : k0_cond2 v1 k0_t1 = 1#1), ∀ a, (k0_off80 v1 k0_t1) a + S1x1x16x656.size a ≤ S2x32x16x656.size a) ∧
  (∀ k0_t1 : Fin (k0_t1_loop v1).trips, ∀ (k0_h2 : k0_cond2 v1 k0_t1 = 1#1), ∀ (hinb : ∀ a, (k0_off80 v1 k0_t1) a + S1x1x16x656.size a ≤ S2x32x16x656.size a), (Rect.unit (s := S2x32x16x656) (k0_off80 v1 k0_t1) S1x1x16x656.size hinb).WholeWords (EltTy.packing .i8)) ∧
  (∀ k0_t1 : Fin (k0_t1_loop v1).trips, ∀ (k0_h2 : k0_cond2 v1 k0_t1 = 1#1), ∀ a, (k0_off82 i v1 k0_t1) a + S1x1.size a ≤ S32x1024.size a) ∧
  (∀ k0_t1 : Fin (k0_t1_loop v1).trips, ∀ (k0_h2 : k0_cond2 v1 k0_t1 = 1#1), ∀ a, (k0_off83 v1 k0_t1) a + S1.size a ≤ S2.size a) ∧
  (∀ k0_t1 : Fin (k0_t1_loop v1).trips, ∀ (k0_h2 : k0_cond2 v1 k0_t1 = 1#1), ∀ a, (k0_off84 v1 k0_t1) a + S1x1x16x656.size a ≤ S2x32x16x656.size a) ∧
  (∀ k0_t1 : Fin (k0_t1_loop v1).trips, ∀ (k0_h2 : k0_cond2 v1 k0_t1 = 1#1), ∀ (hinb : ∀ a, (k0_off84 v1 k0_t1) a + S1x1x16x656.size a ≤ S2x32x16x656.size a), (Rect.unit (s := S2x32x16x656) (k0_off84 v1 k0_t1) S1x1x16x656.size hinb).WholeWords (EltTy.packing .i8)) ∧
  (∀ k0_t1 : Fin (k0_t1_loop v1).trips, ∀ (k0_h2 : k0_cond2 v1 k0_t1 = 1#1), ∀ a, (k0_off86 i v1 k0_t1) a + S1x1.size a ≤ S32x1024.size a) ∧
  (∀ k0_t1 : Fin (k0_t1_loop v1).trips, ∀ (k0_h2 : k0_cond2 v1 k0_t1 = 1#1), ∀ a, (k0_off87 v1 k0_t1) a + S1.size a ≤ S2.size a) ∧
  (∀ k0_t1 : Fin (k0_t1_loop v1).trips, ∀ (k0_h2 : k0_cond2 v1 k0_t1 = 1#1), ∀ a, (k0_off88 v1 k0_t1) a + S1x1x16x656.size a ≤ S2x32x16x656.size a) ∧
  (∀ k0_t1 : Fin (k0_t1_loop v1).trips, ∀ (k0_h2 : k0_cond2 v1 k0_t1 = 1#1), ∀ (hinb : ∀ a, (k0_off88 v1 k0_t1) a + S1x1x16x656.size a ≤ S2x32x16x656.size a), (Rect.unit (s := S2x32x16x656) (k0_off88 v1 k0_t1) S1x1x16x656.size hinb).WholeWords (EltTy.packing .i8)) ∧
  (∀ k0_t1 : Fin (k0_t1_loop v1).trips, ∀ (k0_h2 : k0_cond2 v1 k0_t1 = 1#1), ∀ a, (k0_off90 i v1 k0_t1) a + S1x1.size a ≤ S32x1024.size a) ∧
  (∀ k0_t1 : Fin (k0_t1_loop v1).trips, ∀ (k0_h2 : k0_cond2 v1 k0_t1 = 1#1), ∀ a, (k0_off91 v1 k0_t1) a + S1.size a ≤ S2.size a) ∧
  (∀ k0_t1 : Fin (k0_t1_loop v1).trips, ∀ (k0_h2 : k0_cond2 v1 k0_t1 = 1#1), ∀ a, (k0_off92 v1 k0_t1) a + S1x1x16x656.size a ≤ S2x32x16x656.size a) ∧
  (∀ k0_t1 : Fin (k0_t1_loop v1).trips, ∀ (k0_h2 : k0_cond2 v1 k0_t1 = 1#1), ∀ (hinb : ∀ a, (k0_off92 v1 k0_t1) a + S1x1x16x656.size a ≤ S2x32x16x656.size a), (Rect.unit (s := S2x32x16x656) (k0_off92 v1 k0_t1) S1x1x16x656.size hinb).WholeWords (EltTy.packing .i8)) ∧
  (∀ k0_t1 : Fin (k0_t1_loop v1).trips, ∀ (k0_h2 : k0_cond2 v1 k0_t1 = 1#1), ∀ a, (k0_off94 i v1 k0_t1) a + S1x1.size a ≤ S32x1024.size a) ∧
  (∀ k0_t1 : Fin (k0_t1_loop v1).trips, ∀ (k0_h2 : k0_cond2 v1 k0_t1 = 1#1), ∀ a, (k0_off95 v1 k0_t1) a + S1.size a ≤ S2.size a) ∧
  (∀ k0_t1 : Fin (k0_t1_loop v1).trips, ∀ (k0_h2 : k0_cond2 v1 k0_t1 = 1#1), ∀ a, (k0_off96 v1 k0_t1) a + S1x1x16x656.size a ≤ S2x32x16x656.size a)
def k0_chk33_1 (i : grid0.Coords) (v1 : BitVec 32) : Prop :=
  (∀ k0_t1 : Fin (k0_t1_loop v1).trips, ∀ (k0_h2 : k0_cond2 v1 k0_t1 = 1#1), ∀ (hinb : ∀ a, (k0_off96 v1 k0_t1) a + S1x1x16x656.size a ≤ S2x32x16x656.size a), (Rect.unit (s := S2x32x16x656) (k0_off96 v1 k0_t1) S1x1x16x656.size hinb).WholeWords (EltTy.packing .i8)) ∧
  (∀ k0_t1 : Fin (k0_t1_loop v1).trips, ∀ (k0_h2 : k0_cond2 v1 k0_t1 = 1#1), ∀ a, (k0_off98 i v1 k0_t1) a + S1x1.size a ≤ S32x1024.size a) ∧
  (∀ k0_t1 : Fin (k0_t1_loop v1).trips, ∀ (k0_h2 : k0_cond2 v1 k0_t1 = 1#1), ∀ a, (k0_off99 v1 k0_t1) a + S1.size a ≤ S2.size a) ∧
  (∀ k0_t1 : Fin (k0_t1_loop v1).trips, ∀ (k0_h2 : k0_cond2 v1 k0_t1 = 1#1), ∀ a, (k0_off100 v1 k0_t1) a + S1x1x16x656.size a ≤ S2x32x16x656.size a) ∧
  (∀ k0_t1 : Fin (k0_t1_loop v1).trips, ∀ (k0_h2 : k0_cond2 v1 k0_t1 = 1#1), ∀ (hinb : ∀ a, (k0_off100 v1 k0_t1) a + S1x1x16x656.size a ≤ S2x32x16x656.size a), (Rect.unit (s := S2x32x16x656) (k0_off100 v1 k0_t1) S1x1x16x656.size hinb).WholeWords (EltTy.packing .i8)) ∧
  (∀ k0_t1 : Fin (k0_t1_loop v1).trips, ∀ (k0_h2 : k0_cond2 v1 k0_t1 = 1#1), ∀ a, (k0_off102 i v1 k0_t1) a + S1x1.size a ≤ S32x1024.size a) ∧
  (∀ k0_t1 : Fin (k0_t1_loop v1).trips, ∀ (k0_h2 : k0_cond2 v1 k0_t1 = 1#1), ∀ a, (k0_off103 v1 k0_t1) a + S1.size a ≤ S2.size a) ∧
  (∀ k0_t1 : Fin (k0_t1_loop v1).trips, ∀ (k0_h2 : k0_cond2 v1 k0_t1 = 1#1), ∀ a, (k0_off104 v1 k0_t1) a + S1x1x16x656.size a ≤ S2x32x16x656.size a) ∧
  (∀ k0_t1 : Fin (k0_t1_loop v1).trips, ∀ (k0_h2 : k0_cond2 v1 k0_t1 = 1#1), ∀ (hinb : ∀ a, (k0_off104 v1 k0_t1) a + S1x1x16x656.size a ≤ S2x32x16x656.size a), (Rect.unit (s := S2x32x16x656) (k0_off104 v1 k0_t1) S1x1x16x656.size hinb).WholeWords (EltTy.packing .i8)) ∧
  (∀ k0_t1 : Fin (k0_t1_loop v1).trips, ∀ (k0_h2 : k0_cond2 v1 k0_t1 = 1#1), ∀ a, (k0_off106 i v1 k0_t1) a + S1x1.size a ≤ S32x1024.size a) ∧
  (∀ k0_t1 : Fin (k0_t1_loop v1).trips, ∀ (k0_h2 : k0_cond2 v1 k0_t1 = 1#1), ∀ a, (k0_off107 v1 k0_t1) a + S1.size a ≤ S2.size a) ∧
  (∀ k0_t1 : Fin (k0_t1_loop v1).trips, ∀ (k0_h2 : k0_cond2 v1 k0_t1 = 1#1), ∀ a, (k0_off108 v1 k0_t1) a + S1x1x16x656.size a ≤ S2x32x16x656.size a) ∧
  (∀ k0_t1 : Fin (k0_t1_loop v1).trips, ∀ (k0_h2 : k0_cond2 v1 k0_t1 = 1#1), ∀ (hinb : ∀ a, (k0_off108 v1 k0_t1) a + S1x1x16x656.size a ≤ S2x32x16x656.size a), (Rect.unit (s := S2x32x16x656) (k0_off108 v1 k0_t1) S1x1x16x656.size hinb).WholeWords (EltTy.packing .i8)) ∧
  (∀ k0_t1 : Fin (k0_t1_loop v1).trips, ∀ (k0_h2 : k0_cond2 v1 k0_t1 = 1#1), ∀ a, (k0_off110 i v1 k0_t1) a + S1x1.size a ≤ S32x1024.size a) ∧
  (∀ k0_t1 : Fin (k0_t1_loop v1).trips, ∀ (k0_h2 : k0_cond2 v1 k0_t1 = 1#1), ∀ a, (k0_off111 v1 k0_t1) a + S1.size a ≤ S2.size a) ∧
  (∀ k0_t1 : Fin (k0_t1_loop v1).trips, ∀ (k0_h2 : k0_cond2 v1 k0_t1 = 1#1), ∀ a, (k0_off112 v1 k0_t1) a + S1x1x16x656.size a ≤ S2x32x16x656.size a) ∧
  (∀ k0_t1 : Fin (k0_t1_loop v1).trips, ∀ (k0_h2 : k0_cond2 v1 k0_t1 = 1#1), ∀ (hinb : ∀ a, (k0_off112 v1 k0_t1) a + S1x1x16x656.size a ≤ S2x32x16x656.size a), (Rect.unit (s := S2x32x16x656) (k0_off112 v1 k0_t1) S1x1x16x656.size hinb).WholeWords (EltTy.packing .i8)) ∧
  (∀ k0_t1 : Fin (k0_t1_loop v1).trips, ∀ (k0_h2 : k0_cond2 v1 k0_t1 = 1#1), ∀ a, (k0_off114 i v1 k0_t1) a + S1x1.size a ≤ S32x1024.size a) ∧
  (∀ k0_t1 : Fin (k0_t1_loop v1).trips, ∀ (k0_h2 : k0_cond2 v1 k0_t1 = 1#1), ∀ a, (k0_off115 v1 k0_t1) a + S1.size a ≤ S2.size a) ∧
  (∀ k0_t1 : Fin (k0_t1_loop v1).trips, ∀ (k0_h2 : k0_cond2 v1 k0_t1 = 1#1), ∀ a, (k0_off116 v1 k0_t1) a + S1x1x16x656.size a ≤ S2x32x16x656.size a) ∧
  (∀ k0_t1 : Fin (k0_t1_loop v1).trips, ∀ (k0_h2 : k0_cond2 v1 k0_t1 = 1#1), ∀ (hinb : ∀ a, (k0_off116 v1 k0_t1) a + S1x1x16x656.size a ≤ S2x32x16x656.size a), (Rect.unit (s := S2x32x16x656) (k0_off116 v1 k0_t1) S1x1x16x656.size hinb).WholeWords (EltTy.packing .i8)) ∧
  (∀ k0_t1 : Fin (k0_t1_loop v1).trips, ∀ (k0_h2 : k0_cond2 v1 k0_t1 = 1#1), ∀ a, (k0_off118 i v1 k0_t1) a + S1x1.size a ≤ S32x1024.size a) ∧
  (∀ k0_t1 : Fin (k0_t1_loop v1).trips, ∀ (k0_h2 : k0_cond2 v1 k0_t1 = 1#1), ∀ a, (k0_off119 v1 k0_t1) a + S1.size a ≤ S2.size a) ∧
  (∀ k0_t1 : Fin (k0_t1_loop v1).trips, ∀ (k0_h2 : k0_cond2 v1 k0_t1 = 1#1), ∀ a, (k0_off120 v1 k0_t1) a + S1x1x16x656.size a ≤ S2x32x16x656.size a) ∧
  (∀ k0_t1 : Fin (k0_t1_loop v1).trips, ∀ (k0_h2 : k0_cond2 v1 k0_t1 = 1#1), ∀ (hinb : ∀ a, (k0_off120 v1 k0_t1) a + S1x1x16x656.size a ≤ S2x32x16x656.size a), (Rect.unit (s := S2x32x16x656) (k0_off120 v1 k0_t1) S1x1x16x656.size hinb).WholeWords (EltTy.packing .i8)) ∧
  (∀ k0_t1 : Fin (k0_t1_loop v1).trips, ∀ (k0_h2 : k0_cond2 v1 k0_t1 = 1#1), ∀ a, (k0_off122 i v1 k0_t1) a + S1x1.size a ≤ S32x1024.size a) ∧
  (∀ k0_t1 : Fin (k0_t1_loop v1).trips, ∀ (k0_h2 : k0_cond2 v1 k0_t1 = 1#1), ∀ a, (k0_off123 v1 k0_t1) a + S1.size a ≤ S2.size a) ∧
  (∀ k0_t1 : Fin (k0_t1_loop v1).trips, ∀ (k0_h2 : k0_cond2 v1 k0_t1 = 1#1), ∀ a, (k0_off124 v1 k0_t1) a + S1x1x16x656.size a ≤ S2x32x16x656.size a) ∧
  (∀ k0_t1 : Fin (k0_t1_loop v1).trips, ∀ (k0_h2 : k0_cond2 v1 k0_t1 = 1#1), ∀ (hinb : ∀ a, (k0_off124 v1 k0_t1) a + S1x1x16x656.size a ≤ S2x32x16x656.size a), (Rect.unit (s := S2x32x16x656) (k0_off124 v1 k0_t1) S1x1x16x656.size hinb).WholeWords (EltTy.packing .i8)) ∧
  (∀ k0_t1 : Fin (k0_t1_loop v1).trips, ∀ (k0_h2 : k0_cond2 v1 k0_t1 = 1#1), ∀ a, (k0_off126 i v1 k0_t1) a + S1x1.size a ≤ S32x1024.size a) ∧
  (∀ k0_t1 : Fin (k0_t1_loop v1).trips, ∀ (k0_h2 : k0_cond2 v1 k0_t1 = 1#1), ∀ a, (k0_off127 v1 k0_t1) a + S1.size a ≤ S2.size a) ∧
  (∀ k0_t1 : Fin (k0_t1_loop v1).trips, ∀ (k0_h2 : k0_cond2 v1 k0_t1 = 1#1), ∀ a, (k0_off128 v1 k0_t1) a + S1x1x16x656.size a ≤ S2x32x16x656.size a)
def k0_chk33_2 (i : grid0.Coords) (v1 : BitVec 32) : Prop :=
  (∀ k0_t1 : Fin (k0_t1_loop v1).trips, ∀ (k0_h2 : k0_cond2 v1 k0_t1 = 1#1), ∀ (hinb : ∀ a, (k0_off128 v1 k0_t1) a + S1x1x16x656.size a ≤ S2x32x16x656.size a), (Rect.unit (s := S2x32x16x656) (k0_off128 v1 k0_t1) S1x1x16x656.size hinb).WholeWords (EltTy.packing .i8)) ∧
  (∀ k0_t1 : Fin (k0_t1_loop v1).trips, ∀ (k0_h2 : k0_cond2 v1 k0_t1 = 1#1), ∀ a, (k0_off130 i v1 k0_t1) a + S1x1.size a ≤ S32x1024.size a) ∧
  (∀ k0_t1 : Fin (k0_t1_loop v1).trips, ∀ (k0_h2 : k0_cond2 v1 k0_t1 = 1#1), ∀ a, (k0_off131 v1 k0_t1) a + S1.size a ≤ S2.size a) ∧
  (∀ k0_t1 : Fin (k0_t1_loop v1).trips, ∀ (k0_h2 : k0_cond2 v1 k0_t1 = 1#1), ∀ a, (k0_off132 v1 k0_t1) a + S1x1x16x656.size a ≤ S2x32x16x656.size a) ∧
  (∀ k0_t1 : Fin (k0_t1_loop v1).trips, ∀ (k0_h2 : k0_cond2 v1 k0_t1 = 1#1), ∀ (hinb : ∀ a, (k0_off132 v1 k0_t1) a + S1x1x16x656.size a ≤ S2x32x16x656.size a), (Rect.unit (s := S2x32x16x656) (k0_off132 v1 k0_t1) S1x1x16x656.size hinb).WholeWords (EltTy.packing .i8)) ∧
  (∀ k0_t1 : Fin (k0_t1_loop v1).trips, ∀ (k0_h2 : k0_cond2 v1 k0_t1 = 1#1), ∀ a, (k0_off134 i v1 k0_t1) a + S1x1.size a ≤ S32x1024.size a) ∧
  (∀ k0_t1 : Fin (k0_t1_loop v1).trips, ∀ (k0_h2 : k0_cond2 v1 k0_t1 = 1#1), ∀ a, (k0_off135 v1 k0_t1) a + S1.size a ≤ S2.size a) ∧
  (∀ k0_t1 : Fin (k0_t1_loop v1).trips, ∀ (k0_h2 : k0_cond2 v1 k0_t1 = 1#1), ∀ a, (k0_off136 v1 k0_t1) a + S1x1x16x656.size a ≤ S2x32x16x656.size a) ∧
  (∀ k0_t1 : Fin (k0_t1_loop v1).trips, ∀ (k0_h2 : k0_cond2 v1 k0_t1 = 1#1), ∀ (hinb : ∀ a, (k0_off136 v1 k0_t1) a + S1x1x16x656.size a ≤ S2x32x16x656.size a), (Rect.unit (s := S2x32x16x656) (k0_off136 v1 k0_t1) S1x1x16x656.size hinb).WholeWords (EltTy.packing .i8)) ∧
  (∀ k0_t1 : Fin (k0_t1_loop v1).trips, ∀ (k0_h2 : k0_cond2 v1 k0_t1 = 1#1), ∀ a, (k0_off138 i v1 k0_t1) a + S1x1.size a ≤ S32x1024.size a) ∧
  (∀ k0_t1 : Fin (k0_t1_loop v1).trips, ∀ (k0_h2 : k0_cond2 v1 k0_t1 = 1#1), ∀ a, (k0_off139 v1 k0_t1) a + S1.size a ≤ S2.size a) ∧
  (∀ k0_t1 : Fin (k0_t1_loop v1).trips, ∀ (k0_h2 : k0_cond2 v1 k0_t1 = 1#1), ∀ a, (k0_off140 v1 k0_t1) a + S1x1x16x656.size a ≤ S2x32x16x656.size a) ∧
  (∀ k0_t1 : Fin (k0_t1_loop v1).trips, ∀ (k0_h2 : k0_cond2 v1 k0_t1 = 1#1), ∀ (hinb : ∀ a, (k0_off140 v1 k0_t1) a + S1x1x16x656.size a ≤ S2x32x16x656.size a), (Rect.unit (s := S2x32x16x656) (k0_off140 v1 k0_t1) S1x1x16x656.size hinb).WholeWords (EltTy.packing .i8)) ∧
  (∀ k0_t1 : Fin (k0_t1_loop v1).trips, ∀ (k0_h2 : k0_cond2 v1 k0_t1 = 1#1), ∀ a, (k0_off142 i v1 k0_t1) a + S1x1.size a ≤ S32x1024.size a) ∧
  (∀ k0_t1 : Fin (k0_t1_loop v1).trips, ∀ (k0_h2 : k0_cond2 v1 k0_t1 = 1#1), ∀ a, (k0_off143 v1 k0_t1) a + S1.size a ≤ S2.size a) ∧
  (∀ k0_t1 : Fin (k0_t1_loop v1).trips, ∀ (k0_h2 : k0_cond2 v1 k0_t1 = 1#1), ∀ a, (k0_off144 v1 k0_t1) a + S1x1x16x656.size a ≤ S2x32x16x656.size a) ∧
  (∀ k0_t1 : Fin (k0_t1_loop v1).trips, ∀ (k0_h2 : k0_cond2 v1 k0_t1 = 1#1), ∀ (hinb : ∀ a, (k0_off144 v1 k0_t1) a + S1x1x16x656.size a ≤ S2x32x16x656.size a), (Rect.unit (s := S2x32x16x656) (k0_off144 v1 k0_t1) S1x1x16x656.size hinb).WholeWords (EltTy.packing .i8)) ∧
  (∀ k0_t1 : Fin (k0_t1_loop v1).trips, ∀ (k0_h2 : k0_cond2 v1 k0_t1 = 1#1), ∀ a, (k0_off146 i v1 k0_t1) a + S1x1.size a ≤ S32x1024.size a) ∧
  (∀ k0_t1 : Fin (k0_t1_loop v1).trips, ∀ (k0_h2 : k0_cond2 v1 k0_t1 = 1#1), ∀ a, (k0_off147 v1 k0_t1) a + S1.size a ≤ S2.size a) ∧
  (∀ k0_t1 : Fin (k0_t1_loop v1).trips, ∀ (k0_h2 : k0_cond2 v1 k0_t1 = 1#1), ∀ a, (k0_off148 v1 k0_t1) a + S1x1x16x656.size a ≤ S2x32x16x656.size a) ∧
  (∀ k0_t1 : Fin (k0_t1_loop v1).trips, ∀ (k0_h2 : k0_cond2 v1 k0_t1 = 1#1), ∀ (hinb : ∀ a, (k0_off148 v1 k0_t1) a + S1x1x16x656.size a ≤ S2x32x16x656.size a), (Rect.unit (s := S2x32x16x656) (k0_off148 v1 k0_t1) S1x1x16x656.size hinb).WholeWords (EltTy.packing .i8)) ∧
  (∀ k0_t1 : Fin (k0_t1_loop v1).trips, ∀ (k0_h2 : k0_cond2 v1 k0_t1 = 1#1), ∀ a, (k0_off150 i v1 k0_t1) a + S1x1.size a ≤ S32x1024.size a) ∧
  (∀ k0_t1 : Fin (k0_t1_loop v1).trips, ∀ (k0_h2 : k0_cond2 v1 k0_t1 = 1#1), ∀ a, (k0_off151 v1 k0_t1) a + S1.size a ≤ S2.size a) ∧
  (∀ k0_t1 : Fin (k0_t1_loop v1).trips, ∀ (k0_h2 : k0_cond2 v1 k0_t1 = 1#1), ∀ a, (k0_off152 v1 k0_t1) a + S1x1x16x656.size a ≤ S2x32x16x656.size a) ∧
  (∀ k0_t1 : Fin (k0_t1_loop v1).trips, ∀ (k0_h2 : k0_cond2 v1 k0_t1 = 1#1), ∀ (hinb : ∀ a, (k0_off152 v1 k0_t1) a + S1x1x16x656.size a ≤ S2x32x16x656.size a), (Rect.unit (s := S2x32x16x656) (k0_off152 v1 k0_t1) S1x1x16x656.size hinb).WholeWords (EltTy.packing .i8)) ∧
  (∀ k0_t1 : Fin (k0_t1_loop v1).trips, ∀ (k0_h2 : k0_cond2 v1 k0_t1 = 1#1), ∀ a, (k0_off154 i v1 k0_t1) a + S1x1.size a ≤ S32x1024.size a) ∧
  (∀ k0_t1 : Fin (k0_t1_loop v1).trips, ∀ (k0_h2 : k0_cond2 v1 k0_t1 = 1#1), ∀ a, (k0_off155 v1 k0_t1) a + S1.size a ≤ S2.size a) ∧
  (∀ k0_t1 : Fin (k0_t1_loop v1).trips, ∀ (k0_h2 : k0_cond2 v1 k0_t1 = 1#1), ∀ a, (k0_off156 v1 k0_t1) a + S1x1x16x656.size a ≤ S2x32x16x656.size a) ∧
  (∀ k0_t1 : Fin (k0_t1_loop v1).trips, ∀ (k0_h2 : k0_cond2 v1 k0_t1 = 1#1), ∀ (hinb : ∀ a, (k0_off156 v1 k0_t1) a + S1x1x16x656.size a ≤ S2x32x16x656.size a), (Rect.unit (s := S2x32x16x656) (k0_off156 v1 k0_t1) S1x1x16x656.size hinb).WholeWords (EltTy.packing .i8)) ∧
  (∀ k0_t1 : Fin (k0_t1_loop v1).trips, ∀ (k0_h2 : k0_cond2 v1 k0_t1 = 1#1), ∀ a, (k0_off158 i v1 k0_t1) a + S1x1.size a ≤ S32x1024.size a) ∧
  (∀ k0_t1 : Fin (k0_t1_loop v1).trips, ∀ (k0_h2 : k0_cond2 v1 k0_t1 = 1#1), ∀ a, (k0_off159 v1 k0_t1) a + S1.size a ≤ S2.size a) ∧
  (∀ k0_t1 : Fin (k0_t1_loop v1).trips, ∀ (k0_h2 : k0_cond2 v1 k0_t1 = 1#1), ∀ a, (k0_off160 v1 k0_t1) a + S1x1x16x656.size a ≤ S2x32x16x656.size a)
def k0_chk33_3 (i : grid0.Coords) (v1 : BitVec 32) : Prop :=
  (∀ k0_t1 : Fin (k0_t1_loop v1).trips, ∀ (k0_h2 : k0_cond2 v1 k0_t1 = 1#1), ∀ (hinb : ∀ a, (k0_off160 v1 k0_t1) a + S1x1x16x656.size a ≤ S2x32x16x656.size a), (Rect.unit (s := S2x32x16x656) (k0_off160 v1 k0_t1) S1x1x16x656.size hinb).WholeWords (EltTy.packing .i8)) ∧
  (∀ k0_t1 : Fin (k0_t1_loop v1).trips, ∀ (k0_h2 : k0_cond2 v1 k0_t1 = 1#1), ∀ a, (k0_off162 i v1 k0_t1) a + S1x1.size a ≤ S32x1024.size a) ∧
  (∀ k0_t1 : Fin (k0_t1_loop v1).trips, ∀ (k0_h2 : k0_cond2 v1 k0_t1 = 1#1), ∀ a, (k0_off163 v1 k0_t1) a + S1.size a ≤ S2.size a) ∧
  (∀ k0_t1 : Fin (k0_t1_loop v1).trips, ∀ (k0_h2 : k0_cond2 v1 k0_t1 = 1#1), ∀ a, (k0_off164 v1 k0_t1) a + S1x1x16x656.size a ≤ S2x32x16x656.size a) ∧
  (∀ k0_t1 : Fin (k0_t1_loop v1).trips, ∀ (k0_h2 : k0_cond2 v1 k0_t1 = 1#1), ∀ (hinb : ∀ a, (k0_off164 v1 k0_t1) a + S1x1x16x656.size a ≤ S2x32x16x656.size a), (Rect.unit (s := S2x32x16x656) (k0_off164 v1 k0_t1) S1x1x16x656.size hinb).WholeWords (EltTy.packing .i8)) ∧
  (∀ k0_t1 : Fin (k0_t1_loop v1).trips, ∀ (k0_h2 : k0_cond2 v1 k0_t1 = 1#1), ∀ a, (k0_off166 i v1 k0_t1) a + S1x1.size a ≤ S32x1024.size a) ∧
  (∀ k0_t1 : Fin (k0_t1_loop v1).trips, ∀ (k0_h2 : k0_cond2 v1 k0_t1 = 1#1), ∀ a, (k0_off167 v1 k0_t1) a + S1.size a ≤ S2.size a) ∧
  (∀ k0_t1 : Fin (k0_t1_loop v1).trips, ∀ (k0_h2 : k0_cond2 v1 k0_t1 = 1#1), ∀ a, (k0_off168 v1 k0_t1) a + S1x1x16x656.size a ≤ S2x32x16x656.size a) ∧
  (∀ k0_t1 : Fin (k0_t1_loop v1).trips, ∀ (k0_h2 : k0_cond2 v1 k0_t1 = 1#1), ∀ (hinb : ∀ a, (k0_off168 v1 k0_t1) a + S1x1x16x656.size a ≤ S2x32x16x656.size a), (Rect.unit (s := S2x32x16x656) (k0_off168 v1 k0_t1) S1x1x16x656.size hinb).WholeWords (EltTy.packing .i8)) ∧
  (∀ k0_t1 : Fin (k0_t1_loop v1).trips, ∀ (k0_h2 : k0_cond2 v1 k0_t1 = 1#1), ∀ a, (k0_off170 i v1 k0_t1) a + S1x1.size a ≤ S32x1024.size a) ∧
  (∀ k0_t1 : Fin (k0_t1_loop v1).trips, ∀ (k0_h2 : k0_cond2 v1 k0_t1 = 1#1), ∀ a, (k0_off171 v1 k0_t1) a + S1.size a ≤ S2.size a) ∧
  (∀ k0_t1 : Fin (k0_t1_loop v1).trips, ∀ (k0_h2 : k0_cond2 v1 k0_t1 = 1#1), ∀ a, (k0_off172 v1 k0_t1) a + S1x1x16x656.size a ≤ S2x32x16x656.size a) ∧
  (∀ k0_t1 : Fin (k0_t1_loop v1).trips, ∀ (k0_h2 : k0_cond2 v1 k0_t1 = 1#1), ∀ (hinb : ∀ a, (k0_off172 v1 k0_t1) a + S1x1x16x656.size a ≤ S2x32x16x656.size a), (Rect.unit (s := S2x32x16x656) (k0_off172 v1 k0_t1) S1x1x16x656.size hinb).WholeWords (EltTy.packing .i8)) ∧
  (∀ k0_t1 : Fin (k0_t1_loop v1).trips, ∀ (k0_h2 : k0_cond2 v1 k0_t1 = 1#1), ∀ a, (k0_off174 i v1 k0_t1) a + S1x1.size a ≤ S32x1024.size a) ∧
  (∀ k0_t1 : Fin (k0_t1_loop v1).trips, ∀ (k0_h2 : k0_cond2 v1 k0_t1 = 1#1), ∀ a, (k0_off175 v1 k0_t1) a + S1.size a ≤ S2.size a) ∧
  (∀ k0_t1 : Fin (k0_t1_loop v1).trips, ∀ (k0_h2 : k0_cond2 v1 k0_t1 = 1#1), ∀ a, (k0_off176 v1 k0_t1) a + S1x1x16x656.size a ≤ S2x32x16x656.size a) ∧
  (∀ k0_t1 : Fin (k0_t1_loop v1).trips, ∀ (k0_h2 : k0_cond2 v1 k0_t1 = 1#1), ∀ (hinb : ∀ a, (k0_off176 v1 k0_t1) a + S1x1x16x656.size a ≤ S2x32x16x656.size a), (Rect.unit (s := S2x32x16x656) (k0_off176 v1 k0_t1) S1x1x16x656.size hinb).WholeWords (EltTy.packing .i8)) ∧
  (∀ k0_t1 : Fin (k0_t1_loop v1).trips, ∀ (k0_h2 : k0_cond2 v1 k0_t1 = 1#1), ∀ a, (k0_off178 i v1 k0_t1) a + S1x1.size a ≤ S32x1024.size a) ∧
  (∀ k0_t1 : Fin (k0_t1_loop v1).trips, ∀ (k0_h2 : k0_cond2 v1 k0_t1 = 1#1), ∀ a, (k0_off179 v1 k0_t1) a + S1.size a ≤ S2.size a) ∧
  (∀ k0_t1 : Fin (k0_t1_loop v1).trips, ∀ (k0_h2 : k0_cond2 v1 k0_t1 = 1#1), ∀ a, (k0_off180 v1 k0_t1) a + S1x1x16x656.size a ≤ S2x32x16x656.size a) ∧
  (∀ k0_t1 : Fin (k0_t1_loop v1).trips, ∀ (k0_h2 : k0_cond2 v1 k0_t1 = 1#1), ∀ (hinb : ∀ a, (k0_off180 v1 k0_t1) a + S1x1x16x656.size a ≤ S2x32x16x656.size a), (Rect.unit (s := S2x32x16x656) (k0_off180 v1 k0_t1) S1x1x16x656.size hinb).WholeWords (EltTy.packing .i8)) ∧
  (∀ k0_t1 : Fin (k0_t1_loop v1).trips, ∀ (k0_h2 : k0_cond2 v1 k0_t1 = 1#1), ∀ a, (k0_off182 i v1 k0_t1) a + S1x1.size a ≤ S32x1024.size a) ∧
  (∀ k0_t1 : Fin (k0_t1_loop v1).trips, ∀ (k0_h2 : k0_cond2 v1 k0_t1 = 1#1), ∀ a, (k0_off183 v1 k0_t1) a + S1.size a ≤ S2.size a) ∧
  (∀ k0_t1 : Fin (k0_t1_loop v1).trips, ∀ (k0_h2 : k0_cond2 v1 k0_t1 = 1#1), ∀ a, (k0_off184 v1 k0_t1) a + S1x1x16x656.size a ≤ S2x32x16x656.size a) ∧
  (∀ k0_t1 : Fin (k0_t1_loop v1).trips, ∀ (k0_h2 : k0_cond2 v1 k0_t1 = 1#1), ∀ (hinb : ∀ a, (k0_off184 v1 k0_t1) a + S1x1x16x656.size a ≤ S2x32x16x656.size a), (Rect.unit (s := S2x32x16x656) (k0_off184 v1 k0_t1) S1x1x16x656.size hinb).WholeWords (EltTy.packing .i8)) ∧
  (∀ k0_t1 : Fin (k0_t1_loop v1).trips, ∀ (k0_h2 : k0_cond2 v1 k0_t1 = 1#1), ∀ a, (k0_off186 i v1 k0_t1) a + S1x1.size a ≤ S32x1024.size a) ∧
  (∀ k0_t1 : Fin (k0_t1_loop v1).trips, ∀ (k0_h2 : k0_cond2 v1 k0_t1 = 1#1), ∀ a, (k0_off187 v1 k0_t1) a + S1.size a ≤ S2.size a) ∧
  (∀ k0_t1 : Fin (k0_t1_loop v1).trips, ∀ (k0_h2 : k0_cond2 v1 k0_t1 = 1#1), ∀ a, (k0_off188 v1 k0_t1) a + S1x1x16x656.size a ≤ S2x32x16x656.size a) ∧
  (∀ k0_t1 : Fin (k0_t1_loop v1).trips, ∀ (k0_h2 : k0_cond2 v1 k0_t1 = 1#1), ∀ (hinb : ∀ a, (k0_off188 v1 k0_t1) a + S1x1x16x656.size a ≤ S2x32x16x656.size a), (Rect.unit (s := S2x32x16x656) (k0_off188 v1 k0_t1) S1x1x16x656.size hinb).WholeWords (EltTy.packing .i8)) ∧
  (∀ k0_t1 : Fin (k0_t1_loop v1).trips, ∀ (k0_h2 : k0_cond2 v1 k0_t1 = 1#1), ∀ a, (k0_off190 i v1 k0_t1) a + S1x1.size a ≤ S32x1024.size a) ∧
  (∀ k0_t1 : Fin (k0_t1_loop v1).trips, ∀ (k0_h2 : k0_cond2 v1 k0_t1 = 1#1), ∀ a, (k0_off191 v1 k0_t1) a + S1.size a ≤ S2.size a) ∧
  (∀ k0_t1 : Fin (k0_t1_loop v1).trips, ∀ (k0_h2 : k0_cond2 v1 k0_t1 = 1#1), ∀ a, (k0_off192 v1 k0_t1) a + S1x1x16x656.size a ≤ S2x32x16x656.size a)
def k0_chk33_4 (i : grid0.Coords) (v1 : BitVec 32) : Prop :=
  (∀ k0_t1 : Fin (k0_t1_loop v1).trips, ∀ (k0_h2 : k0_cond2 v1 k0_t1 = 1#1), ∀ (hinb : ∀ a, (k0_off192 v1 k0_t1) a + S1x1x16x656.size a ≤ S2x32x16x656.size a), (Rect.unit (s := S2x32x16x656) (k0_off192 v1 k0_t1) S1x1x16x656.size hinb).WholeWords (EltTy.packing .i8)) ∧
  (∀ k0_t1 : Fin (k0_t1_loop v1).trips, ∀ a, (k0_off194 v1 k0_t1) a + S1.size a ≤ S2.size a) ∧
  (∀ k0_t1 : Fin (k0_t1_loop v1).trips, ∀ a, (k0_off195 v1 k0_t1) a + S1x1x16x656.size a ≤ S2x32x16x656.size a) ∧
  (∀ k0_t1 : Fin (k0_t1_loop v1).trips, ∀ (hinb : ∀ a, (k0_off195 v1 k0_t1) a + S1x1x16x656.size a ≤ S2x32x16x656.size a), (Rect.unit (s := S2x32x16x656) (k0_off195 v1 k0_t1) S1x1x16x656.size hinb).WholeWords (EltTy.packing .i8)) ∧
  (∀ k0_t1 : Fin (k0_t1_loop v1).trips, ∀ a, (k0_off196 v1 k0_t1) a + S1x1x16x656.size a ≤ S2x32x16x656.size a) ∧
  (∀ k0_t1 : Fin (k0_t1_loop v1).trips, ∀ (hinb : ∀ a, (k0_off196 v1 k0_t1) a + S1x1x16x656.size a ≤ S2x32x16x656.size a), (Rect.unit (s := S2x32x16x656) (k0_off196 v1 k0_t1) S1x1x16x656.size hinb).WholeWords (EltTy.packing .i8)) ∧
  (∀ k0_t1 : Fin (k0_t1_loop v1).trips, ∀ a, (k0_off197 v1 k0_t1) a + S1x1x16x656.size a ≤ S2x32x16x656.size a) ∧
  (∀ k0_t1 : Fin (k0_t1_loop v1).trips, ∀ (hinb : ∀ a, (k0_off197 v1 k0_t1) a + S1x1x16x656.size a ≤ S2x32x16x656.size a), (Rect.unit (s := S2x32x16x656) (k0_off197 v1 k0_t1) S1x1x16x656.size hinb).WholeWords (EltTy.packing .i8)) ∧
  (∀ k0_t1 : Fin (k0_t1_loop v1).trips, ∀ a, (k0_off198 v1 k0_t1) a + S1x1x16x656.size a ≤ S2x32x16x656.size a) ∧
  (∀ k0_t1 : Fin (k0_t1_loop v1).trips, ∀ (hinb : ∀ a, (k0_off198 v1 k0_t1) a + S1x1x16x656.size a ≤ S2x32x16x656.size a), (Rect.unit (s := S2x32x16x656) (k0_off198 v1 k0_t1) S1x1x16x656.size hinb).WholeWords (EltTy.packing .i8)) ∧
  (∀ k0_t1 : Fin (k0_t1_loop v1).trips, ∀ a, (k0_off199 v1 k0_t1) a + S1x1x16x656.size a ≤ S2x32x16x656.size a) ∧
  (∀ k0_t1 : Fin (k0_t1_loop v1).trips, ∀ (hinb : ∀ a, (k0_off199 v1 k0_t1) a + S1x1x16x656.size a ≤ S2x32x16x656.size a), (Rect.unit (s := S2x32x16x656) (k0_off199 v1 k0_t1) S1x1x16x656.size hinb).WholeWords (EltTy.packing .i8)) ∧
  (∀ k0_t1 : Fin (k0_t1_loop v1).trips, ∀ a, (k0_off200 v1 k0_t1) a + S1x1x16x656.size a ≤ S2x32x16x656.size a) ∧
  (∀ k0_t1 : Fin (k0_t1_loop v1).trips, ∀ (hinb : ∀ a, (k0_off200 v1 k0_t1) a + S1x1x16x656.size a ≤ S2x32x16x656.size a), (Rect.unit (s := S2x32x16x656) (k0_off200 v1 k0_t1) S1x1x16x656.size hinb).WholeWords (EltTy.packing .i8)) ∧
  (∀ k0_t1 : Fin (k0_t1_loop v1).trips, ∀ a, (k0_off201 v1 k0_t1) a + S1x1x16x656.size a ≤ S2x32x16x656.size a) ∧
  (∀ k0_t1 : Fin (k0_t1_loop v1).trips, ∀ (hinb : ∀ a, (k0_off201 v1 k0_t1) a + S1x1x16x656.size a ≤ S2x32x16x656.size a), (Rect.unit (s := S2x32x16x656) (k0_off201 v1 k0_t1) S1x1x16x656.size hinb).WholeWords (EltTy.packing .i8)) ∧
  (∀ k0_t1 : Fin (k0_t1_loop v1).trips, ∀ a, (k0_off202 v1 k0_t1) a + S1x1x16x656.size a ≤ S2x32x16x656.size a) ∧
  (∀ k0_t1 : Fin (k0_t1_loop v1).trips, ∀ (hinb : ∀ a, (k0_off202 v1 k0_t1) a + S1x1x16x656.size a ≤ S2x32x16x656.size a), (Rect.unit (s := S2x32x16x656) (k0_off202 v1 k0_t1) S1x1x16x656.size hinb).WholeWords (EltTy.packing .i8)) ∧
  (∀ k0_t1 : Fin (k0_t1_loop v1).trips, ∀ a, (k0_off203 v1 k0_t1) a + S1x1x16x656.size a ≤ S2x32x16x656.size a) ∧
  (∀ k0_t1 : Fin (k0_t1_loop v1).trips, ∀ (hinb : ∀ a, (k0_off203 v1 k0_t1) a + S1x1x16x656.size a ≤ S2x32x16x656.size a), (Rect.unit (s := S2x32x16x656) (k0_off203 v1 k0_t1) S1x1x16x656.size hinb).WholeWords (EltTy.packing .i8)) ∧
  (∀ k0_t1 : Fin (k0_t1_loop v1).trips, ∀ a, (k0_off204 v1 k0_t1) a + S1x1x16x656.size a ≤ S2x32x16x656.size a) ∧
  (∀ k0_t1 : Fin (k0_t1_loop v1).trips, ∀ (hinb : ∀ a, (k0_off204 v1 k0_t1) a + S1x1x16x656.size a ≤ S2x32x16x656.size a), (Rect.unit (s := S2x32x16x656) (k0_off204 v1 k0_t1) S1x1x16x656.size hinb).WholeWords (EltTy.packing .i8)) ∧
  (∀ k0_t1 : Fin (k0_t1_loop v1).trips, ∀ a, (k0_off205 v1 k0_t1) a + S1x1x16x656.size a ≤ S2x32x16x656.size a) ∧
  (∀ k0_t1 : Fin (k0_t1_loop v1).trips, ∀ (hinb : ∀ a, (k0_off205 v1 k0_t1) a + S1x1x16x656.size a ≤ S2x32x16x656.size a), (Rect.unit (s := S2x32x16x656) (k0_off205 v1 k0_t1) S1x1x16x656.size hinb).WholeWords (EltTy.packing .i8)) ∧
  (∀ k0_t1 : Fin (k0_t1_loop v1).trips, ∀ a, (k0_off206 v1 k0_t1) a + S1x1x16x656.size a ≤ S2x32x16x656.size a) ∧
  (∀ k0_t1 : Fin (k0_t1_loop v1).trips, ∀ (hinb : ∀ a, (k0_off206 v1 k0_t1) a + S1x1x16x656.size a ≤ S2x32x16x656.size a), (Rect.unit (s := S2x32x16x656) (k0_off206 v1 k0_t1) S1x1x16x656.size hinb).WholeWords (EltTy.packing .i8)) ∧
  (∀ k0_t1 : Fin (k0_t1_loop v1).trips, ∀ a, (k0_off207 v1 k0_t1) a + S1x1x16x656.size a ≤ S2x32x16x656.size a) ∧
  (∀ k0_t1 : Fin (k0_t1_loop v1).trips, ∀ (hinb : ∀ a, (k0_off207 v1 k0_t1) a + S1x1x16x656.size a ≤ S2x32x16x656.size a), (Rect.unit (s := S2x32x16x656) (k0_off207 v1 k0_t1) S1x1x16x656.size hinb).WholeWords (EltTy.packing .i8)) ∧
  (∀ k0_t1 : Fin (k0_t1_loop v1).trips, ∀ a, (k0_off208 v1 k0_t1) a + S1x1x16x656.size a ≤ S2x32x16x656.size a) ∧
  (∀ k0_t1 : Fin (k0_t1_loop v1).trips, ∀ (hinb : ∀ a, (k0_off208 v1 k0_t1) a + S1x1x16x656.size a ≤ S2x32x16x656.size a), (Rect.unit (s := S2x32x16x656) (k0_off208 v1 k0_t1) S1x1x16x656.size hinb).WholeWords (EltTy.packing .i8)) ∧
  (∀ k0_t1 : Fin (k0_t1_loop v1).trips, ∀ a, (k0_off209 v1 k0_t1) a + S1x1x16x656.size a ≤ S2x32x16x656.size a) ∧
  (∀ k0_t1 : Fin (k0_t1_loop v1).trips, ∀ (hinb : ∀ a, (k0_off209 v1 k0_t1) a + S1x1x16x656.size a ≤ S2x32x16x656.size a), (Rect.unit (s := S2x32x16x656) (k0_off209 v1 k0_t1) S1x1x16x656.size hinb).WholeWords (EltTy.packing .i8))
def k0_chk33_5 (i : grid0.Coords) (v1 : BitVec 32) : Prop :=
  (∀ k0_t1 : Fin (k0_t1_loop v1).trips, ∀ a, (k0_off210 v1 k0_t1) a + S1x1x16x656.size a ≤ S2x32x16x656.size a) ∧
  (∀ k0_t1 : Fin (k0_t1_loop v1).trips, ∀ (hinb : ∀ a, (k0_off210 v1 k0_t1) a + S1x1x16x656.size a ≤ S2x32x16x656.size a), (Rect.unit (s := S2x32x16x656) (k0_off210 v1 k0_t1) S1x1x16x656.size hinb).WholeWords (EltTy.packing .i8)) ∧
  (∀ k0_t1 : Fin (k0_t1_loop v1).trips, ∀ a, (k0_off211 v1 k0_t1) a + S1x1x16x656.size a ≤ S2x32x16x656.size a) ∧
  (∀ k0_t1 : Fin (k0_t1_loop v1).trips, ∀ (hinb : ∀ a, (k0_off211 v1 k0_t1) a + S1x1x16x656.size a ≤ S2x32x16x656.size a), (Rect.unit (s := S2x32x16x656) (k0_off211 v1 k0_t1) S1x1x16x656.size hinb).WholeWords (EltTy.packing .i8)) ∧
  (∀ k0_t1 : Fin (k0_t1_loop v1).trips, ∀ a, (k0_off212 v1 k0_t1) a + S1x1x16x656.size a ≤ S2x32x16x656.size a) ∧
  (∀ k0_t1 : Fin (k0_t1_loop v1).trips, ∀ (hinb : ∀ a, (k0_off212 v1 k0_t1) a + S1x1x16x656.size a ≤ S2x32x16x656.size a), (Rect.unit (s := S2x32x16x656) (k0_off212 v1 k0_t1) S1x1x16x656.size hinb).WholeWords (EltTy.packing .i8)) ∧
  (∀ k0_t1 : Fin (k0_t1_loop v1).trips, ∀ a, (k0_off213 v1 k0_t1) a + S1x1x16x656.size a ≤ S2x32x16x656.size a) ∧
  (∀ k0_t1 : Fin (k0_t1_loop v1).trips, ∀ (hinb : ∀ a, (k0_off213 v1 k0_t1) a + S1x1x16x656.size a ≤ S2x32x16x656.size a), (Rect.unit (s := S2x32x16x656) (k0_off213 v1 k0_t1) S1x1x16x656.size hinb).WholeWords (EltTy.packing .i8)) ∧
  (∀ k0_t1 : Fin (k0_t1_loop v1).trips, ∀ a, (k0_off214 v1 k0_t1) a + S1x1x16x656.size a ≤ S2x32x16x656.size a) ∧
  (∀ k0_t1 : Fin (k0_t1_loop v1).trips, ∀ (hinb : ∀ a, (k0_off214 v1 k0_t1) a + S1x1x16x656.size a ≤ S2x32x16x656.size a), (Rect.unit (s := S2x32x16x656) (k0_off214 v1 k0_t1) S1x1x16x656.size hinb).WholeWords (EltTy.packing .i8)) ∧
  (∀ k0_t1 : Fin (k0_t1_loop v1).trips, ∀ a, (k0_off215 v1 k0_t1) a + S1x1x16x656.size a ≤ S2x32x16x656.size a) ∧
  (∀ k0_t1 : Fin (k0_t1_loop v1).trips, ∀ (hinb : ∀ a, (k0_off215 v1 k0_t1) a + S1x1x16x656.size a ≤ S2x32x16x656.size a), (Rect.unit (s := S2x32x16x656) (k0_off215 v1 k0_t1) S1x1x16x656.size hinb).WholeWords (EltTy.packing .i8)) ∧
  (∀ k0_t1 : Fin (k0_t1_loop v1).trips, ∀ a, (k0_off216 v1 k0_t1) a + S1x1x16x656.size a ≤ S2x32x16x656.size a) ∧
  (∀ k0_t1 : Fin (k0_t1_loop v1).trips, ∀ (hinb : ∀ a, (k0_off216 v1 k0_t1) a + S1x1x16x656.size a ≤ S2x32x16x656.size a), (Rect.unit (s := S2x32x16x656) (k0_off216 v1 k0_t1) S1x1x16x656.size hinb).WholeWords (EltTy.packing .i8)) ∧
  (∀ k0_t1 : Fin (k0_t1_loop v1).trips, ∀ a, (k0_off217 v1 k0_t1) a + S1x1x16x656.size a ≤ S2x32x16x656.size a) ∧
  (∀ k0_t1 : Fin (k0_t1_loop v1).trips, ∀ (hinb : ∀ a, (k0_off217 v1 k0_t1) a + S1x1x16x656.size a ≤ S2x32x16x656.size a), (Rect.unit (s := S2x32x16x656) (k0_off217 v1 k0_t1) S1x1x16x656.size hinb).WholeWords (EltTy.packing .i8)) ∧
  (∀ k0_t1 : Fin (k0_t1_loop v1).trips, ∀ a, (k0_off218 v1 k0_t1) a + S1x1x16x656.size a ≤ S2x32x16x656.size a) ∧
  (∀ k0_t1 : Fin (k0_t1_loop v1).trips, ∀ (hinb : ∀ a, (k0_off218 v1 k0_t1) a + S1x1x16x656.size a ≤ S2x32x16x656.size a), (Rect.unit (s := S2x32x16x656) (k0_off218 v1 k0_t1) S1x1x16x656.size hinb).WholeWords (EltTy.packing .i8)) ∧
  (∀ k0_t1 : Fin (k0_t1_loop v1).trips, ∀ a, (k0_off219 v1 k0_t1) a + S1x1x16x656.size a ≤ S2x32x16x656.size a) ∧
  (∀ k0_t1 : Fin (k0_t1_loop v1).trips, ∀ (hinb : ∀ a, (k0_off219 v1 k0_t1) a + S1x1x16x656.size a ≤ S2x32x16x656.size a), (Rect.unit (s := S2x32x16x656) (k0_off219 v1 k0_t1) S1x1x16x656.size hinb).WholeWords (EltTy.packing .i8)) ∧
  (∀ k0_t1 : Fin (k0_t1_loop v1).trips, ∀ a, (k0_off220 v1 k0_t1) a + S1x1x16x656.size a ≤ S2x32x16x656.size a) ∧
  (∀ k0_t1 : Fin (k0_t1_loop v1).trips, ∀ (hinb : ∀ a, (k0_off220 v1 k0_t1) a + S1x1x16x656.size a ≤ S2x32x16x656.size a), (Rect.unit (s := S2x32x16x656) (k0_off220 v1 k0_t1) S1x1x16x656.size hinb).WholeWords (EltTy.packing .i8)) ∧
  (∀ k0_t1 : Fin (k0_t1_loop v1).trips, ∀ a, (k0_off221 v1 k0_t1) a + S1x1x16x656.size a ≤ S2x32x16x656.size a) ∧
  (∀ k0_t1 : Fin (k0_t1_loop v1).trips, ∀ (hinb : ∀ a, (k0_off221 v1 k0_t1) a + S1x1x16x656.size a ≤ S2x32x16x656.size a), (Rect.unit (s := S2x32x16x656) (k0_off221 v1 k0_t1) S1x1x16x656.size hinb).WholeWords (EltTy.packing .i8)) ∧
  (∀ k0_t1 : Fin (k0_t1_loop v1).trips, ∀ a, (k0_off222 v1 k0_t1) a + S1x1x16x656.size a ≤ S2x32x16x656.size a) ∧
  (∀ k0_t1 : Fin (k0_t1_loop v1).trips, ∀ (hinb : ∀ a, (k0_off222 v1 k0_t1) a + S1x1x16x656.size a ≤ S2x32x16x656.size a), (Rect.unit (s := S2x32x16x656) (k0_off222 v1 k0_t1) S1x1x16x656.size hinb).WholeWords (EltTy.packing .i8)) ∧
  (∀ k0_t1 : Fin (k0_t1_loop v1).trips, ∀ a, (k0_off223 v1 k0_t1) a + S1x1x16x656.size a ≤ S2x32x16x656.size a) ∧
  (∀ k0_t1 : Fin (k0_t1_loop v1).trips, ∀ (hinb : ∀ a, (k0_off223 v1 k0_t1) a + S1x1x16x656.size a ≤ S2x32x16x656.size a), (Rect.unit (s := S2x32x16x656) (k0_off223 v1 k0_t1) S1x1x16x656.size hinb).WholeWords (EltTy.packing .i8)) ∧
  (∀ k0_t1 : Fin (k0_t1_loop v1).trips, ∀ a, (k0_off224 v1 k0_t1) a + S1x1x16x656.size a ≤ S2x32x16x656.size a) ∧
  (∀ k0_t1 : Fin (k0_t1_loop v1).trips, ∀ (hinb : ∀ a, (k0_off224 v1 k0_t1) a + S1x1x16x656.size a ≤ S2x32x16x656.size a), (Rect.unit (s := S2x32x16x656) (k0_off224 v1 k0_t1) S1x1x16x656.size hinb).WholeWords (EltTy.packing .i8)) ∧
  (∀ k0_t1 : Fin (k0_t1_loop v1).trips, ∀ a, (k0_off225 v1 k0_t1) a + S1x1x16x656.size a ≤ S2x32x16x656.size a) ∧
  (∀ k0_t1 : Fin (k0_t1_loop v1).trips, ∀ (hinb : ∀ a, (k0_off225 v1 k0_t1) a + S1x1x16x656.size a ≤ S2x32x16x656.size a), (Rect.unit (s := S2x32x16x656) (k0_off225 v1 k0_t1) S1x1x16x656.size hinb).WholeWords (EltTy.packing .i8))
def k0_chk33_6 (i : grid0.Coords) (v1 : BitVec 32) : Prop :=
  (∀ k0_t1 : Fin (k0_t1_loop v1).trips, ∀ a, (k0_off226 v1 k0_t1) a + S1x1x16x656.size a ≤ S2x32x16x656.size a) ∧
  (∀ k0_t1 : Fin (k0_t1_loop v1).trips, ∀ (hinb : ∀ a, (k0_off226 v1 k0_t1) a + S1x1x16x656.size a ≤ S2x32x16x656.size a), (Rect.unit (s := S2x32x16x656) (k0_off226 v1 k0_t1) S1x1x16x656.size hinb).WholeWords (EltTy.packing .i8)) ∧
  (∀ k0_t1 : Fin (k0_t1_loop v1).trips, ∀ a, (k0_off227 v1 k0_t1) a + S1x32x16x656.size a ≤ S2x32x16x656.size a) ∧
  ((k0_t2_loop v1).OK) ∧
  (∀ k0_t2 : Fin (k0_t2_loop v1).trips, ∀ (k0_h3 : k0_cond3 v1 k0_t2 = 1#1), ∀ a, (k0_off228 i v1 k0_t2) a + S1x1.size a ≤ S32x1024.size a) ∧
  (∀ k0_t2 : Fin (k0_t2_loop v1).trips, ∀ (k0_h3 : k0_cond3 v1 k0_t2 = 1#1), ∀ a, (k0_off229 v1 k0_t2) a + S1.size a ≤ S2.size a) ∧
  (∀ k0_t2 : Fin (k0_t2_loop v1).trips, ∀ (k0_h3 : k0_cond3 v1 k0_t2 = 1#1), ∀ a, (k0_off230 v1 k0_t2) a + S1x1x16x656.size a ≤ S2x32x16x656.size a) ∧
  (∀ k0_t2 : Fin (k0_t2_loop v1).trips, ∀ (k0_h3 : k0_cond3 v1 k0_t2 = 1#1), ∀ (hinb : ∀ a, (k0_off230 v1 k0_t2) a + S1x1x16x656.size a ≤ S2x32x16x656.size a), (Rect.unit (s := S2x32x16x656) (k0_off230 v1 k0_t2) S1x1x16x656.size hinb).WholeWords (EltTy.packing .i8)) ∧
  (∀ k0_t2 : Fin (k0_t2_loop v1).trips, ∀ (k0_h3 : k0_cond3 v1 k0_t2 = 1#1), ∀ a, (k0_off232 i v1 k0_t2) a + S1x1.size a ≤ S32x1024.size a) ∧
  (∀ k0_t2 : Fin (k0_t2_loop v1).trips, ∀ (k0_h3 : k0_cond3 v1 k0_t2 = 1#1), ∀ a, (k0_off233 v1 k0_t2) a + S1.size a ≤ S2.size a) ∧
  (∀ k0_t2 : Fin (k0_t2_loop v1).trips, ∀ (k0_h3 : k0_cond3 v1 k0_t2 = 1#1), ∀ a, (k0_off234 v1 k0_t2) a + S1x1x16x656.size a ≤ S2x32x16x656.size a) ∧
  (∀ k0_t2 : Fin (k0_t2_loop v1).trips, ∀ (k0_h3 : k0_cond3 v1 k0_t2 = 1#1), ∀ (hinb : ∀ a, (k0_off234 v1 k0_t2) a + S1x1x16x656.size a ≤ S2x32x16x656.size a), (Rect.unit (s := S2x32x16x656) (k0_off234 v1 k0_t2) S1x1x16x656.size hinb).WholeWords (EltTy.packing .i8)) ∧
  (∀ k0_t2 : Fin (k0_t2_loop v1).trips, ∀ (k0_h3 : k0_cond3 v1 k0_t2 = 1#1), ∀ a, (k0_off236 i v1 k0_t2) a + S1x1.size a ≤ S32x1024.size a) ∧
  (∀ k0_t2 : Fin (k0_t2_loop v1).trips, ∀ (k0_h3 : k0_cond3 v1 k0_t2 = 1#1), ∀ a, (k0_off237 v1 k0_t2) a + S1.size a ≤ S2.size a) ∧
  (∀ k0_t2 : Fin (k0_t2_loop v1).trips, ∀ (k0_h3 : k0_cond3 v1 k0_t2 = 1#1), ∀ a, (k0_off238 v1 k0_t2) a + S1x1x16x656.size a ≤ S2x32x16x656.size a) ∧
  (∀ k0_t2 : Fin (k0_t2_loop v1).trips, ∀ (k0_h3 : k0_cond3 v1 k0_t2 = 1#1), ∀ (hinb : ∀ a, (k0_off238 v1 k0_t2) a + S1x1x16x656.size a ≤ S2x32x16x656.size a), (Rect.unit (s := S2x32x16x656) (k0_off238 v1 k0_t2) S1x1x16x656.size hinb).WholeWords (EltTy.packing .i8)) ∧
  (∀ k0_t2 : Fin (k0_t2_loop v1).trips, ∀ (k0_h3 : k0_cond3 v1 k0_t2 = 1#1), ∀ a, (k0_off240 i v1 k0_t2) a + S1x1.size a ≤ S32x1024.size a) ∧
  (∀ k0_t2 : Fin (k0_t2_loop v1).trips, ∀ (k0_h3 : k0_cond3 v1 k0_t2 = 1#1), ∀ a, (k0_off241 v1 k0_t2) a + S1.size a ≤ S2.size a) ∧
  (∀ k0_t2 : Fin (k0_t2_loop v1).trips, ∀ (k0_h3 : k0_cond3 v1 k0_t2 = 1#1), ∀ a, (k0_off242 v1 k0_t2) a + S1x1x16x656.size a ≤ S2x32x16x656.size a) ∧
  (∀ k0_t2 : Fin (k0_t2_loop v1).trips, ∀ (k0_h3 : k0_cond3 v1 k0_t2 = 1#1), ∀ (hinb : ∀ a, (k0_off242 v1 k0_t2) a + S1x1x16x656.size a ≤ S2x32x16x656.size a), (Rect.unit (s := S2x32x16x656) (k0_off242 v1 k0_t2) S1x1x16x656.size hinb).WholeWords (EltTy.packing .i8)) ∧
  (∀ k0_t2 : Fin (k0_t2_loop v1).trips, ∀ (k0_h3 : k0_cond3 v1 k0_t2 = 1#1), ∀ a, (k0_off244 i v1 k0_t2) a + S1x1.size a ≤ S32x1024.size a) ∧
  (∀ k0_t2 : Fin (k0_t2_loop v1).trips, ∀ (k0_h3 : k0_cond3 v1 k0_t2 = 1#1), ∀ a, (k0_off245 v1 k0_t2) a + S1.size a ≤ S2.size a) ∧
  (∀ k0_t2 : Fin (k0_t2_loop v1).trips, ∀ (k0_h3 : k0_cond3 v1 k0_t2 = 1#1), ∀ a, (k0_off246 v1 k0_t2) a + S1x1x16x656.size a ≤ S2x32x16x656.size a) ∧
  (∀ k0_t2 : Fin (k0_t2_loop v1).trips, ∀ (k0_h3 : k0_cond3 v1 k0_t2 = 1#1), ∀ (hinb : ∀ a, (k0_off246 v1 k0_t2) a + S1x1x16x656.size a ≤ S2x32x16x656.size a), (Rect.unit (s := S2x32x16x656) (k0_off246 v1 k0_t2) S1x1x16x656.size hinb).WholeWords (EltTy.packing .i8)) ∧
  (∀ k0_t2 : Fin (k0_t2_loop v1).trips, ∀ (k0_h3 : k0_cond3 v1 k0_t2 = 1#1), ∀ a, (k0_off248 i v1 k0_t2) a + S1x1.size a ≤ S32x1024.size a) ∧
  (∀ k0_t2 : Fin (k0_t2_loop v1).trips, ∀ (k0_h3 : k0_cond3 v1 k0_t2 = 1#1), ∀ a, (k0_off249 v1 k0_t2) a + S1.size a ≤ S2.size a) ∧
  (∀ k0_t2 : Fin (k0_t2_loop v1).trips, ∀ (k0_h3 : k0_cond3 v1 k0_t2 = 1#1), ∀ a, (k0_off250 v1 k0_t2) a + S1x1x16x656.size a ≤ S2x32x16x656.size a) ∧
  (∀ k0_t2 : Fin (k0_t2_loop v1).trips, ∀ (k0_h3 : k0_cond3 v1 k0_t2 = 1#1), ∀ (hinb : ∀ a, (k0_off250 v1 k0_t2) a + S1x1x16x656.size a ≤ S2x32x16x656.size a), (Rect.unit (s := S2x32x16x656) (k0_off250 v1 k0_t2) S1x1x16x656.size hinb).WholeWords (EltTy.packing .i8)) ∧
  (∀ k0_t2 : Fin (k0_t2_loop v1).trips, ∀ (k0_h3 : k0_cond3 v1 k0_t2 = 1#1), ∀ a, (k0_off252 i v1 k0_t2) a + S1x1.size a ≤ S32x1024.size a) ∧
  (∀ k0_t2 : Fin (k0_t2_loop v1).trips, ∀ (k0_h3 : k0_cond3 v1 k0_t2 = 1#1), ∀ a, (k0_off253 v1 k0_t2) a + S1.size a ≤ S2.size a) ∧
  (∀ k0_t2 : Fin (k0_t2_loop v1).trips, ∀ (k0_h3 : k0_cond3 v1 k0_t2 = 1#1), ∀ a, (k0_off254 v1 k0_t2) a + S1x1x16x656.size a ≤ S2x32x16x656.size a) ∧
  (∀ k0_t2 : Fin (k0_t2_loop v1).trips, ∀ (k0_h3 : k0_cond3 v1 k0_t2 = 1#1), ∀ (hinb : ∀ a, (k0_off254 v1 k0_t2) a + S1x1x16x656.size a ≤ S2x32x16x656.size a), (Rect.unit (s := S2x32x16x656) (k0_off254 v1 k0_t2) S1x1x16x656.size hinb).WholeWords (EltTy.packing .i8))
def k0_chk33_7 (i : grid0.Coords) (v1 : BitVec 32) : Prop :=
  (∀ k0_t2 : Fin (k0_t2_loop v1).trips, ∀ (k0_h3 : k0_cond3 v1 k0_t2 = 1#1), ∀ a, (k0_off256 i v1 k0_t2) a + S1x1.size a ≤ S32x1024.size a) ∧
  (∀ k0_t2 : Fin (k0_t2_loop v1).trips, ∀ (k0_h3 : k0_cond3 v1 k0_t2 = 1#1), ∀ a, (k0_off257 v1 k0_t2) a + S1.size a ≤ S2.size a) ∧
  (∀ k0_t2 : Fin (k0_t2_loop v1).trips, ∀ (k0_h3 : k0_cond3 v1 k0_t2 = 1#1), ∀ a, (k0_off258 v1 k0_t2) a + S1x1x16x656.size a ≤ S2x32x16x656.size a) ∧
  (∀ k0_t2 : Fin (k0_t2_loop v1).trips, ∀ (k0_h3 : k0_cond3 v1 k0_t2 = 1#1), ∀ (hinb : ∀ a, (k0_off258 v1 k0_t2) a + S1x1x16x656.size a ≤ S2x32x16x656.size a), (Rect.unit (s := S2x32x16x656) (k0_off258 v1 k0_t2) S1x1x16x656.size hinb).WholeWords (EltTy.packing .i8)) ∧
  (∀ k0_t2 : Fin (k0_t2_loop v1).trips, ∀ (k0_h3 : k0_cond3 v1 k0_t2 = 1#1), ∀ a, (k0_off260 i v1 k0_t2) a + S1x1.size a ≤ S32x1024.size a) ∧
  (∀ k0_t2 : Fin (k0_t2_loop v1).trips, ∀ (k0_h3 : k0_cond3 v1 k0_t2 = 1#1), ∀ a, (k0_off261 v1 k0_t2) a + S1.size a ≤ S2.size a) ∧
  (∀ k0_t2 : Fin (k0_t2_loop v1).trips, ∀ (k0_h3 : k0_cond3 v1 k0_t2 = 1#1), ∀ a, (k0_off262 v1 k0_t2) a + S1x1x16x656.size a ≤ S2x32x16x656.size a) ∧
  (∀ k0_t2 : Fin (k0_t2_loop v1).trips, ∀ (k0_h3 : k0_cond3 v1 k0_t2 = 1#1), ∀ (hinb : ∀ a, (k0_off262 v1 k0_t2) a + S1x1x16x656.size a ≤ S2x32x16x656.size a), (Rect.unit (s := S2x32x16x656) (k0_off262 v1 k0_t2) S1x1x16x656.size hinb).WholeWords (EltTy.packing .i8)) ∧
  (∀ k0_t2 : Fin (k0_t2_loop v1).trips, ∀ (k0_h3 : k0_cond3 v1 k0_t2 = 1#1), ∀ a, (k0_off264 i v1 k0_t2) a + S1x1.size a ≤ S32x1024.size a) ∧
  (∀ k0_t2 : Fin (k0_t2_loop v1).trips, ∀ (k0_h3 : k0_cond3 v1 k0_t2 = 1#1), ∀ a, (k0_off265 v1 k0_t2) a + S1.size a ≤ S2.size a) ∧
  (∀ k0_t2 : Fin (k0_t2_loop v1).trips, ∀ (k0_h3 : k0_cond3 v1 k0_t2 = 1#1), ∀ a, (k0_off266 v1 k0_t2) a + S1x1x16x656.size a ≤ S2x32x16x656.size a) ∧
  (∀ k0_t2 : Fin (k0_t2_loop v1).trips, ∀ (k0_h3 : k0_cond3 v1 k0_t2 = 1#1), ∀ (hinb : ∀ a, (k0_off266 v1 k0_t2) a + S1x1x16x656.size a ≤ S2x32x16x656.size a), (Rect.unit (s := S2x32x16x656) (k0_off266 v1 k0_t2) S1x1x16x656.size hinb).WholeWords (EltTy.packing .i8)) ∧
  (∀ k0_t2 : Fin (k0_t2_loop v1).trips, ∀ (k0_h3 : k0_cond3 v1 k0_t2 = 1#1), ∀ a, (k0_off268 i v1 k0_t2) a + S1x1.size a ≤ S32x1024.size a) ∧
  (∀ k0_t2 : Fin (k0_t2_loop v1).trips, ∀ (k0_h3 : k0_cond3 v1 k0_t2 = 1#1), ∀ a, (k0_off269 v1 k0_t2) a + S1.size a ≤ S2.size a) ∧
  (∀ k0_t2 : Fin (k0_t2_loop v1).trips, ∀ (k0_h3 : k0_cond3 v1 k0_t2 = 1#1), ∀ a, (k0_off270 v1 k0_t2) a + S1x1x16x656.size a ≤ S2x32x16x656.size a) ∧
  (∀ k0_t2 : Fin (k0_t2_loop v1).trips, ∀ (k0_h3 : k0_cond3 v1 k0_t2 = 1#1), ∀ (hinb : ∀ a, (k0_off270 v1 k0_t2) a + S1x1x16x656.size a ≤ S2x32x16x656.size a), (Rect.unit (s := S2x32x16x656) (k0_off270 v1 k0_t2) S1x1x16x656.size hinb).WholeWords (EltTy.packing .i8)) ∧
  (∀ k0_t2 : Fin (k0_t2_loop v1).trips, ∀ (k0_h3 : k0_cond3 v1 k0_t2 = 1#1), ∀ a, (k0_off272 i v1 k0_t2) a + S1x1.size a ≤ S32x1024.size a) ∧
  (∀ k0_t2 : Fin (k0_t2_loop v1).trips, ∀ (k0_h3 : k0_cond3 v1 k0_t2 = 1#1), ∀ a, (k0_off273 v1 k0_t2) a + S1.size a ≤ S2.size a) ∧
  (∀ k0_t2 : Fin (k0_t2_loop v1).trips, ∀ (k0_h3 : k0_cond3 v1 k0_t2 = 1#1), ∀ a, (k0_off274 v1 k0_t2) a + S1x1x16x656.size a ≤ S2x32x16x656.size a) ∧
  (∀ k0_t2 : Fin (k0_t2_loop v1).trips, ∀ (k0_h3 : k0_cond3 v1 k0_t2 = 1#1), ∀ (hinb : ∀ a, (k0_off274 v1 k0_t2) a + S1x1x16x656.size a ≤ S2x32x16x656.size a), (Rect.unit (s := S2x32x16x656) (k0_off274 v1 k0_t2) S1x1x16x656.size hinb).WholeWords (EltTy.packing .i8)) ∧
  (∀ k0_t2 : Fin (k0_t2_loop v1).trips, ∀ (k0_h3 : k0_cond3 v1 k0_t2 = 1#1), ∀ a, (k0_off276 i v1 k0_t2) a + S1x1.size a ≤ S32x1024.size a) ∧
  (∀ k0_t2 : Fin (k0_t2_loop v1).trips, ∀ (k0_h3 : k0_cond3 v1 k0_t2 = 1#1), ∀ a, (k0_off277 v1 k0_t2) a + S1.size a ≤ S2.size a) ∧
  (∀ k0_t2 : Fin (k0_t2_loop v1).trips, ∀ (k0_h3 : k0_cond3 v1 k0_t2 = 1#1), ∀ a, (k0_off278 v1 k0_t2) a + S1x1x16x656.size a ≤ S2x32x16x656.size a) ∧
  (∀ k0_t2 : Fin (k0_t2_loop v1).trips, ∀ (k0_h3 : k0_cond3 v1 k0_t2 = 1#1), ∀ (hinb : ∀ a, (k0_off278 v1 k0_t2) a + S1x1x16x656.size a ≤ S2x32x16x656.size a), (Rect.unit (s := S2x32x16x656) (k0_off278 v1 k0_t2) S1x1x16x656.size hinb).WholeWords (EltTy.packing .i8)) ∧
  (∀ k0_t2 : Fin (k0_t2_loop v1).trips, ∀ (k0_h3 : k0_cond3 v1 k0_t2 = 1#1), ∀ a, (k0_off280 i v1 k0_t2) a + S1x1.size a ≤ S32x1024.size a) ∧
  (∀ k0_t2 : Fin (k0_t2_loop v1).trips, ∀ (k0_h3 : k0_cond3 v1 k0_t2 = 1#1), ∀ a, (k0_off281 v1 k0_t2) a + S1.size a ≤ S2.size a) ∧
  (∀ k0_t2 : Fin (k0_t2_loop v1).trips, ∀ (k0_h3 : k0_cond3 v1 k0_t2 = 1#1), ∀ a, (k0_off282 v1 k0_t2) a + S1x1x16x656.size a ≤ S2x32x16x656.size a) ∧
  (∀ k0_t2 : Fin (k0_t2_loop v1).trips, ∀ (k0_h3 : k0_cond3 v1 k0_t2 = 1#1), ∀ (hinb : ∀ a, (k0_off282 v1 k0_t2) a + S1x1x16x656.size a ≤ S2x32x16x656.size a), (Rect.unit (s := S2x32x16x656) (k0_off282 v1 k0_t2) S1x1x16x656.size hinb).WholeWords (EltTy.packing .i8)) ∧
  (∀ k0_t2 : Fin (k0_t2_loop v1).trips, ∀ (k0_h3 : k0_cond3 v1 k0_t2 = 1#1), ∀ a, (k0_off284 i v1 k0_t2) a + S1x1.size a ≤ S32x1024.size a) ∧
  (∀ k0_t2 : Fin (k0_t2_loop v1).trips, ∀ (k0_h3 : k0_cond3 v1 k0_t2 = 1#1), ∀ a, (k0_off285 v1 k0_t2) a + S1.size a ≤ S2.size a) ∧
  (∀ k0_t2 : Fin (k0_t2_loop v1).trips, ∀ (k0_h3 : k0_cond3 v1 k0_t2 = 1#1), ∀ a, (k0_off286 v1 k0_t2) a + S1x1x16x656.size a ≤ S2x32x16x656.size a) ∧
  (∀ k0_t2 : Fin (k0_t2_loop v1).trips, ∀ (k0_h3 : k0_cond3 v1 k0_t2 = 1#1), ∀ (hinb : ∀ a, (k0_off286 v1 k0_t2) a + S1x1x16x656.size a ≤ S2x32x16x656.size a), (Rect.unit (s := S2x32x16x656) (k0_off286 v1 k0_t2) S1x1x16x656.size hinb).WholeWords (EltTy.packing .i8))
def k0_chk33_8 (i : grid0.Coords) (v1 : BitVec 32) : Prop :=
  (∀ k0_t2 : Fin (k0_t2_loop v1).trips, ∀ (k0_h3 : k0_cond3 v1 k0_t2 = 1#1), ∀ a, (k0_off288 i v1 k0_t2) a + S1x1.size a ≤ S32x1024.size a) ∧
  (∀ k0_t2 : Fin (k0_t2_loop v1).trips, ∀ (k0_h3 : k0_cond3 v1 k0_t2 = 1#1), ∀ a, (k0_off289 v1 k0_t2) a + S1.size a ≤ S2.size a) ∧
  (∀ k0_t2 : Fin (k0_t2_loop v1).trips, ∀ (k0_h3 : k0_cond3 v1 k0_t2 = 1#1), ∀ a, (k0_off290 v1 k0_t2) a + S1x1x16x656.size a ≤ S2x32x16x656.size a) ∧
  (∀ k0_t2 : Fin (k0_t2_loop v1).trips, ∀ (k0_h3 : k0_cond3 v1 k0_t2 = 1#1), ∀ (hinb : ∀ a, (k0_off290 v1 k0_t2) a + S1x1x16x656.size a ≤ S2x32x16x656.size a), (Rect.unit (s := S2x32x16x656) (k0_off290 v1 k0_t2) S1x1x16x656.size hinb).WholeWords (EltTy.packing .i8)) ∧
  (∀ k0_t2 : Fin (k0_t2_loop v1).trips, ∀ (k0_h3 : k0_cond3 v1 k0_t2 = 1#1), ∀ a, (k0_off292 i v1 k0_t2) a + S1x1.size a ≤ S32x1024.size a) ∧
  (∀ k0_t2 : Fin (k0_t2_loop v1).trips, ∀ (k0_h3 : k0_cond3 v1 k0_t2 = 1#1), ∀ a, (k0_off293 v1 k0_t2) a + S1.size a ≤ S2.size a) ∧
  (∀ k0_t2 : Fin (k0_t2_loop v1).trips, ∀ (k0_h3 : k0_cond3 v1 k0_t2 = 1#1), ∀ a, (k0_off294 v1 k0_t2) a + S1x1x16x656.size a ≤ S2x32x16x656.size a) ∧
  (∀ k0_t2 : Fin (k0_t2_loop v1).trips, ∀ (k0_h3 : k0_cond3 v1 k0_t2 = 1#1), ∀ (hinb : ∀ a, (k0_off294 v1 k0_t2) a + S1x1x16x656.size a ≤ S2x32x16x656.size a), (Rect.unit (s := S2x32x16x656) (k0_off294 v1 k0_t2) S1x1x16x656.size hinb).WholeWords (EltTy.packing .i8)) ∧
  (∀ k0_t2 : Fin (k0_t2_loop v1).trips, ∀ (k0_h3 : k0_cond3 v1 k0_t2 = 1#1), ∀ a, (k0_off296 i v1 k0_t2) a + S1x1.size a ≤ S32x1024.size a) ∧
  (∀ k0_t2 : Fin (k0_t2_loop v1).trips, ∀ (k0_h3 : k0_cond3 v1 k0_t2 = 1#1), ∀ a, (k0_off297 v1 k0_t2) a + S1.size a ≤ S2.size a) ∧
  (∀ k0_t2 : Fin (k0_t2_loop v1).trips, ∀ (k0_h3 : k0_cond3 v1 k0_t2 = 1#1), ∀ a, (k0_off298 v1 k0_t2) a + S1x1x16x656.size a ≤ S2x32x16x656.size a) ∧
  (∀ k0_t2 : Fin (k0_t2_loop v1).trips, ∀ (k0_h3 : k0_cond3 v1 k0_t2 = 1#1), ∀ (hinb : ∀ a, (k0_off298 v1 k0_t2) a + S1x1x16x656.size a ≤ S2x32x16x656.size a), (Rect.unit (s := S2x32x16x656) (k0_off298 v1 k0_t2) S1x1x16x656.size hinb).WholeWords (EltTy.packing .i8)) ∧
  (∀ k0_t2 : Fin (k0_t2_loop v1).trips, ∀ (k0_h3 : k0_cond3 v1 k0_t2 = 1#1), ∀ a, (k0_off300 i v1 k0_t2) a + S1x1.size a ≤ S32x1024.size a) ∧
  (∀ k0_t2 : Fin (k0_t2_loop v1).trips, ∀ (k0_h3 : k0_cond3 v1 k0_t2 = 1#1), ∀ a, (k0_off301 v1 k0_t2) a + S1.size a ≤ S2.size a) ∧
  (∀ k0_t2 : Fin (k0_t2_loop v1).trips, ∀ (k0_h3 : k0_cond3 v1 k0_t2 = 1#1), ∀ a, (k0_off302 v1 k0_t2) a + S1x1x16x656.size a ≤ S2x32x16x656.size a) ∧
  (∀ k0_t2 : Fin (k0_t2_loop v1).trips, ∀ (k0_h3 : k0_cond3 v1 k0_t2 = 1#1), ∀ (hinb : ∀ a, (k0_off302 v1 k0_t2) a + S1x1x16x656.size a ≤ S2x32x16x656.size a), (Rect.unit (s := S2x32x16x656) (k0_off302 v1 k0_t2) S1x1x16x656.size hinb).WholeWords (EltTy.packing .i8)) ∧
  (∀ k0_t2 : Fin (k0_t2_loop v1).trips, ∀ (k0_h3 : k0_cond3 v1 k0_t2 = 1#1), ∀ a, (k0_off304 i v1 k0_t2) a + S1x1.size a ≤ S32x1024.size a) ∧
  (∀ k0_t2 : Fin (k0_t2_loop v1).trips, ∀ (k0_h3 : k0_cond3 v1 k0_t2 = 1#1), ∀ a, (k0_off305 v1 k0_t2) a + S1.size a ≤ S2.size a) ∧
  (∀ k0_t2 : Fin (k0_t2_loop v1).trips, ∀ (k0_h3 : k0_cond3 v1 k0_t2 = 1#1), ∀ a, (k0_off306 v1 k0_t2) a + S1x1x16x656.size a ≤ S2x32x16x656.size a) ∧
  (∀ k0_t2 : Fin (k0_t2_loop v1).trips, ∀ (k0_h3 : k0_cond3 v1 k0_t2 = 1#1), ∀ (hinb : ∀ a, (k0_off306 v1 k0_t2) a + S1x1x16x656.size a ≤ S2x32x16x656.size a), (Rect.unit (s := S2x32x16x656) (k0_off306 v1 k0_t2) S1x1x16x656.size hinb).WholeWords (EltTy.packing .i8)) ∧
  (∀ k0_t2 : Fin (k0_t2_loop v1).trips, ∀ (k0_h3 : k0_cond3 v1 k0_t2 = 1#1), ∀ a, (k0_off308 i v1 k0_t2) a + S1x1.size a ≤ S32x1024.size a) ∧
  (∀ k0_t2 : Fin (k0_t2_loop v1).trips, ∀ (k0_h3 : k0_cond3 v1 k0_t2 = 1#1), ∀ a, (k0_off309 v1 k0_t2) a + S1.size a ≤ S2.size a) ∧
  (∀ k0_t2 : Fin (k0_t2_loop v1).trips, ∀ (k0_h3 : k0_cond3 v1 k0_t2 = 1#1), ∀ a, (k0_off310 v1 k0_t2) a + S1x1x16x656.size a ≤ S2x32x16x656.size a) ∧
  (∀ k0_t2 : Fin (k0_t2_loop v1).trips, ∀ (k0_h3 : k0_cond3 v1 k0_t2 = 1#1), ∀ (hinb : ∀ a, (k0_off310 v1 k0_t2) a + S1x1x16x656.size a ≤ S2x32x16x656.size a), (Rect.unit (s := S2x32x16x656) (k0_off310 v1 k0_t2) S1x1x16x656.size hinb).WholeWords (EltTy.packing .i8)) ∧
  (∀ k0_t2 : Fin (k0_t2_loop v1).trips, ∀ (k0_h3 : k0_cond3 v1 k0_t2 = 1#1), ∀ a, (k0_off312 i v1 k0_t2) a + S1x1.size a ≤ S32x1024.size a) ∧
  (∀ k0_t2 : Fin (k0_t2_loop v1).trips, ∀ (k0_h3 : k0_cond3 v1 k0_t2 = 1#1), ∀ a, (k0_off313 v1 k0_t2) a + S1.size a ≤ S2.size a) ∧
  (∀ k0_t2 : Fin (k0_t2_loop v1).trips, ∀ (k0_h3 : k0_cond3 v1 k0_t2 = 1#1), ∀ a, (k0_off314 v1 k0_t2) a + S1x1x16x656.size a ≤ S2x32x16x656.size a) ∧
  (∀ k0_t2 : Fin (k0_t2_loop v1).trips, ∀ (k0_h3 : k0_cond3 v1 k0_t2 = 1#1), ∀ (hinb : ∀ a, (k0_off314 v1 k0_t2) a + S1x1x16x656.size a ≤ S2x32x16x656.size a), (Rect.unit (s := S2x32x16x656) (k0_off314 v1 k0_t2) S1x1x16x656.size hinb).WholeWords (EltTy.packing .i8)) ∧
  (∀ k0_t2 : Fin (k0_t2_loop v1).trips, ∀ (k0_h3 : k0_cond3 v1 k0_t2 = 1#1), ∀ a, (k0_off316 i v1 k0_t2) a + S1x1.size a ≤ S32x1024.size a) ∧
  (∀ k0_t2 : Fin (k0_t2_loop v1).trips, ∀ (k0_h3 : k0_cond3 v1 k0_t2 = 1#1), ∀ a, (k0_off317 v1 k0_t2) a + S1.size a ≤ S2.size a) ∧
  (∀ k0_t2 : Fin (k0_t2_loop v1).trips, ∀ (k0_h3 : k0_cond3 v1 k0_t2 = 1#1), ∀ a, (k0_off318 v1 k0_t2) a + S1x1x16x656.size a ≤ S2x32x16x656.size a) ∧
  (∀ k0_t2 : Fin (k0_t2_loop v1).trips, ∀ (k0_h3 : k0_cond3 v1 k0_t2 = 1#1), ∀ (hinb : ∀ a, (k0_off318 v1 k0_t2) a + S1x1x16x656.size a ≤ S2x32x16x656.size a), (Rect.unit (s := S2x32x16x656) (k0_off318 v1 k0_t2) S1x1x16x656.size hinb).WholeWords (EltTy.packing .i8))
def k0_chk33_9 (i : grid0.Coords) (v1 : BitVec 32) : Prop :=
  (∀ k0_t2 : Fin (k0_t2_loop v1).trips, ∀ (k0_h3 : k0_cond3 v1 k0_t2 = 1#1), ∀ a, (k0_off320 i v1 k0_t2) a + S1x1.size a ≤ S32x1024.size a) ∧
  (∀ k0_t2 : Fin (k0_t2_loop v1).trips, ∀ (k0_h3 : k0_cond3 v1 k0_t2 = 1#1), ∀ a, (k0_off321 v1 k0_t2) a + S1.size a ≤ S2.size a) ∧
  (∀ k0_t2 : Fin (k0_t2_loop v1).trips, ∀ (k0_h3 : k0_cond3 v1 k0_t2 = 1#1), ∀ a, (k0_off322 v1 k0_t2) a + S1x1x16x656.size a ≤ S2x32x16x656.size a) ∧
  (∀ k0_t2 : Fin (k0_t2_loop v1).trips, ∀ (k0_h3 : k0_cond3 v1 k0_t2 = 1#1), ∀ (hinb : ∀ a, (k0_off322 v1 k0_t2) a + S1x1x16x656.size a ≤ S2x32x16x656.size a), (Rect.unit (s := S2x32x16x656) (k0_off322 v1 k0_t2) S1x1x16x656.size hinb).WholeWords (EltTy.packing .i8)) ∧
  (∀ k0_t2 : Fin (k0_t2_loop v1).trips, ∀ (k0_h3 : k0_cond3 v1 k0_t2 = 1#1), ∀ a, (k0_off324 i v1 k0_t2) a + S1x1.size a ≤ S32x1024.size a) ∧
  (∀ k0_t2 : Fin (k0_t2_loop v1).trips, ∀ (k0_h3 : k0_cond3 v1 k0_t2 = 1#1), ∀ a, (k0_off325 v1 k0_t2) a + S1.size a ≤ S2.size a) ∧
  (∀ k0_t2 : Fin (k0_t2_loop v1).trips, ∀ (k0_h3 : k0_cond3 v1 k0_t2 = 1#1), ∀ a, (k0_off326 v1 k0_t2) a + S1x1x16x656.size a ≤ S2x32x16x656.size a) ∧
  (∀ k0_t2 : Fin (k0_t2_loop v1).trips, ∀ (k0_h3 : k0_cond3 v1 k0_t2 = 1#1), ∀ (hinb : ∀ a, (k0_off326 v1 k0_t2) a + S1x1x16x656.size a ≤ S2x32x16x656.size a), (Rect.unit (s := S2x32x16x656) (k0_off326 v1 k0_t2) S1x1x16x656.size hinb).WholeWords (EltTy.packing .i8)) ∧
  (∀ k0_t2 : Fin (k0_t2_loop v1).trips, ∀ (k0_h3 : k0_cond3 v1 k0_t2 = 1#1), ∀ a, (k0_off328 i v1 k0_t2) a + S1x1.size a ≤ S32x1024.size a) ∧
  (∀ k0_t2 : Fin (k0_t2_loop v1).trips, ∀ (k0_h3 : k0_cond3 v1 k0_t2 = 1#1), ∀ a, (k0_off329 v1 k0_t2) a + S1.size a ≤ S2.size a) ∧
  (∀ k0_t2 : Fin (k0_t2_loop v1).trips, ∀ (k0_h3 : k0_cond3 v1 k0_t2 = 1#1), ∀ a, (k0_off330 v1 k0_t2) a + S1x1x16x656.size a ≤ S2x32x16x656.size a) ∧
  (∀ k0_t2 : Fin (k0_t2_loop v1).trips, ∀ (k0_h3 : k0_cond3 v1 k0_t2 = 1#1), ∀ (hinb : ∀ a, (k0_off330 v1 k0_t2) a + S1x1x16x656.size a ≤ S2x32x16x656.size a), (Rect.unit (s := S2x32x16x656) (k0_off330 v1 k0_t2) S1x1x16x656.size hinb).WholeWords (EltTy.packing .i8)) ∧
  (∀ k0_t2 : Fin (k0_t2_loop v1).trips, ∀ (k0_h3 : k0_cond3 v1 k0_t2 = 1#1), ∀ a, (k0_off332 i v1 k0_t2) a + S1x1.size a ≤ S32x1024.size a) ∧
  (∀ k0_t2 : Fin (k0_t2_loop v1).trips, ∀ (k0_h3 : k0_cond3 v1 k0_t2 = 1#1), ∀ a, (k0_off333 v1 k0_t2) a + S1.size a ≤ S2.size a) ∧
  (∀ k0_t2 : Fin (k0_t2_loop v1).trips, ∀ (k0_h3 : k0_cond3 v1 k0_t2 = 1#1), ∀ a, (k0_off334 v1 k0_t2) a + S1x1x16x656.size a ≤ S2x32x16x656.size a) ∧
  (∀ k0_t2 : Fin (k0_t2_loop v1).trips, ∀ (k0_h3 : k0_cond3 v1 k0_t2 = 1#1), ∀ (hinb : ∀ a, (k0_off334 v1 k0_t2) a + S1x1x16x656.size a ≤ S2x32x16x656.size a), (Rect.unit (s := S2x32x16x656) (k0_off334 v1 k0_t2) S1x1x16x656.size hinb).WholeWords (EltTy.packing .i8)) ∧
  (∀ k0_t2 : Fin (k0_t2_loop v1).trips, ∀ (k0_h3 : k0_cond3 v1 k0_t2 = 1#1), ∀ a, (k0_off336 i v1 k0_t2) a + S1x1.size a ≤ S32x1024.size a) ∧
  (∀ k0_t2 : Fin (k0_t2_loop v1).trips, ∀ (k0_h3 : k0_cond3 v1 k0_t2 = 1#1), ∀ a, (k0_off337 v1 k0_t2) a + S1.size a ≤ S2.size a) ∧
  (∀ k0_t2 : Fin (k0_t2_loop v1).trips, ∀ (k0_h3 : k0_cond3 v1 k0_t2 = 1#1), ∀ a, (k0_off338 v1 k0_t2) a + S1x1x16x656.size a ≤ S2x32x16x656.size a) ∧
  (∀ k0_t2 : Fin (k0_t2_loop v1).trips, ∀ (k0_h3 : k0_cond3 v1 k0_t2 = 1#1), ∀ (hinb : ∀ a, (k0_off338 v1 k0_t2) a + S1x1x16x656.size a ≤ S2x32x16x656.size a), (Rect.unit (s := S2x32x16x656) (k0_off338 v1 k0_t2) S1x1x16x656.size hinb).WholeWords (EltTy.packing .i8)) ∧
  (∀ k0_t2 : Fin (k0_t2_loop v1).trips, ∀ (k0_h3 : k0_cond3 v1 k0_t2 = 1#1), ∀ a, (k0_off340 i v1 k0_t2) a + S1x1.size a ≤ S32x1024.size a) ∧
  (∀ k0_t2 : Fin (k0_t2_loop v1).trips, ∀ (k0_h3 : k0_cond3 v1 k0_t2 = 1#1), ∀ a, (k0_off341 v1 k0_t2) a + S1.size a ≤ S2.size a) ∧
  (∀ k0_t2 : Fin (k0_t2_loop v1).trips, ∀ (k0_h3 : k0_cond3 v1 k0_t2 = 1#1), ∀ a, (k0_off342 v1 k0_t2) a + S1x1x16x656.size a ≤ S2x32x16x656.size a) ∧
  (∀ k0_t2 : Fin (k0_t2_loop v1).trips, ∀ (k0_h3 : k0_cond3 v1 k0_t2 = 1#1), ∀ (hinb : ∀ a, (k0_off342 v1 k0_t2) a + S1x1x16x656.size a ≤ S2x32x16x656.size a), (Rect.unit (s := S2x32x16x656) (k0_off342 v1 k0_t2) S1x1x16x656.size hinb).WholeWords (EltTy.packing .i8)) ∧
  (∀ k0_t2 : Fin (k0_t2_loop v1).trips, ∀ (k0_h3 : k0_cond3 v1 k0_t2 = 1#1), ∀ a, (k0_off344 i v1 k0_t2) a + S1x1.size a ≤ S32x1024.size a) ∧
  (∀ k0_t2 : Fin (k0_t2_loop v1).trips, ∀ (k0_h3 : k0_cond3 v1 k0_t2 = 1#1), ∀ a, (k0_off345 v1 k0_t2) a + S1.size a ≤ S2.size a) ∧
  (∀ k0_t2 : Fin (k0_t2_loop v1).trips, ∀ (k0_h3 : k0_cond3 v1 k0_t2 = 1#1), ∀ a, (k0_off346 v1 k0_t2) a + S1x1x16x656.size a ≤ S2x32x16x656.size a) ∧
  (∀ k0_t2 : Fin (k0_t2_loop v1).trips, ∀ (k0_h3 : k0_cond3 v1 k0_t2 = 1#1), ∀ (hinb : ∀ a, (k0_off346 v1 k0_t2) a + S1x1x16x656.size a ≤ S2x32x16x656.size a), (Rect.unit (s := S2x32x16x656) (k0_off346 v1 k0_t2) S1x1x16x656.size hinb).WholeWords (EltTy.packing .i8)) ∧
  (∀ k0_t2 : Fin (k0_t2_loop v1).trips, ∀ (k0_h3 : k0_cond3 v1 k0_t2 = 1#1), ∀ a, (k0_off348 i v1 k0_t2) a + S1x1.size a ≤ S32x1024.size a) ∧
  (∀ k0_t2 : Fin (k0_t2_loop v1).trips, ∀ (k0_h3 : k0_cond3 v1 k0_t2 = 1#1), ∀ a, (k0_off349 v1 k0_t2) a + S1.size a ≤ S2.size a) ∧
  (∀ k0_t2 : Fin (k0_t2_loop v1).trips, ∀ (k0_h3 : k0_cond3 v1 k0_t2 = 1#1), ∀ a, (k0_off350 v1 k0_t2) a + S1x1x16x656.size a ≤ S2x32x16x656.size a) ∧
  (∀ k0_t2 : Fin (k0_t2_loop v1).trips, ∀ (k0_h3 : k0_cond3 v1 k0_t2 = 1#1), ∀ (hinb : ∀ a, (k0_off350 v1 k0_t2) a + S1x1x16x656.size a ≤ S2x32x16x656.size a), (Rect.unit (s := S2x32x16x656) (k0_off350 v1 k0_t2) S1x1x16x656.size hinb).WholeWords (EltTy.packing .i8))
def k0_chk33_10 (i : grid0.Coords) (v1 : BitVec 32) : Prop :=
  (∀ k0_t2 : Fin (k0_t2_loop v1).trips, ∀ (k0_h3 : k0_cond3 v1 k0_t2 = 1#1), ∀ a, (k0_off352 i v1 k0_t2) a + S1x1.size a ≤ S32x1024.size a) ∧
  (∀ k0_t2 : Fin (k0_t2_loop v1).trips, ∀ (k0_h3 : k0_cond3 v1 k0_t2 = 1#1), ∀ a, (k0_off353 v1 k0_t2) a + S1.size a ≤ S2.size a) ∧
  (∀ k0_t2 : Fin (k0_t2_loop v1).trips, ∀ (k0_h3 : k0_cond3 v1 k0_t2 = 1#1), ∀ a, (k0_off354 v1 k0_t2) a + S1x1x16x656.size a ≤ S2x32x16x656.size a) ∧
  (∀ k0_t2 : Fin (k0_t2_loop v1).trips, ∀ (k0_h3 : k0_cond3 v1 k0_t2 = 1#1), ∀ (hinb : ∀ a, (k0_off354 v1 k0_t2) a + S1x1x16x656.size a ≤ S2x32x16x656.size a), (Rect.unit (s := S2x32x16x656) (k0_off354 v1 k0_t2) S1x1x16x656.size hinb).WholeWords (EltTy.packing .i8)) ∧
  (∀ k0_t2 : Fin (k0_t2_loop v1).trips, ∀ a, (k0_off356 v1 k0_t2) a + S1.size a ≤ S2.size a) ∧
  (∀ k0_t2 : Fin (k0_t2_loop v1).trips, ∀ a, (k0_off357 v1 k0_t2) a + S1x1x16x656.size a ≤ S2x32x16x656.size a) ∧
  (∀ k0_t2 : Fin (k0_t2_loop v1).trips, ∀ (hinb : ∀ a, (k0_off357 v1 k0_t2) a + S1x1x16x656.size a ≤ S2x32x16x656.size a), (Rect.unit (s := S2x32x16x656) (k0_off357 v1 k0_t2) S1x1x16x656.size hinb).WholeWords (EltTy.packing .i8)) ∧
  (∀ k0_t2 : Fin (k0_t2_loop v1).trips, ∀ a, (k0_off358 v1 k0_t2) a + S1x1x16x656.size a ≤ S2x32x16x656.size a) ∧
  (∀ k0_t2 : Fin (k0_t2_loop v1).trips, ∀ (hinb : ∀ a, (k0_off358 v1 k0_t2) a + S1x1x16x656.size a ≤ S2x32x16x656.size a), (Rect.unit (s := S2x32x16x656) (k0_off358 v1 k0_t2) S1x1x16x656.size hinb).WholeWords (EltTy.packing .i8)) ∧
  (∀ k0_t2 : Fin (k0_t2_loop v1).trips, ∀ a, (k0_off359 v1 k0_t2) a + S1x1x16x656.size a ≤ S2x32x16x656.size a) ∧
  (∀ k0_t2 : Fin (k0_t2_loop v1).trips, ∀ (hinb : ∀ a, (k0_off359 v1 k0_t2) a + S1x1x16x656.size a ≤ S2x32x16x656.size a), (Rect.unit (s := S2x32x16x656) (k0_off359 v1 k0_t2) S1x1x16x656.size hinb).WholeWords (EltTy.packing .i8)) ∧
  (∀ k0_t2 : Fin (k0_t2_loop v1).trips, ∀ a, (k0_off360 v1 k0_t2) a + S1x1x16x656.size a ≤ S2x32x16x656.size a) ∧
  (∀ k0_t2 : Fin (k0_t2_loop v1).trips, ∀ (hinb : ∀ a, (k0_off360 v1 k0_t2) a + S1x1x16x656.size a ≤ S2x32x16x656.size a), (Rect.unit (s := S2x32x16x656) (k0_off360 v1 k0_t2) S1x1x16x656.size hinb).WholeWords (EltTy.packing .i8)) ∧
  (∀ k0_t2 : Fin (k0_t2_loop v1).trips, ∀ a, (k0_off361 v1 k0_t2) a + S1x1x16x656.size a ≤ S2x32x16x656.size a) ∧
  (∀ k0_t2 : Fin (k0_t2_loop v1).trips, ∀ (hinb : ∀ a, (k0_off361 v1 k0_t2) a + S1x1x16x656.size a ≤ S2x32x16x656.size a), (Rect.unit (s := S2x32x16x656) (k0_off361 v1 k0_t2) S1x1x16x656.size hinb).WholeWords (EltTy.packing .i8)) ∧
  (∀ k0_t2 : Fin (k0_t2_loop v1).trips, ∀ a, (k0_off362 v1 k0_t2) a + S1x1x16x656.size a ≤ S2x32x16x656.size a) ∧
  (∀ k0_t2 : Fin (k0_t2_loop v1).trips, ∀ (hinb : ∀ a, (k0_off362 v1 k0_t2) a + S1x1x16x656.size a ≤ S2x32x16x656.size a), (Rect.unit (s := S2x32x16x656) (k0_off362 v1 k0_t2) S1x1x16x656.size hinb).WholeWords (EltTy.packing .i8)) ∧
  (∀ k0_t2 : Fin (k0_t2_loop v1).trips, ∀ a, (k0_off363 v1 k0_t2) a + S1x1x16x656.size a ≤ S2x32x16x656.size a) ∧
  (∀ k0_t2 : Fin (k0_t2_loop v1).trips, ∀ (hinb : ∀ a, (k0_off363 v1 k0_t2) a + S1x1x16x656.size a ≤ S2x32x16x656.size a), (Rect.unit (s := S2x32x16x656) (k0_off363 v1 k0_t2) S1x1x16x656.size hinb).WholeWords (EltTy.packing .i8)) ∧
  (∀ k0_t2 : Fin (k0_t2_loop v1).trips, ∀ a, (k0_off364 v1 k0_t2) a + S1x1x16x656.size a ≤ S2x32x16x656.size a) ∧
  (∀ k0_t2 : Fin (k0_t2_loop v1).trips, ∀ (hinb : ∀ a, (k0_off364 v1 k0_t2) a + S1x1x16x656.size a ≤ S2x32x16x656.size a), (Rect.unit (s := S2x32x16x656) (k0_off364 v1 k0_t2) S1x1x16x656.size hinb).WholeWords (EltTy.packing .i8)) ∧
  (∀ k0_t2 : Fin (k0_t2_loop v1).trips, ∀ a, (k0_off365 v1 k0_t2) a + S1x1x16x656.size a ≤ S2x32x16x656.size a) ∧
  (∀ k0_t2 : Fin (k0_t2_loop v1).trips, ∀ (hinb : ∀ a, (k0_off365 v1 k0_t2) a + S1x1x16x656.size a ≤ S2x32x16x656.size a), (Rect.unit (s := S2x32x16x656) (k0_off365 v1 k0_t2) S1x1x16x656.size hinb).WholeWords (EltTy.packing .i8)) ∧
  (∀ k0_t2 : Fin (k0_t2_loop v1).trips, ∀ a, (k0_off366 v1 k0_t2) a + S1x1x16x656.size a ≤ S2x32x16x656.size a) ∧
  (∀ k0_t2 : Fin (k0_t2_loop v1).trips, ∀ (hinb : ∀ a, (k0_off366 v1 k0_t2) a + S1x1x16x656.size a ≤ S2x32x16x656.size a), (Rect.unit (s := S2x32x16x656) (k0_off366 v1 k0_t2) S1x1x16x656.size hinb).WholeWords (EltTy.packing .i8)) ∧
  (∀ k0_t2 : Fin (k0_t2_loop v1).trips, ∀ a, (k0_off367 v1 k0_t2) a + S1x1x16x656.size a ≤ S2x32x16x656.size a) ∧
  (∀ k0_t2 : Fin (k0_t2_loop v1).trips, ∀ (hinb : ∀ a, (k0_off367 v1 k0_t2) a + S1x1x16x656.size a ≤ S2x32x16x656.size a), (Rect.unit (s := S2x32x16x656) (k0_off367 v1 k0_t2) S1x1x16x656.size hinb).WholeWords (EltTy.packing .i8)) ∧
  (∀ k0_t2 : Fin (k0_t2_loop v1).trips, ∀ a, (k0_off368 v1 k0_t2) a + S1x1x16x656.size a ≤ S2x32x16x656.size a) ∧
  (∀ k0_t2 : Fin (k0_t2_loop v1).trips, ∀ (hinb : ∀ a, (k0_off368 v1 k0_t2) a + S1x1x16x656.size a ≤ S2x32x16x656.size a), (Rect.unit (s := S2x32x16x656) (k0_off368 v1 k0_t2) S1x1x16x656.size hinb).WholeWords (EltTy.packing .i8)) ∧
  (∀ k0_t2 : Fin (k0_t2_loop v1).trips, ∀ a, (k0_off369 v1 k0_t2) a + S1x1x16x656.size a ≤ S2x32x16x656.size a) ∧
  (∀ k0_t2 : Fin (k0_t2_loop v1).trips, ∀ (hinb : ∀ a, (k0_off369 v1 k0_t2) a + S1x1x16x656.size a ≤ S2x32x16x656.size a), (Rect.unit (s := S2x32x16x656) (k0_off369 v1 k0_t2) S1x1x16x656.size hinb).WholeWords (EltTy.packing .i8)) ∧
  (∀ k0_t2 : Fin (k0_t2_loop v1).trips, ∀ a, (k0_off370 v1 k0_t2) a + S1x1x16x656.size a ≤ S2x32x16x656.size a)
def k0_chk33_11 (i : grid0.Coords) (v1 : BitVec 32) : Prop :=
  (∀ k0_t2 : Fin (k0_t2_loop v1).trips, ∀ (hinb : ∀ a, (k0_off370 v1 k0_t2) a + S1x1x16x656.size a ≤ S2x32x16x656.size a), (Rect.unit (s := S2x32x16x656) (k0_off370 v1 k0_t2) S1x1x16x656.size hinb).WholeWords (EltTy.packing .i8)) ∧
  (∀ k0_t2 : Fin (k0_t2_loop v1).trips, ∀ a, (k0_off371 v1 k0_t2) a + S1x1x16x656.size a ≤ S2x32x16x656.size a) ∧
  (∀ k0_t2 : Fin (k0_t2_loop v1).trips, ∀ (hinb : ∀ a, (k0_off371 v1 k0_t2) a + S1x1x16x656.size a ≤ S2x32x16x656.size a), (Rect.unit (s := S2x32x16x656) (k0_off371 v1 k0_t2) S1x1x16x656.size hinb).WholeWords (EltTy.packing .i8)) ∧
  (∀ k0_t2 : Fin (k0_t2_loop v1).trips, ∀ a, (k0_off372 v1 k0_t2) a + S1x1x16x656.size a ≤ S2x32x16x656.size a) ∧
  (∀ k0_t2 : Fin (k0_t2_loop v1).trips, ∀ (hinb : ∀ a, (k0_off372 v1 k0_t2) a + S1x1x16x656.size a ≤ S2x32x16x656.size a), (Rect.unit (s := S2x32x16x656) (k0_off372 v1 k0_t2) S1x1x16x656.size hinb).WholeWords (EltTy.packing .i8)) ∧
  (∀ k0_t2 : Fin (k0_t2_loop v1).trips, ∀ a, (k0_off373 v1 k0_t2) a + S1x1x16x656.size a ≤ S2x32x16x656.size a) ∧
  (∀ k0_t2 : Fin (k0_t2_loop v1).trips, ∀ (hinb : ∀ a, (k0_off373 v1 k0_t2) a + S1x1x16x656.size a ≤ S2x32x16x656.size a), (Rect.unit (s := S2x32x16x656) (k0_off373 v1 k0_t2) S1x1x16x656.size hinb).WholeWords (EltTy.packing .i8)) ∧
  (∀ k0_t2 : Fin (k0_t2_loop v1).trips, ∀ a, (k0_off374 v1 k0_t2) a + S1x1x16x656.size a ≤ S2x32x16x656.size a) ∧
  (∀ k0_t2 : Fin (k0_t2_loop v1).trips, ∀ (hinb : ∀ a, (k0_off374 v1 k0_t2) a + S1x1x16x656.size a ≤ S2x32x16x656.size a), (Rect.unit (s := S2x32x16x656) (k0_off374 v1 k0_t2) S1x1x16x656.size hinb).WholeWords (EltTy.packing .i8)) ∧
  (∀ k0_t2 : Fin (k0_t2_loop v1).trips, ∀ a, (k0_off375 v1 k0_t2) a + S1x1x16x656.size a ≤ S2x32x16x656.size a) ∧
  (∀ k0_t2 : Fin (k0_t2_loop v1).trips, ∀ (hinb : ∀ a, (k0_off375 v1 k0_t2) a + S1x1x16x656.size a ≤ S2x32x16x656.size a), (Rect.unit (s := S2x32x16x656) (k0_off375 v1 k0_t2) S1x1x16x656.size hinb).WholeWords (EltTy.packing .i8)) ∧
  (∀ k0_t2 : Fin (k0_t2_loop v1).trips, ∀ a, (k0_off376 v1 k0_t2) a + S1x1x16x656.size a ≤ S2x32x16x656.size a) ∧
  (∀ k0_t2 : Fin (k0_t2_loop v1).trips, ∀ (hinb : ∀ a, (k0_off376 v1 k0_t2) a + S1x1x16x656.size a ≤ S2x32x16x656.size a), (Rect.unit (s := S2x32x16x656) (k0_off376 v1 k0_t2) S1x1x16x656.size hinb).WholeWords (EltTy.packing .i8)) ∧
  (∀ k0_t2 : Fin (k0_t2_loop v1).trips, ∀ a, (k0_off377 v1 k0_t2) a + S1x1x16x656.size a ≤ S2x32x16x656.size a) ∧
  (∀ k0_t2 : Fin (k0_t2_loop v1).trips, ∀ (hinb : ∀ a, (k0_off377 v1 k0_t2) a + S1x1x16x656.size a ≤ S2x32x16x656.size a), (Rect.unit (s := S2x32x16x656) (k0_off377 v1 k0_t2) S1x1x16x656.size hinb).WholeWords (EltTy.packing .i8)) ∧
  (∀ k0_t2 : Fin (k0_t2_loop v1).trips, ∀ a, (k0_off378 v1 k0_t2) a + S1x1x16x656.size a ≤ S2x32x16x656.size a) ∧
  (∀ k0_t2 : Fin (k0_t2_loop v1).trips, ∀ (hinb : ∀ a, (k0_off378 v1 k0_t2) a + S1x1x16x656.size a ≤ S2x32x16x656.size a), (Rect.unit (s := S2x32x16x656) (k0_off378 v1 k0_t2) S1x1x16x656.size hinb).WholeWords (EltTy.packing .i8)) ∧
  (∀ k0_t2 : Fin (k0_t2_loop v1).trips, ∀ a, (k0_off379 v1 k0_t2) a + S1x1x16x656.size a ≤ S2x32x16x656.size a) ∧
  (∀ k0_t2 : Fin (k0_t2_loop v1).trips, ∀ (hinb : ∀ a, (k0_off379 v1 k0_t2) a + S1x1x16x656.size a ≤ S2x32x16x656.size a), (Rect.unit (s := S2x32x16x656) (k0_off379 v1 k0_t2) S1x1x16x656.size hinb).WholeWords (EltTy.packing .i8)) ∧
  (∀ k0_t2 : Fin (k0_t2_loop v1).trips, ∀ a, (k0_off380 v1 k0_t2) a + S1x1x16x656.size a ≤ S2x32x16x656.size a) ∧
  (∀ k0_t2 : Fin (k0_t2_loop v1).trips, ∀ (hinb : ∀ a, (k0_off380 v1 k0_t2) a + S1x1x16x656.size a ≤ S2x32x16x656.size a), (Rect.unit (s := S2x32x16x656) (k0_off380 v1 k0_t2) S1x1x16x656.size hinb).WholeWords (EltTy.packing .i8)) ∧
  (∀ k0_t2 : Fin (k0_t2_loop v1).trips, ∀ a, (k0_off381 v1 k0_t2) a + S1x1x16x656.size a ≤ S2x32x16x656.size a) ∧
  (∀ k0_t2 : Fin (k0_t2_loop v1).trips, ∀ (hinb : ∀ a, (k0_off381 v1 k0_t2) a + S1x1x16x656.size a ≤ S2x32x16x656.size a), (Rect.unit (s := S2x32x16x656) (k0_off381 v1 k0_t2) S1x1x16x656.size hinb).WholeWords (EltTy.packing .i8)) ∧
  (∀ k0_t2 : Fin (k0_t2_loop v1).trips, ∀ a, (k0_off382 v1 k0_t2) a + S1x1x16x656.size a ≤ S2x32x16x656.size a) ∧
  (∀ k0_t2 : Fin (k0_t2_loop v1).trips, ∀ (hinb : ∀ a, (k0_off382 v1 k0_t2) a + S1x1x16x656.size a ≤ S2x32x16x656.size a), (Rect.unit (s := S2x32x16x656) (k0_off382 v1 k0_t2) S1x1x16x656.size hinb).WholeWords (EltTy.packing .i8)) ∧
  (∀ k0_t2 : Fin (k0_t2_loop v1).trips, ∀ a, (k0_off383 v1 k0_t2) a + S1x1x16x656.size a ≤ S2x32x16x656.size a) ∧
  (∀ k0_t2 : Fin (k0_t2_loop v1).trips, ∀ (hinb : ∀ a, (k0_off383 v1 k0_t2) a + S1x1x16x656.size a ≤ S2x32x16x656.size a), (Rect.unit (s := S2x32x16x656) (k0_off383 v1 k0_t2) S1x1x16x656.size hinb).WholeWords (EltTy.packing .i8)) ∧
  (∀ k0_t2 : Fin (k0_t2_loop v1).trips, ∀ a, (k0_off384 v1 k0_t2) a + S1x1x16x656.size a ≤ S2x32x16x656.size a) ∧
  (∀ k0_t2 : Fin (k0_t2_loop v1).trips, ∀ (hinb : ∀ a, (k0_off384 v1 k0_t2) a + S1x1x16x656.size a ≤ S2x32x16x656.size a), (Rect.unit (s := S2x32x16x656) (k0_off384 v1 k0_t2) S1x1x16x656.size hinb).WholeWords (EltTy.packing .i8)) ∧
  (∀ k0_t2 : Fin (k0_t2_loop v1).trips, ∀ a, (k0_off385 v1 k0_t2) a + S1x1x16x656.size a ≤ S2x32x16x656.size a) ∧
  (∀ k0_t2 : Fin (k0_t2_loop v1).trips, ∀ (hinb : ∀ a, (k0_off385 v1 k0_t2) a + S1x1x16x656.size a ≤ S2x32x16x656.size a), (Rect.unit (s := S2x32x16x656) (k0_off385 v1 k0_t2) S1x1x16x656.size hinb).WholeWords (EltTy.packing .i8)) ∧
  (∀ k0_t2 : Fin (k0_t2_loop v1).trips, ∀ a, (k0_off386 v1 k0_t2) a + S1x1x16x656.size a ≤ S2x32x16x656.size a)
def k0_chk33_12 (i : grid0.Coords) (v1 : BitVec 32) : Prop :=
  (∀ k0_t2 : Fin (k0_t2_loop v1).trips, ∀ (hinb : ∀ a, (k0_off386 v1 k0_t2) a + S1x1x16x656.size a ≤ S2x32x16x656.size a), (Rect.unit (s := S2x32x16x656) (k0_off386 v1 k0_t2) S1x1x16x656.size hinb).WholeWords (EltTy.packing .i8)) ∧
  (∀ k0_t2 : Fin (k0_t2_loop v1).trips, ∀ a, (k0_off387 v1 k0_t2) a + S1x1x16x656.size a ≤ S2x32x16x656.size a) ∧
  (∀ k0_t2 : Fin (k0_t2_loop v1).trips, ∀ (hinb : ∀ a, (k0_off387 v1 k0_t2) a + S1x1x16x656.size a ≤ S2x32x16x656.size a), (Rect.unit (s := S2x32x16x656) (k0_off387 v1 k0_t2) S1x1x16x656.size hinb).WholeWords (EltTy.packing .i8)) ∧
  (∀ k0_t2 : Fin (k0_t2_loop v1).trips, ∀ a, (k0_off388 v1 k0_t2) a + S1x1x16x656.size a ≤ S2x32x16x656.size a) ∧
  (∀ k0_t2 : Fin (k0_t2_loop v1).trips, ∀ (hinb : ∀ a, (k0_off388 v1 k0_t2) a + S1x1x16x656.size a ≤ S2x32x16x656.size a), (Rect.unit (s := S2x32x16x656) (k0_off388 v1 k0_t2) S1x1x16x656.size hinb).WholeWords (EltTy.packing .i8)) ∧
  (∀ k0_t2 : Fin (k0_t2_loop v1).trips, ∀ a, (k0_off389 v1 k0_t2) a + S1x32x16x656.size a ≤ S2x32x16x656.size a)
def k0_chk33 (i : grid0.Coords) (v1 : BitVec 32) : Prop :=
  k0_chk33_0 i v1 ∧
  k0_chk33_1 i v1 ∧
  k0_chk33_2 i v1 ∧
  k0_chk33_3 i v1 ∧
  k0_chk33_4 i v1 ∧
  k0_chk33_5 i v1 ∧
  k0_chk33_6 i v1 ∧
  k0_chk33_7 i v1 ∧
  k0_chk33_8 i v1 ∧
  k0_chk33_9 i v1 ∧
  k0_chk33_10 i v1 ∧
  k0_chk33_11 i v1 ∧
  k0_chk33_12 i v1
theorem k0_t1_ok : ∀ (i : grid0.Coords) (v1 : BitVec 32) (k0_hw33 : k0_chk33 i v1), (k0_t1_loop v1).OK := fun i v1 k0_hw33 => k0_hw33.1.1
theorem k0_off66_inb : ∀ (i : grid0.Coords) (v1 : BitVec 32) (k0_hw33 : k0_chk33 i v1) (k0_t1 : Fin (k0_t1_loop v1).trips), ∀ (k0_h2 : k0_cond2 v1 k0_t1 = 1#1), ∀ a, (k0_off66 i v1 k0_t1) a + S1x1.size a ≤ S32x1024.size a := fun i v1 k0_hw33 k0_t1 k0_h2 => k0_hw33.1.2.1 k0_t1 k0_h2
theorem k0_off67_inb : ∀ (i : grid0.Coords) (v1 : BitVec 32) (k0_hw33 : k0_chk33 i v1) (k0_t1 : Fin (k0_t1_loop v1).trips), ∀ (k0_h2 : k0_cond2 v1 k0_t1 = 1#1), ∀ a, (k0_off67 v1 k0_t1) a + S1.size a ≤ S2.size a := fun i v1 k0_hw33 k0_t1 k0_h2 => k0_hw33.1.2.2.1 k0_t1 k0_h2
theorem k0_off68_inb : ∀ (i : grid0.Coords) (v1 : BitVec 32) (k0_hw33 : k0_chk33 i v1) (k0_t1 : Fin (k0_t1_loop v1).trips), ∀ (k0_h2 : k0_cond2 v1 k0_t1 = 1#1), ∀ a, (k0_off68 v1 k0_t1) a + S1x1x16x656.size a ≤ S2x32x16x656.size a := fun i v1 k0_hw33 k0_t1 k0_h2 => k0_hw33.1.2.2.2.1 k0_t1 k0_h2
theorem k0_off68_wordsi8 : ∀ (i : grid0.Coords) (v1 : BitVec 32) (k0_hw33 : k0_chk33 i v1) (k0_t1 : Fin (k0_t1_loop v1).trips), ∀ (k0_h2 : k0_cond2 v1 k0_t1 = 1#1), (Rect.unit (s := S2x32x16x656) (k0_off68 v1 k0_t1) S1x1x16x656.size (k0_off68_inb i v1 k0_hw33 k0_t1 k0_h2)).WholeWords (EltTy.packing .i8) := fun i v1 k0_hw33 k0_t1 k0_h2 => k0_hw33.1.2.2.2.2.1 k0_t1 k0_h2 (k0_off68_inb i v1 k0_hw33 k0_t1 k0_h2)
theorem k0_off70_inb : ∀ (i : grid0.Coords) (v1 : BitVec 32) (k0_hw33 : k0_chk33 i v1) (k0_t1 : Fin (k0_t1_loop v1).trips), ∀ (k0_h2 : k0_cond2 v1 k0_t1 = 1#1), ∀ a, (k0_off70 i v1 k0_t1) a + S1x1.size a ≤ S32x1024.size a := fun i v1 k0_hw33 k0_t1 k0_h2 => k0_hw33.1.2.2.2.2.2.1 k0_t1 k0_h2
theorem k0_off71_inb : ∀ (i : grid0.Coords) (v1 : BitVec 32) (k0_hw33 : k0_chk33 i v1) (k0_t1 : Fin (k0_t1_loop v1).trips), ∀ (k0_h2 : k0_cond2 v1 k0_t1 = 1#1), ∀ a, (k0_off71 v1 k0_t1) a + S1.size a ≤ S2.size a := fun i v1 k0_hw33 k0_t1 k0_h2 => k0_hw33.1.2.2.2.2.2.2.1 k0_t1 k0_h2
theorem k0_off72_inb : ∀ (i : grid0.Coords) (v1 : BitVec 32) (k0_hw33 : k0_chk33 i v1) (k0_t1 : Fin (k0_t1_loop v1).trips), ∀ (k0_h2 : k0_cond2 v1 k0_t1 = 1#1), ∀ a, (k0_off72 v1 k0_t1) a + S1x1x16x656.size a ≤ S2x32x16x656.size a := fun i v1 k0_hw33 k0_t1 k0_h2 => k0_hw33.1.2.2.2.2.2.2.2.1 k0_t1 k0_h2
theorem k0_off72_wordsi8 : ∀ (i : grid0.Coords) (v1 : BitVec 32) (k0_hw33 : k0_chk33 i v1) (k0_t1 : Fin (k0_t1_loop v1).trips), ∀ (k0_h2 : k0_cond2 v1 k0_t1 = 1#1), (Rect.unit (s := S2x32x16x656) (k0_off72 v1 k0_t1) S1x1x16x656.size (k0_off72_inb i v1 k0_hw33 k0_t1 k0_h2)).WholeWords (EltTy.packing .i8) := fun i v1 k0_hw33 k0_t1 k0_h2 => k0_hw33.1.2.2.2.2.2.2.2.2.1 k0_t1 k0_h2 (k0_off72_inb i v1 k0_hw33 k0_t1 k0_h2)
theorem k0_off74_inb : ∀ (i : grid0.Coords) (v1 : BitVec 32) (k0_hw33 : k0_chk33 i v1) (k0_t1 : Fin (k0_t1_loop v1).trips), ∀ (k0_h2 : k0_cond2 v1 k0_t1 = 1#1), ∀ a, (k0_off74 i v1 k0_t1) a + S1x1.size a ≤ S32x1024.size a := fun i v1 k0_hw33 k0_t1 k0_h2 => k0_hw33.1.2.2.2.2.2.2.2.2.2.1 k0_t1 k0_h2
theorem k0_off75_inb : ∀ (i : grid0.Coords) (v1 : BitVec 32) (k0_hw33 : k0_chk33 i v1) (k0_t1 : Fin (k0_t1_loop v1).trips), ∀ (k0_h2 : k0_cond2 v1 k0_t1 = 1#1), ∀ a, (k0_off75 v1 k0_t1) a + S1.size a ≤ S2.size a := fun i v1 k0_hw33 k0_t1 k0_h2 => k0_hw33.1.2.2.2.2.2.2.2.2.2.2.1 k0_t1 k0_h2
theorem k0_off76_inb : ∀ (i : grid0.Coords) (v1 : BitVec 32) (k0_hw33 : k0_chk33 i v1) (k0_t1 : Fin (k0_t1_loop v1).trips), ∀ (k0_h2 : k0_cond2 v1 k0_t1 = 1#1), ∀ a, (k0_off76 v1 k0_t1) a + S1x1x16x656.size a ≤ S2x32x16x656.size a := fun i v1 k0_hw33 k0_t1 k0_h2 => k0_hw33.1.2.2.2.2.2.2.2.2.2.2.2.1 k0_t1 k0_h2
theorem k0_off76_wordsi8 : ∀ (i : grid0.Coords) (v1 : BitVec 32) (k0_hw33 : k0_chk33 i v1) (k0_t1 : Fin (k0_t1_loop v1).trips), ∀ (k0_h2 : k0_cond2 v1 k0_t1 = 1#1), (Rect.unit (s := S2x32x16x656) (k0_off76 v1 k0_t1) S1x1x16x656.size (k0_off76_inb i v1 k0_hw33 k0_t1 k0_h2)).WholeWords (EltTy.packing .i8) := fun i v1 k0_hw33 k0_t1 k0_h2 => k0_hw33.1.2.2.2.2.2.2.2.2.2.2.2.2.1 k0_t1 k0_h2 (k0_off76_inb i v1 k0_hw33 k0_t1 k0_h2)
theorem k0_off78_inb : ∀ (i : grid0.Coords) (v1 : BitVec 32) (k0_hw33 : k0_chk33 i v1) (k0_t1 : Fin (k0_t1_loop v1).trips), ∀ (k0_h2 : k0_cond2 v1 k0_t1 = 1#1), ∀ a, (k0_off78 i v1 k0_t1) a + S1x1.size a ≤ S32x1024.size a := fun i v1 k0_hw33 k0_t1 k0_h2 => k0_hw33.1.2.2.2.2.2.2.2.2.2.2.2.2.2.1 k0_t1 k0_h2
theorem k0_off79_inb : ∀ (i : grid0.Coords) (v1 : BitVec 32) (k0_hw33 : k0_chk33 i v1) (k0_t1 : Fin (k0_t1_loop v1).trips), ∀ (k0_h2 : k0_cond2 v1 k0_t1 = 1#1), ∀ a, (k0_off79 v1 k0_t1) a + S1.size a ≤ S2.size a := fun i v1 k0_hw33 k0_t1 k0_h2 => k0_hw33.1.2.2.2.2.2.2.2.2.2.2.2.2.2.2.1 k0_t1 k0_h2
theorem k0_off80_inb : ∀ (i : grid0.Coords) (v1 : BitVec 32) (k0_hw33 : k0_chk33 i v1) (k0_t1 : Fin (k0_t1_loop v1).trips), ∀ (k0_h2 : k0_cond2 v1 k0_t1 = 1#1), ∀ a, (k0_off80 v1 k0_t1) a + S1x1x16x656.size a ≤ S2x32x16x656.size a := fun i v1 k0_hw33 k0_t1 k0_h2 => k0_hw33.1.2.2.2.2.2.2.2.2.2.2.2.2.2.2.2.1 k0_t1 k0_h2
theorem k0_off80_wordsi8 : ∀ (i : grid0.Coords) (v1 : BitVec 32) (k0_hw33 : k0_chk33 i v1) (k0_t1 : Fin (k0_t1_loop v1).trips), ∀ (k0_h2 : k0_cond2 v1 k0_t1 = 1#1), (Rect.unit (s := S2x32x16x656) (k0_off80 v1 k0_t1) S1x1x16x656.size (k0_off80_inb i v1 k0_hw33 k0_t1 k0_h2)).WholeWords (EltTy.packing .i8) := fun i v1 k0_hw33 k0_t1 k0_h2 => k0_hw33.1.2.2.2.2.2.2.2.2.2.2.2.2.2.2.2.2.1 k0_t1 k0_h2 (k0_off80_inb i v1 k0_hw33 k0_t1 k0_h2)
theorem k0_off82_inb : ∀ (i : grid0.Coords) (v1 : BitVec 32) (k0_hw33 : k0_chk33 i v1) (k0_t1 : Fin (k0_t1_loop v1).trips), ∀ (k0_h2 : k0_cond2 v1 k0_t1 = 1#1), ∀ a, (k0_off82 i v1 k0_t1) a + S1x1.size a ≤ S32x1024.size a := fun i v1 k0_hw33 k0_t1 k0_h2 => k0_hw33.1.2.2.2.2.2.2.2.2.2.2.2.2.2.2.2.2.2.1 k0_t1 k0_h2
theorem k0_off83_inb : ∀ (i : grid0.Coords) (v1 : BitVec 32) (k0_hw33 : k0_chk33 i v1) (k0_t1 : Fin (k0_t1_loop v1).trips), ∀ (k0_h2 : k0_cond2 v1 k0_t1 = 1#1), ∀ a, (k0_off83 v1 k0_t1) a + S1.size a ≤ S2.size a := fun i v1 k0_hw33 k0_t1 k0_h2 => k0_hw33.1.2.2.2.2.2.2.2.2.2.2.2.2.2.2.2.2.2.2.1 k0_t1 k0_h2
theorem k0_off84_inb : ∀ (i : grid0.Coords) (v1 : BitVec 32) (k0_hw33 : k0_chk33 i v1) (k0_t1 : Fin (k0_t1_loop v1).trips), ∀ (k0_h2 : k0_cond2 v1 k0_t1 = 1#1), ∀ a, (k0_off84 v1 k0_t1) a + S1x1x16x656.size a ≤ S2x32x16x656.size a := fun i v1 k0_hw33 k0_t1 k0_h2 => k0_hw33.1.2.2.2.2.2.2.2.2.2.2.2.2.2.2.2.2.2.2.2.1 k0_t1 k0_h2
theorem k0_off84_wordsi8 : ∀ (i : grid0.Coords) (v1 : BitVec 32) (k0_hw33 : k0_chk33 i v1) (k0_t1 : Fin (k0_t1_loop v1).trips), ∀ (k0_h2 : k0_cond2 v1 k0_t1 = 1#1), (Rect.unit (s := S2x32x16x656) (k0_off84 v1 k0_t1) S1x1x16x656.size (k0_off84_inb i v1 k0_hw33 k0_t1 k0_h2)).WholeWords (EltTy.packing .i8) := fun i v1 k0_hw33 k0_t1 k0_h2 => k0_hw33.1.2.2.2.2.2.2.2.2.2.2.2.2.2.2.2.2.2.2.2.2.1 k0_t1 k0_h2 (k0_off84_inb i v1 k0_hw33 k0_t1 k0_h2)
theorem k0_off86_inb : ∀ (i : grid0.Coords) (v1 : BitVec 32) (k0_hw33 : k0_chk33 i v1) (k0_t1 : Fin (k0_t1_loop v1).trips), ∀ (k0_h2 : k0_cond2 v1 k0_t1 = 1#1), ∀ a, (k0_off86 i v1 k0_t1) a + S1x1.size a ≤ S32x1024.size a := fun i v1 k0_hw33 k0_t1 k0_h2 => k0_hw33.1.2.2.2.2.2.2.2.2.2.2.2.2.2.2.2.2.2.2.2.2.2.1 k0_t1 k0_h2
theorem k0_off87_inb : ∀ (i : grid0.Coords) (v1 : BitVec 32) (k0_hw33 : k0_chk33 i v1) (k0_t1 : Fin (k0_t1_loop v1).trips), ∀ (k0_h2 : k0_cond2 v1 k0_t1 = 1#1), ∀ a, (k0_off87 v1 k0_t1) a + S1.size a ≤ S2.size a := fun i v1 k0_hw33 k0_t1 k0_h2 => k0_hw33.1.2.2.2.2.2.2.2.2.2.2.2.2.2.2.2.2.2.2.2.2.2.2.1 k0_t1 k0_h2
theorem k0_off88_inb : ∀ (i : grid0.Coords) (v1 : BitVec 32) (k0_hw33 : k0_chk33 i v1) (k0_t1 : Fin (k0_t1_loop v1).trips), ∀ (k0_h2 : k0_cond2 v1 k0_t1 = 1#1), ∀ a, (k0_off88 v1 k0_t1) a + S1x1x16x656.size a ≤ S2x32x16x656.size a := fun i v1 k0_hw33 k0_t1 k0_h2 => k0_hw33.1.2.2.2.2.2.2.2.2.2.2.2.2.2.2.2.2.2.2.2.2.2.2.2.1 k0_t1 k0_h2
theorem k0_off88_wordsi8 : ∀ (i : grid0.Coords) (v1 : BitVec 32) (k0_hw33 : k0_chk33 i v1) (k0_t1 : Fin (k0_t1_loop v1).trips), ∀ (k0_h2 : k0_cond2 v1 k0_t1 = 1#1), (Rect.unit (s := S2x32x16x656) (k0_off88 v1 k0_t1) S1x1x16x656.size (k0_off88_inb i v1 k0_hw33 k0_t1 k0_h2)).WholeWords (EltTy.packing .i8) := fun i v1 k0_hw33 k0_t1 k0_h2 => k0_hw33.1.2.2.2.2.2.2.2.2.2.2.2.2.2.2.2.2.2.2.2.2.2.2.2.2.1 k0_t1 k0_h2 (k0_off88_inb i v1 k0_hw33 k0_t1 k0_h2)
theorem k0_off90_inb : ∀ (i : grid0.Coords) (v1 : BitVec 32) (k0_hw33 : k0_chk33 i v1) (k0_t1 : Fin (k0_t1_loop v1).trips), ∀ (k0_h2 : k0_cond2 v1 k0_t1 = 1#1), ∀ a, (k0_off90 i v1 k0_t1) a + S1x1.size a ≤ S32x1024.size a := fun i v1 k0_hw33 k0_t1 k0_h2 => k0_hw33.1.2.2.2.2.2.2.2.2.2.2.2.2.2.2.2.2.2.2.2.2.2.2.2.2.2.1 k0_t1 k0_h2
theorem k0_off91_inb : ∀ (i : grid0.Coords) (v1 : BitVec 32) (k0_hw33 : k0_chk33 i v1) (k0_t1 : Fin (k0_t1_loop v1).trips), ∀ (k0_h2 : k0_cond2 v1 k0_t1 = 1#1), ∀ a, (k0_off91 v1 k0_t1) a + S1.size a ≤ S2.size a := fun i v1 k0_hw33 k0_t1 k0_h2 => k0_hw33.1.2.2.2.2.2.2.2.2.2.2.2.2.2.2.2.2.2.2.2.2.2.2.2.2.2.2.1 k0_t1 k0_h2
theorem k0_off92_inb : ∀ (i : grid0.Coords) (v1 : BitVec 32) (k0_hw33 : k0_chk33 i v1) (k0_t1 : Fin (k0_t1_loop v1).trips), ∀ (k0_h2 : k0_cond2 v1 k0_t1 = 1#1), ∀ a, (k0_off92 v1 k0_t1) a + S1x1x16x656.size a ≤ S2x32x16x656.size a := fun i v1 k0_hw33 k0_t1 k0_h2 => k0_hw33.1.2.2.2.2.2.2.2.2.2.2.2.2.2.2.2.2.2.2.2.2.2.2.2.2.2.2.2.1 k0_t1 k0_h2
theorem k0_off92_wordsi8 : ∀ (i : grid0.Coords) (v1 : BitVec 32) (k0_hw33 : k0_chk33 i v1) (k0_t1 : Fin (k0_t1_loop v1).trips), ∀ (k0_h2 : k0_cond2 v1 k0_t1 = 1#1), (Rect.unit (s := S2x32x16x656) (k0_off92 v1 k0_t1) S1x1x16x656.size (k0_off92_inb i v1 k0_hw33 k0_t1 k0_h2)).WholeWords (EltTy.packing .i8) := fun i v1 k0_hw33 k0_t1 k0_h2 => k0_hw33.1.2.2.2.2.2.2.2.2.2.2.2.2.2.2.2.2.2.2.2.2.2.2.2.2.2.2.2.2.1 k0_t1 k0_h2 (k0_off92_inb i v1 k0_hw33 k0_t1 k0_h2)
theorem k0_off94_inb : ∀ (i : grid0.Coords) (v1 : BitVec 32) (k0_hw33 : k0_chk33 i v1) (k0_t1 : Fin (k0_t1_loop v1).trips), ∀ (k0_h2 : k0_cond2 v1 k0_t1 = 1#1), ∀ a, (k0_off94 i v1 k0_t1) a + S1x1.size a ≤ S32x1024.size a := fun i v1 k0_hw33 k0_t1 k0_h2 => k0_hw33.1.2.2.2.2.2.2.2.2.2.2.2.2.2.2.2.2.2.2.2.2.2.2.2.2.2.2.2.2.2.1 k0_t1 k0_h2
theorem k0_off95_inb : ∀ (i : grid0.Coords) (v1 : BitVec 32) (k0_hw33 : k0_chk33 i v1) (k0_t1 : Fin (k0_t1_loop v1).trips), ∀ (k0_h2 : k0_cond2 v1 k0_t1 = 1#1), ∀ a, (k0_off95 v1 k0_t1) a + S1.size a ≤ S2.size a := fun i v1 k0_hw33 k0_t1 k0_h2 => k0_hw33.1.2.2.2.2.2.2.2.2.2.2.2.2.2.2.2.2.2.2.2.2.2.2.2.2.2.2.2.2.2.2.1 k0_t1 k0_h2
theorem k0_off96_inb : ∀ (i : grid0.Coords) (v1 : BitVec 32) (k0_hw33 : k0_chk33 i v1) (k0_t1 : Fin (k0_t1_loop v1).trips), ∀ (k0_h2 : k0_cond2 v1 k0_t1 = 1#1), ∀ a, (k0_off96 v1 k0_t1) a + S1x1x16x656.size a ≤ S2x32x16x656.size a := fun i v1 k0_hw33 k0_t1 k0_h2 => k0_hw33.1.2.2.2.2.2.2.2.2.2.2.2.2.2.2.2.2.2.2.2.2.2.2.2.2.2.2.2.2.2.2.2 k0_t1 k0_h2
theorem k0_off96_wordsi8 : ∀ (i : grid0.Coords) (v1 : BitVec 32) (k0_hw33 : k0_chk33 i v1) (k0_t1 : Fin (k0_t1_loop v1).trips), ∀ (k0_h2 : k0_cond2 v1 k0_t1 = 1#1), (Rect.unit (s := S2x32x16x656) (k0_off96 v1 k0_t1) S1x1x16x656.size (k0_off96_inb i v1 k0_hw33 k0_t1 k0_h2)).WholeWords (EltTy.packing .i8) := fun i v1 k0_hw33 k0_t1 k0_h2 => k0_hw33.2.1.1 k0_t1 k0_h2 (k0_off96_inb i v1 k0_hw33 k0_t1 k0_h2)
theorem k0_off98_inb : ∀ (i : grid0.Coords) (v1 : BitVec 32) (k0_hw33 : k0_chk33 i v1) (k0_t1 : Fin (k0_t1_loop v1).trips), ∀ (k0_h2 : k0_cond2 v1 k0_t1 = 1#1), ∀ a, (k0_off98 i v1 k0_t1) a + S1x1.size a ≤ S32x1024.size a := fun i v1 k0_hw33 k0_t1 k0_h2 => k0_hw33.2.1.2.1 k0_t1 k0_h2
theorem k0_off99_inb : ∀ (i : grid0.Coords) (v1 : BitVec 32) (k0_hw33 : k0_chk33 i v1) (k0_t1 : Fin (k0_t1_loop v1).trips), ∀ (k0_h2 : k0_cond2 v1 k0_t1 = 1#1), ∀ a, (k0_off99 v1 k0_t1) a + S1.size a ≤ S2.size a := fun i v1 k0_hw33 k0_t1 k0_h2 => k0_hw33.2.1.2.2.1 k0_t1 k0_h2
theorem k0_off100_inb : ∀ (i : grid0.Coords) (v1 : BitVec 32) (k0_hw33 : k0_chk33 i v1) (k0_t1 : Fin (k0_t1_loop v1).trips), ∀ (k0_h2 : k0_cond2 v1 k0_t1 = 1#1), ∀ a, (k0_off100 v1 k0_t1) a + S1x1x16x656.size a ≤ S2x32x16x656.size a := fun i v1 k0_hw33 k0_t1 k0_h2 => k0_hw33.2.1.2.2.2.1 k0_t1 k0_h2
theorem k0_off100_wordsi8 : ∀ (i : grid0.Coords) (v1 : BitVec 32) (k0_hw33 : k0_chk33 i v1) (k0_t1 : Fin (k0_t1_loop v1).trips), ∀ (k0_h2 : k0_cond2 v1 k0_t1 = 1#1), (Rect.unit (s := S2x32x16x656) (k0_off100 v1 k0_t1) S1x1x16x656.size (k0_off100_inb i v1 k0_hw33 k0_t1 k0_h2)).WholeWords (EltTy.packing .i8) := fun i v1 k0_hw33 k0_t1 k0_h2 => k0_hw33.2.1.2.2.2.2.1 k0_t1 k0_h2 (k0_off100_inb i v1 k0_hw33 k0_t1 k0_h2)
theorem k0_off102_inb : ∀ (i : grid0.Coords) (v1 : BitVec 32) (k0_hw33 : k0_chk33 i v1) (k0_t1 : Fin (k0_t1_loop v1).trips), ∀ (k0_h2 : k0_cond2 v1 k0_t1 = 1#1), ∀ a, (k0_off102 i v1 k0_t1) a + S1x1.size a ≤ S32x1024.size a := fun i v1 k0_hw33 k0_t1 k0_h2 => k0_hw33.2.1.2.2.2.2.2.1 k0_t1 k0_h2
theorem k0_off103_inb : ∀ (i : grid0.Coords) (v1 : BitVec 32) (k0_hw33 : k0_chk33 i v1) (k0_t1 : Fin (k0_t1_loop v1).trips), ∀ (k0_h2 : k0_cond2 v1 k0_t1 = 1#1), ∀ a, (k0_off103 v1 k0_t1) a + S1.size a ≤ S2.size a := fun i v1 k0_hw33 k0_t1 k0_h2 => k0_hw33.2.1.2.2.2.2.2.2.1 k0_t1 k0_h2
theorem k0_off104_inb : ∀ (i : grid0.Coords) (v1 : BitVec 32) (k0_hw33 : k0_chk33 i v1) (k0_t1 : Fin (k0_t1_loop v1).trips), ∀ (k0_h2 : k0_cond2 v1 k0_t1 = 1#1), ∀ a, (k0_off104 v1 k0_t1) a + S1x1x16x656.size a ≤ S2x32x16x656.size a := fun i v1 k0_hw33 k0_t1 k0_h2 => k0_hw33.2.1.2.2.2.2.2.2.2.1 k0_t1 k0_h2
theorem k0_off104_wordsi8 : ∀ (i : grid0.Coords) (v1 : BitVec 32) (k0_hw33 : k0_chk33 i v1) (k0_t1 : Fin (k0_t1_loop v1).trips), ∀ (k0_h2 : k0_cond2 v1 k0_t1 = 1#1), (Rect.unit (s := S2x32x16x656) (k0_off104 v1 k0_t1) S1x1x16x656.size (k0_off104_inb i v1 k0_hw33 k0_t1 k0_h2)).WholeWords (EltTy.packing .i8) := fun i v1 k0_hw33 k0_t1 k0_h2 => k0_hw33.2.1.2.2.2.2.2.2.2.2.1 k0_t1 k0_h2 (k0_off104_inb i v1 k0_hw33 k0_t1 k0_h2)
theorem k0_off106_inb : ∀ (i : grid0.Coords) (v1 : BitVec 32) (k0_hw33 : k0_chk33 i v1) (k0_t1 : Fin (k0_t1_loop v1).trips), ∀ (k0_h2 : k0_cond2 v1 k0_t1 = 1#1), ∀ a, (k0_off106 i v1 k0_t1) a + S1x1.size a ≤ S32x1024.size a := fun i v1 k0_hw33 k0_t1 k0_h2 => k0_hw33.2.1.2.2.2.2.2.2.2.2.2.1 k0_t1 k0_h2
theorem k0_off107_inb : ∀ (i : grid0.Coords) (v1 : BitVec 32) (k0_hw33 : k0_chk33 i v1) (k0_t1 : Fin (k0_t1_loop v1).trips), ∀ (k0_h2 : k0_cond2 v1 k0_t1 = 1#1), ∀ a, (k0_off107 v1 k0_t1) a + S1.size a ≤ S2.size a := fun i v1 k0_hw33 k0_t1 k0_h2 => k0_hw33.2.1.2.2.2.2.2.2.2.2.2.2.1 k0_t1 k0_h2
theorem k0_off108_inb : ∀ (i : grid0.Coords) (v1 : BitVec 32) (k0_hw33 : k0_chk33 i v1) (k0_t1 : Fin (k0_t1_loop v1).trips), ∀ (k0_h2 : k0_cond2 v1 k0_t1 = 1#1), ∀ a, (k0_off108 v1 k0_t1) a + S1x1x16x656.size a ≤ S2x32x16x656.size a := fun i v1 k0_hw33 k0_t1 k0_h2 => k0_hw33.2.1.2.2.2.2.2.2.2.2.2.2.2.1 k0_t1 k0_h2
theorem k0_off108_wordsi8 : ∀ (i : grid0.Coords) (v1 : BitVec 32) (k0_hw33 : k0_chk33 i v1) (k0_t1 : Fin (k0_t1_loop v1).trips), ∀ (k0_h2 : k0_cond2 v1 k0_t1 = 1#1), (Rect.unit (s := S2x32x16x656) (k0_off108 v1 k0_t1) S1x1x16x656.size (k0_off108_inb i v1 k0_hw33 k0_t1 k0_h2)).WholeWords (EltTy.packing .i8) := fun i v1 k0_hw33 k0_t1 k0_h2 => k0_hw33.2.1.2.2.2.2.2.2.2.2.2.2.2.2.1 k0_t1 k0_h2 (k0_off108_inb i v1 k0_hw33 k0_t1 k0_h2)
theorem k0_off110_inb : ∀ (i : grid0.Coords) (v1 : BitVec 32) (k0_hw33 : k0_chk33 i v1) (k0_t1 : Fin (k0_t1_loop v1).trips), ∀ (k0_h2 : k0_cond2 v1 k0_t1 = 1#1), ∀ a, (k0_off110 i v1 k0_t1) a + S1x1.size a ≤ S32x1024.size a := fun i v1 k0_hw33 k0_t1 k0_h2 => k0_hw33.2.1.2.2.2.2.2.2.2.2.2.2.2.2.2.1 k0_t1 k0_h2
theorem k0_off111_inb : ∀ (i : grid0.Coords) (v1 : BitVec 32) (k0_hw33 : k0_chk33 i v1) (k0_t1 : Fin (k0_t1_loop v1).trips), ∀ (k0_h2 : k0_cond2 v1 k0_t1 = 1#1), ∀ a, (k0_off111 v1 k0_t1) a + S1.size a ≤ S2.size a := fun i v1 k0_hw33 k0_t1 k0_h2 => k0_hw33.2.1.2.2.2.2.2.2.2.2.2.2.2.2.2.2.1 k0_t1 k0_h2
theorem k0_off112_inb : ∀ (i : grid0.Coords) (v1 : BitVec 32) (k0_hw33 : k0_chk33 i v1) (k0_t1 : Fin (k0_t1_loop v1).trips), ∀ (k0_h2 : k0_cond2 v1 k0_t1 = 1#1), ∀ a, (k0_off112 v1 k0_t1) a + S1x1x16x656.size a ≤ S2x32x16x656.size a := fun i v1 k0_hw33 k0_t1 k0_h2 => k0_hw33.2.1.2.2.2.2.2.2.2.2.2.2.2.2.2.2.2.1 k0_t1 k0_h2
theorem k0_off112_wordsi8 : ∀ (i : grid0.Coords) (v1 : BitVec 32) (k0_hw33 : k0_chk33 i v1) (k0_t1 : Fin (k0_t1_loop v1).trips), ∀ (k0_h2 : k0_cond2 v1 k0_t1 = 1#1), (Rect.unit (s := S2x32x16x656) (k0_off112 v1 k0_t1) S1x1x16x656.size (k0_off112_inb i v1 k0_hw33 k0_t1 k0_h2)).WholeWords (EltTy.packing .i8) := fun i v1 k0_hw33 k0_t1 k0_h2 => k0_hw33.2.1.2.2.2.2.2.2.2.2.2.2.2.2.2.2.2.2.1 k0_t1 k0_h2 (k0_off112_inb i v1 k0_hw33 k0_t1 k0_h2)
theorem k0_off114_inb : ∀ (i : grid0.Coords) (v1 : BitVec 32) (k0_hw33 : k0_chk33 i v1) (k0_t1 : Fin (k0_t1_loop v1).trips), ∀ (k0_h2 : k0_cond2 v1 k0_t1 = 1#1), ∀ a, (k0_off114 i v1 k0_t1) a + S1x1.size a ≤ S32x1024.size a := fun i v1 k0_hw33 k0_t1 k0_h2 => k0_hw33.2.1.2.2.2.2.2.2.2.2.2.2.2.2.2.2.2.2.2.1 k0_t1 k0_h2
theorem k0_off115_inb : ∀ (i : grid0.Coords) (v1 : BitVec 32) (k0_hw33 : k0_chk33 i v1) (k0_t1 : Fin (k0_t1_loop v1).trips), ∀ (k0_h2 : k0_cond2 v1 k0_t1 = 1#1), ∀ a, (k0_off115 v1 k0_t1) a + S1.size a ≤ S2.size a := fun i v1 k0_hw33 k0_t1 k0_h2 => k0_hw33.2.1.2.2.2.2.2.2.2.2.2.2.2.2.2.2.2.2.2.2.1 k0_t1 k0_h2
theorem k0_off116_inb : ∀ (i : grid0.Coords) (v1 : BitVec 32) (k0_hw33 : k0_chk33 i v1) (k0_t1 : Fin (k0_t1_loop v1).trips), ∀ (k0_h2 : k0_cond2 v1 k0_t1 = 1#1), ∀ a, (k0_off116 v1 k0_t1) a + S1x1x16x656.size a ≤ S2x32x16x656.size a := fun i v1 k0_hw33 k0_t1 k0_h2 => k0_hw33.2.1.2.2.2.2.2.2.2.2.2.2.2.2.2.2.2.2.2.2.2.1 k0_t1 k0_h2
theorem k0_off116_wordsi8 : ∀ (i : grid0.Coords) (v1 : BitVec 32) (k0_hw33 : k0_chk33 i v1) (k0_t1 : Fin (k0_t1_loop v1).trips), ∀ (k0_h2 : k0_cond2 v1 k0_t1 = 1#1), (Rect.unit (s := S2x32x16x656) (k0_off116 v1 k0_t1) S1x1x16x656.size (k0_off116_inb i v1 k0_hw33 k0_t1 k0_h2)).WholeWords (EltTy.packing .i8) := fun i v1 k0_hw33 k0_t1 k0_h2 => k0_hw33.2.1.2.2.2.2.2.2.2.2.2.2.2.2.2.2.2.2.2.2.2.2.1 k0_t1 k0_h2 (k0_off116_inb i v1 k0_hw33 k0_t1 k0_h2)
theorem k0_off118_inb : ∀ (i : grid0.Coords) (v1 : BitVec 32) (k0_hw33 : k0_chk33 i v1) (k0_t1 : Fin (k0_t1_loop v1).trips), ∀ (k0_h2 : k0_cond2 v1 k0_t1 = 1#1), ∀ a, (k0_off118 i v1 k0_t1) a + S1x1.size a ≤ S32x1024.size a := fun i v1 k0_hw33 k0_t1 k0_h2 => k0_hw33.2.1.2.2.2.2.2.2.2.2.2.2.2.2.2.2.2.2.2.2.2.2.2.1 k0_t1 k0_h2
theorem k0_off119_inb : ∀ (i : grid0.Coords) (v1 : BitVec 32) (k0_hw33 : k0_chk33 i v1) (k0_t1 : Fin (k0_t1_loop v1).trips), ∀ (k0_h2 : k0_cond2 v1 k0_t1 = 1#1), ∀ a, (k0_off119 v1 k0_t1) a + S1.size a ≤ S2.size a := fun i v1 k0_hw33 k0_t1 k0_h2 => k0_hw33.2.1.2.2.2.2.2.2.2.2.2.2.2.2.2.2.2.2.2.2.2.2.2.2.1 k0_t1 k0_h2
theorem k0_off120_inb : ∀ (i : grid0.Coords) (v1 : BitVec 32) (k0_hw33 : k0_chk33 i v1) (k0_t1 : Fin (k0_t1_loop v1).trips), ∀ (k0_h2 : k0_cond2 v1 k0_t1 = 1#1), ∀ a, (k0_off120 v1 k0_t1) a + S1x1x16x656.size a ≤ S2x32x16x656.size a := fun i v1 k0_hw33 k0_t1 k0_h2 => k0_hw33.2.1.2.2.2.2.2.2.2.2.2.2.2.2.2.2.2.2.2.2.2.2.2.2.2.1 k0_t1 k0_h2
theorem k0_off120_wordsi8 : ∀ (i : grid0.Coords) (v1 : BitVec 32) (k0_hw33 : k0_chk33 i v1) (k0_t1 : Fin (k0_t1_loop v1).trips), ∀ (k0_h2 : k0_cond2 v1 k0_t1 = 1#1), (Rect.unit (s := S2x32x16x656) (k0_off120 v1 k0_t1) S1x1x16x656.size (k0_off120_inb i v1 k0_hw33 k0_t1 k0_h2)).WholeWords (EltTy.packing .i8) := fun i v1 k0_hw33 k0_t1 k0_h2 => k0_hw33.2.1.2.2.2.2.2.2.2.2.2.2.2.2.2.2.2.2.2.2.2.2.2.2.2.2.1 k0_t1 k0_h2 (k0_off120_inb i v1 k0_hw33 k0_t1 k0_h2)
theorem k0_off122_inb : ∀ (i : grid0.Coords) (v1 : BitVec 32) (k0_hw33 : k0_chk33 i v1) (k0_t1 : Fin (k0_t1_loop v1).trips), ∀ (k0_h2 : k0_cond2 v1 k0_t1 = 1#1), ∀ a, (k0_off122 i v1 k0_t1) a + S1x1.size a ≤ S32x1024.size a := fun i v1 k0_hw33 k0_t1 k0_h2 => k0_hw33.2.1.2.2.2.2.2.2.2.2.2.2.2.2.2.2.2.2.2.2.2.2.2.2.2.2.2.1 k0_t1 k0_h2
theorem k0_off123_inb : ∀ (i : grid0.Coords) (v1 : BitVec 32) (k0_hw33 : k0_chk33 i v1) (k0_t1 : Fin (k0_t1_loop v1).trips), ∀ (k0_h2 : k0_cond2 v1 k0_t1 = 1#1), ∀ a, (k0_off123 v1 k0_t1) a + S1.size a ≤ S2.size a := fun i v1 k0_hw33 k0_t1 k0_h2 => k0_hw33.2.1.2.2.2.2.2.2.2.2.2.2.2.2.2.2.2.2.2.2.2.2.2.2.2.2.2.2.1 k0_t1 k0_h2
theorem k0_off124_inb : ∀ (i : grid0.Coords) (v1 : BitVec 32) (k0_hw33 : k0_chk33 i v1) (k0_t1 : Fin (k0_t1_loop v1).trips), ∀ (k0_h2 : k0_cond2 v1 k0_t1 = 1#1), ∀ a, (k0_off124 v1 k0_t1) a + S1x1x16x656.size a ≤ S2x32x16x656.size a := fun i v1 k0_hw33 k0_t1 k0_h2 => k0_hw33.2.1.2.2.2.2.2.2.2.2.2.2.2.2.2.2.2.2.2.2.2.2.2.2.2.2.2.2.2.1 k0_t1 k0_h2
theorem k0_off124_wordsi8 : ∀ (i : grid0.Coords) (v1 : BitVec 32) (k0_hw33 : k0_chk33 i v1) (k0_t1 : Fin (k0_t1_loop v1).trips), ∀ (k0_h2 : k0_cond2 v1 k0_t1 = 1#1), (Rect.unit (s := S2x32x16x656) (k0_off124 v1 k0_t1) S1x1x16x656.size (k0_off124_inb i v1 k0_hw33 k0_t1 k0_h2)).WholeWords (EltTy.packing .i8) := fun i v1 k0_hw33 k0_t1 k0_h2 => k0_hw33.2.1.2.2.2.2.2.2.2.2.2.2.2.2.2.2.2.2.2.2.2.2.2.2.2.2.2.2.2.2.1 k0_t1 k0_h2 (k0_off124_inb i v1 k0_hw33 k0_t1 k0_h2)
theorem k0_off126_inb : ∀ (i : grid0.Coords) (v1 : BitVec 32) (k0_hw33 : k0_chk33 i v1) (k0_t1 : Fin (k0_t1_loop v1).trips), ∀ (k0_h2 : k0_cond2 v1 k0_t1 = 1#1), ∀ a, (k0_off126 i v1 k0_t1) a + S1x1.size a ≤ S32x1024.size a := fun i v1 k0_hw33 k0_t1 k0_h2 => k0_hw33.2.1.2.2.2.2.2.2.2.2.2.2.2.2.2.2.2.2.2.2.2.2.2.2.2.2.2.2.2.2.2.1 k0_t1 k0_h2
theorem k0_off127_inb : ∀ (i : grid0.Coords) (v1 : BitVec 32) (k0_hw33 : k0_chk33 i v1) (k0_t1 : Fin (k0_t1_loop v1).trips), ∀ (k0_h2 : k0_cond2 v1 k0_t1 = 1#1), ∀ a, (k0_off127 v1 k0_t1) a + S1.size a ≤ S2.size a := fun i v1 k0_hw33 k0_t1 k0_h2 => k0_hw33.2.1.2.2.2.2.2.2.2.2.2.2.2.2.2.2.2.2.2.2.2.2.2.2.2.2.2.2.2.2.2.2.1 k0_t1 k0_h2
theorem k0_off128_inb : ∀ (i : grid0.Coords) (v1 : BitVec 32) (k0_hw33 : k0_chk33 i v1) (k0_t1 : Fin (k0_t1_loop v1).trips), ∀ (k0_h2 : k0_cond2 v1 k0_t1 = 1#1), ∀ a, (k0_off128 v1 k0_t1) a + S1x1x16x656.size a ≤ S2x32x16x656.size a := fun i v1 k0_hw33 k0_t1 k0_h2 => k0_hw33.2.1.2.2.2.2.2.2.2.2.2.2.2.2.2.2.2.2.2.2.2.2.2.2.2.2.2.2.2.2.2.2.2 k0_t1 k0_h2
theorem k0_off128_wordsi8 : ∀ (i : grid0.Coords) (v1 : BitVec 32) (k0_hw33 : k0_chk33 i v1) (k0_t1 : Fin (k0_t1_loop v1).trips), ∀ (k0_h2 : k0_cond2 v1 k0_t1 = 1#1), (Rect.unit (s := S2x32x16x656) (k0_off128 v1 k0_t1) S1x1x16x656.size (k0_off128_inb i v1 k0_hw33 k0_t1 k0_h2)).WholeWords (EltTy.packing .i8) := fun i v1 k0_hw33 k0_t1 k0_h2 => k0_hw33.2.2.1.1 k0_t1 k0_h2 (k0_off128_inb i v1 k0_hw33 k0_t1 k0_h2)
theorem k0_off130_inb : ∀ (i : grid0.Coords) (v1 : BitVec 32) (k0_hw33 : k0_chk33 i v1) (k0_t1 : Fin (k0_t1_loop v1).trips), ∀ (k0_h2 : k0_cond2 v1 k0_t1 = 1#1), ∀ a, (k0_off130 i v1 k0_t1) a + S1x1.size a ≤ S32x1024.size a := fun i v1 k0_hw33 k0_t1 k0_h2 => k0_hw33.2.2.1.2.1 k0_t1 k0_h2
theorem k0_off131_inb : ∀ (i : grid0.Coords) (v1 : BitVec 32) (k0_hw33 : k0_chk33 i v1) (k0_t1 : Fin (k0_t1_loop v1).trips), ∀ (k0_h2 : k0_cond2 v1 k0_t1 = 1#1), ∀ a, (k0_off131 v1 k0_t1) a + S1.size a ≤ S2.size a := fun i v1 k0_hw33 k0_t1 k0_h2 => k0_hw33.2.2.1.2.2.1 k0_t1 k0_h2
theorem k0_off132_inb : ∀ (i : grid0.Coords) (v1 : BitVec 32) (k0_hw33 : k0_chk33 i v1) (k0_t1 : Fin (k0_t1_loop v1).trips), ∀ (k0_h2 : k0_cond2 v1 k0_t1 = 1#1), ∀ a, (k0_off132 v1 k0_t1) a + S1x1x16x656.size a ≤ S2x32x16x656.size a := fun i v1 k0_hw33 k0_t1 k0_h2 => k0_hw33.2.2.1.2.2.2.1 k0_t1 k0_h2
theorem k0_off132_wordsi8 : ∀ (i : grid0.Coords) (v1 : BitVec 32) (k0_hw33 : k0_chk33 i v1) (k0_t1 : Fin (k0_t1_loop v1).trips), ∀ (k0_h2 : k0_cond2 v1 k0_t1 = 1#1), (Rect.unit (s := S2x32x16x656) (k0_off132 v1 k0_t1) S1x1x16x656.size (k0_off132_inb i v1 k0_hw33 k0_t1 k0_h2)).WholeWords (EltTy.packing .i8) := fun i v1 k0_hw33 k0_t1 k0_h2 => k0_hw33.2.2.1.2.2.2.2.1 k0_t1 k0_h2 (k0_off132_inb i v1 k0_hw33 k0_t1 k0_h2)
theorem k0_off134_inb : ∀ (i : grid0.Coords) (v1 : BitVec 32) (k0_hw33 : k0_chk33 i v1) (k0_t1 : Fin (k0_t1_loop v1).trips), ∀ (k0_h2 : k0_cond2 v1 k0_t1 = 1#1), ∀ a, (k0_off134 i v1 k0_t1) a + S1x1.size a ≤ S32x1024.size a := fun i v1 k0_hw33 k0_t1 k0_h2 => k0_hw33.2.2.1.2.2.2.2.2.1 k0_t1 k0_h2
theorem k0_off135_inb : ∀ (i : grid0.Coords) (v1 : BitVec 32) (k0_hw33 : k0_chk33 i v1) (k0_t1 : Fin (k0_t1_loop v1).trips), ∀ (k0_h2 : k0_cond2 v1 k0_t1 = 1#1), ∀ a, (k0_off135 v1 k0_t1) a + S1.size a ≤ S2.size a := fun i v1 k0_hw33 k0_t1 k0_h2 => k0_hw33.2.2.1.2.2.2.2.2.2.1 k0_t1 k0_h2
theorem k0_off136_inb : ∀ (i : grid0.Coords) (v1 : BitVec 32) (k0_hw33 : k0_chk33 i v1) (k0_t1 : Fin (k0_t1_loop v1).trips), ∀ (k0_h2 : k0_cond2 v1 k0_t1 = 1#1), ∀ a, (k0_off136 v1 k0_t1) a + S1x1x16x656.size a ≤ S2x32x16x656.size a := fun i v1 k0_hw33 k0_t1 k0_h2 => k0_hw33.2.2.1.2.2.2.2.2.2.2.1 k0_t1 k0_h2
theorem k0_off136_wordsi8 : ∀ (i : grid0.Coords) (v1 : BitVec 32) (k0_hw33 : k0_chk33 i v1) (k0_t1 : Fin (k0_t1_loop v1).trips), ∀ (k0_h2 : k0_cond2 v1 k0_t1 = 1#1), (Rect.unit (s := S2x32x16x656) (k0_off136 v1 k0_t1) S1x1x16x656.size (k0_off136_inb i v1 k0_hw33 k0_t1 k0_h2)).WholeWords (EltTy.packing .i8) := fun i v1 k0_hw33 k0_t1 k0_h2 => k0_hw33.2.2.1.2.2.2.2.2.2.2.2.1 k0_t1 k0_h2 (k0_off136_inb i v1 k0_hw33 k0_t1 k0_h2)
theorem k0_off138_inb : ∀ (i : grid0.Coords) (v1 : BitVec 32) (k0_hw33 : k0_chk33 i v1) (k0_t1 : Fin (k0_t1_loop v1).trips), ∀ (k0_h2 : k0_cond2 v1 k0_t1 = 1#1), ∀ a, (k0_off138 i v1 k0_t1) a + S1x1.size a ≤ S32x1024.size a := fun i v1 k0_hw33 k0_t1 k0_h2 => k0_hw33.2.2.1.2.2.2.2.2.2.2.2.2.1 k0_t1 k0_h2
theorem k0_off139_inb : ∀ (i : grid0.Coords) (v1 : BitVec 32) (k0_hw33 : k0_chk33 i v1) (k0_t1 : Fin (k0_t1_loop v1).trips), ∀ (k0_h2 : k0_cond2 v1 k0_t1 = 1#1), ∀ a, (k0_off139 v1 k0_t1) a + S1.size a ≤ S2.size a := fun i v1 k0_hw33 k0_t1 k0_h2 => k0_hw33.2.2.1.2.2.2.2.2.2.2.2.2.2.1 k0_t1 k0_h2
theorem k0_off140_inb : ∀ (i : grid0.Coords) (v1 : BitVec 32) (k0_hw33 : k0_chk33 i v1) (k0_t1 : Fin (k0_t1_loop v1).trips), ∀ (k0_h2 : k0_cond2 v1 k0_t1 = 1#1), ∀ a, (k0_off140 v1 k0_t1) a + S1x1x16x656.size a ≤ S2x32x16x656.size a := fun i v1 k0_hw33 k0_t1 k0_h2 => k0_hw33.2.2.1.2.2.2.2.2.2.2.2.2.2.2.1 k0_t1 k0_h2
theorem k0_off140_wordsi8 : ∀ (i : grid0.Coords) (v1 : BitVec 32) (k0_hw33 : k0_chk33 i v1) (k0_t1 : Fin (k0_t1_loop v1).trips), ∀ (k0_h2 : k0_cond2 v1 k0_t1 = 1#1), (Rect.unit (s := S2x32x16x656) (k0_off140 v1 k0_t1) S1x1x16x656.size (k0_off140_inb i v1 k0_hw33 k0_t1 k0_h2)).WholeWords (EltTy.packing .i8) := fun i v1 k0_hw33 k0_t1 k0_h2 => k0_hw33.2.2.1.2.2.2.2.2.2.2.2.2.2.2.2.1 k0_t1 k0_h2 (k0_off140_inb i v1 k0_hw33 k0_t1 k0_h2)
theorem k0_off142_inb : ∀ (i : grid0.Coords) (v1 : BitVec 32) (k0_hw33 : k0_chk33 i v1) (k0_t1 : Fin (k0_t1_loop v1).trips), ∀ (k0_h2 : k0_cond2 v1 k0_t1 = 1#1), ∀ a, (k0_off142 i v1 k0_t1) a + S1x1.size a ≤ S32x1024.size a := fun i v1 k0_hw33 k0_t1 k0_h2 => k0_hw33.2.2.1.2.2.2.2.2.2.2.2.2.2.2.2.2.1 k0_t1 k0_h2
theorem k0_off143_inb : ∀ (i : grid0.Coords) (v1 : BitVec 32) (k0_hw33 : k0_chk33 i v1) (k0_t1 : Fin (k0_t1_loop v1).trips), ∀ (k0_h2 : k0_cond2 v1 k0_t1 = 1#1), ∀ a, (k0_off143 v1 k0_t1) a + S1.size a ≤ S2.size a := fun i v1 k0_hw33 k0_t1 k0_h2 => k0_hw33.2.2.1.2.2.2.2.2.2.2.2.2.2.2.2.2.2.1 k0_t1 k0_h2
theorem k0_off144_inb : ∀ (i : grid0.Coords) (v1 : BitVec 32) (k0_hw33 : k0_chk33 i v1) (k0_t1 : Fin (k0_t1_loop v1).trips), ∀ (k0_h2 : k0_cond2 v1 k0_t1 = 1#1), ∀ a, (k0_off144 v1 k0_t1) a + S1x1x16x656.size a ≤ S2x32x16x656.size a := fun i v1 k0_hw33 k0_t1 k0_h2 => k0_hw33.2.2.1.2.2.2.2.2.2.2.2.2.2.2.2.2.2.2.1 k0_t1 k0_h2
theorem k0_off144_wordsi8 : ∀ (i : grid0.Coords) (v1 : BitVec 32) (k0_hw33 : k0_chk33 i v1) (k0_t1 : Fin (k0_t1_loop v1).trips), ∀ (k0_h2 : k0_cond2 v1 k0_t1 = 1#1), (Rect.unit (s := S2x32x16x656) (k0_off144 v1 k0_t1) S1x1x16x656.size (k0_off144_inb i v1 k0_hw33 k0_t1 k0_h2)).WholeWords (EltTy.packing .i8) := fun i v1 k0_hw33 k0_t1 k0_h2 => k0_hw33.2.2.1.2.2.2.2.2.2.2.2.2.2.2.2.2.2.2.2.1 k0_t1 k0_h2 (k0_off144_inb i v1 k0_hw33 k0_t1 k0_h2)
theorem k0_off146_inb : ∀ (i : grid0.Coords) (v1 : BitVec 32) (k0_hw33 : k0_chk33 i v1) (k0_t1 : Fin (k0_t1_loop v1).trips), ∀ (k0_h2 : k0_cond2 v1 k0_t1 = 1#1), ∀ a, (k0_off146 i v1 k0_t1) a + S1x1.size a ≤ S32x1024.size a := fun i v1 k0_hw33 k0_t1 k0_h2 => k0_hw33.2.2.1.2.2.2.2.2.2.2.2.2.2.2.2.2.2.2.2.2.1 k0_t1 k0_h2
theorem k0_off147_inb : ∀ (i : grid0.Coords) (v1 : BitVec 32) (k0_hw33 : k0_chk33 i v1) (k0_t1 : Fin (k0_t1_loop v1).trips), ∀ (k0_h2 : k0_cond2 v1 k0_t1 = 1#1), ∀ a, (k0_off147 v1 k0_t1) a + S1.size a ≤ S2.size a := fun i v1 k0_hw33 k0_t1 k0_h2 => k0_hw33.2.2.1.2.2.2.2.2.2.2.2.2.2.2.2.2.2.2.2.2.2.1 k0_t1 k0_h2
theorem k0_off148_inb : ∀ (i : grid0.Coords) (v1 : BitVec 32) (k0_hw33 : k0_chk33 i v1) (k0_t1 : Fin (k0_t1_loop v1).trips), ∀ (k0_h2 : k0_cond2 v1 k0_t1 = 1#1), ∀ a, (k0_off148 v1 k0_t1) a + S1x1x16x656.size a ≤ S2x32x16x656.size a := fun i v1 k0_hw33 k0_t1 k0_h2 => k0_hw33.2.2.1.2.2.2.2.2.2.2.2.2.2.2.2.2.2.2.2.2.2.2.1 k0_t1 k0_h2
theorem k0_off148_wordsi8 : ∀ (i : grid0.Coords) (v1 : BitVec 32) (k0_hw33 : k0_chk33 i v1) (k0_t1 : Fin (k0_t1_loop v1).trips), ∀ (k0_h2 : k0_cond2 v1 k0_t1 = 1#1), (Rect.unit (s := S2x32x16x656) (k0_off148 v1 k0_t1) S1x1x16x656.size (k0_off148_inb i v1 k0_hw33 k0_t1 k0_h2)).WholeWords (EltTy.packing .i8) := fun i v1 k0_hw33 k0_t1 k0_h2 => k0_hw33.2.2.1.2.2.2.2.2.2.2.2.2.2.2.2.2.2.2.2.2.2.2.2.1 k0_t1 k0_h2 (k0_off148_inb i v1 k0_hw33 k0_t1 k0_h2)
theorem k0_off150_inb : ∀ (i : grid0.Coords) (v1 : BitVec 32) (k0_hw33 : k0_chk33 i v1) (k0_t1 : Fin (k0_t1_loop v1).trips), ∀ (k0_h2 : k0_cond2 v1 k0_t1 = 1#1), ∀ a, (k0_off150 i v1 k0_t1) a + S1x1.size a ≤ S32x1024.size a := fun i v1 k0_hw33 k0_t1 k0_h2 => k0_hw33.2.2.1.2.2.2.2.2.2.2.2.2.2.2.2.2.2.2.2.2.2.2.2.2.1 k0_t1 k0_h2
theorem k0_off151_inb : ∀ (i : grid0.Coords) (v1 : BitVec 32) (k0_hw33 : k0_chk33 i v1) (k0_t1 : Fin (k0_t1_loop v1).trips), ∀ (k0_h2 : k0_cond2 v1 k0_t1 = 1#1), ∀ a, (k0_off151 v1 k0_t1) a + S1.size a ≤ S2.size a := fun i v1 k0_hw33 k0_t1 k0_h2 => k0_hw33.2.2.1.2.2.2.2.2.2.2.2.2.2.2.2.2.2.2.2.2.2.2.2.2.2.1 k0_t1 k0_h2
theorem k0_off152_inb : ∀ (i : grid0.Coords) (v1 : BitVec 32) (k0_hw33 : k0_chk33 i v1) (k0_t1 : Fin (k0_t1_loop v1).trips), ∀ (k0_h2 : k0_cond2 v1 k0_t1 = 1#1), ∀ a, (k0_off152 v1 k0_t1) a + S1x1x16x656.size a ≤ S2x32x16x656.size a := fun i v1 k0_hw33 k0_t1 k0_h2 => k0_hw33.2.2.1.2.2.2.2.2.2.2.2.2.2.2.2.2.2.2.2.2.2.2.2.2.2.2.1 k0_t1 k0_h2
theorem k0_off152_wordsi8 : ∀ (i : grid0.Coords) (v1 : BitVec 32) (k0_hw33 : k0_chk33 i v1) (k0_t1 : Fin (k0_t1_loop v1).trips), ∀ (k0_h2 : k0_cond2 v1 k0_t1 = 1#1), (Rect.unit (s := S2x32x16x656) (k0_off152 v1 k0_t1) S1x1x16x656.size (k0_off152_inb i v1 k0_hw33 k0_t1 k0_h2)).WholeWords (EltTy.packing .i8) := fun i v1 k0_hw33 k0_t1 k0_h2 => k0_hw33.2.2.1.2.2.2.2.2.2.2.2.2.2.2.2.2.2.2.2.2.2.2.2.2.2.2.2.1 k0_t1 k0_h2 (k0_off152_inb i v1 k0_hw33 k0_t1 k0_h2)
theorem k0_off154_inb : ∀ (i : grid0.Coords) (v1 : BitVec 32) (k0_hw33 : k0_chk33 i v1) (k0_t1 : Fin (k0_t1_loop v1).trips), ∀ (k0_h2 : k0_cond2 v1 k0_t1 = 1#1), ∀ a, (k0_off154 i v1 k0_t1) a + S1x1.size a ≤ S32x1024.size a := fun i v1 k0_hw33 k0_t1 k0_h2 => k0_hw33.2.2.1.2.2.2.2.2.2.2.2.2.2.2.2.2.2.2.2.2.2.2.2.2.2.2.2.2.1 k0_t1 k0_h2
theorem k0_off155_inb : ∀ (i : grid0.Coords) (v1 : BitVec 32) (k0_hw33 : k0_chk33 i v1) (k0_t1 : Fin (k0_t1_loop v1).trips), ∀ (k0_h2 : k0_cond2 v1 k0_t1 = 1#1), ∀ a, (k0_off155 v1 k0_t1) a + S1.size a ≤ S2.size a := fun i v1 k0_hw33 k0_t1 k0_h2 => k0_hw33.2.2.1.2.2.2.2.2.2.2.2.2.2.2.2.2.2.2.2.2.2.2.2.2.2.2.2.2.2.1 k0_t1 k0_h2
theorem k0_off156_inb : ∀ (i : grid0.Coords) (v1 : BitVec 32) (k0_hw33 : k0_chk33 i v1) (k0_t1 : Fin (k0_t1_loop v1).trips), ∀ (k0_h2 : k0_cond2 v1 k0_t1 = 1#1), ∀ a, (k0_off156 v1 k0_t1) a + S1x1x16x656.size a ≤ S2x32x16x656.size a := fun i v1 k0_hw33 k0_t1 k0_h2 => k0_hw33.2.2.1.2.2.2.2.2.2.2.2.2.2.2.2.2.2.2.2.2.2.2.2.2.2.2.2.2.2.2.1 k0_t1 k0_h2
theorem k0_off156_wordsi8 : ∀ (i : grid0.Coords) (v1 : BitVec 32) (k0_hw33 : k0_chk33 i v1) (k0_t1 : Fin (k0_t1_loop v1).trips), ∀ (k0_h2 : k0_cond2 v1 k0_t1 = 1#1), (Rect.unit (s := S2x32x16x656) (k0_off156 v1 k0_t1) S1x1x16x656.size (k0_off156_inb i v1 k0_hw33 k0_t1 k0_h2)).WholeWords (EltTy.packing .i8) := fun i v1 k0_hw33 k0_t1 k0_h2 => k0_hw33.2.2.1.2.2.2.2.2.2.2.2.2.2.2.2.2.2.2.2.2.2.2.2.2.2.2.2.2.2.2.2.1 k0_t1 k0_h2 (k0_off156_inb i v1 k0_hw33 k0_t1 k0_h2)
theorem k0_off158_inb : ∀ (i : grid0.Coords) (v1 : BitVec 32) (k0_hw33 : k0_chk33 i v1) (k0_t1 : Fin (k0_t1_loop v1).trips), ∀ (k0_h2 : k0_cond2 v1 k0_t1 = 1#1), ∀ a, (k0_off158 i v1 k0_t1) a + S1x1.size a ≤ S32x1024.size a := fun i v1 k0_hw33 k0_t1 k0_h2 => k0_hw33.2.2.1.2.2.2.2.2.2.2.2.2.2.2.2.2.2.2.2.2.2.2.2.2.2.2.2.2.2.2.2.2.1 k0_t1 k0_h2
theorem k0_off159_inb : ∀ (i : grid0.Coords) (v1 : BitVec 32) (k0_hw33 : k0_chk33 i v1) (k0_t1 : Fin (k0_t1_loop v1).trips), ∀ (k0_h2 : k0_cond2 v1 k0_t1 = 1#1), ∀ a, (k0_off159 v1 k0_t1) a + S1.size a ≤ S2.size a := fun i v1 k0_hw33 k0_t1 k0_h2 => k0_hw33.2.2.1.2.2.2.2.2.2.2.2.2.2.2.2.2.2.2.2.2.2.2.2.2.2.2.2.2.2.2.2.2.2.1 k0_t1 k0_h2
theorem k0_off160_inb : ∀ (i : grid0.Coords) (v1 : BitVec 32) (k0_hw33 : k0_chk33 i v1) (k0_t1 : Fin (k0_t1_loop v1).trips), ∀ (k0_h2 : k0_cond2 v1 k0_t1 = 1#1), ∀ a, (k0_off160 v1 k0_t1) a + S1x1x16x656.size a ≤ S2x32x16x656.size a := fun i v1 k0_hw33 k0_t1 k0_h2 => k0_hw33.2.2.1.2.2.2.2.2.2.2.2.2.2.2.2.2.2.2.2.2.2.2.2.2.2.2.2.2.2.2.2.2.2.2 k0_t1 k0_h2
theorem k0_off160_wordsi8 : ∀ (i : grid0.Coords) (v1 : BitVec 32) (k0_hw33 : k0_chk33 i v1) (k0_t1 : Fin (k0_t1_loop v1).trips), ∀ (k0_h2 : k0_cond2 v1 k0_t1 = 1#1), (Rect.unit (s := S2x32x16x656) (k0_off160 v1 k0_t1) S1x1x16x656.size (k0_off160_inb i v1 k0_hw33 k0_t1 k0_h2)).WholeWords (EltTy.packing .i8) := fun i v1 k0_hw33 k0_t1 k0_h2 => k0_hw33.2.2.2.1.1 k0_t1 k0_h2 (k0_off160_inb i v1 k0_hw33 k0_t1 k0_h2)
theorem k0_off162_inb : ∀ (i : grid0.Coords) (v1 : BitVec 32) (k0_hw33 : k0_chk33 i v1) (k0_t1 : Fin (k0_t1_loop v1).trips), ∀ (k0_h2 : k0_cond2 v1 k0_t1 = 1#1), ∀ a, (k0_off162 i v1 k0_t1) a + S1x1.size a ≤ S32x1024.size a := fun i v1 k0_hw33 k0_t1 k0_h2 => k0_hw33.2.2.2.1.2.1 k0_t1 k0_h2
theorem k0_off163_inb : ∀ (i : grid0.Coords) (v1 : BitVec 32) (k0_hw33 : k0_chk33 i v1) (k0_t1 : Fin (k0_t1_loop v1).trips), ∀ (k0_h2 : k0_cond2 v1 k0_t1 = 1#1), ∀ a, (k0_off163 v1 k0_t1) a + S1.size a ≤ S2.size a := fun i v1 k0_hw33 k0_t1 k0_h2 => k0_hw33.2.2.2.1.2.2.1 k0_t1 k0_h2
theorem k0_off164_inb : ∀ (i : grid0.Coords) (v1 : BitVec 32) (k0_hw33 : k0_chk33 i v1) (k0_t1 : Fin (k0_t1_loop v1).trips), ∀ (k0_h2 : k0_cond2 v1 k0_t1 = 1#1), ∀ a, (k0_off164 v1 k0_t1) a + S1x1x16x656.size a ≤ S2x32x16x656.size a := fun i v1 k0_hw33 k0_t1 k0_h2 => k0_hw33.2.2.2.1.2.2.2.1 k0_t1 k0_h2
theorem k0_off164_wordsi8 : ∀ (i : grid0.Coords) (v1 : BitVec 32) (k0_hw33 : k0_chk33 i v1) (k0_t1 : Fin (k0_t1_loop v1).trips), ∀ (k0_h2 : k0_cond2 v1 k0_t1 = 1#1), (Rect.unit (s := S2x32x16x656) (k0_off164 v1 k0_t1) S1x1x16x656.size (k0_off164_inb i v1 k0_hw33 k0_t1 k0_h2)).WholeWords (EltTy.packing .i8) := fun i v1 k0_hw33 k0_t1 k0_h2 => k0_hw33.2.2.2.1.2.2.2.2.1 k0_t1 k0_h2 (k0_off164_inb i v1 k0_hw33 k0_t1 k0_h2)
theorem k0_off166_inb : ∀ (i : grid0.Coords) (v1 : BitVec 32) (k0_hw33 : k0_chk33 i v1) (k0_t1 : Fin (k0_t1_loop v1).trips), ∀ (k0_h2 : k0_cond2 v1 k0_t1 = 1#1), ∀ a, (k0_off166 i v1 k0_t1) a + S1x1.size a ≤ S32x1024.size a := fun i v1 k0_hw33 k0_t1 k0_h2 => k0_hw33.2.2.2.1.2.2.2.2.2.1 k0_t1 k0_h2
theorem k0_off167_inb : ∀ (i : grid0.Coords) (v1 : BitVec 32) (k0_hw33 : k0_chk33 i v1) (k0_t1 : Fin (k0_t1_loop v1).trips), ∀ (k0_h2 : k0_cond2 v1 k0_t1 = 1#1), ∀ a, (k0_off167 v1 k0_t1) a + S1.size a ≤ S2.size a := fun i v1 k0_hw33 k0_t1 k0_h2 => k0_hw33.2.2.2.1.2.2.2.2.2.2.1 k0_t1 k0_h2
theorem k0_off168_inb : ∀ (i : grid0.Coords) (v1 : BitVec 32) (k0_hw33 : k0_chk33 i v1) (k0_t1 : Fin (k0_t1_loop v1).trips), ∀ (k0_h2 : k0_cond2 v1 k0_t1 = 1#1), ∀ a, (k0_off168 v1 k0_t1) a + S1x1x16x656.size a ≤ S2x32x16x656.size a := fun i v1 k0_hw33 k0_t1 k0_h2 => k0_hw33.2.2.2.1.2.2.2.2.2.2.2.1 k0_t1 k0_h2
theorem k0_off168_wordsi8 : ∀ (i : grid0.Coords) (v1 : BitVec 32) (k0_hw33 : k0_chk33 i v1) (k0_t1 : Fin (k0_t1_loop v1).trips), ∀ (k0_h2 : k0_cond2 v1 k0_t1 = 1#1), (Rect.unit (s := S2x32x16x656) (k0_off168 v1 k0_t1) S1x1x16x656.size (k0_off168_inb i v1 k0_hw33 k0_t1 k0_h2)).WholeWords (EltTy.packing .i8) := fun i v1 k0_hw33 k0_t1 k0_h2 => k0_hw33.2.2.2.1.2.2.2.2.2.2.2.2.1 k0_t1 k0_h2 (k0_off168_inb i v1 k0_hw33 k0_t1 k0_h2)
theorem k0_off170_inb : ∀ (i : grid0.Coords) (v1 : BitVec 32) (k0_hw33 : k0_chk33 i v1) (k0_t1 : Fin (k0_t1_loop v1).trips), ∀ (k0_h2 : k0_cond2 v1 k0_t1 = 1#1), ∀ a, (k0_off170 i v1 k0_t1) a + S1x1.size a ≤ S32x1024.size a := fun i v1 k0_hw33 k0_t1 k0_h2 => k0_hw33.2.2.2.1.2.2.2.2.2.2.2.2.2.1 k0_t1 k0_h2
theorem k0_off171_inb : ∀ (i : grid0.Coords) (v1 : BitVec 32) (k0_hw33 : k0_chk33 i v1) (k0_t1 : Fin (k0_t1_loop v1).trips), ∀ (k0_h2 : k0_cond2 v1 k0_t1 = 1#1), ∀ a, (k0_off171 v1 k0_t1) a + S1.size a ≤ S2.size a := fun i v1 k0_hw33 k0_t1 k0_h2 => k0_hw33.2.2.2.1.2.2.2.2.2.2.2.2.2.2.1 k0_t1 k0_h2
theorem k0_off172_inb : ∀ (i : grid0.Coords) (v1 : BitVec 32) (k0_hw33 : k0_chk33 i v1) (k0_t1 : Fin (k0_t1_loop v1).trips), ∀ (k0_h2 : k0_cond2 v1 k0_t1 = 1#1), ∀ a, (k0_off172 v1 k0_t1) a + S1x1x16x656.size a ≤ S2x32x16x656.size a := fun i v1 k0_hw33 k0_t1 k0_h2 => k0_hw33.2.2.2.1.2.2.2.2.2.2.2.2.2.2.2.1 k0_t1 k0_h2
theorem k0_off172_wordsi8 : ∀ (i : grid0.Coords) (v1 : BitVec 32) (k0_hw33 : k0_chk33 i v1) (k0_t1 : Fin (k0_t1_loop v1).trips), ∀ (k0_h2 : k0_cond2 v1 k0_t1 = 1#1), (Rect.unit (s := S2x32x16x656) (k0_off172 v1 k0_t1) S1x1x16x656.size (k0_off172_inb i v1 k0_hw33 k0_t1 k0_h2)).WholeWords (EltTy.packing .i8) := fun i v1 k0_hw33 k0_t1 k0_h2 => k0_hw33.2.2.2.1.2.2.2.2.2.2.2.2.2.2.2.2.1 k0_t1 k0_h2 (k0_off172_inb i v1 k0_hw33 k0_t1 k0_h2)
theorem k0_off174_inb : ∀ (i : grid0.Coords) (v1 : BitVec 32) (k0_hw33 : k0_chk33 i v1) (k0_t1 : Fin (k0_t1_loop v1).trips), ∀ (k0_h2 : k0_cond2 v1 k0_t1 = 1#1), ∀ a, (k0_off174 i v1 k0_t1) a + S1x1.size a ≤ S32x1024.size a := fun i v1 k0_hw33 k0_t1 k0_h2 => k0_hw33.2.2.2.1.2.2.2.2.2.2.2.2.2.2.2.2.2.1 k0_t1 k0_h2
theorem k0_off175_inb : ∀ (i : grid0.Coords) (v1 : BitVec 32) (k0_hw33 : k0_chk33 i v1) (k0_t1 : Fin (k0_t1_loop v1).trips), ∀ (k0_h2 : k0_cond2 v1 k0_t1 = 1#1), ∀ a, (k0_off175 v1 k0_t1) a + S1.size a ≤ S2.size a := fun i v1 k0_hw33 k0_t1 k0_h2 => k0_hw33.2.2.2.1.2.2.2.2.2.2.2.2.2.2.2.2.2.2.1 k0_t1 k0_h2
theorem k0_off176_inb : ∀ (i : grid0.Coords) (v1 : BitVec 32) (k0_hw33 : k0_chk33 i v1) (k0_t1 : Fin (k0_t1_loop v1).trips), ∀ (k0_h2 : k0_cond2 v1 k0_t1 = 1#1), ∀ a, (k0_off176 v1 k0_t1) a + S1x1x16x656.size a ≤ S2x32x16x656.size a := fun i v1 k0_hw33 k0_t1 k0_h2 => k0_hw33.2.2.2.1.2.2.2.2.2.2.2.2.2.2.2.2.2.2.2.1 k0_t1 k0_h2
theorem k0_off176_wordsi8 : ∀ (i : grid0.Coords) (v1 : BitVec 32) (k0_hw33 : k0_chk33 i v1) (k0_t1 : Fin (k0_t1_loop v1).trips), ∀ (k0_h2 : k0_cond2 v1 k0_t1 = 1#1), (Rect.unit (s := S2x32x16x656) (k0_off176 v1 k0_t1) S1x1x16x656.size (k0_off176_inb i v1 k0_hw33 k0_t1 k0_h2)).WholeWords (EltTy.packing .i8) := fun i v1 k0_hw33 k0_t1 k0_h2 => k0_hw33.2.2.2.1.2.2.2.2.2.2.2.2.2.2.2.2.2.2.2.2.1 k0_t1 k0_h2 (k0_off176_inb i v1 k0_hw33 k0_t1 k0_h2)
theorem k0_off178_inb : ∀ (i : grid0.Coords) (v1 : BitVec 32) (k0_hw33 : k0_chk33 i v1) (k0_t1 : Fin (k0_t1_loop v1).trips), ∀ (k0_h2 : k0_cond2 v1 k0_t1 = 1#1), ∀ a, (k0_off178 i v1 k0_t1) a + S1x1.size a ≤ S32x1024.size a := fun i v1 k0_hw33 k0_t1 k0_h2 => k0_hw33.2.2.2.1.2.2.2.2.2.2.2.2.2.2.2.2.2.2.2.2.2.1 k0_t1 k0_h2
theorem k0_off179_inb : ∀ (i : grid0.Coords) (v1 : BitVec 32) (k0_hw33 : k0_chk33 i v1) (k0_t1 : Fin (k0_t1_loop v1).trips), ∀ (k0_h2 : k0_cond2 v1 k0_t1 = 1#1), ∀ a, (k0_off179 v1 k0_t1) a + S1.size a ≤ S2.size a := fun i v1 k0_hw33 k0_t1 k0_h2 => k0_hw33.2.2.2.1.2.2.2.2.2.2.2.2.2.2.2.2.2.2.2.2.2.2.1 k0_t1 k0_h2
theorem k0_off180_inb : ∀ (i : grid0.Coords) (v1 : BitVec 32) (k0_hw33 : k0_chk33 i v1) (k0_t1 : Fin (k0_t1_loop v1).trips), ∀ (k0_h2 : k0_cond2 v1 k0_t1 = 1#1), ∀ a, (k0_off180 v1 k0_t1) a + S1x1x16x656.size a ≤ S2x32x16x656.size a := fun i v1 k0_hw33 k0_t1 k0_h2 => k0_hw33.2.2.2.1.2.2.2.2.2.2.2.2.2.2.2.2.2.2.2.2.2.2.2.1 k0_t1 k0_h2
theorem k0_off180_wordsi8 : ∀ (i : grid0.Coords) (v1 : BitVec 32) (k0_hw33 : k0_chk33 i v1) (k0_t1 : Fin (k0_t1_loop v1).trips), ∀ (k0_h2 : k0_cond2 v1 k0_t1 = 1#1), (Rect.unit (s := S2x32x16x656) (k0_off180 v1 k0_t1) S1x1x16x656.size (k0_off180_inb i v1 k0_hw33 k0_t1 k0_h2)).WholeWords (EltTy.packing .i8) := fun i v1 k0_hw33 k0_t1 k0_h2 => k0_hw33.2.2.2.1.2.2.2.2.2.2.2.2.2.2.2.2.2.2.2.2.2.2.2.2.1 k0_t1 k0_h2 (k0_off180_inb i v1 k0_hw33 k0_t1 k0_h2)
theorem k0_off182_inb : ∀ (i : grid0.Coords) (v1 : BitVec 32) (k0_hw33 : k0_chk33 i v1) (k0_t1 : Fin (k0_t1_loop v1).trips), ∀ (k0_h2 : k0_cond2 v1 k0_t1 = 1#1), ∀ a, (k0_off182 i v1 k0_t1) a + S1x1.size a ≤ S32x1024.size a := fun i v1 k0_hw33 k0_t1 k0_h2 => k0_hw33.2.2.2.1.2.2.2.2.2.2.2.2.2.2.2.2.2.2.2.2.2.2.2.2.2.1 k0_t1 k0_h2
theorem k0_off183_inb : ∀ (i : grid0.Coords) (v1 : BitVec 32) (k0_hw33 : k0_chk33 i v1) (k0_t1 : Fin (k0_t1_loop v1).trips), ∀ (k0_h2 : k0_cond2 v1 k0_t1 = 1#1), ∀ a, (k0_off183 v1 k0_t1) a + S1.size a ≤ S2.size a := fun i v1 k0_hw33 k0_t1 k0_h2 => k0_hw33.2.2.2.1.2.2.2.2.2.2.2.2.2.2.2.2.2.2.2.2.2.2.2.2.2.2.1 k0_t1 k0_h2
theorem k0_off184_inb : ∀ (i : grid0.Coords) (v1 : BitVec 32) (k0_hw33 : k0_chk33 i v1) (k0_t1 : Fin (k0_t1_loop v1).trips), ∀ (k0_h2 : k0_cond2 v1 k0_t1 = 1#1), ∀ a, (k0_off184 v1 k0_t1) a + S1x1x16x656.size a ≤ S2x32x16x656.size a := fun i v1 k0_hw33 k0_t1 k0_h2 => k0_hw33.2.2.2.1.2.2.2.2.2.2.2.2.2.2.2.2.2.2.2.2.2.2.2.2.2.2.2.1 k0_t1 k0_h2
theorem k0_off184_wordsi8 : ∀ (i : grid0.Coords) (v1 : BitVec 32) (k0_hw33 : k0_chk33 i v1) (k0_t1 : Fin (k0_t1_loop v1).trips), ∀ (k0_h2 : k0_cond2 v1 k0_t1 = 1#1), (Rect.unit (s := S2x32x16x656) (k0_off184 v1 k0_t1) S1x1x16x656.size (k0_off184_inb i v1 k0_hw33 k0_t1 k0_h2)).WholeWords (EltTy.packing .i8) := fun i v1 k0_hw33 k0_t1 k0_h2 => k0_hw33.2.2.2.1.2.2.2.2.2.2.2.2.2.2.2.2.2.2.2.2.2.2.2.2.2.2.2.2.1 k0_t1 k0_h2 (k0_off184_inb i v1 k0_hw33 k0_t1 k0_h2)
theorem k0_off186_inb : ∀ (i : grid0.Coords) (v1 : BitVec 32) (k0_hw33 : k0_chk33 i v1) (k0_t1 : Fin (k0_t1_loop v1).trips), ∀ (k0_h2 : k0_cond2 v1 k0_t1 = 1#1), ∀ a, (k0_off186 i v1 k0_t1) a + S1x1.size a ≤ S32x1024.size a := fun i v1 k0_hw33 k0_t1 k0_h2 => k0_hw33.2.2.2.1.2.2.2.2.2.2.2.2.2.2.2.2.2.2.2.2.2.2.2.2.2.2.2.2.2.1 k0_t1 k0_h2
theorem k0_off187_inb : ∀ (i : grid0.Coords) (v1 : BitVec 32) (k0_hw33 : k0_chk33 i v1) (k0_t1 : Fin (k0_t1_loop v1).trips), ∀ (k0_h2 : k0_cond2 v1 k0_t1 = 1#1), ∀ a, (k0_off187 v1 k0_t1) a + S1.size a ≤ S2.size a := fun i v1 k0_hw33 k0_t1 k0_h2 => k0_hw33.2.2.2.1.2.2.2.2.2.2.2.2.2.2.2.2.2.2.2.2.2.2.2.2.2.2.2.2.2.2.1 k0_t1 k0_h2
theorem k0_off188_inb : ∀ (i : grid0.Coords) (v1 : BitVec 32) (k0_hw33 : k0_chk33 i v1) (k0_t1 : Fin (k0_t1_loop v1).trips), ∀ (k0_h2 : k0_cond2 v1 k0_t1 = 1#1), ∀ a, (k0_off188 v1 k0_t1) a + S1x1x16x656.size a ≤ S2x32x16x656.size a := fun i v1 k0_hw33 k0_t1 k0_h2 => k0_hw33.2.2.2.1.2.2.2.2.2.2.2.2.2.2.2.2.2.2.2.2.2.2.2.2.2.2.2.2.2.2.2.1 k0_t1 k0_h2
theorem k0_off188_wordsi8 : ∀ (i : grid0.Coords) (v1 : BitVec 32) (k0_hw33 : k0_chk33 i v1) (k0_t1 : Fin (k0_t1_loop v1).trips), ∀ (k0_h2 : k0_cond2 v1 k0_t1 = 1#1), (Rect.unit (s := S2x32x16x656) (k0_off188 v1 k0_t1) S1x1x16x656.size (k0_off188_inb i v1 k0_hw33 k0_t1 k0_h2)).WholeWords (EltTy.packing .i8) := fun i v1 k0_hw33 k0_t1 k0_h2 => k0_hw33.2.2.2.1.2.2.2.2.2.2.2.2.2.2.2.2.2.2.2.2.2.2.2.2.2.2.2.2.2.2.2.2.1 k0_t1 k0_h2 (k0_off188_inb i v1 k0_hw33 k0_t1 k0_h2)
theorem k0_off190_inb : ∀ (i : grid0.Coords) (v1 : BitVec 32) (k0_hw33 : k0_chk33 i v1) (k0_t1 : Fin (k0_t1_loop v1).trips), ∀ (k0_h2 : k0_cond2 v1 k0_t1 = 1#1), ∀ a, (k0_off190 i v1 k0_t1) a + S1x1.size a ≤ S32x1024.size a := fun i v1 k0_hw33 k0_t1 k0_h2 => k0_hw33.2.2.2.1.2.2.2.2.2.2.2.2.2.2.2.2.2.2.2.2.2.2.2.2.2.2.2.2.2.2.2.2.2.1 k0_t1 k0_h2
theorem k0_off191_inb : ∀ (i : grid0.Coords) (v1 : BitVec 32) (k0_hw33 : k0_chk33 i v1) (k0_t1 : Fin (k0_t1_loop v1).trips), ∀ (k0_h2 : k0_cond2 v1 k0_t1 = 1#1), ∀ a, (k0_off191 v1 k0_t1) a + S1.size a ≤ S2.size a := fun i v1 k0_hw33 k0_t1 k0_h2 => k0_hw33.2.2.2.1.2.2.2.2.2.2.2.2.2.2.2.2.2.2.2.2.2.2.2.2.2.2.2.2.2.2.2.2.2.2.1 k0_t1 k0_h2
theorem k0_off192_inb : ∀ (i : grid0.Coords) (v1 : BitVec 32) (k0_hw33 : k0_chk33 i v1) (k0_t1 : Fin (k0_t1_loop v1).trips), ∀ (k0_h2 : k0_cond2 v1 k0_t1 = 1#1), ∀ a, (k0_off192 v1 k0_t1) a + S1x1x16x656.size a ≤ S2x32x16x656.size a := fun i v1 k0_hw33 k0_t1 k0_h2 => k0_hw33.2.2.2.1.2.2.2.2.2.2.2.2.2.2.2.2.2.2.2.2.2.2.2.2.2.2.2.2.2.2.2.2.2.2.2 k0_t1 k0_h2
theorem k0_off192_wordsi8 : ∀ (i : grid0.Coords) (v1 : BitVec 32) (k0_hw33 : k0_chk33 i v1) (k0_t1 : Fin (k0_t1_loop v1).trips), ∀ (k0_h2 : k0_cond2 v1 k0_t1 = 1#1), (Rect.unit (s := S2x32x16x656) (k0_off192 v1 k0_t1) S1x1x16x656.size (k0_off192_inb i v1 k0_hw33 k0_t1 k0_h2)).WholeWords (EltTy.packing .i8) := fun i v1 k0_hw33 k0_t1 k0_h2 => k0_hw33.2.2.2.2.1.1 k0_t1 k0_h2 (k0_off192_inb i v1 k0_hw33 k0_t1 k0_h2)
theorem k0_off194_inb : ∀ (i : grid0.Coords) (v1 : BitVec 32) (k0_hw33 : k0_chk33 i v1) (k0_t1 : Fin (k0_t1_loop v1).trips), ∀ a, (k0_off194 v1 k0_t1) a + S1.size a ≤ S2.size a := fun i v1 k0_hw33 k0_t1 => k0_hw33.2.2.2.2.1.2.1 k0_t1
theorem k0_off195_inb : ∀ (i : grid0.Coords) (v1 : BitVec 32) (k0_hw33 : k0_chk33 i v1) (k0_t1 : Fin (k0_t1_loop v1).trips), ∀ a, (k0_off195 v1 k0_t1) a + S1x1x16x656.size a ≤ S2x32x16x656.size a := fun i v1 k0_hw33 k0_t1 => k0_hw33.2.2.2.2.1.2.2.1 k0_t1
theorem k0_off195_wordsi8 : ∀ (i : grid0.Coords) (v1 : BitVec 32) (k0_hw33 : k0_chk33 i v1) (k0_t1 : Fin (k0_t1_loop v1).trips), (Rect.unit (s := S2x32x16x656) (k0_off195 v1 k0_t1) S1x1x16x656.size (k0_off195_inb i v1 k0_hw33 k0_t1)).WholeWords (EltTy.packing .i8) := fun i v1 k0_hw33 k0_t1 => k0_hw33.2.2.2.2.1.2.2.2.1 k0_t1 (k0_off195_inb i v1 k0_hw33 k0_t1)
theorem k0_off196_inb : ∀ (i : grid0.Coords) (v1 : BitVec 32) (k0_hw33 : k0_chk33 i v1) (k0_t1 : Fin (k0_t1_loop v1).trips), ∀ a, (k0_off196 v1 k0_t1) a + S1x1x16x656.size a ≤ S2x32x16x656.size a := fun i v1 k0_hw33 k0_t1 => k0_hw33.2.2.2.2.1.2.2.2.2.1 k0_t1
theorem k0_off196_wordsi8 : ∀ (i : grid0.Coords) (v1 : BitVec 32) (k0_hw33 : k0_chk33 i v1) (k0_t1 : Fin (k0_t1_loop v1).trips), (Rect.unit (s := S2x32x16x656) (k0_off196 v1 k0_t1) S1x1x16x656.size (k0_off196_inb i v1 k0_hw33 k0_t1)).WholeWords (EltTy.packing .i8) := fun i v1 k0_hw33 k0_t1 => k0_hw33.2.2.2.2.1.2.2.2.2.2.1 k0_t1 (k0_off196_inb i v1 k0_hw33 k0_t1)
theorem k0_off197_inb : ∀ (i : grid0.Coords) (v1 : BitVec 32) (k0_hw33 : k0_chk33 i v1) (k0_t1 : Fin (k0_t1_loop v1).trips), ∀ a, (k0_off197 v1 k0_t1) a + S1x1x16x656.size a ≤ S2x32x16x656.size a := fun i v1 k0_hw33 k0_t1 => k0_hw33.2.2.2.2.1.2.2.2.2.2.2.1 k0_t1
theorem k0_off197_wordsi8 : ∀ (i : grid0.Coords) (v1 : BitVec 32) (k0_hw33 : k0_chk33 i v1) (k0_t1 : Fin (k0_t1_loop v1).trips), (Rect.unit (s := S2x32x16x656) (k0_off197 v1 k0_t1) S1x1x16x656.size (k0_off197_inb i v1 k0_hw33 k0_t1)).WholeWords (EltTy.packing .i8) := fun i v1 k0_hw33 k0_t1 => k0_hw33.2.2.2.2.1.2.2.2.2.2.2.2.1 k0_t1 (k0_off197_inb i v1 k0_hw33 k0_t1)
theorem k0_off198_inb : ∀ (i : grid0.Coords) (v1 : BitVec 32) (k0_hw33 : k0_chk33 i v1) (k0_t1 : Fin (k0_t1_loop v1).trips), ∀ a, (k0_off198 v1 k0_t1) a + S1x1x16x656.size a ≤ S2x32x16x656.size a := fun i v1 k0_hw33 k0_t1 => k0_hw33.2.2.2.2.1.2.2.2.2.2.2.2.2.1 k0_t1
theorem k0_off198_wordsi8 : ∀ (i : grid0.Coords) (v1 : BitVec 32) (k0_hw33 : k0_chk33 i v1) (k0_t1 : Fin (k0_t1_loop v1).trips), (Rect.unit (s := S2x32x16x656) (k0_off198 v1 k0_t1) S1x1x16x656.size (k0_off198_inb i v1 k0_hw33 k0_t1)).WholeWords (EltTy.packing .i8) := fun i v1 k0_hw33 k0_t1 => k0_hw33.2.2.2.2.1.2.2.2.2.2.2.2.2.2.1 k0_t1 (k0_off198_inb i v1 k0_hw33 k0_t1)
theorem k0_off199_inb : ∀ (i : grid0.Coords) (v1 : BitVec 32) (k0_hw33 : k0_chk33 i v1) (k0_t1 : Fin (k0_t1_loop v1).trips), ∀ a, (k0_off199 v1 k0_t1) a + S1x1x16x656.size a ≤ S2x32x16x656.size a := fun i v1 k0_hw33 k0_t1 => k0_hw33.2.2.2.2.1.2.2.2.2.2.2.2.2.2.2.1 k0_t1
theorem k0_off199_wordsi8 : ∀ (i : grid0.Coords) (v1 : BitVec 32) (k0_hw33 : k0_chk33 i v1) (k0_t1 : Fin (k0_t1_loop v1).trips), (Rect.unit (s := S2x32x16x656) (k0_off199 v1 k0_t1) S1x1x16x656.size (k0_off199_inb i v1 k0_hw33 k0_t1)).WholeWords (EltTy.packing .i8) := fun i v1 k0_hw33 k0_t1 => k0_hw33.2.2.2.2.1.2.2.2.2.2.2.2.2.2.2.2.1 k0_t1 (k0_off199_inb i v1 k0_hw33 k0_t1)
theorem k0_off200_inb : ∀ (i : grid0.Coords) (v1 : BitVec 32) (k0_hw33 : k0_chk33 i v1) (k0_t1 : Fin (k0_t1_loop v1).trips), ∀ a, (k0_off200 v1 k0_t1) a + S1x1x16x656.size a ≤ S2x32x16x656.size a := fun i v1 k0_hw33 k0_t1 => k0_hw33.2.2.2.2.1.2.2.2.2.2.2.2.2.2.2.2.2.1 k0_t1
theorem k0_off200_wordsi8 : ∀ (i : grid0.Coords) (v1 : BitVec 32) (k0_hw33 : k0_chk33 i v1) (k0_t1 : Fin (k0_t1_loop v1).trips), (Rect.unit (s := S2x32x16x656) (k0_off200 v1 k0_t1) S1x1x16x656.size (k0_off200_inb i v1 k0_hw33 k0_t1)).WholeWords (EltTy.packing .i8) := fun i v1 k0_hw33 k0_t1 => k0_hw33.2.2.2.2.1.2.2.2.2.2.2.2.2.2.2.2.2.2.1 k0_t1 (k0_off200_inb i v1 k0_hw33 k0_t1)
theorem k0_off201_inb : ∀ (i : grid0.Coords) (v1 : BitVec 32) (k0_hw33 : k0_chk33 i v1) (k0_t1 : Fin (k0_t1_loop v1).trips), ∀ a, (k0_off201 v1 k0_t1) a + S1x1x16x656.size a ≤ S2x32x16x656.size a := fun i v1 k0_hw33 k0_t1 => k0_hw33.2.2.2.2.1.2.2.2.2.2.2.2.2.2.2.2.2.2.2.1 k0_t1
theorem k0_off201_wordsi8 : ∀ (i : grid0.Coords) (v1 : BitVec 32) (k0_hw33 : k0_chk33 i v1) (k0_t1 : Fin (k0_t1_loop v1).trips), (Rect.unit (s := S2x32x16x656) (k0_off201 v1 k0_t1) S1x1x16x656.size (k0_off201_inb i v1 k0_hw33 k0_t1)).WholeWords (EltTy.packing .i8) := fun i v1 k0_hw33 k0_t1 => k0_hw33.2.2.2.2.1.2.2.2.2.2.2.2.2.2.2.2.2.2.2.2.1 k0_t1 (k0_off201_inb i v1 k0_hw33 k0_t1)
theorem k0_off202_inb : ∀ (i : grid0.Coords) (v1 : BitVec 32) (k0_hw33 : k0_chk33 i v1) (k0_t1 : Fin (k0_t1_loop v1).trips), ∀ a, (k0_off202 v1 k0_t1) a + S1x1x16x656.size a ≤ S2x32x16x656.size a := fun i v1 k0_hw33 k0_t1 => k0_hw33.2.2.2.2.1.2.2.2.2.2.2.2.2.2.2.2.2.2.2.2.2.1 k0_t1
theorem k0_off202_wordsi8 : ∀ (i : grid0.Coords) (v1 : BitVec 32) (k0_hw33 : k0_chk33 i v1) (k0_t1 : Fin (k0_t1_loop v1).trips), (Rect.unit (s := S2x32x16x656) (k0_off202 v1 k0_t1) S1x1x16x656.size (k0_off202_inb i v1 k0_hw33 k0_t1)).WholeWords (EltTy.packing .i8) := fun i v1 k0_hw33 k0_t1 => k0_hw33.2.2.2.2.1.2.2.2.2.2.2.2.2.2.2.2.2.2.2.2.2.2.1 k0_t1 (k0_off202_inb i v1 k0_hw33 k0_t1)
theorem k0_off203_inb : ∀ (i : grid0.Coords) (v1 : BitVec 32) (k0_hw33 : k0_chk33 i v1) (k0_t1 : Fin (k0_t1_loop v1).trips), ∀ a, (k0_off203 v1 k0_t1) a + S1x1x16x656.size a ≤ S2x32x16x656.size a := fun i v1 k0_hw33 k0_t1 => k0_hw33.2.2.2.2.1.2.2.2.2.2.2.2.2.2.2.2.2.2.2.2.2.2.2.1 k0_t1
theorem k0_off203_wordsi8 : ∀ (i : grid0.Coords) (v1 : BitVec 32) (k0_hw33 : k0_chk33 i v1) (k0_t1 : Fin (k0_t1_loop v1).trips), (Rect.unit (s := S2x32x16x656) (k0_off203 v1 k0_t1) S1x1x16x656.size (k0_off203_inb i v1 k0_hw33 k0_t1)).WholeWords (EltTy.packing .i8) := fun i v1 k0_hw33 k0_t1 => k0_hw33.2.2.2.2.1.2.2.2.2.2.2.2.2.2.2.2.2.2.2.2.2.2.2.2.1 k0_t1 (k0_off203_inb i v1 k0_hw33 k0_t1)
theorem k0_off204_inb : ∀ (i : grid0.Coords) (v1 : BitVec 32) (k0_hw33 : k0_chk33 i v1) (k0_t1 : Fin (k0_t1_loop v1).trips), ∀ a, (k0_off204 v1 k0_t1) a + S1x1x16x656.size a ≤ S2x32x16x656.size a := fun i v1 k0_hw33 k0_t1 => k0_hw33.2.2.2.2.1.2.2.2.2.2.2.2.2.2.2.2.2.2.2.2.2.2.2.2.2.1 k0_t1
theorem k0_off204_wordsi8 : ∀ (i : grid0.Coords) (v1 : BitVec 32) (k0_hw33 : k0_chk33 i v1) (k0_t1 : Fin (k0_t1_loop v1).trips), (Rect.unit (s := S2x32x16x656) (k0_off204 v1 k0_t1) S1x1x16x656.size (k0_off204_inb i v1 k0_hw33 k0_t1)).WholeWords (EltTy.packing .i8) := fun i v1 k0_hw33 k0_t1 => k0_hw33.2.2.2.2.1.2.2.2.2.2.2.2.2.2.2.2.2.2.2.2.2.2.2.2.2.2.1 k0_t1 (k0_off204_inb i v1 k0_hw33 k0_t1)
theorem k0_off205_inb : ∀ (i : grid0.Coords) (v1 : BitVec 32) (k0_hw33 : k0_chk33 i v1) (k0_t1 : Fin (k0_t1_loop v1).trips), ∀ a, (k0_off205 v1 k0_t1) a + S1x1x16x656.size a ≤ S2x32x16x656.size a := fun i v1 k0_hw33 k0_t1 => k0_hw33.2.2.2.2.1.2.2.2.2.2.2.2.2.2.2.2.2.2.2.2.2.2.2.2.2.2.2.1 k0_t1
theorem k0_off205_wordsi8 : ∀ (i : grid0.Coords) (v1 : BitVec 32) (k0_hw33 : k0_chk33 i v1) (k0_t1 : Fin (k0_t1_loop v1).trips), (Rect.unit (s := S2x32x16x656) (k0_off205 v1 k0_t1) S1x1x16x656.size (k0_off205_inb i v1 k0_hw33 k0_t1)).WholeWords (EltTy.packing .i8) := fun i v1 k0_hw33 k0_t1 => k0_hw33.2.2.2.2.1.2.2.2.2.2.2.2.2.2.2.2.2.2.2.2.2.2.2.2.2.2.2.2.1 k0_t1 (k0_off205_inb i v1 k0_hw33 k0_t1)
theorem k0_off206_inb : ∀ (i : grid0.Coords) (v1 : BitVec 32) (k0_hw33 : k0_chk33 i v1) (k0_t1 : Fin (k0_t1_loop v1).trips), ∀ a, (k0_off206 v1 k0_t1) a + S1x1x16x656.size a ≤ S2x32x16x656.size a := fun i v1 k0_hw33 k0_t1 => k0_hw33.2.2.2.2.1.2.2.2.2.2.2.2.2.2.2.2.2.2.2.2.2.2.2.2.2.2.2.2.2.1 k0_t1
theorem k0_off206_wordsi8 : ∀ (i : grid0.Coords) (v1 : BitVec 32) (k0_hw33 : k0_chk33 i v1) (k0_t1 : Fin (k0_t1_loop v1).trips), (Rect.unit (s := S2x32x16x656) (k0_off206 v1 k0_t1) S1x1x16x656.size (k0_off206_inb i v1 k0_hw33 k0_t1)).WholeWords (EltTy.packing .i8) := fun i v1 k0_hw33 k0_t1 => k0_hw33.2.2.2.2.1.2.2.2.2.2.2.2.2.2.2.2.2.2.2.2.2.2.2.2.2.2.2.2.2.2.1 k0_t1 (k0_off206_inb i v1 k0_hw33 k0_t1)
theorem k0_off207_inb : ∀ (i : grid0.Coords) (v1 : BitVec 32) (k0_hw33 : k0_chk33 i v1) (k0_t1 : Fin (k0_t1_loop v1).trips), ∀ a, (k0_off207 v1 k0_t1) a + S1x1x16x656.size a ≤ S2x32x16x656.size a := fun i v1 k0_hw33 k0_t1 => k0_hw33.2.2.2.2.1.2.2.2.2.2.2.2.2.2.2.2.2.2.2.2.2.2.2.2.2.2.2.2.2.2.2.1 k0_t1
theorem k0_off207_wordsi8 : ∀ (i : grid0.Coords) (v1 : BitVec 32) (k0_hw33 : k0_chk33 i v1) (k0_t1 : Fin (k0_t1_loop v1).trips), (Rect.unit (s := S2x32x16x656) (k0_off207 v1 k0_t1) S1x1x16x656.size (k0_off207_inb i v1 k0_hw33 k0_t1)).WholeWords (EltTy.packing .i8) := fun i v1 k0_hw33 k0_t1 => k0_hw33.2.2.2.2.1.2.2.2.2.2.2.2.2.2.2.2.2.2.2.2.2.2.2.2.2.2.2.2.2.2.2.2.1 k0_t1 (k0_off207_inb i v1 k0_hw33 k0_t1)
theorem k0_off208_inb : ∀ (i : grid0.Coords) (v1 : BitVec 32) (k0_hw33 : k0_chk33 i v1) (k0_t1 : Fin (k0_t1_loop v1).trips), ∀ a, (k0_off208 v1 k0_t1) a + S1x1x16x656.size a ≤ S2x32x16x656.size a := fun i v1 k0_hw33 k0_t1 => k0_hw33.2.2.2.2.1.2.2.2.2.2.2.2.2.2.2.2.2.2.2.2.2.2.2.2.2.2.2.2.2.2.2.2.2.1 k0_t1
theorem k0_off208_wordsi8 : ∀ (i : grid0.Coords) (v1 : BitVec 32) (k0_hw33 : k0_chk33 i v1) (k0_t1 : Fin (k0_t1_loop v1).trips), (Rect.unit (s := S2x32x16x656) (k0_off208 v1 k0_t1) S1x1x16x656.size (k0_off208_inb i v1 k0_hw33 k0_t1)).WholeWords (EltTy.packing .i8) := fun i v1 k0_hw33 k0_t1 => k0_hw33.2.2.2.2.1.2.2.2.2.2.2.2.2.2.2.2.2.2.2.2.2.2.2.2.2.2.2.2.2.2.2.2.2.2.1 k0_t1 (k0_off208_inb i v1 k0_hw33 k0_t1)
theorem k0_off209_inb : ∀ (i : grid0.Coords) (v1 : BitVec 32) (k0_hw33 : k0_chk33 i v1) (k0_t1 : Fin (k0_t1_loop v1).trips), ∀ a, (k0_off209 v1 k0_t1) a + S1x1x16x656.size a ≤ S2x32x16x656.size a := fun i v1 k0_hw33 k0_t1 => k0_hw33.2.2.2.2.1.2.2.2.2.2.2.2.2.2.2.2.2.2.2.2.2.2.2.2.2.2.2.2.2.2.2.2.2.2.2.1 k0_t1
theorem k0_off209_wordsi8 : ∀ (i : grid0.Coords) (v1 : BitVec 32) (k0_hw33 : k0_chk33 i v1) (k0_t1 : Fin (k0_t1_loop v1).trips), (Rect.unit (s := S2x32x16x656) (k0_off209 v1 k0_t1) S1x1x16x656.size (k0_off209_inb i v1 k0_hw33 k0_t1)).WholeWords (EltTy.packing .i8) := fun i v1 k0_hw33 k0_t1 => k0_hw33.2.2.2.2.1.2.2.2.2.2.2.2.2.2.2.2.2.2.2.2.2.2.2.2.2.2.2.2.2.2.2.2.2.2.2.2 k0_t1 (k0_off209_inb i v1 k0_hw33 k0_t1)
theorem k0_off210_inb : ∀ (i : grid0.Coords) (v1 : BitVec 32) (k0_hw33 : k0_chk33 i v1) (k0_t1 : Fin (k0_t1_loop v1).trips), ∀ a, (k0_off210 v1 k0_t1) a + S1x1x16x656.size a ≤ S2x32x16x656.size a := fun i v1 k0_hw33 k0_t1 => k0_hw33.2.2.2.2.2.1.1 k0_t1
theorem k0_off210_wordsi8 : ∀ (i : grid0.Coords) (v1 : BitVec 32) (k0_hw33 : k0_chk33 i v1) (k0_t1 : Fin (k0_t1_loop v1).trips), (Rect.unit (s := S2x32x16x656) (k0_off210 v1 k0_t1) S1x1x16x656.size (k0_off210_inb i v1 k0_hw33 k0_t1)).WholeWords (EltTy.packing .i8) := fun i v1 k0_hw33 k0_t1 => k0_hw33.2.2.2.2.2.1.2.1 k0_t1 (k0_off210_inb i v1 k0_hw33 k0_t1)
theorem k0_off211_inb : ∀ (i : grid0.Coords) (v1 : BitVec 32) (k0_hw33 : k0_chk33 i v1) (k0_t1 : Fin (k0_t1_loop v1).trips), ∀ a, (k0_off211 v1 k0_t1) a + S1x1x16x656.size a ≤ S2x32x16x656.size a := fun i v1 k0_hw33 k0_t1 => k0_hw33.2.2.2.2.2.1.2.2.1 k0_t1
theorem k0_off211_wordsi8 : ∀ (i : grid0.Coords) (v1 : BitVec 32) (k0_hw33 : k0_chk33 i v1) (k0_t1 : Fin (k0_t1_loop v1).trips), (Rect.unit (s := S2x32x16x656) (k0_off211 v1 k0_t1) S1x1x16x656.size (k0_off211_inb i v1 k0_hw33 k0_t1)).WholeWords (EltTy.packing .i8) := fun i v1 k0_hw33 k0_t1 => k0_hw33.2.2.2.2.2.1.2.2.2.1 k0_t1 (k0_off211_inb i v1 k0_hw33 k0_t1)
theorem k0_off212_inb : ∀ (i : grid0.Coords) (v1 : BitVec 32) (k0_hw33 : k0_chk33 i v1) (k0_t1 : Fin (k0_t1_loop v1).trips), ∀ a, (k0_off212 v1 k0_t1) a + S1x1x16x656.size a ≤ S2x32x16x656.size a := fun i v1 k0_hw33 k0_t1 => k0_hw33.2.2.2.2.2.1.2.2.2.2.1 k0_t1
theorem k0_off212_wordsi8 : ∀ (i : grid0.Coords) (v1 : BitVec 32) (k0_hw33 : k0_chk33 i v1) (k0_t1 : Fin (k0_t1_loop v1).trips), (Rect.unit (s := S2x32x16x656) (k0_off212 v1 k0_t1) S1x1x16x656.size (k0_off212_inb i v1 k0_hw33 k0_t1)).WholeWords (EltTy.packing .i8) := fun i v1 k0_hw33 k0_t1 => k0_hw33.2.2.2.2.2.1.2.2.2.2.2.1 k0_t1 (k0_off212_inb i v1 k0_hw33 k0_t1)
theorem k0_off213_inb : ∀ (i : grid0.Coords) (v1 : BitVec 32) (k0_hw33 : k0_chk33 i v1) (k0_t1 : Fin (k0_t1_loop v1).trips), ∀ a, (k0_off213 v1 k0_t1) a + S1x1x16x656.size a ≤ S2x32x16x656.size a := fun i v1 k0_hw33 k0_t1 => k0_hw33.2.2.2.2.2.1.2.2.2.2.2.2.1 k0_t1
theorem k0_off213_wordsi8 : ∀ (i : grid0.Coords) (v1 : BitVec 32) (k0_hw33 : k0_chk33 i v1) (k0_t1 : Fin (k0_t1_loop v1).trips), (Rect.unit (s := S2x32x16x656) (k0_off213 v1 k0_t1) S1x1x16x656.size (k0_off213_inb i v1 k0_hw33 k0_t1)).WholeWords (EltTy.packing .i8) := fun i v1 k0_hw33 k0_t1 => k0_hw33.2.2.2.2.2.1.2.2.2.2.2.2.2.1 k0_t1 (k0_off213_inb i v1 k0_hw33 k0_t1)
theorem k0_off214_inb : ∀ (i : grid0.Coords) (v1 : BitVec 32) (k0_hw33 : k0_chk33 i v1) (k0_t1 : Fin (k0_t1_loop v1).trips), ∀ a, (k0_off214 v1 k0_t1) a + S1x1x16x656.size a ≤ S2x32x16x656.size a := fun i v1 k0_hw33 k0_t1 => k0_hw33.2.2.2.2.2.1.2.2.2.2.2.2.2.2.1 k0_t1
theorem k0_off214_wordsi8 : ∀ (i : grid0.Coords) (v1 : BitVec 32) (k0_hw33 : k0_chk33 i v1) (k0_t1 : Fin (k0_t1_loop v1).trips), (Rect.unit (s := S2x32x16x656) (k0_off214 v1 k0_t1) S1x1x16x656.size (k0_off214_inb i v1 k0_hw33 k0_t1)).WholeWords (EltTy.packing .i8) := fun i v1 k0_hw33 k0_t1 => k0_hw33.2.2.2.2.2.1.2.2.2.2.2.2.2.2.2.1 k0_t1 (k0_off214_inb i v1 k0_hw33 k0_t1)
theorem k0_off215_inb : ∀ (i : grid0.Coords) (v1 : BitVec 32) (k0_hw33 : k0_chk33 i v1) (k0_t1 : Fin (k0_t1_loop v1).trips), ∀ a, (k0_off215 v1 k0_t1) a + S1x1x16x656.size a ≤ S2x32x16x656.size a := fun i v1 k0_hw33 k0_t1 => k0_hw33.2.2.2.2.2.1.2.2.2.2.2.2.2.2.2.2.1 k0_t1
theorem k0_off215_wordsi8 : ∀ (i : grid0.Coords) (v1 : BitVec 32) (k0_hw33 : k0_chk33 i v1) (k0_t1 : Fin (k0_t1_loop v1).trips), (Rect.unit (s := S2x32x16x656) (k0_off215 v1 k0_t1) S1x1x16x656.size (k0_off215_inb i v1 k0_hw33 k0_t1)).WholeWords (EltTy.packing .i8) := fun i v1 k0_hw33 k0_t1 => k0_hw33.2.2.2.2.2.1.2.2.2.2.2.2.2.2.2.2.2.1 k0_t1 (k0_off215_inb i v1 k0_hw33 k0_t1)
theorem k0_off216_inb : ∀ (i : grid0.Coords) (v1 : BitVec 32) (k0_hw33 : k0_chk33 i v1) (k0_t1 : Fin (k0_t1_loop v1).trips), ∀ a, (k0_off216 v1 k0_t1) a + S1x1x16x656.size a ≤ S2x32x16x656.size a := fun i v1 k0_hw33 k0_t1 => k0_hw33.2.2.2.2.2.1.2.2.2.2.2.2.2.2.2.2.2.2.1 k0_t1
theorem k0_off216_wordsi8 : ∀ (i : grid0.Coords) (v1 : BitVec 32) (k0_hw33 : k0_chk33 i v1) (k0_t1 : Fin (k0_t1_loop v1).trips), (Rect.unit (s := S2x32x16x656) (k0_off216 v1 k0_t1) S1x1x16x656.size (k0_off216_inb i v1 k0_hw33 k0_t1)).WholeWords (EltTy.packing .i8) := fun i v1 k0_hw33 k0_t1 => k0_hw33.2.2.2.2.2.1.2.2.2.2.2.2.2.2.2.2.2.2.2.1 k0_t1 (k0_off216_inb i v1 k0_hw33 k0_t1)
theorem k0_off217_inb : ∀ (i : grid0.Coords) (v1 : BitVec 32) (k0_hw33 : k0_chk33 i v1) (k0_t1 : Fin (k0_t1_loop v1).trips), ∀ a, (k0_off217 v1 k0_t1) a + S1x1x16x656.size a ≤ S2x32x16x656.size a := fun i v1 k0_hw33 k0_t1 => k0_hw33.2.2.2.2.2.1.2.2.2.2.2.2.2.2.2.2.2.2.2.2.1 k0_t1
theorem k0_off217_wordsi8 : ∀ (i : grid0.Coords) (v1 : BitVec 32) (k0_hw33 : k0_chk33 i v1) (k0_t1 : Fin (k0_t1_loop v1).trips), (Rect.unit (s := S2x32x16x656) (k0_off217 v1 k0_t1) S1x1x16x656.size (k0_off217_inb i v1 k0_hw33 k0_t1)).WholeWords (EltTy.packing .i8) := fun i v1 k0_hw33 k0_t1 => k0_hw33.2.2.2.2.2.1.2.2.2.2.2.2.2.2.2.2.2.2.2.2.2.1 k0_t1 (k0_off217_inb i v1 k0_hw33 k0_t1)
theorem k0_off218_inb : ∀ (i : grid0.Coords) (v1 : BitVec 32) (k0_hw33 : k0_chk33 i v1) (k0_t1 : Fin (k0_t1_loop v1).trips), ∀ a, (k0_off218 v1 k0_t1) a + S1x1x16x656.size a ≤ S2x32x16x656.size a := fun i v1 k0_hw33 k0_t1 => k0_hw33.2.2.2.2.2.1.2.2.2.2.2.2.2.2.2.2.2.2.2.2.2.2.1 k0_t1
theorem k0_off218_wordsi8 : ∀ (i : grid0.Coords) (v1 : BitVec 32) (k0_hw33 : k0_chk33 i v1) (k0_t1 : Fin (k0_t1_loop v1).trips), (Rect.unit (s := S2x32x16x656) (k0_off218 v1 k0_t1) S1x1x16x656.size (k0_off218_inb i v1 k0_hw33 k0_t1)).WholeWords (EltTy.packing .i8) := fun i v1 k0_hw33 k0_t1 => k0_hw33.2.2.2.2.2.1.2.2.2.2.2.2.2.2.2.2.2.2.2.2.2.2.2.1 k0_t1 (k0_off218_inb i v1 k0_hw33 k0_t1)
theorem k0_off219_inb : ∀ (i : grid0.Coords) (v1 : BitVec 32) (k0_hw33 : k0_chk33 i v1) (k0_t1 : Fin (k0_t1_loop v1).trips), ∀ a, (k0_off219 v1 k0_t1) a + S1x1x16x656.size a ≤ S2x32x16x656.size a := fun i v1 k0_hw33 k0_t1 => k0_hw33.2.2.2.2.2.1.2.2.2.2.2.2.2.2.2.2.2.2.2.2.2.2.2.2.1 k0_t1
theorem k0_off219_wordsi8 : ∀ (i : grid0.Coords) (v1 : BitVec 32) (k0_hw33 : k0_chk33 i v1) (k0_t1 : Fin (k0_t1_loop v1).trips), (Rect.unit (s := S2x32x16x656) (k0_off219 v1 k0_t1) S1x1x16x656.size (k0_off219_inb i v1 k0_hw33 k0_t1)).WholeWords (EltTy.packing .i8) := fun i v1 k0_hw33 k0_t1 => k0_hw33.2.2.2.2.2.1.2.2.2.2.2.2.2.2.2.2.2.2.2.2.2.2.2.2.2.1 k0_t1 (k0_off219_inb i v1 k0_hw33 k0_t1)
theorem k0_off220_inb : ∀ (i : grid0.Coords) (v1 : BitVec 32) (k0_hw33 : k0_chk33 i v1) (k0_t1 : Fin (k0_t1_loop v1).trips), ∀ a, (k0_off220 v1 k0_t1) a + S1x1x16x656.size a ≤ S2x32x16x656.size a := fun i v1 k0_hw33 k0_t1 => k0_hw33.2.2.2.2.2.1.2.2.2.2.2.2.2.2.2.2.2.2.2.2.2.2.2.2.2.2.1 k0_t1
theorem k0_off220_wordsi8 : ∀ (i : grid0.Coords) (v1 : BitVec 32) (k0_hw33 : k0_chk33 i v1) (k0_t1 : Fin (k0_t1_loop v1).trips), (Rect.unit (s := S2x32x16x656) (k0_off220 v1 k0_t1) S1x1x16x656.size (k0_off220_inb i v1 k0_hw33 k0_t1)).WholeWords (EltTy.packing .i8) := fun i v1 k0_hw33 k0_t1 => k0_hw33.2.2.2.2.2.1.2.2.2.2.2.2.2.2.2.2.2.2.2.2.2.2.2.2.2.2.2.1 k0_t1 (k0_off220_inb i v1 k0_hw33 k0_t1)
theorem k0_off221_inb : ∀ (i : grid0.Coords) (v1 : BitVec 32) (k0_hw33 : k0_chk33 i v1) (k0_t1 : Fin (k0_t1_loop v1).trips), ∀ a, (k0_off221 v1 k0_t1) a + S1x1x16x656.size a ≤ S2x32x16x656.size a := fun i v1 k0_hw33 k0_t1 => k0_hw33.2.2.2.2.2.1.2.2.2.2.2.2.2.2.2.2.2.2.2.2.2.2.2.2.2.2.2.2.1 k0_t1
theorem k0_off221_wordsi8 : ∀ (i : grid0.Coords) (v1 : BitVec 32) (k0_hw33 : k0_chk33 i v1) (k0_t1 : Fin (k0_t1_loop v1).trips), (Rect.unit (s := S2x32x16x656) (k0_off221 v1 k0_t1) S1x1x16x656.size (k0_off221_inb i v1 k0_hw33 k0_t1)).WholeWords (EltTy.packing .i8) := fun i v1 k0_hw33 k0_t1 => k0_hw33.2.2.2.2.2.1.2.2.2.2.2.2.2.2.2.2.2.2.2.2.2.2.2.2.2.2.2.2.2.1 k0_t1 (k0_off221_inb i v1 k0_hw33 k0_t1)
theorem k0_off222_inb : ∀ (i : grid0.Coords) (v1 : BitVec 32) (k0_hw33 : k0_chk33 i v1) (k0_t1 : Fin (k0_t1_loop v1).trips), ∀ a, (k0_off222 v1 k0_t1) a + S1x1x16x656.size a ≤ S2x32x16x656.size a := fun i v1 k0_hw33 k0_t1 => k0_hw33.2.2.2.2.2.1.2.2.2.2.2.2.2.2.2.2.2.2.2.2.2.2.2.2.2.2.2.2.2.2.1 k0_t1
theorem k0_off222_wordsi8 : ∀ (i : grid0.Coords) (v1 : BitVec 32) (k0_hw33 : k0_chk33 i v1) (k0_t1 : Fin (k0_t1_loop v1).trips), (Rect.unit (s := S2x32x16x656) (k0_off222 v1 k0_t1) S1x1x16x656.size (k0_off222_inb i v1 k0_hw33 k0_t1)).WholeWords (EltTy.packing .i8) := fun i v1 k0_hw33 k0_t1 => k0_hw33.2.2.2.2.2.1.2.2.2.2.2.2.2.2.2.2.2.2.2.2.2.2.2.2.2.2.2.2.2.2.2.1 k0_t1 (k0_off222_inb i v1 k0_hw33 k0_t1)
theorem k0_off223_inb : ∀ (i : grid0.Coords) (v1 : BitVec 32) (k0_hw33 : k0_chk33 i v1) (k0_t1 : Fin (k0_t1_loop v1).trips), ∀ a, (k0_off223 v1 k0_t1) a + S1x1x16x656.size a ≤ S2x32x16x656.size a := fun i v1 k0_hw33 k0_t1 => k0_hw33.2.2.2.2.2.1.2.2.2.2.2.2.2.2.2.2.2.2.2.2.2.2.2.2.2.2.2.2.2.2.2.2.1 k0_t1
theorem k0_off223_wordsi8 : ∀ (i : grid0.Coords) (v1 : BitVec 32) (k0_hw33 : k0_chk33 i v1) (k0_t1 : Fin (k0_t1_loop v1).trips), (Rect.unit (s := S2x32x16x656) (k0_off223 v1 k0_t1) S1x1x16x656.size (k0_off223_inb i v1 k0_hw33 k0_t1)).WholeWords (EltTy.packing .i8) := fun i v1 k0_hw33 k0_t1 => k0_hw33.2.2.2.2.2.1.2.2.2.2.2.2.2.2.2.2.2.2.2.2.2.2.2.2.2.2.2.2.2.2.2.2.2.1 k0_t1 (k0_off223_inb i v1 k0_hw33 k0_t1)
theorem k0_off224_inb : ∀ (i : grid0.Coords) (v1 : BitVec 32) (k0_hw33 : k0_chk33 i v1) (k0_t1 : Fin (k0_t1_loop v1).trips), ∀ a, (k0_off224 v1 k0_t1) a + S1x1x16x656.size a ≤ S2x32x16x656.size a := fun i v1 k0_hw33 k0_t1 => k0_hw33.2.2.2.2.2.1.2.2.2.2.2.2.2.2.2.2.2.2.2.2.2.2.2.2.2.2.2.2.2.2.2.2.2.2.1 k0_t1
theorem k0_off224_wordsi8 : ∀ (i : grid0.Coords) (v1 : BitVec 32) (k0_hw33 : k0_chk33 i v1) (k0_t1 : Fin (k0_t1_loop v1).trips), (Rect.unit (s := S2x32x16x656) (k0_off224 v1 k0_t1) S1x1x16x656.size (k0_off224_inb i v1 k0_hw33 k0_t1)).WholeWords (EltTy.packing .i8) := fun i v1 k0_hw33 k0_t1 => k0_hw33.2.2.2.2.2.1.2.2.2.2.2.2.2.2.2.2.2.2.2.2.2.2.2.2.2.2.2.2.2.2.2.2.2.2.2.1 k0_t1 (k0_off224_inb i v1 k0_hw33 k0_t1)
theorem k0_off225_inb : ∀ (i : grid0.Coords) (v1 : BitVec 32) (k0_hw33 : k0_chk33 i v1) (k0_t1 : Fin (k0_t1_loop v1).trips), ∀ a, (k0_off225 v1 k0_t1) a + S1x1x16x656.size a ≤ S2x32x16x656.size a := fun i v1 k0_hw33 k0_t1 => k0_hw33.2.2.2.2.2.1.2.2.2.2.2.2.2.2.2.2.2.2.2.2.2.2.2.2.2.2.2.2.2.2.2.2.2.2.2.2.1 k0_t1
theorem k0_off225_wordsi8 : ∀ (i : grid0.Coords) (v1 : BitVec 32) (k0_hw33 : k0_chk33 i v1) (k0_t1 : Fin (k0_t1_loop v1).trips), (Rect.unit (s := S2x32x16x656) (k0_off225 v1 k0_t1) S1x1x16x656.size (k0_off225_inb i v1 k0_hw33 k0_t1)).WholeWords (EltTy.packing .i8) := fun i v1 k0_hw33 k0_t1 => k0_hw33.2.2.2.2.2.1.2.2.2.2.2.2.2.2.2.2.2.2.2.2.2.2.2.2.2.2.2.2.2.2.2.2.2.2.2.2.2 k0_t1 (k0_off225_inb i v1 k0_hw33 k0_t1)
theorem k0_off226_inb : ∀ (i : grid0.Coords) (v1 : BitVec 32) (k0_hw33 : k0_chk33 i v1) (k0_t1 : Fin (k0_t1_loop v1).trips), ∀ a, (k0_off226 v1 k0_t1) a + S1x1x16x656.size a ≤ S2x32x16x656.size a := fun i v1 k0_hw33 k0_t1 => k0_hw33.2.2.2.2.2.2.1.1 k0_t1
theorem k0_off226_wordsi8 : ∀ (i : grid0.Coords) (v1 : BitVec 32) (k0_hw33 : k0_chk33 i v1) (k0_t1 : Fin (k0_t1_loop v1).trips), (Rect.unit (s := S2x32x16x656) (k0_off226 v1 k0_t1) S1x1x16x656.size (k0_off226_inb i v1 k0_hw33 k0_t1)).WholeWords (EltTy.packing .i8) := fun i v1 k0_hw33 k0_t1 => k0_hw33.2.2.2.2.2.2.1.2.1 k0_t1 (k0_off226_inb i v1 k0_hw33 k0_t1)
theorem k0_off227_inb : ∀ (i : grid0.Coords) (v1 : BitVec 32) (k0_hw33 : k0_chk33 i v1) (k0_t1 : Fin (k0_t1_loop v1).trips), ∀ a, (k0_off227 v1 k0_t1) a + S1x32x16x656.size a ≤ S2x32x16x656.size a := fun i v1 k0_hw33 k0_t1 => k0_hw33.2.2.2.2.2.2.1.2.2.1 k0_t1
theorem k0_t2_ok : ∀ (i : grid0.Coords) (v1 : BitVec 32) (k0_hw33 : k0_chk33 i v1), (k0_t2_loop v1).OK := fun i v1 k0_hw33 => k0_hw33.2.2.2.2.2.2.1.2.2.2.1
theorem k0_off228_inb : ∀ (i : grid0.Coords) (v1 : BitVec 32) (k0_hw33 : k0_chk33 i v1) (k0_t2 : Fin (k0_t2_loop v1).trips), ∀ (k0_h3 : k0_cond3 v1 k0_t2 = 1#1), ∀ a, (k0_off228 i v1 k0_t2) a + S1x1.size a ≤ S32x1024.size a := fun i v1 k0_hw33 k0_t2 k0_h3 => k0_hw33.2.2.2.2.2.2.1.2.2.2.2.1 k0_t2 k0_h3
theorem k0_off229_inb : ∀ (i : grid0.Coords) (v1 : BitVec 32) (k0_hw33 : k0_chk33 i v1) (k0_t2 : Fin (k0_t2_loop v1).trips), ∀ (k0_h3 : k0_cond3 v1 k0_t2 = 1#1), ∀ a, (k0_off229 v1 k0_t2) a + S1.size a ≤ S2.size a := fun i v1 k0_hw33 k0_t2 k0_h3 => k0_hw33.2.2.2.2.2.2.1.2.2.2.2.2.1 k0_t2 k0_h3
theorem k0_off230_inb : ∀ (i : grid0.Coords) (v1 : BitVec 32) (k0_hw33 : k0_chk33 i v1) (k0_t2 : Fin (k0_t2_loop v1).trips), ∀ (k0_h3 : k0_cond3 v1 k0_t2 = 1#1), ∀ a, (k0_off230 v1 k0_t2) a + S1x1x16x656.size a ≤ S2x32x16x656.size a := fun i v1 k0_hw33 k0_t2 k0_h3 => k0_hw33.2.2.2.2.2.2.1.2.2.2.2.2.2.1 k0_t2 k0_h3
theorem k0_off230_wordsi8 : ∀ (i : grid0.Coords) (v1 : BitVec 32) (k0_hw33 : k0_chk33 i v1) (k0_t2 : Fin (k0_t2_loop v1).trips), ∀ (k0_h3 : k0_cond3 v1 k0_t2 = 1#1), (Rect.unit (s := S2x32x16x656) (k0_off230 v1 k0_t2) S1x1x16x656.size (k0_off230_inb i v1 k0_hw33 k0_t2 k0_h3)).WholeWords (EltTy.packing .i8) := fun i v1 k0_hw33 k0_t2 k0_h3 => k0_hw33.2.2.2.2.2.2.1.2.2.2.2.2.2.2.1 k0_t2 k0_h3 (k0_off230_inb i v1 k0_hw33 k0_t2 k0_h3)
theorem k0_off232_inb : ∀ (i : grid0.Coords) (v1 : BitVec 32) (k0_hw33 : k0_chk33 i v1) (k0_t2 : Fin (k0_t2_loop v1).trips), ∀ (k0_h3 : k0_cond3 v1 k0_t2 = 1#1), ∀ a, (k0_off232 i v1 k0_t2) a + S1x1.size a ≤ S32x1024.size a := fun i v1 k0_hw33 k0_t2 k0_h3 => k0_hw33.2.2.2.2.2.2.1.2.2.2.2.2.2.2.2.1 k0_t2 k0_h3
theorem k0_off233_inb : ∀ (i : grid0.Coords) (v1 : BitVec 32) (k0_hw33 : k0_chk33 i v1) (k0_t2 : Fin (k0_t2_loop v1).trips), ∀ (k0_h3 : k0_cond3 v1 k0_t2 = 1#1), ∀ a, (k0_off233 v1 k0_t2) a + S1.size a ≤ S2.size a := fun i v1 k0_hw33 k0_t2 k0_h3 => k0_hw33.2.2.2.2.2.2.1.2.2.2.2.2.2.2.2.2.1 k0_t2 k0_h3
theorem k0_off234_inb : ∀ (i : grid0.Coords) (v1 : BitVec 32) (k0_hw33 : k0_chk33 i v1) (k0_t2 : Fin (k0_t2_loop v1).trips), ∀ (k0_h3 : k0_cond3 v1 k0_t2 = 1#1), ∀ a, (k0_off234 v1 k0_t2) a + S1x1x16x656.size a ≤ S2x32x16x656.size a := fun i v1 k0_hw33 k0_t2 k0_h3 => k0_hw33.2.2.2.2.2.2.1.2.2.2.2.2.2.2.2.2.2.1 k0_t2 k0_h3
theorem k0_off234_wordsi8 : ∀ (i : grid0.Coords) (v1 : BitVec 32) (k0_hw33 : k0_chk33 i v1) (k0_t2 : Fin (k0_t2_loop v1).trips), ∀ (k0_h3 : k0_cond3 v1 k0_t2 = 1#1), (Rect.unit (s := S2x32x16x656) (k0_off234 v1 k0_t2) S1x1x16x656.size (k0_off234_inb i v1 k0_hw33 k0_t2 k0_h3)).WholeWords (EltTy.packing .i8) := fun i v1 k0_hw33 k0_t2 k0_h3 => k0_hw33.2.2.2.2.2.2.1.2.2.2.2.2.2.2.2.2.2.2.1 k0_t2 k0_h3 (k0_off234_inb i v1 k0_hw33 k0_t2 k0_h3)
theorem k0_off236_inb : ∀ (i : grid0.Coords) (v1 : BitVec 32) (k0_hw33 : k0_chk33 i v1) (k0_t2 : Fin (k0_t2_loop v1).trips), ∀ (k0_h3 : k0_cond3 v1 k0_t2 = 1#1), ∀ a, (k0_off236 i v1 k0_t2) a + S1x1.size a ≤ S32x1024.size a := fun i v1 k0_hw33 k0_t2 k0_h3 => k0_hw33.2.2.2.2.2.2.1.2.2.2.2.2.2.2.2.2.2.2.2.1 k0_t2 k0_h3
theorem k0_off237_inb : ∀ (i : grid0.Coords) (v1 : BitVec 32) (k0_hw33 : k0_chk33 i v1) (k0_t2 : Fin (k0_t2_loop v1).trips), ∀ (k0_h3 : k0_cond3 v1 k0_t2 = 1#1), ∀ a, (k0_off237 v1 k0_t2) a + S1.size a ≤ S2.size a := fun i v1 k0_hw33 k0_t2 k0_h3 => k0_hw33.2.2.2.2.2.2.1.2.2.2.2.2.2.2.2.2.2.2.2.2.1 k0_t2 k0_h3
theorem k0_off238_inb : ∀ (i : grid0.Coords) (v1 : BitVec 32) (k0_hw33 : k0_chk33 i v1) (k0_t2 : Fin (k0_t2_loop v1).trips), ∀ (k0_h3 : k0_cond3 v1 k0_t2 = 1#1), ∀ a, (k0_off238 v1 k0_t2) a + S1x1x16x656.size a ≤ S2x32x16x656.size a := fun i v1 k0_hw33 k0_t2 k0_h3 => k0_hw33.2.2.2.2.2.2.1.2.2.2.2.2.2.2.2.2.2.2.2.2.2.1 k0_t2 k0_h3
theorem k0_off238_wordsi8 : ∀ (i : grid0.Coords) (v1 : BitVec 32) (k0_hw33 : k0_chk33 i v1) (k0_t2 : Fin (k0_t2_loop v1).trips), ∀ (k0_h3 : k0_cond3 v1 k0_t2 = 1#1), (Rect.unit (s := S2x32x16x656) (k0_off238 v1 k0_t2) S1x1x16x656.size (k0_off238_inb i v1 k0_hw33 k0_t2 k0_h3)).WholeWords (EltTy.packing .i8) := fun i v1 k0_hw33 k0_t2 k0_h3 => k0_hw33.2.2.2.2.2.2.1.2.2.2.2.2.2.2.2.2.2.2.2.2.2.2.1 k0_t2 k0_h3 (k0_off238_inb i v1 k0_hw33 k0_t2 k0_h3)
theorem k0_off240_inb : ∀ (i : grid0.Coords) (v1 : BitVec 32) (k0_hw33 : k0_chk33 i v1) (k0_t2 : Fin (k0_t2_loop v1).trips), ∀ (k0_h3 : k0_cond3 v1 k0_t2 = 1#1), ∀ a, (k0_off240 i v1 k0_t2) a + S1x1.size a ≤ S32x1024.size a := fun i v1 k0_hw33 k0_t2 k0_h3 => k0_hw33.2.2.2.2.2.2.1.2.2.2.2.2.2.2.2.2.2.2.2.2.2.2.2.1 k0_t2 k0_h3
theorem k0_off241_inb : ∀ (i : grid0.Coords) (v1 : BitVec 32) (k0_hw33 : k0_chk33 i v1) (k0_t2 : Fin (k0_t2_loop v1).trips), ∀ (k0_h3 : k0_cond3 v1 k0_t2 = 1#1), ∀ a, (k0_off241 v1 k0_t2) a + S1.size a ≤ S2.size a := fun i v1 k0_hw33 k0_t2 k0_h3 => k0_hw33.2.2.2.2.2.2.1.2.2.2.2.2.2.2.2.2.2.2.2.2.2.2.2.2.1 k0_t2 k0_h3
theorem k0_off242_inb : ∀ (i : grid0.Coords) (v1 : BitVec 32) (k0_hw33 : k0_chk33 i v1) (k0_t2 : Fin (k0_t2_loop v1).trips), ∀ (k0_h3 : k0_cond3 v1 k0_t2 = 1#1), ∀ a, (k0_off242 v1 k0_t2) a + S1x1x16x656.size a ≤ S2x32x16x656.size a := fun i v1 k0_hw33 k0_t2 k0_h3 => k0_hw33.2.2.2.2.2.2.1.2.2.2.2.2.2.2.2.2.2.2.2.2.2.2.2.2.2.1 k0_t2 k0_h3
theorem k0_off242_wordsi8 : ∀ (i : grid0.Coords) (v1 : BitVec 32) (k0_hw33 : k0_chk33 i v1) (k0_t2 : Fin (k0_t2_loop v1).trips), ∀ (k0_h3 : k0_cond3 v1 k0_t2 = 1#1), (Rect.unit (s := S2x32x16x656) (k0_off242 v1 k0_t2) S1x1x16x656.size (k0_off242_inb i v1 k0_hw33 k0_t2 k0_h3)).WholeWords (EltTy.packing .i8) := fun i v1 k0_hw33 k0_t2 k0_h3 => k0_hw33.2.2.2.2.2.2.1.2.2.2.2.2.2.2.2.2.2.2.2.2.2.2.2.2.2.2.1 k0_t2 k0_h3 (k0_off242_inb i v1 k0_hw33 k0_t2 k0_h3)
theorem k0_off244_inb : ∀ (i : grid0.Coords) (v1 : BitVec 32) (k0_hw33 : k0_chk33 i v1) (k0_t2 : Fin (k0_t2_loop v1).trips), ∀ (k0_h3 : k0_cond3 v1 k0_t2 = 1#1), ∀ a, (k0_off244 i v1 k0_t2) a + S1x1.size a ≤ S32x1024.size a := fun i v1 k0_hw33 k0_t2 k0_h3 => k0_hw33.2.2.2.2.2.2.1.2.2.2.2.2.2.2.2.2.2.2.2.2.2.2.2.2.2.2.2.1 k0_t2 k0_h3
theorem k0_off245_inb : ∀ (i : grid0.Coords) (v1 : BitVec 32) (k0_hw33 : k0_chk33 i v1) (k0_t2 : Fin (k0_t2_loop v1).trips), ∀ (k0_h3 : k0_cond3 v1 k0_t2 = 1#1), ∀ a, (k0_off245 v1 k0_t2) a + S1.size a ≤ S2.size a := fun i v1 k0_hw33 k0_t2 k0_h3 => k0_hw33.2.2.2.2.2.2.1.2.2.2.2.2.2.2.2.2.2.2.2.2.2.2.2.2.2.2.2.2.1 k0_t2 k0_h3
theorem k0_off246_inb : ∀ (i : grid0.Coords) (v1 : BitVec 32) (k0_hw33 : k0_chk33 i v1) (k0_t2 : Fin (k0_t2_loop v1).trips), ∀ (k0_h3 : k0_cond3 v1 k0_t2 = 1#1), ∀ a, (k0_off246 v1 k0_t2) a + S1x1x16x656.size a ≤ S2x32x16x656.size a := fun i v1 k0_hw33 k0_t2 k0_h3 => k0_hw33.2.2.2.2.2.2.1.2.2.2.2.2.2.2.2.2.2.2.2.2.2.2.2.2.2.2.2.2.2.1 k0_t2 k0_h3
theorem k0_off246_wordsi8 : ∀ (i : grid0.Coords) (v1 : BitVec 32) (k0_hw33 : k0_chk33 i v1) (k0_t2 : Fin (k0_t2_loop v1).trips), ∀ (k0_h3 : k0_cond3 v1 k0_t2 = 1#1), (Rect.unit (s := S2x32x16x656) (k0_off246 v1 k0_t2) S1x1x16x656.size (k0_off246_inb i v1 k0_hw33 k0_t2 k0_h3)).WholeWords (EltTy.packing .i8) := fun i v1 k0_hw33 k0_t2 k0_h3 => k0_hw33.2.2.2.2.2.2.1.2.2.2.2.2.2.2.2.2.2.2.2.2.2.2.2.2.2.2.2.2.2.2.1 k0_t2 k0_h3 (k0_off246_inb i v1 k0_hw33 k0_t2 k0_h3)
theorem k0_off248_inb : ∀ (i : grid0.Coords) (v1 : BitVec 32) (k0_hw33 : k0_chk33 i v1) (k0_t2 : Fin (k0_t2_loop v1).trips), ∀ (k0_h3 : k0_cond3 v1 k0_t2 = 1#1), ∀ a, (k0_off248 i v1 k0_t2) a + S1x1.size a ≤ S32x1024.size a := fun i v1 k0_hw33 k0_t2 k0_h3 => k0_hw33.2.2.2.2.2.2.1.2.2.2.2.2.2.2.2.2.2.2.2.2.2.2.2.2.2.2.2.2.2.2.2.1 k0_t2 k0_h3
theorem k0_off249_inb : ∀ (i : grid0.Coords) (v1 : BitVec 32) (k0_hw33 : k0_chk33 i v1) (k0_t2 : Fin (k0_t2_loop v1).trips), ∀ (k0_h3 : k0_cond3 v1 k0_t2 = 1#1), ∀ a, (k0_off249 v1 k0_t2) a + S1.size a ≤ S2.size a := fun i v1 k0_hw33 k0_t2 k0_h3 => k0_hw33.2.2.2.2.2.2.1.2.2.2.2.2.2.2.2.2.2.2.2.2.2.2.2.2.2.2.2.2.2.2.2.2.1 k0_t2 k0_h3
theorem k0_off250_inb : ∀ (i : grid0.Coords) (v1 : BitVec 32) (k0_hw33 : k0_chk33 i v1) (k0_t2 : Fin (k0_t2_loop v1).trips), ∀ (k0_h3 : k0_cond3 v1 k0_t2 = 1#1), ∀ a, (k0_off250 v1 k0_t2) a + S1x1x16x656.size a ≤ S2x32x16x656.size a := fun i v1 k0_hw33 k0_t2 k0_h3 => k0_hw33.2.2.2.2.2.2.1.2.2.2.2.2.2.2.2.2.2.2.2.2.2.2.2.2.2.2.2.2.2.2.2.2.2.1 k0_t2 k0_h3
theorem k0_off250_wordsi8 : ∀ (i : grid0.Coords) (v1 : BitVec 32) (k0_hw33 : k0_chk33 i v1) (k0_t2 : Fin (k0_t2_loop v1).trips), ∀ (k0_h3 : k0_cond3 v1 k0_t2 = 1#1), (Rect.unit (s := S2x32x16x656) (k0_off250 v1 k0_t2) S1x1x16x656.size (k0_off250_inb i v1 k0_hw33 k0_t2 k0_h3)).WholeWords (EltTy.packing .i8) := fun i v1 k0_hw33 k0_t2 k0_h3 => k0_hw33.2.2.2.2.2.2.1.2.2.2.2.2.2.2.2.2.2.2.2.2.2.2.2.2.2.2.2.2.2.2.2.2.2.2.1 k0_t2 k0_h3 (k0_off250_inb i v1 k0_hw33 k0_t2 k0_h3)
theorem k0_off252_inb : ∀ (i : grid0.Coords) (v1 : BitVec 32) (k0_hw33 : k0_chk33 i v1) (k0_t2 : Fin (k0_t2_loop v1).trips), ∀ (k0_h3 : k0_cond3 v1 k0_t2 = 1#1), ∀ a, (k0_off252 i v1 k0_t2) a + S1x1.size a ≤ S32x1024.size a := fun i v1 k0_hw33 k0_t2 k0_h3 => k0_hw33.2.2.2.2.2.2.1.2.2.2.2.2.2.2.2.2.2.2.2.2.2.2.2.2.2.2.2.2.2.2.2.2.2.2.2.1 k0_t2 k0_h3
theorem k0_off253_inb : ∀ (i : grid0.Coords) (v1 : BitVec 32) (k0_hw33 : k0_chk33 i v1) (k0_t2 : Fin (k0_t2_loop v1).trips), ∀ (k0_h3 : k0_cond3 v1 k0_t2 = 1#1), ∀ a, (k0_off253 v1 k0_t2) a + S1.size a ≤ S2.size a := fun i v1 k0_hw33 k0_t2 k0_h3 => k0_hw33.2.2.2.2.2.2.1.2.2.2.2.2.2.2.2.2.2.2.2.2.2.2.2.2.2.2.2.2.2.2.2.2.2.2.2.2.1 k0_t2 k0_h3
theorem k0_off254_inb : ∀ (i : grid0.Coords) (v1 : BitVec 32) (k0_hw33 : k0_chk33 i v1) (k0_t2 : Fin (k0_t2_loop v1).trips), ∀ (k0_h3 : k0_cond3 v1 k0_t2 = 1#1), ∀ a, (k0_off254 v1 k0_t2) a + S1x1x16x656.size a ≤ S2x32x16x656.size a := fun i v1 k0_hw33 k0_t2 k0_h3 => k0_hw33.2.2.2.2.2.2.1.2.2.2.2.2.2.2.2.2.2.2.2.2.2.2.2.2.2.2.2.2.2.2.2.2.2.2.2.2.2.1 k0_t2 k0_h3
theorem k0_off254_wordsi8 : ∀ (i : grid0.Coords) (v1 : BitVec 32) (k0_hw33 : k0_chk33 i v1) (k0_t2 : Fin (k0_t2_loop v1).trips), ∀ (k0_h3 : k0_cond3 v1 k0_t2 = 1#1), (Rect.unit (s := S2x32x16x656) (k0_off254 v1 k0_t2) S1x1x16x656.size (k0_off254_inb i v1 k0_hw33 k0_t2 k0_h3)).WholeWords (EltTy.packing .i8) := fun i v1 k0_hw33 k0_t2 k0_h3 => k0_hw33.2.2.2.2.2.2.1.2.2.2.2.2.2.2.2.2.2.2.2.2.2.2.2.2.2.2.2.2.2.2.2.2.2.2.2.2.2.2 k0_t2 k0_h3 (k0_off254_inb i v1 k0_hw33 k0_t2 k0_h3)
theorem k0_off256_inb : ∀ (i : grid0.Coords) (v1 : BitVec 32) (k0_hw33 : k0_chk33 i v1) (k0_t2 : Fin (k0_t2_loop v1).trips), ∀ (k0_h3 : k0_cond3 v1 k0_t2 = 1#1), ∀ a, (k0_off256 i v1 k0_t2) a + S1x1.size a ≤ S32x1024.size a := fun i v1 k0_hw33 k0_t2 k0_h3 => k0_hw33.2.2.2.2.2.2.2.1.1 k0_t2 k0_h3
theorem k0_off257_inb : ∀ (i : grid0.Coords) (v1 : BitVec 32) (k0_hw33 : k0_chk33 i v1) (k0_t2 : Fin (k0_t2_loop v1).trips), ∀ (k0_h3 : k0_cond3 v1 k0_t2 = 1#1), ∀ a, (k0_off257 v1 k0_t2) a + S1.size a ≤ S2.size a := fun i v1 k0_hw33 k0_t2 k0_h3 => k0_hw33.2.2.2.2.2.2.2.1.2.1 k0_t2 k0_h3
theorem k0_off258_inb : ∀ (i : grid0.Coords) (v1 : BitVec 32) (k0_hw33 : k0_chk33 i v1) (k0_t2 : Fin (k0_t2_loop v1).trips), ∀ (k0_h3 : k0_cond3 v1 k0_t2 = 1#1), ∀ a, (k0_off258 v1 k0_t2) a + S1x1x16x656.size a ≤ S2x32x16x656.size a := fun i v1 k0_hw33 k0_t2 k0_h3 => k0_hw33.2.2.2.2.2.2.2.1.2.2.1 k0_t2 k0_h3
theorem k0_off258_wordsi8 : ∀ (i : grid0.Coords) (v1 : BitVec 32) (k0_hw33 : k0_chk33 i v1) (k0_t2 : Fin (k0_t2_loop v1).trips), ∀ (k0_h3 : k0_cond3 v1 k0_t2 = 1#1), (Rect.unit (s := S2x32x16x656) (k0_off258 v1 k0_t2) S1x1x16x656.size (k0_off258_inb i v1 k0_hw33 k0_t2 k0_h3)).WholeWords (EltTy.packing .i8) := fun i v1 k0_hw33 k0_t2 k0_h3 => k0_hw33.2.2.2.2.2.2.2.1.2.2.2.1 k0_t2 k0_h3 (k0_off258_inb i v1 k0_hw33 k0_t2 k0_h3)
theorem k0_off260_inb : ∀ (i : grid0.Coords) (v1 : BitVec 32) (k0_hw33 : k0_chk33 i v1) (k0_t2 : Fin (k0_t2_loop v1).trips), ∀ (k0_h3 : k0_cond3 v1 k0_t2 = 1#1), ∀ a, (k0_off260 i v1 k0_t2) a + S1x1.size a ≤ S32x1024.size a := fun i v1 k0_hw33 k0_t2 k0_h3 => k0_hw33.2.2.2.2.2.2.2.1.2.2.2.2.1 k0_t2 k0_h3
theorem k0_off261_inb : ∀ (i : grid0.Coords) (v1 : BitVec 32) (k0_hw33 : k0_chk33 i v1) (k0_t2 : Fin (k0_t2_loop v1).trips), ∀ (k0_h3 : k0_cond3 v1 k0_t2 = 1#1), ∀ a, (k0_off261 v1 k0_t2) a + S1.size a ≤ S2.size a := fun i v1 k0_hw33 k0_t2 k0_h3 => k0_hw33.2.2.2.2.2.2.2.1.2.2.2.2.2.1 k0_t2 k0_h3
theorem k0_off262_inb : ∀ (i : grid0.Coords) (v1 : BitVec 32) (k0_hw33 : k0_chk33 i v1) (k0_t2 : Fin (k0_t2_loop v1).trips), ∀ (k0_h3 : k0_cond3 v1 k0_t2 = 1#1), ∀ a, (k0_off262 v1 k0_t2) a + S1x1x16x656.size a ≤ S2x32x16x656.size a := fun i v1 k0_hw33 k0_t2 k0_h3 => k0_hw33.2.2.2.2.2.2.2.1.2.2.2.2.2.2.1 k0_t2 k0_h3
theorem k0_off262_wordsi8 : ∀ (i : grid0.Coords) (v1 : BitVec 32) (k0_hw33 : k0_chk33 i v1) (k0_t2 : Fin (k0_t2_loop v1).trips), ∀ (k0_h3 : k0_cond3 v1 k0_t2 = 1#1), (Rect.unit (s := S2x32x16x656) (k0_off262 v1 k0_t2) S1x1x16x656.size (k0_off262_inb i v1 k0_hw33 k0_t2 k0_h3)).WholeWords (EltTy.packing .i8) := fun i v1 k0_hw33 k0_t2 k0_h3 => k0_hw33.2.2.2.2.2.2.2.1.2.2.2.2.2.2.2.1 k0_t2 k0_h3 (k0_off262_inb i v1 k0_hw33 k0_t2 k0_h3)
theorem k0_off264_inb : ∀ (i : grid0.Coords) (v1 : BitVec 32) (k0_hw33 : k0_chk33 i v1) (k0_t2 : Fin (k0_t2_loop v1).trips), ∀ (k0_h3 : k0_cond3 v1 k0_t2 = 1#1), ∀ a, (k0_off264 i v1 k0_t2) a + S1x1.size a ≤ S32x1024.size a := fun i v1 k0_hw33 k0_t2 k0_h3 => k0_hw33.2.2.2.2.2.2.2.1.2.2.2.2.2.2.2.2.1 k0_t2 k0_h3
theorem k0_off265_inb : ∀ (i : grid0.Coords) (v1 : BitVec 32) (k0_hw33 : k0_chk33 i v1) (k0_t2 : Fin (k0_t2_loop v1).trips), ∀ (k0_h3 : k0_cond3 v1 k0_t2 = 1#1), ∀ a, (k0_off265 v1 k0_t2) a + S1.size a ≤ S2.size a := fun i v1 k0_hw33 k0_t2 k0_h3 => k0_hw33.2.2.2.2.2.2.2.1.2.2.2.2.2.2.2.2.2.1 k0_t2 k0_h3
theorem k0_off266_inb : ∀ (i : grid0.Coords) (v1 : BitVec 32) (k0_hw33 : k0_chk33 i v1) (k0_t2 : Fin (k0_t2_loop v1).trips), ∀ (k0_h3 : k0_cond3 v1 k0_t2 = 1#1), ∀ a, (k0_off266 v1 k0_t2) a + S1x1x16x656.size a ≤ S2x32x16x656.size a := fun i v1 k0_hw33 k0_t2 k0_h3 => k0_hw33.2.2.2.2.2.2.2.1.2.2.2.2.2.2.2.2.2.2.1 k0_t2 k0_h3
theorem k0_off266_wordsi8 : ∀ (i : grid0.Coords) (v1 : BitVec 32) (k0_hw33 : k0_chk33 i v1) (k0_t2 : Fin (k0_t2_loop v1).trips), ∀ (k0_h3 : k0_cond3 v1 k0_t2 = 1#1), (Rect.unit (s := S2x32x16x656) (k0_off266 v1 k0_t2) S1x1x16x656.size (k0_off266_inb i v1 k0_hw33 k0_t2 k0_h3)).WholeWords (EltTy.packing .i8) := fun i v1 k0_hw33 k0_t2 k0_h3 => k0_hw33.2.2.2.2.2.2.2.1.2.2.2.2.2.2.2.2.2.2.2.1 k0_t2 k0_h3 (k0_off266_inb i v1 k0_hw33 k0_t2 k0_h3)
theorem k0_off268_inb : ∀ (i : grid0.Coords) (v1 : BitVec 32) (k0_hw33 : k0_chk33 i v1) (k0_t2 : Fin (k0_t2_loop v1).trips), ∀ (k0_h3 : k0_cond3 v1 k0_t2 = 1#1), ∀ a, (k0_off268 i v1 k0_t2) a + S1x1.size a ≤ S32x1024.size a := fun i v1 k0_hw33 k0_t2 k0_h3 => k0_hw33.2.2.2.2.2.2.2.1.2.2.2.2.2.2.2.2.2.2.2.2.1 k0_t2 k0_h3
theorem k0_off269_inb : ∀ (i : grid0.Coords) (v1 : BitVec 32) (k0_hw33 : k0_chk33 i v1) (k0_t2 : Fin (k0_t2_loop v1).trips), ∀ (k0_h3 : k0_cond3 v1 k0_t2 = 1#1), ∀ a, (k0_off269 v1 k0_t2) a + S1.size a ≤ S2.size a := fun i v1 k0_hw33 k0_t2 k0_h3 => k0_hw33.2.2.2.2.2.2.2.1.2.2.2.2.2.2.2.2.2.2.2.2.2.1 k0_t2 k0_h3
theorem k0_off270_inb : ∀ (i : grid0.Coords) (v1 : BitVec 32) (k0_hw33 : k0_chk33 i v1) (k0_t2 : Fin (k0_t2_loop v1).trips), ∀ (k0_h3 : k0_cond3 v1 k0_t2 = 1#1), ∀ a, (k0_off270 v1 k0_t2) a + S1x1x16x656.size a ≤ S2x32x16x656.size a := fun i v1 k0_hw33 k0_t2 k0_h3 => k0_hw33.2.2.2.2.2.2.2.1.2.2.2.2.2.2.2.2.2.2.2.2.2.2.1 k0_t2 k0_h3
theorem k0_off270_wordsi8 : ∀ (i : grid0.Coords) (v1 : BitVec 32) (k0_hw33 : k0_chk33 i v1) (k0_t2 : Fin (k0_t2_loop v1).trips), ∀ (k0_h3 : k0_cond3 v1 k0_t2 = 1#1), (Rect.unit (s := S2x32x16x656) (k0_off270 v1 k0_t2) S1x1x16x656.size (k0_off270_inb i v1 k0_hw33 k0_t2 k0_h3)).WholeWords (EltTy.packing .i8) := fun i v1 k0_hw33 k0_t2 k0_h3 => k0_hw33.2.2.2.2.2.2.2.1.2.2.2.2.2.2.2.2.2.2.2.2.2.2.2.1 k0_t2 k0_h3 (k0_off270_inb i v1 k0_hw33 k0_t2 k0_h3)
theorem k0_off272_inb : ∀ (i : grid0.Coords) (v1 : BitVec 32) (k0_hw33 : k0_chk33 i v1) (k0_t2 : Fin (k0_t2_loop v1).trips), ∀ (k0_h3 : k0_cond3 v1 k0_t2 = 1#1), ∀ a, (k0_off272 i v1 k0_t2) a + S1x1.size a ≤ S32x1024.size a := fun i v1 k0_hw33 k0_t2 k0_h3 => k0_hw33.2.2.2.2.2.2.2.1.2.2.2.2.2.2.2.2.2.2.2.2.2.2.2.2.1 k0_t2 k0_h3
theorem k0_off273_inb : ∀ (i : grid0.Coords) (v1 : BitVec 32) (k0_hw33 : k0_chk33 i v1) (k0_t2 : Fin (k0_t2_loop v1).trips), ∀ (k0_h3 : k0_cond3 v1 k0_t2 = 1#1), ∀ a, (k0_off273 v1 k0_t2) a + S1.size a ≤ S2.size a := fun i v1 k0_hw33 k0_t2 k0_h3 => k0_hw33.2.2.2.2.2.2.2.1.2.2.2.2.2.2.2.2.2.2.2.2.2.2.2.2.2.1 k0_t2 k0_h3
theorem k0_off274_inb : ∀ (i : grid0.Coords) (v1 : BitVec 32) (k0_hw33 : k0_chk33 i v1) (k0_t2 : Fin (k0_t2_loop v1).trips), ∀ (k0_h3 : k0_cond3 v1 k0_t2 = 1#1), ∀ a, (k0_off274 v1 k0_t2) a + S1x1x16x656.size a ≤ S2x32x16x656.size a := fun i v1 k0_hw33 k0_t2 k0_h3 => k0_hw33.2.2.2.2.2.2.2.1.2.2.2.2.2.2.2.2.2.2.2.2.2.2.2.2.2.2.1 k0_t2 k0_h3
theorem k0_off274_wordsi8 : ∀ (i : grid0.Coords) (v1 : BitVec 32) (k0_hw33 : k0_chk33 i v1) (k0_t2 : Fin (k0_t2_loop v1).trips), ∀ (k0_h3 : k0_cond3 v1 k0_t2 = 1#1), (Rect.unit (s := S2x32x16x656) (k0_off274 v1 k0_t2) S1x1x16x656.size (k0_off274_inb i v1 k0_hw33 k0_t2 k0_h3)).WholeWords (EltTy.packing .i8) := fun i v1 k0_hw33 k0_t2 k0_h3 => k0_hw33.2.2.2.2.2.2.2.1.2.2.2.2.2.2.2.2.2.2.2.2.2.2.2.2.2.2.2.1 k0_t2 k0_h3 (k0_off274_inb i v1 k0_hw33 k0_t2 k0_h3)
theorem k0_off276_inb : ∀ (i : grid0.Coords) (v1 : BitVec 32) (k0_hw33 : k0_chk33 i v1) (k0_t2 : Fin (k0_t2_loop v1).trips), ∀ (k0_h3 : k0_cond3 v1 k0_t2 = 1#1), ∀ a, (k0_off276 i v1 k0_t2) a + S1x1.size a ≤ S32x1024.size a := fun i v1 k0_hw33 k0_t2 k0_h3 => k0_hw33.2.2.2.2.2.2.2.1.2.2.2.2.2.2.2.2.2.2.2.2.2.2.2.2.2.2.2.2.1 k0_t2 k0_h3
theorem k0_off277_inb : ∀ (i : grid0.Coords) (v1 : BitVec 32) (k0_hw33 : k0_chk33 i v1) (k0_t2 : Fin (k0_t2_loop v1).trips), ∀ (k0_h3 : k0_cond3 v1 k0_t2 = 1#1), ∀ a, (k0_off277 v1 k0_t2) a + S1.size a ≤ S2.size a := fun i v1 k0_hw33 k0_t2 k0_h3 => k0_hw33.2.2.2.2.2.2.2.1.2.2.2.2.2.2.2.2.2.2.2.2.2.2.2.2.2.2.2.2.2.1 k0_t2 k0_h3
theorem k0_off278_inb : ∀ (i : grid0.Coords) (v1 : BitVec 32) (k0_hw33 : k0_chk33 i v1) (k0_t2 : Fin (k0_t2_loop v1).trips), ∀ (k0_h3 : k0_cond3 v1 k0_t2 = 1#1), ∀ a, (k0_off278 v1 k0_t2) a + S1x1x16x656.size a ≤ S2x32x16x656.size a := fun i v1 k0_hw33 k0_t2 k0_h3 => k0_hw33.2.2.2.2.2.2.2.1.2.2.2.2.2.2.2.2.2.2.2.2.2.2.2.2.2.2.2.2.2.2.1 k0_t2 k0_h3
theorem k0_off278_wordsi8 : ∀ (i : grid0.Coords) (v1 : BitVec 32) (k0_hw33 : k0_chk33 i v1) (k0_t2 : Fin (k0_t2_loop v1).trips), ∀ (k0_h3 : k0_cond3 v1 k0_t2 = 1#1), (Rect.unit (s := S2x32x16x656) (k0_off278 v1 k0_t2) S1x1x16x656.size (k0_off278_inb i v1 k0_hw33 k0_t2 k0_h3)).WholeWords (EltTy.packing .i8) := fun i v1 k0_hw33 k0_t2 k0_h3 => k0_hw33.2.2.2.2.2.2.2.1.2.2.2.2.2.2.2.2.2.2.2.2.2.2.2.2.2.2.2.2.2.2.2.1 k0_t2 k0_h3 (k0_off278_inb i v1 k0_hw33 k0_t2 k0_h3)
theorem k0_off280_inb : ∀ (i : grid0.Coords) (v1 : BitVec 32) (k0_hw33 : k0_chk33 i v1) (k0_t2 : Fin (k0_t2_loop v1).trips), ∀ (k0_h3 : k0_cond3 v1 k0_t2 = 1#1), ∀ a, (k0_off280 i v1 k0_t2) a + S1x1.size a ≤ S32x1024.size a := fun i v1 k0_hw33 k0_t2 k0_h3 => k0_hw33.2.2.2.2.2.2.2.1.2.2.2.2.2.2.2.2.2.2.2.2.2.2.2.2.2.2.2.2.2.2.2.2.1 k0_t2 k0_h3
theorem k0_off281_inb : ∀ (i : grid0.Coords) (v1 : BitVec 32) (k0_hw33 : k0_chk33 i v1) (k0_t2 : Fin (k0_t2_loop v1).trips), ∀ (k0_h3 : k0_cond3 v1 k0_t2 = 1#1), ∀ a, (k0_off281 v1 k0_t2) a + S1.size a ≤ S2.size a := fun i v1 k0_hw33 k0_t2 k0_h3 => k0_hw33.2.2.2.2.2.2.2.1.2.2.2.2.2.2.2.2.2.2.2.2.2.2.2.2.2.2.2.2.2.2.2.2.2.1 k0_t2 k0_h3
theorem k0_off282_inb : ∀ (i : grid0.Coords) (v1 : BitVec 32) (k0_hw33 : k0_chk33 i v1) (k0_t2 : Fin (k0_t2_loop v1).trips), ∀ (k0_h3 : k0_cond3 v1 k0_t2 = 1#1), ∀ a, (k0_off282 v1 k0_t2) a + S1x1x16x656.size a ≤ S2x32x16x656.size a := fun i v1 k0_hw33 k0_t2 k0_h3 => k0_hw33.2.2.2.2.2.2.2.1.2.2.2.2.2.2.2.2.2.2.2.2.2.2.2.2.2.2.2.2.2.2.2.2.2.2.1 k0_t2 k0_h3
theorem k0_off282_wordsi8 : ∀ (i : grid0.Coords) (v1 : BitVec 32) (k0_hw33 : k0_chk33 i v1) (k0_t2 : Fin (k0_t2_loop v1).trips), ∀ (k0_h3 : k0_cond3 v1 k0_t2 = 1#1), (Rect.unit (s := S2x32x16x656) (k0_off282 v1 k0_t2) S1x1x16x656.size (k0_off282_inb i v1 k0_hw33 k0_t2 k0_h3)).WholeWords (EltTy.packing .i8) := fun i v1 k0_hw33 k0_t2 k0_h3 => k0_hw33.2.2.2.2.2.2.2.1.2.2.2.2.2.2.2.2.2.2.2.2.2.2.2.2.2.2.2.2.2.2.2.2.2.2.2.1 k0_t2 k0_h3 (k0_off282_inb i v1 k0_hw33 k0_t2 k0_h3)
theorem k0_off284_inb : ∀ (i : grid0.Coords) (v1 : BitVec 32) (k0_hw33 : k0_chk33 i v1) (k0_t2 : Fin (k0_t2_loop v1).trips), ∀ (k0_h3 : k0_cond3 v1 k0_t2 = 1#1), ∀ a, (k0_off284 i v1 k0_t2) a + S1x1.size a ≤ S32x1024.size a := fun i v1 k0_hw33 k0_t2 k0_h3 => k0_hw33.2.2.2.2.2.2.2.1.2.2.2.2.2.2.2.2.2.2.2.2.2.2.2.2.2.2.2.2.2.2.2.2.2.2.2.2.1 k0_t2 k0_h3
theorem k0_off285_inb : ∀ (i : grid0.Coords) (v1 : BitVec 32) (k0_hw33 : k0_chk33 i v1) (k0_t2 : Fin (k0_t2_loop v1).trips), ∀ (k0_h3 : k0_cond3 v1 k0_t2 = 1#1), ∀ a, (k0_off285 v1 k0_t2) a + S1.size a ≤ S2.size a := fun i v1 k0_hw33 k0_t2 k0_h3 => k0_hw33.2.2.2.2.2.2.2.1.2.2.2.2.2.2.2.2.2.2.2.2.2.2.2.2.2.2.2.2.2.2.2.2.2.2.2.2.2.1 k0_t2 k0_h3
theorem k0_off286_inb : ∀ (i : grid0.Coords) (v1 : BitVec 32) (k0_hw33 : k0_chk33 i v1) (k0_t2 : Fin (k0_t2_loop v1).trips), ∀ (k0_h3 : k0_cond3 v1 k0_t2 = 1#1), ∀ a, (k0_off286 v1 k0_t2) a + S1x1x16x656.size a ≤ S2x32x16x656.size a := fun i v1 k0_hw33 k0_t2 k0_h3 => k0_hw33.2.2.2.2.2.2.2.1.2.2.2.2.2.2.2.2.2.2.2.2.2.2.2.2.2.2.2.2.2.2.2.2.2.2.2.2.2.2.1 k0_t2 k0_h3
theorem k0_off286_wordsi8 : ∀ (i : grid0.Coords) (v1 : BitVec 32) (k0_hw33 : k0_chk33 i v1) (k0_t2 : Fin (k0_t2_loop v1).trips), ∀ (k0_h3 : k0_cond3 v1 k0_t2 = 1#1), (Rect.unit (s := S2x32x16x656) (k0_off286 v1 k0_t2) S1x1x16x656.size (k0_off286_inb i v1 k0_hw33 k0_t2 k0_h3)).WholeWords (EltTy.packing .i8) := fun i v1 k0_hw33 k0_t2 k0_h3 => k0_hw33.2.2.2.2.2.2.2.1.2.2.2.2.2.2.2.2.2.2.2.2.2.2.2.2.2.2.2.2.2.2.2.2.2.2.2.2.2.2.2 k0_t2 k0_h3 (k0_off286_inb i v1 k0_hw33 k0_t2 k0_h3)
theorem k0_off288_inb : ∀ (i : grid0.Coords) (v1 : BitVec 32) (k0_hw33 : k0_chk33 i v1) (k0_t2 : Fin (k0_t2_loop v1).trips), ∀ (k0_h3 : k0_cond3 v1 k0_t2 = 1#1), ∀ a, (k0_off288 i v1 k0_t2) a + S1x1.size a ≤ S32x1024.size a := fun i v1 k0_hw33 k0_t2 k0_h3 => k0_hw33.2.2.2.2.2.2.2.2.1.1 k0_t2 k0_h3
theorem k0_off289_inb : ∀ (i : grid0.Coords) (v1 : BitVec 32) (k0_hw33 : k0_chk33 i v1) (k0_t2 : Fin (k0_t2_loop v1).trips), ∀ (k0_h3 : k0_cond3 v1 k0_t2 = 1#1), ∀ a, (k0_off289 v1 k0_t2) a + S1.size a ≤ S2.size a := fun i v1 k0_hw33 k0_t2 k0_h3 => k0_hw33.2.2.2.2.2.2.2.2.1.2.1 k0_t2 k0_h3
theorem k0_off290_inb : ∀ (i : grid0.Coords) (v1 : BitVec 32) (k0_hw33 : k0_chk33 i v1) (k0_t2 : Fin (k0_t2_loop v1).trips), ∀ (k0_h3 : k0_cond3 v1 k0_t2 = 1#1), ∀ a, (k0_off290 v1 k0_t2) a + S1x1x16x656.size a ≤ S2x32x16x656.size a := fun i v1 k0_hw33 k0_t2 k0_h3 => k0_hw33.2.2.2.2.2.2.2.2.1.2.2.1 k0_t2 k0_h3
theorem k0_off290_wordsi8 : ∀ (i : grid0.Coords) (v1 : BitVec 32) (k0_hw33 : k0_chk33 i v1) (k0_t2 : Fin (k0_t2_loop v1).trips), ∀ (k0_h3 : k0_cond3 v1 k0_t2 = 1#1), (Rect.unit (s := S2x32x16x656) (k0_off290 v1 k0_t2) S1x1x16x656.size (k0_off290_inb i v1 k0_hw33 k0_t2 k0_h3)).WholeWords (EltTy.packing .i8) := fun i v1 k0_hw33 k0_t2 k0_h3 => k0_hw33.2.2.2.2.2.2.2.2.1.2.2.2.1 k0_t2 k0_h3 (k0_off290_inb i v1 k0_hw33 k0_t2 k0_h3)
theorem k0_off292_inb : ∀ (i : grid0.Coords) (v1 : BitVec 32) (k0_hw33 : k0_chk33 i v1) (k0_t2 : Fin (k0_t2_loop v1).trips), ∀ (k0_h3 : k0_cond3 v1 k0_t2 = 1#1), ∀ a, (k0_off292 i v1 k0_t2) a + S1x1.size a ≤ S32x1024.size a := fun i v1 k0_hw33 k0_t2 k0_h3 => k0_hw33.2.2.2.2.2.2.2.2.1.2.2.2.2.1 k0_t2 k0_h3
theorem k0_off293_inb : ∀ (i : grid0.Coords) (v1 : BitVec 32) (k0_hw33 : k0_chk33 i v1) (k0_t2 : Fin (k0_t2_loop v1).trips), ∀ (k0_h3 : k0_cond3 v1 k0_t2 = 1#1), ∀ a, (k0_off293 v1 k0_t2) a + S1.size a ≤ S2.size a := fun i v1 k0_hw33 k0_t2 k0_h3 => k0_hw33.2.2.2.2.2.2.2.2.1.2.2.2.2.2.1 k0_t2 k0_h3
theorem k0_off294_inb : ∀ (i : grid0.Coords) (v1 : BitVec 32) (k0_hw33 : k0_chk33 i v1) (k0_t2 : Fin (k0_t2_loop v1).trips), ∀ (k0_h3 : k0_cond3 v1 k0_t2 = 1#1), ∀ a, (k0_off294 v1 k0_t2) a + S1x1x16x656.size a ≤ S2x32x16x656.size a := fun i v1 k0_hw33 k0_t2 k0_h3 => k0_hw33.2.2.2.2.2.2.2.2.1.2.2.2.2.2.2.1 k0_t2 k0_h3
theorem k0_off294_wordsi8 : ∀ (i : grid0.Coords) (v1 : BitVec 32) (k0_hw33 : k0_chk33 i v1) (k0_t2 : Fin (k0_t2_loop v1).trips), ∀ (k0_h3 : k0_cond3 v1 k0_t2 = 1#1), (Rect.unit (s := S2x32x16x656) (k0_off294 v1 k0_t2) S1x1x16x656.size (k0_off294_inb i v1 k0_hw33 k0_t2 k0_h3)).WholeWords (EltTy.packing .i8) := fun i v1 k0_hw33 k0_t2 k0_h3 => k0_hw33.2.2.2.2.2.2.2.2.1.2.2.2.2.2.2.2.1 k0_t2 k0_h3 (k0_off294_inb i v1 k0_hw33 k0_t2 k0_h3)
theorem k0_off296_inb : ∀ (i : grid0.Coords) (v1 : BitVec 32) (k0_hw33 : k0_chk33 i v1) (k0_t2 : Fin (k0_t2_loop v1).trips), ∀ (k0_h3 : k0_cond3 v1 k0_t2 = 1#1), ∀ a, (k0_off296 i v1 k0_t2) a + S1x1.size a ≤ S32x1024.size a := fun i v1 k0_hw33 k0_t2 k0_h3 => k0_hw33.2.2.2.2.2.2.2.2.1.2.2.2.2.2.2.2.2.1 k0_t2 k0_h3
theorem k0_off297_inb : ∀ (i : grid0.Coords) (v1 : BitVec 32) (k0_hw33 : k0_chk33 i v1) (k0_t2 : Fin (k0_t2_loop v1).trips), ∀ (k0_h3 : k0_cond3 v1 k0_t2 = 1#1), ∀ a, (k0_off297 v1 k0_t2) a + S1.size a ≤ S2.size a := fun i v1 k0_hw33 k0_t2 k0_h3 => k0_hw33.2.2.2.2.2.2.2.2.1.2.2.2.2.2.2.2.2.2.1 k0_t2 k0_h3
theorem k0_off298_inb : ∀ (i : grid0.Coords) (v1 : BitVec 32) (k0_hw33 : k0_chk33 i v1) (k0_t2 : Fin (k0_t2_loop v1).trips), ∀ (k0_h3 : k0_cond3 v1 k0_t2 = 1#1), ∀ a, (k0_off298 v1 k0_t2) a + S1x1x16x656.size a ≤ S2x32x16x656.size a := fun i v1 k0_hw33 k0_t2 k0_h3 => k0_hw33.2.2.2.2.2.2.2.2.1.2.2.2.2.2.2.2.2.2.2.1 k0_t2 k0_h3
theorem k0_off298_wordsi8 : ∀ (i : grid0.Coords) (v1 : BitVec 32) (k0_hw33 : k0_chk33 i v1) (k0_t2 : Fin (k0_t2_loop v1).trips), ∀ (k0_h3 : k0_cond3 v1 k0_t2 = 1#1), (Rect.unit (s := S2x32x16x656) (k0_off298 v1 k0_t2) S1x1x16x656.size (k0_off298_inb i v1 k0_hw33 k0_t2 k0_h3)).WholeWords (EltTy.packing .i8) := fun i v1 k0_hw33 k0_t2 k0_h3 => k0_hw33.2.2.2.2.2.2.2.2.1.2.2.2.2.2.2.2.2.2.2.2.1 k0_t2 k0_h3 (k0_off298_inb i v1 k0_hw33 k0_t2 k0_h3)
theorem k0_off300_inb : ∀ (i : grid0.Coords) (v1 : BitVec 32) (k0_hw33 : k0_chk33 i v1) (k0_t2 : Fin (k0_t2_loop v1).trips), ∀ (k0_h3 : k0_cond3 v1 k0_t2 = 1#1), ∀ a, (k0_off300 i v1 k0_t2) a + S1x1.size a ≤ S32x1024.size a := fun i v1 k0_hw33 k0_t2 k0_h3 => k0_hw33.2.2.2.2.2.2.2.2.1.2.2.2.2.2.2.2.2.2.2.2.2.1 k0_t2 k0_h3
theorem k0_off301_inb : ∀ (i : grid0.Coords) (v1 : BitVec 32) (k0_hw33 : k0_chk33 i v1) (k0_t2 : Fin (k0_t2_loop v1).trips), ∀ (k0_h3 : k0_cond3 v1 k0_t2 = 1#1), ∀ a, (k0_off301 v1 k0_t2) a + S1.size a ≤ S2.size a := fun i v1 k0_hw33 k0_t2 k0_h3 => k0_hw33.2.2.2.2.2.2.2.2.1.2.2.2.2.2.2.2.2.2.2.2.2.2.1 k0_t2 k0_h3
theorem k0_off302_inb : ∀ (i : grid0.Coords) (v1 : BitVec 32) (k0_hw33 : k0_chk33 i v1) (k0_t2 : Fin (k0_t2_loop v1).trips), ∀ (k0_h3 : k0_cond3 v1 k0_t2 = 1#1), ∀ a, (k0_off302 v1 k0_t2) a + S1x1x16x656.size a ≤ S2x32x16x656.size a := fun i v1 k0_hw33 k0_t2 k0_h3 => k0_hw33.2.2.2.2.2.2.2.2.1.2.2.2.2.2.2.2.2.2.2.2.2.2.2.1 k0_t2 k0_h3
theorem k0_off302_wordsi8 : ∀ (i : grid0.Coords) (v1 : BitVec 32) (k0_hw33 : k0_chk33 i v1) (k0_t2 : Fin (k0_t2_loop v1).trips), ∀ (k0_h3 : k0_cond3 v1 k0_t2 = 1#1), (Rect.unit (s := S2x32x16x656) (k0_off302 v1 k0_t2) S1x1x16x656.size (k0_off302_inb i v1 k0_hw33 k0_t2 k0_h3)).WholeWords (EltTy.packing .i8) := fun i v1 k0_hw33 k0_t2 k0_h3 => k0_hw33.2.2.2.2.2.2.2.2.1.2.2.2.2.2.2.2.2.2.2.2.2.2.2.2.1 k0_t2 k0_h3 (k0_off302_inb i v1 k0_hw33 k0_t2 k0_h3)
theorem k0_off304_inb : ∀ (i : grid0.Coords) (v1 : BitVec 32) (k0_hw33 : k0_chk33 i v1) (k0_t2 : Fin (k0_t2_loop v1).trips), ∀ (k0_h3 : k0_cond3 v1 k0_t2 = 1#1), ∀ a, (k0_off304 i v1 k0_t2) a + S1x1.size a ≤ S32x1024.size a := fun i v1 k0_hw33 k0_t2 k0_h3 => k0_hw33.2.2.2.2.2.2.2.2.1.2.2.2.2.2.2.2.2.2.2.2.2.2.2.2.2.1 k0_t2 k0_h3
theorem k0_off305_inb : ∀ (i : grid0.Coords) (v1 : BitVec 32) (k0_hw33 : k0_chk33 i v1) (k0_t2 : Fin (k0_t2_loop v1).trips), ∀ (k0_h3 : k0_cond3 v1 k0_t2 = 1#1), ∀ a, (k0_off305 v1 k0_t2) a + S1.size a ≤ S2.size a := fun i v1 k0_hw33 k0_t2 k0_h3 => k0_hw33.2.2.2.2.2.2.2.2.1.2.2.2.2.2.2.2.2.2.2.2.2.2.2.2.2.2.1 k0_t2 k0_h3
theorem k0_off306_inb : ∀ (i : grid0.Coords) (v1 : BitVec 32) (k0_hw33 : k0_chk33 i v1) (k0_t2 : Fin (k0_t2_loop v1).trips), ∀ (k0_h3 : k0_cond3 v1 k0_t2 = 1#1), ∀ a, (k0_off306 v1 k0_t2) a + S1x1x16x656.size a ≤ S2x32x16x656.size a := fun i v1 k0_hw33 k0_t2 k0_h3 => k0_hw33.2.2.2.2.2.2.2.2.1.2.2.2.2.2.2.2.2.2.2.2.2.2.2.2.2.2.2.1 k0_t2 k0_h3
theorem k0_off306_wordsi8 : ∀ (i : grid0.Coords) (v1 : BitVec 32) (k0_hw33 : k0_chk33 i v1) (k0_t2 : Fin (k0_t2_loop v1).trips), ∀ (k0_h3 : k0_cond3 v1 k0_t2 = 1#1), (Rect.unit (s := S2x32x16x656) (k0_off306 v1 k0_t2) S1x1x16x656.size (k0_off306_inb i v1 k0_hw33 k0_t2 k0_h3)).WholeWords (EltTy.packing .i8) := fun i v1 k0_hw33 k0_t2 k0_h3 => k0_hw33.2.2.2.2.2.2.2.2.1.2.2.2.2.2.2.2.2.2.2.2.2.2.2.2.2.2.2.2.1 k0_t2 k0_h3 (k0_off306_inb i v1 k0_hw33 k0_t2 k0_h3)
theorem k0_off308_inb : ∀ (i : grid0.Coords) (v1 : BitVec 32) (k0_hw33 : k0_chk33 i v1) (k0_t2 : Fin (k0_t2_loop v1).trips), ∀ (k0_h3 : k0_cond3 v1 k0_t2 = 1#1), ∀ a, (k0_off308 i v1 k0_t2) a + S1x1.size a ≤ S32x1024.size a := fun i v1 k0_hw33 k0_t2 k0_h3 => k0_hw33.2.2.2.2.2.2.2.2.1.2.2.2.2.2.2.2.2.2.2.2.2.2.2.2.2.2.2.2.2.1 k0_t2 k0_h3
theorem k0_off309_inb : ∀ (i : grid0.Coords) (v1 : BitVec 32) (k0_hw33 : k0_chk33 i v1) (k0_t2 : Fin (k0_t2_loop v1).trips), ∀ (k0_h3 : k0_cond3 v1 k0_t2 = 1#1), ∀ a, (k0_off309 v1 k0_t2) a + S1.size a ≤ S2.size a := fun i v1 k0_hw33 k0_t2 k0_h3 => k0_hw33.2.2.2.2.2.2.2.2.1.2.2.2.2.2.2.2.2.2.2.2.2.2.2.2.2.2.2.2.2.2.1 k0_t2 k0_h3
theorem k0_off310_inb : ∀ (i : grid0.Coords) (v1 : BitVec 32) (k0_hw33 : k0_chk33 i v1) (k0_t2 : Fin (k0_t2_loop v1).trips), ∀ (k0_h3 : k0_cond3 v1 k0_t2 = 1#1), ∀ a, (k0_off310 v1 k0_t2) a + S1x1x16x656.size a ≤ S2x32x16x656.size a := fun i v1 k0_hw33 k0_t2 k0_h3 => k0_hw33.2.2.2.2.2.2.2.2.1.2.2.2.2.2.2.2.2.2.2.2.2.2.2.2.2.2.2.2.2.2.2.1 k0_t2 k0_h3
theorem k0_off310_wordsi8 : ∀ (i : grid0.Coords) (v1 : BitVec 32) (k0_hw33 : k0_chk33 i v1) (k0_t2 : Fin (k0_t2_loop v1).trips), ∀ (k0_h3 : k0_cond3 v1 k0_t2 = 1#1), (Rect.unit (s := S2x32x16x656) (k0_off310 v1 k0_t2) S1x1x16x656.size (k0_off310_inb i v1 k0_hw33 k0_t2 k0_h3)).WholeWords (EltTy.packing .i8) := fun i v1 k0_hw33 k0_t2 k0_h3 => k0_hw33.2.2.2.2.2.2.2.2.1.2.2.2.2.2.2.2.2.2.2.2.2.2.2.2.2.2.2.2.2.2.2.2.1 k0_t2 k0_h3 (k0_off310_inb i v1 k0_hw33 k0_t2 k0_h3)
theorem k0_off312_inb : ∀ (i : grid0.Coords) (v1 : BitVec 32) (k0_hw33 : k0_chk33 i v1) (k0_t2 : Fin (k0_t2_loop v1).trips), ∀ (k0_h3 : k0_cond3 v1 k0_t2 = 1#1), ∀ a, (k0_off312 i v1 k0_t2) a + S1x1.size a ≤ S32x1024.size a := fun i v1 k0_hw33 k0_t2 k0_h3 => k0_hw33.2.2.2.2.2.2.2.2.1.2.2.2.2.2.2.2.2.2.2.2.2.2.2.2.2.2.2.2.2.2.2.2.2.1 k0_t2 k0_h3
theorem k0_off313_inb : ∀ (i : grid0.Coords) (v1 : BitVec 32) (k0_hw33 : k0_chk33 i v1) (k0_t2 : Fin (k0_t2_loop v1).trips), ∀ (k0_h3 : k0_cond3 v1 k0_t2 = 1#1), ∀ a, (k0_off313 v1 k0_t2) a + S1.size a ≤ S2.size a := fun i v1 k0_hw33 k0_t2 k0_h3 => k0_hw33.2.2.2.2.2.2.2.2.1.2.2.2.2.2.2.2.2.2.2.2.2.2.2.2.2.2.2.2.2.2.2.2.2.2.1 k0_t2 k0_h3
theorem k0_off314_inb : ∀ (i : grid0.Coords) (v1 : BitVec 32) (k0_hw33 : k0_chk33 i v1) (k0_t2 : Fin (k0_t2_loop v1).trips), ∀ (k0_h3 : k0_cond3 v1 k0_t2 = 1#1), ∀ a, (k0_off314 v1 k0_t2) a + S1x1x16x656.size a ≤ S2x32x16x656.size a := fun i v1 k0_hw33 k0_t2 k0_h3 => k0_hw33.2.2.2.2.2.2.2.2.1.2.2.2.2.2.2.2.2.2.2.2.2.2.2.2.2.2.2.2.2.2.2.2.2.2.2.1 k0_t2 k0_h3
theorem k0_off314_wordsi8 : ∀ (i : grid0.Coords) (v1 : BitVec 32) (k0_hw33 : k0_chk33 i v1) (k0_t2 : Fin (k0_t2_loop v1).trips), ∀ (k0_h3 : k0_cond3 v1 k0_t2 = 1#1), (Rect.unit (s := S2x32x16x656) (k0_off314 v1 k0_t2) S1x1x16x656.size (k0_off314_inb i v1 k0_hw33 k0_t2 k0_h3)).WholeWords (EltTy.packing .i8) := fun i v1 k0_hw33 k0_t2 k0_h3 => k0_hw33.2.2.2.2.2.2.2.2.1.2.2.2.2.2.2.2.2.2.2.2.2.2.2.2.2.2.2.2.2.2.2.2.2.2.2.2.1 k0_t2 k0_h3 (k0_off314_inb i v1 k0_hw33 k0_t2 k0_h3)
theorem k0_off316_inb : ∀ (i : grid0.Coords) (v1 : BitVec 32) (k0_hw33 : k0_chk33 i v1) (k0_t2 : Fin (k0_t2_loop v1).trips), ∀ (k0_h3 : k0_cond3 v1 k0_t2 = 1#1), ∀ a, (k0_off316 i v1 k0_t2) a + S1x1.size a ≤ S32x1024.size a := fun i v1 k0_hw33 k0_t2 k0_h3 => k0_hw33.2.2.2.2.2.2.2.2.1.2.2.2.2.2.2.2.2.2.2.2.2.2.2.2.2.2.2.2.2.2.2.2.2.2.2.2.2.1 k0_t2 k0_h3
theorem k0_off317_inb : ∀ (i : grid0.Coords) (v1 : BitVec 32) (k0_hw33 : k0_chk33 i v1) (k0_t2 : Fin (k0_t2_loop v1).trips), ∀ (k0_h3 : k0_cond3 v1 k0_t2 = 1#1), ∀ a, (k0_off317 v1 k0_t2) a + S1.size a ≤ S2.size a := fun i v1 k0_hw33 k0_t2 k0_h3 => k0_hw33.2.2.2.2.2.2.2.2.1.2.2.2.2.2.2.2.2.2.2.2.2.2.2.2.2.2.2.2.2.2.2.2.2.2.2.2.2.2.1 k0_t2 k0_h3
theorem k0_off318_inb : ∀ (i : grid0.Coords) (v1 : BitVec 32) (k0_hw33 : k0_chk33 i v1) (k0_t2 : Fin (k0_t2_loop v1).trips), ∀ (k0_h3 : k0_cond3 v1 k0_t2 = 1#1), ∀ a, (k0_off318 v1 k0_t2) a + S1x1x16x656.size a ≤ S2x32x16x656.size a := fun i v1 k0_hw33 k0_t2 k0_h3 => k0_hw33.2.2.2.2.2.2.2.2.1.2.2.2.2.2.2.2.2.2.2.2.2.2.2.2.2.2.2.2.2.2.2.2.2.2.2.2.2.2.2.1 k0_t2 k0_h3
theorem k0_off318_wordsi8 : ∀ (i : grid0.Coords) (v1 : BitVec 32) (k0_hw33 : k0_chk33 i v1) (k0_t2 : Fin (k0_t2_loop v1).trips), ∀ (k0_h3 : k0_cond3 v1 k0_t2 = 1#1), (Rect.unit (s := S2x32x16x656) (k0_off318 v1 k0_t2) S1x1x16x656.size (k0_off318_inb i v1 k0_hw33 k0_t2 k0_h3)).WholeWords (EltTy.packing .i8) := fun i v1 k0_hw33 k0_t2 k0_h3 => k0_hw33.2.2.2.2.2.2.2.2.1.2.2.2.2.2.2.2.2.2.2.2.2.2.2.2.2.2.2.2.2.2.2.2.2.2.2.2.2.2.2.2 k0_t2 k0_h3 (k0_off318_inb i v1 k0_hw33 k0_t2 k0_h3)
theorem k0_off320_inb : ∀ (i : grid0.Coords) (v1 : BitVec 32) (k0_hw33 : k0_chk33 i v1) (k0_t2 : Fin (k0_t2_loop v1).trips), ∀ (k0_h3 : k0_cond3 v1 k0_t2 = 1#1), ∀ a, (k0_off320 i v1 k0_t2) a + S1x1.size a ≤ S32x1024.size a := fun i v1 k0_hw33 k0_t2 k0_h3 => k0_hw33.2.2.2.2.2.2.2.2.2.1.1 k0_t2 k0_h3
theorem k0_off321_inb : ∀ (i : grid0.Coords) (v1 : BitVec 32) (k0_hw33 : k0_chk33 i v1) (k0_t2 : Fin (k0_t2_loop v1).trips), ∀ (k0_h3 : k0_cond3 v1 k0_t2 = 1#1), ∀ a, (k0_off321 v1 k0_t2) a + S1.size a ≤ S2.size a := fun i v1 k0_hw33 k0_t2 k0_h3 => k0_hw33.2.2.2.2.2.2.2.2.2.1.2.1 k0_t2 k0_h3
theorem k0_off322_inb : ∀ (i : grid0.Coords) (v1 : BitVec 32) (k0_hw33 : k0_chk33 i v1) (k0_t2 : Fin (k0_t2_loop v1).trips), ∀ (k0_h3 : k0_cond3 v1 k0_t2 = 1#1), ∀ a, (k0_off322 v1 k0_t2) a + S1x1x16x656.size a ≤ S2x32x16x656.size a := fun i v1 k0_hw33 k0_t2 k0_h3 => k0_hw33.2.2.2.2.2.2.2.2.2.1.2.2.1 k0_t2 k0_h3
theorem k0_off322_wordsi8 : ∀ (i : grid0.Coords) (v1 : BitVec 32) (k0_hw33 : k0_chk33 i v1) (k0_t2 : Fin (k0_t2_loop v1).trips), ∀ (k0_h3 : k0_cond3 v1 k0_t2 = 1#1), (Rect.unit (s := S2x32x16x656) (k0_off322 v1 k0_t2) S1x1x16x656.size (k0_off322_inb i v1 k0_hw33 k0_t2 k0_h3)).WholeWords (EltTy.packing .i8) := fun i v1 k0_hw33 k0_t2 k0_h3 => k0_hw33.2.2.2.2.2.2.2.2.2.1.2.2.2.1 k0_t2 k0_h3 (k0_off322_inb i v1 k0_hw33 k0_t2 k0_h3)
theorem k0_off324_inb : ∀ (i : grid0.Coords) (v1 : BitVec 32) (k0_hw33 : k0_chk33 i v1) (k0_t2 : Fin (k0_t2_loop v1).trips), ∀ (k0_h3 : k0_cond3 v1 k0_t2 = 1#1), ∀ a, (k0_off324 i v1 k0_t2) a + S1x1.size a ≤ S32x1024.size a := fun i v1 k0_hw33 k0_t2 k0_h3 => k0_hw33.2.2.2.2.2.2.2.2.2.1.2.2.2.2.1 k0_t2 k0_h3
theorem k0_off325_inb : ∀ (i : grid0.Coords) (v1 : BitVec 32) (k0_hw33 : k0_chk33 i v1) (k0_t2 : Fin (k0_t2_loop v1).trips), ∀ (k0_h3 : k0_cond3 v1 k0_t2 = 1#1), ∀ a, (k0_off325 v1 k0_t2) a + S1.size a ≤ S2.size a := fun i v1 k0_hw33 k0_t2 k0_h3 => k0_hw33.2.2.2.2.2.2.2.2.2.1.2.2.2.2.2.1 k0_t2 k0_h3
theorem k0_off326_inb : ∀ (i : grid0.Coords) (v1 : BitVec 32) (k0_hw33 : k0_chk33 i v1) (k0_t2 : Fin (k0_t2_loop v1).trips), ∀ (k0_h3 : k0_cond3 v1 k0_t2 = 1#1), ∀ a, (k0_off326 v1 k0_t2) a + S1x1x16x656.size a ≤ S2x32x16x656.size a := fun i v1 k0_hw33 k0_t2 k0_h3 => k0_hw33.2.2.2.2.2.2.2.2.2.1.2.2.2.2.2.2.1 k0_t2 k0_h3
theorem k0_off326_wordsi8 : ∀ (i : grid0.Coords) (v1 : BitVec 32) (k0_hw33 : k0_chk33 i v1) (k0_t2 : Fin (k0_t2_loop v1).trips), ∀ (k0_h3 : k0_cond3 v1 k0_t2 = 1#1), (Rect.unit (s := S2x32x16x656) (k0_off326 v1 k0_t2) S1x1x16x656.size (k0_off326_inb i v1 k0_hw33 k0_t2 k0_h3)).WholeWords (EltTy.packing .i8) := fun i v1 k0_hw33 k0_t2 k0_h3 => k0_hw33.2.2.2.2.2.2.2.2.2.1.2.2.2.2.2.2.2.1 k0_t2 k0_h3 (k0_off326_inb i v1 k0_hw33 k0_t2 k0_h3)
theorem k0_off328_inb : ∀ (i : grid0.Coords) (v1 : BitVec 32) (k0_hw33 : k0_chk33 i v1) (k0_t2 : Fin (k0_t2_loop v1).trips), ∀ (k0_h3 : k0_cond3 v1 k0_t2 = 1#1), ∀ a, (k0_off328 i v1 k0_t2) a + S1x1.size a ≤ S32x1024.size a := fun i v1 k0_hw33 k0_t2 k0_h3 => k0_hw33.2.2.2.2.2.2.2.2.2.1.2.2.2.2.2.2.2.2.1 k0_t2 k0_h3
theorem k0_off329_inb : ∀ (i : grid0.Coords) (v1 : BitVec 32) (k0_hw33 : k0_chk33 i v1) (k0_t2 : Fin (k0_t2_loop v1).trips), ∀ (k0_h3 : k0_cond3 v1 k0_t2 = 1#1), ∀ a, (k0_off329 v1 k0_t2) a + S1.size a ≤ S2.size a := fun i v1 k0_hw33 k0_t2 k0_h3 => k0_hw33.2.2.2.2.2.2.2.2.2.1.2.2.2.2.2.2.2.2.2.1 k0_t2 k0_h3
theorem k0_off330_inb : ∀ (i : grid0.Coords) (v1 : BitVec 32) (k0_hw33 : k0_chk33 i v1) (k0_t2 : Fin (k0_t2_loop v1).trips), ∀ (k0_h3 : k0_cond3 v1 k0_t2 = 1#1), ∀ a, (k0_off330 v1 k0_t2) a + S1x1x16x656.size a ≤ S2x32x16x656.size a := fun i v1 k0_hw33 k0_t2 k0_h3 => k0_hw33.2.2.2.2.2.2.2.2.2.1.2.2.2.2.2.2.2.2.2.2.1 k0_t2 k0_h3
theorem k0_off330_wordsi8 : ∀ (i : grid0.Coords) (v1 : BitVec 32) (k0_hw33 : k0_chk33 i v1) (k0_t2 : Fin (k0_t2_loop v1).trips), ∀ (k0_h3 : k0_cond3 v1 k0_t2 = 1#1), (Rect.unit (s := S2x32x16x656) (k0_off330 v1 k0_t2) S1x1x16x656.size (k0_off330_inb i v1 k0_hw33 k0_t2 k0_h3)).WholeWords (EltTy.packing .i8) := fun i v1 k0_hw33 k0_t2 k0_h3 => k0_hw33.2.2.2.2.2.2.2.2.2.1.2.2.2.2.2.2.2.2.2.2.2.1 k0_t2 k0_h3 (k0_off330_inb i v1 k0_hw33 k0_t2 k0_h3)
theorem k0_off332_inb : ∀ (i : grid0.Coords) (v1 : BitVec 32) (k0_hw33 : k0_chk33 i v1) (k0_t2 : Fin (k0_t2_loop v1).trips), ∀ (k0_h3 : k0_cond3 v1 k0_t2 = 1#1), ∀ a, (k0_off332 i v1 k0_t2) a + S1x1.size a ≤ S32x1024.size a := fun i v1 k0_hw33 k0_t2 k0_h3 => k0_hw33.2.2.2.2.2.2.2.2.2.1.2.2.2.2.2.2.2.2.2.2.2.2.1 k0_t2 k0_h3
theorem k0_off333_inb : ∀ (i : grid0.Coords) (v1 : BitVec 32) (k0_hw33 : k0_chk33 i v1) (k0_t2 : Fin (k0_t2_loop v1).trips), ∀ (k0_h3 : k0_cond3 v1 k0_t2 = 1#1), ∀ a, (k0_off333 v1 k0_t2) a + S1.size a ≤ S2.size a := fun i v1 k0_hw33 k0_t2 k0_h3 => k0_hw33.2.2.2.2.2.2.2.2.2.1.2.2.2.2.2.2.2.2.2.2.2.2.2.1 k0_t2 k0_h3
theorem k0_off334_inb : ∀ (i : grid0.Coords) (v1 : BitVec 32) (k0_hw33 : k0_chk33 i v1) (k0_t2 : Fin (k0_t2_loop v1).trips), ∀ (k0_h3 : k0_cond3 v1 k0_t2 = 1#1), ∀ a, (k0_off334 v1 k0_t2) a + S1x1x16x656.size a ≤ S2x32x16x656.size a := fun i v1 k0_hw33 k0_t2 k0_h3 => k0_hw33.2.2.2.2.2.2.2.2.2.1.2.2.2.2.2.2.2.2.2.2.2.2.2.2.1 k0_t2 k0_h3
theorem k0_off334_wordsi8 : ∀ (i : grid0.Coords) (v1 : BitVec 32) (k0_hw33 : k0_chk33 i v1) (k0_t2 : Fin (k0_t2_loop v1).trips), ∀ (k0_h3 : k0_cond3 v1 k0_t2 = 1#1), (Rect.unit (s := S2x32x16x656) (k0_off334 v1 k0_t2) S1x1x16x656.size (k0_off334_inb i v1 k0_hw33 k0_t2 k0_h3)).WholeWords (EltTy.packing .i8) := fun i v1 k0_hw33 k0_t2 k0_h3 => k0_hw33.2.2.2.2.2.2.2.2.2.1.2.2.2.2.2.2.2.2.2.2.2.2.2.2.2.1 k0_t2 k0_h3 (k0_off334_inb i v1 k0_hw33 k0_t2 k0_h3)
theorem k0_off336_inb : ∀ (i : grid0.Coords) (v1 : BitVec 32) (k0_hw33 : k0_chk33 i v1) (k0_t2 : Fin (k0_t2_loop v1).trips), ∀ (k0_h3 : k0_cond3 v1 k0_t2 = 1#1), ∀ a, (k0_off336 i v1 k0_t2) a + S1x1.size a ≤ S32x1024.size a := fun i v1 k0_hw33 k0_t2 k0_h3 => k0_hw33.2.2.2.2.2.2.2.2.2.1.2.2.2.2.2.2.2.2.2.2.2.2.2.2.2.2.1 k0_t2 k0_h3
theorem k0_off337_inb : ∀ (i : grid0.Coords) (v1 : BitVec 32) (k0_hw33 : k0_chk33 i v1) (k0_t2 : Fin (k0_t2_loop v1).trips), ∀ (k0_h3 : k0_cond3 v1 k0_t2 = 1#1), ∀ a, (k0_off337 v1 k0_t2) a + S1.size a ≤ S2.size a := fun i v1 k0_hw33 k0_t2 k0_h3 => k0_hw33.2.2.2.2.2.2.2.2.2.1.2.2.2.2.2.2.2.2.2.2.2.2.2.2.2.2.2.1 k0_t2 k0_h3
theorem k0_off338_inb : ∀ (i : grid0.Coords) (v1 : BitVec 32) (k0_hw33 : k0_chk33 i v1) (k0_t2 : Fin (k0_t2_loop v1).trips), ∀ (k0_h3 : k0_cond3 v1 k0_t2 = 1#1), ∀ a, (k0_off338 v1 k0_t2) a + S1x1x16x656.size a ≤ S2x32x16x656.size a := fun i v1 k0_hw33 k0_t2 k0_h3 => k0_hw33.2.2.2.2.2.2.2.2.2.1.2.2.2.2.2.2.2.2.2.2.2.2.2.2.2.2.2.2.1 k0_t2 k0_h3
theorem k0_off338_wordsi8 : ∀ (i : grid0.Coords) (v1 : BitVec 32) (k0_hw33 : k0_chk33 i v1) (k0_t2 : Fin (k0_t2_loop v1).trips), ∀ (k0_h3 : k0_cond3 v1 k0_t2 = 1#1), (Rect.unit (s := S2x32x16x656) (k0_off338 v1 k0_t2) S1x1x16x656.size (k0_off338_inb i v1 k0_hw33 k0_t2 k0_h3)).WholeWords (EltTy.packing .i8) := fun i v1 k0_hw33 k0_t2 k0_h3 => k0_hw33.2.2.2.2.2.2.2.2.2.1.2.2.2.2.2.2.2.2.2.2.2.2.2.2.2.2.2.2.2.1 k0_t2 k0_h3 (k0_off338_inb i v1 k0_hw33 k0_t2 k0_h3)
theorem k0_off340_inb : ∀ (i : grid0.Coords) (v1 : BitVec 32) (k0_hw33 : k0_chk33 i v1) (k0_t2 : Fin (k0_t2_loop v1).trips), ∀ (k0_h3 : k0_cond3 v1 k0_t2 = 1#1), ∀ a, (k0_off340 i v1 k0_t2) a + S1x1.size a ≤ S32x1024.size a := fun i v1 k0_hw33 k0_t2 k0_h3 => k0_hw33.2.2.2.2.2.2.2.2.2.1.2.2.2.2.2.2.2.2.2.2.2.2.2.2.2.2.2.2.2.2.1 k0_t2 k0_h3
theorem k0_off341_inb : ∀ (i : grid0.Coords) (v1 : BitVec 32) (k0_hw33 : k0_chk33 i v1) (k0_t2 : Fin (k0_t2_loop v1).trips), ∀ (k0_h3 : k0_cond3 v1 k0_t2 = 1#1), ∀ a, (k0_off341 v1 k0_t2) a + S1.size a ≤ S2.size a := fun i v1 k0_hw33 k0_t2 k0_h3 => k0_hw33.2.2.2.2.2.2.2.2.2.1.2.2.2.2.2.2.2.2.2.2.2.2.2.2.2.2.2.2.2.2.2.1 k0_t2 k0_h3
theorem k0_off342_inb : ∀ (i : grid0.Coords) (v1 : BitVec 32) (k0_hw33 : k0_chk33 i v1) (k0_t2 : Fin (k0_t2_loop v1).trips), ∀ (k0_h3 : k0_cond3 v1 k0_t2 = 1#1), ∀ a, (k0_off342 v1 k0_t2) a + S1x1x16x656.size a ≤ S2x32x16x656.size a := fun i v1 k0_hw33 k0_t2 k0_h3 => k0_hw33.2.2.2.2.2.2.2.2.2.1.2.2.2.2.2.2.2.2.2.2.2.2.2.2.2.2.2.2.2.2.2.2.1 k0_t2 k0_h3
theorem k0_off342_wordsi8 : ∀ (i : grid0.Coords) (v1 : BitVec 32) (k0_hw33 : k0_chk33 i v1) (k0_t2 : Fin (k0_t2_loop v1).trips), ∀ (k0_h3 : k0_cond3 v1 k0_t2 = 1#1), (Rect.unit (s := S2x32x16x656) (k0_off342 v1 k0_t2) S1x1x16x656.size (k0_off342_inb i v1 k0_hw33 k0_t2 k0_h3)).WholeWords (EltTy.packing .i8) := fun i v1 k0_hw33 k0_t2 k0_h3 => k0_hw33.2.2.2.2.2.2.2.2.2.1.2.2.2.2.2.2.2.2.2.2.2.2.2.2.2.2.2.2.2.2.2.2.2.1 k0_t2 k0_h3 (k0_off342_inb i v1 k0_hw33 k0_t2 k0_h3)
theorem k0_off344_inb : ∀ (i : grid0.Coords) (v1 : BitVec 32) (k0_hw33 : k0_chk33 i v1) (k0_t2 : Fin (k0_t2_loop v1).trips), ∀ (k0_h3 : k0_cond3 v1 k0_t2 = 1#1), ∀ a, (k0_off344 i v1 k0_t2) a + S1x1.size a ≤ S32x1024.size a := fun i v1 k0_hw33 k0_t2 k0_h3 => k0_hw33.2.2.2.2.2.2.2.2.2.1.2.2.2.2.2.2.2.2.2.2.2.2.2.2.2.2.2.2.2.2.2.2.2.2.1 k0_t2 k0_h3
theorem k0_off345_inb : ∀ (i : grid0.Coords) (v1 : BitVec 32) (k0_hw33 : k0_chk33 i v1) (k0_t2 : Fin (k0_t2_loop v1).trips), ∀ (k0_h3 : k0_cond3 v1 k0_t2 = 1#1), ∀ a, (k0_off345 v1 k0_t2) a + S1.size a ≤ S2.size a := fun i v1 k0_hw33 k0_t2 k0_h3 => k0_hw33.2.2.2.2.2.2.2.2.2.1.2.2.2.2.2.2.2.2.2.2.2.2.2.2.2.2.2.2.2.2.2.2.2.2.2.1 k0_t2 k0_h3
theorem k0_off346_inb : ∀ (i : grid0.Coords) (v1 : BitVec 32) (k0_hw33 : k0_chk33 i v1) (k0_t2 : Fin (k0_t2_loop v1).trips), ∀ (k0_h3 : k0_cond3 v1 k0_t2 = 1#1), ∀ a, (k0_off346 v1 k0_t2) a + S1x1x16x656.size a ≤ S2x32x16x656.size a := fun i v1 k0_hw33 k0_t2 k0_h3 => k0_hw33.2.2.2.2.2.2.2.2.2.1.2.2.2.2.2.2.2.2.2.2.2.2.2.2.2.2.2.2.2.2.2.2.2.2.2.2.1 k0_t2 k0_h3
theorem k0_off346_wordsi8 : ∀ (i : grid0.Coords) (v1 : BitVec 32) (k0_hw33 : k0_chk33 i v1) (k0_t2 : Fin (k0_t2_loop v1).trips), ∀ (k0_h3 : k0_cond3 v1 k0_t2 = 1#1), (Rect.unit (s := S2x32x16x656) (k0_off346 v1 k0_t2) S1x1x16x656.size (k0_off346_inb i v1 k0_hw33 k0_t2 k0_h3)).WholeWords (EltTy.packing .i8) := fun i v1 k0_hw33 k0_t2 k0_h3 => k0_hw33.2.2.2.2.2.2.2.2.2.1.2.2.2.2.2.2.2.2.2.2.2.2.2.2.2.2.2.2.2.2.2.2.2.2.2.2.2.1 k0_t2 k0_h3 (k0_off346_inb i v1 k0_hw33 k0_t2 k0_h3)
theorem k0_off348_inb : ∀ (i : grid0.Coords) (v1 : BitVec 32) (k0_hw33 : k0_chk33 i v1) (k0_t2 : Fin (k0_t2_loop v1).trips), ∀ (k0_h3 : k0_cond3 v1 k0_t2 = 1#1), ∀ a, (k0_off348 i v1 k0_t2) a + S1x1.size a ≤ S32x1024.size a := fun i v1 k0_hw33 k0_t2 k0_h3 => k0_hw33.2.2.2.2.2.2.2.2.2.1.2.2.2.2.2.2.2.2.2.2.2.2.2.2.2.2.2.2.2.2.2.2.2.2.2.2.2.2.1 k0_t2 k0_h3
theorem k0_off349_inb : ∀ (i : grid0.Coords) (v1 : BitVec 32) (k0_hw33 : k0_chk33 i v1) (k0_t2 : Fin (k0_t2_loop v1).trips), ∀ (k0_h3 : k0_cond3 v1 k0_t2 = 1#1), ∀ a, (k0_off349 v1 k0_t2) a + S1.size a ≤ S2.size a := fun i v1 k0_hw33 k0_t2 k0_h3 => k0_hw33.2.2.2.2.2.2.2.2.2.1.2.2.2.2.2.2.2.2.2.2.2.2.2.2.2.2.2.2.2.2.2.2.2.2.2.2.2.2.2.1 k0_t2 k0_h3
theorem k0_off350_inb : ∀ (i : grid0.Coords) (v1 : BitVec 32) (k0_hw33 : k0_chk33 i v1) (k0_t2 : Fin (k0_t2_loop v1).trips), ∀ (k0_h3 : k0_cond3 v1 k0_t2 = 1#1), ∀ a, (k0_off350 v1 k0_t2) a + S1x1x16x656.size a ≤ S2x32x16x656.size a := fun i v1 k0_hw33 k0_t2 k0_h3 => k0_hw33.2.2.2.2.2.2.2.2.2.1.2.2.2.2.2.2.2.2.2.2.2.2.2.2.2.2.2.2.2.2.2.2.2.2.2.2.2.2.2.2.1 k0_t2 k0_h3
theorem k0_off350_wordsi8 : ∀ (i : grid0.Coords) (v1 : BitVec 32) (k0_hw33 : k0_chk33 i v1) (k0_t2 : Fin (k0_t2_loop v1).trips), ∀ (k0_h3 : k0_cond3 v1 k0_t2 = 1#1), (Rect.unit (s := S2x32x16x656) (k0_off350 v1 k0_t2) S1x1x16x656.size (k0_off350_inb i v1 k0_hw33 k0_t2 k0_h3)).WholeWords (EltTy.packing .i8) := fun i v1 k0_hw33 k0_t2 k0_h3 => k0_hw33.2.2.2.2.2.2.2.2.2.1.2.2.2.2.2.2.2.2.2.2.2.2.2.2.2.2.2.2.2.2.2.2.2.2.2.2.2.2.2.2.2 k0_t2 k0_h3 (k0_off350_inb i v1 k0_hw33 k0_t2 k0_h3)
theorem k0_off352_inb : ∀ (i : grid0.Coords) (v1 : BitVec 32) (k0_hw33 : k0_chk33 i v1) (k0_t2 : Fin (k0_t2_loop v1).trips), ∀ (k0_h3 : k0_cond3 v1 k0_t2 = 1#1), ∀ a, (k0_off352 i v1 k0_t2) a + S1x1.size a ≤ S32x1024.size a := fun i v1 k0_hw33 k0_t2 k0_h3 => k0_hw33.2.2.2.2.2.2.2.2.2.2.1.1 k0_t2 k0_h3
theorem k0_off353_inb : ∀ (i : grid0.Coords) (v1 : BitVec 32) (k0_hw33 : k0_chk33 i v1) (k0_t2 : Fin (k0_t2_loop v1).trips), ∀ (k0_h3 : k0_cond3 v1 k0_t2 = 1#1), ∀ a, (k0_off353 v1 k0_t2) a + S1.size a ≤ S2.size a := fun i v1 k0_hw33 k0_t2 k0_h3 => k0_hw33.2.2.2.2.2.2.2.2.2.2.1.2.1 k0_t2 k0_h3
theorem k0_off354_inb : ∀ (i : grid0.Coords) (v1 : BitVec 32) (k0_hw33 : k0_chk33 i v1) (k0_t2 : Fin (k0_t2_loop v1).trips), ∀ (k0_h3 : k0_cond3 v1 k0_t2 = 1#1), ∀ a, (k0_off354 v1 k0_t2) a + S1x1x16x656.size a ≤ S2x32x16x656.size a := fun i v1 k0_hw33 k0_t2 k0_h3 => k0_hw33.2.2.2.2.2.2.2.2.2.2.1.2.2.1 k0_t2 k0_h3
theorem k0_off354_wordsi8 : ∀ (i : grid0.Coords) (v1 : BitVec 32) (k0_hw33 : k0_chk33 i v1) (k0_t2 : Fin (k0_t2_loop v1).trips), ∀ (k0_h3 : k0_cond3 v1 k0_t2 = 1#1), (Rect.unit (s := S2x32x16x656) (k0_off354 v1 k0_t2) S1x1x16x656.size (k0_off354_inb i v1 k0_hw33 k0_t2 k0_h3)).WholeWords (EltTy.packing .i8) := fun i v1 k0_hw33 k0_t2 k0_h3 => k0_hw33.2.2.2.2.2.2.2.2.2.2.1.2.2.2.1 k0_t2 k0_h3 (k0_off354_inb i v1 k0_hw33 k0_t2 k0_h3)
theorem k0_off356_inb : ∀ (i : grid0.Coords) (v1 : BitVec 32) (k0_hw33 : k0_chk33 i v1) (k0_t2 : Fin (k0_t2_loop v1).trips), ∀ a, (k0_off356 v1 k0_t2) a + S1.size a ≤ S2.size a := fun i v1 k0_hw33 k0_t2 => k0_hw33.2.2.2.2.2.2.2.2.2.2.1.2.2.2.2.1 k0_t2
theorem k0_off357_inb : ∀ (i : grid0.Coords) (v1 : BitVec 32) (k0_hw33 : k0_chk33 i v1) (k0_t2 : Fin (k0_t2_loop v1).trips), ∀ a, (k0_off357 v1 k0_t2) a + S1x1x16x656.size a ≤ S2x32x16x656.size a := fun i v1 k0_hw33 k0_t2 => k0_hw33.2.2.2.2.2.2.2.2.2.2.1.2.2.2.2.2.1 k0_t2
theorem k0_off357_wordsi8 : ∀ (i : grid0.Coords) (v1 : BitVec 32) (k0_hw33 : k0_chk33 i v1) (k0_t2 : Fin (k0_t2_loop v1).trips), (Rect.unit (s := S2x32x16x656) (k0_off357 v1 k0_t2) S1x1x16x656.size (k0_off357_inb i v1 k0_hw33 k0_t2)).WholeWords (EltTy.packing .i8) := fun i v1 k0_hw33 k0_t2 => k0_hw33.2.2.2.2.2.2.2.2.2.2.1.2.2.2.2.2.2.1 k0_t2 (k0_off357_inb i v1 k0_hw33 k0_t2)
theorem k0_off358_inb : ∀ (i : grid0.Coords) (v1 : BitVec 32) (k0_hw33 : k0_chk33 i v1) (k0_t2 : Fin (k0_t2_loop v1).trips), ∀ a, (k0_off358 v1 k0_t2) a + S1x1x16x656.size a ≤ S2x32x16x656.size a := fun i v1 k0_hw33 k0_t2 => k0_hw33.2.2.2.2.2.2.2.2.2.2.1.2.2.2.2.2.2.2.1 k0_t2
theorem k0_off358_wordsi8 : ∀ (i : grid0.Coords) (v1 : BitVec 32) (k0_hw33 : k0_chk33 i v1) (k0_t2 : Fin (k0_t2_loop v1).trips), (Rect.unit (s := S2x32x16x656) (k0_off358 v1 k0_t2) S1x1x16x656.size (k0_off358_inb i v1 k0_hw33 k0_t2)).WholeWords (EltTy.packing .i8) := fun i v1 k0_hw33 k0_t2 => k0_hw33.2.2.2.2.2.2.2.2.2.2.1.2.2.2.2.2.2.2.2.1 k0_t2 (k0_off358_inb i v1 k0_hw33 k0_t2)
theorem k0_off359_inb : ∀ (i : grid0.Coords) (v1 : BitVec 32) (k0_hw33 : k0_chk33 i v1) (k0_t2 : Fin (k0_t2_loop v1).trips), ∀ a, (k0_off359 v1 k0_t2) a + S1x1x16x656.size a ≤ S2x32x16x656.size a := fun i v1 k0_hw33 k0_t2 => k0_hw33.2.2.2.2.2.2.2.2.2.2.1.2.2.2.2.2.2.2.2.2.1 k0_t2
theorem k0_off359_wordsi8 : ∀ (i : grid0.Coords) (v1 : BitVec 32) (k0_hw33 : k0_chk33 i v1) (k0_t2 : Fin (k0_t2_loop v1).trips), (Rect.unit (s := S2x32x16x656) (k0_off359 v1 k0_t2) S1x1x16x656.size (k0_off359_inb i v1 k0_hw33 k0_t2)).WholeWords (EltTy.packing .i8) := fun i v1 k0_hw33 k0_t2 => k0_hw33.2.2.2.2.2.2.2.2.2.2.1.2.2.2.2.2.2.2.2.2.2.1 k0_t2 (k0_off359_inb i v1 k0_hw33 k0_t2)
theorem k0_off360_inb : ∀ (i : grid0.Coords) (v1 : BitVec 32) (k0_hw33 : k0_chk33 i v1) (k0_t2 : Fin (k0_t2_loop v1).trips), ∀ a, (k0_off360 v1 k0_t2) a + S1x1x16x656.size a ≤ S2x32x16x656.size a := fun i v1 k0_hw33 k0_t2 => k0_hw33.2.2.2.2.2.2.2.2.2.2.1.2.2.2.2.2.2.2.2.2.2.2.1 k0_t2
theorem k0_off360_wordsi8 : ∀ (i : grid0.Coords) (v1 : BitVec 32) (k0_hw33 : k0_chk33 i v1) (k0_t2 : Fin (k0_t2_loop v1).trips), (Rect.unit (s := S2x32x16x656) (k0_off360 v1 k0_t2) S1x1x16x656.size (k0_off360_inb i v1 k0_hw33 k0_t2)).WholeWords (EltTy.packing .i8) := fun i v1 k0_hw33 k0_t2 => k0_hw33.2.2.2.2.2.2.2.2.2.2.1.2.2.2.2.2.2.2.2.2.2.2.2.1 k0_t2 (k0_off360_inb i v1 k0_hw33 k0_t2)
theorem k0_off361_inb : ∀ (i : grid0.Coords) (v1 : BitVec 32) (k0_hw33 : k0_chk33 i v1) (k0_t2 : Fin (k0_t2_loop v1).trips), ∀ a, (k0_off361 v1 k0_t2) a + S1x1x16x656.size a ≤ S2x32x16x656.size a := fun i v1 k0_hw33 k0_t2 => k0_hw33.2.2.2.2.2.2.2.2.2.2.1.2.2.2.2.2.2.2.2.2.2.2.2.2.1 k0_t2
theorem k0_off361_wordsi8 : ∀ (i : grid0.Coords) (v1 : BitVec 32) (k0_hw33 : k0_chk33 i v1) (k0_t2 : Fin (k0_t2_loop v1).trips), (Rect.unit (s := S2x32x16x656) (k0_off361 v1 k0_t2) S1x1x16x656.size (k0_off361_inb i v1 k0_hw33 k0_t2)).WholeWords (EltTy.packing .i8) := fun i v1 k0_hw33 k0_t2 => k0_hw33.2.2.2.2.2.2.2.2.2.2.1.2.2.2.2.2.2.2.2.2.2.2.2.2.2.1 k0_t2 (k0_off361_inb i v1 k0_hw33 k0_t2)
theorem k0_off362_inb : ∀ (i : grid0.Coords) (v1 : BitVec 32) (k0_hw33 : k0_chk33 i v1) (k0_t2 : Fin (k0_t2_loop v1).trips), ∀ a, (k0_off362 v1 k0_t2) a + S1x1x16x656.size a ≤ S2x32x16x656.size a := fun i v1 k0_hw33 k0_t2 => k0_hw33.2.2.2.2.2.2.2.2.2.2.1.2.2.2.2.2.2.2.2.2.2.2.2.2.2.2.1 k0_t2
theorem k0_off362_wordsi8 : ∀ (i : grid0.Coords) (v1 : BitVec 32) (k0_hw33 : k0_chk33 i v1) (k0_t2 : Fin (k0_t2_loop v1).trips), (Rect.unit (s := S2x32x16x656) (k0_off362 v1 k0_t2) S1x1x16x656.size (k0_off362_inb i v1 k0_hw33 k0_t2)).WholeWords (EltTy.packing .i8) := fun i v1 k0_hw33 k0_t2 => k0_hw33.2.2.2.2.2.2.2.2.2.2.1.2.2.2.2.2.2.2.2.2.2.2.2.2.2.2.2.1 k0_t2 (k0_off362_inb i v1 k0_hw33 k0_t2)
theorem k0_off363_inb : ∀ (i : grid0.Coords) (v1 : BitVec 32) (k0_hw33 : k0_chk33 i v1) (k0_t2 : Fin (k0_t2_loop v1).trips), ∀ a, (k0_off363 v1 k0_t2) a + S1x1x16x656.size a ≤ S2x32x16x656.size a := fun i v1 k0_hw33 k0_t2 => k0_hw33.2.2.2.2.2.2.2.2.2.2.1.2.2.2.2.2.2.2.2.2.2.2.2.2.2.2.2.2.1 k0_t2
theorem k0_off363_wordsi8 : ∀ (i : grid0.Coords) (v1 : BitVec 32) (k0_hw33 : k0_chk33 i v1) (k0_t2 : Fin (k0_t2_loop v1).trips), (Rect.unit (s := S2x32x16x656) (k0_off363 v1 k0_t2) S1x1x16x656.size (k0_off363_inb i v1 k0_hw33 k0_t2)).WholeWords (EltTy.packing .i8) := fun i v1 k0_hw33 k0_t2 => k0_hw33.2.2.2.2.2.2.2.2.2.2.1.2.2.2.2.2.2.2.2.2.2.2.2.2.2.2.2.2.2.1 k0_t2 (k0_off363_inb i v1 k0_hw33 k0_t2)
theorem k0_off364_inb : ∀ (i : grid0.Coords) (v1 : BitVec 32) (k0_hw33 : k0_chk33 i v1) (k0_t2 : Fin (k0_t2_loop v1).trips), ∀ a, (k0_off364 v1 k0_t2) a + S1x1x16x656.size a ≤ S2x32x16x656.size a := fun i v1 k0_hw33 k0_t2 => k0_hw33.2.2.2.2.2.2.2.2.2.2.1.2.2.2.2.2.2.2.2.2.2.2.2.2.2.2.2.2.2.2.1 k0_t2
theorem k0_off364_wordsi8 : ∀ (i : grid0.Coords) (v1 : BitVec 32) (k0_hw33 : k0_chk33 i v1) (k0_t2 : Fin (k0_t2_loop v1).trips), (Rect.unit (s := S2x32x16x656) (k0_off364 v1 k0_t2) S1x1x16x656.size (k0_off364_inb i v1 k0_hw33 k0_t2)).WholeWords (EltTy.packing .i8) := fun i v1 k0_hw33 k0_t2 => k0_hw33.2.2.2.2.2.2.2.2.2.2.1.2.2.2.2.2.2.2.2.2.2.2.2.2.2.2.2.2.2.2.2.1 k0_t2 (k0_off364_inb i v1 k0_hw33 k0_t2)
theorem k0_off365_inb : ∀ (i : grid0.Coords) (v1 : BitVec 32) (k0_hw33 : k0_chk33 i v1) (k0_t2 : Fin (k0_t2_loop v1).trips), ∀ a, (k0_off365 v1 k0_t2) a + S1x1x16x656.size a ≤ S2x32x16x656.size a := fun i v1 k0_hw33 k0_t2 => k0_hw33.2.2.2.2.2.2.2.2.2.2.1.2.2.2.2.2.2.2.2.2.2.2.2.2.2.2.2.2.2.2.2.2.1 k0_t2
theorem k0_off365_wordsi8 : ∀ (i : grid0.Coords) (v1 : BitVec 32) (k0_hw33 : k0_chk33 i v1) (k0_t2 : Fin (k0_t2_loop v1).trips), (Rect.unit (s := S2x32x16x656) (k0_off365 v1 k0_t2) S1x1x16x656.size (k0_off365_inb i v1 k0_hw33 k0_t2)).WholeWords (EltTy.packing .i8) := fun i v1 k0_hw33 k0_t2 => k0_hw33.2.2.2.2.2.2.2.2.2.2.1.2.2.2.2.2.2.2.2.2.2.2.2.2.2.2.2.2.2.2.2.2.2.1 k0_t2 (k0_off365_inb i v1 k0_hw33 k0_t2)
theorem k0_off366_inb : ∀ (i : grid0.Coords) (v1 : BitVec 32) (k0_hw33 : k0_chk33 i v1) (k0_t2 : Fin (k0_t2_loop v1).trips), ∀ a, (k0_off366 v1 k0_t2) a + S1x1x16x656.size a ≤ S2x32x16x656.size a := fun i v1 k0_hw33 k0_t2 => k0_hw33.2.2.2.2.2.2.2.2.2.2.1.2.2.2.2.2.2.2.2.2.2.2.2.2.2.2.2.2.2.2.2.2.2.2.1 k0_t2
theorem k0_off366_wordsi8 : ∀ (i : grid0.Coords) (v1 : BitVec 32) (k0_hw33 : k0_chk33 i v1) (k0_t2 : Fin (k0_t2_loop v1).trips), (Rect.unit (s := S2x32x16x656) (k0_off366 v1 k0_t2) S1x1x16x656.size (k0_off366_inb i v1 k0_hw33 k0_t2)).WholeWords (EltTy.packing .i8) := fun i v1 k0_hw33 k0_t2 => k0_hw33.2.2.2.2.2.2.2.2.2.2.1.2.2.2.2.2.2.2.2.2.2.2.2.2.2.2.2.2.2.2.2.2.2.2.2.1 k0_t2 (k0_off366_inb i v1 k0_hw33 k0_t2)
theorem k0_off367_inb : ∀ (i : grid0.Coords) (v1 : BitVec 32) (k0_hw33 : k0_chk33 i v1) (k0_t2 : Fin (k0_t2_loop v1).trips), ∀ a, (k0_off367 v1 k0_t2) a + S1x1x16x656.size a ≤ S2x32x16x656.size a := fun i v1 k0_hw33 k0_t2 => k0_hw33.2.2.2.2.2.2.2.2.2.2.1.2.2.2.2.2.2.2.2.2.2.2.2.2.2.2.2.2.2.2.2.2.2.2.2.2.1 k0_t2
theorem k0_off367_wordsi8 : ∀ (i : grid0.Coords) (v1 : BitVec 32) (k0_hw33 : k0_chk33 i v1) (k0_t2 : Fin (k0_t2_loop v1).trips), (Rect.unit (s := S2x32x16x656) (k0_off367 v1 k0_t2) S1x1x16x656.size (k0_off367_inb i v1 k0_hw33 k0_t2)).WholeWords (EltTy.packing .i8) := fun i v1 k0_hw33 k0_t2 => k0_hw33.2.2.2.2.2.2.2.2.2.2.1.2.2.2.2.2.2.2.2.2.2.2.2.2.2.2.2.2.2.2.2.2.2.2.2.2.2.1 k0_t2 (k0_off367_inb i v1 k0_hw33 k0_t2)
theorem k0_off368_inb : ∀ (i : grid0.Coords) (v1 : BitVec 32) (k0_hw33 : k0_chk33 i v1) (k0_t2 : Fin (k0_t2_loop v1).trips), ∀ a, (k0_off368 v1 k0_t2) a + S1x1x16x656.size a ≤ S2x32x16x656.size a := fun i v1 k0_hw33 k0_t2 => k0_hw33.2.2.2.2.2.2.2.2.2.2.1.2.2.2.2.2.2.2.2.2.2.2.2.2.2.2.2.2.2.2.2.2.2.2.2.2.2.2.1 k0_t2
theorem k0_off368_wordsi8 : ∀ (i : grid0.Coords) (v1 : BitVec 32) (k0_hw33 : k0_chk33 i v1) (k0_t2 : Fin (k0_t2_loop v1).trips), (Rect.unit (s := S2x32x16x656) (k0_off368 v1 k0_t2) S1x1x16x656.size (k0_off368_inb i v1 k0_hw33 k0_t2)).WholeWords (EltTy.packing .i8) := fun i v1 k0_hw33 k0_t2 => k0_hw33.2.2.2.2.2.2.2.2.2.2.1.2.2.2.2.2.2.2.2.2.2.2.2.2.2.2.2.2.2.2.2.2.2.2.2.2.2.2.2.1 k0_t2 (k0_off368_inb i v1 k0_hw33 k0_t2)
theorem k0_off369_inb : ∀ (i : grid0.Coords) (v1 : BitVec 32) (k0_hw33 : k0_chk33 i v1) (k0_t2 : Fin (k0_t2_loop v1).trips), ∀ a, (k0_off369 v1 k0_t2) a + S1x1x16x656.size a ≤ S2x32x16x656.size a := fun i v1 k0_hw33 k0_t2 => k0_hw33.2.2.2.2.2.2.2.2.2.2.1.2.2.2.2.2.2.2.2.2.2.2.2.2.2.2.2.2.2.2.2.2.2.2.2.2.2.2.2.2.1 k0_t2
theorem k0_off369_wordsi8 : ∀ (i : grid0.Coords) (v1 : BitVec 32) (k0_hw33 : k0_chk33 i v1) (k0_t2 : Fin (k0_t2_loop v1).trips), (Rect.unit (s := S2x32x16x656) (k0_off369 v1 k0_t2) S1x1x16x656.size (k0_off369_inb i v1 k0_hw33 k0_t2)).WholeWords (EltTy.packing .i8) := fun i v1 k0_hw33 k0_t2 => k0_hw33.2.2.2.2.2.2.2.2.2.2.1.2.2.2.2.2.2.2.2.2.2.2.2.2.2.2.2.2.2.2.2.2.2.2.2.2.2.2.2.2.2.1 k0_t2 (k0_off369_inb i v1 k0_hw33 k0_t2)
theorem k0_off370_inb : ∀ (i : grid0.Coords) (v1 : BitVec 32) (k0_hw33 : k0_chk33 i v1) (k0_t2 : Fin (k0_t2_loop v1).trips), ∀ a, (k0_off370 v1 k0_t2) a + S1x1x16x656.size a ≤ S2x32x16x656.size a := fun i v1 k0_hw33 k0_t2 => k0_hw33.2.2.2.2.2.2.2.2.2.2.1.2.2.2.2.2.2.2.2.2.2.2.2.2.2.2.2.2.2.2.2.2.2.2.2.2.2.2.2.2.2.2 k0_t2
theorem k0_off370_wordsi8 : ∀ (i : grid0.Coords) (v1 : BitVec 32) (k0_hw33 : k0_chk33 i v1) (k0_t2 : Fin (k0_t2_loop v1).trips), (Rect.unit (s := S2x32x16x656) (k0_off370 v1 k0_t2) S1x1x16x656.size (k0_off370_inb i v1 k0_hw33 k0_t2)).WholeWords (EltTy.packing .i8) := fun i v1 k0_hw33 k0_t2 => k0_hw33.2.2.2.2.2.2.2.2.2.2.2.1.1 k0_t2 (k0_off370_inb i v1 k0_hw33 k0_t2)
theorem k0_off371_inb : ∀ (i : grid0.Coords) (v1 : BitVec 32) (k0_hw33 : k0_chk33 i v1) (k0_t2 : Fin (k0_t2_loop v1).trips), ∀ a, (k0_off371 v1 k0_t2) a + S1x1x16x656.size a ≤ S2x32x16x656.size a := fun i v1 k0_hw33 k0_t2 => k0_hw33.2.2.2.2.2.2.2.2.2.2.2.1.2.1 k0_t2
theorem k0_off371_wordsi8 : ∀ (i : grid0.Coords) (v1 : BitVec 32) (k0_hw33 : k0_chk33 i v1) (k0_t2 : Fin (k0_t2_loop v1).trips), (Rect.unit (s := S2x32x16x656) (k0_off371 v1 k0_t2) S1x1x16x656.size (k0_off371_inb i v1 k0_hw33 k0_t2)).WholeWords (EltTy.packing .i8) := fun i v1 k0_hw33 k0_t2 => k0_hw33.2.2.2.2.2.2.2.2.2.2.2.1.2.2.1 k0_t2 (k0_off371_inb i v1 k0_hw33 k0_t2)
theorem k0_off372_inb : ∀ (i : grid0.Coords) (v1 : BitVec 32) (k0_hw33 : k0_chk33 i v1) (k0_t2 : Fin (k0_t2_loop v1).trips), ∀ a, (k0_off372 v1 k0_t2) a + S1x1x16x656.size a ≤ S2x32x16x656.size a := fun i v1 k0_hw33 k0_t2 => k0_hw33.2.2.2.2.2.2.2.2.2.2.2.1.2.2.2.1 k0_t2
theorem k0_off372_wordsi8 : ∀ (i : grid0.Coords) (v1 : BitVec 32) (k0_hw33 : k0_chk33 i v1) (k0_t2 : Fin (k0_t2_loop v1).trips), (Rect.unit (s := S2x32x16x656) (k0_off372 v1 k0_t2) S1x1x16x656.size (k0_off372_inb i v1 k0_hw33 k0_t2)).WholeWords (EltTy.packing .i8) := fun i v1 k0_hw33 k0_t2 => k0_hw33.2.2.2.2.2.2.2.2.2.2.2.1.2.2.2.2.1 k0_t2 (k0_off372_inb i v1 k0_hw33 k0_t2)
theorem k0_off373_inb : ∀ (i : grid0.Coords) (v1 : BitVec 32) (k0_hw33 : k0_chk33 i v1) (k0_t2 : Fin (k0_t2_loop v1).trips), ∀ a, (k0_off373 v1 k0_t2) a + S1x1x16x656.size a ≤ S2x32x16x656.size a := fun i v1 k0_hw33 k0_t2 => k0_hw33.2.2.2.2.2.2.2.2.2.2.2.1.2.2.2.2.2.1 k0_t2
theorem k0_off373_wordsi8 : ∀ (i : grid0.Coords) (v1 : BitVec 32) (k0_hw33 : k0_chk33 i v1) (k0_t2 : Fin (k0_t2_loop v1).trips), (Rect.unit (s := S2x32x16x656) (k0_off373 v1 k0_t2) S1x1x16x656.size (k0_off373_inb i v1 k0_hw33 k0_t2)).WholeWords (EltTy.packing .i8) := fun i v1 k0_hw33 k0_t2 => k0_hw33.2.2.2.2.2.2.2.2.2.2.2.1.2.2.2.2.2.2.1 k0_t2 (k0_off373_inb i v1 k0_hw33 k0_t2)
theorem k0_off374_inb : ∀ (i : grid0.Coords) (v1 : BitVec 32) (k0_hw33 : k0_chk33 i v1) (k0_t2 : Fin (k0_t2_loop v1).trips), ∀ a, (k0_off374 v1 k0_t2) a + S1x1x16x656.size a ≤ S2x32x16x656.size a := fun i v1 k0_hw33 k0_t2 => k0_hw33.2.2.2.2.2.2.2.2.2.2.2.1.2.2.2.2.2.2.2.1 k0_t2
theorem k0_off374_wordsi8 : ∀ (i : grid0.Coords) (v1 : BitVec 32) (k0_hw33 : k0_chk33 i v1) (k0_t2 : Fin (k0_t2_loop v1).trips), (Rect.unit (s := S2x32x16x656) (k0_off374 v1 k0_t2) S1x1x16x656.size (k0_off374_inb i v1 k0_hw33 k0_t2)).WholeWords (EltTy.packing .i8) := fun i v1 k0_hw33 k0_t2 => k0_hw33.2.2.2.2.2.2.2.2.2.2.2.1.2.2.2.2.2.2.2.2.1 k0_t2 (k0_off374_inb i v1 k0_hw33 k0_t2)
theorem k0_off375_inb : ∀ (i : grid0.Coords) (v1 : BitVec 32) (k0_hw33 : k0_chk33 i v1) (k0_t2 : Fin (k0_t2_loop v1).trips), ∀ a, (k0_off375 v1 k0_t2) a + S1x1x16x656.size a ≤ S2x32x16x656.size a := fun i v1 k0_hw33 k0_t2 => k0_hw33.2.2.2.2.2.2.2.2.2.2.2.1.2.2.2.2.2.2.2.2.2.1 k0_t2
theorem k0_off375_wordsi8 : ∀ (i : grid0.Coords) (v1 : BitVec 32) (k0_hw33 : k0_chk33 i v1) (k0_t2 : Fin (k0_t2_loop v1).trips), (Rect.unit (s := S2x32x16x656) (k0_off375 v1 k0_t2) S1x1x16x656.size (k0_off375_inb i v1 k0_hw33 k0_t2)).WholeWords (EltTy.packing .i8) := fun i v1 k0_hw33 k0_t2 => k0_hw33.2.2.2.2.2.2.2.2.2.2.2.1.2.2.2.2.2.2.2.2.2.2.1 k0_t2 (k0_off375_inb i v1 k0_hw33 k0_t2)
theorem k0_off376_inb : ∀ (i : grid0.Coords) (v1 : BitVec 32) (k0_hw33 : k0_chk33 i v1) (k0_t2 : Fin (k0_t2_loop v1).trips), ∀ a, (k0_off376 v1 k0_t2) a + S1x1x16x656.size a ≤ S2x32x16x656.size a := fun i v1 k0_hw33 k0_t2 => k0_hw33.2.2.2.2.2.2.2.2.2.2.2.1.2.2.2.2.2.2.2.2.2.2.2.1 k0_t2
theorem k0_off376_wordsi8 : ∀ (i : grid0.Coords) (v1 : BitVec 32) (k0_hw33 : k0_chk33 i v1) (k0_t2 : Fin (k0_t2_loop v1).trips), (Rect.unit (s := S2x32x16x656) (k0_off376 v1 k0_t2) S1x1x16x656.size (k0_off376_inb i v1 k0_hw33 k0_t2)).WholeWords (EltTy.packing .i8) := fun i v1 k0_hw33 k0_t2 => k0_hw33.2.2.2.2.2.2.2.2.2.2.2.1.2.2.2.2.2.2.2.2.2.2.2.2.1 k0_t2 (k0_off376_inb i v1 k0_hw33 k0_t2)
theorem k0_off377_inb : ∀ (i : grid0.Coords) (v1 : BitVec 32) (k0_hw33 : k0_chk33 i v1) (k0_t2 : Fin (k0_t2_loop v1).trips), ∀ a, (k0_off377 v1 k0_t2) a + S1x1x16x656.size a ≤ S2x32x16x656.size a := fun i v1 k0_hw33 k0_t2 => k0_hw33.2.2.2.2.2.2.2.2.2.2.2.1.2.2.2.2.2.2.2.2.2.2.2.2.2.1 k0_t2
theorem k0_off377_wordsi8 : ∀ (i : grid0.Coords) (v1 : BitVec 32) (k0_hw33 : k0_chk33 i v1) (k0_t2 : Fin (k0_t2_loop v1).trips), (Rect.unit (s := S2x32x16x656) (k0_off377 v1 k0_t2) S1x1x16x656.size (k0_off377_inb i v1 k0_hw33 k0_t2)).WholeWords (EltTy.packing .i8) := fun i v1 k0_hw33 k0_t2 => k0_hw33.2.2.2.2.2.2.2.2.2.2.2.1.2.2.2.2.2.2.2.2.2.2.2.2.2.2.1 k0_t2 (k0_off377_inb i v1 k0_hw33 k0_t2)
theorem k0_off378_inb : ∀ (i : grid0.Coords) (v1 : BitVec 32) (k0_hw33 : k0_chk33 i v1) (k0_t2 : Fin (k0_t2_loop v1).trips), ∀ a, (k0_off378 v1 k0_t2) a + S1x1x16x656.size a ≤ S2x32x16x656.size a := fun i v1 k0_hw33 k0_t2 => k0_hw33.2.2.2.2.2.2.2.2.2.2.2.1.2.2.2.2.2.2.2.2.2.2.2.2.2.2.2.1 k0_t2
theorem k0_off378_wordsi8 : ∀ (i : grid0.Coords) (v1 : BitVec 32) (k0_hw33 : k0_chk33 i v1) (k0_t2 : Fin (k0_t2_loop v1).trips), (Rect.unit (s := S2x32x16x656) (k0_off378 v1 k0_t2) S1x1x16x656.size (k0_off378_inb i v1 k0_hw33 k0_t2)).WholeWords (EltTy.packing .i8) := fun i v1 k0_hw33 k0_t2 => k0_hw33.2.2.2.2.2.2.2.2.2.2.2.1.2.2.2.2.2.2.2.2.2.2.2.2.2.2.2.2.1 k0_t2 (k0_off378_inb i v1 k0_hw33 k0_t2)
theorem k0_off379_inb : ∀ (i : grid0.Coords) (v1 : BitVec 32) (k0_hw33 : k0_chk33 i v1) (k0_t2 : Fin (k0_t2_loop v1).trips), ∀ a, (k0_off379 v1 k0_t2) a + S1x1x16x656.size a ≤ S2x32x16x656.size a := fun i v1 k0_hw33 k0_t2 => k0_hw33.2.2.2.2.2.2.2.2.2.2.2.1.2.2.2.2.2.2.2.2.2.2.2.2.2.2.2.2.2.1 k0_t2
theorem k0_off379_wordsi8 : ∀ (i : grid0.Coords) (v1 : BitVec 32) (k0_hw33 : k0_chk33 i v1) (k0_t2 : Fin (k0_t2_loop v1).trips), (Rect.unit (s := S2x32x16x656) (k0_off379 v1 k0_t2) S1x1x16x656.size (k0_off379_inb i v1 k0_hw33 k0_t2)).WholeWords (EltTy.packing .i8) := fun i v1 k0_hw33 k0_t2 => k0_hw33.2.2.2.2.2.2.2.2.2.2.2.1.2.2.2.2.2.2.2.2.2.2.2.2.2.2.2.2.2.2.1 k0_t2 (k0_off379_inb i v1 k0_hw33 k0_t2)
theorem k0_off380_inb : ∀ (i : grid0.Coords) (v1 : BitVec 32) (k0_hw33 : k0_chk33 i v1) (k0_t2 : Fin (k0_t2_loop v1).trips), ∀ a, (k0_off380 v1 k0_t2) a + S1x1x16x656.size a ≤ S2x32x16x656.size a := fun i v1 k0_hw33 k0_t2 => k0_hw33.2.2.2.2.2.2.2.2.2.2.2.1.2.2.2.2.2.2.2.2.2.2.2.2.2.2.2.2.2.2.2.1 k0_t2
theorem k0_off380_wordsi8 : ∀ (i : grid0.Coords) (v1 : BitVec 32) (k0_hw33 : k0_chk33 i v1) (k0_t2 : Fin (k0_t2_loop v1).trips), (Rect.unit (s := S2x32x16x656) (k0_off380 v1 k0_t2) S1x1x16x656.size (k0_off380_inb i v1 k0_hw33 k0_t2)).WholeWords (EltTy.packing .i8) := fun i v1 k0_hw33 k0_t2 => k0_hw33.2.2.2.2.2.2.2.2.2.2.2.1.2.2.2.2.2.2.2.2.2.2.2.2.2.2.2.2.2.2.2.2.1 k0_t2 (k0_off380_inb i v1 k0_hw33 k0_t2)
theorem k0_off381_inb : ∀ (i : grid0.Coords) (v1 : BitVec 32) (k0_hw33 : k0_chk33 i v1) (k0_t2 : Fin (k0_t2_loop v1).trips), ∀ a, (k0_off381 v1 k0_t2) a + S1x1x16x656.size a ≤ S2x32x16x656.size a := fun i v1 k0_hw33 k0_t2 => k0_hw33.2.2.2.2.2.2.2.2.2.2.2.1.2.2.2.2.2.2.2.2.2.2.2.2.2.2.2.2.2.2.2.2.2.1 k0_t2
theorem k0_off381_wordsi8 : ∀ (i : grid0.Coords) (v1 : BitVec 32) (k0_hw33 : k0_chk33 i v1) (k0_t2 : Fin (k0_t2_loop v1).trips), (Rect.unit (s := S2x32x16x656) (k0_off381 v1 k0_t2) S1x1x16x656.size (k0_off381_inb i v1 k0_hw33 k0_t2)).WholeWords (EltTy.packing .i8) := fun i v1 k0_hw33 k0_t2 => k0_hw33.2.2.2.2.2.2.2.2.2.2.2.1.2.2.2.2.2.2.2.2.2.2.2.2.2.2.2.2.2.2.2.2.2.2.1 k0_t2 (k0_off381_inb i v1 k0_hw33 k0_t2)
theorem k0_off382_inb : ∀ (i : grid0.Coords) (v1 : BitVec 32) (k0_hw33 : k0_chk33 i v1) (k0_t2 : Fin (k0_t2_loop v1).trips), ∀ a, (k0_off382 v1 k0_t2) a + S1x1x16x656.size a ≤ S2x32x16x656.size a := fun i v1 k0_hw33 k0_t2 => k0_hw33.2.2.2.2.2.2.2.2.2.2.2.1.2.2.2.2.2.2.2.2.2.2.2.2.2.2.2.2.2.2.2.2.2.2.2.1 k0_t2
theorem k0_off382_wordsi8 : ∀ (i : grid0.Coords) (v1 : BitVec 32) (k0_hw33 : k0_chk33 i v1) (k0_t2 : Fin (k0_t2_loop v1).trips), (Rect.unit (s := S2x32x16x656) (k0_off382 v1 k0_t2) S1x1x16x656.size (k0_off382_inb i v1 k0_hw33 k0_t2)).WholeWords (EltTy.packing .i8) := fun i v1 k0_hw33 k0_t2 => k0_hw33.2.2.2.2.2.2.2.2.2.2.2.1.2.2.2.2.2.2.2.2.2.2.2.2.2.2.2.2.2.2.2.2.2.2.2.2.1 k0_t2 (k0_off382_inb i v1 k0_hw33 k0_t2)
theorem k0_off383_inb : ∀ (i : grid0.Coords) (v1 : BitVec 32) (k0_hw33 : k0_chk33 i v1) (k0_t2 : Fin (k0_t2_loop v1).trips), ∀ a, (k0_off383 v1 k0_t2) a + S1x1x16x656.size a ≤ S2x32x16x656.size a := fun i v1 k0_hw33 k0_t2 => k0_hw33.2.2.2.2.2.2.2.2.2.2.2.1.2.2.2.2.2.2.2.2.2.2.2.2.2.2.2.2.2.2.2.2.2.2.2.2.2.1 k0_t2
theorem k0_off383_wordsi8 : ∀ (i : grid0.Coords) (v1 : BitVec 32) (k0_hw33 : k0_chk33 i v1) (k0_t2 : Fin (k0_t2_loop v1).trips), (Rect.unit (s := S2x32x16x656) (k0_off383 v1 k0_t2) S1x1x16x656.size (k0_off383_inb i v1 k0_hw33 k0_t2)).WholeWords (EltTy.packing .i8) := fun i v1 k0_hw33 k0_t2 => k0_hw33.2.2.2.2.2.2.2.2.2.2.2.1.2.2.2.2.2.2.2.2.2.2.2.2.2.2.2.2.2.2.2.2.2.2.2.2.2.2.1 k0_t2 (k0_off383_inb i v1 k0_hw33 k0_t2)
theorem k0_off384_inb : ∀ (i : grid0.Coords) (v1 : BitVec 32) (k0_hw33 : k0_chk33 i v1) (k0_t2 : Fin (k0_t2_loop v1).trips), ∀ a, (k0_off384 v1 k0_t2) a + S1x1x16x656.size a ≤ S2x32x16x656.size a := fun i v1 k0_hw33 k0_t2 => k0_hw33.2.2.2.2.2.2.2.2.2.2.2.1.2.2.2.2.2.2.2.2.2.2.2.2.2.2.2.2.2.2.2.2.2.2.2.2.2.2.2.1 k0_t2
theorem k0_off384_wordsi8 : ∀ (i : grid0.Coords) (v1 : BitVec 32) (k0_hw33 : k0_chk33 i v1) (k0_t2 : Fin (k0_t2_loop v1).trips), (Rect.unit (s := S2x32x16x656) (k0_off384 v1 k0_t2) S1x1x16x656.size (k0_off384_inb i v1 k0_hw33 k0_t2)).WholeWords (EltTy.packing .i8) := fun i v1 k0_hw33 k0_t2 => k0_hw33.2.2.2.2.2.2.2.2.2.2.2.1.2.2.2.2.2.2.2.2.2.2.2.2.2.2.2.2.2.2.2.2.2.2.2.2.2.2.2.2.1 k0_t2 (k0_off384_inb i v1 k0_hw33 k0_t2)
theorem k0_off385_inb : ∀ (i : grid0.Coords) (v1 : BitVec 32) (k0_hw33 : k0_chk33 i v1) (k0_t2 : Fin (k0_t2_loop v1).trips), ∀ a, (k0_off385 v1 k0_t2) a + S1x1x16x656.size a ≤ S2x32x16x656.size a := fun i v1 k0_hw33 k0_t2 => k0_hw33.2.2.2.2.2.2.2.2.2.2.2.1.2.2.2.2.2.2.2.2.2.2.2.2.2.2.2.2.2.2.2.2.2.2.2.2.2.2.2.2.2.1 k0_t2
theorem k0_off385_wordsi8 : ∀ (i : grid0.Coords) (v1 : BitVec 32) (k0_hw33 : k0_chk33 i v1) (k0_t2 : Fin (k0_t2_loop v1).trips), (Rect.unit (s := S2x32x16x656) (k0_off385 v1 k0_t2) S1x1x16x656.size (k0_off385_inb i v1 k0_hw33 k0_t2)).WholeWords (EltTy.packing .i8) := fun i v1 k0_hw33 k0_t2 => k0_hw33.2.2.2.2.2.2.2.2.2.2.2.1.2.2.2.2.2.2.2.2.2.2.2.2.2.2.2.2.2.2.2.2.2.2.2.2.2.2.2.2.2.2.1 k0_t2 (k0_off385_inb i v1 k0_hw33 k0_t2)
theorem k0_off386_inb : ∀ (i : grid0.Coords) (v1 : BitVec 32) (k0_hw33 : k0_chk33 i v1) (k0_t2 : Fin (k0_t2_loop v1).trips), ∀ a, (k0_off386 v1 k0_t2) a + S1x1x16x656.size a ≤ S2x32x16x656.size a := fun i v1 k0_hw33 k0_t2 => k0_hw33.2.2.2.2.2.2.2.2.2.2.2.1.2.2.2.2.2.2.2.2.2.2.2.2.2.2.2.2.2.2.2.2.2.2.2.2.2.2.2.2.2.2.2 k0_t2
theorem k0_off386_wordsi8 : ∀ (i : grid0.Coords) (v1 : BitVec 32) (k0_hw33 : k0_chk33 i v1) (k0_t2 : Fin (k0_t2_loop v1).trips), (Rect.unit (s := S2x32x16x656) (k0_off386 v1 k0_t2) S1x1x16x656.size (k0_off386_inb i v1 k0_hw33 k0_t2)).WholeWords (EltTy.packing .i8) := fun i v1 k0_hw33 k0_t2 => k0_hw33.2.2.2.2.2.2.2.2.2.2.2.2.1 k0_t2 (k0_off386_inb i v1 k0_hw33 k0_t2)
theorem k0_off387_inb : ∀ (i : grid0.Coords) (v1 : BitVec 32) (k0_hw33 : k0_chk33 i v1) (k0_t2 : Fin (k0_t2_loop v1).trips), ∀ a, (k0_off387 v1 k0_t2) a + S1x1x16x656.size a ≤ S2x32x16x656.size a := fun i v1 k0_hw33 k0_t2 => k0_hw33.2.2.2.2.2.2.2.2.2.2.2.2.2.1 k0_t2
theorem k0_off387_wordsi8 : ∀ (i : grid0.Coords) (v1 : BitVec 32) (k0_hw33 : k0_chk33 i v1) (k0_t2 : Fin (k0_t2_loop v1).trips), (Rect.unit (s := S2x32x16x656) (k0_off387 v1 k0_t2) S1x1x16x656.size (k0_off387_inb i v1 k0_hw33 k0_t2)).WholeWords (EltTy.packing .i8) := fun i v1 k0_hw33 k0_t2 => k0_hw33.2.2.2.2.2.2.2.2.2.2.2.2.2.2.1 k0_t2 (k0_off387_inb i v1 k0_hw33 k0_t2)
theorem k0_off388_inb : ∀ (i : grid0.Coords) (v1 : BitVec 32) (k0_hw33 : k0_chk33 i v1) (k0_t2 : Fin (k0_t2_loop v1).trips), ∀ a, (k0_off388 v1 k0_t2) a + S1x1x16x656.size a ≤ S2x32x16x656.size a := fun i v1 k0_hw33 k0_t2 => k0_hw33.2.2.2.2.2.2.2.2.2.2.2.2.2.2.2.1 k0_t2
theorem k0_off388_wordsi8 : ∀ (i : grid0.Coords) (v1 : BitVec 32) (k0_hw33 : k0_chk33 i v1) (k0_t2 : Fin (k0_t2_loop v1).trips), (Rect.unit (s := S2x32x16x656) (k0_off388 v1 k0_t2) S1x1x16x656.size (k0_off388_inb i v1 k0_hw33 k0_t2)).WholeWords (EltTy.packing .i8) := fun i v1 k0_hw33 k0_t2 => k0_hw33.2.2.2.2.2.2.2.2.2.2.2.2.2.2.2.2.1 k0_t2 (k0_off388_inb i v1 k0_hw33 k0_t2)
theorem k0_off389_inb : ∀ (i : grid0.Coords) (v1 : BitVec 32) (k0_hw33 : k0_chk33 i v1) (k0_t2 : Fin (k0_t2_loop v1).trips), ∀ a, (k0_off389 v1 k0_t2) a + S1x32x16x656.size a ≤ S2x32x16x656.size a := fun i v1 k0_hw33 k0_t2 => k0_hw33.2.2.2.2.2.2.2.2.2.2.2.2.2.2.2.2.2 k0_t2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x144 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x656 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S32x1x128x512 : Shape := ⟨4, ![32, 1, 128, 512]⟩
abbrev S32x1x128x64 : Shape := ⟨4, ![32, 1, 128, 64]⟩
abbrev S32x1x656 : Shape := ⟨3, ![32, 1, 656]⟩
abbrev S40960x16x656 : Shape := ⟨3, ![40960, 16, 656]⟩
abbrev S32x1024 : Shape := ⟨2, ![32, 1024]⟩
abbrev S32 : Shape := ⟨1, ![32]⟩
abbrev S_ : Shape := ⟨0, ![]⟩
abbrev S32x1024x1 : Shape := ⟨3, ![32, 1024, 1]⟩
abbrev S32x1024x16x656 : Shape := ⟨4, ![32, 1024, 16, 656]⟩
abbrev S32x16384x656 : Shape := ⟨3, ![32, 16384, 656]⟩
abbrev S32x16385x656 : Shape := ⟨3, ![32, 16385, 656]⟩
abbrev S32x16385x512 : Shape := ⟨3, ![32, 16385, 512]⟩
abbrev S32x16385x16 : Shape := ⟨3, ![32, 16385, 16]⟩
abbrev S32x16385x4x4 : Shape := ⟨4, ![32, 16385, 4, 4]⟩
abbrev S32x16385x4 : Shape := ⟨3, ![32, 16385, 4]⟩
abbrev S32x16385x128 : Shape := ⟨3, ![32, 16385, 128]⟩
abbrev S32x16385x64x2 : Shape := ⟨4, ![32, 16385, 64, 2]⟩
abbrev S32x16385x64 : Shape := ⟨3, ![32, 16385, 64]⟩
abbrev S32x16385x4x128 : Shape := ⟨4, ![32, 16385, 4, 128]⟩
abbrev S32x16385x4x1 : Shape := ⟨4, ![32, 16385, 4, 1]⟩
abbrev S32x16384x512 : Shape := ⟨3, ![32, 16384, 512]⟩
abbrev S32x1x512 : Shape := ⟨3, ![32, 1, 512]⟩
abbrev S32x16384x64 : Shape := ⟨3, ![32, 16384, 64]⟩
abbrev S32x1x64 : Shape := ⟨3, ![32, 1, 64]⟩
abbrev S32x1x128x16384 : Shape := ⟨4, ![32, 1, 128, 16384]⟩
abbrev S32x1x128x1 : Shape := ⟨4, ![32, 1, 128, 1]⟩
abbrev S16384 : Shape := ⟨1, ![16384]⟩
abbrev S1x16384 : Shape := ⟨2, ![1, 16384]⟩
abbrev S32x1 : Shape := ⟨2, ![32, 1]⟩
abbrev S32x16384 : Shape := ⟨2, ![32, 16384]⟩
abbrev S32x1x1x16384 : Shape := ⟨4, ![32, 1, 1, 16384]⟩
abbrev S32x1x128x16385 : Shape := ⟨4, ![32, 1, 128, 16385]⟩
abbrev S32x1x128 : Shape := ⟨3, ![32, 1, 128]⟩
abbrev S32x1x1 : Shape := ⟨3, ![32, 1, 1]⟩
abbrev S32x128x512 : Shape := ⟨3, ![32, 128, 512]⟩
abbrev S32x128 : Shape := ⟨2, ![32, 128]⟩
abbrev S32x128x1 : Shape := ⟨3, ![32, 128, 1]⟩

abbrev nBuf : Space → Nat
  | .hbm => 94
  | .vmem => 2
  | .smem => 0
  | _ => 0

abbrev bufTy : (tb : Table) → Fin (tcTables nBuf tb) → BufTy
  | .hbm, ⟨0, _⟩ => ⟨S32x1x128x512, .bf16⟩
  | .hbm, ⟨1, _⟩ => ⟨S32x1x128x64, .bf16⟩
  | .hbm, ⟨2, _⟩ => ⟨S32x1x656, .i8⟩
  | .hbm, ⟨3, _⟩ => ⟨S40960x16x656, .i8⟩
  | .hbm, ⟨4, _⟩ => ⟨S32x1024, .i32⟩
  | .hbm, ⟨5, _⟩ => ⟨S32, .i32⟩
  | .hbm, ⟨6, _⟩ => ⟨S_, .i32⟩
  | .hbm, ⟨7, _⟩ => ⟨S32x1024, .i32⟩
  | .hbm, ⟨8, _⟩ => ⟨S32x1024, .i1⟩
  | .hbm, ⟨9, _⟩ => ⟨S_, .i32⟩
  | .hbm, ⟨10, _⟩ => ⟨S32x1024, .i32⟩
  | .hbm, ⟨11, _⟩ => ⟨S32x1024, .i32⟩
  | .hbm, ⟨12, _⟩ => ⟨S32x1024, .i32⟩
  | .hbm, ⟨13, _⟩ => ⟨S32x1024x1, .i32⟩
  | .hbm, ⟨14, _⟩ => ⟨S32x1024x16x656, .i8⟩
  | .hbm, ⟨15, _⟩ => ⟨S32x16384x656, .i8⟩
  | .hbm, ⟨16, _⟩ => ⟨S32x16385x656, .i8⟩
  | .hbm, ⟨17, _⟩ => ⟨S32x16385x512, .i8⟩
  | .hbm, ⟨18, _⟩ => ⟨S32x16385x512, .fp8e4m3⟩
  | .hbm, ⟨19, _⟩ => ⟨S32x16385x16, .i8⟩
  | .hbm, ⟨20, _⟩ => ⟨S32x16385x4x4, .i8⟩
  | .hbm, ⟨21, _⟩ => ⟨S32x16385x4, .f32⟩
  | .hbm, ⟨22, _⟩ => ⟨S32x16385x128, .i8⟩
  | .hbm, ⟨23, _⟩ => ⟨S32x16385x64x2, .i8⟩
  | .hbm, ⟨24, _⟩ => ⟨S32x16385x64, .bf16⟩
  | .hbm, ⟨25, _⟩ => ⟨S32x16385x512, .bf16⟩
  | .hbm, ⟨26, _⟩ => ⟨S32x16385x4x128, .bf16⟩
  | .hbm, ⟨27, _⟩ => ⟨S32x16385x4, .bf16⟩
  | .hbm, ⟨28, _⟩ => ⟨S32x16385x4x1, .bf16⟩
  | .hbm, ⟨29, _⟩ => ⟨S32x16385x4x128, .bf16⟩
  | .hbm, ⟨30, _⟩ => ⟨S32x16385x4x128, .bf16⟩
  | .hbm, ⟨31, _⟩ => ⟨S32x16385x512, .bf16⟩
  | .hbm, ⟨32, _⟩ => ⟨S32x16384x512, .bf16⟩
  | .hbm, ⟨33, _⟩ => ⟨S32x1x512, .bf16⟩
  | .hbm, ⟨34, _⟩ => ⟨S32x16384x64, .bf16⟩
  | .hbm, ⟨35, _⟩ => ⟨S32x1x64, .bf16⟩
  | .hbm, ⟨36, _⟩ => ⟨S32x1x128x16384, .f32⟩
  | .hbm, ⟨37, _⟩ => ⟨S32x1x128x16384, .f32⟩
  | .hbm, ⟨38, _⟩ => ⟨S32x1x128x16384, .f32⟩
  | .hbm, ⟨39, _⟩ => ⟨S_, .f32⟩
  | .hbm, ⟨40, _⟩ => ⟨S32x1x128x16384, .f32⟩
  | .hbm, ⟨41, _⟩ => ⟨S32x1x128x16384, .f32⟩
  | .hbm, ⟨42, _⟩ => ⟨S32x1x128x1, .f32⟩
  | .hbm, ⟨43, _⟩ => ⟨S32x1x128x1, .f32⟩
  | .hbm, ⟨44, _⟩ => ⟨S32x1x128x1, .f32⟩
  | .hbm, ⟨45, _⟩ => ⟨S_, .f32⟩
  | .hbm, ⟨46, _⟩ => ⟨S32x1x128x1, .f32⟩
  | .hbm, ⟨47, _⟩ => ⟨S32x1x128x1, .f32⟩
  | .hbm, ⟨48, _⟩ => ⟨S16384, .i32⟩
  | .hbm, ⟨49, _⟩ => ⟨S1x16384, .i32⟩
  | .hbm, ⟨50, _⟩ => ⟨S32x1, .i32⟩
  | .hbm, ⟨51, _⟩ => ⟨S32x16384, .i32⟩
  | .hbm, ⟨52, _⟩ => ⟨S32x16384, .i32⟩
  | .hbm, ⟨53, _⟩ => ⟨S32x16384, .i1⟩
  | .hbm, ⟨54, _⟩ => ⟨S32x1x1x16384, .i1⟩
  | .hbm, ⟨55, _⟩ => ⟨S_, .f32⟩
  | .hbm, ⟨56, _⟩ => ⟨S_, .f32⟩
  | .hbm, ⟨57, _⟩ => ⟨S32x1x128x16384, .i1⟩
  | .hbm, ⟨58, _⟩ => ⟨S32x1x128x16384, .f32⟩
  | .hbm, ⟨59, _⟩ => ⟨S32x1x128x16384, .f32⟩
  | .hbm, ⟨60, _⟩ => ⟨S32x1x128x16385, .f32⟩
  | .hbm, ⟨61, _⟩ => ⟨S_, .f32⟩
  | .hbm, ⟨62, _⟩ => ⟨S32x1x128, .f32⟩
  | .hbm, ⟨63, _⟩ => ⟨S32x1x128x1, .f32⟩
  | .hbm, ⟨64, _⟩ => ⟨S32x1x128x16385, .f32⟩
  | .hbm, ⟨65, _⟩ => ⟨S32x1x128x16385, .f32⟩
  | .hbm, ⟨66, _⟩ => ⟨S32x1x128x16385, .f32⟩
  | .hbm, ⟨67, _⟩ => ⟨S_, .f32⟩
  | .hbm, ⟨68, _⟩ => ⟨S32x1x128, .f32⟩
  | .hbm, ⟨69, _⟩ => ⟨S32x1x128x1, .f32⟩
  | .hbm, ⟨70, _⟩ => ⟨S32x1x128x16385, .f32⟩
  | .hbm, ⟨71, _⟩ => ⟨S32x1x128x16385, .f32⟩
  | .hbm, ⟨72, _⟩ => ⟨S32x1x128x16385, .bf16⟩
  | .hbm, ⟨73, _⟩ => ⟨S32x1, .i32⟩
  | .hbm, ⟨74, _⟩ => ⟨S_, .i32⟩
  | .hbm, ⟨75, _⟩ => ⟨S32x1, .i32⟩
  | .hbm, ⟨76, _⟩ => ⟨S32x1, .i32⟩
  | .hbm, ⟨77, _⟩ => ⟨S32x1, .f32⟩
  | .hbm, ⟨78, _⟩ => ⟨S32x1x128x1, .f32⟩
  | .hbm, ⟨79, _⟩ => ⟨S32x1x128x1, .f32⟩
  | .hbm, ⟨80, _⟩ => ⟨S32x1x128, .f32⟩
  | .hbm, ⟨81, _⟩ => ⟨S32x1, .f32⟩
  | .hbm, ⟨82, _⟩ => ⟨S32x1x1, .f32⟩
  | .hbm, ⟨83, _⟩ => ⟨S32x1x128, .f32⟩
  | .hbm, ⟨84, _⟩ => ⟨S32x1x128, .f32⟩
  | .hbm, ⟨85, _⟩ => ⟨S32x1x128x16384, .bf16⟩
  | .hbm, ⟨86, _⟩ => ⟨S32x1x128x512, .f32⟩
  | .hbm, ⟨87, _⟩ => ⟨S32x1x128x1, .bf16⟩
  | .hbm, ⟨88, _⟩ => ⟨S32x1x128x512, .f32⟩
  | .hbm, ⟨89, _⟩ => ⟨S32x1x128x512, .f32⟩
  | .hbm, ⟨90, _⟩ => ⟨S32x1x128x512, .bf16⟩
  | .hbm, ⟨91, _⟩ => ⟨S32x128x512, .bf16⟩
  | .hbm, ⟨92, _⟩ => ⟨S32x128, .f32⟩
  | .hbm, ⟨93, _⟩ => ⟨S32x128x1, .f32⟩
  | .local _ .vmem, ⟨0, _⟩ => ⟨S32x16385x512, .fp8e4m3⟩
  | .local _ .vmem, ⟨1, _⟩ => ⟨S32x16385x512, .bf16⟩
  | _, _ => ⟨S32x1x128x512, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_1 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_2 : Ref sig .tc := ⟨.hbm, 55, rfl⟩
abbrev main_call0_v0 : Ref sig .tc := ⟨.hbm, 56, rfl⟩
abbrev main_call0_v1 : Ref sig .tc := ⟨.hbm, 57, rfl⟩
abbrev main_call0_v2 : Ref sig .tc := ⟨.hbm, 58, rfl⟩
abbrev main_v45 : Ref sig .tc := ⟨.hbm, 59, rfl⟩
abbrev main_v46 : Ref sig .tc := ⟨.hbm, 60, rfl⟩
abbrev main_cst_3 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_4 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_c_5 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S32x16385x512 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x16385x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Kernel.Base.lean ====
/- The launch of the kernel: what its pipeline stages and when, the arrays as the region finds them, the operands the
   body moves itself. Arranged after the generator's text for a body of this class. -/
module

public import proofs.«01_k».proof.Proof.Gen.Kernel.Launch
public import proofs.«01_k».proof.Proof.Gen.Kernel.Skeleton
public import proofs.«01_k».proof.Proof.Gen.Kernel.Loops
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 2 (%2)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 0 (fun _ => rfl) (by decide)) (P := 1) (by decide) t).mpr (Nat.mod_one _) : ∀ t : Fin grid0.N, Pipeline.Window.fetchOf grid0 false cc0_transform_0 t = true)
/-- Window 1 (operand 3 (%1)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 0 (by decide) (by decide) (Pipeline.Window.sep_of_coord cc0_transform_1 0 0 (fun _ => rfl) (by decide)) (P := 1) (by decide) t).mpr (Nat.mod_one _) : ∀ t : Fin grid0.N, Pipeline.Window.fetchOf grid0 false cc0_transform_1 t = true)
/-- Window 2 (operand 4 (%arg2)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 0 (by decide) (by decide) (Pipeline.Window.sep_of_coord cc0_transform_2 0 0 (fun _ => rfl) (by decide)) (P := 1) (by decide) t).mpr (Nat.mod_one _) : ∀ t : Fin grid0.N, Pipeline.Window.fetchOf grid0 false cc0_transform_2 t = true)
/-- Window 3 (result 0 (%3#0)) is written back at every point, at any contents of the tables (its index map reads none). -/
theorem flush0_3 (a : (pcfg0 (F := F)).Adm) : ∀ t : Fin (cfg0 a).N, ((cfg0 a).win 3).flush t = true :=
  (fun t => (Pipeline.Window.flushOf_reads cc0_transform_4 reads0_3 hreads0_3 0 (by decide) (by decide) (Pipeline.Window.sep_of_coord cc0_transform_4 0 0 (fun _ => rfl) (by decide)) (P := 1) (m := 0) (by decide) rfl t).mpr (Nat.mod_one _) : ∀ t : Fin grid0.N, Pipeline.Window.flushOf grid0 true cc0_transform_4 t = true)
/-- Window 4 (result 1 (%3#1)) is written back at every point, at any contents of the tables (its index map reads none). -/
theorem flush0_4 (a : (pcfg0 (F := F)).Adm) : ∀ t : Fin (cfg0 a).N, ((cfg0 a).win 4).flush t = true :=
  (fun t => (Pipeline.Window.flushOf_reads cc0_transform_5 reads0_4 hreads0_4 0 (by decide) (by decide) (Pipeline.Window.sep_of_coord cc0_transform_5 0 0 (fun _ => rfl) (by decide)) (P := 1) (m := 0) (by decide) rfl t).mpr (Nat.mod_one _) : ∀ t : Fin grid0.N, Pipeline.Window.flushOf grid0 true cc0_transform_5 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_mla (grid0.coords t) (Memref.whole main_arg4) (Memref.isWhole_whole _) (Memref.whole main_arg5) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (Memref.whole main_arg3) (Memref.isWhole_whole _) (spec0_3.stage ((cfg0 a).slots t 3)) (hstage0_3 (((cfg0 a).slots t 3).cast nbuf0_3)) (spec0_4.stage ((cfg0 a).slots t 4)) (hstage0_4 (((cfg0 a).slots t 4).cast nbuf0_4)) (Memref.whole cc0_scratch0) (Memref.isWhole_whole _) cc0_scratch1

variable (m : (ℓ : Loc nD τ sig) → Buf (Elt F) ℓ) (ρ : Dev nD → PrngReg)

/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S32x1024 .i32 := Memref.whole main_arg4
abbrev htbM0_0 : tbM0_0.IsWhole := Memref.isWhole_whole _
abbrev tbM0_1 : Memref sig .tc .smem S32 .i32 := Memref.whole main_arg5
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (Pipeline.UD sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (Pipeline.UD sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (Pipeline.UD sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (Pipeline.UD sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      (Pipeline.RDat.FramePost.arr_in h c 2 rfl).trans ((hA c 2).trans (V_main_arg2 m c)),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c)⟩) h

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x128x512 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x128x144 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x656 .i8 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x128x512 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x128x1 .f32 := spec0_4.stage ((cfgM m hO).slots t 4)
abbrev hs0_4 (hO : Ok m) (t : Fin (cfgM m hO).N) : (ms0_4 m hO t).IsWhole := hstage0_4 (((cfgM m hO).slots t 4).cast nbuf0_4)
/-- The scratch operands: whole scoped buffers of the kernel's own, passed beside the windows. -/
abbrev scM0_0 : Memref sig .tc .vmem S2x32x16x656 .i8 := Memref.whole cc0_scratch0
/-- The operands left in HBM that the body copies into scratch itself, whole. -/
abbrev hbM0_0 : Memref sig .tc .hbm S40960x16x656 .i8 := Memref.whole main_arg3
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 2 → SemLoc sig := fun j => (![SemLoc.dma 10, SemLoc.dma 11] : Fin 2 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 10) 0 ∗ semVal ((c : Thread nD τ), SemLoc.dma 11) 0) := by
  rw [Pipeline.ownSems0_eq_of_list c osem0 [0, 1] (by decide) (by decide)]; rfl
/-- The HBM operands the body moves, as references: unscoped, no window's array, no table (`Pipeline.restRefsP`). -/
def H0 : Finset (Ref sig .tc) := {main_arg3}
theorem H0_sub : H0 ⊆ Pipeline.restRefsP sig pre0 spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg3)) := by
  rw [BI.bigSep_eq_bigSepL_of_eq [main_arg3] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d)) ∗ (∃ r, prngReg c r) ∗ iprop(semVal ((c : Thread nD τ), SemLoc.dma 10) 0 ∗ semVal ((c : Thread nD τ), SemLoc.dma 11) 0) ∗ iprop(hbPt0 c hbM0_0 (V m c main_arg3))) := by
  rw [Pipeline.ΦD_eq, scopedRest0_eq, ownSems00_eq, hbmPts0_eq]; simp only [scM0_0, owns_whole]; try rfl

end Cert.Kernel.Gen

end
-- ==== Proof.Kernel.Copies.lean ====
/- One page copy of the kernel: where it reads, where it lands, what it delivers, and the rules for issuing one more
   copy of a batch and for waiting for one. A batch is the 32 copies of one 512-token block into one half of the
   double buffer, all on that half's semaphore. -/
module

public import proofs.«01_k».proof.Proof.Kernel.Base
public import Idealize.ShloMosaic.Lib.Batch
public import Idealize.ShloMosaic.Lib.Transfers
public import Idealize.ShloMosaic.Lib.ValueLayout

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

/-! ## The memrefs of a copy -/

/-- One page's place in the double buffer: half `off 0`, page `off 1`. -/
abbrev slotM (off : Fin 4 → ℕ) (h : ∀ a, off a + S1x1x16x656.size a ≤ S2x32x16x656.size a) : Memref sig .tc .vmem S16x656 .i8 :=
  ((Memref.whole cc0_scratch0 : Memref sig .tc .vmem S2x32x16x656 .i8).slice (Rect.unit (s := S2x32x16x656) off S1x1x16x656.size h) (fun _ => rfl)).squeeze S16x656 squeezes_S1x1x16x656_S16x656
/-- One page of the pool: page `off 0`. -/
abbrev pageM (off : Fin 3 → ℕ) (h : ∀ a, off a + S1x16x656.size a ≤ S40960x16x656.size a) : Memref sig .tc .hbm S16x656 .i8 :=
  ((Memref.whole main_arg3 : Memref sig .tc .hbm S40960x16x656 .i8).slice (Rect.unit (s := S40960x16x656) off S1x16x656.size h) (fun _ => rfl)).squeeze S16x656 squeezes_S1x16x656_S16x656
/-- The semaphore of half `off 0`. -/
abbrev cellM (off : Fin 1 → ℕ) (h : ∀ a, off a + S1.size a ≤ S2.size a) : DmaSem sig :=
  ((cc0_scratch1.slice (Rect.unit (s := S2) off S1.size h)).squeeze S_ squeezes_S1_S_).sem

theorem slot_inb (s : Fin 2) (n : Fin 32) : ∀ a, (![s.val, n.val, 0, 0] : Fin 4 → ℕ) a + S1x1x16x656.size a ≤ S2x32x16x656.size a := by
  have := s.isLt; have := n.isLt
  intro a; fin_cases a <;> simp [S1x1x16x656, S2x32x16x656] <;> omega
theorem page_inb (p : Fin 40960) : ∀ a, (![p.val, 0, 0] : Fin 3 → ℕ) a + S1x16x656.size a ≤ S40960x16x656.size a := by
  have := p.isLt
  intro a; fin_cases a <;> simp [S1x16x656, S40960x16x656] <;> omega
theorem cell_inb (s : Fin 2) : ∀ a, (![s.val] : Fin 1 → ℕ) a + S1.size a ≤ S2.size a := by
  have := s.isLt
  intro a; fin_cases a; simp [S1, S2]; omega

/-- The semaphore of half `s`. -/
def cellS (s : Fin 2) : DmaSem sig := cellM ![s.val] (cell_inb s)
theorem cellS_zero : cellS 0 = 10 := by unfold cellS; decide
theorem cellS_one : cellS 1 = 11 := by unfold cellS; decide

abbrev bufL (c : Dev nD) := (Memref.whole cc0_scratch0 : Memref sig .tc .vmem S2x32x16x656 .i8).view.loc (c : Thread nD τ)
abbrev poolL (c : Dev nD) := (Memref.whole main_arg3 : Memref sig .tc .hbm S40960x16x656 .i8).view.loc (c : Thread nD τ)

/-- Where row `x`, byte `y` of a slot lies in the double buffer. -/
theorem slotM_emb (s : Fin 2) (n : Fin 32) (h) (x : Fin 16) (y : Fin 656) :
    (slotM ![s.val, n.val, 0, 0] h).view.emb (ix2 x y) = ix4 s n x y := by
  show (Rect.unit (s := S2x32x16x656) ![s.val, n.val, 0, 0] S1x1x16x656.size h).emb (Shape.reshapeEquiv _ (ix2 x y)) = _
  rw [reshapeEquiv_ix2_11ab]
  funext a; apply Fin.ext
  show (![s.val, n.val, 0, 0] : Fin 4 → ℕ) a + 1 * _ = _
  fin_cases a <;> simp
/-- Where row `x`, byte `y` of a page lies in the pool. -/
theorem pageM_emb (p : Fin 40960) (h) (x : Fin 16) (y : Fin 656) :
    (pageM ![p.val, 0, 0] h).view.emb (ix2 x y) = ix3 p x y := by
  show (Rect.unit (s := S40960x16x656) ![p.val, 0, 0] S1x16x656.size h).emb (Shape.reshapeEquiv _ (ix2 x y)) = _
  rw [reshapeEquiv_ix2_1ab]
  funext a; apply Fin.ext
  show (![p.val, 0, 0] : Fin 3 → ℕ) a + 1 * _ = _
  fin_cases a <;> simp

/-- A slot's elements. -/
def slotSet (s : Fin 2) (n : Fin 32) : Finset S2x32x16x656.Idx := Finset.univ.filter fun i => (i 0).val = s.val ∧ (i 1).val = n.val
theorem slotM_set (s : Fin 2) (n : Fin 32) (h) : (slotM ![s.val, n.val, 0, 0] h).view.set = slotSet s n := by
  ext i
  constructor
  · intro hi
    obtain ⟨x, -, rfl⟩ := Finset.mem_map.mp hi
    obtain ⟨a, b, rfl⟩ : ∃ (a : Fin 16) (b : Fin 656), x = ix2 a b := ⟨x 0, x 1, eq_ix2 x⟩
    rw [slotM_emb]
    simp [slotSet]
  · intro hi
    simp only [slotSet, Finset.mem_filter, Finset.mem_univ, _root_.true_and] at hi
    obtain ⟨h0, h1⟩ := hi
    refine Finset.mem_map.mpr ⟨ix2 (i 2) (i 3), Finset.mem_univ _, ?_⟩
    obtain ⟨a, b, d, e, rfl⟩ : ∃ (a : Fin 2) (b : Fin 32) (d : Fin 16) (e : Fin 656), i = ix4 a b d e := ⟨i 0, i 1, i 2, i 3, eq_ix4 i⟩
    obtain rfl : a = s := Fin.ext h0
    obtain rfl : b = n := Fin.ext h1
    exact slotM_emb a b h d e
/-- A page's elements. -/
def pageSet (p : Fin 40960) : Finset S40960x16x656.Idx := (pageM ![p.val, 0, 0] (page_inb p)).view.set

/-! ## A batch -/

/-- What the double buffer holds once pages `w` have landed: at page `n` the pool's page `w n`, whichever the half. -/
def landed (c : Dev nD) (w : Fin 32 → Fin 40960) (fh : Buf (Elt F) (poolL c)) : Buf (Elt F) (bufL c) :=
  fun (i : S2x32x16x656.Idx) => fh (ix3 (w (i 1)) (i 2) (i 3))

/-- The read share of the pool that the copy into slot `(s, n)` takes. -/
abbrev tk (s : Fin 2) (n : Fin 32) : PosShare TreeShare := Transfers.shareTokN fullShare (32 * s.val + n.val)

/-- What a slot and its copy's share of the pool are while no copy is pending. -/
def free1 (c : Dev nD) (fh : Buf (Elt F) (poolL c)) (s : Fin 2) (g : Buf (Elt F) (bufL c)) (n : Fin 32) : sProp 𝕄 :=
  iprop((bufL c ↦[slotSet s n]{fullShare} g) ∗ (poolL c ↦{tk s n} fh))
/-- What of the share stays behind while the copy is pending. -/
def rest1 (c : Dev nD) (fh : Buf (Elt F) (poolL c)) (s : Fin 2) (w : Fin 32 → Fin 40960) (n : Fin 32) : sProp 𝕄 :=
  iprop(poolL c ↦[Finset.univ \ pageSet (w n)]{tk s n} fh)
/-- What a copy delivers: its slot holding the page, and the page's share back. -/
def deliv1 (c : Dev nD) (fh : Buf (Elt F) (poolL c)) (s : Fin 2) (w : Fin 32 → Fin 40960) (n : Fin 32) : sProp 𝕄 :=
  iprop((bufL c ↦[slotSet s n]{fullShare} landed c w fh) ∗ (poolL c ↦[pageSet (w n)]{tk s n} fh))

/-- The credit of one copy. -/
def amt : ℕ := (slotM ![0, 0, 0, 0] (slot_inb 0 0)).view.dmaCredit
theorem amt_pos : 0 < amt := by unfold amt; decide

/-- The deliveries of the first `n` copies, in order. -/
def delivs (c : Dev nD) (fh : Buf (Elt F) (poolL c)) (s : Fin 2) (w : Fin 32 → Fin 40960) (n : ℕ) : List (sProp 𝕄) :=
  ((List.finRange 32).take n).map (deliv1 c fh s w)
theorem delivs_length (c : Dev nD) (fh : Buf (Elt F) (poolL c)) (s w) (n : ℕ) (hn : n ≤ 32) : (delivs c fh s w n).length = n := by
  simp [delivs, hn]
theorem delivs_succ (c : Dev nD) (fh : Buf (Elt F) (poolL c)) (s w) (n : ℕ) (hn : n < 32) :
    delivs c fh s w (n + 1) = delivs c fh s w n ++ [deliv1 c fh s w ⟨n, hn⟩] := by
  unfold delivs
  rw [List.take_succ_eq_append_getElem (by simpa using hn), List.map_append]
  simp

/-- The core's part of a batch into half `s` of which `n` copies are issued, none waited for. -/
def Iss (c : Dev nD) (fh : Buf (Elt F) (poolL c)) (s : Fin 2) (g : Buf (Elt F) (bufL c)) (w : Fin 32 → Fin 40960) (n : ℕ) : sProp 𝕄 :=
  iprop(Transfers.Batched (countersEmb (U := Pipeline.UD sig nD τ)) (c : Thread nD τ) (.dma (cellS s)) () amt 32 (delivs c fh s w n) 0
    ∗ bigSep (Transfers.issued n) (rest1 c fh s w) ∗ bigSep (Transfers.pending n) (free1 c fh s g))

/-- The core's part of a whole batch into half `s`, `u` of its copies waited for. -/
def Wt (c : Dev nD) (fh : Buf (Elt F) (poolL c)) (s : Fin 2) (w : Fin 32 → Fin 40960) (u : ℕ) : sProp 𝕄 :=
  iprop(Transfers.Batched (countersEmb (U := Pipeline.UD sig nD τ)) (c : Thread nD τ) (.dma (cellS s)) () amt 32 (delivs c fh s w 32) (u * amt)
    ∗ bigSep Finset.univ (rest1 c fh s w))

/-- A half with no copy pending: its slots at `g`, its shares of the pool, its semaphore at zero. -/
def Idle (c : Dev nD) (fh : Buf (Elt F) (poolL c)) (s : Fin 2) (g : Buf (Elt F) (bufL c)) : sProp 𝕄 :=
  iprop(semVal ((c : Thread nD τ), SemLoc.dma (cellS s)) 0 ∗ bigSep Finset.univ (free1 c fh s g))

/-- A copy's delivery, as the issue records it, is `deliv1`. -/
theorem deliv1_eq (c : Dev nD) (fh : Buf (Elt F) (poolL c)) (s : Fin 2) (g : Buf (Elt F) (bufL c)) (w : Fin 32 → Fin 40960) (n : Fin 32)
    (h h') (via : ReadAs (Elt F) S16x656 .i8 S16x656 .i8) (hv : via = .same) :
    (iprop(((slotM ![s.val, n.val, 0, 0] h).view.loc (c : Thread nD τ) ↦[slotSet s n]{fullShare}
          ((slotM ![s.val, n.val, 0, 0] h).view.write (Elt F) g (via.apply ((pageM ![(w n).val, 0, 0] h').view.read (Elt F) fh)) Finset.univ))
        ∗ ((pageM ![(w n).val, 0, 0] h').view.loc (c : Thread nD τ) ↦[(pageM ![(w n).val, 0, 0] h').view.set]{tk s n} fh)) : sProp 𝕄)
      = deliv1 c fh s w n := by
  subst hv
  unfold deliv1
  congr 1
  refine pointsTo_congr (ℓ := bufL c) fun i hi => ?_
  have hi' := hi
  simp only [slotSet, Finset.mem_filter, Finset.mem_univ, _root_.true_and] at hi'
  obtain ⟨h0, h1⟩ := hi'
  obtain ⟨a, b, d, e, rfl⟩ : ∃ (a : Fin 2) (b : Fin 32) (d : Fin 16) (e : Fin 656), i = ix4 a b d e := ⟨i 0, i 1, i 2, i 3, eq_ix4 i⟩
  obtain rfl : a = s := Fin.ext h0
  obtain rfl : b = n := Fin.ext h1
  rw [← slotM_emb a b h d e, View.write_emb_of_mem _ _ (Finset.mem_univ _), slotM_emb]
  show (pageM ![(w b).val, 0, 0] h').view.read (Elt F) fh (ix2 d e) = fh (ix3 (w b) d e)
  rw [View.read_apply, pageM_emb]
  rfl

theorem issue_step (c : Dev nD) (fh : Buf (Elt F) (poolL c)) (s : Fin 2) (g : Buf (Elt F) (bufL c)) (w : Fin 32 → Fin 40960) (n : ℕ) (hn : n < 32)
    {off : Fin 4 → ℕ} {h} (hoff : off = ![s.val, n, 0, 0]) {offs : Fin 1 → ℕ} {hs} (hoffs : offs = ![s.val])
    {offp : Fin 3 → ℕ} {hp} (hoffp : offp = ![(w ⟨n, hn⟩).val, 0, 0]) {hsrc hdst hsem} {α : Type}
    {k : PUnit → Prog (TpuEff nD τ sig (Elt F) Λ₀ .tc) α} {Q : α → sProp 𝕄} :
    Iss c fh s g w n ⊢ iprop((Iss c fh s g w (n + 1) -∗ wp frame (wpE (defs₀ (F := F)) Variants.none (c : Thread nD τ) none) Set.univ (k ⟨⟩) Q)
      -∗ wp frame (wpE (defs₀ (F := F)) Variants.none (c : Thread nD τ) none) Set.univ
          (.op (.enqueueDma (pageM offp hp) (.here (slotM off h)) (.dma (cellM offs hs)) hsrc hdst hsem) k) Q) := by
  subst hoff hoffs hoffp
  unfold Iss
  have e1 : (bigSep (Transfers.pending n) (free1 c fh s g) : sProp 𝕄)
      = iprop(free1 c fh s g ⟨n, hn⟩ ∗ bigSep (Transfers.pending (n + 1)) (free1 c fh s g)) := by
    rw [Transfers.pending_succ hn, bigSep_insert (Transfers.not_mem_pending_succ hn)]; rfl
  have e2 : (bigSep (Transfers.issued (n + 1)) (rest1 c fh s w) : sProp 𝕄)
      = iprop(rest1 c fh s w ⟨n, hn⟩ ∗ bigSep (Transfers.issued n) (rest1 c fh s w)) := by
    rw [Transfers.issued_succ hn, bigSep_insert (Transfers.not_mem_issued hn)]; rfl
  rw [e1, e2]
  unfold free1 rest1
  iintro ⟨HB, HR, ⟨Hslot, Htok⟩, HF⟩ Hk
  ihave Htok' := (pointsTo_split_subset (Finset.subset_univ (pageSet (w ⟨n, hn⟩)))).1 $$ Htok
  icases Htok' with ⟨Hpg, Hrest⟩
  iapply (Transfers.wp_dmaBatched (countersEmb (U := Pipeline.UD sig nD τ)) Variants.none (c : Thread nD τ) none
    (src := pageM ![(w ⟨n, hn⟩).val, 0, 0] hp) (dst := slotM ![s.val, n, 0, 0] h) (via := .same)
    (Sd := slotSet s ⟨n, hn⟩) (fd := g) (fs := fh) (q := tk s ⟨n, hn⟩) (Ds := delivs c fh s w n) (u := 0) (m := 32)
    () amt rfl (slotM_set s ⟨n, hn⟩ h).subset (by rw [delivs_length _ _ _ _ _ hn.le]; exact hn) (Nat.zero_le _)) $$ [HB Hslot Hpg]
  · isplitl [Hpg]; · iexact Hpg
    isplitl [Hslot]; · iexact Hslot
    iexact HB
  iintro HB
  iapply Hk
  rw [deliv1_eq c fh s g w ⟨n, hn⟩ h hp .same rfl, ← delivs_succ]
  isplitl [HB]; · iexact HB
  isplitl [Hrest HR]
  · isplitl [Hrest]; · iexact Hrest
    iexact HR
  iexact HF

end Cert.Kernel.Gen

end
-- ==== Proof.Kernel.Words.lean ====
/- The kernel's index arithmetic: block counts, loop trips, which half of the double buffer a trip reads, and that
   every offset it computes lies inside its array, from the two ranges the precondition states. -/
module

public import proofs.«01_k».proof.Proof.Kernel.Base
public import Idealize.ShloMosaic.Lib.LoopRemainder

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## Words -/

/-- The number of 512-token blocks of a sequence of `L` tokens. -/
def nblk (L : ℕ) : ℕ := (L + 511) / 512

/-- A length the precondition admits: at most 16384 tokens, read unsigned. -/
abbrev LenOk (v1 : BitVec 32) : Prop := v1.toNat ≤ 16384

theorem nblk_le {L : ℕ} (h : L ≤ 16384) : nblk L ≤ 32 := by unfold nblk; omega

theorem divsi_blocks (v1 : BitVec 32) (h : LenOk v1) :
    Scalar.divsi (Scalar.addi v1 511#32) 512#32 = BitVec.ofNat 32 (nblk v1.toNat) := by
  have hL : v1.toNat ≤ 16384 := h
  have hx : (v1 + 511#32).toNat = v1.toNat + 511 := by
    rw [BitVec.toNat_add]; simp; omega
  have hc : ¬ IntOp.SDivCorner (v1 + 511#32) 512#32 := by
    rintro (h | ⟨_, h⟩) <;> exact absurd h (by decide)
  show IntOp.divsi .scalar (v1 + 511#32) 512#32 = _
  unfold IntOp.divsi
  rw [if_neg hc, BitVec.sdiv_eq]
  have m1 : (v1 + 511#32).msb = false := by
    rw [BitVec.msb_eq_false_iff_two_mul_lt, hx]; omega
  have m2 : (512#32).msb = false := by decide
  rw [m1, m2]
  apply BitVec.eq_of_toNat_eq
  simp only [BitVec.udiv_eq, BitVec.toNat_udiv, hx, BitVec.toNat_ofNat]
  unfold nblk
  show (v1.toNat + 511) / 512 = _
  have : (v1.toNat + 511) / 512 < 2 ^ 32 := by omega
  rw [Nat.mod_eq_of_lt this]

theorem loop_ub (v1 : BitVec 32) (h : LenOk v1) : k0_t1_loop v1 = ⟨0#32, BitVec.ofNat 32 (nblk v1.toNat), 1#32⟩ := by
  unfold k0_t1_loop
  simp only []
  rw [Scalar.muli_divsi_one, divsi_blocks v1 h]
  simp [Scalar.addi, Scalar.subi, IntOp.addi, IntOp.subi]

theorem trips_word (n : ℕ) (hn : n ≤ 32) : Scf.trips (0#32) (BitVec.ofNat 32 n) (1#32) = n := by
  have : ∀ n < 33, Scf.trips (0#32) (BitVec.ofNat 32 n) (1#32) = n := by decide
  exact this n (by omega)
theorem ok_word (n : ℕ) (hn : n ≤ 32) : Scf.OK (0#32) (BitVec.ofNat 32 n) (1#32) := by
  have : ∀ n < 33, Scf.OK (0#32) (BitVec.ofNat 32 n) (1#32) := by decide
  exact this n (by omega)

theorem t1_trips (v1 : BitVec 32) (h : LenOk v1) : (k0_t1_loop v1).trips = nblk v1.toNat := by
  rw [loop_ub v1 h]; exact trips_word _ (nblk_le h)
theorem t1_OK (v1 : BitVec 32) (h : LenOk v1) : (k0_t1_loop v1).OK := by
  rw [loop_ub v1 h]; exact ok_word _ (nblk_le h)
theorem t1_lt (v1 : BitVec 32) (h : LenOk v1) (t : Fin (k0_t1_loop v1).trips) : t.val < 32 :=
  lt_of_lt_of_le (t1_trips v1 h ▸ t.isLt) (nblk_le h)
theorem t2_trips (v1 : BitVec 32) : (k0_t2_loop v1).trips = 0 := Scf.rem_trips _ _
theorem t2_false (v1 : BitVec 32) (t : Fin (k0_t2_loop v1).trips) : False := Scf.rem_no_trip _ _ t

/-- The half of the double buffer trip `iv` reads. -/
abbrev curW (arg11 : BitVec 32) : BitVec 32 :=
  let v135 : BitVec 1 := Scalar.cmpi .eq 2#32 0#32
  let v136 : BitVec 32 := Scalar.select v135 1#32 2#32
  let v137 : BitVec 32 := Scalar.remsi arg11 v136
  let v138 : BitVec 1 := Scalar.cmpi .ne v137 0#32
  let v139 : BitVec 1 := Scalar.cmpi .slt v137 0#32
  let v140 : BitVec 1 := Scalar.cmpi .slt v136 0#32
  let v141 : BitVec 1 := Scalar.xori v139 v140
  let v142 : BitVec 1 := Scalar.andi v141 v138
  let v143 : BitVec 32 := Scalar.addi v137 v136
  Scalar.select v142 v143 v137
/-- The other half, which the next block's copies fill. -/
abbrev nxtW (arg11 : BitVec 32) : BitVec 32 := Scalar.subi 1#32 (curW arg11)
/-- The page index of copy `n` of the block after `iv`. -/
abbrev pgW (arg11 n : BitVec 32) : BitVec 32 := Scalar.addi (Scalar.muli (Scalar.addi arg11 1#32) 32#32) n

theorem cur_ofNat : ∀ t < 32, (curW (Scf.iv 0#32 1#32 t)).toNat = t % 2 := by decide
theorem nxt_ofNat : ∀ t < 32, (nxtW (Scf.iv 0#32 1#32 t)).toNat = (t + 1) % 2 := by decide
theorem pg_ofNat (t n : ℕ) (ht : t < 32) (hn : n < 32) : (pgW (Scf.iv 0#32 1#32 t) (BitVec.ofNat 32 n)).toNat = 32 * (t + 1) + n := by
  simp only [pgW, Scalar.addi, Scalar.muli, IntOp.addi, IntOp.muli, Scf.iv, BitVec.toNat_add, BitVec.toNat_mul, BitVec.toNat_ofNat]
  omega
theorem grid_ofNat (i : grid0.Coords) : (BitVec.ofNat 32 (i 0).val).toNat = (i 0).val := by
  have : (i 0).val < 32 := (i 0).isLt
  rw [BitVec.toNat_ofNat]; omega

theorem cond1_iff (v1 : BitVec 32) (h : LenOk v1) : k0_cond1 v1 = 1#1 ↔ 0 < nblk v1.toNat := by
  have hn := nblk_le h
  show Scalar.cmpi .ne (Scalar.extui (Scalar.cmpi .sgt (Scalar.divsi (Scalar.addi v1 511#32) 512#32) 0#32)) 0#32 = 1#1 ↔ _
  rw [divsi_blocks v1 h]
  generalize nblk v1.toNat = n at *
  have : ∀ n < 33, (Scalar.cmpi .ne (Scalar.extui (Scalar.cmpi .sgt (BitVec.ofNat 32 n) 0#32)) 0#32 = 1#1 ↔ 0 < n) := by decide
  exact this n (by omega)
theorem cond2_iff (v1 : BitVec 32) (h : LenOk v1) (t : Fin (k0_t1_loop v1).trips) : k0_cond2 v1 t = 1#1 ↔ t.val + 1 < nblk v1.toNat := by
  have hn := nblk_le h
  have ht := t1_lt v1 h t
  show Scalar.cmpi .ne (Scalar.extui (Scalar.cmpi .slt (Scalar.addi (Scf.iv 0#32 1#32 t) 1#32) (Scalar.divsi (Scalar.addi v1 511#32) 512#32))) 0#32 = 1#1 ↔ _
  rw [divsi_blocks v1 h]
  generalize nblk v1.toNat = n at *
  generalize t.val = t at *
  have : ∀ t < 32, ∀ n < 33, (Scalar.cmpi .ne (Scalar.extui (Scalar.cmpi .slt (Scalar.addi (Scf.iv 0#32 1#32 t) 1#32) (BitVec.ofNat 32 n))) 0#32 = 1#1 ↔ t + 1 < n) := by decide
  exact this t ht n (by omega)

/-! ## Offsets inside their arrays -/

theorem inb_tbl {u p : ℕ} (hu : u < 32) (hp : p < 1024) : ∀ a, (![u, p] : Fin 2 → ℕ) a + S1x1.size a ≤ S32x1024.size a := by
  intro a; fin_cases a <;> simp [S1x1, S32x1024] <;> omega
theorem inb_sem {u : ℕ} (hu : u < 2) : ∀ a, (![u] : Fin 1 → ℕ) a + S1.size a ≤ S2.size a := by
  intro a; fin_cases a; simp [S1, S2]; omega
theorem inb_slot {u n : ℕ} (hu : u < 2) (hn : n < 32) : ∀ a, (![u, n, 0, 0] : Fin 4 → ℕ) a + S1x1x16x656.size a ≤ S2x32x16x656.size a := by
  intro a; fin_cases a <;> simp [S1x1x16x656, S2x32x16x656] <;> omega
theorem inb_half {u : ℕ} (hu : u < 2) : ∀ a, (![u, 0, 0, 0] : Fin 4 → ℕ) a + S1x32x16x656.size a ≤ S2x32x16x656.size a := by
  intro a; fin_cases a <;> simp [S1x32x16x656, S2x32x16x656] <;> omega
theorem inb_page {u : ℕ} (hu : u < 40960) : ∀ a, (![u, 0, 0] : Fin 3 → ℕ) a + S1x16x656.size a ≤ S40960x16x656.size a := by
  intro a; fin_cases a <;> simp [S1x16x656, S40960x16x656] <;> omega
theorem words_slot (u n : ℕ) (h) : (Rect.unit (s := S2x32x16x656) ![u, n, 0, 0] S1x1x16x656.size h).WholeWords (EltTy.packing .i8) :=
  Or.inr ⟨by decide, rfl, rfl, rfl⟩
theorem words_page (u : ℕ) (h) : (Rect.unit (s := S40960x16x656) ![u, 0, 0] S1x16x656.size h).WholeWords (EltTy.packing .i8) :=
  Or.inr ⟨by decide, rfl, rfl, rfl⟩

theorem cur_lt (v1 : BitVec 32) (h : LenOk v1) (t : Fin (k0_t1_loop v1).trips) : (curW (Scf.iv 0#32 1#32 t)).toNat < 2 := by
  rw [cur_ofNat t (t1_lt v1 h t)]; omega
theorem nxt_lt (v1 : BitVec 32) (h : LenOk v1) (t : Fin (k0_t1_loop v1).trips) : (nxtW (Scf.iv 0#32 1#32 t)).toNat < 2 := by
  rw [nxt_ofNat t (t1_lt v1 h t)]; omega
theorem pg_lt (v1 : BitVec 32) (h : LenOk v1) (t : Fin (k0_t1_loop v1).trips) (h2 : k0_cond2 v1 t = 1#1) (n : ℕ) (hn : n < 32) :
    (pgW (Scf.iv 0#32 1#32 t) (BitVec.ofNat 32 n)).toNat < 1024 := by
  have := (cond2_iff v1 h t).mp h2
  have := nblk_le h
  rw [pg_ofNat t n (t1_lt v1 h t) hn]; omega
theorem row_lt (i : grid0.Coords) : (BitVec.ofNat 32 (i 0).val).toNat < 32 := by
  rw [grid_ofNat]; exact (i 0).isLt

theorem chk33_0 (i : grid0.Coords) (v1 : BitVec 32) (h : LenOk v1) : k0_chk33_0 i v1 :=
  ⟨t1_OK v1 h,
   fun t h2 => inb_tbl (row_lt i) (pg_lt v1 h t h2 0 (by decide)),
   fun t _ => inb_sem (nxt_lt v1 h t),
   fun t _ => inb_slot (nxt_lt v1 h t) (by decide),
   fun t _ hinb => words_slot _ _ hinb,
   fun t h2 => inb_tbl (row_lt i) (pg_lt v1 h t h2 1 (by decide)),
   fun t _ => inb_sem (nxt_lt v1 h t),
   fun t _ => inb_slot (nxt_lt v1 h t) (by decide),
   fun t _ hinb => words_slot _ _ hinb,
   fun t h2 => inb_tbl (row_lt i) (pg_lt v1 h t h2 2 (by decide)),
   fun t _ => inb_sem (nxt_lt v1 h t),
   fun t _ => inb_slot (nxt_lt v1 h t) (by decide),
   fun t _ hinb => words_slot _ _ hinb,
   fun t h2 => inb_tbl (row_lt i) (pg_lt v1 h t h2 3 (by decide)),
   fun t _ => inb_sem (nxt_lt v1 h t),
   fun t _ => inb_slot (nxt_lt v1 h t) (by decide),
   fun t _ hinb => words_slot _ _ hinb,
   fun t h2 => inb_tbl (row_lt i) (pg_lt v1 h t h2 4 (by decide)),
   fun t _ => inb_sem (nxt_lt v1 h t),
   fun t _ => inb_slot (nxt_lt v1 h t) (by decide),
   fun t _ hinb => words_slot _ _ hinb,
   fun t h2 => inb_tbl (row_lt i) (pg_lt v1 h t h2 5 (by decide)),
   fun t _ => inb_sem (nxt_lt v1 h t),
   fun t _ => inb_slot (nxt_lt v1 h t) (by decide),
   fun t _ hinb => words_slot _ _ hinb,
   fun t h2 => inb_tbl (row_lt i) (pg_lt v1 h t h2 6 (by decide)),
   fun t _ => inb_sem (nxt_lt v1 h t),
   fun t _ => inb_slot (nxt_lt v1 h t) (by decide),
   fun t _ hinb => words_slot _ _ hinb,
   fun t h2 => inb_tbl (row_lt i) (pg_lt v1 h t h2 7 (by decide)),
   fun t _ => inb_sem (nxt_lt v1 h t),
   fun t _ => inb_slot (nxt_lt v1 h t) (by decide)⟩

theorem chk33_1 (i : grid0.Coords) (v1 : BitVec 32) (h : LenOk v1) : k0_chk33_1 i v1 :=
  ⟨fun t _ hinb => words_slot _ _ hinb,
   fun t h2 => inb_tbl (row_lt i) (pg_lt v1 h t h2 8 (by decide)),
   fun t _ => inb_sem (nxt_lt v1 h t),
   fun t _ => inb_slot (nxt_lt v1 h t) (by decide),
   fun t _ hinb => words_slot _ _ hinb,
   fun t h2 => inb_tbl (row_lt i) (pg_lt v1 h t h2 9 (by decide)),
   fun t _ => inb_sem (nxt_lt v1 h t),
   fun t _ => inb_slot (nxt_lt v1 h t) (by decide),
   fun t _ hinb => words_slot _ _ hinb,
   fun t h2 => inb_tbl (row_lt i) (pg_lt v1 h t h2 10 (by decide)),
   fun t _ => inb_sem (nxt_lt v1 h t),
   fun t _ => inb_slot (nxt_lt v1 h t) (by decide),
   fun t _ hinb => words_slot _ _ hinb,
   fun t h2 => inb_tbl (row_lt i) (pg_lt v1 h t h2 11 (by decide)),
   fun t _ => inb_sem (nxt_lt v1 h t),
   fun t _ => inb_slot (nxt_lt v1 h t) (by decide),
   fun t _ hinb => words_slot _ _ hinb,
   fun t h2 => inb_tbl (row_lt i) (pg_lt v1 h t h2 12 (by decide)),
   fun t _ => inb_sem (nxt_lt v1 h t),
   fun t _ => inb_slot (nxt_lt v1 h t) (by decide),
   fun t _ hinb => words_slot _ _ hinb,
   fun t h2 => inb_tbl (row_lt i) (pg_lt v1 h t h2 13 (by decide)),
   fun t _ => inb_sem (nxt_lt v1 h t),
   fun t _ => inb_slot (nxt_lt v1 h t) (by decide),
   fun t _ hinb => words_slot _ _ hinb,
   fun t h2 => inb_tbl (row_lt i) (pg_lt v1 h t h2 14 (by decide)),
   fun t _ => inb_sem (nxt_lt v1 h t),
   fun t _ => inb_slot (nxt_lt v1 h t) (by decide),
   fun t _ hinb => words_slot _ _ hinb,
   fun t h2 => inb_tbl (row_lt i) (pg_lt v1 h t h2 15 (by decide)),
   fun t _ => inb_sem (nxt_lt v1 h t),
   fun t _ => inb_slot (nxt_lt v1 h t) (by decide)⟩

theorem chk33_2 (i : grid0.Coords) (v1 : BitVec 32) (h : LenOk v1) : k0_chk33_2 i v1 :=
  ⟨fun t _ hinb => words_slot _ _ hinb,
   fun t h2 => inb_tbl (row_lt i) (pg_lt v1 h t h2 16 (by decide)),
   fun t _ => inb_sem (nxt_lt v1 h t),
   fun t _ => inb_slot (nxt_lt v1 h t) (by decide),
   fun t _ hinb => words_slot _ _ hinb,
   fun t h2 => inb_tbl (row_lt i) (pg_lt v1 h t h2 17 (by decide)),
   fun t _ => inb_sem (nxt_lt v1 h t),
   fun t _ => inb_slot (nxt_lt v1 h t) (by decide),
   fun t _ hinb => words_slot _ _ hinb,
   fun t h2 => inb_tbl (row_lt i) (pg_lt v1 h t h2 18 (by decide)),
   fun t _ => inb_sem (nxt_lt v1 h t),
   fun t _ => inb_slot (nxt_lt v1 h t) (by decide),
   fun t _ hinb => words_slot _ _ hinb,
   fun t h2 => inb_tbl (row_lt i) (pg_lt v1 h t h2 19 (by decide)),
   fun t _ => inb_sem (nxt_lt v1 h t),
   fun t _ => inb_slot (nxt_lt v1 h t) (by decide),
   fun t _ hinb => words_slot _ _ hinb,
   fun t h2 => inb_tbl (row_lt i) (pg_lt v1 h t h2 20 (by decide)),
   fun t _ => inb_sem (nxt_lt v1 h t),
   fun t _ => inb_slot (nxt_lt v1 h t) (by decide),
   fun t _ hinb => words_slot _ _ hinb,
   fun t h2 => inb_tbl (row_lt i) (pg_lt v1 h t h2 21 (by decide)),
   fun t _ => inb_sem (nxt_lt v1 h t),
   fun t _ => inb_slot (nxt_lt v1 h t) (by decide),
   fun t _ hinb => words_slot _ _ hinb,
   fun t h2 => inb_tbl (row_lt i) (pg_lt v1 h t h2 22 (by decide)),
   fun t _ => inb_sem (nxt_lt v1 h t),
   fun t _ => inb_slot (nxt_lt v1 h t) (by decide),
   fun t _ hinb => words_slot _ _ hinb,
   fun t h2 => inb_tbl (row_lt i) (pg_lt v1 h t h2 23 (by decide)),
   fun t _ => inb_sem (nxt_lt v1 h t),
   fun t _ => inb_slot (nxt_lt v1 h t) (by decide)⟩

theorem chk33_3 (i : grid0.Coords) (v1 : BitVec 32) (h : LenOk v1) : k0_chk33_3 i v1 :=
  ⟨fun t _ hinb => words_slot _ _ hinb,
   fun t h2 => inb_tbl (row_lt i) (pg_lt v1 h t h2 24 (by decide)),
   fun t _ => inb_sem (nxt_lt v1 h t),
   fun t _ => inb_slot (nxt_lt v1 h t) (by decide),
   fun t _ hinb => words_slot _ _ hinb,
   fun t h2 => inb_tbl (row_lt i) (pg_lt v1 h t h2 25 (by decide)),
   fun t _ => inb_sem (nxt_lt v1 h t),
   fun t _ => inb_slot (nxt_lt v1 h t) (by decide),
   fun t _ hinb => words_slot _ _ hinb,
   fun t h2 => inb_tbl (row_lt i) (pg_lt v1 h t h2 26 (by decide)),
   fun t _ => inb_sem (nxt_lt v1 h t),
   fun t _ => inb_slot (nxt_lt v1 h t) (by decide),
   fun t _ hinb => words_slot _ _ hinb,
   fun t h2 => inb_tbl (row_lt i) (pg_lt v1 h t h2 27 (by decide)),
   fun t _ => inb_sem (nxt_lt v1 h t),
   fun t _ => inb_slot (nxt_lt v1 h t) (by decide),
   fun t _ hinb => words_slot _ _ hinb,
   fun t h2 => inb_tbl (row_lt i) (pg_lt v1 h t h2 28 (by decide)),
   fun t _ => inb_sem (nxt_lt v1 h t),
   fun t _ => inb_slot (nxt_lt v1 h t) (by decide),
   fun t _ hinb => words_slot _ _ hinb,
   fun t h2 => inb_tbl (row_lt i) (pg_lt v1 h t h2 29 (by decide)),
   fun t _ => inb_sem (nxt_lt v1 h t),
   fun t _ => inb_slot (nxt_lt v1 h t) (by decide),
   fun t _ hinb => words_slot _ _ hinb,
   fun t h2 => inb_tbl (row_lt i) (pg_lt v1 h t h2 30 (by decide)),
   fun t _ => inb_sem (nxt_lt v1 h t),
   fun t _ => inb_slot (nxt_lt v1 h t) (by decide),
   fun t _ hinb => words_slot _ _ hinb,
   fun t h2 => inb_tbl (row_lt i) (pg_lt v1 h t h2 31 (by decide)),
   fun t _ => inb_sem (nxt_lt v1 h t),
   fun t _ => inb_slot (nxt_lt v1 h t) (by decide)⟩

theorem chk33_4 (i : grid0.Coords) (v1 : BitVec 32) (h : LenOk v1) : k0_chk33_4 i v1 :=
  ⟨fun t _ hinb => words_slot _ _ hinb,
   fun t  => inb_sem (cur_lt v1 h t),
   fun t  => inb_slot (cur_lt v1 h t) (by decide),
   fun t  hinb => words_slot _ _ hinb,
   fun t  => inb_slot (cur_lt v1 h t) (by decide),
   fun t  hinb => words_slot _ _ hinb,
   fun t  => inb_slot (cur_lt v1 h t) (by decide),
   fun t  hinb => words_slot _ _ hinb,
   fun t  => inb_slot (cur_lt v1 h t) (by decide),
   fun t  hinb => words_slot _ _ hinb,
   fun t  => inb_slot (cur_lt v1 h t) (by decide),
   fun t  hinb => words_slot _ _ hinb,
   fun t  => inb_slot (cur_lt v1 h t) (by decide),
   fun t  hinb => words_slot _ _ hinb,
   fun t  => inb_slot (cur_lt v1 h t) (by decide),
   fun t  hinb => words_slot _ _ hinb,
   fun t  => inb_slot (cur_lt v1 h t) (by decide),
   fun t  hinb => words_slot _ _ hinb,
   fun t  => inb_slot (cur_lt v1 h t) (by decide),
   fun t  hinb => words_slot _ _ hinb,
   fun t  => inb_slot (cur_lt v1 h t) (by decide),
   fun t  hinb => words_slot _ _ hinb,
   fun t  => inb_slot (cur_lt v1 h t) (by decide),
   fun t  hinb => words_slot _ _ hinb,
   fun t  => inb_slot (cur_lt v1 h t) (by decide),
   fun t  hinb => words_slot _ _ hinb,
   fun t  => inb_slot (cur_lt v1 h t) (by decide),
   fun t  hinb => words_slot _ _ hinb,
   fun t  => inb_slot (cur_lt v1 h t) (by decide),
   fun t  hinb => words_slot _ _ hinb,
   fun t  => inb_slot (cur_lt v1 h t) (by decide),
   fun t  hinb => words_slot _ _ hinb⟩

theorem chk33_5 (i : grid0.Coords) (v1 : BitVec 32) (h : LenOk v1) : k0_chk33_5 i v1 :=
  ⟨fun t  => inb_slot (cur_lt v1 h t) (by decide),
   fun t  hinb => words_slot _ _ hinb,
   fun t  => inb_slot (cur_lt v1 h t) (by decide),
   fun t  hinb => words_slot _ _ hinb,
   fun t  => inb_slot (cur_lt v1 h t) (by decide),
   fun t  hinb => words_slot _ _ hinb,
   fun t  => inb_slot (cur_lt v1 h t) (by decide),
   fun t  hinb => words_slot _ _ hinb,
   fun t  => inb_slot (cur_lt v1 h t) (by decide),
   fun t  hinb => words_slot _ _ hinb,
   fun t  => inb_slot (cur_lt v1 h t) (by decide),
   fun t  hinb => words_slot _ _ hinb,
   fun t  => inb_slot (cur_lt v1 h t) (by decide),
   fun t  hinb => words_slot _ _ hinb,
   fun t  => inb_slot (cur_lt v1 h t) (by decide),
   fun t  hinb => words_slot _ _ hinb,
   fun t  => inb_slot (cur_lt v1 h t) (by decide),
   fun t  hinb => words_slot _ _ hinb,
   fun t  => inb_slot (cur_lt v1 h t) (by decide),
   fun t  hinb => words_slot _ _ hinb,
   fun t  => inb_slot (cur_lt v1 h t) (by decide),
   fun t  hinb => words_slot _ _ hinb,
   fun t  => inb_slot (cur_lt v1 h t) (by decide),
   fun t  hinb => words_slot _ _ hinb,
   fun t  => inb_slot (cur_lt v1 h t) (by decide),
   fun t  hinb => words_slot _ _ hinb,
   fun t  => inb_slot (cur_lt v1 h t) (by decide),
   fun t  hinb => words_slot _ _ hinb,
   fun t  => inb_slot (cur_lt v1 h t) (by decide),
   fun t  hinb => words_slot _ _ hinb,
   fun t  => inb_slot (cur_lt v1 h t) (by decide),
   fun t  hinb => words_slot _ _ hinb⟩

theorem chk33_6 (i : grid0.Coords) (v1 : BitVec 32) (h : LenOk v1) : k0_chk33_6 i v1 :=
  ⟨fun t  => inb_slot (cur_lt v1 h t) (by decide),
   fun t  hinb => words_slot _ _ hinb,
   fun t => inb_half (cur_lt v1 h t),
   Scf.rem_ok _ _,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim⟩

theorem chk33_7 (i : grid0.Coords) (v1 : BitVec 32) (h : LenOk v1) : k0_chk33_7 i v1 :=
  ⟨fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim⟩

theorem chk33_8 (i : grid0.Coords) (v1 : BitVec 32) (h : LenOk v1) : k0_chk33_8 i v1 :=
  ⟨fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim⟩

theorem chk33_9 (i : grid0.Coords) (v1 : BitVec 32) (h : LenOk v1) : k0_chk33_9 i v1 :=
  ⟨fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim⟩

theorem chk33_10 (i : grid0.Coords) (v1 : BitVec 32) (h : LenOk v1) : k0_chk33_10 i v1 :=
  ⟨fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim⟩

theorem chk33_11 (i : grid0.Coords) (v1 : BitVec 32) (h : LenOk v1) : k0_chk33_11 i v1 :=
  ⟨fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim⟩

theorem chk33_12 (i : grid0.Coords) (v1 : BitVec 32) (h : LenOk v1) : k0_chk33_12 i v1 :=
  ⟨fun t => (t2_false v1 t).elim,
   fun t => (t2_false v1 t).elim,
   fun t => (t2_false v1 t).elim,
   fun t => (t2_false v1 t).elim,
   fun t => (t2_false v1 t).elim,
   fun t => (t2_false v1 t).elim⟩

theorem chk33 (i : grid0.Coords) (v1 : BitVec 32) (h : LenOk v1) : k0_chk33 i v1 :=
  ⟨chk33_0 i v1 h, chk33_1 i v1 h, chk33_2 i v1 h, chk33_3 i v1 h, chk33_4 i v1 h, chk33_5 i v1 h, chk33_6 i v1 h, chk33_7 i v1 h, chk33_8 i v1 h, chk33_9 i v1 h, chk33_10 i v1 h, chk33_11 i v1 h, chk33_12 i v1 h⟩

end Cert.Kernel.Gen

end
-- ==== Proof.Kernel.Steps.lean ====
/- The rules of a batch of page copies: starting one, waiting for one copy, waiting for the last, reading a page number
   out of the table, and reading the half of the double buffer a finished batch filled. -/
module

public import proofs.«01_k».proof.Proof.Kernel.Base
public import proofs.«01_k».proof.Proof.Kernel.Copies
public import proofs.«01_k».proof.Proof.Kernel.Words

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

abbrev WP (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

/-- What a core that owes nothing holds of the waits it has made. -/
def Ow (c : Dev nD) : sProp 𝕄 := iprop(∃ W, owes (c : Thread nD τ) 0 W)

theorem idle_start (c : Dev nD) (fh : Buf (Elt F) (poolL c)) (s : Fin 2) (g : Buf (Elt F) (bufL c)) (w : Fin 32 → Fin 40960) :
    Idle c fh s g ⊢ |={Set.univ}=> Iss c fh s g w 0 := by
  unfold Idle Iss
  have e : delivs c fh s w 0 = [] := rfl
  rw [e, Transfers.issued_zero, bigSep_empty, Transfers.pending_zero]
  iintro ⟨Hv, HF⟩
  imod (Transfers.batched_alloc (countersEmb (U := Pipeline.UD sig nD τ)) (c : Thread nD τ) () amt 32) $$ Hv with HB
  imodintro
  isplitl [HB]; · iexact HB
  isplitr; · iempintro
  iexact HF

theorem iss_full (c : Dev nD) (fh : Buf (Elt F) (poolL c)) (s : Fin 2) (g : Buf (Elt F) (bufL c)) (w : Fin 32 → Fin 40960) :
    Iss c fh s g w 32 ⊢ Wt c fh s w 0 := by
  unfold Iss Wt
  have e : (Transfers.pending 32 : Finset (Fin 32)) = ∅ := by
    ext t; simp [Transfers.pending]
  rw [e, bigSep_empty, Transfers.issued_all rfl, Nat.zero_mul]
  iintro ⟨HB, HR, -⟩
  isplitl [HB]; · iexact HB
  iexact HR

theorem issue_step' (c : Dev nD) (fh : Buf (Elt F) (poolL c)) (s : Fin 2) (g : Buf (Elt F) (bufL c)) (w : Fin 32 → Fin 40960) (n : ℕ) (hn : n < 32)
    {off : Fin 4 → ℕ} {h} (hoff : off = ![s.val, n, 0, 0]) {offs : Fin 1 → ℕ} {hs} (hoffs : offs = ![s.val])
    {offp : Fin 3 → ℕ} {hp} (hoffp : offp = ![(w ⟨n, hn⟩).val, 0, 0]) {hsrc hdst hsem} {α : Type}
    {k : PUnit → Prog (TpuEff nD τ sig (Elt F) Λ₀ .tc) α} {Q : α → sProp 𝕄} :
    Iss c fh s g w n ⊢ iprop((Iss c fh s g w (n + 1) -∗ WP c (k ⟨⟩) Q)
      -∗ WP c (Prog.lift (.enqueueDma (pageM offp hp) (.here (slotM off h)) (.dma (cellM offs hs)) hsrc hdst hsem) >>= k) Q) :=
  issue_step c fh s g w n hn hoff hoffs hoffp

theorem wait_step (c : Dev nD) (fh : Buf (Elt F) (poolL c)) (s : Fin 2) (w : Fin 32 → Fin 40960) (u : ℕ) (hu : u + 1 < 32)
    {off : Fin 4 → ℕ} {h} {offs : Fin 1 → ℕ} {hs} (hoffs : offs = ![s.val])
    {offp : Fin 3 → ℕ} {hp} {hsrc hdst} {α : Type}
    {k : PUnit → Prog (TpuEff nD τ sig (Elt F) Λ₀ .tc) α} {Q : α → sProp 𝕄} :
    iprop(Wt c fh s w u ∗ Ow c) ⊢ iprop((iprop(Wt c fh s w (u + 1) ∗ Ow c) -∗ WP c (k ⟨⟩) Q)
      -∗ WP c (Prog.lift (.waitDma2 (cellM offs hs) (pageM offp hp) (slotM off h) hsrc hdst) >>= k) Q) := by
  subst hoffs
  unfold Wt Ow
  iintro ⟨⟨HB, HR⟩, ⟨%W, HO⟩⟩ Hk
  have hlt : u * amt + amt < amt * 32 := by
    have := amt_pos
    calc u * amt + amt = (u + 1) * amt := (Nat.succ_mul u amt).symm
      _ < 32 * amt := Nat.mul_lt_mul_of_pos_right hu this
      _ = amt * 32 := Nat.mul_comm _ _
  iapply (Transfers.wp_waitBatched (countersEmb (U := Pipeline.UD sig nD τ)) Variants.none (c : Thread nD τ) none
    (Ds := delivs c fh s w 32) (u := u * amt) (m := 32) (sem := cellM ![s.val] hs) (dstw := slotM off h)
    () (N := amt) rfl (delivs_length _ _ _ _ _ le_rfl) hlt) $$ [HB HO]
  · isplitl [HB]; · iexact HB
    iexact HO
  iintro ⟨HB, HO⟩
  iapply Hk
  isplitl [HB HR]
  · isplitl [HB]
    · rw [Nat.succ_mul]; iexact HB
    iexact HR
  iexists _; iexact HO

theorem half_back (c : Dev nD) (fh : Buf (Elt F) (poolL c)) (s : Fin 2) (w : Fin 32 → Fin 40960) :
    iprop(bigSep Finset.univ (Transfers.deliv (m := 32) (delivs c fh s w 32)) ∗ bigSep Finset.univ (rest1 c fh s w))
      ⊢ bigSep Finset.univ (free1 c fh s (landed c w fh)) := by
  have e0 : (bigSep Finset.univ (Transfers.deliv (m := 32) (delivs c fh s w 32)) : sProp 𝕄) = bigSep Finset.univ (deliv1 c fh s w) := by
    refine BI.bigSep_congr fun t _ => ?_
    unfold Transfers.deliv delivs
    simp [List.getD_eq_getElem?_getD]
  have e : (bigSep Finset.univ (fun i => iprop(deliv1 c fh s w i ∗ rest1 c fh s w i)) : sProp 𝕄)
      = iprop(bigSep Finset.univ (deliv1 c fh s w) ∗ bigSep Finset.univ (rest1 c fh s w)) := BI.bigSep_sep _ _ _
  rw [e0, ← e]
  have key : ∀ t, iprop(deliv1 c fh s w t ∗ rest1 c fh s w t) ⊢ free1 c fh s (landed c w fh) t := by
    intro t
    unfold deliv1 rest1 free1
    iintro ⟨⟨Hs, Hp⟩, Hr⟩
    isplitl [Hs]; · iexact Hs
    iapply (pointsTo_split_subset (Finset.subset_univ (pageSet (w t)))).2
    isplitl [Hp] <;> iassumption
  exact BI.bigSep_mono fun t _ => key t

theorem wait_last (c : Dev nD) (fh : Buf (Elt F) (poolL c)) (s : Fin 2) (w : Fin 32 → Fin 40960)
    {off : Fin 4 → ℕ} {h} {offs : Fin 1 → ℕ} {hs} (hoffs : offs = ![s.val])
    {offp : Fin 3 → ℕ} {hp} {hsrc hdst} {α : Type}
    {k : PUnit → Prog (TpuEff nD τ sig (Elt F) Λ₀ .tc) α} {Q : α → sProp 𝕄} :
    iprop(Wt c fh s w 31 ∗ Ow c) ⊢ iprop((iprop(Idle c fh s (landed c w fh) ∗ Ow c) -∗ WP c (k ⟨⟩) Q)
      -∗ WP c (Prog.lift (.waitDma2 (cellM offs hs) (pageM offp hp) (slotM off h) hsrc hdst) >>= k) Q) := by
  subst hoffs
  unfold Wt Ow Idle
  iintro ⟨⟨HB, HR⟩, ⟨%W, HO⟩⟩ Hk
  iapply (Transfers.wp_waitBatchedAll (countersEmb (U := Pipeline.UD sig nD τ)) Variants.none (c : Thread nD τ) none
    (Ds := delivs c fh s w 32) (u := 31 * amt) (m := 32) (sem := cellM ![s.val] hs) (dstw := slotM off h)
    () (N := amt) (J := amt) rfl amt_pos (delivs_length _ _ _ _ _ le_rfl) (by omega)) $$ [HB HO]
  · isplitl [HB]; · iexact HB
    iexact HO
  iintro ⟨HD, Hv, HO⟩
  iapply Hk
  isplitl [HD Hv HR]
  · isplitl [Hv]; · iexact Hv
    iapply (half_back c fh s w)
    isplitl [HD]; · iexact HD
    iexact HR
  iexists _; iexact HO

/-! ## The page numbers -/

/-- Word `p` of row `b` of the page table. -/
def wd (c : Dev nD) (xt0 : TbBuf0 (F := F) c tbM0_0) (b : Fin 32) (p : Fin 1024) : BitVec 32 := xt0 (ix2 b p)

theorem word_step (c : Dev nD) (xt0 : TbBuf0 (F := F) c tbM0_0) (b : Fin 32) (p : Fin 1024)
    {off : Fin 2 → ℕ} {h} (hoff : off = ![b.val, p.val]) {h1 hp} {α : Type}
    {k : BitVec 32 → Prog (TpuEff nD τ sig (Elt F) Λ₀ .tc) α} {Q : α → sProp 𝕄} :
    tbPt0 c tbM0_0 xt0 ⊢ iprop((tbPt0 c tbM0_0 xt0 -∗ WP c (k (wd c xt0 b p)) Q)
      -∗ WP c (smemLoad tbM0_0 (Rect.unit (s := S32x1024) off S1x1.size h) h1 hp >>= k) Q) := by
  subst hoff
  iintro HT Hk
  iapply (wp_smemLoadElt_named (defs := defs₀ (F := F)) (𝒱 := Variants.none) (c := (c : Thread nD τ)) (bd := none) (E := Set.univ)
    (m := tbM0_0) (r := Rect.unit (s := S32x1024) ![b.val, p.val] S1x1.size h) (hw := View.loads_smem_one hp h1)
    (x := Shape.Idx.first (h1.symm ▸ Nat.one_pos)) (k := fun w => k w) (f := xt0) (S := Finset.univ)) $$ HT
  iintro HT %w %hw
  have e : w = wd c xt0 b p := by
    rw [hw]
    show xt0 ((Rect.unit (s := S32x1024) ![b.val, p.val] S1x1.size h).emb _) = xt0 (ix2 b p)
    congr 1
    funext a; apply Fin.ext
    show (![b.val, p.val] : Fin 2 → ℕ) a + 1 * _ = _
    fin_cases a <;> simp [Shape.Idx.first]
  rw [e]
  iapply Hk; iexact HT

theorem assume_step (c : Dev nD) {P : Prop} {d : Decidable P} (h : P) {α : Type}
    {k : PLift P → Prog (TpuEff nD τ sig (Elt F) Λ₀ .tc) α} {Q : α → sProp 𝕄} :
    WP c (k ⟨h⟩) Q ⊢ WP c (Prog.lift (TpuEff.assume P d) >>= k) Q := by
  iintro H
  iapply (wp_assume _ _ _ _ h)
  iexact H

/-! ## Reading a half -/

theorem half_set (s : Fin 2) {off : Fin 4 → ℕ} {h} (hoff : off = ![s.val, 0, 0, 0]) :
    ((Memref.whole cc0_scratch0 : Memref sig .tc .vmem S2x32x16x656 .i8).access (Rect.unit (s := S2x32x16x656) off S1x32x16x656.size h)).set
      ⊆ (Finset.univ : Finset (Fin 32)).biUnion (slotSet s) := by
  subst hoff
  intro i hi
  obtain ⟨x, -, rfl⟩ := Finset.mem_map.mp hi
  simp only [Finset.mem_biUnion, Finset.mem_univ, _root_.true_and]
  refine ⟨⟨(x 1).val, (x 1).isLt⟩, ?_⟩
  simp only [slotSet, Finset.mem_filter, Finset.mem_univ, _root_.true_and]
  have h0 : (x 0).val < 1 := (x 0).isLt
  constructor
  · show s.val + 1 * (x 0).val = s.val
    omega
  · show 0 + 1 * (x 1).val = (x 1).val
    omega

/-- What the half holds once pages `w` have landed, as the vector the kernel loads. -/
def block (c : Dev nD) (w : Fin 32 → Fin 40960) (fh : Buf (Elt F) (poolL c)) : Vec F S1x32x16x656 .i8 :=
  fun x => fh (ix3 (w (x 1)) (x 2) (x 3))

theorem load_half (c : Dev nD) (fh : Buf (Elt F) (poolL c)) (s : Fin 2) (w : Fin 32 → Fin 40960)
    {off : Fin 4 → ℕ} {h} (hoff : off = ![s.val, 0, 0, 0]) {hl} {α : Type}
    {k : Vec F S1x32x16x656 .i8 → Prog (TpuEff nD τ sig (Elt F) Λ₀ .tc) α} {Q : α → sProp 𝕄} :
    Idle c fh s (landed c w fh) ⊢ iprop((Idle c fh s (landed c w fh) -∗ WP c (k (block c w fh)) Q)
      -∗ WP c (Prog.lift (.load (Memref.whole cc0_scratch0 : Memref sig .tc .vmem S2x32x16x656 .i8) (Rect.unit (s := S2x32x16x656) off S1x32x16x656.size h).toLoadRect hl) >>= k) Q) := by
  unfold Idle
  have hd : ∀ t ∈ (Finset.univ : Finset (Fin 32)), ∀ t' ∈ (Finset.univ : Finset (Fin 32)), t ≠ t' → Disjoint (slotSet s t) (slotSet s t') := by
    intro t _ t' _ hne
    rw [Finset.disjoint_left]
    intro i hi hi'
    simp only [slotSet, Finset.mem_filter, Finset.mem_univ, _root_.true_and] at hi hi'
    exact hne (Fin.ext (hi.2.symm.trans hi'.2))
  have e : (bigSep Finset.univ (free1 c fh s (landed c w fh)) : sProp 𝕄)
      = iprop((bufL c ↦[(Finset.univ : Finset (Fin 32)).biUnion (slotSet s)]{fullShare} landed c w fh) ∗ bigSep Finset.univ (fun n => (poolL c ↦{tk s n} fh))) := by
    rw [pointsTo_biUnion (ℓ := bufL c) _ _ hd]
    exact BI.bigSep_sep Finset.univ _ _
  rw [e]
  iintro ⟨Hv, Hb, Hp⟩ Hk
  iapply (wp_load_rect (defs := defs₀ (F := F)) Variants.none (c : Thread nD τ) none Set.univ
    (m := (Memref.whole cc0_scratch0 : Memref sig .tc .vmem S2x32x16x656 .i8)) (r := Rect.unit (s := S2x32x16x656) off S1x32x16x656.size h)
    (k := k) (f := landed c w fh) (half_set s (h := h) hoff)) $$ Hb
  iintro Hb
  have e2 : ((Memref.whole cc0_scratch0 : Memref sig .tc .vmem S2x32x16x656 .i8).access (Rect.unit (s := S2x32x16x656) off S1x32x16x656.size h)).read (Elt F) (landed c w fh) = block c w fh := by
    subst hoff
    funext x
    show fh (ix3 (w _) _ _) = fh (ix3 (w (x 1)) (x 2) (x 3))
    have a1 : ((Rect.unit (s := S2x32x16x656) ![s.val, 0, 0, 0] S1x32x16x656.size h).emb x 1 : Fin 32) = x 1 := Fin.ext (by show 0 + 1 * (x 1).val = _; omega)
    have a2 : ((Rect.unit (s := S2x32x16x656) ![s.val, 0, 0, 0] S1x32x16x656.size h).emb x 2 : Fin 16) = x 2 := Fin.ext (by show 0 + 1 * (x 2).val = _; omega)
    have a3 : ((Rect.unit (s := S2x32x16x656) ![s.val, 0, 0, 0] S1x32x16x656.size h).emb x 3 : Fin 656) = x 3 := Fin.ext (by show 0 + 1 * (x 3).val = _; omega)
    exact congrArg fh (by congr 1 <;> first | exact congrArg w a1 | exact a2 | exact a3)
  rw [e2]
  iapply Hk
  isplitl [Hv]; · iexact Hv
  isplitl [Hb] <;> iassumption

end Cert.Kernel.Gen

end
-- ==== Proof.Kernel.Loads.lean ====
/- A whole staging buffer loaded and stored, and a row's length read: one lemma per operation. -/
module

public import proofs.«01_k».proof.Proof.Kernel.Base
public import proofs.«01_k».proof.Proof.Kernel.Steps

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

theorem unit_emb {s : Shape} {off : Fin s.rank → ℕ} (hoff : off = fun _ => 0) (h) (x : s.Idx) :
    (Rect.unit (s := s) off s.size h).emb x = x := by
  subst hoff
  funext a; apply Fin.ext
  show 0 + 1 * (x a).val = _
  omega

theorem load_full (c : Dev nD) {s : Shape} {e : EltTy} (m : Memref sig .tc .vmem s e) (X : s.Idx → Elt F e)
    {off : Fin s.rank → ℕ} {h} (hoff : off = fun _ => 0) {hl} {α : Type}
    {k : (s.Idx → Elt F e) → Prog (TpuEff nD τ sig (Elt F) Λ₀ .tc) α} {Q : α → sProp 𝕄} :
    owns (c : Thread nD τ) m fullShare X ⊢ iprop((owns (c : Thread nD τ) m fullShare X -∗ WP c (k X) Q)
      -∗ WP c (Prog.lift (.load m (Rect.unit (s := s) off s.size h).toLoadRect hl) >>= k) Q) := by
  unfold owns
  iintro ⟨%f, %hf, H⟩ Hk
  iapply (wp_load_rect (defs := defs₀ (F := F)) Variants.none (c : Thread nD τ) none Set.univ
    (m := m) (r := Rect.unit (s := s) off s.size h) (k := k) (f := f) (View.set_slice_subset _ _)) $$ H
  iintro H
  have e2 : (m.access (Rect.unit (s := s) off s.size h)).read (Elt F) f = X := by
    funext x
    rw [← hf]
    show m.view.read (Elt F) f ((Rect.unit (s := s) off s.size h).emb x) = m.view.read (Elt F) f x
    rw [unit_emb hoff]
  rw [e2]
  iapply Hk
  iexists f
  isplitr; · ipureintro; exact hf
  iexact H

theorem store_full (c : Dev nD) {s : Shape} {e : EltTy} (m : Memref sig .tc .vmem s e) (X Y : s.Idx → Elt F e)
    {off : Fin s.rank → ℕ} {h} (hoff : off = fun _ => 0) {hx hm} {α : Type}
    {k : PUnit → Prog (TpuEff nD τ sig (Elt F) Λ₀ .tc) α} {Q : α → sProp 𝕄} :
    owns (c : Thread nD τ) m fullShare X ⊢ iprop((owns (c : Thread nD τ) m fullShare Y -∗ WP c (k ⟨⟩) Q)
      -∗ WP c (Prog.lift (.store m (Rect.unit (s := s) off s.size h) Y Finset.univ hx hm) >>= k) Q) := by
  unfold owns
  iintro ⟨%f, %hf, H⟩ Hk
  iapply (wp_store (defs := defs₀ (F := F)) Variants.none (c : Thread nD τ) none Set.univ
    (m := m) (r := Rect.unit (s := s) off s.size h) (k := k) (f := f) (w := Y) (View.set_slice_subset _ _)) $$ H
  iintro H
  iapply Hk
  iexists _
  isplitr; swap; · iexact H
  ipureintro
  funext x
  have e3 : (m.access (Rect.unit (s := s) off s.size h)).read (Elt F) ((m.access (Rect.unit (s := s) off s.size h)).write (Elt F) f Y Finset.univ) = Y :=
    View.read_write_univ _ _
  have e4 := congrFun e3 x
  rw [← e4]
  show m.view.read (Elt F) _ x = m.view.read (Elt F) _ ((Rect.unit (s := s) off s.size h).emb x)
  rw [unit_emb hoff]

/-- The length of row `b`. -/
def len (c : Dev nD) (xt1 : TbBuf0 (F := F) c tbM0_1) (b : Fin 32) : BitVec 32 := xt1 (ix1 b)

theorem len_step (c : Dev nD) (xt1 : TbBuf0 (F := F) c tbM0_1) (b : Fin 32)
    {off : Fin 1 → ℕ} {h} (hoff : off = ![b.val]) {h1 hp} {α : Type}
    {k : BitVec 32 → Prog (TpuEff nD τ sig (Elt F) Λ₀ .tc) α} {Q : α → sProp 𝕄} :
    tbPt0 c tbM0_1 xt1 ⊢ iprop((tbPt0 c tbM0_1 xt1 -∗ WP c (k (len c xt1 b)) Q)
      -∗ WP c (smemLoad tbM0_1 (Rect.unit (s := S32) off S1.size h) h1 hp >>= k) Q) := by
  subst hoff
  iintro HT Hk
  iapply (wp_smemLoadElt_named (defs := defs₀ (F := F)) (𝒱 := Variants.none) (c := (c : Thread nD τ)) (bd := none) (E := Set.univ)
    (m := tbM0_1) (r := Rect.unit (s := S32) ![b.val] S1.size h) (hw := View.loads_smem_one hp h1)
    (x := Shape.Idx.first (h1.symm ▸ Nat.one_pos)) (k := fun w => k w) (f := xt1) (S := Finset.univ)) $$ HT
  iintro HT %w %hw
  have e : w = len c xt1 b := by
    rw [hw]
    show xt1 ((Rect.unit (s := S32) ![b.val] S1.size h).emb _) = xt1 (ix1 b)
    congr 1
    funext a; apply Fin.ext
    show (![b.val] : Fin 1 → ℕ) a + 1 * _ = _
    fin_cases a; simp [Shape.Idx.first]
  rw [e]
  iapply Hk; iexact HT

end Cert.Kernel.Gen

end
-- ==== Proof.Kernel.Pages.lean ====
/- The words a batch of copies is issued by: the page numbers of a block of 32 pages, and where the kernel finds each. -/
module

public import proofs.«01_k».proof.Proof.Kernel.Base
public import proofs.«01_k».proof.Proof.Kernel.Steps

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

/-- Page `n` of block `k` of a row: the row's page `32 k + n` (past the row's end, which no block the kernel copies
    reaches, the count wraps). -/
def pidx (k n : ℕ) : Fin 1024 := ⟨(32 * k + n) % 1024, Nat.mod_lt _ (by decide)⟩

/-- The page numbers of block `k` of row `b`. -/
def pgs (c : Dev nD) (xt0 : TbBuf0 (F := F) c tbM0_0) (HP : ∀ x, (xt0 x).toNat < 40960) (b : Fin 32) (k : ℕ) : Fin 32 → Fin 40960 :=
  fun n => ⟨(wd c xt0 b (pidx k n.val)).toNat, HP _⟩

/-- The half block `k` lies in. -/
def half (k : ℕ) : Fin 2 := ⟨k % 2, Nat.mod_lt _ (by decide)⟩

theorem off_row (i : grid0.Coords) (b : Fin 32) (hb : (i 0).val = b.val) {u : ℕ} {p : Fin 1024} (h : u = p.val) :
    (![(BitVec.ofNat 32 (i 0).val).toNat, u] : Fin 2 → ℕ) = ![b.val, p.val] := by
  rw [grid_ofNat, hb, h]
theorem off_pg (v1 : BitVec 32) (h : LenOk v1) (t : Fin (k0_t1_loop v1).trips) (h2 : k0_cond2 v1 t = 1#1) (n : ℕ) (hn : n < 32) :
    (pgW (Scf.iv 0#32 1#32 t) (BitVec.ofNat 32 n)).toNat = (pidx (t.val + 1) n).val := by
  have h3 := pg_lt v1 h t h2 n hn
  rw [pg_ofNat t n (t1_lt v1 h t) hn] at h3 ⊢
  exact (Nat.mod_eq_of_lt h3).symm
theorem off_nxt (v1 : BitVec 32) (h : LenOk v1) (t : Fin (k0_t1_loop v1).trips) :
    (![(nxtW (Scf.iv 0#32 1#32 t)).toNat] : Fin 1 → ℕ) = ![(half (t.val + 1)).val] := by
  rw [nxt_ofNat t (t1_lt v1 h t)]; rfl
theorem off_nxt4 (v1 : BitVec 32) (h : LenOk v1) (t : Fin (k0_t1_loop v1).trips) (n : ℕ) :
    (![(nxtW (Scf.iv 0#32 1#32 t)).toNat, n, 0, 0] : Fin 4 → ℕ) = ![(half (t.val + 1)).val, n, 0, 0] := by
  rw [nxt_ofNat t (t1_lt v1 h t)]; rfl
theorem off_cur (v1 : BitVec 32) (h : LenOk v1) (t : Fin (k0_t1_loop v1).trips) :
    (![(curW (Scf.iv 0#32 1#32 t)).toNat] : Fin 1 → ℕ) = ![(half t.val).val] := by
  rw [cur_ofNat t (t1_lt v1 h t)]; rfl
theorem off_cur4 (v1 : BitVec 32) (h : LenOk v1) (t : Fin (k0_t1_loop v1).trips) (n : ℕ) :
    (![(curW (Scf.iv 0#32 1#32 t)).toNat, n, 0, 0] : Fin 4 → ℕ) = ![(half t.val).val, n, 0, 0] := by
  rw [cur_ofNat t (t1_lt v1 h t)]; rfl

theorem ret_step (c : Dev nD) {α : Type} {x : α} {Q : α → sProp 𝕄} : Q x ⊢ WP c (pure x) Q := by
  unfold WP; rw [wp_pure]
  iintro H
  imodintro
  iexact H
theorem bind_step (c : Dev nD) {α β : Type} {p : Prog (TpuEff nD τ sig (Elt F) Λ₀ .tc) β} {k : β → Prog (TpuEff nD τ sig (Elt F) Λ₀ .tc) α} {Q : α → sProp 𝕄} :
    WP c p (fun x => WP c (k x) Q) ⊢ WP c (p >>= k) Q := by
  unfold WP; rw [wp_bind]

theorem eq_off66 (i : grid0.Coords) (b : Fin 32) (hb : (i 0).val = b.val) (v1 : BitVec 32) (h : LenOk v1) (t : Fin (k0_t1_loop v1).trips) (h2 : k0_cond2 v1 t = 1#1) :
    k0_off66 i v1 t = ![b.val, (pidx (t.val + 1) 0).val] := off_row i b hb (off_pg v1 h t h2 0 (by decide))
theorem eq_off67 (v1 : BitVec 32) (h : LenOk v1) (t : Fin (k0_t1_loop v1).trips) : k0_off67 v1 t = ![(half (t.val + 1)).val] := off_nxt v1 h t
theorem eq_off68 (v1 : BitVec 32) (h : LenOk v1) (t : Fin (k0_t1_loop v1).trips) : k0_off68 v1 t = ![(half (t.val + 1)).val, 0, 0, 0] := off_nxt4 v1 h t 0
theorem eq_off70 (i : grid0.Coords) (b : Fin 32) (hb : (i 0).val = b.val) (v1 : BitVec 32) (h : LenOk v1) (t : Fin (k0_t1_loop v1).trips) (h2 : k0_cond2 v1 t = 1#1) :
    k0_off70 i v1 t = ![b.val, (pidx (t.val + 1) 1).val] := off_row i b hb (off_pg v1 h t h2 1 (by decide))
theorem eq_off71 (v1 : BitVec 32) (h : LenOk v1) (t : Fin (k0_t1_loop v1).trips) : k0_off71 v1 t = ![(half (t.val + 1)).val] := off_nxt v1 h t
theorem eq_off72 (v1 : BitVec 32) (h : LenOk v1) (t : Fin (k0_t1_loop v1).trips) : k0_off72 v1 t = ![(half (t.val + 1)).val, 1, 0, 0] := off_nxt4 v1 h t 1
theorem eq_off74 (i : grid0.Coords) (b : Fin 32) (hb : (i 0).val = b.val) (v1 : BitVec 32) (h : LenOk v1) (t : Fin (k0_t1_loop v1).trips) (h2 : k0_cond2 v1 t = 1#1) :
    k0_off74 i v1 t = ![b.val, (pidx (t.val + 1) 2).val] := off_row i b hb (off_pg v1 h t h2 2 (by decide))
theorem eq_off75 (v1 : BitVec 32) (h : LenOk v1) (t : Fin (k0_t1_loop v1).trips) : k0_off75 v1 t = ![(half (t.val + 1)).val] := off_nxt v1 h t
theorem eq_off76 (v1 : BitVec 32) (h : LenOk v1) (t : Fin (k0_t1_loop v1).trips) : k0_off76 v1 t = ![(half (t.val + 1)).val, 2, 0, 0] := off_nxt4 v1 h t 2
theorem eq_off78 (i : grid0.Coords) (b : Fin 32) (hb : (i 0).val = b.val) (v1 : BitVec 32) (h : LenOk v1) (t : Fin (k0_t1_loop v1).trips) (h2 : k0_cond2 v1 t = 1#1) :
    k0_off78 i v1 t = ![b.val, (pidx (t.val + 1) 3).val] := off_row i b hb (off_pg v1 h t h2 3 (by decide))
theorem eq_off79 (v1 : BitVec 32) (h : LenOk v1) (t : Fin (k0_t1_loop v1).trips) : k0_off79 v1 t = ![(half (t.val + 1)).val] := off_nxt v1 h t
theorem eq_off80 (v1 : BitVec 32) (h : LenOk v1) (t : Fin (k0_t1_loop v1).trips) : k0_off80 v1 t = ![(half (t.val + 1)).val, 3, 0, 0] := off_nxt4 v1 h t 3
theorem eq_off82 (i : grid0.Coords) (b : Fin 32) (hb : (i 0).val = b.val) (v1 : BitVec 32) (h : LenOk v1) (t : Fin (k0_t1_loop v1).trips) (h2 : k0_cond2 v1 t = 1#1) :
    k0_off82 i v1 t = ![b.val, (pidx (t.val + 1) 4).val] := off_row i b hb (off_pg v1 h t h2 4 (by decide))
theorem eq_off83 (v1 : BitVec 32) (h : LenOk v1) (t : Fin (k0_t1_loop v1).trips) : k0_off83 v1 t = ![(half (t.val + 1)).val] := off_nxt v1 h t
theorem eq_off84 (v1 : BitVec 32) (h : LenOk v1) (t : Fin (k0_t1_loop v1).trips) : k0_off84 v1 t = ![(half (t.val + 1)).val, 4, 0, 0] := off_nxt4 v1 h t 4
theorem eq_off86 (i : grid0.Coords) (b : Fin 32) (hb : (i 0).val = b.val) (v1 : BitVec 32) (h : LenOk v1) (t : Fin (k0_t1_loop v1).trips) (h2 : k0_cond2 v1 t = 1#1) :
    k0_off86 i v1 t = ![b.val, (pidx (t.val + 1) 5).val] := off_row i b hb (off_pg v1 h t h2 5 (by decide))
theorem eq_off87 (v1 : BitVec 32) (h : LenOk v1) (t : Fin (k0_t1_loop v1).trips) : k0_off87 v1 t = ![(half (t.val + 1)).val] := off_nxt v1 h t
theorem eq_off88 (v1 : BitVec 32) (h : LenOk v1) (t : Fin (k0_t1_loop v1).trips) : k0_off88 v1 t = ![(half (t.val + 1)).val, 5, 0, 0] := off_nxt4 v1 h t 5
theorem eq_off90 (i : grid0.Coords) (b : Fin 32) (hb : (i 0).val = b.val) (v1 : BitVec 32) (h : LenOk v1) (t : Fin (k0_t1_loop v1).trips) (h2 : k0_cond2 v1 t = 1#1) :
    k0_off90 i v1 t = ![b.val, (pidx (t.val + 1) 6).val] := off_row i b hb (off_pg v1 h t h2 6 (by decide))
theorem eq_off91 (v1 : BitVec 32) (h : LenOk v1) (t : Fin (k0_t1_loop v1).trips) : k0_off91 v1 t = ![(half (t.val + 1)).val] := off_nxt v1 h t
theorem eq_off92 (v1 : BitVec 32) (h : LenOk v1) (t : Fin (k0_t1_loop v1).trips) : k0_off92 v1 t = ![(half (t.val + 1)).val, 6, 0, 0] := off_nxt4 v1 h t 6
theorem eq_off94 (i : grid0.Coords) (b : Fin 32) (hb : (i 0).val = b.val) (v1 : BitVec 32) (h : LenOk v1) (t : Fin (k0_t1_loop v1).trips) (h2 : k0_cond2 v1 t = 1#1) :
    k0_off94 i v1 t = ![b.val, (pidx (t.val + 1) 7).val] := off_row i b hb (off_pg v1 h t h2 7 (by decide))
theorem eq_off95 (v1 : BitVec 32) (h : LenOk v1) (t : Fin (k0_t1_loop v1).trips) : k0_off95 v1 t = ![(half (t.val + 1)).val] := off_nxt v1 h t
theorem eq_off96 (v1 : BitVec 32) (h : LenOk v1) (t : Fin (k0_t1_loop v1).trips) : k0_off96 v1 t = ![(half (t.val + 1)).val, 7, 0, 0] := off_nxt4 v1 h t 7
theorem eq_off98 (i : grid0.Coords) (b : Fin 32) (hb : (i 0).val = b.val) (v1 : BitVec 32) (h : LenOk v1) (t : Fin (k0_t1_loop v1).trips) (h2 : k0_cond2 v1 t = 1#1) :
    k0_off98 i v1 t = ![b.val, (pidx (t.val + 1) 8).val] := off_row i b hb (off_pg v1 h t h2 8 (by decide))
theorem eq_off99 (v1 : BitVec 32) (h : LenOk v1) (t : Fin (k0_t1_loop v1).trips) : k0_off99 v1 t = ![(half (t.val + 1)).val] := off_nxt v1 h t
theorem eq_off100 (v1 : BitVec 32) (h : LenOk v1) (t : Fin (k0_t1_loop v1).trips) : k0_off100 v1 t = ![(half (t.val + 1)).val, 8, 0, 0] := off_nxt4 v1 h t 8
theorem eq_off102 (i : grid0.Coords) (b : Fin 32) (hb : (i 0).val = b.val) (v1 : BitVec 32) (h : LenOk v1) (t : Fin (k0_t1_loop v1).trips) (h2 : k0_cond2 v1 t = 1#1) :
    k0_off102 i v1 t = ![b.val, (pidx (t.val + 1) 9).val] := off_row i b hb (off_pg v1 h t h2 9 (by decide))
theorem eq_off103 (v1 : BitVec 32) (h : LenOk v1) (t : Fin (k0_t1_loop v1).trips) : k0_off103 v1 t = ![(half (t.val + 1)).val] := off_nxt v1 h t
theorem eq_off104 (v1 : BitVec 32) (h : LenOk v1) (t : Fin (k0_t1_loop v1).trips) : k0_off104 v1 t = ![(half (t.val + 1)).val, 9, 0, 0] := off_nxt4 v1 h t 9
theorem eq_off106 (i : grid0.Coords) (b : Fin 32) (hb : (i 0).val = b.val) (v1 : BitVec 32) (h : LenOk v1) (t : Fin (k0_t1_loop v1).trips) (h2 : k0_cond2 v1 t = 1#1) :
    k0_off106 i v1 t = ![b.val, (pidx (t.val + 1) 10).val] := off_row i b hb (off_pg v1 h t h2 10 (by decide))
theorem eq_off107 (v1 : BitVec 32) (h : LenOk v1) (t : Fin (k0_t1_loop v1).trips) : k0_off107 v1 t = ![(half (t.val + 1)).val] := off_nxt v1 h t
theorem eq_off108 (v1 : BitVec 32) (h : LenOk v1) (t : Fin (k0_t1_loop v1).trips) : k0_off108 v1 t = ![(half (t.val + 1)).val, 10, 0, 0] := off_nxt4 v1 h t 10
theorem eq_off110 (i : grid0.Coords) (b : Fin 32) (hb : (i 0).val = b.val) (v1 : BitVec 32) (h : LenOk v1) (t : Fin (k0_t1_loop v1).trips) (h2 : k0_cond2 v1 t = 1#1) :
    k0_off110 i v1 t = ![b.val, (pidx (t.val + 1) 11).val] := off_row i b hb (off_pg v1 h t h2 11 (by decide))
theorem eq_off111 (v1 : BitVec 32) (h : LenOk v1) (t : Fin (k0_t1_loop v1).trips) : k0_off111 v1 t = ![(half (t.val + 1)).val] := off_nxt v1 h t
theorem eq_off112 (v1 : BitVec 32) (h : LenOk v1) (t : Fin (k0_t1_loop v1).trips) : k0_off112 v1 t = ![(half (t.val + 1)).val, 11, 0, 0] := off_nxt4 v1 h t 11
theorem eq_off114 (i : grid0.Coords) (b : Fin 32) (hb : (i 0).val = b.val) (v1 : BitVec 32) (h : LenOk v1) (t : Fin (k0_t1_loop v1).trips) (h2 : k0_cond2 v1 t = 1#1) :
    k0_off114 i v1 t = ![b.val, (pidx (t.val + 1) 12).val] := off_row i b hb (off_pg v1 h t h2 12 (by decide))
theorem eq_off115 (v1 : BitVec 32) (h : LenOk v1) (t : Fin (k0_t1_loop v1).trips) : k0_off115 v1 t = ![(half (t.val + 1)).val] := off_nxt v1 h t
theorem eq_off116 (v1 : BitVec 32) (h : LenOk v1) (t : Fin (k0_t1_loop v1).trips) : k0_off116 v1 t = ![(half (t.val + 1)).val, 12, 0, 0] := off_nxt4 v1 h t 12
theorem eq_off118 (i : grid0.Coords) (b : Fin 32) (hb : (i 0).val = b.val) (v1 : BitVec 32) (h : LenOk v1) (t : Fin (k0_t1_loop v1).trips) (h2 : k0_cond2 v1 t = 1#1) :
    k0_off118 i v1 t = ![b.val, (pidx (t.val + 1) 13).val] := off_row i b hb (off_pg v1 h t h2 13 (by decide))
theorem eq_off119 (v1 : BitVec 32) (h : LenOk v1) (t : Fin (k0_t1_loop v1).trips) : k0_off119 v1 t = ![(half (t.val + 1)).val] := off_nxt v1 h t
theorem eq_off120 (v1 : BitVec 32) (h : LenOk v1) (t : Fin (k0_t1_loop v1).trips) : k0_off120 v1 t = ![(half (t.val + 1)).val, 13, 0, 0] := off_nxt4 v1 h t 13
theorem eq_off122 (i : grid0.Coords) (b : Fin 32) (hb : (i 0).val = b.val) (v1 : BitVec 32) (h : LenOk v1) (t : Fin (k0_t1_loop v1).trips) (h2 : k0_cond2 v1 t = 1#1) :
    k0_off122 i v1 t = ![b.val, (pidx (t.val + 1) 14).val] := off_row i b hb (off_pg v1 h t h2 14 (by decide))
theorem eq_off123 (v1 : BitVec 32) (h : LenOk v1) (t : Fin (k0_t1_loop v1).trips) : k0_off123 v1 t = ![(half (t.val + 1)).val] := off_nxt v1 h t
theorem eq_off124 (v1 : BitVec 32) (h : LenOk v1) (t : Fin (k0_t1_loop v1).trips) : k0_off124 v1 t = ![(half (t.val + 1)).val, 14, 0, 0] := off_nxt4 v1 h t 14
theorem eq_off126 (i : grid0.Coords) (b : Fin 32) (hb : (i 0).val = b.val) (v1 : BitVec 32) (h : LenOk v1) (t : Fin (k0_t1_loop v1).trips) (h2 : k0_cond2 v1 t = 1#1) :
    k0_off126 i v1 t = ![b.val, (pidx (t.val + 1) 15).val] := off_row i b hb (off_pg v1 h t h2 15 (by decide))
theorem eq_off127 (v1 : BitVec 32) (h : LenOk v1) (t : Fin (k0_t1_loop v1).trips) : k0_off127 v1 t = ![(half (t.val + 1)).val] := off_nxt v1 h t
theorem eq_off128 (v1 : BitVec 32) (h : LenOk v1) (t : Fin (k0_t1_loop v1).trips) : k0_off128 v1 t = ![(half (t.val + 1)).val, 15, 0, 0] := off_nxt4 v1 h t 15
theorem eq_off130 (i : grid0.Coords) (b : Fin 32) (hb : (i 0).val = b.val) (v1 : BitVec 32) (h : LenOk v1) (t : Fin (k0_t1_loop v1).trips) (h2 : k0_cond2 v1 t = 1#1) :
    k0_off130 i v1 t = ![b.val, (pidx (t.val + 1) 16).val] := off_row i b hb (off_pg v1 h t h2 16 (by decide))
theorem eq_off131 (v1 : BitVec 32) (h : LenOk v1) (t : Fin (k0_t1_loop v1).trips) : k0_off131 v1 t = ![(half (t.val + 1)).val] := off_nxt v1 h t
theorem eq_off132 (v1 : BitVec 32) (h : LenOk v1) (t : Fin (k0_t1_loop v1).trips) : k0_off132 v1 t = ![(half (t.val + 1)).val, 16, 0, 0] := off_nxt4 v1 h t 16
theorem eq_off134 (i : grid0.Coords) (b : Fin 32) (hb : (i 0).val = b.val) (v1 : BitVec 32) (h : LenOk v1) (t : Fin (k0_t1_loop v1).trips) (h2 : k0_cond2 v1 t = 1#1) :
    k0_off134 i v1 t = ![b.val, (pidx (t.val + 1) 17).val] := off_row i b hb (off_pg v1 h t h2 17 (by decide))
theorem eq_off135 (v1 : BitVec 32) (h : LenOk v1) (t : Fin (k0_t1_loop v1).trips) : k0_off135 v1 t = ![(half (t.val + 1)).val] := off_nxt v1 h t
theorem eq_off136 (v1 : BitVec 32) (h : LenOk v1) (t : Fin (k0_t1_loop v1).trips) : k0_off136 v1 t = ![(half (t.val + 1)).val, 17, 0, 0] := off_nxt4 v1 h t 17
theorem eq_off138 (i : grid0.Coords) (b : Fin 32) (hb : (i 0).val = b.val) (v1 : BitVec 32) (h : LenOk v1) (t : Fin (k0_t1_loop v1).trips) (h2 : k0_cond2 v1 t = 1#1) :
    k0_off138 i v1 t = ![b.val, (pidx (t.val + 1) 18).val] := off_row i b hb (off_pg v1 h t h2 18 (by decide))
theorem eq_off139 (v1 : BitVec 32) (h : LenOk v1) (t : Fin (k0_t1_loop v1).trips) : k0_off139 v1 t = ![(half (t.val + 1)).val] := off_nxt v1 h t
theorem eq_off140 (v1 : BitVec 32) (h : LenOk v1) (t : Fin (k0_t1_loop v1).trips) : k0_off140 v1 t = ![(half (t.val + 1)).val, 18, 0, 0] := off_nxt4 v1 h t 18
theorem eq_off142 (i : grid0.Coords) (b : Fin 32) (hb : (i 0).val = b.val) (v1 : BitVec 32) (h : LenOk v1) (t : Fin (k0_t1_loop v1).trips) (h2 : k0_cond2 v1 t = 1#1) :
    k0_off142 i v1 t = ![b.val, (pidx (t.val + 1) 19).val] := off_row i b hb (off_pg v1 h t h2 19 (by decide))
theorem eq_off143 (v1 : BitVec 32) (h : LenOk v1) (t : Fin (k0_t1_loop v1).trips) : k0_off143 v1 t = ![(half (t.val + 1)).val] := off_nxt v1 h t
theorem eq_off144 (v1 : BitVec 32) (h : LenOk v1) (t : Fin (k0_t1_loop v1).trips) : k0_off144 v1 t = ![(half (t.val + 1)).val, 19, 0, 0] := off_nxt4 v1 h t 19
theorem eq_off146 (i : grid0.Coords) (b : Fin 32) (hb : (i 0).val = b.val) (v1 : BitVec 32) (h : LenOk v1) (t : Fin (k0_t1_loop v1).trips) (h2 : k0_cond2 v1 t = 1#1) :
    k0_off146 i v1 t = ![b.val, (pidx (t.val + 1) 20).val] := off_row i b hb (off_pg v1 h t h2 20 (by decide))
theorem eq_off147 (v1 : BitVec 32) (h : LenOk v1) (t : Fin (k0_t1_loop v1).trips) : k0_off147 v1 t = ![(half (t.val + 1)).val] := off_nxt v1 h t
theorem eq_off148 (v1 : BitVec 32) (h : LenOk v1) (t : Fin (k0_t1_loop v1).trips) : k0_off148 v1 t = ![(half (t.val + 1)).val, 20, 0, 0] := off_nxt4 v1 h t 20
theorem eq_off150 (i : grid0.Coords) (b : Fin 32) (hb : (i 0).val = b.val) (v1 : BitVec 32) (h : LenOk v1) (t : Fin (k0_t1_loop v1).trips) (h2 : k0_cond2 v1 t = 1#1) :
    k0_off150 i v1 t = ![b.val, (pidx (t.val + 1) 21).val] := off_row i b hb (off_pg v1 h t h2 21 (by decide))
theorem eq_off151 (v1 : BitVec 32) (h : LenOk v1) (t : Fin (k0_t1_loop v1).trips) : k0_off151 v1 t = ![(half (t.val + 1)).val] := off_nxt v1 h t
theorem eq_off152 (v1 : BitVec 32) (h : LenOk v1) (t : Fin (k0_t1_loop v1).trips) : k0_off152 v1 t = ![(half (t.val + 1)).val, 21, 0, 0] := off_nxt4 v1 h t 21
theorem eq_off154 (i : grid0.Coords) (b : Fin 32) (hb : (i 0).val = b.val) (v1 : BitVec 32) (h : LenOk v1) (t : Fin (k0_t1_loop v1).trips) (h2 : k0_cond2 v1 t = 1#1) :
    k0_off154 i v1 t = ![b.val, (pidx (t.val + 1) 22).val] := off_row i b hb (off_pg v1 h t h2 22 (by decide))
theorem eq_off155 (v1 : BitVec 32) (h : LenOk v1) (t : Fin (k0_t1_loop v1).trips) : k0_off155 v1 t = ![(half (t.val + 1)).val] := off_nxt v1 h t
theorem eq_off156 (v1 : BitVec 32) (h : LenOk v1) (t : Fin (k0_t1_loop v1).trips) : k0_off156 v1 t = ![(half (t.val + 1)).val, 22, 0, 0] := off_nxt4 v1 h t 22
theorem eq_off158 (i : grid0.Coords) (b : Fin 32) (hb : (i 0).val = b.val) (v1 : BitVec 32) (h : LenOk v1) (t : Fin (k0_t1_loop v1).trips) (h2 : k0_cond2 v1 t = 1#1) :
    k0_off158 i v1 t = ![b.val, (pidx (t.val + 1) 23).val] := off_row i b hb (off_pg v1 h t h2 23 (by decide))
theorem eq_off159 (v1 : BitVec 32) (h : LenOk v1) (t : Fin (k0_t1_loop v1).trips) : k0_off159 v1 t = ![(half (t.val + 1)).val] := off_nxt v1 h t
theorem eq_off160 (v1 : BitVec 32) (h : LenOk v1) (t : Fin (k0_t1_loop v1).trips) : k0_off160 v1 t = ![(half (t.val + 1)).val, 23, 0, 0] := off_nxt4 v1 h t 23
theorem eq_off162 (i : grid0.Coords) (b : Fin 32) (hb : (i 0).val = b.val) (v1 : BitVec 32) (h : LenOk v1) (t : Fin (k0_t1_loop v1).trips) (h2 : k0_cond2 v1 t = 1#1) :
    k0_off162 i v1 t = ![b.val, (pidx (t.val + 1) 24).val] := off_row i b hb (off_pg v1 h t h2 24 (by decide))
theorem eq_off163 (v1 : BitVec 32) (h : LenOk v1) (t : Fin (k0_t1_loop v1).trips) : k0_off163 v1 t = ![(half (t.val + 1)).val] := off_nxt v1 h t
theorem eq_off164 (v1 : BitVec 32) (h : LenOk v1) (t : Fin (k0_t1_loop v1).trips) : k0_off164 v1 t = ![(half (t.val + 1)).val, 24, 0, 0] := off_nxt4 v1 h t 24
theorem eq_off166 (i : grid0.Coords) (b : Fin 32) (hb : (i 0).val = b.val) (v1 : BitVec 32) (h : LenOk v1) (t : Fin (k0_t1_loop v1).trips) (h2 : k0_cond2 v1 t = 1#1) :
    k0_off166 i v1 t = ![b.val, (pidx (t.val + 1) 25).val] := off_row i b hb (off_pg v1 h t h2 25 (by decide))
theorem eq_off167 (v1 : BitVec 32) (h : LenOk v1) (t : Fin (k0_t1_loop v1).trips) : k0_off167 v1 t = ![(half (t.val + 1)).val] := off_nxt v1 h t
theorem eq_off168 (v1 : BitVec 32) (h : LenOk v1) (t : Fin (k0_t1_loop v1).trips) : k0_off168 v1 t = ![(half (t.val + 1)).val, 25, 0, 0] := off_nxt4 v1 h t 25
theorem eq_off170 (i : grid0.Coords) (b : Fin 32) (hb : (i 0).val = b.val) (v1 : BitVec 32) (h : LenOk v1) (t : Fin (k0_t1_loop v1).trips) (h2 : k0_cond2 v1 t = 1#1) :
    k0_off170 i v1 t = ![b.val, (pidx (t.val + 1) 26).val] := off_row i b hb (off_pg v1 h t h2 26 (by decide))
theorem eq_off171 (v1 : BitVec 32) (h : LenOk v1) (t : Fin (k0_t1_loop v1).trips) : k0_off171 v1 t = ![(half (t.val + 1)).val] := off_nxt v1 h t
theorem eq_off172 (v1 : BitVec 32) (h : LenOk v1) (t : Fin (k0_t1_loop v1).trips) : k0_off172 v1 t = ![(half (t.val + 1)).val, 26, 0, 0] := off_nxt4 v1 h t 26
theorem eq_off174 (i : grid0.Coords) (b : Fin 32) (hb : (i 0).val = b.val) (v1 : BitVec 32) (h : LenOk v1) (t : Fin (k0_t1_loop v1).trips) (h2 : k0_cond2 v1 t = 1#1) :
    k0_off174 i v1 t = ![b.val, (pidx (t.val + 1) 27).val] := off_row i b hb (off_pg v1 h t h2 27 (by decide))
theorem eq_off175 (v1 : BitVec 32) (h : LenOk v1) (t : Fin (k0_t1_loop v1).trips) : k0_off175 v1 t = ![(half (t.val + 1)).val] := off_nxt v1 h t
theorem eq_off176 (v1 : BitVec 32) (h : LenOk v1) (t : Fin (k0_t1_loop v1).trips) : k0_off176 v1 t = ![(half (t.val + 1)).val, 27, 0, 0] := off_nxt4 v1 h t 27
theorem eq_off178 (i : grid0.Coords) (b : Fin 32) (hb : (i 0).val = b.val) (v1 : BitVec 32) (h : LenOk v1) (t : Fin (k0_t1_loop v1).trips) (h2 : k0_cond2 v1 t = 1#1) :
    k0_off178 i v1 t = ![b.val, (pidx (t.val + 1) 28).val] := off_row i b hb (off_pg v1 h t h2 28 (by decide))
theorem eq_off179 (v1 : BitVec 32) (h : LenOk v1) (t : Fin (k0_t1_loop v1).trips) : k0_off179 v1 t = ![(half (t.val + 1)).val] := off_nxt v1 h t
theorem eq_off180 (v1 : BitVec 32) (h : LenOk v1) (t : Fin (k0_t1_loop v1).trips) : k0_off180 v1 t = ![(half (t.val + 1)).val, 28, 0, 0] := off_nxt4 v1 h t 28
theorem eq_off182 (i : grid0.Coords) (b : Fin 32) (hb : (i 0).val = b.val) (v1 : BitVec 32) (h : LenOk v1) (t : Fin (k0_t1_loop v1).trips) (h2 : k0_cond2 v1 t = 1#1) :
    k0_off182 i v1 t = ![b.val, (pidx (t.val + 1) 29).val] := off_row i b hb (off_pg v1 h t h2 29 (by decide))
theorem eq_off183 (v1 : BitVec 32) (h : LenOk v1) (t : Fin (k0_t1_loop v1).trips) : k0_off183 v1 t = ![(half (t.val + 1)).val] := off_nxt v1 h t
theorem eq_off184 (v1 : BitVec 32) (h : LenOk v1) (t : Fin (k0_t1_loop v1).trips) : k0_off184 v1 t = ![(half (t.val + 1)).val, 29, 0, 0] := off_nxt4 v1 h t 29
theorem eq_off186 (i : grid0.Coords) (b : Fin 32) (hb : (i 0).val = b.val) (v1 : BitVec 32) (h : LenOk v1) (t : Fin (k0_t1_loop v1).trips) (h2 : k0_cond2 v1 t = 1#1) :
    k0_off186 i v1 t = ![b.val, (pidx (t.val + 1) 30).val] := off_row i b hb (off_pg v1 h t h2 30 (by decide))
theorem eq_off187 (v1 : BitVec 32) (h : LenOk v1) (t : Fin (k0_t1_loop v1).trips) : k0_off187 v1 t = ![(half (t.val + 1)).val] := off_nxt v1 h t
theorem eq_off188 (v1 : BitVec 32) (h : LenOk v1) (t : Fin (k0_t1_loop v1).trips) : k0_off188 v1 t = ![(half (t.val + 1)).val, 30, 0, 0] := off_nxt4 v1 h t 30
theorem eq_off190 (i : grid0.Coords) (b : Fin 32) (hb : (i 0).val = b.val) (v1 : BitVec 32) (h : LenOk v1) (t : Fin (k0_t1_loop v1).trips) (h2 : k0_cond2 v1 t = 1#1) :
    k0_off190 i v1 t = ![b.val, (pidx (t.val + 1) 31).val] := off_row i b hb (off_pg v1 h t h2 31 (by decide))
theorem eq_off191 (v1 : BitVec 32) (h : LenOk v1) (t : Fin (k0_t1_loop v1).trips) : k0_off191 v1 t = ![(half (t.val + 1)).val] := off_nxt v1 h t
theorem eq_off192 (v1 : BitVec 32) (h : LenOk v1) (t : Fin (k0_t1_loop v1).trips) : k0_off192 v1 t = ![(half (t.val + 1)).val, 31, 0, 0] := off_nxt4 v1 h t 31
theorem eq_off194 (v1 : BitVec 32) (h : LenOk v1) (t : Fin (k0_t1_loop v1).trips) : k0_off194 v1 t = ![(half t.val).val] := off_cur v1 h t
theorem eq_off227 (v1 : BitVec 32) (h : LenOk v1) (t : Fin (k0_t1_loop v1).trips) : k0_off227 v1 t = ![(half t.val).val, 0, 0, 0] := off_cur4 v1 h t 0

end Cert.Kernel.Gen

end
-- ==== Proof.Kernel.Next.lean ====
/- The copies of the next block, as a trip of the loop issues them. -/
module

public import proofs.«01_k».proof.Proof.Kernel.Base
public import proofs.«01_k».proof.Proof.Kernel.Pages

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

variable (c : Dev nD) (i : grid0.Coords) (arg3 : Memref sig .tc .vmem S1x128x512 .bf16) (harg3 : arg3.IsWhole) (arg4 : Memref sig .tc .vmem S1x128x144 .bf16) (harg4 : arg4.IsWhole)
  (arg5 : Memref sig .tc .vmem S1x1x656 .i8) (harg5 : arg5.IsWhole) (arg7 : Memref sig .tc .vmem S1x128x512 .bf16) (harg7 : arg7.IsWhole) (arg8 : Memref sig .tc .vmem S1x128x1 .f32) (harg8 : arg8.IsWhole)
  (xt0 : TbBuf0 (F := F) c tbM0_0) (HP : ∀ x, (xt0 x).toNat < 40960) (fh : Buf (Elt F) (poolL c)) (b : Fin 32) (hb : (i 0).val = b.val)

section
include hb

theorem run_part10 (g : Buf (Elt F) (bufL c)) (arg0 : BitVec 32) (v1 : Elt F .i32) (k0_hw33 : k0_chk33 i v1) (k0_t1 : Fin (k0_t1_loop v1).trips) (arg11 : BitVec 32) (v144 : BitVec 32) (k0_h2 : k0_cond2 v1 k0_t1 = 1#1) (hL : LenOk v1) {α : Type} {k : (Σ' (v440 : BitVec 32) (v468 : Elt F .i32), k0_chk36 v1 k0_t1 v468) → Prog (TpuEff nD τ sig (Elt F) Λ₀ .tc) α} {Q : α → sProp 𝕄} :
    iprop(tbPt0 c tbM0_0 xt0 ∗ Iss c fh (half (k0_t1.val + 1)) g (pgs c xt0 HP b (k0_t1.val + 1)) 0)
      ⊢ iprop((∀ hw : k0_chk36 v1 k0_t1 (wd c xt0 b (pidx (k0_t1.val + 1) 2)), iprop(tbPt0 c tbM0_0 xt0 ∗ Iss c fh (half (k0_t1.val + 1)) g (pgs c xt0 HP b (k0_t1.val + 1)) 2) -∗ WP c (k ⟨Scalar.addi arg11 1#32, wd c xt0 b (pidx (k0_t1.val + 1) 2), hw⟩) Q)
        -∗ WP c (k0_part10 i tbM0_0 htbM0_0 tbM0_1 htbM0_1 arg3 harg3 arg4 harg4 arg5 harg5 (Memref.whole main_arg3) (Memref.isWhole_whole _) arg7 harg7 arg8 harg8 (Memref.whole cc0_scratch0) (Memref.isWhole_whole _) cc0_scratch1 arg0 v1 k0_hw33 k0_t1 arg11 v144 k0_h2 >>= k) Q) := by
  iintro ⟨HT, HI⟩ Hk
  iapply bind_step
  rw [k0_part10_eq_skeleton]; unfold k0_part10_skel; dsimp only
  iapply (word_step c xt0 b (pidx (k0_t1.val + 1) 0) (eq_off66 i b hb v1 hL k0_t1 k0_h2)) $$ HT; iintro HT
  iapply (assume_step c ⟨fun _ => inb_page (HP _), fun _ hinb => words_page _ hinb⟩)
  iapply (issue_step' c fh (half (k0_t1.val + 1)) g (pgs c xt0 HP b (k0_t1.val + 1)) 0 (by decide) (eq_off68 v1 hL k0_t1) (eq_off67 v1 hL k0_t1) rfl) $$ HI; iintro HI
  iapply (word_step c xt0 b (pidx (k0_t1.val + 1) 1) (eq_off70 i b hb v1 hL k0_t1 k0_h2)) $$ HT; iintro HT
  iapply (assume_step c ⟨fun _ => inb_page (HP _), fun _ hinb => words_page _ hinb⟩)
  iapply (issue_step' c fh (half (k0_t1.val + 1)) g (pgs c xt0 HP b (k0_t1.val + 1)) 1 (by decide) (eq_off72 v1 hL k0_t1) (eq_off71 v1 hL k0_t1) rfl) $$ HI; iintro HI
  iapply (word_step c xt0 b (pidx (k0_t1.val + 1) 2) (eq_off74 i b hb v1 hL k0_t1 k0_h2)) $$ HT; iintro HT
  iapply (assume_step c ⟨fun _ => inb_page (HP _), fun _ hinb => words_page _ hinb⟩)
  iapply ret_step
  iapply Hk
  isplitl [HT]; · iexact HT
  iexact HI

theorem run_part11 (g : Buf (Elt F) (bufL c)) (arg0 : BitVec 32) (v1 : Elt F .i32) (k0_hw33 : k0_chk33 i v1) (k0_t1 : Fin (k0_t1_loop v1).trips) (k0_h2 : k0_cond2 v1 k0_t1 = 1#1) (v440 : BitVec 32) (v468 : Elt F .i32) (k0_hw36 : k0_chk36 v1 k0_t1 v468) (hL : LenOk v1) (hv : v468 = wd c xt0 b (pidx (k0_t1.val + 1) 2)) {α : Type} {k : (Σ' (v501 : Elt F .i32), k0_chk39 v1 k0_t1 v501) → Prog (TpuEff nD τ sig (Elt F) Λ₀ .tc) α} {Q : α → sProp 𝕄} :
    iprop(tbPt0 c tbM0_0 xt0 ∗ Iss c fh (half (k0_t1.val + 1)) g (pgs c xt0 HP b (k0_t1.val + 1)) 2)
      ⊢ iprop((∀ hw : k0_chk39 v1 k0_t1 (wd c xt0 b (pidx (k0_t1.val + 1) 5)), iprop(tbPt0 c tbM0_0 xt0 ∗ Iss c fh (half (k0_t1.val + 1)) g (pgs c xt0 HP b (k0_t1.val + 1)) 5) -∗ WP c (k ⟨wd c xt0 b (pidx (k0_t1.val + 1) 5), hw⟩) Q)
        -∗ WP c (k0_part11 i tbM0_0 htbM0_0 tbM0_1 htbM0_1 arg3 harg3 arg4 harg4 arg5 harg5 (Memref.whole main_arg3) (Memref.isWhole_whole _) arg7 harg7 arg8 harg8 (Memref.whole cc0_scratch0) (Memref.isWhole_whole _) cc0_scratch1 arg0 v1 k0_hw33 k0_t1 k0_h2 v440 v468 k0_hw36 >>= k) Q) := by
  subst hv
  iintro ⟨HT, HI⟩ Hk
  iapply bind_step
  rw [k0_part11_eq_skeleton]; unfold k0_part11_skel; dsimp only
  iapply (issue_step' c fh (half (k0_t1.val + 1)) g (pgs c xt0 HP b (k0_t1.val + 1)) 2 (by decide) (eq_off76 v1 hL k0_t1) (eq_off75 v1 hL k0_t1) rfl) $$ HI; iintro HI
  iapply (word_step c xt0 b (pidx (k0_t1.val + 1) 3) (eq_off78 i b hb v1 hL k0_t1 k0_h2)) $$ HT; iintro HT
  iapply (assume_step c ⟨fun _ => inb_page (HP _), fun _ hinb => words_page _ hinb⟩)
  iapply (issue_step' c fh (half (k0_t1.val + 1)) g (pgs c xt0 HP b (k0_t1.val + 1)) 3 (by decide) (eq_off80 v1 hL k0_t1) (eq_off79 v1 hL k0_t1) rfl) $$ HI; iintro HI
  iapply (word_step c xt0 b (pidx (k0_t1.val + 1) 4) (eq_off82 i b hb v1 hL k0_t1 k0_h2)) $$ HT; iintro HT
  iapply (assume_step c ⟨fun _ => inb_page (HP _), fun _ hinb => words_page _ hinb⟩)
  iapply (issue_step' c fh (half (k0_t1.val + 1)) g (pgs c xt0 HP b (k0_t1.val + 1)) 4 (by decide) (eq_off84 v1 hL k0_t1) (eq_off83 v1 hL k0_t1) rfl) $$ HI; iintro HI
  iapply (word_step c xt0 b (pidx (k0_t1.val + 1) 5) (eq_off86 i b hb v1 hL k0_t1 k0_h2)) $$ HT; iintro HT
  iapply (assume_step c ⟨fun _ => inb_page (HP _), fun _ hinb => words_page _ hinb⟩)
  iapply ret_step
  iapply Hk
  isplitl [HT]; · iexact HT
  iexact HI

theorem run_part12 (g : Buf (Elt F) (bufL c)) (arg0 : BitVec 32) (v1 : Elt F .i32) (k0_hw33 : k0_chk33 i v1) (k0_t1 : Fin (k0_t1_loop v1).trips) (k0_h2 : k0_cond2 v1 k0_t1 = 1#1) (v440 : BitVec 32) (v501 : Elt F .i32) (k0_hw39 : k0_chk39 v1 k0_t1 v501) (hL : LenOk v1) (hv : v501 = wd c xt0 b (pidx (k0_t1.val + 1) 5)) {α : Type} {k : (Σ' (v534 : Elt F .i32), k0_chk42 v1 k0_t1 v534) → Prog (TpuEff nD τ sig (Elt F) Λ₀ .tc) α} {Q : α → sProp 𝕄} :
    iprop(tbPt0 c tbM0_0 xt0 ∗ Iss c fh (half (k0_t1.val + 1)) g (pgs c xt0 HP b (k0_t1.val + 1)) 5)
      ⊢ iprop((∀ hw : k0_chk42 v1 k0_t1 (wd c xt0 b (pidx (k0_t1.val + 1) 8)), iprop(tbPt0 c tbM0_0 xt0 ∗ Iss c fh (half (k0_t1.val + 1)) g (pgs c xt0 HP b (k0_t1.val + 1)) 8) -∗ WP c (k ⟨wd c xt0 b (pidx (k0_t1.val + 1) 8), hw⟩) Q)
        -∗ WP c (k0_part12 i tbM0_0 htbM0_0 tbM0_1 htbM0_1 arg3 harg3 arg4 harg4 arg5 harg5 (Memref.whole main_arg3) (Memref.isWhole_whole _) arg7 harg7 arg8 harg8 (Memref.whole cc0_scratch0) (Memref.isWhole_whole _) cc0_scratch1 arg0 v1 k0_hw33 k0_t1 k0_h2 v440 v501 k0_hw39 >>= k) Q) := by
  subst hv
  iintro ⟨HT, HI⟩ Hk
  iapply bind_step
  rw [k0_part12_eq_skeleton]; unfold k0_part12_skel; dsimp only
  iapply (issue_step' c fh (half (k0_t1.val + 1)) g (pgs c xt0 HP b (k0_t1.val + 1)) 5 (by decide) (eq_off88 v1 hL k0_t1) (eq_off87 v1 hL k0_t1) rfl) $$ HI; iintro HI
  iapply (word_step c xt0 b (pidx (k0_t1.val + 1) 6) (eq_off90 i b hb v1 hL k0_t1 k0_h2)) $$ HT; iintro HT
  iapply (assume_step c ⟨fun _ => inb_page (HP _), fun _ hinb => words_page _ hinb⟩)
  iapply (issue_step' c fh (half (k0_t1.val + 1)) g (pgs c xt0 HP b (k0_t1.val + 1)) 6 (by decide) (eq_off92 v1 hL k0_t1) (eq_off91 v1 hL k0_t1) rfl) $$ HI; iintro HI
  iapply (word_step c xt0 b (pidx (k0_t1.val + 1) 7) (eq_off94 i b hb v1 hL k0_t1 k0_h2)) $$ HT; iintro HT
  iapply (assume_step c ⟨fun _ => inb_page (HP _), fun _ hinb => words_page _ hinb⟩)
  iapply (issue_step' c fh (half (k0_t1.val + 1)) g (pgs c xt0 HP b (k0_t1.val + 1)) 7 (by decide) (eq_off96 v1 hL k0_t1) (eq_off95 v1 hL k0_t1) rfl) $$ HI; iintro HI
  iapply (word_step c xt0 b (pidx (k0_t1.val + 1) 8) (eq_off98 i b hb v1 hL k0_t1 k0_h2)) $$ HT; iintro HT
  iapply (assume_step c ⟨fun _ => inb_page (HP _), fun _ hinb => words_page _ hinb⟩)
  iapply ret_step
  iapply Hk
  isplitl [HT]; · iexact HT
  iexact HI

theorem run_part13 (g : Buf (Elt F) (bufL c)) (arg0 : BitVec 32) (v1 : Elt F .i32) (k0_hw33 : k0_chk33 i v1) (k0_t1 : Fin (k0_t1_loop v1).trips) (k0_h2 : k0_cond2 v1 k0_t1 = 1#1) (v440 : BitVec 32) (v534 : Elt F .i32) (k0_hw42 : k0_chk42 v1 k0_t1 v534) (hL : LenOk v1) (hv : v534 = wd c xt0 b (pidx (k0_t1.val + 1) 8)) {α : Type} {k : (Σ' (v567 : Elt F .i32), k0_chk45 v1 k0_t1 v567) → Prog (TpuEff nD τ sig (Elt F) Λ₀ .tc) α} {Q : α → sProp 𝕄} :
    iprop(tbPt0 c tbM0_0 xt0 ∗ Iss c fh (half (k0_t1.val + 1)) g (pgs c xt0 HP b (k0_t1.val + 1)) 8)
      ⊢ iprop((∀ hw : k0_chk45 v1 k0_t1 (wd c xt0 b (pidx (k0_t1.val + 1) 11)), iprop(tbPt0 c tbM0_0 xt0 ∗ Iss c fh (half (k0_t1.val + 1)) g (pgs c xt0 HP b (k0_t1.val + 1)) 11) -∗ WP c (k ⟨wd c xt0 b (pidx (k0_t1.val + 1) 11), hw⟩) Q)
        -∗ WP c (k0_part13 i tbM0_0 htbM0_0 tbM0_1 htbM0_1 arg3 harg3 arg4 harg4 arg5 harg5 (Memref.whole main_arg3) (Memref.isWhole_whole _) arg7 harg7 arg8 harg8 (Memref.whole cc0_scratch0) (Memref.isWhole_whole _) cc0_scratch1 arg0 v1 k0_hw33 k0_t1 k0_h2 v440 v534 k0_hw42 >>= k) Q) := by
  subst hv
  iintro ⟨HT, HI⟩ Hk
  iapply bind_step
  rw [k0_part13_eq_skeleton]; unfold k0_part13_skel; dsimp only
  iapply (issue_step' c fh (half (k0_t1.val + 1)) g (pgs c xt0 HP b (k0_t1.val + 1)) 8 (by decide) (eq_off100 v1 hL k0_t1) (eq_off99 v1 hL k0_t1) rfl) $$ HI; iintro HI
  iapply (word_step c xt0 b (pidx (k0_t1.val + 1) 9) (eq_off102 i b hb v1 hL k0_t1 k0_h2)) $$ HT; iintro HT
  iapply (assume_step c ⟨fun _ => inb_page (HP _), fun _ hinb => words_page _ hinb⟩)
  iapply (issue_step' c fh (half (k0_t1.val + 1)) g (pgs c xt0 HP b (k0_t1.val + 1)) 9 (by decide) (eq_off104 v1 hL k0_t1) (eq_off103 v1 hL k0_t1) rfl) $$ HI; iintro HI
  iapply (word_step c xt0 b (pidx (k0_t1.val + 1) 10) (eq_off106 i b hb v1 hL k0_t1 k0_h2)) $$ HT; iintro HT
  iapply (assume_step c ⟨fun _ => inb_page (HP _), fun _ hinb => words_page _ hinb⟩)
  iapply (issue_step' c fh (half (k0_t1.val + 1)) g (pgs c xt0 HP b (k0_t1.val + 1)) 10 (by decide) (eq_off108 v1 hL k0_t1) (eq_off107 v1 hL k0_t1) rfl) $$ HI; iintro HI
  iapply (word_step c xt0 b (pidx (k0_t1.val + 1) 11) (eq_off110 i b hb v1 hL k0_t1 k0_h2)) $$ HT; iintro HT
  iapply (assume_step c ⟨fun _ => inb_page (HP _), fun _ hinb => words_page _ hinb⟩)
  iapply ret_step
  iapply Hk
  isplitl [HT]; · iexact HT
  iexact HI

theorem run_part14 (g : Buf (Elt F) (bufL c)) (arg0 : BitVec 32) (v1 : Elt F .i32) (k0_hw33 : k0_chk33 i v1) (k0_t1 : Fin (k0_t1_loop v1).trips) (k0_h2 : k0_cond2 v1 k0_t1 = 1#1) (v440 : BitVec 32) (v567 : Elt F .i32) (k0_hw45 : k0_chk45 v1 k0_t1 v567) (hL : LenOk v1) (hv : v567 = wd c xt0 b (pidx (k0_t1.val + 1) 11)) {α : Type} {k : (Σ' (v600 : Elt F .i32), k0_chk48 v1 k0_t1 v600) → Prog (TpuEff nD τ sig (Elt F) Λ₀ .tc) α} {Q : α → sProp 𝕄} :
    iprop(tbPt0 c tbM0_0 xt0 ∗ Iss c fh (half (k0_t1.val + 1)) g (pgs c xt0 HP b (k0_t1.val + 1)) 11)
      ⊢ iprop((∀ hw : k0_chk48 v1 k0_t1 (wd c xt0 b (pidx (k0_t1.val + 1) 14)), iprop(tbPt0 c tbM0_0 xt0 ∗ Iss c fh (half (k0_t1.val + 1)) g (pgs c xt0 HP b (k0_t1.val + 1)) 14) -∗ WP c (k ⟨wd c xt0 b (pidx (k0_t1.val + 1) 14), hw⟩) Q)
        -∗ WP c (k0_part14 i tbM0_0 htbM0_0 tbM0_1 htbM0_1 arg3 harg3 arg4 harg4 arg5 harg5 (Memref.whole main_arg3) (Memref.isWhole_whole _) arg7 harg7 arg8 harg8 (Memref.whole cc0_scratch0) (Memref.isWhole_whole _) cc0_scratch1 arg0 v1 k0_hw33 k0_t1 k0_h2 v440 v567 k0_hw45 >>= k) Q) := by
  subst hv
  iintro ⟨HT, HI⟩ Hk
  iapply bind_step
  rw [k0_part14_eq_skeleton]; unfold k0_part14_skel; dsimp only
  iapply (issue_step' c fh (half (k0_t1.val + 1)) g (pgs c xt0 HP b (k0_t1.val + 1)) 11 (by decide) (eq_off112 v1 hL k0_t1) (eq_off111 v1 hL k0_t1) rfl) $$ HI; iintro HI
  iapply (word_step c xt0 b (pidx (k0_t1.val + 1) 12) (eq_off114 i b hb v1 hL k0_t1 k0_h2)) $$ HT; iintro HT
  iapply (assume_step c ⟨fun _ => inb_page (HP _), fun _ hinb => words_page _ hinb⟩)
  iapply (issue_step' c fh (half (k0_t1.val + 1)) g (pgs c xt0 HP b (k0_t1.val + 1)) 12 (by decide) (eq_off116 v1 hL k0_t1) (eq_off115 v1 hL k0_t1) rfl) $$ HI; iintro HI
  iapply (word_step c xt0 b (pidx (k0_t1.val + 1) 13) (eq_off118 i b hb v1 hL k0_t1 k0_h2)) $$ HT; iintro HT
  iapply (assume_step c ⟨fun _ => inb_page (HP _), fun _ hinb => words_page _ hinb⟩)
  iapply (issue_step' c fh (half (k0_t1.val + 1)) g (pgs c xt0 HP b (k0_t1.val + 1)) 13 (by decide) (eq_off120 v1 hL k0_t1) (eq_off119 v1 hL k0_t1) rfl) $$ HI; iintro HI
  iapply (word_step c xt0 b (pidx (k0_t1.val + 1) 14) (eq_off122 i b hb v1 hL k0_t1 k0_h2)) $$ HT; iintro HT
  iapply (assume_step c ⟨fun _ => inb_page (HP _), fun _ hinb => words_page _ hinb⟩)
  iapply ret_step
  iapply Hk
  isplitl [HT]; · iexact HT
  iexact HI

theorem run_part15 (g : Buf (Elt F) (bufL c)) (arg0 : BitVec 32) (v1 : Elt F .i32) (k0_hw33 : k0_chk33 i v1) (k0_t1 : Fin (k0_t1_loop v1).trips) (k0_h2 : k0_cond2 v1 k0_t1 = 1#1) (v440 : BitVec 32) (v600 : Elt F .i32) (k0_hw48 : k0_chk48 v1 k0_t1 v600) (hL : LenOk v1) (hv : v600 = wd c xt0 b (pidx (k0_t1.val + 1) 14)) {α : Type} {k : (Σ' (v633 : Elt F .i32), k0_chk51 v1 k0_t1 v633) → Prog (TpuEff nD τ sig (Elt F) Λ₀ .tc) α} {Q : α → sProp 𝕄} :
    iprop(tbPt0 c tbM0_0 xt0 ∗ Iss c fh (half (k0_t1.val + 1)) g (pgs c xt0 HP b (k0_t1.val + 1)) 14)
      ⊢ iprop((∀ hw : k0_chk51 v1 k0_t1 (wd c xt0 b (pidx (k0_t1.val + 1) 17)), iprop(tbPt0 c tbM0_0 xt0 ∗ Iss c fh (half (k0_t1.val + 1)) g (pgs c xt0 HP b (k0_t1.val + 1)) 17) -∗ WP c (k ⟨wd c xt0 b (pidx (k0_t1.val + 1) 17), hw⟩) Q)
        -∗ WP c (k0_part15 i tbM0_0 htbM0_0 tbM0_1 htbM0_1 arg3 harg3 arg4 harg4 arg5 harg5 (Memref.whole main_arg3) (Memref.isWhole_whole _) arg7 harg7 arg8 harg8 (Memref.whole cc0_scratch0) (Memref.isWhole_whole _) cc0_scratch1 arg0 v1 k0_hw33 k0_t1 k0_h2 v440 v600 k0_hw48 >>= k) Q) := by
  subst hv
  iintro ⟨HT, HI⟩ Hk
  iapply bind_step
  rw [k0_part15_eq_skeleton]; unfold k0_part15_skel; dsimp only
  iapply (issue_step' c fh (half (k0_t1.val + 1)) g (pgs c xt0 HP b (k0_t1.val + 1)) 14 (by decide) (eq_off124 v1 hL k0_t1) (eq_off123 v1 hL k0_t1) rfl) $$ HI; iintro HI
  iapply (word_step c xt0 b (pidx (k0_t1.val + 1) 15) (eq_off126 i b hb v1 hL k0_t1 k0_h2)) $$ HT; iintro HT
  iapply (assume_step c ⟨fun _ => inb_page (HP _), fun _ hinb => words_page _ hinb⟩)
  iapply (issue_step' c fh (half (k0_t1.val + 1)) g (pgs c xt0 HP b (k0_t1.val + 1)) 15 (by decide) (eq_off128 v1 hL k0_t1) (eq_off127 v1 hL k0_t1) rfl) $$ HI; iintro HI
  iapply (word_step c xt0 b (pidx (k0_t1.val + 1) 16) (eq_off130 i b hb v1 hL k0_t1 k0_h2)) $$ HT; iintro HT
  iapply (assume_step c ⟨fun _ => inb_page (HP _), fun _ hinb => words_page _ hinb⟩)
  iapply (issue_step' c fh (half (k0_t1.val + 1)) g (pgs c xt0 HP b (k0_t1.val + 1)) 16 (by decide) (eq_off132 v1 hL k0_t1) (eq_off131 v1 hL k0_t1) rfl) $$ HI; iintro HI
  iapply (word_step c xt0 b (pidx (k0_t1.val + 1) 17) (eq_off134 i b hb v1 hL k0_t1 k0_h2)) $$ HT; iintro HT
  iapply (assume_step c ⟨fun _ => inb_page (HP _), fun _ hinb => words_page _ hinb⟩)
  iapply ret_step
  iapply Hk
  isplitl [HT]; · iexact HT
  iexact HI

theorem run_part16 (g : Buf (Elt F) (bufL c)) (arg0 : BitVec 32) (v1 : Elt F .i32) (k0_hw33 : k0_chk33 i v1) (k0_t1 : Fin (k0_t1_loop v1).trips) (k0_h2 : k0_cond2 v1 k0_t1 = 1#1) (v440 : BitVec 32) (v633 : Elt F .i32) (k0_hw51 : k0_chk51 v1 k0_t1 v633) (hL : LenOk v1) (hv : v633 = wd c xt0 b (pidx (k0_t1.val + 1) 17)) {α : Type} {k : (Σ' (v666 : Elt F .i32), k0_chk54 v1 k0_t1 v666) → Prog (TpuEff nD τ sig (Elt F) Λ₀ .tc) α} {Q : α → sProp 𝕄} :
    iprop(tbPt0 c tbM0_0 xt0 ∗ Iss c fh (half (k0_t1.val + 1)) g (pgs c xt0 HP b (k0_t1.val + 1)) 17)
      ⊢ iprop((∀ hw : k0_chk54 v1 k0_t1 (wd c xt0 b (pidx (k0_t1.val + 1) 20)), iprop(tbPt0 c tbM0_0 xt0 ∗ Iss c fh (half (k0_t1.val + 1)) g (pgs c xt0 HP b (k0_t1.val + 1)) 20) -∗ WP c (k ⟨wd c xt0 b (pidx (k0_t1.val + 1) 20), hw⟩) Q)
        -∗ WP c (k0_part16 i tbM0_0 htbM0_0 tbM0_1 htbM0_1 arg3 harg3 arg4 harg4 arg5 harg5 (Memref.whole main_arg3) (Memref.isWhole_whole _) arg7 harg7 arg8 harg8 (Memref.whole cc0_scratch0) (Memref.isWhole_whole _) cc0_scratch1 arg0 v1 k0_hw33 k0_t1 k0_h2 v440 v633 k0_hw51 >>= k) Q) := by
  subst hv
  iintro ⟨HT, HI⟩ Hk
  iapply bind_step
  rw [k0_part16_eq_skeleton]; unfold k0_part16_skel; dsimp only
  iapply (issue_step' c fh (half (k0_t1.val + 1)) g (pgs c xt0 HP b (k0_t1.val + 1)) 17 (by decide) (eq_off136 v1 hL k0_t1) (eq_off135 v1 hL k0_t1) rfl) $$ HI; iintro HI
  iapply (word_step c xt0 b (pidx (k0_t1.val + 1) 18) (eq_off138 i b hb v1 hL k0_t1 k0_h2)) $$ HT; iintro HT
  iapply (assume_step c ⟨fun _ => inb_page (HP _), fun _ hinb => words_page _ hinb⟩)
  iapply (issue_step' c fh (half (k0_t1.val + 1)) g (pgs c xt0 HP b (k0_t1.val + 1)) 18 (by decide) (eq_off140 v1 hL k0_t1) (eq_off139 v1 hL k0_t1) rfl) $$ HI; iintro HI
  iapply (word_step c xt0 b (pidx (k0_t1.val + 1) 19) (eq_off142 i b hb v1 hL k0_t1 k0_h2)) $$ HT; iintro HT
  iapply (assume_step c ⟨fun _ => inb_page (HP _), fun _ hinb => words_page _ hinb⟩)
  iapply (issue_step' c fh (half (k0_t1.val + 1)) g (pgs c xt0 HP b (k0_t1.val + 1)) 19 (by decide) (eq_off144 v1 hL k0_t1) (eq_off143 v1 hL k0_t1) rfl) $$ HI; iintro HI
  iapply (word_step c xt0 b (pidx (k0_t1.val + 1) 20) (eq_off146 i b hb v1 hL k0_t1 k0_h2)) $$ HT; iintro HT
  iapply (assume_step c ⟨fun _ => inb_page (HP _), fun _ hinb => words_page _ hinb⟩)
  iapply ret_step
  iapply Hk
  isplitl [HT]; · iexact HT
  iexact HI

theorem run_part17 (g : Buf (Elt F) (bufL c)) (arg0 : BitVec 32) (v1 : Elt F .i32) (k0_hw33 : k0_chk33 i v1) (k0_t1 : Fin (k0_t1_loop v1).trips) (k0_h2 : k0_cond2 v1 k0_t1 = 1#1) (v440 : BitVec 32) (v666 : Elt F .i32) (k0_hw54 : k0_chk54 v1 k0_t1 v666) (hL : LenOk v1) (hv : v666 = wd c xt0 b (pidx (k0_t1.val + 1) 20)) {α : Type} {k : (Σ' (v699 : Elt F .i32), k0_chk57 v1 k0_t1 v699) → Prog (TpuEff nD τ sig (Elt F) Λ₀ .tc) α} {Q : α → sProp 𝕄} :
    iprop(tbPt0 c tbM0_0 xt0 ∗ Iss c fh (half (k0_t1.val + 1)) g (pgs c xt0 HP b (k0_t1.val + 1)) 20)
      ⊢ iprop((∀ hw : k0_chk57 v1 k0_t1 (wd c xt0 b (pidx (k0_t1.val + 1) 23)), iprop(tbPt0 c tbM0_0 xt0 ∗ Iss c fh (half (k0_t1.val + 1)) g (pgs c xt0 HP b (k0_t1.val + 1)) 23) -∗ WP c (k ⟨wd c xt0 b (pidx (k0_t1.val + 1) 23), hw⟩) Q)
        -∗ WP c (k0_part17 i tbM0_0 htbM0_0 tbM0_1 htbM0_1 arg3 harg3 arg4 harg4 arg5 harg5 (Memref.whole main_arg3) (Memref.isWhole_whole _) arg7 harg7 arg8 harg8 (Memref.whole cc0_scratch0) (Memref.isWhole_whole _) cc0_scratch1 arg0 v1 k0_hw33 k0_t1 k0_h2 v440 v666 k0_hw54 >>= k) Q) := by
  subst hv
  iintro ⟨HT, HI⟩ Hk
  iapply bind_step
  rw [k0_part17_eq_skeleton]; unfold k0_part17_skel; dsimp only
  iapply (issue_step' c fh (half (k0_t1.val + 1)) g (pgs c xt0 HP b (k0_t1.val + 1)) 20 (by decide) (eq_off148 v1 hL k0_t1) (eq_off147 v1 hL k0_t1) rfl) $$ HI; iintro HI
  iapply (word_step c xt0 b (pidx (k0_t1.val + 1) 21) (eq_off150 i b hb v1 hL k0_t1 k0_h2)) $$ HT; iintro HT
  iapply (assume_step c ⟨fun _ => inb_page (HP _), fun _ hinb => words_page _ hinb⟩)
  iapply (issue_step' c fh (half (k0_t1.val + 1)) g (pgs c xt0 HP b (k0_t1.val + 1)) 21 (by decide) (eq_off152 v1 hL k0_t1) (eq_off151 v1 hL k0_t1) rfl) $$ HI; iintro HI
  iapply (word_step c xt0 b (pidx (k0_t1.val + 1) 22) (eq_off154 i b hb v1 hL k0_t1 k0_h2)) $$ HT; iintro HT
  iapply (assume_step c ⟨fun _ => inb_page (HP _), fun _ hinb => words_page _ hinb⟩)
  iapply (issue_step' c fh (half (k0_t1.val + 1)) g (pgs c xt0 HP b (k0_t1.val + 1)) 22 (by decide) (eq_off156 v1 hL k0_t1) (eq_off155 v1 hL k0_t1) rfl) $$ HI; iintro HI
  iapply (word_step c xt0 b (pidx (k0_t1.val + 1) 23) (eq_off158 i b hb v1 hL k0_t1 k0_h2)) $$ HT; iintro HT
  iapply (assume_step c ⟨fun _ => inb_page (HP _), fun _ hinb => words_page _ hinb⟩)
  iapply ret_step
  iapply Hk
  isplitl [HT]; · iexact HT
  iexact HI

theorem run_part18 (g : Buf (Elt F) (bufL c)) (arg0 : BitVec 32) (v1 : Elt F .i32) (k0_hw33 : k0_chk33 i v1) (k0_t1 : Fin (k0_t1_loop v1).trips) (k0_h2 : k0_cond2 v1 k0_t1 = 1#1) (v440 : BitVec 32) (v699 : Elt F .i32) (k0_hw57 : k0_chk57 v1 k0_t1 v699) (hL : LenOk v1) (hv : v699 = wd c xt0 b (pidx (k0_t1.val + 1) 23)) {α : Type} {k : (Σ' (v732 : Elt F .i32), k0_chk60 v1 k0_t1 v732) → Prog (TpuEff nD τ sig (Elt F) Λ₀ .tc) α} {Q : α → sProp 𝕄} :
    iprop(tbPt0 c tbM0_0 xt0 ∗ Iss c fh (half (k0_t1.val + 1)) g (pgs c xt0 HP b (k0_t1.val + 1)) 23)
      ⊢ iprop((∀ hw : k0_chk60 v1 k0_t1 (wd c xt0 b (pidx (k0_t1.val + 1) 26)), iprop(tbPt0 c tbM0_0 xt0 ∗ Iss c fh (half (k0_t1.val + 1)) g (pgs c xt0 HP b (k0_t1.val + 1)) 26) -∗ WP c (k ⟨wd c xt0 b (pidx (k0_t1.val + 1) 26), hw⟩) Q)
        -∗ WP c (k0_part18 i tbM0_0 htbM0_0 tbM0_1 htbM0_1 arg3 harg3 arg4 harg4 arg5 harg5 (Memref.whole main_arg3) (Memref.isWhole_whole _) arg7 harg7 arg8 harg8 (Memref.whole cc0_scratch0) (Memref.isWhole_whole _) cc0_scratch1 arg0 v1 k0_hw33 k0_t1 k0_h2 v440 v699 k0_hw57 >>= k) Q) := by
  subst hv
  iintro ⟨HT, HI⟩ Hk
  iapply bind_step
  rw [k0_part18_eq_skeleton]; unfold k0_part18_skel; dsimp only
  iapply (issue_step' c fh (half (k0_t1.val + 1)) g (pgs c xt0 HP b (k0_t1.val + 1)) 23 (by decide) (eq_off160 v1 hL k0_t1) (eq_off159 v1 hL k0_t1) rfl) $$ HI; iintro HI
  iapply (word_step c xt0 b (pidx (k0_t1.val + 1) 24) (eq_off162 i b hb v1 hL k0_t1 k0_h2)) $$ HT; iintro HT
  iapply (assume_step c ⟨fun _ => inb_page (HP _), fun _ hinb => words_page _ hinb⟩)
  iapply (issue_step' c fh (half (k0_t1.val + 1)) g (pgs c xt0 HP b (k0_t1.val + 1)) 24 (by decide) (eq_off164 v1 hL k0_t1) (eq_off163 v1 hL k0_t1) rfl) $$ HI; iintro HI
  iapply (word_step c xt0 b (pidx (k0_t1.val + 1) 25) (eq_off166 i b hb v1 hL k0_t1 k0_h2)) $$ HT; iintro HT
  iapply (assume_step c ⟨fun _ => inb_page (HP _), fun _ hinb => words_page _ hinb⟩)
  iapply (issue_step' c fh (half (k0_t1.val + 1)) g (pgs c xt0 HP b (k0_t1.val + 1)) 25 (by decide) (eq_off168 v1 hL k0_t1) (eq_off167 v1 hL k0_t1) rfl) $$ HI; iintro HI
  iapply (word_step c xt0 b (pidx (k0_t1.val + 1) 26) (eq_off170 i b hb v1 hL k0_t1 k0_h2)) $$ HT; iintro HT
  iapply (assume_step c ⟨fun _ => inb_page (HP _), fun _ hinb => words_page _ hinb⟩)
  iapply ret_step
  iapply Hk
  isplitl [HT]; · iexact HT
  iexact HI

theorem run_part19 (g : Buf (Elt F) (bufL c)) (arg0 : BitVec 32) (v1 : Elt F .i32) (k0_hw33 : k0_chk33 i v1) (k0_t1 : Fin (k0_t1_loop v1).trips) (k0_h2 : k0_cond2 v1 k0_t1 = 1#1) (v440 : BitVec 32) (v732 : Elt F .i32) (k0_hw60 : k0_chk60 v1 k0_t1 v732) (hL : LenOk v1) (hv : v732 = wd c xt0 b (pidx (k0_t1.val + 1) 26)) {α : Type} {k : (Σ' (v765 : Elt F .i32), k0_chk63 v1 k0_t1 v765) → Prog (TpuEff nD τ sig (Elt F) Λ₀ .tc) α} {Q : α → sProp 𝕄} :
    iprop(tbPt0 c tbM0_0 xt0 ∗ Iss c fh (half (k0_t1.val + 1)) g (pgs c xt0 HP b (k0_t1.val + 1)) 26)
      ⊢ iprop((∀ hw : k0_chk63 v1 k0_t1 (wd c xt0 b (pidx (k0_t1.val + 1) 29)), iprop(tbPt0 c tbM0_0 xt0 ∗ Iss c fh (half (k0_t1.val + 1)) g (pgs c xt0 HP b (k0_t1.val + 1)) 29) -∗ WP c (k ⟨wd c xt0 b (pidx (k0_t1.val + 1) 29), hw⟩) Q)
        -∗ WP c (k0_part19 i tbM0_0 htbM0_0 tbM0_1 htbM0_1 arg3 harg3 arg4 harg4 arg5 harg5 (Memref.whole main_arg3) (Memref.isWhole_whole _) arg7 harg7 arg8 harg8 (Memref.whole cc0_scratch0) (Memref.isWhole_whole _) cc0_scratch1 arg0 v1 k0_hw33 k0_t1 k0_h2 v440 v732 k0_hw60 >>= k) Q) := by
  subst hv
  iintro ⟨HT, HI⟩ Hk
  iapply bind_step
  rw [k0_part19_eq_skeleton]; unfold k0_part19_skel; dsimp only
  iapply (issue_step' c fh (half (k0_t1.val + 1)) g (pgs c xt0 HP b (k0_t1.val + 1)) 26 (by decide) (eq_off172 v1 hL k0_t1) (eq_off171 v1 hL k0_t1) rfl) $$ HI; iintro HI
  iapply (word_step c xt0 b (pidx (k0_t1.val + 1) 27) (eq_off174 i b hb v1 hL k0_t1 k0_h2)) $$ HT; iintro HT
  iapply (assume_step c ⟨fun _ => inb_page (HP _), fun _ hinb => words_page _ hinb⟩)
  iapply (issue_step' c fh (half (k0_t1.val + 1)) g (pgs c xt0 HP b (k0_t1.val + 1)) 27 (by decide) (eq_off176 v1 hL k0_t1) (eq_off175 v1 hL k0_t1) rfl) $$ HI; iintro HI
  iapply (word_step c xt0 b (pidx (k0_t1.val + 1) 28) (eq_off178 i b hb v1 hL k0_t1 k0_h2)) $$ HT; iintro HT
  iapply (assume_step c ⟨fun _ => inb_page (HP _), fun _ hinb => words_page _ hinb⟩)
  iapply (issue_step' c fh (half (k0_t1.val + 1)) g (pgs c xt0 HP b (k0_t1.val + 1)) 28 (by decide) (eq_off180 v1 hL k0_t1) (eq_off179 v1 hL k0_t1) rfl) $$ HI; iintro HI
  iapply (word_step c xt0 b (pidx (k0_t1.val + 1) 29) (eq_off182 i b hb v1 hL k0_t1 k0_h2)) $$ HT; iintro HT
  iapply (assume_step c ⟨fun _ => inb_page (HP _), fun _ hinb => words_page _ hinb⟩)
  iapply ret_step
  iapply Hk
  isplitl [HT]; · iexact HT
  iexact HI

end

end Cert.Kernel.Gen

end
-- ==== Proof.Kernel.Trip.lean ====
/- One trip of the loop over a row's blocks: the next block's copies started, this block's waited for and read, the running
   maximum, sum and output carried forward. -/
module

public import proofs.«01_k».proof.Proof.Kernel.Base
public import proofs.«01_k».proof.Proof.Kernel.Next

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

variable (c : Dev nD) (i : grid0.Coords) (arg3 : Memref sig .tc .vmem S1x128x512 .bf16) (harg3 : arg3.IsWhole) (arg4 : Memref sig .tc .vmem S1x128x144 .bf16) (harg4 : arg4.IsWhole)
  (arg5 : Memref sig .tc .vmem S1x1x656 .i8) (harg5 : arg5.IsWhole) (arg7 : Memref sig .tc .vmem S1x128x512 .bf16) (harg7 : arg7.IsWhole) (arg8 : Memref sig .tc .vmem S1x128x1 .f32) (harg8 : arg8.IsWhole)
  (xt0 : TbBuf0 (F := F) c tbM0_0) (HP : ∀ x, (xt0 x).toNat < 40960) (fh : Buf (Elt F) (poolL c)) (b : Fin 32) (hb : (i 0).val = b.val)

theorem run_part21 (v1 : Elt F .i32) (k0_hw33 : k0_chk33 i v1) (k0_t1 : Fin (k0_t1_loop v1).trips) (hL : LenOk v1) {α : Type} {k : PUnit → Prog (TpuEff nD τ sig (Elt F) Λ₀ .tc) α} {Q : α → sProp 𝕄} :
    iprop(Wt c fh (half k0_t1.val) (pgs c xt0 HP b k0_t1.val) 2 ∗ Ow c)
      ⊢ iprop((iprop(Wt c fh (half k0_t1.val) (pgs c xt0 HP b k0_t1.val) 7 ∗ Ow c) -∗ WP c (k ⟨⟩) Q)
        -∗ WP c (k0_part21 i tbM0_0 htbM0_0 tbM0_1 htbM0_1 arg3 harg3 arg4 harg4 arg5 harg5 (Memref.whole main_arg3) (Memref.isWhole_whole _) arg7 harg7 arg8 harg8 (Memref.whole cc0_scratch0) (Memref.isWhole_whole _) cc0_scratch1 v1 k0_hw33 k0_t1 >>= k) Q) := by
  iintro HW Hk
  iapply (bind_step c)
  rw [k0_part21_eq_skeleton]; unfold k0_part21_skel; dsimp only
  iapply (wait_step c fh (half k0_t1.val) (pgs c xt0 HP b k0_t1.val) 2 (by decide) (eq_off194 v1 hL k0_t1)) $$ HW; iintro HW
  iapply (wait_step c fh (half k0_t1.val) (pgs c xt0 HP b k0_t1.val) 3 (by decide) (eq_off194 v1 hL k0_t1)) $$ HW; iintro HW
  iapply (wait_step c fh (half k0_t1.val) (pgs c xt0 HP b k0_t1.val) 4 (by decide) (eq_off194 v1 hL k0_t1)) $$ HW; iintro HW
  iapply (wait_step c fh (half k0_t1.val) (pgs c xt0 HP b k0_t1.val) 5 (by decide) (eq_off194 v1 hL k0_t1)) $$ HW; iintro HW
  iapply (wait_step c fh (half k0_t1.val) (pgs c xt0 HP b k0_t1.val) 6 (by decide) (eq_off194 v1 hL k0_t1)) $$ HW; iintro HW
  iapply (ret_step c)
  iapply Hk
  iexact HW

theorem run_part22 (v1 : Elt F .i32) (k0_hw33 : k0_chk33 i v1) (k0_t1 : Fin (k0_t1_loop v1).trips) (hL : LenOk v1) {α : Type} {k : PUnit → Prog (TpuEff nD τ sig (Elt F) Λ₀ .tc) α} {Q : α → sProp 𝕄} :
    iprop(Wt c fh (half k0_t1.val) (pgs c xt0 HP b k0_t1.val) 7 ∗ Ow c)
      ⊢ iprop((iprop(Wt c fh (half k0_t1.val) (pgs c xt0 HP b k0_t1.val) 12 ∗ Ow c) -∗ WP c (k ⟨⟩) Q)
        -∗ WP c (k0_part22 i tbM0_0 htbM0_0 tbM0_1 htbM0_1 arg3 harg3 arg4 harg4 arg5 harg5 (Memref.whole main_arg3) (Memref.isWhole_whole _) arg7 harg7 arg8 harg8 (Memref.whole cc0_scratch0) (Memref.isWhole_whole _) cc0_scratch1 v1 k0_hw33 k0_t1 >>= k) Q) := by
  iintro HW Hk
  iapply (bind_step c)
  rw [k0_part22_eq_skeleton]; unfold k0_part22_skel; dsimp only
  iapply (wait_step c fh (half k0_t1.val) (pgs c xt0 HP b k0_t1.val) 7 (by decide) (eq_off194 v1 hL k0_t1)) $$ HW; iintro HW
  iapply (wait_step c fh (half k0_t1.val) (pgs c xt0 HP b k0_t1.val) 8 (by decide) (eq_off194 v1 hL k0_t1)) $$ HW; iintro HW
  iapply (wait_step c fh (half k0_t1.val) (pgs c xt0 HP b k0_t1.val) 9 (by decide) (eq_off194 v1 hL k0_t1)) $$ HW; iintro HW
  iapply (wait_step c fh (half k0_t1.val) (pgs c xt0 HP b k0_t1.val) 10 (by decide) (eq_off194 v1 hL k0_t1)) $$ HW; iintro HW
  iapply (wait_step c fh (half k0_t1.val) (pgs c xt0 HP b k0_t1.val) 11 (by decide) (eq_off194 v1 hL k0_t1)) $$ HW; iintro HW
  iapply (ret_step c)
  iapply Hk
  iexact HW

theorem run_part23 (v1 : Elt F .i32) (k0_hw33 : k0_chk33 i v1) (k0_t1 : Fin (k0_t1_loop v1).trips) (hL : LenOk v1) {α : Type} {k : PUnit → Prog (TpuEff nD τ sig (Elt F) Λ₀ .tc) α} {Q : α → sProp 𝕄} :
    iprop(Wt c fh (half k0_t1.val) (pgs c xt0 HP b k0_t1.val) 12 ∗ Ow c)
      ⊢ iprop((iprop(Wt c fh (half k0_t1.val) (pgs c xt0 HP b k0_t1.val) 16 ∗ Ow c) -∗ WP c (k ⟨⟩) Q)
        -∗ WP c (k0_part23 i tbM0_0 htbM0_0 tbM0_1 htbM0_1 arg3 harg3 arg4 harg4 arg5 harg5 (Memref.whole main_arg3) (Memref.isWhole_whole _) arg7 harg7 arg8 harg8 (Memref.whole cc0_scratch0) (Memref.isWhole_whole _) cc0_scratch1 v1 k0_hw33 k0_t1 >>= k) Q) := by
  iintro HW Hk
  iapply (bind_step c)
  rw [k0_part23_eq_skeleton]; unfold k0_part23_skel; dsimp only
  iapply (wait_step c fh (half k0_t1.val) (pgs c xt0 HP b k0_t1.val) 12 (by decide) (eq_off194 v1 hL k0_t1)) $$ HW; iintro HW
  iapply (wait_step c fh (half k0_t1.val) (pgs c xt0 HP b k0_t1.val) 13 (by decide) (eq_off194 v1 hL k0_t1)) $$ HW; iintro HW
  iapply (wait_step c fh (half k0_t1.val) (pgs c xt0 HP b k0_t1.val) 14 (by decide) (eq_off194 v1 hL k0_t1)) $$ HW; iintro HW
  iapply (wait_step c fh (half k0_t1.val) (pgs c xt0 HP b k0_t1.val) 15 (by decide) (eq_off194 v1 hL k0_t1)) $$ HW; iintro HW
  iapply (ret_step c)
  iapply Hk
  iexact HW

theorem run_part24 (v1 : Elt F .i32) (k0_hw33 : k0_chk33 i v1) (k0_t1 : Fin (k0_t1_loop v1).trips) (hL : LenOk v1) {α : Type} {k : PUnit → Prog (TpuEff nD τ sig (Elt F) Λ₀ .tc) α} {Q : α → sProp 𝕄} :
    iprop(Wt c fh (half k0_t1.val) (pgs c xt0 HP b k0_t1.val) 16 ∗ Ow c)
      ⊢ iprop((iprop(Wt c fh (half k0_t1.val) (pgs c xt0 HP b k0_t1.val) 21 ∗ Ow c) -∗ WP c (k ⟨⟩) Q)
        -∗ WP c (k0_part24 i tbM0_0 htbM0_0 tbM0_1 htbM0_1 arg3 harg3 arg4 harg4 arg5 harg5 (Memref.whole main_arg3) (Memref.isWhole_whole _) arg7 harg7 arg8 harg8 (Memref.whole cc0_scratch0) (Memref.isWhole_whole _) cc0_scratch1 v1 k0_hw33 k0_t1 >>= k) Q) := by
  iintro HW Hk
  iapply (bind_step c)
  rw [k0_part24_eq_skeleton]; unfold k0_part24_skel; dsimp only
  iapply (wait_step c fh (half k0_t1.val) (pgs c xt0 HP b k0_t1.val) 16 (by decide) (eq_off194 v1 hL k0_t1)) $$ HW; iintro HW
  iapply (wait_step c fh (half k0_t1.val) (pgs c xt0 HP b k0_t1.val) 17 (by decide) (eq_off194 v1 hL k0_t1)) $$ HW; iintro HW
  iapply (wait_step c fh (half k0_t1.val) (pgs c xt0 HP b k0_t1.val) 18 (by decide) (eq_off194 v1 hL k0_t1)) $$ HW; iintro HW
  iapply (wait_step c fh (half k0_t1.val) (pgs c xt0 HP b k0_t1.val) 19 (by decide) (eq_off194 v1 hL k0_t1)) $$ HW; iintro HW
  iapply (wait_step c fh (half k0_t1.val) (pgs c xt0 HP b k0_t1.val) 20 (by decide) (eq_off194 v1 hL k0_t1)) $$ HW; iintro HW
  iapply (ret_step c)
  iapply Hk
  iexact HW

theorem run_part25 (v1 : Elt F .i32) (k0_hw33 : k0_chk33 i v1) (k0_t1 : Fin (k0_t1_loop v1).trips) (hL : LenOk v1) {α : Type} {k : PUnit → Prog (TpuEff nD τ sig (Elt F) Λ₀ .tc) α} {Q : α → sProp 𝕄} :
    iprop(Wt c fh (half k0_t1.val) (pgs c xt0 HP b k0_t1.val) 21 ∗ Ow c)
      ⊢ iprop((iprop(Wt c fh (half k0_t1.val) (pgs c xt0 HP b k0_t1.val) 25 ∗ Ow c) -∗ WP c (k ⟨⟩) Q)
        -∗ WP c (k0_part25 i tbM0_0 htbM0_0 tbM0_1 htbM0_1 arg3 harg3 arg4 harg4 arg5 harg5 (Memref.whole main_arg3) (Memref.isWhole_whole _) arg7 harg7 arg8 harg8 (Memref.whole cc0_scratch0) (Memref.isWhole_whole _) cc0_scratch1 v1 k0_hw33 k0_t1 >>= k) Q) := by
  iintro HW Hk
  iapply (bind_step c)
  rw [k0_part25_eq_skeleton]; unfold k0_part25_skel; dsimp only
  iapply (wait_step c fh (half k0_t1.val) (pgs c xt0 HP b k0_t1.val) 21 (by decide) (eq_off194 v1 hL k0_t1)) $$ HW; iintro HW
  iapply (wait_step c fh (half k0_t1.val) (pgs c xt0 HP b k0_t1.val) 22 (by decide) (eq_off194 v1 hL k0_t1)) $$ HW; iintro HW
  iapply (wait_step c fh (half k0_t1.val) (pgs c xt0 HP b k0_t1.val) 23 (by decide) (eq_off194 v1 hL k0_t1)) $$ HW; iintro HW
  iapply (wait_step c fh (half k0_t1.val) (pgs c xt0 HP b k0_t1.val) 24 (by decide) (eq_off194 v1 hL k0_t1)) $$ HW; iintro HW
  iapply (ret_step c)
  iapply Hk
  iexact HW

theorem run_part26 (v1 : Elt F .i32) (k0_hw33 : k0_chk33 i v1) (k0_t1 : Fin (k0_t1_loop v1).trips) (hL : LenOk v1) {α : Type} {k : PUnit → Prog (TpuEff nD τ sig (Elt F) Λ₀ .tc) α} {Q : α → sProp 𝕄} :
    iprop(Wt c fh (half k0_t1.val) (pgs c xt0 HP b k0_t1.val) 25 ∗ Ow c)
      ⊢ iprop((iprop(Wt c fh (half k0_t1.val) (pgs c xt0 HP b k0_t1.val) 30 ∗ Ow c) -∗ WP c (k ⟨⟩) Q)
        -∗ WP c (k0_part26 i tbM0_0 htbM0_0 tbM0_1 htbM0_1 arg3 harg3 arg4 harg4 arg5 harg5 (Memref.whole main_arg3) (Memref.isWhole_whole _) arg7 harg7 arg8 harg8 (Memref.whole cc0_scratch0) (Memref.isWhole_whole _) cc0_scratch1 v1 k0_hw33 k0_t1 >>= k) Q) := by
  iintro HW Hk
  iapply (bind_step c)
  rw [k0_part26_eq_skeleton]; unfold k0_part26_skel; dsimp only
  iapply (wait_step c fh (half k0_t1.val) (pgs c xt0 HP b k0_t1.val) 25 (by decide) (eq_off194 v1 hL k0_t1)) $$ HW; iintro HW
  iapply (wait_step c fh (half k0_t1.val) (pgs c xt0 HP b k0_t1.val) 26 (by decide) (eq_off194 v1 hL k0_t1)) $$ HW; iintro HW
  iapply (wait_step c fh (half k0_t1.val) (pgs c xt0 HP b k0_t1.val) 27 (by decide) (eq_off194 v1 hL k0_t1)) $$ HW; iintro HW
  iapply (wait_step c fh (half k0_t1.val) (pgs c xt0 HP b k0_t1.val) 28 (by decide) (eq_off194 v1 hL k0_t1)) $$ HW; iintro HW
  iapply (wait_step c fh (half k0_t1.val) (pgs c xt0 HP b k0_t1.val) 29 (by decide) (eq_off194 v1 hL k0_t1)) $$ HW; iintro HW
  iapply (ret_step c)
  iapply Hk
  iexact HW

-- (kept folded: a program's head is a conditional on a computed word)
attribute [local irreducible] k0_part20 k0_t1_body

/-- The half a trip does not wait on: the next block's copies under way, or, after the last trip, idle. -/
def Nx (g : Buf (Elt F) (bufL c)) (k N : ℕ) : sProp 𝕄 :=
  if k < N then Wt c fh (half k) (pgs c xt0 HP b k) 0 else Idle c fh (half k) g

set_option maxHeartbeats 400000 in
include hb in
theorem run_part20 (g : Buf (Elt F) (bufL c)) (arg0 : BitVec 32) (v1 : Elt F .i32) (k0_hw33 : k0_chk33 i v1) (v3 : BitVec 32) (k0_t1 : Fin (k0_t1_loop v1).trips) (hL : LenOk v1) {α : Type}
    {k : (Σ' (arg11 : BitVec 32), BitVec 32) → Prog (TpuEff nD τ sig (Elt F) Λ₀ .tc) α} {Q : α → sProp 𝕄} :
    iprop(tbPt0 c tbM0_0 xt0 ∗ Idle c fh (half (k0_t1.val + 1)) g ∗ Wt c fh (half k0_t1.val) (pgs c xt0 HP b k0_t1.val) 0 ∗ Ow c)
      ⊢ iprop((∀ v144, iprop(tbPt0 c tbM0_0 xt0 ∗ Nx c xt0 HP fh b g (k0_t1.val + 1) (nblk v1.toNat) ∗ Wt c fh (half k0_t1.val) (pgs c xt0 HP b k0_t1.val) 2 ∗ Ow c)
          -∗ WP c (k ⟨Scf.iv 0#32 1#32 k0_t1, v144⟩) Q)
        -∗ WP c (k0_part20 i tbM0_0 htbM0_0 tbM0_1 htbM0_1 arg3 harg3 arg4 harg4 arg5 harg5 (Memref.whole main_arg3) (Memref.isWhole_whole _) arg7 harg7 arg8 harg8 (Memref.whole cc0_scratch0) (Memref.isWhole_whole _) cc0_scratch1 arg0 v1 k0_hw33 v3 0#32 1#32 k0_t1 >>= k) Q) := by
  rw [k0_part20_eq_skeleton]; unfold k0_part20_skel Nx; dsimp only
  rcases Nat.lt_or_ge (k0_t1.val + 1) (nblk v1.toNat) with hlt | hge
  · have h2 : k0_cond2 v1 k0_t1 = 1#1 := (cond2_iff v1 hL k0_t1).mpr hlt
    rw [dif_pos h2, if_pos hlt]
    iintro ⟨HT, HI, HW⟩ Hk
    iapply (bind_step c)
    imod (idle_start c fh (half (k0_t1.val + 1)) g (pgs c xt0 HP b (k0_t1.val + 1))) $$ HI with HI
    iapply (run_part10 c i arg3 harg3 arg4 harg4 arg5 harg5 arg7 harg7 arg8 harg8 xt0 HP fh b hb g arg0 v1 k0_hw33 k0_t1 (Scf.iv 0#32 1#32 k0_t1) (curW (Scf.iv 0#32 1#32 k0_t1)) h2 hL) $$ [HT HI]
    · isplitl [HT] <;> iassumption
    iintro %hw ⟨HT, HI⟩
    try dsimp only
    iapply (run_part11 c i arg3 harg3 arg4 harg4 arg5 harg5 arg7 harg7 arg8 harg8 xt0 HP fh b hb g arg0 v1 k0_hw33 k0_t1 h2 (Scalar.addi (Scf.iv 0#32 1#32 k0_t1) 1#32) (wd c xt0 b (pidx (k0_t1.val + 1) 2)) hw hL rfl) $$ [HT HI]
    · isplitl [HT] <;> iassumption
    iintro %hw ⟨HT, HI⟩
    try dsimp only
    iapply (run_part12 c i arg3 harg3 arg4 harg4 arg5 harg5 arg7 harg7 arg8 harg8 xt0 HP fh b hb g arg0 v1 k0_hw33 k0_t1 h2 (Scalar.addi (Scf.iv 0#32 1#32 k0_t1) 1#32) (wd c xt0 b (pidx (k0_t1.val + 1) 5)) hw hL rfl) $$ [HT HI]
    · isplitl [HT] <;> iassumption
    iintro %hw ⟨HT, HI⟩
    try dsimp only
    iapply (run_part13 c i arg3 harg3 arg4 harg4 arg5 harg5 arg7 harg7 arg8 harg8 xt0 HP fh b hb g arg0 v1 k0_hw33 k0_t1 h2 (Scalar.addi (Scf.iv 0#32 1#32 k0_t1) 1#32) (wd c xt0 b (pidx (k0_t1.val + 1) 8)) hw hL rfl) $$ [HT HI]
    · isplitl [HT] <;> iassumption
    iintro %hw ⟨HT, HI⟩
    try dsimp only
    iapply (run_part14 c i arg3 harg3 arg4 harg4 arg5 harg5 arg7 harg7 arg8 harg8 xt0 HP fh b hb g arg0 v1 k0_hw33 k0_t1 h2 (Scalar.addi (Scf.iv 0#32 1#32 k0_t1) 1#32) (wd c xt0 b (pidx (k0_t1.val + 1) 11)) hw hL rfl) $$ [HT HI]
    · isplitl [HT] <;> iassumption
    iintro %hw ⟨HT, HI⟩
    try dsimp only
    iapply (run_part15 c i arg3 harg3 arg4 harg4 arg5 harg5 arg7 harg7 arg8 harg8 xt0 HP fh b hb g arg0 v1 k0_hw33 k0_t1 h2 (Scalar.addi (Scf.iv 0#32 1#32 k0_t1) 1#32) (wd c xt0 b (pidx (k0_t1.val + 1) 14)) hw hL rfl) $$ [HT HI]
    · isplitl [HT] <;> iassumption
    iintro %hw ⟨HT, HI⟩
    try dsimp only
    iapply (run_part16 c i arg3 harg3 arg4 harg4 arg5 harg5 arg7 harg7 arg8 harg8 xt0 HP fh b hb g arg0 v1 k0_hw33 k0_t1 h2 (Scalar.addi (Scf.iv 0#32 1#32 k0_t1) 1#32) (wd c xt0 b (pidx (k0_t1.val + 1) 17)) hw hL rfl) $$ [HT HI]
    · isplitl [HT] <;> iassumption
    iintro %hw ⟨HT, HI⟩
    try dsimp only
    iapply (run_part17 c i arg3 harg3 arg4 harg4 arg5 harg5 arg7 harg7 arg8 harg8 xt0 HP fh b hb g arg0 v1 k0_hw33 k0_t1 h2 (Scalar.addi (Scf.iv 0#32 1#32 k0_t1) 1#32) (wd c xt0 b (pidx (k0_t1.val + 1) 20)) hw hL rfl) $$ [HT HI]
    · isplitl [HT] <;> iassumption
    iintro %hw ⟨HT, HI⟩
    try dsimp only
    iapply (run_part18 c i arg3 harg3 arg4 harg4 arg5 harg5 arg7 harg7 arg8 harg8 xt0 HP fh b hb g arg0 v1 k0_hw33 k0_t1 h2 (Scalar.addi (Scf.iv 0#32 1#32 k0_t1) 1#32) (wd c xt0 b (pidx (k0_t1.val + 1) 23)) hw hL rfl) $$ [HT HI]
    · isplitl [HT] <;> iassumption
    iintro %hw ⟨HT, HI⟩
    try dsimp only
    iapply (run_part19 c i arg3 harg3 arg4 harg4 arg5 harg5 arg7 harg7 arg8 harg8 xt0 HP fh b hb g arg0 v1 k0_hw33 k0_t1 h2 (Scalar.addi (Scf.iv 0#32 1#32 k0_t1) 1#32) (wd c xt0 b (pidx (k0_t1.val + 1) 26)) hw hL rfl) $$ [HT HI]
    · isplitl [HT] <;> iassumption
    iintro %hw ⟨HT, HI⟩
    try dsimp only
    iapply (issue_step' c fh (half (k0_t1.val + 1)) g (pgs c xt0 HP b (k0_t1.val + 1)) 29 (by decide) (eq_off184 v1 hL k0_t1) (eq_off183 v1 hL k0_t1) rfl) $$ HI; iintro HI
    iapply (word_step c xt0 b (pidx (k0_t1.val + 1) 30) (eq_off186 i b hb v1 hL k0_t1 h2)) $$ HT; iintro HT
    iapply (assume_step c ⟨fun _ => inb_page (HP _), fun _ hinb => words_page _ hinb⟩)
    iapply (issue_step' c fh (half (k0_t1.val + 1)) g (pgs c xt0 HP b (k0_t1.val + 1)) 30 (by decide) (eq_off188 v1 hL k0_t1) (eq_off187 v1 hL k0_t1) rfl) $$ HI; iintro HI
    iapply (word_step c xt0 b (pidx (k0_t1.val + 1) 31) (eq_off190 i b hb v1 hL k0_t1 h2)) $$ HT; iintro HT
    iapply (assume_step c ⟨fun _ => inb_page (HP _), fun _ hinb => words_page _ hinb⟩)
    iapply (issue_step' c fh (half (k0_t1.val + 1)) g (pgs c xt0 HP b (k0_t1.val + 1)) 31 (by decide) (eq_off192 v1 hL k0_t1) (eq_off191 v1 hL k0_t1) rfl) $$ HI; iintro HI
    iapply (wait_step c fh (half k0_t1.val) (pgs c xt0 HP b k0_t1.val) 0 (by decide) (eq_off194 v1 hL k0_t1)) $$ HW; iintro HW
    iapply (wait_step c fh (half k0_t1.val) (pgs c xt0 HP b k0_t1.val) 1 (by decide) (eq_off194 v1 hL k0_t1)) $$ HW; iintro HW
    iapply (ret_step c)
    iapply Hk
    isplitl [HT]; · iexact HT
    isplitl [HI]; · iapply (iss_full c fh (half (k0_t1.val + 1)) g (pgs c xt0 HP b (k0_t1.val + 1))) $$ HI
    iexact HW
  · have h2 : ¬ k0_cond2 v1 k0_t1 = 1#1 := fun h => absurd ((cond2_iff v1 hL k0_t1).mp h) (Nat.not_lt.mpr hge)
    rw [dif_neg h2, if_neg (Nat.not_lt.mpr hge)]
    iintro ⟨HT, HI, HW⟩ Hk
    iapply (bind_step c)
    iapply (wait_step c fh (half k0_t1.val) (pgs c xt0 HP b k0_t1.val) 0 (by decide) (eq_off194 v1 hL k0_t1)) $$ HW; iintro HW
    iapply (wait_step c fh (half k0_t1.val) (pgs c xt0 HP b k0_t1.val) 1 (by decide) (eq_off194 v1 hL k0_t1)) $$ HW; iintro HW
    iapply (ret_step c)
    iapply Hk
    isplitl [HT]; · iexact HT
    isplitl [HI]; · iexact HI
    iexact HW

theorem run_part27 (v1 : Elt F .i32) (k0_hw33 : k0_chk33 i v1) (k0_t1 : Fin (k0_t1_loop v1).trips) (arg11 v144 : BitVec 32) (hL : LenOk v1) {α : Type}
    {k : (Σ' (v350 : IVec S128x512 1) (v353 : FVec F S512x512 .bf16) (v360 : IVec S512x144 32) (v363 : FVec F S512x144 .f32) (v365 : IVec S512x144 1) (v367 : BitVec 32), IVec S512x144 32) → Prog (TpuEff nD τ sig (Elt F) Λ₀ .tc) α} {Q : α → sProp 𝕄} :
    iprop(Wt c fh (half k0_t1.val) (pgs c xt0 HP b k0_t1.val) 30 ∗ Ow c)
      ⊢ iprop((iprop(Idle c fh (half k0_t1.val) (landed c (pgs c xt0 HP b k0_t1.val) fh) ∗ Ow c) -∗ WP c (k ⟨k0_pay3 (F := F) v1 arg11, k0_pay4 (block c (pgs c xt0 HP b k0_t1.val) fh), k0_pay5 (block c (pgs c xt0 HP b k0_t1.val) fh),
            k0_pay6 (block c (pgs c xt0 HP b k0_t1.val) fh), k0_pay7, Scalar.select (Scalar.cmpi .eq 2#32 0#32) 1#32 2#32, k0_pay8⟩) Q)
        -∗ WP c (k0_part27 i tbM0_0 htbM0_0 tbM0_1 htbM0_1 arg3 harg3 arg4 harg4 arg5 harg5 (Memref.whole main_arg3) (Memref.isWhole_whole _) arg7 harg7 arg8 harg8 (Memref.whole cc0_scratch0) (Memref.isWhole_whole _) cc0_scratch1 v1 k0_hw33 k0_t1 arg11 v144 >>= k) Q) := by
  iintro HW Hk
  iapply (bind_step c)
  rw [k0_part27_eq_skeleton]; unfold k0_part27_skel; dsimp only
  iapply (wait_step c fh (half k0_t1.val) (pgs c xt0 HP b k0_t1.val) 30 (by decide) (eq_off194 v1 hL k0_t1)) $$ HW; iintro HW
  iapply (wait_last c fh (half k0_t1.val) (pgs c xt0 HP b k0_t1.val) (eq_off194 v1 hL k0_t1)) $$ HW; iintro ⟨HW, HO⟩
  iapply (load_half c fh (half k0_t1.val) (pgs c xt0 HP b k0_t1.val) (eq_off227 v1 hL k0_t1)) $$ HW; iintro HW
  iapply (ret_step c)
  iapply Hk
  isplitl [HW] <;> iassumption

/-- A trip's arithmetic: the running maximum, the running sum and the running output, after block `blk` at trip `t`. -/
def tripVal (v1 : BitVec 32) (v5 : FVec F S128x512 .bf16) (v7 : FVec F S128x144 .bf16) (t : ℕ) (blk : Vec F S1x32x16x656 .i8)
    (s : FVec F S128x1 .f32 × FVec F S128x1 .f32 × FVec F S128x512 .f32) : FVec F S128x1 .f32 × FVec F S128x1 .f32 × FVec F S128x512 .f32 :=
  let v350 := k0_pay3 (F := F) v1 (Scf.iv 0#32 1#32 t)
  let v418 := k0_pay10 v5 v7 (k0_pay4 blk) (k0_pay5 blk) (k0_pay6 blk) k0_pay7 (Scalar.select (Scalar.cmpi .eq 2#32 0#32) 1#32 2#32) k0_pay8
  let v413 := k0_pay9 (k0_pay4 blk) (k0_pay5 blk)
  let cst : F .f32 := Scalar.ofBits .f32 0xF149F2CA#32
  (k0_pay39 s.1 v350 v418 cst, k0_pay42 s.1 s.2.1 v350 v418 cst, k0_pay43 s.1 s.2.2 v350 v413 v418 cst)

set_option maxHeartbeats 400000 in
include hb in
/-- One trip of the loop. -/
theorem run_trip (g : Buf (Elt F) (bufL c)) (arg0 : BitVec 32) (v1 : Elt F .i32) (k0_hw33 : k0_chk33 i v1) (v3 : BitVec 32) (v5 : FVec F S128x512 .bf16) (v7 : FVec F S128x144 .bf16) (v11 : FVec F S128x1 .f32) (v12 : FVec F S128x1 .f32) (v13 : FVec F S128x512 .f32) (v22 : IVec S128x32 1) (v59 : FVec F S32x144 .bf16) (v85 : FVec F S32x512 .bf16)
    (k0_t1 : Fin (k0_t1_loop v1).trips) (s : FVec F S128x1 .f32 × FVec F S128x1 .f32 × FVec F S128x512 .f32) (hL : LenOk v1) {Q : (FVec F S128x1 .f32 × FVec F S128x1 .f32 × FVec F S128x512 .f32) → sProp 𝕄} :
    iprop(tbPt0 c tbM0_0 xt0 ∗ Idle c fh (half (k0_t1.val + 1)) g ∗ Wt c fh (half k0_t1.val) (pgs c xt0 HP b k0_t1.val) 0 ∗ Ow c)
      ⊢ iprop((iprop(tbPt0 c tbM0_0 xt0 ∗ Nx c xt0 HP fh b g (k0_t1.val + 1) (nblk v1.toNat) ∗ Idle c fh (half k0_t1.val) (landed c (pgs c xt0 HP b k0_t1.val) fh) ∗ Ow c)
          -∗ Q (tripVal v1 v5 v7 k0_t1 (block c (pgs c xt0 HP b k0_t1.val) fh) s))
        -∗ WP c (k0_t1_body i tbM0_0 htbM0_0 tbM0_1 htbM0_1 arg3 harg3 arg4 harg4 arg5 harg5 (Memref.whole main_arg3) (Memref.isWhole_whole _) arg7 harg7 arg8 harg8 (Memref.whole cc0_scratch0) (Memref.isWhole_whole _) cc0_scratch1 arg0 v1 k0_hw33 v3 v5 v7 v11 v12 v13 v22 v59 v85 k0_t1 s) Q) := by
  obtain ⟨s1, s2, s3⟩ := s
  unfold k0_t1_body; dsimp only
  iintro H Hk
  iapply (run_part20 c i arg3 harg3 arg4 harg4 arg5 harg5 arg7 harg7 arg8 harg8 xt0 HP fh b hb g arg0 v1 k0_hw33 v3 k0_t1 hL) $$ H
  iintro %v144 ⟨HT, HI, HW⟩
  try dsimp only
  iapply (run_part21 c i arg3 harg3 arg4 harg4 arg5 harg5 arg7 harg7 arg8 harg8 xt0 HP fh b v1 k0_hw33 k0_t1 hL) $$ HW; iintro HW
  iapply (run_part22 c i arg3 harg3 arg4 harg4 arg5 harg5 arg7 harg7 arg8 harg8 xt0 HP fh b v1 k0_hw33 k0_t1 hL) $$ HW; iintro HW
  iapply (run_part23 c i arg3 harg3 arg4 harg4 arg5 harg5 arg7 harg7 arg8 harg8 xt0 HP fh b v1 k0_hw33 k0_t1 hL) $$ HW; iintro HW
  iapply (run_part24 c i arg3 harg3 arg4 harg4 arg5 harg5 arg7 harg7 arg8 harg8 xt0 HP fh b v1 k0_hw33 k0_t1 hL) $$ HW; iintro HW
  iapply (run_part25 c i arg3 harg3 arg4 harg4 arg5 harg5 arg7 harg7 arg8 harg8 xt0 HP fh b v1 k0_hw33 k0_t1 hL) $$ HW; iintro HW
  iapply (run_part26 c i arg3 harg3 arg4 harg4 arg5 harg5 arg7 harg7 arg8 harg8 xt0 HP fh b v1 k0_hw33 k0_t1 hL) $$ HW; iintro HW
  iapply (run_part27 c i arg3 harg3 arg4 harg4 arg5 harg5 arg7 harg7 arg8 harg8 xt0 HP fh b v1 k0_hw33 k0_t1 (Scf.iv 0#32 1#32 k0_t1) v144 hL) $$ HW; iintro ⟨HW, HO⟩
  try dsimp only
  rw [k0_part28_eq_skeleton]; unfold k0_part28_skel; dsimp only
  iapply (bind_step c)
  iapply (ret_step c)
  try dsimp only
  iapply (ret_step c)
  unfold tripVal; dsimp only
  iapply Hk
  isplitl [HT]; · iexact HT
  isplitl [HI]; · iexact HI
  isplitl [HW] <;> iassumption

end Cert.Kernel.Gen

end
-- ==== Proof.Kernel.First.lean ====
/- The copies of a row's first block, as the kernel issues them before its loop. -/
module

public import proofs.«01_k».proof.Proof.Kernel.Base
public import proofs.«01_k».proof.Proof.Kernel.Pages

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

variable (c : Dev nD) (i : grid0.Coords) (arg3 : Memref sig .tc .vmem S1x128x512 .bf16) (harg3 : arg3.IsWhole) (arg4 : Memref sig .tc .vmem S1x128x144 .bf16) (harg4 : arg4.IsWhole)
  (arg5 : Memref sig .tc .vmem S1x1x656 .i8) (harg5 : arg5.IsWhole) (arg7 : Memref sig .tc .vmem S1x128x512 .bf16) (harg7 : arg7.IsWhole) (arg8 : Memref sig .tc .vmem S1x128x1 .f32) (harg8 : arg8.IsWhole)
  (xt0 : TbBuf0 (F := F) c tbM0_0) (HP : ∀ x, (xt0 x).toNat < 40960) (fh : Buf (Elt F) (poolL c)) (b : Fin 32) (hb : (i 0).val = b.val)

section
include hb

theorem run_part1 (g : Buf (Elt F) (bufL c)) (arg0 : BitVec 32) (v1 : Elt F .i32) (k0_h1 : k0_cond1 v1 = 1#1) (hL : LenOk v1) {α : Type} {k : (Σ' (v160 : Elt F .i32), k0_chk4 v1 v160) → Prog (TpuEff nD τ sig (Elt F) Λ₀ .tc) α} {Q : α → sProp 𝕄} :
    iprop(tbPt0 c tbM0_0 xt0 ∗ Iss c fh 0 g (pgs c xt0 HP b 0) 0)
      ⊢ iprop((∀ hw : k0_chk4 v1 (wd c xt0 b (pidx 0 3)), iprop(tbPt0 c tbM0_0 xt0 ∗ Iss c fh 0 g (pgs c xt0 HP b 0) 3) -∗ WP c (k ⟨wd c xt0 b (pidx 0 3), hw⟩) Q)
        -∗ WP c (k0_part1 i tbM0_0 htbM0_0 tbM0_1 htbM0_1 arg3 harg3 arg4 harg4 arg5 harg5 (Memref.whole main_arg3) (Memref.isWhole_whole _) arg7 harg7 arg8 harg8 (Memref.whole cc0_scratch0) (Memref.isWhole_whole _) cc0_scratch1 arg0 v1 k0_h1 >>= k) Q) := by
  iintro ⟨HT, HI⟩ Hk
  iapply bind_step
  rw [k0_part1_eq_skeleton]; unfold k0_part1_skel; dsimp only
  iapply (word_step c xt0 b (pidx 0 0) (off_row i b hb rfl)) $$ HT; iintro HT
  iapply (assume_step c ⟨fun _ => inb_page (HP _), fun _ hinb => words_page _ hinb⟩)
  iapply (issue_step' c fh 0 g (pgs c xt0 HP b 0) 0 (by decide) rfl rfl rfl) $$ HI; iintro HI
  iapply (word_step c xt0 b (pidx 0 1) (off_row i b hb rfl)) $$ HT; iintro HT
  iapply (assume_step c ⟨fun _ => inb_page (HP _), fun _ hinb => words_page _ hinb⟩)
  iapply (issue_step' c fh 0 g (pgs c xt0 HP b 0) 1 (by decide) rfl rfl rfl) $$ HI; iintro HI
  iapply (word_step c xt0 b (pidx 0 2) (off_row i b hb rfl)) $$ HT; iintro HT
  iapply (assume_step c ⟨fun _ => inb_page (HP _), fun _ hinb => words_page _ hinb⟩)
  iapply (issue_step' c fh 0 g (pgs c xt0 HP b 0) 2 (by decide) rfl rfl rfl) $$ HI; iintro HI
  iapply (word_step c xt0 b (pidx 0 3) (off_row i b hb rfl)) $$ HT; iintro HT
  iapply (assume_step c ⟨fun _ => inb_page (HP _), fun _ hinb => words_page _ hinb⟩)
  iapply ret_step
  iapply Hk
  isplitl [HT]; · iexact HT
  iexact HI

theorem run_part2 (g : Buf (Elt F) (bufL c)) (arg0 : BitVec 32) (v1 : Elt F .i32) (k0_h1 : k0_cond1 v1 = 1#1) (v160 : Elt F .i32) (k0_hw4 : k0_chk4 v1 v160) (hL : LenOk v1) (hv : v160 = wd c xt0 b (pidx 0 3)) {α : Type} {k : (Σ' (v184 : Elt F .i32), k0_chk7 v1 v184) → Prog (TpuEff nD τ sig (Elt F) Λ₀ .tc) α} {Q : α → sProp 𝕄} :
    iprop(tbPt0 c tbM0_0 xt0 ∗ Iss c fh 0 g (pgs c xt0 HP b 0) 3)
      ⊢ iprop((∀ hw : k0_chk7 v1 (wd c xt0 b (pidx 0 6)), iprop(tbPt0 c tbM0_0 xt0 ∗ Iss c fh 0 g (pgs c xt0 HP b 0) 6) -∗ WP c (k ⟨wd c xt0 b (pidx 0 6), hw⟩) Q)
        -∗ WP c (k0_part2 i tbM0_0 htbM0_0 tbM0_1 htbM0_1 arg3 harg3 arg4 harg4 arg5 harg5 (Memref.whole main_arg3) (Memref.isWhole_whole _) arg7 harg7 arg8 harg8 (Memref.whole cc0_scratch0) (Memref.isWhole_whole _) cc0_scratch1 arg0 v1 k0_h1 v160 k0_hw4 >>= k) Q) := by
  subst hv
  iintro ⟨HT, HI⟩ Hk
  iapply bind_step
  rw [k0_part2_eq_skeleton]; unfold k0_part2_skel; dsimp only
  iapply (issue_step' c fh 0 g (pgs c xt0 HP b 0) 3 (by decide) rfl rfl rfl) $$ HI; iintro HI
  iapply (word_step c xt0 b (pidx 0 4) (off_row i b hb rfl)) $$ HT; iintro HT
  iapply (assume_step c ⟨fun _ => inb_page (HP _), fun _ hinb => words_page _ hinb⟩)
  iapply (issue_step' c fh 0 g (pgs c xt0 HP b 0) 4 (by decide) rfl rfl rfl) $$ HI; iintro HI
  iapply (word_step c xt0 b (pidx 0 5) (off_row i b hb rfl)) $$ HT; iintro HT
  iapply (assume_step c ⟨fun _ => inb_page (HP _), fun _ hinb => words_page _ hinb⟩)
  iapply (issue_step' c fh 0 g (pgs c xt0 HP b 0) 5 (by decide) rfl rfl rfl) $$ HI; iintro HI
  iapply (word_step c xt0 b (pidx 0 6) (off_row i b hb rfl)) $$ HT; iintro HT
  iapply (assume_step c ⟨fun _ => inb_page (HP _), fun _ hinb => words_page _ hinb⟩)
  iapply ret_step
  iapply Hk
  isplitl [HT]; · iexact HT
  iexact HI

theorem run_part3 (g : Buf (Elt F) (bufL c)) (arg0 : BitVec 32) (v1 : Elt F .i32) (k0_h1 : k0_cond1 v1 = 1#1) (v184 : Elt F .i32) (k0_hw7 : k0_chk7 v1 v184) (hL : LenOk v1) (hv : v184 = wd c xt0 b (pidx 0 6)) {α : Type} {k : (PUnit) → Prog (TpuEff nD τ sig (Elt F) Λ₀ .tc) α} {Q : α → sProp 𝕄} :
    iprop(tbPt0 c tbM0_0 xt0 ∗ Iss c fh 0 g (pgs c xt0 HP b 0) 6)
      ⊢ iprop((iprop(tbPt0 c tbM0_0 xt0 ∗ Iss c fh 0 g (pgs c xt0 HP b 0) 10) -∗ WP c (k ⟨⟩) Q)
        -∗ WP c (k0_part3 i tbM0_0 htbM0_0 tbM0_1 htbM0_1 arg3 harg3 arg4 harg4 arg5 harg5 (Memref.whole main_arg3) (Memref.isWhole_whole _) arg7 harg7 arg8 harg8 (Memref.whole cc0_scratch0) (Memref.isWhole_whole _) cc0_scratch1 arg0 v1 k0_h1 v184 k0_hw7 >>= k) Q) := by
  subst hv
  iintro ⟨HT, HI⟩ Hk
  iapply bind_step
  rw [k0_part3_eq_skeleton]; unfold k0_part3_skel; dsimp only
  iapply (issue_step' c fh 0 g (pgs c xt0 HP b 0) 6 (by decide) rfl rfl rfl) $$ HI; iintro HI
  iapply (word_step c xt0 b (pidx 0 7) (off_row i b hb rfl)) $$ HT; iintro HT
  iapply (assume_step c ⟨fun _ => inb_page (HP _), fun _ hinb => words_page _ hinb⟩)
  iapply (issue_step' c fh 0 g (pgs c xt0 HP b 0) 7 (by decide) rfl rfl rfl) $$ HI; iintro HI
  iapply (word_step c xt0 b (pidx 0 8) (off_row i b hb rfl)) $$ HT; iintro HT
  iapply (assume_step c ⟨fun _ => inb_page (HP _), fun _ hinb => words_page _ hinb⟩)
  iapply (issue_step' c fh 0 g (pgs c xt0 HP b 0) 8 (by decide) rfl rfl rfl) $$ HI; iintro HI
  iapply (word_step c xt0 b (pidx 0 9) (off_row i b hb rfl)) $$ HT; iintro HT
  iapply (assume_step c ⟨fun _ => inb_page (HP _), fun _ hinb => words_page _ hinb⟩)
  iapply (issue_step' c fh 0 g (pgs c xt0 HP b 0) 9 (by decide) rfl rfl rfl) $$ HI; iintro HI
  iapply ret_step
  iapply Hk
  isplitl [HT]; · iexact HT
  iexact HI

theorem run_part4 (g : Buf (Elt F) (bufL c)) (arg0 : BitVec 32) (v1 : Elt F .i32) (k0_h1 : k0_cond1 v1 = 1#1) (hL : LenOk v1) {α : Type} {k : (Σ' (v240 : Elt F .i32), k0_chk14 v1 v240) → Prog (TpuEff nD τ sig (Elt F) Λ₀ .tc) α} {Q : α → sProp 𝕄} :
    iprop(tbPt0 c tbM0_0 xt0 ∗ Iss c fh 0 g (pgs c xt0 HP b 0) 10)
      ⊢ iprop((∀ hw : k0_chk14 v1 (wd c xt0 b (pidx 0 13)), iprop(tbPt0 c tbM0_0 xt0 ∗ Iss c fh 0 g (pgs c xt0 HP b 0) 13) -∗ WP c (k ⟨wd c xt0 b (pidx 0 13), hw⟩) Q)
        -∗ WP c (k0_part4 i tbM0_0 htbM0_0 tbM0_1 htbM0_1 arg3 harg3 arg4 harg4 arg5 harg5 (Memref.whole main_arg3) (Memref.isWhole_whole _) arg7 harg7 arg8 harg8 (Memref.whole cc0_scratch0) (Memref.isWhole_whole _) cc0_scratch1 arg0 v1 k0_h1 >>= k) Q) := by
  iintro ⟨HT, HI⟩ Hk
  iapply bind_step
  rw [k0_part4_eq_skeleton]; unfold k0_part4_skel; dsimp only
  iapply (word_step c xt0 b (pidx 0 10) (off_row i b hb rfl)) $$ HT; iintro HT
  iapply (assume_step c ⟨fun _ => inb_page (HP _), fun _ hinb => words_page _ hinb⟩)
  iapply (issue_step' c fh 0 g (pgs c xt0 HP b 0) 10 (by decide) rfl rfl rfl) $$ HI; iintro HI
  iapply (word_step c xt0 b (pidx 0 11) (off_row i b hb rfl)) $$ HT; iintro HT
  iapply (assume_step c ⟨fun _ => inb_page (HP _), fun _ hinb => words_page _ hinb⟩)
  iapply (issue_step' c fh 0 g (pgs c xt0 HP b 0) 11 (by decide) rfl rfl rfl) $$ HI; iintro HI
  iapply (word_step c xt0 b (pidx 0 12) (off_row i b hb rfl)) $$ HT; iintro HT
  iapply (assume_step c ⟨fun _ => inb_page (HP _), fun _ hinb => words_page _ hinb⟩)
  iapply (issue_step' c fh 0 g (pgs c xt0 HP b 0) 12 (by decide) rfl rfl rfl) $$ HI; iintro HI
  iapply (word_step c xt0 b (pidx 0 13) (off_row i b hb rfl)) $$ HT; iintro HT
  iapply (assume_step c ⟨fun _ => inb_page (HP _), fun _ hinb => words_page _ hinb⟩)
  iapply ret_step
  iapply Hk
  isplitl [HT]; · iexact HT
  iexact HI

theorem run_part5 (g : Buf (Elt F) (bufL c)) (arg0 : BitVec 32) (v1 : Elt F .i32) (k0_h1 : k0_cond1 v1 = 1#1) (v240 : Elt F .i32) (k0_hw14 : k0_chk14 v1 v240) (hL : LenOk v1) (hv : v240 = wd c xt0 b (pidx 0 13)) {α : Type} {k : (Σ' (v264 : Elt F .i32), k0_chk17 v1 v264) → Prog (TpuEff nD τ sig (Elt F) Λ₀ .tc) α} {Q : α → sProp 𝕄} :
    iprop(tbPt0 c tbM0_0 xt0 ∗ Iss c fh 0 g (pgs c xt0 HP b 0) 13)
      ⊢ iprop((∀ hw : k0_chk17 v1 (wd c xt0 b (pidx 0 16)), iprop(tbPt0 c tbM0_0 xt0 ∗ Iss c fh 0 g (pgs c xt0 HP b 0) 16) -∗ WP c (k ⟨wd c xt0 b (pidx 0 16), hw⟩) Q)
        -∗ WP c (k0_part5 i tbM0_0 htbM0_0 tbM0_1 htbM0_1 arg3 harg3 arg4 harg4 arg5 harg5 (Memref.whole main_arg3) (Memref.isWhole_whole _) arg7 harg7 arg8 harg8 (Memref.whole cc0_scratch0) (Memref.isWhole_whole _) cc0_scratch1 arg0 v1 k0_h1 v240 k0_hw14 >>= k) Q) := by
  subst hv
  iintro ⟨HT, HI⟩ Hk
  iapply bind_step
  rw [k0_part5_eq_skeleton]; unfold k0_part5_skel; dsimp only
  iapply (issue_step' c fh 0 g (pgs c xt0 HP b 0) 13 (by decide) rfl rfl rfl) $$ HI; iintro HI
  iapply (word_step c xt0 b (pidx 0 14) (off_row i b hb rfl)) $$ HT; iintro HT
  iapply (assume_step c ⟨fun _ => inb_page (HP _), fun _ hinb => words_page _ hinb⟩)
  iapply (issue_step' c fh 0 g (pgs c xt0 HP b 0) 14 (by decide) rfl rfl rfl) $$ HI; iintro HI
  iapply (word_step c xt0 b (pidx 0 15) (off_row i b hb rfl)) $$ HT; iintro HT
  iapply (assume_step c ⟨fun _ => inb_page (HP _), fun _ hinb => words_page _ hinb⟩)
  iapply (issue_step' c fh 0 g (pgs c xt0 HP b 0) 15 (by decide) rfl rfl rfl) $$ HI; iintro HI
  iapply (word_step c xt0 b (pidx 0 16) (off_row i b hb rfl)) $$ HT; iintro HT
  iapply (assume_step c ⟨fun _ => inb_page (HP _), fun _ hinb => words_page _ hinb⟩)
  iapply ret_step
  iapply Hk
  isplitl [HT]; · iexact HT
  iexact HI

theorem run_part6 (g : Buf (Elt F) (bufL c)) (arg0 : BitVec 32) (v1 : Elt F .i32) (k0_h1 : k0_cond1 v1 = 1#1) (v264 : Elt F .i32) (k0_hw17 : k0_chk17 v1 v264) (hL : LenOk v1) (hv : v264 = wd c xt0 b (pidx 0 16)) {α : Type} {k : (PUnit) → Prog (TpuEff nD τ sig (Elt F) Λ₀ .tc) α} {Q : α → sProp 𝕄} :
    iprop(tbPt0 c tbM0_0 xt0 ∗ Iss c fh 0 g (pgs c xt0 HP b 0) 16)
      ⊢ iprop((iprop(tbPt0 c tbM0_0 xt0 ∗ Iss c fh 0 g (pgs c xt0 HP b 0) 20) -∗ WP c (k ⟨⟩) Q)
        -∗ WP c (k0_part6 i tbM0_0 htbM0_0 tbM0_1 htbM0_1 arg3 harg3 arg4 harg4 arg5 harg5 (Memref.whole main_arg3) (Memref.isWhole_whole _) arg7 harg7 arg8 harg8 (Memref.whole cc0_scratch0) (Memref.isWhole_whole _) cc0_scratch1 arg0 v1 k0_h1 v264 k0_hw17 >>= k) Q) := by
  subst hv
  iintro ⟨HT, HI⟩ Hk
  iapply bind_step
  rw [k0_part6_eq_skeleton]; unfold k0_part6_skel; dsimp only
  iapply (issue_step' c fh 0 g (pgs c xt0 HP b 0) 16 (by decide) rfl rfl rfl) $$ HI; iintro HI
  iapply (word_step c xt0 b (pidx 0 17) (off_row i b hb rfl)) $$ HT; iintro HT
  iapply (assume_step c ⟨fun _ => inb_page (HP _), fun _ hinb => words_page _ hinb⟩)
  iapply (issue_step' c fh 0 g (pgs c xt0 HP b 0) 17 (by decide) rfl rfl rfl) $$ HI; iintro HI
  iapply (word_step c xt0 b (pidx 0 18) (off_row i b hb rfl)) $$ HT; iintro HT
  iapply (assume_step c ⟨fun _ => inb_page (HP _), fun _ hinb => words_page _ hinb⟩)
  iapply (issue_step' c fh 0 g (pgs c xt0 HP b 0) 18 (by decide) rfl rfl rfl) $$ HI; iintro HI
  iapply (word_step c xt0 b (pidx 0 19) (off_row i b hb rfl)) $$ HT; iintro HT
  iapply (assume_step c ⟨fun _ => inb_page (HP _), fun _ hinb => words_page _ hinb⟩)
  iapply (issue_step' c fh 0 g (pgs c xt0 HP b 0) 19 (by decide) rfl rfl rfl) $$ HI; iintro HI
  iapply ret_step
  iapply Hk
  isplitl [HT]; · iexact HT
  iexact HI

theorem run_part7 (g : Buf (Elt F) (bufL c)) (arg0 : BitVec 32) (v1 : Elt F .i32) (k0_h1 : k0_cond1 v1 = 1#1) (hL : LenOk v1) {α : Type} {k : (Σ' (v320 : Elt F .i32), k0_chk24 v1 v320) → Prog (TpuEff nD τ sig (Elt F) Λ₀ .tc) α} {Q : α → sProp 𝕄} :
    iprop(tbPt0 c tbM0_0 xt0 ∗ Iss c fh 0 g (pgs c xt0 HP b 0) 20)
      ⊢ iprop((∀ hw : k0_chk24 v1 (wd c xt0 b (pidx 0 23)), iprop(tbPt0 c tbM0_0 xt0 ∗ Iss c fh 0 g (pgs c xt0 HP b 0) 23) -∗ WP c (k ⟨wd c xt0 b (pidx 0 23), hw⟩) Q)
        -∗ WP c (k0_part7 i tbM0_0 htbM0_0 tbM0_1 htbM0_1 arg3 harg3 arg4 harg4 arg5 harg5 (Memref.whole main_arg3) (Memref.isWhole_whole _) arg7 harg7 arg8 harg8 (Memref.whole cc0_scratch0) (Memref.isWhole_whole _) cc0_scratch1 arg0 v1 k0_h1 >>= k) Q) := by
  iintro ⟨HT, HI⟩ Hk
  iapply bind_step
  rw [k0_part7_eq_skeleton]; unfold k0_part7_skel; dsimp only
  iapply (word_step c xt0 b (pidx 0 20) (off_row i b hb rfl)) $$ HT; iintro HT
  iapply (assume_step c ⟨fun _ => inb_page (HP _), fun _ hinb => words_page _ hinb⟩)
  iapply (issue_step' c fh 0 g (pgs c xt0 HP b 0) 20 (by decide) rfl rfl rfl) $$ HI; iintro HI
  iapply (word_step c xt0 b (pidx 0 21) (off_row i b hb rfl)) $$ HT; iintro HT
  iapply (assume_step c ⟨fun _ => inb_page (HP _), fun _ hinb => words_page _ hinb⟩)
  iapply (issue_step' c fh 0 g (pgs c xt0 HP b 0) 21 (by decide) rfl rfl rfl) $$ HI; iintro HI
  iapply (word_step c xt0 b (pidx 0 22) (off_row i b hb rfl)) $$ HT; iintro HT
  iapply (assume_step c ⟨fun _ => inb_page (HP _), fun _ hinb => words_page _ hinb⟩)
  iapply (issue_step' c fh 0 g (pgs c xt0 HP b 0) 22 (by decide) rfl rfl rfl) $$ HI; iintro HI
  iapply (word_step c xt0 b (pidx 0 23) (off_row i b hb rfl)) $$ HT; iintro HT
  iapply (assume_step c ⟨fun _ => inb_page (HP _), fun _ hinb => words_page _ hinb⟩)
  iapply ret_step
  iapply Hk
  isplitl [HT]; · iexact HT
  iexact HI

theorem run_part8 (g : Buf (Elt F) (bufL c)) (arg0 : BitVec 32) (v1 : Elt F .i32) (k0_h1 : k0_cond1 v1 = 1#1) (v320 : Elt F .i32) (k0_hw24 : k0_chk24 v1 v320) (hL : LenOk v1) (hv : v320 = wd c xt0 b (pidx 0 23)) {α : Type} {k : (Σ' (v344 : Elt F .i32), k0_chk27 v1 v344) → Prog (TpuEff nD τ sig (Elt F) Λ₀ .tc) α} {Q : α → sProp 𝕄} :
    iprop(tbPt0 c tbM0_0 xt0 ∗ Iss c fh 0 g (pgs c xt0 HP b 0) 23)
      ⊢ iprop((∀ hw : k0_chk27 v1 (wd c xt0 b (pidx 0 26)), iprop(tbPt0 c tbM0_0 xt0 ∗ Iss c fh 0 g (pgs c xt0 HP b 0) 26) -∗ WP c (k ⟨wd c xt0 b (pidx 0 26), hw⟩) Q)
        -∗ WP c (k0_part8 i tbM0_0 htbM0_0 tbM0_1 htbM0_1 arg3 harg3 arg4 harg4 arg5 harg5 (Memref.whole main_arg3) (Memref.isWhole_whole _) arg7 harg7 arg8 harg8 (Memref.whole cc0_scratch0) (Memref.isWhole_whole _) cc0_scratch1 arg0 v1 k0_h1 v320 k0_hw24 >>= k) Q) := by
  subst hv
  iintro ⟨HT, HI⟩ Hk
  iapply bind_step
  rw [k0_part8_eq_skeleton]; unfold k0_part8_skel; dsimp only
  iapply (issue_step' c fh 0 g (pgs c xt0 HP b 0) 23 (by decide) rfl rfl rfl) $$ HI; iintro HI
  iapply (word_step c xt0 b (pidx 0 24) (off_row i b hb rfl)) $$ HT; iintro HT
  iapply (assume_step c ⟨fun _ => inb_page (HP _), fun _ hinb => words_page _ hinb⟩)
  iapply (issue_step' c fh 0 g (pgs c xt0 HP b 0) 24 (by decide) rfl rfl rfl) $$ HI; iintro HI
  iapply (word_step c xt0 b (pidx 0 25) (off_row i b hb rfl)) $$ HT; iintro HT
  iapply (assume_step c ⟨fun _ => inb_page (HP _), fun _ hinb => words_page _ hinb⟩)
  iapply (issue_step' c fh 0 g (pgs c xt0 HP b 0) 25 (by decide) rfl rfl rfl) $$ HI; iintro HI
  iapply (word_step c xt0 b (pidx 0 26) (off_row i b hb rfl)) $$ HT; iintro HT
  iapply (assume_step c ⟨fun _ => inb_page (HP _), fun _ hinb => words_page _ hinb⟩)
  iapply ret_step
  iapply Hk
  isplitl [HT]; · iexact HT
  iexact HI

theorem run_part9 (g : Buf (Elt F) (bufL c)) (arg0 : BitVec 32) (v1 : Elt F .i32) (k0_h1 : k0_cond1 v1 = 1#1) (v344 : Elt F .i32) (k0_hw27 : k0_chk27 v1 v344) (hL : LenOk v1) (hv : v344 = wd c xt0 b (pidx 0 26)) {α : Type} {k : (PUnit) → Prog (TpuEff nD τ sig (Elt F) Λ₀ .tc) α} {Q : α → sProp 𝕄} :
    iprop(tbPt0 c tbM0_0 xt0 ∗ Iss c fh 0 g (pgs c xt0 HP b 0) 26)
      ⊢ iprop((iprop(tbPt0 c tbM0_0 xt0 ∗ Iss c fh 0 g (pgs c xt0 HP b 0) 30) -∗ WP c (k ⟨⟩) Q)
        -∗ WP c (k0_part9 i tbM0_0 htbM0_0 tbM0_1 htbM0_1 arg3 harg3 arg4 harg4 arg5 harg5 (Memref.whole main_arg3) (Memref.isWhole_whole _) arg7 harg7 arg8 harg8 (Memref.whole cc0_scratch0) (Memref.isWhole_whole _) cc0_scratch1 arg0 v1 k0_h1 v344 k0_hw27 >>= k) Q) := by
  subst hv
  iintro ⟨HT, HI⟩ Hk
  iapply bind_step
  rw [k0_part9_eq_skeleton]; unfold k0_part9_skel; dsimp only
  iapply (issue_step' c fh 0 g (pgs c xt0 HP b 0) 26 (by decide) rfl rfl rfl) $$ HI; iintro HI
  iapply (word_step c xt0 b (pidx 0 27) (off_row i b hb rfl)) $$ HT; iintro HT
  iapply (assume_step c ⟨fun _ => inb_page (HP _), fun _ hinb => words_page _ hinb⟩)
  iapply (issue_step' c fh 0 g (pgs c xt0 HP b 0) 27 (by decide) rfl rfl rfl) $$ HI; iintro HI
  iapply (word_step c xt0 b (pidx 0 28) (off_row i b hb rfl)) $$ HT; iintro HT
  iapply (assume_step c ⟨fun _ => inb_page (HP _), fun _ hinb => words_page _ hinb⟩)
  iapply (issue_step' c fh 0 g (pgs c xt0 HP b 0) 28 (by decide) rfl rfl rfl) $$ HI; iintro HI
  iapply (word_step c xt0 b (pidx 0 29) (off_row i b hb rfl)) $$ HT; iintro HT
  iapply (assume_step c ⟨fun _ => inb_page (HP _), fun _ hinb => words_page _ hinb⟩)
  iapply (issue_step' c fh 0 g (pgs c xt0 HP b 0) 29 (by decide) rfl rfl rfl) $$ HI; iintro HI
  iapply ret_step
  iapply Hk
  isplitl [HT]; · iexact HT
  iexact HI

end

end Cert.Kernel.Gen

end
-- ==== Proof.Kernel.Opening.lean ====
/- The opening of a row: its length read, the first block's copies started, the queries and the new record loaded. -/
module

public import proofs.«01_k».proof.Proof.Kernel.Base
public import proofs.«01_k».proof.Proof.Kernel.Loads
public import proofs.«01_k».proof.Proof.Kernel.Trip
public import proofs.«01_k».proof.Proof.Kernel.First

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

variable (c : Dev nD) (i : grid0.Coords) (arg3 : Memref sig .tc .vmem S1x128x512 .bf16) (harg3 : arg3.IsWhole) (arg4 : Memref sig .tc .vmem S1x128x144 .bf16) (harg4 : arg4.IsWhole)
  (arg5 : Memref sig .tc .vmem S1x1x656 .i8) (harg5 : arg5.IsWhole) (arg7 : Memref sig .tc .vmem S1x128x512 .bf16) (harg7 : arg7.IsWhole) (arg8 : Memref sig .tc .vmem S1x128x1 .f32) (harg8 : arg8.IsWhole)
  (xt0 : TbBuf0 (F := F) c tbM0_0) (HP : ∀ x, (xt0 x).toNat < 40960) (fh : Buf (Elt F) (poolL c)) (b : Fin 32) (hb : (i 0).val = b.val)
  (xt1 : TbBuf0 (F := F) c tbM0_1) (x0 : Vec F S1x128x512 .bf16) (x1 : Vec F S1x128x144 .bf16) (x2 : Vec F S1x1x656 .i8)

-- (kept folded: a program's head is a conditional on a computed word)
attribute [local irreducible] k0_part48

theorem off_len (i : grid0.Coords) (b : Fin 32) (hb : (i 0).val = b.val) : k0_off1 i = ![b.val] := by
  show (![(BitVec.ofNat 32 (i 0).val).toNat] : Fin 1 → ℕ) = ![b.val]
  rw [grid_ofNat, hb]
theorem zero3 : (![0, 0, 0] : Fin 3 → ℕ) = fun _ => 0 := by funext a; fin_cases a <;> rfl

set_option maxHeartbeats 1000000 in
include hb in
theorem run_part48 (g : Buf (Elt F) (bufL c)) (hL : LenOk (len c xt1 b)) {α : Type}
    {k : (Σ' (arg0 : BitVec 32) (v1 : Elt F .i32) (k0_hw33 : k0_chk33 i v1) (v3 : BitVec 32) (v5 : FVec F S128x512 .bf16) (v7 : FVec F S128x144 .bf16) (v11 : FVec F S128x1 .f32) (v12 : FVec F S128x1 .f32) (v13 : FVec F S128x512 .f32) (v22 : IVec S128x32 1) (v25 : FVec F S32x512 .bf16) (v28 : IVec S32x144 32) (v32 : IVec S32x144 32) (v35 : FVec F S32x144 .f32), BitVec 32) → Prog (TpuEff nD τ sig (Elt F) Λ₀ .tc) α} {Q : α → sProp 𝕄} :
    iprop(tbPt0 c tbM0_0 xt0 ∗ tbPt0 c tbM0_1 xt1 ∗ owns (c : Thread nD τ) arg3 fullShare x0 ∗ owns (c : Thread nD τ) arg4 fullShare x1 ∗ owns (c : Thread nD τ) arg5 fullShare x2 ∗ Idle c fh 0 g)
      ⊢ iprop((∀ hw33 : k0_chk33 i (len c xt1 b), iprop(tbPt0 c tbM0_0 xt0 ∗ tbPt0 c tbM0_1 xt1 ∗ owns (c : Thread nD τ) arg3 fullShare x0 ∗ owns (c : Thread nD τ) arg4 fullShare x1 ∗ owns (c : Thread nD τ) arg5 fullShare x2 ∗ Nx c xt0 HP fh b g 0 (nblk (len c xt1 b).toNat))
          -∗ WP c (k ⟨BitVec.ofNat 32 (i 0).val, len c xt1 b, hw33, Scalar.divsi (Scalar.addi (len c xt1 b) 511#32) 512#32, k0_pay20 x0, k0_pay21 x1, k0_pay22 (F := F), k0_pay23 (F := F), k0_pay24 (F := F), k0_pay26, k0_pay27 x2,
            iota .tc S32x144 32 [1] iota_S32x144_d1_w32, k0_pay28 x2, k0_pay29 x2, 16#32⟩) Q)
        -∗ WP c (k0_part48 i tbM0_0 htbM0_0 tbM0_1 htbM0_1 arg3 harg3 arg4 harg4 arg5 harg5 (Memref.whole main_arg3) (Memref.isWhole_whole _) arg7 harg7 arg8 harg8 (Memref.whole cc0_scratch0) (Memref.isWhole_whole _) cc0_scratch1 >>= k) Q) := by
  rw [k0_part48_eq_skeleton]; unfold k0_part48_skel Nx; dsimp only
  iintro ⟨HT, HT1, H3, H4, H5, HI⟩ Hk
  iapply (bind_step c)
  iapply (len_step c xt1 b (off_len i b hb)) $$ HT1; iintro HT1
  iapply (assume_step c (chk33 i _ hL))
  iapply (load_full c arg3 x0 zero3) $$ H3; iintro H3
  iapply (load_full c arg4 x1 zero3) $$ H4; iintro H4
  rcases Nat.lt_or_ge 0 (nblk (len c xt1 b).toNat) with hlt | hge
  · have h1 : k0_cond1 (len c xt1 b) = 1#1 := (cond1_iff _ hL).mpr hlt
    rw [dif_pos h1, if_pos hlt]
    imod (idle_start c fh 0 g (pgs c xt0 HP b 0)) $$ HI with HI
    iapply (run_part1 c i arg3 harg3 arg4 harg4 arg5 harg5 arg7 harg7 arg8 harg8 xt0 HP fh b hb g (BitVec.ofNat 32 (i 0).val) (len c xt1 b) h1 hL) $$ [HT HI]
    · isplitl [HT] <;> iassumption
    iintro %hw ⟨HT, HI⟩
    try dsimp only
    iapply (run_part2 c i arg3 harg3 arg4 harg4 arg5 harg5 arg7 harg7 arg8 harg8 xt0 HP fh b hb g (BitVec.ofNat 32 (i 0).val) (len c xt1 b) h1 (wd c xt0 b (pidx 0 3)) hw hL rfl) $$ [HT HI]
    · isplitl [HT] <;> iassumption
    iintro %hw ⟨HT, HI⟩
    try dsimp only
    iapply (run_part3 c i arg3 harg3 arg4 harg4 arg5 harg5 arg7 harg7 arg8 harg8 xt0 HP fh b hb g (BitVec.ofNat 32 (i 0).val) (len c xt1 b) h1 (wd c xt0 b (pidx 0 6)) hw hL rfl) $$ [HT HI]
    · isplitl [HT] <;> iassumption
    iintro ⟨HT, HI⟩
    try dsimp only
    iapply (run_part4 c i arg3 harg3 arg4 harg4 arg5 harg5 arg7 harg7 arg8 harg8 xt0 HP fh b hb g (BitVec.ofNat 32 (i 0).val) (len c xt1 b) h1 hL) $$ [HT HI]
    · isplitl [HT] <;> iassumption
    iintro %hw ⟨HT, HI⟩
    try dsimp only
    iapply (run_part5 c i arg3 harg3 arg4 harg4 arg5 harg5 arg7 harg7 arg8 harg8 xt0 HP fh b hb g (BitVec.ofNat 32 (i 0).val) (len c xt1 b) h1 (wd c xt0 b (pidx 0 13)) hw hL rfl) $$ [HT HI]
    · isplitl [HT] <;> iassumption
    iintro %hw ⟨HT, HI⟩
    try dsimp only
    iapply (run_part6 c i arg3 harg3 arg4 harg4 arg5 harg5 arg7 harg7 arg8 harg8 xt0 HP fh b hb g (BitVec.ofNat 32 (i 0).val) (len c xt1 b) h1 (wd c xt0 b (pidx 0 16)) hw hL rfl) $$ [HT HI]
    · isplitl [HT] <;> iassumption
    iintro ⟨HT, HI⟩
    try dsimp only
    iapply (run_part7 c i arg3 harg3 arg4 harg4 arg5 harg5 arg7 harg7 arg8 harg8 xt0 HP fh b hb g (BitVec.ofNat 32 (i 0).val) (len c xt1 b) h1 hL) $$ [HT HI]
    · isplitl [HT] <;> iassumption
    iintro %hw ⟨HT, HI⟩
    try dsimp only
    iapply (run_part8 c i arg3 harg3 arg4 harg4 arg5 harg5 arg7 harg7 arg8 harg8 xt0 HP fh b hb g (BitVec.ofNat 32 (i 0).val) (len c xt1 b) h1 (wd c xt0 b (pidx 0 23)) hw hL rfl) $$ [HT HI]
    · isplitl [HT] <;> iassumption
    iintro %hw ⟨HT, HI⟩
    try dsimp only
    iapply (run_part9 c i arg3 harg3 arg4 harg4 arg5 harg5 arg7 harg7 arg8 harg8 xt0 HP fh b hb g (BitVec.ofNat 32 (i 0).val) (len c xt1 b) h1 (wd c xt0 b (pidx 0 26)) hw hL rfl) $$ [HT HI]
    · isplitl [HT] <;> iassumption
    iintro ⟨HT, HI⟩
    try dsimp only
    iapply (word_step c xt0 b (pidx 0 30) (off_row i b hb rfl)) $$ HT; iintro HT
    iapply (assume_step c ⟨fun _ => inb_page (HP _), fun _ hinb => words_page _ hinb⟩)
    iapply (issue_step' c fh 0 g (pgs c xt0 HP b 0) 30 (by decide) rfl rfl rfl) $$ HI; iintro HI
    iapply (word_step c xt0 b (pidx 0 31) (off_row i b hb rfl)) $$ HT; iintro HT
    iapply (assume_step c ⟨fun _ => inb_page (HP _), fun _ hinb => words_page _ hinb⟩)
    iapply (issue_step' c fh 0 g (pgs c xt0 HP b 0) 31 (by decide) rfl rfl rfl) $$ HI; iintro HI
    iapply (load_full c arg5 x2 zero3) $$ H5; iintro H5
    iapply (ret_step c)
    iapply Hk
    isplitl [HT]; · iexact HT
    isplitl [HT1]; · iexact HT1
    isplitl [H3]; · iexact H3
    isplitl [H4]; · iexact H4
    isplitl [H5]; · iexact H5
    iapply (iss_full c fh 0 g (pgs c xt0 HP b 0)) $$ HI
  · have h1 : ¬ k0_cond1 (len c xt1 b) = 1#1 := fun h => absurd ((cond1_iff _ hL).mp h) (Nat.not_lt.mpr hge)
    rw [dif_neg h1, if_neg (Nat.not_lt.mpr hge)]
    iapply (load_full c arg5 x2 zero3) $$ H5; iintro H5
    iapply (ret_step c)
    iapply Hk
    isplitl [HT]; · iexact HT
    isplitl [HT1]; · iexact HT1
    isplitl [H3]; · iexact H3
    isplitl [H4]; · iexact H4
    isplitl [H5]; · iexact H5
    iexact HI

end Cert.Kernel.Gen

end
-- ==== Proof.Kernel.Split.lean ====
/- The double buffer and the pool, held whole, against the same split over the two halves' copies. -/
module

public import proofs.«01_k».proof.Proof.Kernel.Base
public import proofs.«01_k».proof.Proof.Kernel.Steps

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

/-- The elements of half `s`. -/
def halfSet (s : Fin 2) : Finset S2x32x16x656.Idx := (Finset.univ : Finset (Fin 32)).biUnion (slotSet s)

theorem slots_disjoint (s : Fin 2) : ∀ t ∈ (Finset.univ : Finset (Fin 32)), ∀ t' ∈ (Finset.univ : Finset (Fin 32)), t ≠ t' → Disjoint (slotSet s t) (slotSet s t') := by
  intro t _ t' _ hne
  rw [Finset.disjoint_left]
  intro i hi hi'
  simp only [slotSet, Finset.mem_filter, Finset.mem_univ, _root_.true_and] at hi hi'
  exact hne (Fin.ext (hi.2.symm.trans hi'.2))

theorem mem_halfSet (s : Fin 2) (i : S2x32x16x656.Idx) : i ∈ halfSet s ↔ (i 0).val = s.val := by
  simp only [halfSet, slotSet, Finset.mem_biUnion, Finset.mem_filter, Finset.mem_univ, _root_.true_and]
  constructor
  · rintro ⟨n, h, -⟩; exact h
  · intro h; exact ⟨i 1, h, rfl⟩

theorem halves_disjoint : Disjoint (halfSet 0) (halfSet 1) := by
  rw [Finset.disjoint_left]
  intro i h0 h1
  rw [mem_halfSet] at h0 h1
  rw [h0] at h1; exact absurd h1 (by decide)

theorem halves_univ : (Finset.univ : Finset S2x32x16x656.Idx) = halfSet 0 ∪ halfSet 1 := by
  ext i
  have h : ((i 0 : Fin 2)).val < 2 := (i 0).isLt
  simp only [Finset.mem_univ, Finset.mem_union, mem_halfSet, true_iff]
  show (i 0).val = 0 ∨ (i 0).val = 1
  omega

/-- An idle half, its slots gathered and its shares of the pool gathered. -/
theorem idle_eq (c : Dev nD) (fh : Buf (Elt F) (poolL c)) (s : Fin 2) (g : Buf (Elt F) (bufL c)) :
    Idle c fh s g = iprop(semVal ((c : Thread nD τ), SemLoc.dma (cellS s)) 0 ∗ (bufL c ↦[halfSet s]{fullShare} g) ∗ bigSep Finset.univ (fun n => (poolL c ↦{tk s n} fh))) := by
  unfold Idle halfSet
  have e : (bigSep Finset.univ (free1 c fh s g) : sProp 𝕄)
      = iprop((bufL c ↦[(Finset.univ : Finset (Fin 32)).biUnion (slotSet s)]{fullShare} g) ∗ bigSep Finset.univ (fun n => (poolL c ↦{tk s n} fh))) := by
    rw [pointsTo_biUnion (ℓ := bufL c) _ _ (slots_disjoint s)]
    exact BI.bigSep_sep Finset.univ _ _
  rw [e]

/-- The tokens of the pool, half by half. -/
theorem toks_eq (c : Dev nD) (fh : Buf (Elt F) (poolL c)) :
    (bigSep (Finset.range 64) (fun i => (poolL c ↦[Finset.univ]{Transfers.shareTokN fullShare i} fh)) : sProp 𝕄)
      = iprop(bigSep Finset.univ (fun n => (poolL c ↦{tk 0 n} fh)) ∗ bigSep Finset.univ (fun n => (poolL c ↦{tk 1 n} fh))) := by
  have e0 : (Finset.univ : Finset (Fin 32)).map ⟨fun n => 32 * (0 : Fin 2).val + n.val, fun a b h => Fin.ext (by simpa using h)⟩ = Finset.range 32 := by decide
  have e1 : (Finset.univ : Finset (Fin 32)).map ⟨fun n => 32 * (1 : Fin 2).val + n.val, fun a b h => Fin.ext (by simpa using h)⟩ = (Finset.range 64).filter (fun i => 32 ≤ i) := by decide
  have e2 : Finset.range 64 = Finset.range 32 ∪ (Finset.range 64).filter (fun i => 32 ≤ i) := by decide
  rw [e2, bigSep_union (by decide), ← e0, ← e1, bigSep_map, bigSep_map]
  rfl

theorem rows_split (c : Dev nD) (fh : Buf (Elt F) (poolL c)) (g : Buf (Elt F) (bufL c)) :
    iprop((bufL c ↦{fullShare} g) ∗ (poolL c ↦{fullShare} fh) ∗ semVal ((c : Thread nD τ), SemLoc.dma 10) 0 ∗ semVal ((c : Thread nD τ), SemLoc.dma 11) 0)
      ⊢ iprop(Idle c fh 0 g ∗ Idle c fh 1 g ∗ (poolL c ↦{Transfers.shareDrop fullShare 64} fh)) := by
  rw [idle_eq, idle_eq, cellS_zero, cellS_one]
  have hb : (bufL c ↦{fullShare} g : sProp 𝕄) ⊢ iprop((bufL c ↦[halfSet 0]{fullShare} g) ∗ (bufL c ↦[halfSet 1]{fullShare} g)) := by
    have : (bufL c ↦[halfSet 0 ∪ halfSet 1]{fullShare} g : sProp 𝕄) ⊢ iprop((bufL c ↦[halfSet 0]{fullShare} g) ∗ (bufL c ↦[halfSet 1]{fullShare} g)) := (pointsTo_union halves_disjoint).1
    rw [← halves_univ] at this
    exact this
  have hp : (poolL c ↦{fullShare} fh : sProp 𝕄) ⊢ iprop((poolL c ↦[Finset.univ]{Transfers.shareDrop fullShare 64} fh) ∗ bigSep (Finset.range 64) (fun i => (poolL c ↦[Finset.univ]{Transfers.shareTokN fullShare i} fh))) := (Transfers.pointsTo_toks_range (ℓ := poolL c) (S := Finset.univ) (f := fh) fullShare 64).1
  rw [toks_eq] at hp
  iintro ⟨Hb, Hp, Hs0, Hs1⟩
  ihave ⟨Hb0, Hb1⟩ := hb $$ Hb
  ihave ⟨Hr, Ht0, Ht1⟩ := hp $$ Hp
  isplitl [Hs0 Hb0 Ht0]
  · isplitl [Hs0]; · iexact Hs0
    isplitl [Hb0] <;> iassumption
  isplitl [Hs1 Hb1 Ht1]
  · isplitl [Hs1]; · iexact Hs1
    isplitl [Hb1] <;> iassumption
  iexact Hr

theorem rows_join (c : Dev nD) (fh : Buf (Elt F) (poolL c)) (g0 g1 : Buf (Elt F) (bufL c)) :
    iprop(Idle c fh 0 g0 ∗ Idle c fh 1 g1 ∗ (poolL c ↦{Transfers.shareDrop fullShare 64} fh))
      ⊢ iprop((∃ g, bufL c ↦{fullShare} g) ∗ (poolL c ↦{fullShare} fh) ∗ semVal ((c : Thread nD τ), SemLoc.dma 10) 0 ∗ semVal ((c : Thread nD τ), SemLoc.dma 11) 0) := by
  rw [idle_eq, idle_eq, cellS_zero, cellS_one]
  have hb : iprop((bufL c ↦[halfSet 0]{fullShare} g0) ∗ (bufL c ↦[halfSet 1]{fullShare} g1)) ⊢ (bufL c ↦{fullShare} ((halfSet 1).piecewise g1 g0) : sProp 𝕄) := by
    have : iprop((bufL c ↦[halfSet 0]{fullShare} g0) ∗ (bufL c ↦[halfSet 1]{fullShare} g1)) ⊢ (bufL c ↦[halfSet 0 ∪ halfSet 1]{fullShare} ((halfSet 1).piecewise g1 g0) : sProp 𝕄) := pointsTo_join halves_disjoint
    rw [← halves_univ] at this
    exact this
  have hp : iprop((poolL c ↦[Finset.univ]{Transfers.shareDrop fullShare 64} fh) ∗ bigSep (Finset.range 64) (fun i => (poolL c ↦[Finset.univ]{Transfers.shareTokN fullShare i} fh))) ⊢ (poolL c ↦{fullShare} fh : sProp 𝕄) := (Transfers.pointsTo_toks_range (ℓ := poolL c) (S := Finset.univ) (f := fh) fullShare 64).2
  rw [toks_eq] at hp
  iintro ⟨⟨Hs0, Hb0, Ht0⟩, ⟨Hs1, Hb1, Ht1⟩, Hr⟩
  isplitl [Hb0 Hb1]
  · iexists _
    iapply hb
    isplitl [Hb0] <;> iassumption
  isplitl [Hr Ht0 Ht1]
  · iapply hp
    isplitl [Hr]; · iexact Hr
    isplitl [Ht0] <;> iassumption
  isplitl [Hs0] <;> iassumption

end Cert.Kernel.Gen

end
-- ==== Proof.Kernel.Row.lean ====
/- A row: its opening, its loop over blocks, its two results stored. -/
module

public import proofs.«01_k».proof.Proof.Kernel.Base
public import proofs.«01_k».proof.Proof.Kernel.Opening
public import proofs.«01_k».proof.Proof.Kernel.Split

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

variable (c : Dev nD) (i : grid0.Coords) (arg3 : Memref sig .tc .vmem S1x128x512 .bf16) (harg3 : arg3.IsWhole) (arg4 : Memref sig .tc .vmem S1x128x144 .bf16) (harg4 : arg4.IsWhole)
  (arg5 : Memref sig .tc .vmem S1x1x656 .i8) (harg5 : arg5.IsWhole) (arg7 : Memref sig .tc .vmem S1x128x512 .bf16) (harg7 : arg7.IsWhole) (arg8 : Memref sig .tc .vmem S1x128x1 .f32) (harg8 : arg8.IsWhole)
  (xt0 : TbBuf0 (F := F) c tbM0_0) (HP : ∀ x, (xt0 x).toNat < 40960) (fh : Buf (Elt F) (poolL c)) (b : Fin 32) (hb : (i 0).val = b.val)
  (xt1 : TbBuf0 (F := F) c tbM0_1) (x0 : Vec F S1x128x512 .bf16) (x1 : Vec F S1x128x144 .bf16) (x2 : Vec F S1x1x656 .i8)

/-- The running maximum, sum and output after the row's own new record. -/
def rowInit (x0 : Vec F S1x128x512 .bf16) (x1 : Vec F S1x128x144 .bf16) (x2 : Vec F S1x1x656 .i8) : FVec F S128x1 .f32 × FVec F S128x1 .f32 × FVec F S128x512 .f32 :=
  let v59 := k0_pay30 (iota .tc S32x144 32 [1] iota_S32x144_d1_w32) (k0_pay29 x2) 16#32
  let v85 := k0_pay31 (k0_pay27 x2) (k0_pay28 x2)
  (k0_pay33 (k0_pay20 x0) (k0_pay21 x1) (k0_pay22 (F := F)) k0_pay26 v59 v85,
   k0_pay36 (k0_pay20 x0) (k0_pay21 x1) (k0_pay22 (F := F)) (k0_pay23 (F := F)) k0_pay26 v59 v85,
   k0_pay37 (k0_pay20 x0) (k0_pay21 x1) (k0_pay22 (F := F)) (k0_pay24 (F := F)) k0_pay26 v59 v85)

/-- The running maximum, sum and output after `t` blocks, of a row of length `v1` whose blocks are `blk`. -/
def rowSt (v1 : BitVec 32) (x0 : Vec F S1x128x512 .bf16) (x1 : Vec F S1x128x144 .bf16) (x2 : Vec F S1x1x656 .i8) (blk : ℕ → Vec F S1x32x16x656 .i8) :
    ℕ → FVec F S128x1 .f32 × FVec F S128x1 .f32 × FVec F S128x512 .f32
  | 0 => rowInit x0 x1 x2
  | t + 1 => tripVal v1 (k0_pay20 x0) (k0_pay21 x1) t (blk t) (rowSt v1 x0 x1 x2 blk t)

/-- The row's first result. -/
def rowOut (v1 : BitVec 32) (x0 : Vec F S1x128x512 .bf16) (x1 : Vec F S1x128x144 .bf16) (x2 : Vec F S1x1x656 .i8) (blk : ℕ → Vec F S1x32x16x656 .i8) : Vec F S1x128x512 .bf16 :=
  k0_pay50 (rowSt v1 x0 x1 x2 blk (nblk v1.toNat)).2.1 (rowSt v1 x0 x1 x2 blk (nblk v1.toNat)).2.2
/-- The row's second result. -/
def rowLse (v1 : BitVec 32) (x0 : Vec F S1x128x512 .bf16) (x1 : Vec F S1x128x144 .bf16) (x2 : Vec F S1x1x656 .i8) (blk : ℕ → Vec F S1x32x16x656 .i8) : Vec F S1x128x1 .f32 :=
  k0_pay1 (k0_pay51 (rowSt v1 x0 x1 x2 blk (nblk v1.toNat)).1 (rowSt v1 x0 x1 x2 blk (nblk v1.toNat)).2.1) (k0_pay52 v1)

/-- The blocks of row `b`. -/
def rowBlk (c : Dev nD) (xt0 : TbBuf0 (F := F) c tbM0_0) (HP : ∀ x, (xt0 x).toNat < 40960) (fh : Buf (Elt F) (poolL c)) (b : Fin 32) (k : ℕ) : Vec F S1x32x16x656 .i8 :=
  block c (pgs c xt0 HP b k) fh

/-- Before trip `k`: what is carried is the running triple; block `k`'s copies are under way; the other half is idle. -/
def LInv (v1 : BitVec 32) (k : ℕ) (s : FVec F S128x1 .f32 × FVec F S128x1 .f32 × FVec F S128x512 .f32) : sProp 𝕄 :=
  iprop(⌜s = rowSt v1 x0 x1 x2 (rowBlk c xt0 HP fh b) k⌝ ∗ tbPt0 c tbM0_0 xt0 ∗ (∃ g, Nx c xt0 HP fh b g k (nblk v1.toNat)) ∗ (∃ g, Idle c fh (half (k + 1)) g) ∗ Ow c)

theorem half_two (k : ℕ) : half (k + 2) = half k := Fin.ext (by show (k + 2) % 2 = k % 2; omega)

-- (kept folded: a program's head is a conditional on a computed word)
attribute [local irreducible] k0_t1_body k0_part48 k0_part50

include hb in
theorem run_loop_step (arg0 : BitVec 32) (v1 : Elt F .i32) (k0_hw33 : k0_chk33 i v1) (v3 : BitVec 32) (v11 : FVec F S128x1 .f32) (v12 : FVec F S128x1 .f32) (v13 : FVec F S128x512 .f32) (v22 : IVec S128x32 1) (v59 : FVec F S32x144 .bf16) (v85 : FVec F S32x512 .bf16)
    (hL : LenOk v1) (t : Fin (k0_t1_loop v1).trips) (s : FVec F S128x1 .f32 × FVec F S128x1 .f32 × FVec F S128x512 .f32) :
    LInv c xt0 HP fh b x0 x1 x2 v1 t s ⊢ WP c (k0_t1_body i tbM0_0 htbM0_0 tbM0_1 htbM0_1 arg3 harg3 arg4 harg4 arg5 harg5 (Memref.whole main_arg3) (Memref.isWhole_whole _) arg7 harg7 arg8 harg8 (Memref.whole cc0_scratch0) (Memref.isWhole_whole _) cc0_scratch1 arg0 v1 k0_hw33 v3 (k0_pay20 x0) (k0_pay21 x1) v11 v12 v13 v22 v59 v85 t s) (LInv c xt0 HP fh b x0 x1 x2 v1 (t.val + 1)) := by
  have hlt : t.val < nblk v1.toNat := t1_trips v1 hL ▸ t.isLt
  have eN : ∀ g, Nx c xt0 HP fh b g t.val (nblk v1.toNat) = Wt c fh (half t.val) (pgs c xt0 HP b t.val) 0 := fun g => by unfold Nx; rw [if_pos hlt]
  unfold LInv
  simp only [eN]
  iintro ⟨%hs, HT, ⟨%g0, HN⟩, ⟨%g, HI⟩, HO⟩
  iapply (run_trip c i arg3 harg3 arg4 harg4 arg5 harg5 arg7 harg7 arg8 harg8 xt0 HP fh b hb g arg0 v1 k0_hw33 v3 (k0_pay20 x0) (k0_pay21 x1) v11 v12 v13 v22 v59 v85 t s hL) $$ [HT HN HI HO]
  · isplitl [HT]; · iexact HT
    isplitl [HI]; · iexact HI
    isplitl [HN] <;> iassumption
  iintro ⟨HT, HN, HI, HO⟩
  isplitr
  · ipureintro; subst hs; rfl
  isplitl [HT]; · iexact HT
  isplitl [HN]; · iexists g; iexact HN
  isplitl [HI]
  · iexists _; rw [half_two]; iexact HI
  iexact HO

set_option maxHeartbeats 1000000 in
include hb in
/-- A row's body, from its operands' buffers to its two results'. -/
theorem run_row (hL : LenOk (len c xt1 b)) (g : Buf (Elt F) (bufL c)) (y0 : Vec F S1x128x512 .bf16) (y1 : Vec F S1x128x1 .f32) {Q : PUnit → sProp 𝕄} :
    iprop(tbPt0 c tbM0_0 xt0 ∗ tbPt0 c tbM0_1 xt1 ∗ owns (c : Thread nD τ) arg3 fullShare x0 ∗ owns (c : Thread nD τ) arg4 fullShare x1 ∗ owns (c : Thread nD τ) arg5 fullShare x2
        ∗ owns (c : Thread nD τ) arg7 fullShare y0 ∗ owns (c : Thread nD τ) arg8 fullShare y1 ∗ Idle c fh 0 g ∗ Idle c fh 1 g ∗ Ow c)
      ⊢ iprop((iprop(tbPt0 c tbM0_0 xt0 ∗ tbPt0 c tbM0_1 xt1 ∗ owns (c : Thread nD τ) arg3 fullShare x0 ∗ owns (c : Thread nD τ) arg4 fullShare x1 ∗ owns (c : Thread nD τ) arg5 fullShare x2
            ∗ owns (c : Thread nD τ) arg7 fullShare (rowOut (len c xt1 b) x0 x1 x2 (rowBlk c xt0 HP fh b)) ∗ owns (c : Thread nD τ) arg8 fullShare (rowLse (len c xt1 b) x0 x1 x2 (rowBlk c xt0 HP fh b))
            ∗ (∃ g, Idle c fh 0 g) ∗ (∃ g, Idle c fh 1 g) ∗ Ow c) -∗ Q ⟨⟩)
        -∗ WP c (cc0_mla i tbM0_0 htbM0_0 tbM0_1 htbM0_1 arg3 harg3 arg4 harg4 arg5 harg5 (Memref.whole main_arg3) (Memref.isWhole_whole _) arg7 harg7 arg8 harg8 (Memref.whole cc0_scratch0) (Memref.isWhole_whole _) cc0_scratch1) Q) := by
  rw [cc0_mla_eq_skeleton]; unfold cc0_mla_skel; try dsimp only
  iintro ⟨HT, HT1, H3, H4, H5, H7, H8, HI0, HI1, HO⟩ Hk
  iapply (run_part48 c i arg3 harg3 arg4 harg4 arg5 harg5 arg7 harg7 arg8 harg8 xt0 HP fh b hb xt1 x0 x1 x2 g hL) $$ [HT HT1 H3 H4 H5 HI0]
  · isplitl [HT]; · iexact HT
    isplitl [HT1]; · iexact HT1
    isplitl [H3]; · iexact H3
    isplitl [H4]; · iexact H4
    isplitl [H5] <;> iassumption
  iintro %hw33 ⟨HT, HT1, H3, H4, H5, HN⟩
  try dsimp only
  rw [k0_part49_eq_skeleton]; unfold k0_part49_skel; try dsimp only
  iapply (bind_step c)
  iapply (ret_step c)
  try dsimp only
  rw [k0_part50_eq_skeleton]; unfold k0_part50_skel; try dsimp only
  iapply (bind_step c)
  iapply (Scf.wp_for_bind frame (wpE (defs₀ (F := F)) Variants.none (c : Thread nD τ) none) Set.univ _ _ _ _ _ _ (LInv c xt0 HP fh b x0 x1 x2 (len c xt1 b))
    (fun t s => run_loop_step c i arg3 harg3 arg4 harg4 arg5 harg5 arg7 harg7 arg8 harg8 xt0 HP fh b hb x0 x1 x2 _ _ _ _ _ _ _ _ _ _ hL t s)) $$ [HT HN HI1 HO]
  · unfold LInv
    isplitr; · ipureintro; rfl
    isplitl [HT]; · iexact HT
    isplitl [HN]; · iexists g; iexact HN
    isplitl [HI1]; · iexists g; iexact HI1
    iexact HO
  iintro %s1 HV
  iapply (Scf.wp_for_bind frame (wpE (defs₀ (F := F)) Variants.none (c : Thread nD τ) none) Set.univ _ _ _ _ _ _ (fun _ s => iprop(⌜s = s1⌝))
    (fun t s => (t2_false _ t).elim)) $$ []
  · ipureintro; rfl
  iintro %s2 %hs2
  subst hs2
  have et : Scf.trips (k0_t1_loop (len c xt1 b)).lb (k0_t1_loop (len c xt1 b)).ub (k0_t1_loop (len c xt1 b)).st = nblk (len c xt1 b).toNat := t1_trips _ hL
  rw [et]
  have eN : ∀ g, Nx c xt0 HP fh b g (nblk (len c xt1 b).toNat) (nblk (len c xt1 b).toNat) = Idle c fh (half (nblk (len c xt1 b).toNat)) g := fun g => by unfold Nx; rw [if_neg (Nat.lt_irrefl _)]
  unfold LInv
  simp only [eN]
  icases HV with ⟨%hs, HT, ⟨%g0, HA⟩, ⟨%g1, HB⟩, HO⟩
  subst hs
  iapply (load_full c arg7 y0 zero3) $$ H7; iintro H7
  iapply (store_full c arg7 y0 (rowOut (len c xt1 b) x0 x1 x2 (rowBlk c xt0 HP fh b)) zero3) $$ H7; iintro H7
  iapply (ret_step c)
  try dsimp only
  iapply (load_full c arg8 y1 zero3) $$ H8; iintro H8
  iapply (store_full c arg8 y1 (rowLse (len c xt1 b) x0 x1 x2 (rowBlk c xt0 HP fh b)) zero3) $$ H8; iintro H8
  iapply (ret_step c)
  iapply Hk
  isplitl [HT]; · iexact HT
  isplitl [HT1]; · iexact HT1
  isplitl [H3]; · iexact H3
  isplitl [H4]; · iexact H4
  isplitl [H5]; · iexact H5
  isplitl [H7]; · iexact H7
  isplitl [H8]; · iexact H8
  have hh : (half (nblk (len c xt1 b).toNat) = 0 ∧ half (nblk (len c xt1 b).toNat + 1) = 1) ∨ (half (nblk (len c xt1 b).toNat) = 1 ∧ half (nblk (len c xt1 b).toNat + 1) = 0) := by
    rcases Nat.mod_two_eq_zero_or_one (nblk (len c xt1 b).toNat) with h | h
    · left; constructor <;> apply Fin.ext
      · exact h
      · show (_ + 1) % 2 = 1; omega
    · right; constructor <;> apply Fin.ext
      · exact h
      · show (_ + 1) % 2 = 0; omega
  rcases hh with ⟨h0, h1⟩ | ⟨h0, h1⟩
  · rw [h0, h1]
    isplitl [HA]; · iexists _; iexact HA
    isplitl [HB]; · iexists _; iexact HB
    iexact HO
  · rw [h0, h1]
    isplitl [HB]; · iexists _; iexact HB
    isplitl [HA]; · iexists _; iexact HA
    iexact HO

end Cert.Kernel.Gen

end
-- ==== Proof.Kernel.Run.lean ====
/- The body's triple: a row, with the scratch buffer and the pool split between its two halves and put back. -/
module

public import proofs.«01_k».proof.Proof.Kernel.Base
public import proofs.«01_k».proof.Proof.Kernel.Row

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

/-- The grid point's row of the batch. -/
def rowIx (i : grid0.Coords) : Fin 32 := ⟨(i 0).val, (i 0).isLt⟩

attribute [local irreducible] cc0_mla

/-- The body's triple on whole staging memrefs: the inputs kept, the two outputs at the row's values, scratch, tables,
    counters and the pool handed back. -/
theorem kernelRun0 (c : Dev nD) (i : grid0.Coords)
    (arg3 : Memref sig .tc .vmem S1x128x512 .bf16) (harg3 : arg3.IsWhole) (arg4 : Memref sig .tc .vmem S1x128x144 .bf16) (harg4 : arg4.IsWhole)
    (arg5 : Memref sig .tc .vmem S1x1x656 .i8) (harg5 : arg5.IsWhole) (arg7 : Memref sig .tc .vmem S1x128x512 .bf16) (harg7 : arg7.IsWhole) (arg8 : Memref sig .tc .vmem S1x128x1 .f32) (harg8 : arg8.IsWhole)
    (x0 : Vec F S1x128x512 .bf16) (x1 : Vec F S1x128x144 .bf16) (x2 : Vec F S1x1x656 .i8)
    (xt0 : TbBuf0 (F := F) c tbM0_0) (xt1 : TbBuf0 (F := F) c tbM0_1) (fh : HbBuf0 (F := F) c hbM0_0)
    (HP : ∀ x, (xt0 x).toNat < 40960) (hL : LenOk (len c xt1 (rowIx i))) (W : _) (K : PUnit → sProp 𝕄) :
    iprop(owns (c : Thread nD τ) arg3 fullShare x0 ∗ owns (c : Thread nD τ) arg4 fullShare x1 ∗ owns (c : Thread nD τ) arg5 fullShare x2
      ∗ (∃ d, owns (c : Thread nD τ) arg7 fullShare d) ∗ (∃ d, owns (c : Thread nD τ) arg8 fullShare d) ∗ (∃ d, owns (c : Thread nD τ) scM0_0 fullShare d)
      ∗ tbPt0 c tbM0_0 xt0 ∗ tbPt0 c tbM0_1 xt1 ∗ semVal ((c : Thread nD τ), SemLoc.dma 10) 0 ∗ semVal ((c : Thread nD τ), SemLoc.dma 11) 0
      ∗ hbPt0 c hbM0_0 fh ∗ owes (c : Thread nD τ) 0 W
      ∗ (iprop(owns (c : Thread nD τ) arg3 fullShare x0 ∗ owns (c : Thread nD τ) arg4 fullShare x1 ∗ owns (c : Thread nD τ) arg5 fullShare x2
          ∗ owns (c : Thread nD τ) arg7 fullShare (rowOut (len c xt1 (rowIx i)) x0 x1 x2 (rowBlk c xt0 HP fh (rowIx i)))
          ∗ owns (c : Thread nD τ) arg8 fullShare (rowLse (len c xt1 (rowIx i)) x0 x1 x2 (rowBlk c xt0 HP fh (rowIx i)))
          ∗ (∃ d, owns (c : Thread nD τ) scM0_0 fullShare d)
          ∗ tbPt0 c tbM0_0 xt0 ∗ tbPt0 c tbM0_1 xt1 ∗ semVal ((c : Thread nD τ), SemLoc.dma 10) 0 ∗ semVal ((c : Thread nD τ), SemLoc.dma 11) 0
          ∗ hbPt0 c hbM0_0 fh ∗ (∃ W', owes (c : Thread nD τ) 0 W')) -∗ K ⟨⟩))
    ⊢ wp frame (wpE (defs₀ (F := F)) Variants.none c none) Set.univ (cc0_mla i tbM0_0 htbM0_0 tbM0_1 htbM0_1 arg3 harg3 arg4 harg4 arg5 harg5 hbM0_0 (Memref.isWhole_whole _) arg7 harg7 arg8 harg8 scM0_0 (Memref.isWhole_whole _) cc0_scratch1) K := by
  have hs : ∀ d, (owns (c : Thread nD τ) scM0_0 fullShare d : sProp 𝕄) = iprop(bufL c ↦{fullShare} d) := fun d => by
    simp only [scM0_0, owns_whole]
  have eO : (Ow c : sProp 𝕄) = iprop(∃ W', owes (c : Thread nD τ) 0 W') := rfl
  have R := fun y0 y1 g => run_row c i arg3 harg3 arg4 harg4 arg5 harg5 arg7 harg7 arg8 harg8 xt0 HP fh (rowIx i) rfl xt1 x0 x1 x2 hL g y0 y1 (Q := K)
  simp only [eO] at R
  simp only [hs]
  iintro ⟨H0, H1, H2, ⟨%y0, H3⟩, ⟨%y1, H4⟩, ⟨%g, HS⟩, HT0, HT1, Hq0, Hq1, Hh, HW, Hk⟩
  ihave HX := (rows_split c fh g) $$ [HS Hh Hq0 Hq1]
  · isplitl [HS]; · iexact HS
    isplitl [Hh]; · iexact Hh
    isplitl [Hq0] <;> iassumption
  icases HX with ⟨HI0, HI1, HR⟩
  iapply (R y0 y1 g) $$ [HT0 HT1 H0 H1 H2 H3 H4 HI0 HI1 HW]
  · isplitl [HT0]; · iexact HT0
    isplitl [HT1]; · iexact HT1
    isplitl [H0]; · iexact H0
    isplitl [H1]; · iexact H1
    isplitl [H2]; · iexact H2
    isplitl [H3]; · iexact H3
    isplitl [H4]; · iexact H4
    isplitl [HI0]; · iexact HI0
    isplitl [HI1]; · iexact HI1
    iexists W; iexact HW
  iintro ⟨HT0, HT1, H0, H1, H2, H3, H4, ⟨%g0, HI0⟩, ⟨%g1, HI1⟩, HO⟩
  ihave HX := (rows_join c fh g0 g1) $$ [HI0 HI1 HR]
  · isplitl [HI0]; · iexact HI0
    isplitl [HI1] <;> iassumption
  icases HX with ⟨HS, Hh, Hq0, Hq1⟩
  iapply Hk
  isplitl [H0]; · iexact H0
  isplitl [H1]; · iexact H1
  isplitl [H2]; · iexact H2
  isplitl [H3]; · iexact H3
  isplitl [H4]; · iexact H4
  isplitl [HS]; · iexact HS
  isplitl [HT0]; · iexact HT0
  isplitl [HT1]; · iexact HT1
  isplitl [Hq0]; · iexact Hq0
  isplitl [Hq1]; · iexact Hq1
  isplitl [Hh]; · iexact Hh
  iexact HO

end Cert.Kernel.Gen

end
-- ==== Proof.Kernel.Frame.lean ====
/- The pipeline's run: the proof data, the body obligation, the frame. -/
module

public import proofs.«01_k».proof.Proof.Kernel.Base
public import proofs.«01_k».proof.Proof.Kernel.Run
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What the proof asks of the two tables: the page words index the pool, the lengths are at most the page table's reach. -/
structure TblOk : Prop where
  pages : ∀ x, ((tbl m 0 : TbBuf0 (F := F) (default : Dev nD) tbM0_0) x).toNat < 40960
  lens : ∀ b : Fin 32, LenOk (len (default : Dev nD) (tbl m 1) b)

/-! ## The pipeline's proof data -/

/-- The attention output of grid point `t`, -/
def outv (hO : Ok m) (hB : TblOk m) (c : Dev nD) (t : Fin (cfgM m hO).N) : Vec F S1x128x512 .bf16 :=
  rowOut (len c (tbl m 1) (rowIx (grid0.coords t))) (iblk m hO c 0 t) (iblk m hO c 1 t) (iblk m hO c 2 t) (rowBlk c (tbl m 0) hB.pages (V m c main_arg3) (rowIx (grid0.coords t)))
/-- and its log-sum-exp. -/
def lsev (hO : Ok m) (hB : TblOk m) (c : Dev nD) (t : Fin (cfgM m hO).N) : Vec F S1x128x1 .f32 :=
  rowLse (len c (tbl m 1) (rowIx (grid0.coords t))) (iblk m hO c 0 t) (iblk m hO c 1 t) (iblk m hO c 2 t) (rowBlk c (tbl m 0) hB.pages (V m c main_arg3) (rowIx (grid0.coords t)))

/-- The proof data of the one pipeline on core `c`: the arrays as the region finds them (`V`); after the body at point `t`
    each input's buffer at its block and the outputs at the row's values; the invariant: the scoped rest, the generator
    register, the own cells at zero, the pool at its launch contents, and the tables' halves; nothing owed; full shares. -/
def dats (hO : Ok m) (hB : TblOk m) (_ : Fin 1) (c : Dev nD) : Dat τ (Elt F) Unit ℕ (Pipeline.UD sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => outv m hO hB c t
    | ⟨4, _⟩ => lsev m hO hB c t
  Φ _ := iprop(Pipeline.ΦD osem0 spec0 H0 (V m) c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (hB : TblOk m) (c : Dev nD) (w : Fin (cfgM m hO).W) : (dats m hO hB 0 c).A w = V m c (Pipeline.arrRef spec0 w) := by
  dsimp only [dats]

/-- What the body leaves, window by window (the proof data's `match` reduced by `dsimp`). -/
theorem after0_0 (hO : Ok m) (hB : TblOk m) (c : Dev nD) (t : Fin (cfgM m hO).N) : (dats m hO hB 0 c).after 0 t = iblk m hO c 0 t := by dsimp only [dats]; try rfl
theorem after0_1 (hO : Ok m) (hB : TblOk m) (c : Dev nD) (t : Fin (cfgM m hO).N) : (dats m hO hB 0 c).after 1 t = iblk m hO c 1 t := by dsimp only [dats]; try rfl
theorem after0_2 (hO : Ok m) (hB : TblOk m) (c : Dev nD) (t : Fin (cfgM m hO).N) : (dats m hO hB 0 c).after 2 t = iblk m hO c 2 t := by dsimp only [dats]; try rfl
theorem after0_3 (hO : Ok m) (hB : TblOk m) (c : Dev nD) (t : Fin (cfgM m hO).N) : (dats m hO hB 0 c).after 3 t = outv m hO hB c t := by dsimp only [dats]; try rfl
theorem after0_4 (hO : Ok m) (hB : TblOk m) (c : Dev nD) (t : Fin (cfgM m hO).N) : (dats m hO hB 0 c).after 4 t = lsev m hO hB c t := by dsimp only [dats]; try rfl

/-- Each input's current staging buffer holds its block at every point, fetched there or not (`beforeK_W_of`). -/
theorem before0_0 (hO : Ok m) (hB : TblOk m) (c : Dev nD) (t : Fin (cfgM m hO).N) (d) : (dats m hO hB 0 c).before 0 t d = iblk m hO c 0 t :=
  before0_0_of m hO (dats m hO hB 0 c) (A_eq m hO hB c 0) (after0_0 m hO hB c) t d
theorem before0_1 (hO : Ok m) (hB : TblOk m) (c : Dev nD) (t : Fin (cfgM m hO).N) (d) : (dats m hO hB 0 c).before 1 t d = iblk m hO c 1 t :=
  before0_1_of m hO (dats m hO hB 0 c) (A_eq m hO hB c 1) (after0_1 m hO hB c) t d
theorem before0_2 (hO : Ok m) (hB : TblOk m) (c : Dev nD) (t : Fin (cfgM m hO).N) (d) : (dats m hO hB 0 c).before 2 t d = iblk m hO c 2 t :=
  before0_2_of m hO (dats m hO hB 0 c) (A_eq m hO hB c 2) (after0_2 m hO hB c) t d

/-! ## The body obligation, at a generic point -/

/-- What the body is called with at point `t` (Lib/Pipeline.lean `BodyObligation`'s precondition, the windows one by one), -/
def bodyPre (hO : Ok m) (hB : TblOk m) (c : Dev nD) (t : Fin (cfgM m hO).N) : sProp 𝕄 :=
  iprop((dats m hO hB 0 c).Φ t.castSucc ∗ (dats m hO hB 0 c).owesAt () t.castSucc
    ∗ (∃ d, owns (c : Thread nD τ) (ms0_0 m hO t) fullShare ((dats m hO hB 0 c).before 0 t d))
    ∗ (∃ d, owns (c : Thread nD τ) (ms0_1 m hO t) fullShare ((dats m hO hB 0 c).before 1 t d))
    ∗ (∃ d, owns (c : Thread nD τ) (ms0_2 m hO t) fullShare ((dats m hO hB 0 c).before 2 t d))
    ∗ (∃ d, owns (c : Thread nD τ) (ms0_3 m hO t) fullShare ((dats m hO hB 0 c).before 3 t d))
    ∗ (∃ d, owns (c : Thread nD τ) (ms0_4 m hO t) fullShare ((dats m hO hB 0 c).before 4 t d)))

/-- and what it returns. -/
def bodyPost (hO : Ok m) (hB : TblOk m) (c : Dev nD) (t : Fin (cfgM m hO).N) : sProp 𝕄 :=
  iprop((dats m hO hB 0 c).Φ t.succ ∗ (dats m hO hB 0 c).owesAt () t.succ
    ∗ owns (c : Thread nD τ) (ms0_0 m hO t) fullShare ((dats m hO hB 0 c).after 0 t)
    ∗ owns (c : Thread nD τ) (ms0_1 m hO t) fullShare ((dats m hO hB 0 c).after 1 t)
    ∗ owns (c : Thread nD τ) (ms0_2 m hO t) fullShare ((dats m hO hB 0 c).after 2 t)
    ∗ owns (c : Thread nD τ) (ms0_3 m hO t) fullShare ((dats m hO hB 0 c).after 3 t)
    ∗ owns (c : Thread nD τ) (ms0_4 m hO t) fullShare ((dats m hO hB 0 c).after 4 t))

/-- The body at any point: the inputs' memrefs hold their blocks (`before0_W`); so the
    run applies; the invariant (`PhiD0_eq`) hands the body its scratch, the register, its DMA cells at zero and the HBM operands, and takes them back as they were; the core's `owes` goes in at whatever the points before recorded and comes back with this point's waits, within the next point's bound (everything). -/
theorem sound_body (hO : Ok m) (hB : TblOk m) (c : Dev nD) (t : Fin (cfgM m hO).N) :
    bodyPre m hO hB c t ⊢ wp frame (wpE (defs₀ (F := F)) Variants.none c none) Set.univ (bodyAt0 (adm m hO) t) (fun _ => bodyPost m hO hB c t) := by
  unfold bodyPre bodyPost bodyAt0
  simp only [before0_0, before0_1, before0_2]
  rw [show (dats m hO hB 0 c).Φ t.succ = (dats m hO hB 0 c).Φ t.castSucc from rfl,
    after0_0, after0_1, after0_2, after0_3, after0_4]
  rw [show (dats m hO hB 0 c).Φ t.castSucc = iprop(Pipeline.ΦD osem0 spec0 H0 (V m) c ∗ Pipeline.ΦT pre0 (tbl m) c) from rfl, PhiD0_eq, PhiT0_eq]
  unfold Dat.owesAt Pipeline.owesWithin
  rw [show (dats m hO hB 0 c).owed t.castSucc = 0 from rfl, show (dats m hO hB 0 c).owed t.succ = 0 from rfl]
  iintro ⟨⟨⟨HS0, Hg, ⟨Hq0, Hq1⟩, Hh0⟩, ⟨HT0, HT1⟩⟩, ⟨%W, -, HW⟩, ⟨%d0, H0⟩, ⟨%d1, H1⟩, ⟨%d2, H2⟩, ⟨%d3, H3⟩, ⟨%d4, H4⟩⟩
  iapply (kernelRun0 c (grid0.coords t) _ _ _ _ _ _ _ _ _ _ (iblk m hO c 0 t) (iblk m hO c 1 t) (iblk m hO c 2 t) (tbl m 0) (tbl m 1) (V m c main_arg3) hB.pages (hB.lens (rowIx (grid0.coords t))) W _)
  isplitl [H0]; · iexact H0
  isplitl [H1]; · iexact H1
  isplitl [H2]; · iexact H2
  isplitl [H3]; · iexists _; iexact H3
  isplitl [H4]; · iexists _; iexact H4
  isplitl [HS0]; · iexact HS0
  isplitl [HT0]; · iexact HT0
  isplitl [HT1]; · iexact HT1
  isplitl [Hq0]; · iexact Hq0
  isplitl [Hq1]; · iexact Hq1
  isplitl [Hh0]; · iexact Hh0
  isplitl [HW]; · iexact HW
  iintro ⟨H0, H1, H2, H3, H4, HS0, HT0, HT1, Hq0, Hq1, Hh0, ⟨%W', HW'⟩⟩
  isplitl [HS0 Hg Hq0 Hq1 Hh0 HT0 HT1]
  · isplitl [HS0 Hg Hq0 Hq1 Hh0]
    · isplitl [HS0]
      · iexact HS0
      isplitl [Hg]
      · iexact Hg
      isplitl [Hq0 Hq1]
      · isplitl [Hq0]; · iexact Hq0
        iexact Hq1
      iexact Hh0
    isplitl [HT0]; · iexact HT0
    iexact HT1
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  iexact H4

/-- The body table's row at point `t`'s slots is the body as `bodyAt0` spells it. -/
theorem defs₀_row (hO : Ok m) (hB : TblOk m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hB : TblOk m) (c : Dev nD) : BodyObligation (dats (F := F) m hO hB 0 c) (defs₀ (F := F)) Variants.none () Set.univ := fun t => by
  rw [bigSep_W0, bigSep_W0, defs₀_row m hO hB]
  exact triple_restated (sound_body m hO hB c t) rfl .rfl fun _ => .rfl

/-! ## The run and the frame -/

-- `θ_run_frameP_dma`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hB : TblOk m) : θ_run defs (onTc (τ := τ) (main (F := F))) (s₀ m ρ) (fun r => (Pipeline.FramePost (Pipeline.pin pcfgs fun _ => adm m hO) (dats m hO hB) 0 (V m)) r ∧ r.2.sem = fun _ => 0) :=
  Pipeline.θ_run_frameP_dma (Q' := _) pcfgs (fun _ => adm m hO) (dats m hO hB) (0 : Fin 1) launch0 osem0 defs₀ Variants.none ownSemFacts0 H0 H0_sub m ρ main
    (hbody := fun c => (body_obligation m hO hB c).loose) (hshare := fun c => (dats m hO hB 0 c).share_full fun _ => rfl)
    (howed := fun _ _ => rfl) (V := V m) (hmain := hmain m Variants.none) (hA := A_eq m hO hB) (hpf := V_pre m) (hin := fun _ => .rfl) (hout := fun c => by change iprop(_ ∗ _) ⊢ _; iintro ⟨HD, -⟩; iexact HD)

/-- Every weakly fair execution of @main terminates, and every final state has every array of the pipeline at the proof
    data's contents and every other unscoped buffer as the region found it. -/
theorem run_main (hO : Ok m) (hB : TblOk m) : θ_run defs (onTc (τ := τ) (main (F := F))) (s₀ m ρ) (Pipeline.FramePost (Pipeline.pin pcfgs fun _ => adm m hO) (dats m hO hB) 0 (V m)) :=
  (θ_run defs _ _).mono (fun _ h => h.1) (run_main_quiescent m ρ hO hB)

/-- `frame` without the counters: the argument arrays end unchanged. -/
theorem unchanged (hO : Ok m) (hB : TblOk m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (fun c => (dats m hO hB 0 c).toR) (A_eq m hO hB) ((θ_run defs _ _).mono (fun r h c => ⟨fun w => ((dats m hO hB 0 c).toR_arrAt_iff w _ _).mpr ((h c).1 w), (h c).2⟩) (run_main m ρ hO hB))

/-- The frame: the argument arrays end unchanged and every semaphore counter reads zero. -/
theorem frame (hO : Ok m) (hB : TblOk m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO hB) ((θ_run defs _ _).mono (fun _ h => h.2) (run_main_quiescent m ρ hO hB))

end Cert.Kernel.Gen

end
-- ==== Proof.KernelIdeal.Base.lean ====
/- The launch of the kernel: what its pipeline stages and when, the arrays as the region finds them, the operands the
   body moves itself. Arranged after the generator's text for a body of this class. -/
module

public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 2 (%2)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 0 (fun _ => rfl) (by decide)) (P := 1) (by decide) t).mpr (Nat.mod_one _) : ∀ t : Fin grid0.N, Pipeline.Window.fetchOf grid0 false cc0_transform_0 t = true)
/-- Window 1 (operand 3 (%1)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 0 (by decide) (by decide) (Pipeline.Window.sep_of_coord cc0_transform_1 0 0 (fun _ => rfl) (by decide)) (P := 1) (by decide) t).mpr (Nat.mod_one _) : ∀ t : Fin grid0.N, Pipeline.Window.fetchOf grid0 false cc0_transform_1 t = true)
/-- Window 2 (operand 4 (%arg2)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 0 (by decide) (by decide) (Pipeline.Window.sep_of_coord cc0_transform_2 0 0 (fun _ => rfl) (by decide)) (P := 1) (by decide) t).mpr (Nat.mod_one _) : ∀ t : Fin grid0.N, Pipeline.Window.fetchOf grid0 false cc0_transform_2 t = true)
/-- Window 3 (result 0 (%3#0)) is written back at every point, at any contents of the tables (its index map reads none). -/
theorem flush0_3 (a : (pcfg0 (F := F)).Adm) : ∀ t : Fin (cfg0 a).N, ((cfg0 a).win 3).flush t = true :=
  (fun t => (Pipeline.Window.flushOf_reads cc0_transform_4 reads0_3 hreads0_3 0 (by decide) (by decide) (Pipeline.Window.sep_of_coord cc0_transform_4 0 0 (fun _ => rfl) (by decide)) (P := 1) (m := 0) (by decide) rfl t).mpr (Nat.mod_one _) : ∀ t : Fin grid0.N, Pipeline.Window.flushOf grid0 true cc0_transform_4 t = true)
/-- Window 4 (result 1 (%3#1)) is written back at every point, at any contents of the tables (its index map reads none). -/
theorem flush0_4 (a : (pcfg0 (F := F)).Adm) : ∀ t : Fin (cfg0 a).N, ((cfg0 a).win 4).flush t = true :=
  (fun t => (Pipeline.Window.flushOf_reads cc0_transform_5 reads0_4 hreads0_4 0 (by decide) (by decide) (Pipeline.Window.sep_of_coord cc0_transform_5 0 0 (fun _ => rfl) (by decide)) (P := 1) (m := 0) (by decide) rfl t).mpr (Nat.mod_one _) : ∀ t : Fin grid0.N, Pipeline.Window.flushOf grid0 true cc0_transform_5 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_mla (grid0.coords t) (Memref.whole main_arg4) (Memref.isWhole_whole _) (Memref.whole main_arg5) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (Memref.whole main_arg3) (Memref.isWhole_whole _) (spec0_3.stage ((cfg0 a).slots t 3)) (hstage0_3 (((cfg0 a).slots t 3).cast nbuf0_3)) (spec0_4.stage ((cfg0 a).slots t 4)) (hstage0_4 (((cfg0 a).slots t 4).cast nbuf0_4)) (Memref.whole cc0_scratch0) (Memref.isWhole_whole _) cc0_scratch1

variable (m : (ℓ : Loc nD τ sig) → Buf (Elt F) ℓ) (ρ : Dev nD → PrngReg)

/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S32x1024 .i32 := Memref.whole main_arg4
abbrev htbM0_0 : tbM0_0.IsWhole := Memref.isWhole_whole _
abbrev tbM0_1 : Memref sig .tc .smem S32 .i32 := Memref.whole main_arg5
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (Pipeline.UD sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (Pipeline.UD sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (Pipeline.UD sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (hO : Ok m) (rdat : (c : Dev nD) → Pipeline.RDat τ (Elt F) Unit ℕ (Pipeline.UD sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      (Pipeline.RDat.FramePost.arr_in h c 2 rfl).trans ((hA c 2).trans (V_main_arg2 m c)),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c)⟩) h

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x128x512 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x128x144 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x656 .i8 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x128x512 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x128x1 .f32 := spec0_4.stage ((cfgM m hO).slots t 4)
abbrev hs0_4 (hO : Ok m) (t : Fin (cfgM m hO).N) : (ms0_4 m hO t).IsWhole := hstage0_4 (((cfgM m hO).slots t 4).cast nbuf0_4)
/-- The scratch operands: whole scoped buffers of the kernel's own, passed beside the windows. -/
abbrev scM0_0 : Memref sig .tc .vmem S2x32x16x656 .i8 := Memref.whole cc0_scratch0
/-- The operands left in HBM that the body copies into scratch itself, whole. -/
abbrev hbM0_0 : Memref sig .tc .hbm S40960x16x656 .i8 := Memref.whole main_arg3
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 2 → SemLoc sig := fun j => (![SemLoc.dma 10, SemLoc.dma 11] : Fin 2 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 10) 0 ∗ semVal ((c : Thread nD τ), SemLoc.dma 11) 0) := by
  rw [Pipeline.ownSems0_eq_of_list c osem0 [0, 1] (by decide) (by decide)]; rfl
/-- The HBM operands the body moves, as references: unscoped, no window's array, no table (`Pipeline.restRefsP`). -/
def H0 : Finset (Ref sig .tc) := {main_arg3}
theorem H0_sub : H0 ⊆ Pipeline.restRefsP sig pre0 spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg3)) := by
  rw [BI.bigSep_eq_bigSepL_of_eq [main_arg3] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d)) ∗ (∃ r, prngReg c r) ∗ iprop(semVal ((c : Thread nD τ), SemLoc.dma 10) 0 ∗ semVal ((c : Thread nD τ), SemLoc.dma 11) 0) ∗ iprop(hbPt0 c hbM0_0 (V m c main_arg3))) := by
  rw [Pipeline.ΦD_eq, scopedRest0_eq, ownSems00_eq, hbmPts0_eq]; simp only [scM0_0, owns_whole]; try rfl

end Cert.KernelIdeal.Gen

end
-- ==== Proof.KernelIdeal.Copies.lean ====
/- One page copy of the kernel: where it reads, where it lands, what it delivers, and the rules for issuing one more
   copy of a batch and for waiting for one. A batch is the 32 copies of one 512-token block into one half of the
   double buffer, all on that half's semaphore. -/
module

public import proofs.«01_k».proof.Proof.KernelIdeal.Base
public import Idealize.ShloMosaic.Lib.Batch
public import Idealize.ShloMosaic.Lib.Transfers
public import Idealize.ShloMosaic.Lib.ValueLayout

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

/-! ## The memrefs of a copy -/

/-- One page's place in the double buffer: half `off 0`, page `off 1`. -/
abbrev slotM (off : Fin 4 → ℕ) (h : ∀ a, off a + S1x1x16x656.size a ≤ S2x32x16x656.size a) : Memref sig .tc .vmem S16x656 .i8 :=
  ((Memref.whole cc0_scratch0 : Memref sig .tc .vmem S2x32x16x656 .i8).slice (Rect.unit (s := S2x32x16x656) off S1x1x16x656.size h) (fun _ => rfl)).squeeze S16x656 squeezes_S1x1x16x656_S16x656
/-- One page of the pool: page `off 0`. -/
abbrev pageM (off : Fin 3 → ℕ) (h : ∀ a, off a + S1x16x656.size a ≤ S40960x16x656.size a) : Memref sig .tc .hbm S16x656 .i8 :=
  ((Memref.whole main_arg3 : Memref sig .tc .hbm S40960x16x656 .i8).slice (Rect.unit (s := S40960x16x656) off S1x16x656.size h) (fun _ => rfl)).squeeze S16x656 squeezes_S1x16x656_S16x656
/-- The semaphore of half `off 0`. -/
abbrev cellM (off : Fin 1 → ℕ) (h : ∀ a, off a + S1.size a ≤ S2.size a) : DmaSem sig :=
  ((cc0_scratch1.slice (Rect.unit (s := S2) off S1.size h)).squeeze S_ squeezes_S1_S_).sem

theorem slot_inb (s : Fin 2) (n : Fin 32) : ∀ a, (![s.val, n.val, 0, 0] : Fin 4 → ℕ) a + S1x1x16x656.size a ≤ S2x32x16x656.size a := by
  have := s.isLt; have := n.isLt
  intro a; fin_cases a <;> simp [S1x1x16x656, S2x32x16x656] <;> omega
theorem page_inb (p : Fin 40960) : ∀ a, (![p.val, 0, 0] : Fin 3 → ℕ) a + S1x16x656.size a ≤ S40960x16x656.size a := by
  have := p.isLt
  intro a; fin_cases a <;> simp [S1x16x656, S40960x16x656] <;> omega
theorem cell_inb (s : Fin 2) : ∀ a, (![s.val] : Fin 1 → ℕ) a + S1.size a ≤ S2.size a := by
  have := s.isLt
  intro a; fin_cases a; simp [S1, S2]; omega

/-- The semaphore of half `s`. -/
def cellS (s : Fin 2) : DmaSem sig := cellM ![s.val] (cell_inb s)
theorem cellS_zero : cellS 0 = 10 := by unfold cellS; decide
theorem cellS_one : cellS 1 = 11 := by unfold cellS; decide

abbrev bufL (c : Dev nD) := (Memref.whole cc0_scratch0 : Memref sig .tc .vmem S2x32x16x656 .i8).view.loc (c : Thread nD τ)
abbrev poolL (c : Dev nD) := (Memref.whole main_arg3 : Memref sig .tc .hbm S40960x16x656 .i8).view.loc (c : Thread nD τ)

/-- Where row `x`, byte `y` of a slot lies in the double buffer. -/
theorem slotM_emb (s : Fin 2) (n : Fin 32) (h) (x : Fin 16) (y : Fin 656) :
    (slotM ![s.val, n.val, 0, 0] h).view.emb (ix2 x y) = ix4 s n x y := by
  show (Rect.unit (s := S2x32x16x656) ![s.val, n.val, 0, 0] S1x1x16x656.size h).emb (Shape.reshapeEquiv _ (ix2 x y)) = _
  rw [reshapeEquiv_ix2_11ab]
  funext a; apply Fin.ext
  show (![s.val, n.val, 0, 0] : Fin 4 → ℕ) a + 1 * _ = _
  fin_cases a <;> simp
/-- Where row `x`, byte `y` of a page lies in the pool. -/
theorem pageM_emb (p : Fin 40960) (h) (x : Fin 16) (y : Fin 656) :
    (pageM ![p.val, 0, 0] h).view.emb (ix2 x y) = ix3 p x y := by
  show (Rect.unit (s := S40960x16x656) ![p.val, 0, 0] S1x16x656.size h).emb (Shape.reshapeEquiv _ (ix2 x y)) = _
  rw [reshapeEquiv_ix2_1ab]
  funext a; apply Fin.ext
  show (![p.val, 0, 0] : Fin 3 → ℕ) a + 1 * _ = _
  fin_cases a <;> simp

/-- A slot's elements. -/
def slotSet (s : Fin 2) (n : Fin 32) : Finset S2x32x16x656.Idx := Finset.univ.filter fun i => (i 0).val = s.val ∧ (i 1).val = n.val
theorem slotM_set (s : Fin 2) (n : Fin 32) (h) : (slotM ![s.val, n.val, 0, 0] h).view.set = slotSet s n := by
  ext i
  constructor
  · intro hi
    obtain ⟨x, -, rfl⟩ := Finset.mem_map.mp hi
    obtain ⟨a, b, rfl⟩ : ∃ (a : Fin 16) (b : Fin 656), x = ix2 a b := ⟨x 0, x 1, eq_ix2 x⟩
    rw [slotM_emb]
    simp [slotSet]
  · intro hi
    simp only [slotSet, Finset.mem_filter, Finset.mem_univ, _root_.true_and] at hi
    obtain ⟨h0, h1⟩ := hi
    refine Finset.mem_map.mpr ⟨ix2 (i 2) (i 3), Finset.mem_univ _, ?_⟩
    obtain ⟨a, b, d, e, rfl⟩ : ∃ (a : Fin 2) (b : Fin 32) (d : Fin 16) (e : Fin 656), i = ix4 a b d e := ⟨i 0, i 1, i 2, i 3, eq_ix4 i⟩
    obtain rfl : a = s := Fin.ext h0
    obtain rfl : b = n := Fin.ext h1
    exact slotM_emb a b h d e
/-- A page's elements. -/
def pageSet (p : Fin 40960) : Finset S40960x16x656.Idx := (pageM ![p.val, 0, 0] (page_inb p)).view.set

/-! ## A batch -/

/-- What the double buffer holds once pages `w` have landed: at page `n` the pool's page `w n`, whichever the half. -/
def landed (c : Dev nD) (w : Fin 32 → Fin 40960) (fh : Buf (Elt F) (poolL c)) : Buf (Elt F) (bufL c) :=
  fun (i : S2x32x16x656.Idx) => fh (ix3 (w (i 1)) (i 2) (i 3))

/-- The read share of the pool that the copy into slot `(s, n)` takes. -/
abbrev tk (s : Fin 2) (n : Fin 32) : PosShare TreeShare := Transfers.shareTokN fullShare (32 * s.val + n.val)

/-- What a slot and its copy's share of the pool are while no copy is pending. -/
def free1 (c : Dev nD) (fh : Buf (Elt F) (poolL c)) (s : Fin 2) (g : Buf (Elt F) (bufL c)) (n : Fin 32) : sProp 𝕄 :=
  iprop((bufL c ↦[slotSet s n]{fullShare} g) ∗ (poolL c ↦{tk s n} fh))
/-- What of the share stays behind while the copy is pending. -/
def rest1 (c : Dev nD) (fh : Buf (Elt F) (poolL c)) (s : Fin 2) (w : Fin 32 → Fin 40960) (n : Fin 32) : sProp 𝕄 :=
  iprop(poolL c ↦[Finset.univ \ pageSet (w n)]{tk s n} fh)
/-- What a copy delivers: its slot holding the page, and the page's share back. -/
def deliv1 (c : Dev nD) (fh : Buf (Elt F) (poolL c)) (s : Fin 2) (w : Fin 32 → Fin 40960) (n : Fin 32) : sProp 𝕄 :=
  iprop((bufL c ↦[slotSet s n]{fullShare} landed c w fh) ∗ (poolL c ↦[pageSet (w n)]{tk s n} fh))

/-- The credit of one copy. -/
def amt : ℕ := (slotM ![0, 0, 0, 0] (slot_inb 0 0)).view.dmaCredit
theorem amt_pos : 0 < amt := by unfold amt; decide

/-- The deliveries of the first `n` copies, in order. -/
def delivs (c : Dev nD) (fh : Buf (Elt F) (poolL c)) (s : Fin 2) (w : Fin 32 → Fin 40960) (n : ℕ) : List (sProp 𝕄) :=
  ((List.finRange 32).take n).map (deliv1 c fh s w)
theorem delivs_length (c : Dev nD) (fh : Buf (Elt F) (poolL c)) (s w) (n : ℕ) (hn : n ≤ 32) : (delivs c fh s w n).length = n := by
  simp [delivs, hn]
theorem delivs_succ (c : Dev nD) (fh : Buf (Elt F) (poolL c)) (s w) (n : ℕ) (hn : n < 32) :
    delivs c fh s w (n + 1) = delivs c fh s w n ++ [deliv1 c fh s w ⟨n, hn⟩] := by
  unfold delivs
  rw [List.take_succ_eq_append_getElem (by simpa using hn), List.map_append]
  simp

/-- The core's part of a batch into half `s` of which `n` copies are issued, none waited for. -/
def Iss (c : Dev nD) (fh : Buf (Elt F) (poolL c)) (s : Fin 2) (g : Buf (Elt F) (bufL c)) (w : Fin 32 → Fin 40960) (n : ℕ) : sProp 𝕄 :=
  iprop(Transfers.Batched (countersEmb (U := Pipeline.UD sig nD τ)) (c : Thread nD τ) (.dma (cellS s)) () amt 32 (delivs c fh s w n) 0
    ∗ bigSep (Transfers.issued n) (rest1 c fh s w) ∗ bigSep (Transfers.pending n) (free1 c fh s g))

/-- The core's part of a whole batch into half `s`, `u` of its copies waited for. -/
def Wt (c : Dev nD) (fh : Buf (Elt F) (poolL c)) (s : Fin 2) (w : Fin 32 → Fin 40960) (u : ℕ) : sProp 𝕄 :=
  iprop(Transfers.Batched (countersEmb (U := Pipeline.UD sig nD τ)) (c : Thread nD τ) (.dma (cellS s)) () amt 32 (delivs c fh s w 32) (u * amt)
    ∗ bigSep Finset.univ (rest1 c fh s w))

/-- A half with no copy pending: its slots at `g`, its shares of the pool, its semaphore at zero. -/
def Idle (c : Dev nD) (fh : Buf (Elt F) (poolL c)) (s : Fin 2) (g : Buf (Elt F) (bufL c)) : sProp 𝕄 :=
  iprop(semVal ((c : Thread nD τ), SemLoc.dma (cellS s)) 0 ∗ bigSep Finset.univ (free1 c fh s g))

/-- A copy's delivery, as the issue records it, is `deliv1`. -/
theorem deliv1_eq (c : Dev nD) (fh : Buf (Elt F) (poolL c)) (s : Fin 2) (g : Buf (Elt F) (bufL c)) (w : Fin 32 → Fin 40960) (n : Fin 32)
    (h h') (via : ReadAs (Elt F) S16x656 .i8 S16x656 .i8) (hv : via = .same) :
    (iprop(((slotM ![s.val, n.val, 0, 0] h).view.loc (c : Thread nD τ) ↦[slotSet s n]{fullShare}
          ((slotM ![s.val, n.val, 0, 0] h).view.write (Elt F) g (via.apply ((pageM ![(w n).val, 0, 0] h').view.read (Elt F) fh)) Finset.univ))
        ∗ ((pageM ![(w n).val, 0, 0] h').view.loc (c : Thread nD τ) ↦[(pageM ![(w n).val, 0, 0] h').view.set]{tk s n} fh)) : sProp 𝕄)
      = deliv1 c fh s w n := by
  subst hv
  unfold deliv1
  congr 1
  refine pointsTo_congr (ℓ := bufL c) fun i hi => ?_
  have hi' := hi
  simp only [slotSet, Finset.mem_filter, Finset.mem_univ, _root_.true_and] at hi'
  obtain ⟨h0, h1⟩ := hi'
  obtain ⟨a, b, d, e, rfl⟩ : ∃ (a : Fin 2) (b : Fin 32) (d : Fin 16) (e : Fin 656), i = ix4 a b d e := ⟨i 0, i 1, i 2, i 3, eq_ix4 i⟩
  obtain rfl : a = s := Fin.ext h0
  obtain rfl : b = n := Fin.ext h1
  rw [← slotM_emb a b h d e, View.write_emb_of_mem _ _ (Finset.mem_univ _), slotM_emb]
  show (pageM ![(w b).val, 0, 0] h').view.read (Elt F) fh (ix2 d e) = fh (ix3 (w b) d e)
  rw [View.read_apply, pageM_emb]
  rfl

theorem issue_step (c : Dev nD) (fh : Buf (Elt F) (poolL c)) (s : Fin 2) (g : Buf (Elt F) (bufL c)) (w : Fin 32 → Fin 40960) (n : ℕ) (hn : n < 32)
    {off : Fin 4 → ℕ} {h} (hoff : off = ![s.val, n, 0, 0]) {offs : Fin 1 → ℕ} {hs} (hoffs : offs = ![s.val])
    {offp : Fin 3 → ℕ} {hp} (hoffp : offp = ![(w ⟨n, hn⟩).val, 0, 0]) {hsrc hdst hsem} {α : Type}
    {k : PUnit → Prog (TpuEff nD τ sig (Elt F) Λ₀ .tc) α} {Q : α → sProp 𝕄} :
    Iss c fh s g w n ⊢ iprop((Iss c fh s g w (n + 1) -∗ wp frame (wpE (defs₀ (F := F)) Variants.none (c : Thread nD τ) none) Set.univ (k ⟨⟩) Q)
      -∗ wp frame (wpE (defs₀ (F := F)) Variants.none (c : Thread nD τ) none) Set.univ
          (.op (.enqueueDma (pageM offp hp) (.here (slotM off h)) (.dma (cellM offs hs)) hsrc hdst hsem) k) Q) := by
  subst hoff hoffs hoffp
  unfold Iss
  have e1 : (bigSep (Transfers.pending n) (free1 c fh s g) : sProp 𝕄)
      = iprop(free1 c fh s g ⟨n, hn⟩ ∗ bigSep (Transfers.pending (n + 1)) (free1 c fh s g)) := by
    rw [Transfers.pending_succ hn, bigSep_insert (Transfers.not_mem_pending_succ hn)]; rfl
  have e2 : (bigSep (Transfers.issued (n + 1)) (rest1 c fh s w) : sProp 𝕄)
      = iprop(rest1 c fh s w ⟨n, hn⟩ ∗ bigSep (Transfers.issued n) (rest1 c fh s w)) := by
    rw [Transfers.issued_succ hn, bigSep_insert (Transfers.not_mem_issued hn)]; rfl
  rw [e1, e2]
  unfold free1 rest1
  iintro ⟨HB, HR, ⟨Hslot, Htok⟩, HF⟩ Hk
  ihave Htok' := (pointsTo_split_subset (Finset.subset_univ (pageSet (w ⟨n, hn⟩)))).1 $$ Htok
  icases Htok' with ⟨Hpg, Hrest⟩
  iapply (Transfers.wp_dmaBatched (countersEmb (U := Pipeline.UD sig nD τ)) Variants.none (c : Thread nD τ) none
    (src := pageM ![(w ⟨n, hn⟩).val, 0, 0] hp) (dst := slotM ![s.val, n, 0, 0] h) (via := .same)
    (Sd := slotSet s ⟨n, hn⟩) (fd := g) (fs := fh) (q := tk s ⟨n, hn⟩) (Ds := delivs c fh s w n) (u := 0) (m := 32)
    () amt rfl (slotM_set s ⟨n, hn⟩ h).subset (by rw [delivs_length _ _ _ _ _ hn.le]; exact hn) (Nat.zero_le _)) $$ [HB Hslot Hpg]
  · isplitl [Hpg]; · iexact Hpg
    isplitl [Hslot]; · iexact Hslot
    iexact HB
  iintro HB
  iapply Hk
  rw [deliv1_eq c fh s g w ⟨n, hn⟩ h hp .same rfl, ← delivs_succ]
  isplitl [HB]; · iexact HB
  isplitl [Hrest HR]
  · isplitl [Hrest]; · iexact Hrest
    iexact HR
  iexact HF

end Cert.KernelIdeal.Gen

end
-- ==== Proof.KernelIdeal.Words.lean ====
/- The kernel's index arithmetic: block counts, loop trips, which half of the double buffer a trip reads, and that
   every offset it computes lies inside its array, from the two ranges the precondition states. -/
module

public import proofs.«01_k».proof.Proof.KernelIdeal.Base
public import Idealize.ShloMosaic.Lib.LoopRemainder

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## Words -/

/-- The number of 512-token blocks of a sequence of `L` tokens. -/
def nblk (L : ℕ) : ℕ := (L + 511) / 512

/-- A length the precondition admits: at most 16384 tokens, read unsigned. -/
abbrev LenOk (v1 : BitVec 32) : Prop := v1.toNat ≤ 16384

theorem nblk_le {L : ℕ} (h : L ≤ 16384) : nblk L ≤ 32 := by unfold nblk; omega

theorem divsi_blocks (v1 : BitVec 32) (h : LenOk v1) :
    Scalar.divsi (Scalar.addi v1 511#32) 512#32 = BitVec.ofNat 32 (nblk v1.toNat) := by
  have hL : v1.toNat ≤ 16384 := h
  have hx : (v1 + 511#32).toNat = v1.toNat + 511 := by
    rw [BitVec.toNat_add]; simp; omega
  have hc : ¬ IntOp.SDivCorner (v1 + 511#32) 512#32 := by
    rintro (h | ⟨_, h⟩) <;> exact absurd h (by decide)
  show IntOp.divsi .scalar (v1 + 511#32) 512#32 = _
  unfold IntOp.divsi
  rw [if_neg hc, BitVec.sdiv_eq]
  have m1 : (v1 + 511#32).msb = false := by
    rw [BitVec.msb_eq_false_iff_two_mul_lt, hx]; omega
  have m2 : (512#32).msb = false := by decide
  rw [m1, m2]
  apply BitVec.eq_of_toNat_eq
  simp only [BitVec.udiv_eq, BitVec.toNat_udiv, hx, BitVec.toNat_ofNat]
  unfold nblk
  show (v1.toNat + 511) / 512 = _
  have : (v1.toNat + 511) / 512 < 2 ^ 32 := by omega
  rw [Nat.mod_eq_of_lt this]

theorem loop_ub (v1 : BitVec 32) (h : LenOk v1) : k0_t1_loop v1 = ⟨0#32, BitVec.ofNat 32 (nblk v1.toNat), 1#32⟩ := by
  unfold k0_t1_loop
  simp only []
  rw [Scalar.muli_divsi_one, divsi_blocks v1 h]
  simp [Scalar.addi, Scalar.subi, IntOp.addi, IntOp.subi]

theorem trips_word (n : ℕ) (hn : n ≤ 32) : Scf.trips (0#32) (BitVec.ofNat 32 n) (1#32) = n := by
  have : ∀ n < 33, Scf.trips (0#32) (BitVec.ofNat 32 n) (1#32) = n := by decide
  exact this n (by omega)
theorem ok_word (n : ℕ) (hn : n ≤ 32) : Scf.OK (0#32) (BitVec.ofNat 32 n) (1#32) := by
  have : ∀ n < 33, Scf.OK (0#32) (BitVec.ofNat 32 n) (1#32) := by decide
  exact this n (by omega)

theorem t1_trips (v1 : BitVec 32) (h : LenOk v1) : (k0_t1_loop v1).trips = nblk v1.toNat := by
  rw [loop_ub v1 h]; exact trips_word _ (nblk_le h)
theorem t1_OK (v1 : BitVec 32) (h : LenOk v1) : (k0_t1_loop v1).OK := by
  rw [loop_ub v1 h]; exact ok_word _ (nblk_le h)
theorem t1_lt (v1 : BitVec 32) (h : LenOk v1) (t : Fin (k0_t1_loop v1).trips) : t.val < 32 :=
  lt_of_lt_of_le (t1_trips v1 h ▸ t.isLt) (nblk_le h)
theorem t2_trips (v1 : BitVec 32) : (k0_t2_loop v1).trips = 0 := Scf.rem_trips _ _
theorem t2_false (v1 : BitVec 32) (t : Fin (k0_t2_loop v1).trips) : False := Scf.rem_no_trip _ _ t

/-- The half of the double buffer trip `iv` reads. -/
abbrev curW (arg11 : BitVec 32) : BitVec 32 :=
  let v135 : BitVec 1 := Scalar.cmpi .eq 2#32 0#32
  let v136 : BitVec 32 := Scalar.select v135 1#32 2#32
  let v137 : BitVec 32 := Scalar.remsi arg11 v136
  let v138 : BitVec 1 := Scalar.cmpi .ne v137 0#32
  let v139 : BitVec 1 := Scalar.cmpi .slt v137 0#32
  let v140 : BitVec 1 := Scalar.cmpi .slt v136 0#32
  let v141 : BitVec 1 := Scalar.xori v139 v140
  let v142 : BitVec 1 := Scalar.andi v141 v138
  let v143 : BitVec 32 := Scalar.addi v137 v136
  Scalar.select v142 v143 v137
/-- The other half, which the next block's copies fill. -/
abbrev nxtW (arg11 : BitVec 32) : BitVec 32 := Scalar.subi 1#32 (curW arg11)
/-- The page index of copy `n` of the block after `iv`. -/
abbrev pgW (arg11 n : BitVec 32) : BitVec 32 := Scalar.addi (Scalar.muli (Scalar.addi arg11 1#32) 32#32) n

theorem cur_ofNat : ∀ t < 32, (curW (Scf.iv 0#32 1#32 t)).toNat = t % 2 := by decide
theorem nxt_ofNat : ∀ t < 32, (nxtW (Scf.iv 0#32 1#32 t)).toNat = (t + 1) % 2 := by decide
theorem pg_ofNat (t n : ℕ) (ht : t < 32) (hn : n < 32) : (pgW (Scf.iv 0#32 1#32 t) (BitVec.ofNat 32 n)).toNat = 32 * (t + 1) + n := by
  simp only [pgW, Scalar.addi, Scalar.muli, IntOp.addi, IntOp.muli, Scf.iv, BitVec.toNat_add, BitVec.toNat_mul, BitVec.toNat_ofNat]
  omega
theorem grid_ofNat (i : grid0.Coords) : (BitVec.ofNat 32 (i 0).val).toNat = (i 0).val := by
  have : (i 0).val < 32 := (i 0).isLt
  rw [BitVec.toNat_ofNat]; omega

theorem cond1_iff (v1 : BitVec 32) (h : LenOk v1) : k0_cond1 v1 = 1#1 ↔ 0 < nblk v1.toNat := by
  have hn := nblk_le h
  show Scalar.cmpi .ne (Scalar.extui (Scalar.cmpi .sgt (Scalar.divsi (Scalar.addi v1 511#32) 512#32) 0#32)) 0#32 = 1#1 ↔ _
  rw [divsi_blocks v1 h]
  generalize nblk v1.toNat = n at *
  have : ∀ n < 33, (Scalar.cmpi .ne (Scalar.extui (Scalar.cmpi .sgt (BitVec.ofNat 32 n) 0#32)) 0#32 = 1#1 ↔ 0 < n) := by decide
  exact this n (by omega)
theorem cond2_iff (v1 : BitVec 32) (h : LenOk v1) (t : Fin (k0_t1_loop v1).trips) : k0_cond2 v1 t = 1#1 ↔ t.val + 1 < nblk v1.toNat := by
  have hn := nblk_le h
  have ht := t1_lt v1 h t
  show Scalar.cmpi .ne (Scalar.extui (Scalar.cmpi .slt (Scalar.addi (Scf.iv 0#32 1#32 t) 1#32) (Scalar.divsi (Scalar.addi v1 511#32) 512#32))) 0#32 = 1#1 ↔ _
  rw [divsi_blocks v1 h]
  generalize nblk v1.toNat = n at *
  generalize t.val = t at *
  have : ∀ t < 32, ∀ n < 33, (Scalar.cmpi .ne (Scalar.extui (Scalar.cmpi .slt (Scalar.addi (Scf.iv 0#32 1#32 t) 1#32) (BitVec.ofNat 32 n))) 0#32 = 1#1 ↔ t + 1 < n) := by decide
  exact this t ht n (by omega)

/-! ## Offsets inside their arrays -/

theorem inb_tbl {u p : ℕ} (hu : u < 32) (hp : p < 1024) : ∀ a, (![u, p] : Fin 2 → ℕ) a + S1x1.size a ≤ S32x1024.size a := by
  intro a; fin_cases a <;> simp [S1x1, S32x1024] <;> omega
theorem inb_sem {u : ℕ} (hu : u < 2) : ∀ a, (![u] : Fin 1 → ℕ) a + S1.size a ≤ S2.size a := by
  intro a; fin_cases a; simp [S1, S2]; omega
theorem inb_slot {u n : ℕ} (hu : u < 2) (hn : n < 32) : ∀ a, (![u, n, 0, 0] : Fin 4 → ℕ) a + S1x1x16x656.size a ≤ S2x32x16x656.size a := by
  intro a; fin_cases a <;> simp [S1x1x16x656, S2x32x16x656] <;> omega
theorem inb_half {u : ℕ} (hu : u < 2) : ∀ a, (![u, 0, 0, 0] : Fin 4 → ℕ) a + S1x32x16x656.size a ≤ S2x32x16x656.size a := by
  intro a; fin_cases a <;> simp [S1x32x16x656, S2x32x16x656] <;> omega
theorem inb_page {u : ℕ} (hu : u < 40960) : ∀ a, (![u, 0, 0] : Fin 3 → ℕ) a + S1x16x656.size a ≤ S40960x16x656.size a := by
  intro a; fin_cases a <;> simp [S1x16x656, S40960x16x656] <;> omega
theorem words_slot (u n : ℕ) (h) : (Rect.unit (s := S2x32x16x656) ![u, n, 0, 0] S1x1x16x656.size h).WholeWords (EltTy.packing .i8) :=
  Or.inr ⟨by decide, rfl, rfl, rfl⟩
theorem words_page (u : ℕ) (h) : (Rect.unit (s := S40960x16x656) ![u, 0, 0] S1x16x656.size h).WholeWords (EltTy.packing .i8) :=
  Or.inr ⟨by decide, rfl, rfl, rfl⟩

theorem cur_lt (v1 : BitVec 32) (h : LenOk v1) (t : Fin (k0_t1_loop v1).trips) : (curW (Scf.iv 0#32 1#32 t)).toNat < 2 := by
  rw [cur_ofNat t (t1_lt v1 h t)]; omega
theorem nxt_lt (v1 : BitVec 32) (h : LenOk v1) (t : Fin (k0_t1_loop v1).trips) : (nxtW (Scf.iv 0#32 1#32 t)).toNat < 2 := by
  rw [nxt_ofNat t (t1_lt v1 h t)]; omega
theorem pg_lt (v1 : BitVec 32) (h : LenOk v1) (t : Fin (k0_t1_loop v1).trips) (h2 : k0_cond2 v1 t = 1#1) (n : ℕ) (hn : n < 32) :
    (pgW (Scf.iv 0#32 1#32 t) (BitVec.ofNat 32 n)).toNat < 1024 := by
  have := (cond2_iff v1 h t).mp h2
  have := nblk_le h
  rw [pg_ofNat t n (t1_lt v1 h t) hn]; omega
theorem row_lt (i : grid0.Coords) : (BitVec.ofNat 32 (i 0).val).toNat < 32 := by
  rw [grid_ofNat]; exact (i 0).isLt

theorem chk33_0 (i : grid0.Coords) (v1 : BitVec 32) (h : LenOk v1) : k0_chk33_0 i v1 :=
  ⟨t1_OK v1 h,
   fun t h2 => inb_tbl (row_lt i) (pg_lt v1 h t h2 0 (by decide)),
   fun t _ => inb_sem (nxt_lt v1 h t),
   fun t _ => inb_slot (nxt_lt v1 h t) (by decide),
   fun t _ hinb => words_slot _ _ hinb,
   fun t h2 => inb_tbl (row_lt i) (pg_lt v1 h t h2 1 (by decide)),
   fun t _ => inb_sem (nxt_lt v1 h t),
   fun t _ => inb_slot (nxt_lt v1 h t) (by decide),
   fun t _ hinb => words_slot _ _ hinb,
   fun t h2 => inb_tbl (row_lt i) (pg_lt v1 h t h2 2 (by decide)),
   fun t _ => inb_sem (nxt_lt v1 h t),
   fun t _ => inb_slot (nxt_lt v1 h t) (by decide),
   fun t _ hinb => words_slot _ _ hinb,
   fun t h2 => inb_tbl (row_lt i) (pg_lt v1 h t h2 3 (by decide)),
   fun t _ => inb_sem (nxt_lt v1 h t),
   fun t _ => inb_slot (nxt_lt v1 h t) (by decide),
   fun t _ hinb => words_slot _ _ hinb,
   fun t h2 => inb_tbl (row_lt i) (pg_lt v1 h t h2 4 (by decide)),
   fun t _ => inb_sem (nxt_lt v1 h t),
   fun t _ => inb_slot (nxt_lt v1 h t) (by decide),
   fun t _ hinb => words_slot _ _ hinb,
   fun t h2 => inb_tbl (row_lt i) (pg_lt v1 h t h2 5 (by decide)),
   fun t _ => inb_sem (nxt_lt v1 h t),
   fun t _ => inb_slot (nxt_lt v1 h t) (by decide),
   fun t _ hinb => words_slot _ _ hinb,
   fun t h2 => inb_tbl (row_lt i) (pg_lt v1 h t h2 6 (by decide)),
   fun t _ => inb_sem (nxt_lt v1 h t),
   fun t _ => inb_slot (nxt_lt v1 h t) (by decide),
   fun t _ hinb => words_slot _ _ hinb,
   fun t h2 => inb_tbl (row_lt i) (pg_lt v1 h t h2 7 (by decide)),
   fun t _ => inb_sem (nxt_lt v1 h t),
   fun t _ => inb_slot (nxt_lt v1 h t) (by decide)⟩

theorem chk33_1 (i : grid0.Coords) (v1 : BitVec 32) (h : LenOk v1) : k0_chk33_1 i v1 :=
  ⟨fun t _ hinb => words_slot _ _ hinb,
   fun t h2 => inb_tbl (row_lt i) (pg_lt v1 h t h2 8 (by decide)),
   fun t _ => inb_sem (nxt_lt v1 h t),
   fun t _ => inb_slot (nxt_lt v1 h t) (by decide),
   fun t _ hinb => words_slot _ _ hinb,
   fun t h2 => inb_tbl (row_lt i) (pg_lt v1 h t h2 9 (by decide)),
   fun t _ => inb_sem (nxt_lt v1 h t),
   fun t _ => inb_slot (nxt_lt v1 h t) (by decide),
   fun t _ hinb => words_slot _ _ hinb,
   fun t h2 => inb_tbl (row_lt i) (pg_lt v1 h t h2 10 (by decide)),
   fun t _ => inb_sem (nxt_lt v1 h t),
   fun t _ => inb_slot (nxt_lt v1 h t) (by decide),
   fun t _ hinb => words_slot _ _ hinb,
   fun t h2 => inb_tbl (row_lt i) (pg_lt v1 h t h2 11 (by decide)),
   fun t _ => inb_sem (nxt_lt v1 h t),
   fun t _ => inb_slot (nxt_lt v1 h t) (by decide),
   fun t _ hinb => words_slot _ _ hinb,
   fun t h2 => inb_tbl (row_lt i) (pg_lt v1 h t h2 12 (by decide)),
   fun t _ => inb_sem (nxt_lt v1 h t),
   fun t _ => inb_slot (nxt_lt v1 h t) (by decide),
   fun t _ hinb => words_slot _ _ hinb,
   fun t h2 => inb_tbl (row_lt i) (pg_lt v1 h t h2 13 (by decide)),
   fun t _ => inb_sem (nxt_lt v1 h t),
   fun t _ => inb_slot (nxt_lt v1 h t) (by decide),
   fun t _ hinb => words_slot _ _ hinb,
   fun t h2 => inb_tbl (row_lt i) (pg_lt v1 h t h2 14 (by decide)),
   fun t _ => inb_sem (nxt_lt v1 h t),
   fun t _ => inb_slot (nxt_lt v1 h t) (by decide),
   fun t _ hinb => words_slot _ _ hinb,
   fun t h2 => inb_tbl (row_lt i) (pg_lt v1 h t h2 15 (by decide)),
   fun t _ => inb_sem (nxt_lt v1 h t),
   fun t _ => inb_slot (nxt_lt v1 h t) (by decide)⟩

theorem chk33_2 (i : grid0.Coords) (v1 : BitVec 32) (h : LenOk v1) : k0_chk33_2 i v1 :=
  ⟨fun t _ hinb => words_slot _ _ hinb,
   fun t h2 => inb_tbl (row_lt i) (pg_lt v1 h t h2 16 (by decide)),
   fun t _ => inb_sem (nxt_lt v1 h t),
   fun t _ => inb_slot (nxt_lt v1 h t) (by decide),
   fun t _ hinb => words_slot _ _ hinb,
   fun t h2 => inb_tbl (row_lt i) (pg_lt v1 h t h2 17 (by decide)),
   fun t _ => inb_sem (nxt_lt v1 h t),
   fun t _ => inb_slot (nxt_lt v1 h t) (by decide),
   fun t _ hinb => words_slot _ _ hinb,
   fun t h2 => inb_tbl (row_lt i) (pg_lt v1 h t h2 18 (by decide)),
   fun t _ => inb_sem (nxt_lt v1 h t),
   fun t _ => inb_slot (nxt_lt v1 h t) (by decide),
   fun t _ hinb => words_slot _ _ hinb,
   fun t h2 => inb_tbl (row_lt i) (pg_lt v1 h t h2 19 (by decide)),
   fun t _ => inb_sem (nxt_lt v1 h t),
   fun t _ => inb_slot (nxt_lt v1 h t) (by decide),
   fun t _ hinb => words_slot _ _ hinb,
   fun t h2 => inb_tbl (row_lt i) (pg_lt v1 h t h2 20 (by decide)),
   fun t _ => inb_sem (nxt_lt v1 h t),
   fun t _ => inb_slot (nxt_lt v1 h t) (by decide),
   fun t _ hinb => words_slot _ _ hinb,
   fun t h2 => inb_tbl (row_lt i) (pg_lt v1 h t h2 21 (by decide)),
   fun t _ => inb_sem (nxt_lt v1 h t),
   fun t _ => inb_slot (nxt_lt v1 h t) (by decide),
   fun t _ hinb => words_slot _ _ hinb,
   fun t h2 => inb_tbl (row_lt i) (pg_lt v1 h t h2 22 (by decide)),
   fun t _ => inb_sem (nxt_lt v1 h t),
   fun t _ => inb_slot (nxt_lt v1 h t) (by decide),
   fun t _ hinb => words_slot _ _ hinb,
   fun t h2 => inb_tbl (row_lt i) (pg_lt v1 h t h2 23 (by decide)),
   fun t _ => inb_sem (nxt_lt v1 h t),
   fun t _ => inb_slot (nxt_lt v1 h t) (by decide)⟩

theorem chk33_3 (i : grid0.Coords) (v1 : BitVec 32) (h : LenOk v1) : k0_chk33_3 i v1 :=
  ⟨fun t _ hinb => words_slot _ _ hinb,
   fun t h2 => inb_tbl (row_lt i) (pg_lt v1 h t h2 24 (by decide)),
   fun t _ => inb_sem (nxt_lt v1 h t),
   fun t _ => inb_slot (nxt_lt v1 h t) (by decide),
   fun t _ hinb => words_slot _ _ hinb,
   fun t h2 => inb_tbl (row_lt i) (pg_lt v1 h t h2 25 (by decide)),
   fun t _ => inb_sem (nxt_lt v1 h t),
   fun t _ => inb_slot (nxt_lt v1 h t) (by decide),
   fun t _ hinb => words_slot _ _ hinb,
   fun t h2 => inb_tbl (row_lt i) (pg_lt v1 h t h2 26 (by decide)),
   fun t _ => inb_sem (nxt_lt v1 h t),
   fun t _ => inb_slot (nxt_lt v1 h t) (by decide),
   fun t _ hinb => words_slot _ _ hinb,
   fun t h2 => inb_tbl (row_lt i) (pg_lt v1 h t h2 27 (by decide)),
   fun t _ => inb_sem (nxt_lt v1 h t),
   fun t _ => inb_slot (nxt_lt v1 h t) (by decide),
   fun t _ hinb => words_slot _ _ hinb,
   fun t h2 => inb_tbl (row_lt i) (pg_lt v1 h t h2 28 (by decide)),
   fun t _ => inb_sem (nxt_lt v1 h t),
   fun t _ => inb_slot (nxt_lt v1 h t) (by decide),
   fun t _ hinb => words_slot _ _ hinb,
   fun t h2 => inb_tbl (row_lt i) (pg_lt v1 h t h2 29 (by decide)),
   fun t _ => inb_sem (nxt_lt v1 h t),
   fun t _ => inb_slot (nxt_lt v1 h t) (by decide),
   fun t _ hinb => words_slot _ _ hinb,
   fun t h2 => inb_tbl (row_lt i) (pg_lt v1 h t h2 30 (by decide)),
   fun t _ => inb_sem (nxt_lt v1 h t),
   fun t _ => inb_slot (nxt_lt v1 h t) (by decide),
   fun t _ hinb => words_slot _ _ hinb,
   fun t h2 => inb_tbl (row_lt i) (pg_lt v1 h t h2 31 (by decide)),
   fun t _ => inb_sem (nxt_lt v1 h t),
   fun t _ => inb_slot (nxt_lt v1 h t) (by decide)⟩

theorem chk33_4 (i : grid0.Coords) (v1 : BitVec 32) (h : LenOk v1) : k0_chk33_4 i v1 :=
  ⟨fun t _ hinb => words_slot _ _ hinb,
   fun t  => inb_sem (cur_lt v1 h t),
   fun t  => inb_slot (cur_lt v1 h t) (by decide),
   fun t  hinb => words_slot _ _ hinb,
   fun t  => inb_slot (cur_lt v1 h t) (by decide),
   fun t  hinb => words_slot _ _ hinb,
   fun t  => inb_slot (cur_lt v1 h t) (by decide),
   fun t  hinb => words_slot _ _ hinb,
   fun t  => inb_slot (cur_lt v1 h t) (by decide),
   fun t  hinb => words_slot _ _ hinb,
   fun t  => inb_slot (cur_lt v1 h t) (by decide),
   fun t  hinb => words_slot _ _ hinb,
   fun t  => inb_slot (cur_lt v1 h t) (by decide),
   fun t  hinb => words_slot _ _ hinb,
   fun t  => inb_slot (cur_lt v1 h t) (by decide),
   fun t  hinb => words_slot _ _ hinb,
   fun t  => inb_slot (cur_lt v1 h t) (by decide),
   fun t  hinb => words_slot _ _ hinb,
   fun t  => inb_slot (cur_lt v1 h t) (by decide),
   fun t  hinb => words_slot _ _ hinb,
   fun t  => inb_slot (cur_lt v1 h t) (by decide),
   fun t  hinb => words_slot _ _ hinb,
   fun t  => inb_slot (cur_lt v1 h t) (by decide),
   fun t  hinb => words_slot _ _ hinb,
   fun t  => inb_slot (cur_lt v1 h t) (by decide),
   fun t  hinb => words_slot _ _ hinb,
   fun t  => inb_slot (cur_lt v1 h t) (by decide),
   fun t  hinb => words_slot _ _ hinb,
   fun t  => inb_slot (cur_lt v1 h t) (by decide),
   fun t  hinb => words_slot _ _ hinb,
   fun t  => inb_slot (cur_lt v1 h t) (by decide),
   fun t  hinb => words_slot _ _ hinb⟩

theorem chk33_5 (i : grid0.Coords) (v1 : BitVec 32) (h : LenOk v1) : k0_chk33_5 i v1 :=
  ⟨fun t  => inb_slot (cur_lt v1 h t) (by decide),
   fun t  hinb => words_slot _ _ hinb,
   fun t  => inb_slot (cur_lt v1 h t) (by decide),
   fun t  hinb => words_slot _ _ hinb,
   fun t  => inb_slot (cur_lt v1 h t) (by decide),
   fun t  hinb => words_slot _ _ hinb,
   fun t  => inb_slot (cur_lt v1 h t) (by decide),
   fun t  hinb => words_slot _ _ hinb,
   fun t  => inb_slot (cur_lt v1 h t) (by decide),
   fun t  hinb => words_slot _ _ hinb,
   fun t  => inb_slot (cur_lt v1 h t) (by decide),
   fun t  hinb => words_slot _ _ hinb,
   fun t  => inb_slot (cur_lt v1 h t) (by decide),
   fun t  hinb => words_slot _ _ hinb,
   fun t  => inb_slot (cur_lt v1 h t) (by decide),
   fun t  hinb => words_slot _ _ hinb,
   fun t  => inb_slot (cur_lt v1 h t) (by decide),
   fun t  hinb => words_slot _ _ hinb,
   fun t  => inb_slot (cur_lt v1 h t) (by decide),
   fun t  hinb => words_slot _ _ hinb,
   fun t  => inb_slot (cur_lt v1 h t) (by decide),
   fun t  hinb => words_slot _ _ hinb,
   fun t  => inb_slot (cur_lt v1 h t) (by decide),
   fun t  hinb => words_slot _ _ hinb,
   fun t  => inb_slot (cur_lt v1 h t) (by decide),
   fun t  hinb => words_slot _ _ hinb,
   fun t  => inb_slot (cur_lt v1 h t) (by decide),
   fun t  hinb => words_slot _ _ hinb,
   fun t  => inb_slot (cur_lt v1 h t) (by decide),
   fun t  hinb => words_slot _ _ hinb,
   fun t  => inb_slot (cur_lt v1 h t) (by decide),
   fun t  hinb => words_slot _ _ hinb⟩

theorem chk33_6 (i : grid0.Coords) (v1 : BitVec 32) (h : LenOk v1) : k0_chk33_6 i v1 :=
  ⟨fun t  => inb_slot (cur_lt v1 h t) (by decide),
   fun t  hinb => words_slot _ _ hinb,
   fun t => inb_half (cur_lt v1 h t),
   Scf.rem_ok _ _,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim⟩

theorem chk33_7 (i : grid0.Coords) (v1 : BitVec 32) (h : LenOk v1) : k0_chk33_7 i v1 :=
  ⟨fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim⟩

theorem chk33_8 (i : grid0.Coords) (v1 : BitVec 32) (h : LenOk v1) : k0_chk33_8 i v1 :=
  ⟨fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim⟩

theorem chk33_9 (i : grid0.Coords) (v1 : BitVec 32) (h : LenOk v1) : k0_chk33_9 i v1 :=
  ⟨fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim⟩

theorem chk33_10 (i : grid0.Coords) (v1 : BitVec 32) (h : LenOk v1) : k0_chk33_10 i v1 :=
  ⟨fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim⟩

theorem chk33_11 (i : grid0.Coords) (v1 : BitVec 32) (h : LenOk v1) : k0_chk33_11 i v1 :=
  ⟨fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim,
   fun t => (t2_false v1 t).elim⟩

theorem chk33_12 (i : grid0.Coords) (v1 : BitVec 32) (h : LenOk v1) : k0_chk33_12 i v1 :=
  ⟨fun t => (t2_false v1 t).elim,
   fun t => (t2_false v1 t).elim,
   fun t => (t2_false v1 t).elim,
   fun t => (t2_false v1 t).elim,
   fun t => (t2_false v1 t).elim,
   fun t => (t2_false v1 t).elim⟩

theorem chk33 (i : grid0.Coords) (v1 : BitVec 32) (h : LenOk v1) : k0_chk33 i v1 :=
  ⟨chk33_0 i v1 h, chk33_1 i v1 h, chk33_2 i v1 h, chk33_3 i v1 h, chk33_4 i v1 h, chk33_5 i v1 h, chk33_6 i v1 h, chk33_7 i v1 h, chk33_8 i v1 h, chk33_9 i v1 h, chk33_10 i v1 h, chk33_11 i v1 h, chk33_12 i v1 h⟩

end Cert.KernelIdeal.Gen

end
-- ==== Proof.KernelIdeal.Steps.lean ====
/- The rules of a batch of page copies: starting one, waiting for one copy, waiting for the last, reading a page number
   out of the table, and reading the half of the double buffer a finished batch filled. -/
module

public import proofs.«01_k».proof.Proof.KernelIdeal.Base
public import proofs.«01_k».proof.Proof.KernelIdeal.Copies
public import proofs.«01_k».proof.Proof.KernelIdeal.Words

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

abbrev WP (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

/-- What a core that owes nothing holds of the waits it has made. -/
def Ow (c : Dev nD) : sProp 𝕄 := iprop(∃ W, owes (c : Thread nD τ) 0 W)

theorem idle_start (c : Dev nD) (fh : Buf (Elt F) (poolL c)) (s : Fin 2) (g : Buf (Elt F) (bufL c)) (w : Fin 32 → Fin 40960) :
    Idle c fh s g ⊢ |={Set.univ}=> Iss c fh s g w 0 := by
  unfold Idle Iss
  have e : delivs c fh s w 0 = [] := rfl
  rw [e, Transfers.issued_zero, bigSep_empty, Transfers.pending_zero]
  iintro ⟨Hv, HF⟩
  imod (Transfers.batched_alloc (countersEmb (U := Pipeline.UD sig nD τ)) (c : Thread nD τ) () amt 32) $$ Hv with HB
  imodintro
  isplitl [HB]; · iexact HB
  isplitr; · iempintro
  iexact HF

theorem iss_full (c : Dev nD) (fh : Buf (Elt F) (poolL c)) (s : Fin 2) (g : Buf (Elt F) (bufL c)) (w : Fin 32 → Fin 40960) :
    Iss c fh s g w 32 ⊢ Wt c fh s w 0 := by
  unfold Iss Wt
  have e : (Transfers.pending 32 : Finset (Fin 32)) = ∅ := by
    ext t; simp [Transfers.pending]
  rw [e, bigSep_empty, Transfers.issued_all rfl, Nat.zero_mul]
  iintro ⟨HB, HR, -⟩
  isplitl [HB]; · iexact HB
  iexact HR

theorem issue_step' (c : Dev nD) (fh : Buf (Elt F) (poolL c)) (s : Fin 2) (g : Buf (Elt F) (bufL c)) (w : Fin 32 → Fin 40960) (n : ℕ) (hn : n < 32)
    {off : Fin 4 → ℕ} {h} (hoff : off = ![s.val, n, 0, 0]) {offs : Fin 1 → ℕ} {hs} (hoffs : offs = ![s.val])
    {offp : Fin 3 → ℕ} {hp} (hoffp : offp = ![(w ⟨n, hn⟩).val, 0, 0]) {hsrc hdst hsem} {α : Type}
    {k : PUnit → Prog (TpuEff nD τ sig (Elt F) Λ₀ .tc) α} {Q : α → sProp 𝕄} :
    Iss c fh s g w n ⊢ iprop((Iss c fh s g w (n + 1) -∗ WP c (k ⟨⟩) Q)
      -∗ WP c (Prog.lift (.enqueueDma (pageM offp hp) (.here (slotM off h)) (.dma (cellM offs hs)) hsrc hdst hsem) >>= k) Q) :=
  issue_step c fh s g w n hn hoff hoffs hoffp

theorem wait_step (c : Dev nD) (fh : Buf (Elt F) (poolL c)) (s : Fin 2) (w : Fin 32 → Fin 40960) (u : ℕ) (hu : u + 1 < 32)
    {off : Fin 4 → ℕ} {h} {offs : Fin 1 → ℕ} {hs} (hoffs : offs = ![s.val])
    {offp : Fin 3 → ℕ} {hp} {hsrc hdst} {α : Type}
    {k : PUnit → Prog (TpuEff nD τ sig (Elt F) Λ₀ .tc) α} {Q : α → sProp 𝕄} :
    iprop(Wt c fh s w u ∗ Ow c) ⊢ iprop((iprop(Wt c fh s w (u + 1) ∗ Ow c) -∗ WP c (k ⟨⟩) Q)
      -∗ WP c (Prog.lift (.waitDma2 (cellM offs hs) (pageM offp hp) (slotM off h) hsrc hdst) >>= k) Q) := by
  subst hoffs
  unfold Wt Ow
  iintro ⟨⟨HB, HR⟩, ⟨%W, HO⟩⟩ Hk
  have hlt : u * amt + amt < amt * 32 := by
    have := amt_pos
    calc u * amt + amt = (u + 1) * amt := (Nat.succ_mul u amt).symm
      _ < 32 * amt := Nat.mul_lt_mul_of_pos_right hu this
      _ = amt * 32 := Nat.mul_comm _ _
  iapply (Transfers.wp_waitBatched (countersEmb (U := Pipeline.UD sig nD τ)) Variants.none (c : Thread nD τ) none
    (Ds := delivs c fh s w 32) (u := u * amt) (m := 32) (sem := cellM ![s.val] hs) (dstw := slotM off h)
    () (N := amt) rfl (delivs_length _ _ _ _ _ le_rfl) hlt) $$ [HB HO]
  · isplitl [HB]; · iexact HB
    iexact HO
  iintro ⟨HB, HO⟩
  iapply Hk
  isplitl [HB HR]
  · isplitl [HB]
    · rw [Nat.succ_mul]; iexact HB
    iexact HR
  iexists _; iexact HO

theorem half_back (c : Dev nD) (fh : Buf (Elt F) (poolL c)) (s : Fin 2) (w : Fin 32 → Fin 40960) :
    iprop(bigSep Finset.univ (Transfers.deliv (m := 32) (delivs c fh s w 32)) ∗ bigSep Finset.univ (rest1 c fh s w))
      ⊢ bigSep Finset.univ (free1 c fh s (landed c w fh)) := by
  have e0 : (bigSep Finset.univ (Transfers.deliv (m := 32) (delivs c fh s w 32)) : sProp 𝕄) = bigSep Finset.univ (deliv1 c fh s w) := by
    refine BI.bigSep_congr fun t _ => ?_
    unfold Transfers.deliv delivs
    simp [List.getD_eq_getElem?_getD]
  have e : (bigSep Finset.univ (fun i => iprop(deliv1 c fh s w i ∗ rest1 c fh s w i)) : sProp 𝕄)
      = iprop(bigSep Finset.univ (deliv1 c fh s w) ∗ bigSep Finset.univ (rest1 c fh s w)) := BI.bigSep_sep _ _ _
  rw [e0, ← e]
  have key : ∀ t, iprop(deliv1 c fh s w t ∗ rest1 c fh s w t) ⊢ free1 c fh s (landed c w fh) t := by
    intro t
    unfold deliv1 rest1 free1
    iintro ⟨⟨Hs, Hp⟩, Hr⟩
    isplitl [Hs]; · iexact Hs
    iapply (pointsTo_split_subset (Finset.subset_univ (pageSet (w t)))).2
    isplitl [Hp] <;> iassumption
  exact BI.bigSep_mono fun t _ => key t

theorem wait_last (c : Dev nD) (fh : Buf (Elt F) (poolL c)) (s : Fin 2) (w : Fin 32 → Fin 40960)
    {off : Fin 4 → ℕ} {h} {offs : Fin 1 → ℕ} {hs} (hoffs : offs = ![s.val])
    {offp : Fin 3 → ℕ} {hp} {hsrc hdst} {α : Type}
    {k : PUnit → Prog (TpuEff nD τ sig (Elt F) Λ₀ .tc) α} {Q : α → sProp 𝕄} :
    iprop(Wt c fh s w 31 ∗ Ow c) ⊢ iprop((iprop(Idle c fh s (landed c w fh) ∗ Ow c) -∗ WP c (k ⟨⟩) Q)
      -∗ WP c (Prog.lift (.waitDma2 (cellM offs hs) (pageM offp hp) (slotM off h) hsrc hdst) >>= k) Q) := by
  subst hoffs
  unfold Wt Ow Idle
  iintro ⟨⟨HB, HR⟩, ⟨%W, HO⟩⟩ Hk
  iapply (Transfers.wp_waitBatchedAll (countersEmb (U := Pipeline.UD sig nD τ)) Variants.none (c : Thread nD τ) none
    (Ds := delivs c fh s w 32) (u := 31 * amt) (m := 32) (sem := cellM ![s.val] hs) (dstw := slotM off h)
    () (N := amt) (J := amt) rfl amt_pos (delivs_length _ _ _ _ _ le_rfl) (by omega)) $$ [HB HO]
  · isplitl [HB]; · iexact HB
    iexact HO
  iintro ⟨HD, Hv, HO⟩
  iapply Hk
  isplitl [HD Hv HR]
  · isplitl [Hv]; · iexact Hv
    iapply (half_back c fh s w)
    isplitl [HD]; · iexact HD
    iexact HR
  iexists _; iexact HO

/-! ## The page numbers -/

/-- Word `p` of row `b` of the page table. -/
def wd (c : Dev nD) (xt0 : TbBuf0 (F := F) c tbM0_0) (b : Fin 32) (p : Fin 1024) : BitVec 32 := xt0 (ix2 b p)

theorem word_step (c : Dev nD) (xt0 : TbBuf0 (F := F) c tbM0_0) (b : Fin 32) (p : Fin 1024)
    {off : Fin 2 → ℕ} {h} (hoff : off = ![b.val, p.val]) {h1 hp} {α : Type}
    {k : BitVec 32 → Prog (TpuEff nD τ sig (Elt F) Λ₀ .tc) α} {Q : α → sProp 𝕄} :
    tbPt0 c tbM0_0 xt0 ⊢ iprop((tbPt0 c tbM0_0 xt0 -∗ WP c (k (wd c xt0 b p)) Q)
      -∗ WP c (smemLoad tbM0_0 (Rect.unit (s := S32x1024) off S1x1.size h) h1 hp >>= k) Q) := by
  subst hoff
  iintro HT Hk
  iapply (wp_smemLoadElt_named (defs := defs₀ (F := F)) (𝒱 := Variants.none) (c := (c : Thread nD τ)) (bd := none) (E := Set.univ)
    (m := tbM0_0) (r := Rect.unit (s := S32x1024) ![b.val, p.val] S1x1.size h) (hw := View.loads_smem_one hp h1)
    (x := Shape.Idx.first (h1.symm ▸ Nat.one_pos)) (k := fun w => k w) (f := xt0) (S := Finset.univ)) $$ HT
  iintro HT %w %hw
  have e : w = wd c xt0 b p := by
    rw [hw]
    show xt0 ((Rect.unit (s := S32x1024) ![b.val, p.val] S1x1.size h).emb _) = xt0 (ix2 b p)
    congr 1
    funext a; apply Fin.ext
    show (![b.val, p.val] : Fin 2 → ℕ) a + 1 * _ = _
    fin_cases a <;> simp [Shape.Idx.first]
  rw [e]
  iapply Hk; iexact HT

theorem assume_step (c : Dev nD) {P : Prop} {d : Decidable P} (h : P) {α : Type}
    {k : PLift P → Prog (TpuEff nD τ sig (Elt F) Λ₀ .tc) α} {Q : α → sProp 𝕄} :
    WP c (k ⟨h⟩) Q ⊢ WP c (Prog.lift (TpuEff.assume P d) >>= k) Q := by
  iintro H
  iapply (wp_assume _ _ _ _ h)
  iexact H

/-! ## Reading a half -/

theorem half_set (s : Fin 2) {off : Fin 4 → ℕ} {h} (hoff : off = ![s.val, 0, 0, 0]) :
    ((Memref.whole cc0_scratch0 : Memref sig .tc .vmem S2x32x16x656 .i8).access (Rect.unit (s := S2x32x16x656) off S1x32x16x656.size h)).set
      ⊆ (Finset.univ : Finset (Fin 32)).biUnion (slotSet s) := by
  subst hoff
  intro i hi
  obtain ⟨x, -, rfl⟩ := Finset.mem_map.mp hi
  simp only [Finset.mem_biUnion, Finset.mem_univ, _root_.true_and]
  refine ⟨⟨(x 1).val, (x 1).isLt⟩, ?_⟩
  simp only [slotSet, Finset.mem_filter, Finset.mem_univ, _root_.true_and]
  have h0 : (x 0).val < 1 := (x 0).isLt
  constructor
  · show s.val + 1 * (x 0).val = s.val
    omega
  · show 0 + 1 * (x 1).val = (x 1).val
    omega

/-- What the half holds once pages `w` have landed, as the vector the kernel loads. -/
def block (c : Dev nD) (w : Fin 32 → Fin 40960) (fh : Buf (Elt F) (poolL c)) : Vec F S1x32x16x656 .i8 :=
  fun x => fh (ix3 (w (x 1)) (x 2) (x 3))

theorem load_half (c : Dev nD) (fh : Buf (Elt F) (poolL c)) (s : Fin 2) (w : Fin 32 → Fin 40960)
    {off : Fin 4 → ℕ} {h} (hoff : off = ![s.val, 0, 0, 0]) {hl} {α : Type}
    {k : Vec F S1x32x16x656 .i8 → Prog (TpuEff nD τ sig (Elt F) Λ₀ .tc) α} {Q : α → sProp 𝕄} :
    Idle c fh s (landed c w fh) ⊢ iprop((Idle c fh s (landed c w fh) -∗ WP c (k (block c w fh)) Q)
      -∗ WP c (Prog.lift (.load (Memref.whole cc0_scratch0 : Memref sig .tc .vmem S2x32x16x656 .i8) (Rect.unit (s := S2x32x16x656) off S1x32x16x656.size h).toLoadRect hl) >>= k) Q) := by
  unfold Idle
  have hd : ∀ t ∈ (Finset.univ : Finset (Fin 32)), ∀ t' ∈ (Finset.univ : Finset (Fin 32)), t ≠ t' → Disjoint (slotSet s t) (slotSet s t') := by
    intro t _ t' _ hne
    rw [Finset.disjoint_left]
    intro i hi hi'
    simp only [slotSet, Finset.mem_filter, Finset.mem_univ, _root_.true_and] at hi hi'
    exact hne (Fin.ext (hi.2.symm.trans hi'.2))
  have e : (bigSep Finset.univ (free1 c fh s (landed c w fh)) : sProp 𝕄)
      = iprop((bufL c ↦[(Finset.univ : Finset (Fin 32)).biUnion (slotSet s)]{fullShare} landed c w fh) ∗ bigSep Finset.univ (fun n => (poolL c ↦{tk s n} fh))) := by
    rw [pointsTo_biUnion (ℓ := bufL c) _ _ hd]
    exact BI.bigSep_sep Finset.univ _ _
  rw [e]
  iintro ⟨Hv, Hb, Hp⟩ Hk
  iapply (wp_load_rect (defs := defs₀ (F := F)) Variants.none (c : Thread nD τ) none Set.univ
    (m := (Memref.whole cc0_scratch0 : Memref sig .tc .vmem S2x32x16x656 .i8)) (r := Rect.unit (s := S2x32x16x656) off S1x32x16x656.size h)
    (k := k) (f := landed c w fh) (half_set s (h := h) hoff)) $$ Hb
  iintro Hb
  have e2 : ((Memref.whole cc0_scratch0 : Memref sig .tc .vmem S2x32x16x656 .i8).access (Rect.unit (s := S2x32x16x656) off S1x32x16x656.size h)).read (Elt F) (landed c w fh) = block c w fh := by
    subst hoff
    funext x
    show fh (ix3 (w _) _ _) = fh (ix3 (w (x 1)) (x 2) (x 3))
    have a1 : ((Rect.unit (s := S2x32x16x656) ![s.val, 0, 0, 0] S1x32x16x656.size h).emb x 1 : Fin 32) = x 1 := Fin.ext (by show 0 + 1 * (x 1).val = _; omega)
    have a2 : ((Rect.unit (s := S2x32x16x656) ![s.val, 0, 0, 0] S1x32x16x656.size h).emb x 2 : Fin 16) = x 2 := Fin.ext (by show 0 + 1 * (x 2).val = _; omega)
    have a3 : ((Rect.unit (s := S2x32x16x656) ![s.val, 0, 0, 0] S1x32x16x656.size h).emb x 3 : Fin 656) = x 3 := Fin.ext (by show 0 + 1 * (x 3).val = _; omega)
    exact congrArg fh (by congr 1 <;> first | exact congrArg w a1 | exact a2 | exact a3)
  rw [e2]
  iapply Hk
  isplitl [Hv]; · iexact Hv
  isplitl [Hb] <;> iassumption

end Cert.KernelIdeal.Gen

end
-- ==== Proof.KernelIdeal.Loads.lean ====
/- A whole staging buffer loaded and stored, and a row's length read: one lemma per operation. -/
module

public import proofs.«01_k».proof.Proof.KernelIdeal.Base
public import proofs.«01_k».proof.Proof.KernelIdeal.Steps

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

theorem unit_emb {s : Shape} {off : Fin s.rank → ℕ} (hoff : off = fun _ => 0) (h) (x : s.Idx) :
    (Rect.unit (s := s) off s.size h).emb x = x := by
  subst hoff
  funext a; apply Fin.ext
  show 0 + 1 * (x a).val = _
  omega

theorem load_full (c : Dev nD) {s : Shape} {e : EltTy} (m : Memref sig .tc .vmem s e) (X : s.Idx → Elt F e)
    {off : Fin s.rank → ℕ} {h} (hoff : off = fun _ => 0) {hl} {α : Type}
    {k : (s.Idx → Elt F e) → Prog (TpuEff nD τ sig (Elt F) Λ₀ .tc) α} {Q : α → sProp 𝕄} :
    owns (c : Thread nD τ) m fullShare X ⊢ iprop((owns (c : Thread nD τ) m fullShare X -∗ WP c (k X) Q)
      -∗ WP c (Prog.lift (.load m (Rect.unit (s := s) off s.size h).toLoadRect hl) >>= k) Q) := by
  unfold owns
  iintro ⟨%f, %hf, H⟩ Hk
  iapply (wp_load_rect (defs := defs₀ (F := F)) Variants.none (c : Thread nD τ) none Set.univ
    (m := m) (r := Rect.unit (s := s) off s.size h) (k := k) (f := f) (View.set_slice_subset _ _)) $$ H
  iintro H
  have e2 : (m.access (Rect.unit (s := s) off s.size h)).read (Elt F) f = X := by
    funext x
    rw [← hf]
    show m.view.read (Elt F) f ((Rect.unit (s := s) off s.size h).emb x) = m.view.read (Elt F) f x
    rw [unit_emb hoff]
  rw [e2]
  iapply Hk
  iexists f
  isplitr; · ipureintro; exact hf
  iexact H

theorem store_full (c : Dev nD) {s : Shape} {e : EltTy} (m : Memref sig .tc .vmem s e) (X Y : s.Idx → Elt F e)
    {off : Fin s.rank → ℕ} {h} (hoff : off = fun _ => 0) {hx hm} {α : Type}
    {k : PUnit → Prog (TpuEff nD τ sig (Elt F) Λ₀ .tc) α} {Q : α → sProp 𝕄} :
    owns (c : Thread nD τ) m fullShare X ⊢ iprop((owns (c : Thread nD τ) m fullShare Y -∗ WP c (k ⟨⟩) Q)
      -∗ WP c (Prog.lift (.store m (Rect.unit (s := s) off s.size h) Y Finset.univ hx hm) >>= k) Q) := by
  unfold owns
  iintro ⟨%f, %hf, H⟩ Hk
  iapply (wp_store (defs := defs₀ (F := F)) Variants.none (c : Thread nD τ) none Set.univ
    (m := m) (r := Rect.unit (s := s) off s.size h) (k := k) (f := f) (w := Y) (View.set_slice_subset _ _)) $$ H
  iintro H
  iapply Hk
  iexists _
  isplitr; swap; · iexact H
  ipureintro
  funext x
  have e3 : (m.access (Rect.unit (s := s) off s.size h)).read (Elt F) ((m.access (Rect.unit (s := s) off s.size h)).write (Elt F) f Y Finset.univ) = Y :=
    View.read_write_univ _ _
  have e4 := congrFun e3 x
  rw [← e4]
  show m.view.read (Elt F) _ x = m.view.read (Elt F) _ ((Rect.unit (s := s) off s.size h).emb x)
  rw [unit_emb hoff]

/-- The length of row `b`. -/
def len (c : Dev nD) (xt1 : TbBuf0 (F := F) c tbM0_1) (b : Fin 32) : BitVec 32 := xt1 (ix1 b)

theorem len_step (c : Dev nD) (xt1 : TbBuf0 (F := F) c tbM0_1) (b : Fin 32)
    {off : Fin 1 → ℕ} {h} (hoff : off = ![b.val]) {h1 hp} {α : Type}
    {k : BitVec 32 → Prog (TpuEff nD τ sig (Elt F) Λ₀ .tc) α} {Q : α → sProp 𝕄} :
    tbPt0 c tbM0_1 xt1 ⊢ iprop((tbPt0 c tbM0_1 xt1 -∗ WP c (k (len c xt1 b)) Q)
      -∗ WP c (smemLoad tbM0_1 (Rect.unit (s := S32) off S1.size h) h1 hp >>= k) Q) := by
  subst hoff
  iintro HT Hk
  iapply (wp_smemLoadElt_named (defs := defs₀ (F := F)) (𝒱 := Variants.none) (c := (c : Thread nD τ)) (bd := none) (E := Set.univ)
    (m := tbM0_1) (r := Rect.unit (s := S32) ![b.val] S1.size h) (hw := View.loads_smem_one hp h1)
    (x := Shape.Idx.first (h1.symm ▸ Nat.one_pos)) (k := fun w => k w) (f := xt1) (S := Finset.univ)) $$ HT
  iintro HT %w %hw
  have e : w = len c xt1 b := by
    rw [hw]
    show xt1 ((Rect.unit (s := S32) ![b.val] S1.size h).emb _) = xt1 (ix1 b)
    congr 1
    funext a; apply Fin.ext
    show (![b.val] : Fin 1 → ℕ) a + 1 * _ = _
    fin_cases a; simp [Shape.Idx.first]
  rw [e]
  iapply Hk; iexact HT

end Cert.KernelIdeal.Gen

end
-- ==== Proof.KernelIdeal.Pages.lean ====
/- The words a batch of copies is issued by: the page numbers of a block of 32 pages, and where the kernel finds each. -/
module

public import proofs.«01_k».proof.Proof.KernelIdeal.Base
public import proofs.«01_k».proof.Proof.KernelIdeal.Steps

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

/-- Page `n` of block `k` of a row: the row's page `32 k + n` (past the row's end, which no block the kernel copies
    reaches, the count wraps). -/
def pidx (k n : ℕ) : Fin 1024 := ⟨(32 * k + n) % 1024, Nat.mod_lt _ (by decide)⟩

/-- The page numbers of block `k` of row `b`. -/
def pgs (c : Dev nD) (xt0 : TbBuf0 (F := F) c tbM0_0) (HP : ∀ x, (xt0 x).toNat < 40960) (b : Fin 32) (k : ℕ) : Fin 32 → Fin 40960 :=
  fun n => ⟨(wd c xt0 b (pidx k n.val)).toNat, HP _⟩

/-- The half block `k` lies in. -/
def half (k : ℕ) : Fin 2 := ⟨k % 2, Nat.mod_lt _ (by decide)⟩

theorem off_row (i : grid0.Coords) (b : Fin 32) (hb : (i 0).val = b.val) {u : ℕ} {p : Fin 1024} (h : u = p.val) :
    (![(BitVec.ofNat 32 (i 0).val).toNat, u] : Fin 2 → ℕ) = ![b.val, p.val] := by
  rw [grid_ofNat, hb, h]
theorem off_pg (v1 : BitVec 32) (h : LenOk v1) (t : Fin (k0_t1_loop v1).trips) (h2 : k0_cond2 v1 t = 1#1) (n : ℕ) (hn : n < 32) :
    (pgW (Scf.iv 0#32 1#32 t) (BitVec.ofNat 32 n)).toNat = (pidx (t.val + 1) n).val := by
  have h3 := pg_lt v1 h t h2 n hn
  rw [pg_ofNat t n (t1_lt v1 h t) hn] at h3 ⊢
  exact (Nat.mod_eq_of_lt h3).symm
theorem off_nxt (v1 : BitVec 32) (h : LenOk v1) (t : Fin (k0_t1_loop v1).trips) :
    (![(nxtW (Scf.iv 0#32 1#32 t)).toNat] : Fin 1 → ℕ) = ![(half (t.val + 1)).val] := by
  rw [nxt_ofNat t (t1_lt v1 h t)]; rfl
theorem off_nxt4 (v1 : BitVec 32) (h : LenOk v1) (t : Fin (k0_t1_loop v1).trips) (n : ℕ) :
    (![(nxtW (Scf.iv 0#32 1#32 t)).toNat, n, 0, 0] : Fin 4 → ℕ) = ![(half (t.val + 1)).val, n, 0, 0] := by
  rw [nxt_ofNat t (t1_lt v1 h t)]; rfl
theorem off_cur (v1 : BitVec 32) (h : LenOk v1) (t : Fin (k0_t1_loop v1).trips) :
    (![(curW (Scf.iv 0#32 1#32 t)).toNat] : Fin 1 → ℕ) = ![(half t.val).val] := by
  rw [cur_ofNat t (t1_lt v1 h t)]; rfl
theorem off_cur4 (v1 : BitVec 32) (h : LenOk v1) (t : Fin (k0_t1_loop v1).trips) (n : ℕ) :
    (![(curW (Scf.iv 0#32 1#32 t)).toNat, n, 0, 0] : Fin 4 → ℕ) = ![(half t.val).val, n, 0, 0] := by
  rw [cur_ofNat t (t1_lt v1 h t)]; rfl

theorem ret_step (c : Dev nD) {α : Type} {x : α} {Q : α → sProp 𝕄} : Q x ⊢ WP c (pure x) Q := by
  unfold WP; rw [wp_pure]
  iintro H
  imodintro
  iexact H
theorem bind_step (c : Dev nD) {α β : Type} {p : Prog (TpuEff nD τ sig (Elt F) Λ₀ .tc) β} {k : β → Prog (TpuEff nD τ sig (Elt F) Λ₀ .tc) α} {Q : α → sProp 𝕄} :
    WP c p (fun x => WP c (k x) Q) ⊢ WP c (p >>= k) Q := by
  unfold WP; rw [wp_bind]

theorem eq_off66 (i : grid0.Coords) (b : Fin 32) (hb : (i 0).val = b.val) (v1 : BitVec 32) (h : LenOk v1) (t : Fin (k0_t1_loop v1).trips) (h2 : k0_cond2 v1 t = 1#1) :
    k0_off66 i v1 t = ![b.val, (pidx (t.val + 1) 0).val] := off_row i b hb (off_pg v1 h t h2 0 (by decide))
theorem eq_off67 (v1 : BitVec 32) (h : LenOk v1) (t : Fin (k0_t1_loop v1).trips) : k0_off67 v1 t = ![(half (t.val + 1)).val] := off_nxt v1 h t
theorem eq_off68 (v1 : BitVec 32) (h : LenOk v1) (t : Fin (k0_t1_loop v1).trips) : k0_off68 v1 t = ![(half (t.val + 1)).val, 0, 0, 0] := off_nxt4 v1 h t 0
theorem eq_off70 (i : grid0.Coords) (b : Fin 32) (hb : (i 0).val = b.val) (v1 : BitVec 32) (h : LenOk v1) (t : Fin (k0_t1_loop v1).trips) (h2 : k0_cond2 v1 t = 1#1) :
    k0_off70 i v1 t = ![b.val, (pidx (t.val + 1) 1).val] := off_row i b hb (off_pg v1 h t h2 1 (by decide))
theorem eq_off71 (v1 : BitVec 32) (h : LenOk v1) (t : Fin (k0_t1_loop v1).trips) : k0_off71 v1 t = ![(half (t.val + 1)).val] := off_nxt v1 h t
theorem eq_off72 (v1 : BitVec 32) (h : LenOk v1) (t : Fin (k0_t1_loop v1).trips) : k0_off72 v1 t = ![(half (t.val + 1)).val, 1, 0, 0] := off_nxt4 v1 h t 1
theorem eq_off74 (i : grid0.Coords) (b : Fin 32) (hb : (i 0).val = b.val) (v1 : BitVec 32) (h : LenOk v1) (t : Fin (k0_t1_loop v1).trips) (h2 : k0_cond2 v1 t = 1#1) :
    k0_off74 i v1 t = ![b.val, (pidx (t.val + 1) 2).val] := off_row i b hb (off_pg v1 h t h2 2 (by decide))
theorem eq_off75 (v1 : BitVec 32) (h : LenOk v1) (t : Fin (k0_t1_loop v1).trips) : k0_off75 v1 t = ![(half (t.val + 1)).val] := off_nxt v1 h t
theorem eq_off76 (v1 : BitVec 32) (h : LenOk v1) (t : Fin (k0_t1_loop v1).trips) : k0_off76 v1 t = ![(half (t.val + 1)).val, 2, 0, 0] := off_nxt4 v1 h t 2
theorem eq_off78 (i : grid0.Coords) (b : Fin 32) (hb : (i 0).val = b.val) (v1 : BitVec 32) (h : LenOk v1) (t : Fin (k0_t1_loop v1).trips) (h2 : k0_cond2 v1 t = 1#1) :
    k0_off78 i v1 t = ![b.val, (pidx (t.val + 1) 3).val] := off_row i b hb (off_pg v1 h t h2 3 (by decide))
theorem eq_off79 (v1 : BitVec 32) (h : LenOk v1) (t : Fin (k0_t1_loop v1).trips) : k0_off79 v1 t = ![(half (t.val + 1)).val] := off_nxt v1 h t
theorem eq_off80 (v1 : BitVec 32) (h : LenOk v1) (t : Fin (k0_t1_loop v1).trips) : k0_off80 v1 t = ![(half (t.val + 1)).val, 3, 0, 0] := off_nxt4 v1 h t 3
theorem eq_off82 (i : grid0.Coords) (b : Fin 32) (hb : (i 0).val = b.val) (v1 : BitVec 32) (h : LenOk v1) (t : Fin (k0_t1_loop v1).trips) (h2 : k0_cond2 v1 t = 1#1) :
    k0_off82 i v1 t = ![b.val, (pidx (t.val + 1) 4).val] := off_row i b hb (off_pg v1 h t h2 4 (by decide))
theorem eq_off83 (v1 : BitVec 32) (h : LenOk v1) (t : Fin (k0_t1_loop v1).trips) : k0_off83 v1 t = ![(half (t.val + 1)).val] := off_nxt v1 h t
theorem eq_off84 (v1 : BitVec 32) (h : LenOk v1) (t : Fin (k0_t1_loop v1).trips) : k0_off84 v1 t = ![(half (t.val + 1)).val, 4, 0, 0] := off_nxt4 v1 h t 4
theorem eq_off86 (i : grid0.Coords) (b : Fin 32) (hb : (i 0).val = b.val) (v1 : BitVec 32) (h : LenOk v1) (t : Fin (k0_t1_loop v1).trips) (h2 : k0_cond2 v1 t = 1#1) :
    k0_off86 i v1 t = ![b.val, (pidx (t.val + 1) 5).val] := off_row i b hb (off_pg v1 h t h2 5 (by decide))
theorem eq_off87 (v1 : BitVec 32) (h : LenOk v1) (t : Fin (k0_t1_loop v1).trips) : k0_off87 v1 t = ![(half (t.val + 1)).val] := off_nxt v1 h t
theorem eq_off88 (v1 : BitVec 32) (h : LenOk v1) (t : Fin (k0_t1_loop v1).trips) : k0_off88 v1 t = ![(half (t.val + 1)).val, 5, 0, 0] := off_nxt4 v1 h t 5
theorem eq_off90 (i : grid0.Coords) (b : Fin 32) (hb : (i 0).val = b.val) (v1 : BitVec 32) (h : LenOk v1) (t : Fin (k0_t1_loop v1).trips) (h2 : k0_cond2 v1 t = 1#1) :
    k0_off90 i v1 t = ![b.val, (pidx (t.val + 1) 6).val] := off_row i b hb (off_pg v1 h t h2 6 (by decide))
theorem eq_off91 (v1 : BitVec 32) (h : LenOk v1) (t : Fin (k0_t1_loop v1).trips) : k0_off91 v1 t = ![(half (t.val + 1)).val] := off_nxt v1 h t
theorem eq_off92 (v1 : BitVec 32) (h : LenOk v1) (t : Fin (k0_t1_loop v1).trips) : k0_off92 v1 t = ![(half (t.val + 1)).val, 6, 0, 0] := off_nxt4 v1 h t 6
theorem eq_off94 (i : grid0.Coords) (b : Fin 32) (hb : (i 0).val = b.val) (v1 : BitVec 32) (h : LenOk v1) (t : Fin (k0_t1_loop v1).trips) (h2 : k0_cond2 v1 t = 1#1) :
    k0_off94 i v1 t = ![b.val, (pidx (t.val + 1) 7).val] := off_row i b hb (off_pg v1 h t h2 7 (by decide))
theorem eq_off95 (v1 : BitVec 32) (h : LenOk v1) (t : Fin (k0_t1_loop v1).trips) : k0_off95 v1 t = ![(half (t.val + 1)).val] := off_nxt v1 h t
theorem eq_off96 (v1 : BitVec 32) (h : LenOk v1) (t : Fin (k0_t1_loop v1).trips) : k0_off96 v1 t = ![(half (t.val + 1)).val, 7, 0, 0] := off_nxt4 v1 h t 7
theorem eq_off98 (i : grid0.Coords) (b : Fin 32) (hb : (i 0).val = b.val) (v1 : BitVec 32) (h : LenOk v1) (t : Fin (k0_t1_loop v1).trips) (h2 : k0_cond2 v1 t = 1#1) :
    k0_off98 i v1 t = ![b.val, (pidx (t.val + 1) 8).val] := off_row i b hb (off_pg v1 h t h2 8 (by decide))
theorem eq_off99 (v1 : BitVec 32) (h : LenOk v1) (t : Fin (k0_t1_loop v1).trips) : k0_off99 v1 t = ![(half (t.val + 1)).val] := off_nxt v1 h t
theorem eq_off100 (v1 : BitVec 32) (h : LenOk v1) (t : Fin (k0_t1_loop v1).trips) : k0_off100 v1 t = ![(half (t.val + 1)).val, 8, 0, 0] := off_nxt4 v1 h t 8
theorem eq_off102 (i : grid0.Coords) (b : Fin 32) (hb : (i 0).val = b.val) (v1 : BitVec 32) (h : LenOk v1) (t : Fin (k0_t1_loop v1).trips) (h2 : k0_cond2 v1 t = 1#1) :
    k0_off102 i v1 t = ![b.val, (pidx (t.val + 1) 9).val] := off_row i b hb (off_pg v1 h t h2 9 (by decide))
theorem eq_off103 (v1 : BitVec 32) (h : LenOk v1) (t : Fin (k0_t1_loop v1).trips) : k0_off103 v1 t = ![(half (t.val + 1)).val] := off_nxt v1 h t
theorem eq_off104 (v1 : BitVec 32) (h : LenOk v1) (t : Fin (k0_t1_loop v1).trips) : k0_off104 v1 t = ![(half (t.val + 1)).val, 9, 0, 0] := off_nxt4 v1 h t 9
theorem eq_off106 (i : grid0.Coords) (b : Fin 32) (hb : (i 0).val = b.val) (v1 : BitVec 32) (h : LenOk v1) (t : Fin (k0_t1_loop v1).trips) (h2 : k0_cond2 v1 t = 1#1) :
    k0_off106 i v1 t = ![b.val, (pidx (t.val + 1) 10).val] := off_row i b hb (off_pg v1 h t h2 10 (by decide))
theorem eq_off107 (v1 : BitVec 32) (h : LenOk v1) (t : Fin (k0_t1_loop v1).trips) : k0_off107 v1 t = ![(half (t.val + 1)).val] := off_nxt v1 h t
theorem eq_off108 (v1 : BitVec 32) (h : LenOk v1) (t : Fin (k0_t1_loop v1).trips) : k0_off108 v1 t = ![(half (t.val + 1)).val, 10, 0, 0] := off_nxt4 v1 h t 10
theorem eq_off110 (i : grid0.Coords) (b : Fin 32) (hb : (i 0).val = b.val) (v1 : BitVec 32) (h : LenOk v1) (t : Fin (k0_t1_loop v1).trips) (h2 : k0_cond2 v1 t = 1#1) :
    k0_off110 i v1 t = ![b.val, (pidx (t.val + 1) 11).val] := off_row i b hb (off_pg v1 h t h2 11 (by decide))
theorem eq_off111 (v1 : BitVec 32) (h : LenOk v1) (t : Fin (k0_t1_loop v1).trips) : k0_off111 v1 t = ![(half (t.val + 1)).val] := off_nxt v1 h t
theorem eq_off112 (v1 : BitVec 32) (h : LenOk v1) (t : Fin (k0_t1_loop v1).trips) : k0_off112 v1 t = ![(half (t.val + 1)).val, 11, 0, 0] := off_nxt4 v1 h t 11
theorem eq_off114 (i : grid0.Coords) (b : Fin 32) (hb : (i 0).val = b.val) (v1 : BitVec 32) (h : LenOk v1) (t : Fin (k0_t1_loop v1).trips) (h2 : k0_cond2 v1 t = 1#1) :
    k0_off114 i v1 t = ![b.val, (pidx (t.val + 1) 12).val] := off_row i b hb (off_pg v1 h t h2 12 (by decide))
theorem eq_off115 (v1 : BitVec 32) (h : LenOk v1) (t : Fin (k0_t1_loop v1).trips) : k0_off115 v1 t = ![(half (t.val + 1)).val] := off_nxt v1 h t
theorem eq_off116 (v1 : BitVec 32) (h : LenOk v1) (t : Fin (k0_t1_loop v1).trips) : k0_off116 v1 t = ![(half (t.val + 1)).val, 12, 0, 0] := off_nxt4 v1 h t 12
theorem eq_off118 (i : grid0.Coords) (b : Fin 32) (hb : (i 0).val = b.val) (v1 : BitVec 32) (h : LenOk v1) (t : Fin (k0_t1_loop v1).trips) (h2 : k0_cond2 v1 t = 1#1) :
    k0_off118 i v1 t = ![b.val, (pidx (t.val + 1) 13).val] := off_row i b hb (off_pg v1 h t h2 13 (by decide))
theorem eq_off119 (v1 : BitVec 32) (h : LenOk v1) (t : Fin (k0_t1_loop v1).trips) : k0_off119 v1 t = ![(half (t.val + 1)).val] := off_nxt v1 h t
theorem eq_off120 (v1 : BitVec 32) (h : LenOk v1) (t : Fin (k0_t1_loop v1).trips) : k0_off120 v1 t = ![(half (t.val + 1)).val, 13, 0, 0] := off_nxt4 v1 h t 13
theorem eq_off122 (i : grid0.Coords) (b : Fin 32) (hb : (i 0).val = b.val) (v1 : BitVec 32) (h : LenOk v1) (t : Fin (k0_t1_loop v1).trips) (h2 : k0_cond2 v1 t = 1#1) :
    k0_off122 i v1 t = ![b.val, (pidx (t.val + 1) 14).val] := off_row i b hb (off_pg v1 h t h2 14 (by decide))
theorem eq_off123 (v1 : BitVec 32) (h : LenOk v1) (t : Fin (k0_t1_loop v1).trips) : k0_off123 v1 t = ![(half (t.val + 1)).val] := off_nxt v1 h t
theorem eq_off124 (v1 : BitVec 32) (h : LenOk v1) (t : Fin (k0_t1_loop v1).trips) : k0_off124 v1 t = ![(half (t.val + 1)).val, 14, 0, 0] := off_nxt4 v1 h t 14
theorem eq_off126 (i : grid0.Coords) (b : Fin 32) (hb : (i 0).val = b.val) (v1 : BitVec 32) (h : LenOk v1) (t : Fin (k0_t1_loop v1).trips) (h2 : k0_cond2 v1 t = 1#1) :
    k0_off126 i v1 t = ![b.val, (pidx (t.val + 1) 15).val] := off_row i b hb (off_pg v1 h t h2 15 (by decide))
theorem eq_off127 (v1 : BitVec 32) (h : LenOk v1) (t : Fin (k0_t1_loop v1).trips) : k0_off127 v1 t = ![(half (t.val + 1)).val] := off_nxt v1 h t
theorem eq_off128 (v1 : BitVec 32) (h : LenOk v1) (t : Fin (k0_t1_loop v1).trips) : k0_off128 v1 t = ![(half (t.val + 1)).val, 15, 0, 0] := off_nxt4 v1 h t 15
theorem eq_off130 (i : grid0.Coords) (b : Fin 32) (hb : (i 0).val = b.val) (v1 : BitVec 32) (h : LenOk v1) (t : Fin (k0_t1_loop v1).trips) (h2 : k0_cond2 v1 t = 1#1) :
    k0_off130 i v1 t = ![b.val, (pidx (t.val + 1) 16).val] := off_row i b hb (off_pg v1 h t h2 16 (by decide))
theorem eq_off131 (v1 : BitVec 32) (h : LenOk v1) (t : Fin (k0_t1_loop v1).trips) : k0_off131 v1 t = ![(half (t.val + 1)).val] := off_nxt v1 h t
theorem eq_off132 (v1 : BitVec 32) (h : LenOk v1) (t : Fin (k0_t1_loop v1).trips) : k0_off132 v1 t = ![(half (t.val + 1)).val, 16, 0, 0] := off_nxt4 v1 h t 16
theorem eq_off134 (i : grid0.Coords) (b : Fin 32) (hb : (i 0).val = b.val) (v1 : BitVec 32) (h : LenOk v1) (t : Fin (k0_t1_loop v1).trips) (h2 : k0_cond2 v1 t = 1#1) :
    k0_off134 i v1 t = ![b.val, (pidx (t.val + 1) 17).val] := off_row i b hb (off_pg v1 h t h2 17 (by decide))
theorem eq_off135 (v1 : BitVec 32) (h : LenOk v1) (t : Fin (k0_t1_loop v1).trips) : k0_off135 v1 t = ![(half (t.val + 1)).val] := off_nxt v1 h t
theorem eq_off136 (v1 : BitVec 32) (h : LenOk v1) (t : Fin (k0_t1_loop v1).trips) : k0_off136 v1 t = ![(half (t.val + 1)).val, 17, 0, 0] := off_nxt4 v1 h t 17
theorem eq_off138 (i : grid0.Coords) (b : Fin 32) (hb : (i 0).val = b.val) (v1 : BitVec 32) (h : LenOk v1) (t : Fin (k0_t1_loop v1).trips) (h2 : k0_cond2 v1 t = 1#1) :
    k0_off138 i v1 t = ![b.val, (pidx (t.val + 1) 18).val] := off_row i b hb (off_pg v1 h t h2 18 (by decide))
theorem eq_off139 (v1 : BitVec 32) (h : LenOk v1) (t : Fin (k0_t1_loop v1).trips) : k0_off139 v1 t = ![(half (t.val + 1)).val] := off_nxt v1 h t
theorem eq_off140 (v1 : BitVec 32) (h : LenOk v1) (t : Fin (k0_t1_loop v1).trips) : k0_off140 v1 t = ![(half (t.val + 1)).val, 18, 0, 0] := off_nxt4 v1 h t 18
theorem eq_off142 (i : grid0.Coords) (b : Fin 32) (hb : (i 0).val = b.val) (v1 : BitVec 32) (h : LenOk v1) (t : Fin (k0_t1_loop v1).trips) (h2 : k0_cond2 v1 t = 1#1) :
    k0_off142 i v1 t = ![b.val, (pidx (t.val + 1) 19).val] := off_row i b hb (off_pg v1 h t h2 19 (by decide))
theorem eq_off143 (v1 : BitVec 32) (h : LenOk v1) (t : Fin (k0_t1_loop v1).trips) : k0_off143 v1 t = ![(half (t.val + 1)).val] := off_nxt v1 h t
theorem eq_off144 (v1 : BitVec 32) (h : LenOk v1) (t : Fin (k0_t1_loop v1).trips) : k0_off144 v1 t = ![(half (t.val + 1)).val, 19, 0, 0] := off_nxt4 v1 h t 19
theorem eq_off146 (i : grid0.Coords) (b : Fin 32) (hb : (i 0).val = b.val) (v1 : BitVec 32) (h : LenOk v1) (t : Fin (k0_t1_loop v1).trips) (h2 : k0_cond2 v1 t = 1#1) :
    k0_off146 i v1 t = ![b.val, (pidx (t.val + 1) 20).val] := off_row i b hb (off_pg v1 h t h2 20 (by decide))
theorem eq_off147 (v1 : BitVec 32) (h : LenOk v1) (t : Fin (k0_t1_loop v1).trips) : k0_off147 v1 t = ![(half (t.val + 1)).val] := off_nxt v1 h t
theorem eq_off148 (v1 : BitVec 32) (h : LenOk v1) (t : Fin (k0_t1_loop v1).trips) : k0_off148 v1 t = ![(half (t.val + 1)).val, 20, 0, 0] := off_nxt4 v1 h t 20
theorem eq_off150 (i : grid0.Coords) (b : Fin 32) (hb : (i 0).val = b.val) (v1 : BitVec 32) (h : LenOk v1) (t : Fin (k0_t1_loop v1).trips) (h2 : k0_cond2 v1 t = 1#1) :
    k0_off150 i v1 t = ![b.val, (pidx (t.val + 1) 21).val] := off_row i b hb (off_pg v1 h t h2 21 (by decide))
theorem eq_off151 (v1 : BitVec 32) (h : LenOk v1) (t : Fin (k0_t1_loop v1).trips) : k0_off151 v1 t = ![(half (t.val + 1)).val] := off_nxt v1 h t
theorem eq_off152 (v1 : BitVec 32) (h : LenOk v1) (t : Fin (k0_t1_loop v1).trips) : k0_off152 v1 t = ![(half (t.val + 1)).val, 21, 0, 0] := off_nxt4 v1 h t 21
theorem eq_off154 (i : grid0.Coords) (b : Fin 32) (hb : (i 0).val = b.val) (v1 : BitVec 32) (h : LenOk v1) (t : Fin (k0_t1_loop v1).trips) (h2 : k0_cond2 v1 t = 1#1) :
    k0_off154 i v1 t = ![b.val, (pidx (t.val + 1) 22).val] := off_row i b hb (off_pg v1 h t h2 22 (by decide))
theorem eq_off155 (v1 : BitVec 32) (h : LenOk v1) (t : Fin (k0_t1_loop v1).trips) : k0_off155 v1 t = ![(half (t.val + 1)).val] := off_nxt v1 h t
theorem eq_off156 (v1 : BitVec 32) (h : LenOk v1) (t : Fin (k0_t1_loop v1).trips) : k0_off156 v1 t = ![(half (t.val + 1)).val, 22, 0, 0] := off_nxt4 v1 h t 22
theorem eq_off158 (i : grid0.Coords) (b : Fin 32) (hb : (i 0).val = b.val) (v1 : BitVec 32) (h : LenOk v1) (t : Fin (k0_t1_loop v1).trips) (h2 : k0_cond2 v1 t = 1#1) :
    k0_off158 i v1 t = ![b.val, (pidx (t.val + 1) 23).val] := off_row i b hb (off_pg v1 h t h2 23 (by decide))
theorem eq_off159 (v1 : BitVec 32) (h : LenOk v1) (t : Fin (k0_t1_loop v1).trips) : k0_off159 v1 t = ![(half (t.val + 1)).val] := off_nxt v1 h t
theorem eq_off160 (v1 : BitVec 32) (h : LenOk v1) (t : Fin (k0_t1_loop v1).trips) : k0_off160 v1 t = ![(half (t.val + 1)).val, 23, 0, 0] := off_nxt4 v1 h t 23
theorem eq_off162 (i : grid0.Coords) (b : Fin 32) (hb : (i 0).val = b.val) (v1 : BitVec 32) (h : LenOk v1) (t : Fin (k0_t1_loop v1).trips) (h2 : k0_cond2 v1 t = 1#1) :
    k0_off162 i v1 t = ![b.val, (pidx (t.val + 1) 24).val] := off_row i b hb (off_pg v1 h t h2 24 (by decide))
theorem eq_off163 (v1 : BitVec 32) (h : LenOk v1) (t : Fin (k0_t1_loop v1).trips) : k0_off163 v1 t = ![(half (t.val + 1)).val] := off_nxt v1 h t
theorem eq_off164 (v1 : BitVec 32) (h : LenOk v1) (t : Fin (k0_t1_loop v1).trips) : k0_off164 v1 t = ![(half (t.val + 1)).val, 24, 0, 0] := off_nxt4 v1 h t 24
theorem eq_off166 (i : grid0.Coords) (b : Fin 32) (hb : (i 0).val = b.val) (v1 : BitVec 32) (h : LenOk v1) (t : Fin (k0_t1_loop v1).trips) (h2 : k0_cond2 v1 t = 1#1) :
    k0_off166 i v1 t = ![b.val, (pidx (t.val + 1) 25).val] := off_row i b hb (off_pg v1 h t h2 25 (by decide))
theorem eq_off167 (v1 : BitVec 32) (h : LenOk v1) (t : Fin (k0_t1_loop v1).trips) : k0_off167 v1 t = ![(half (t.val + 1)).val] := off_nxt v1 h t
theorem eq_off168 (v1 : BitVec 32) (h : LenOk v1) (t : Fin (k0_t1_loop v1).trips) : k0_off168 v1 t = ![(half (t.val + 1)).val, 25, 0, 0] := off_nxt4 v1 h t 25
theorem eq_off170 (i : grid0.Coords) (b : Fin 32) (hb : (i 0).val = b.val) (v1 : BitVec 32) (h : LenOk v1) (t : Fin (k0_t1_loop v1).trips) (h2 : k0_cond2 v1 t = 1#1) :
    k0_off170 i v1 t = ![b.val, (pidx (t.val + 1) 26).val] := off_row i b hb (off_pg v1 h t h2 26 (by decide))
theorem eq_off171 (v1 : BitVec 32) (h : LenOk v1) (t : Fin (k0_t1_loop v1).trips) : k0_off171 v1 t = ![(half (t.val + 1)).val] := off_nxt v1 h t
theorem eq_off172 (v1 : BitVec 32) (h : LenOk v1) (t : Fin (k0_t1_loop v1).trips) : k0_off172 v1 t = ![(half (t.val + 1)).val, 26, 0, 0] := off_nxt4 v1 h t 26
theorem eq_off174 (i : grid0.Coords) (b : Fin 32) (hb : (i 0).val = b.val) (v1 : BitVec 32) (h : LenOk v1) (t : Fin (k0_t1_loop v1).trips) (h2 : k0_cond2 v1 t = 1#1) :
    k0_off174 i v1 t = ![b.val, (pidx (t.val + 1) 27).val] := off_row i b hb (off_pg v1 h t h2 27 (by decide))
theorem eq_off175 (v1 : BitVec 32) (h : LenOk v1) (t : Fin (k0_t1_loop v1).trips) : k0_off175 v1 t = ![(half (t.val + 1)).val] := off_nxt v1 h t
theorem eq_off176 (v1 : BitVec 32) (h : LenOk v1) (t : Fin (k0_t1_loop v1).trips) : k0_off176 v1 t = ![(half (t.val + 1)).val, 27, 0, 0] := off_nxt4 v1 h t 27
theorem eq_off178 (i : grid0.Coords) (b : Fin 32) (hb : (i 0).val = b.val) (v1 : BitVec 32) (h : LenOk v1) (t : Fin (k0_t1_loop v1).trips) (h2 : k0_cond2 v1 t = 1#1) :
    k0_off178 i v1 t = ![b.val, (pidx (t.val + 1) 28).val] := off_row i b hb (off_pg v1 h t h2 28 (by decide))
theorem eq_off179 (v1 : BitVec 32) (h : LenOk v1) (t : Fin (k0_t1_loop v1).trips) : k0_off179 v1 t = ![(half (t.val + 1)).val] := off_nxt v1 h t
theorem eq_off180 (v1 : BitVec 32) (h : LenOk v1) (t : Fin (k0_t1_loop v1).trips) : k0_off180 v1 t = ![(half (t.val + 1)).val, 28, 0, 0] := off_nxt4 v1 h t 28
theorem eq_off182 (i : grid0.Coords) (b : Fin 32) (hb : (i 0).val = b.val) (v1 : BitVec 32) (h : LenOk v1) (t : Fin (k0_t1_loop v1).trips) (h2 : k0_cond2 v1 t = 1#1) :
    k0_off182 i v1 t = ![b.val, (pidx (t.val + 1) 29).val] := off_row i b hb (off_pg v1 h t h2 29 (by decide))
theorem eq_off183 (v1 : BitVec 32) (h : LenOk v1) (t : Fin (k0_t1_loop v1).trips) : k0_off183 v1 t = ![(half (t.val + 1)).val] := off_nxt v1 h t
theorem eq_off184 (v1 : BitVec 32) (h : LenOk v1) (t : Fin (k0_t1_loop v1).trips) : k0_off184 v1 t = ![(half (t.val + 1)).val, 29, 0, 0] := off_nxt4 v1 h t 29
theorem eq_off186 (i : grid0.Coords) (b : Fin 32) (hb : (i 0).val = b.val) (v1 : BitVec 32) (h : LenOk v1) (t : Fin (k0_t1_loop v1).trips) (h2 : k0_cond2 v1 t = 1#1) :
    k0_off186 i v1 t = ![b.val, (pidx (t.val + 1) 30).val] := off_row i b hb (off_pg v1 h t h2 30 (by decide))
theorem eq_off187 (v1 : BitVec 32) (h : LenOk v1) (t : Fin (k0_t1_loop v1).trips) : k0_off187 v1 t = ![(half (t.val + 1)).val] := off_nxt v1 h t
theorem eq_off188 (v1 : BitVec 32) (h : LenOk v1) (t : Fin (k0_t1_loop v1).trips) : k0_off188 v1 t = ![(half (t.val + 1)).val, 30, 0, 0] := off_nxt4 v1 h t 30
theorem eq_off190 (i : grid0.Coords) (b : Fin 32) (hb : (i 0).val = b.val) (v1 : BitVec 32) (h : LenOk v1) (t : Fin (k0_t1_loop v1).trips) (h2 : k0_cond2 v1 t = 1#1) :
    k0_off190 i v1 t = ![b.val, (pidx (t.val + 1) 31).val] := off_row i b hb (off_pg v1 h t h2 31 (by decide))
theorem eq_off191 (v1 : BitVec 32) (h : LenOk v1) (t : Fin (k0_t1_loop v1).trips) : k0_off191 v1 t = ![(half (t.val + 1)).val] := off_nxt v1 h t
theorem eq_off192 (v1 : BitVec 32) (h : LenOk v1) (t : Fin (k0_t1_loop v1).trips) : k0_off192 v1 t = ![(half (t.val + 1)).val, 31, 0, 0] := off_nxt4 v1 h t 31
theorem eq_off194 (v1 : BitVec 32) (h : LenOk v1) (t : Fin (k0_t1_loop v1).trips) : k0_off194 v1 t = ![(half t.val).val] := off_cur v1 h t
theorem eq_off227 (v1 : BitVec 32) (h : LenOk v1) (t : Fin (k0_t1_loop v1).trips) : k0_off227 v1 t = ![(half t.val).val, 0, 0, 0] := off_cur4 v1 h t 0

end Cert.KernelIdeal.Gen

end
-- ==== Proof.KernelIdeal.Next.lean ====
/- The copies of the next block, as a trip of the loop issues them. -/
module

public import proofs.«01_k».proof.Proof.KernelIdeal.Base
public import proofs.«01_k».proof.Proof.KernelIdeal.Pages

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

variable (c : Dev nD) (i : grid0.Coords) (arg3 : Memref sig .tc .vmem S1x128x512 .bf16) (harg3 : arg3.IsWhole) (arg4 : Memref sig .tc .vmem S1x128x144 .bf16) (harg4 : arg4.IsWhole)
  (arg5 : Memref sig .tc .vmem S1x1x656 .i8) (harg5 : arg5.IsWhole) (arg7 : Memref sig .tc .vmem S1x128x512 .bf16) (harg7 : arg7.IsWhole) (arg8 : Memref sig .tc .vmem S1x128x1 .f32) (harg8 : arg8.IsWhole)
  (xt0 : TbBuf0 (F := F) c tbM0_0) (HP : ∀ x, (xt0 x).toNat < 40960) (fh : Buf (Elt F) (poolL c)) (b : Fin 32) (hb : (i 0).val = b.val)

section
include hb

theorem run_part10 (g : Buf (Elt F) (bufL c)) (arg0 : BitVec 32) (v1 : Elt F .i32) (k0_hw33 : k0_chk33 i v1) (k0_t1 : Fin (k0_t1_loop v1).trips) (arg11 : BitVec 32) (v144 : BitVec 32) (k0_h2 : k0_cond2 v1 k0_t1 = 1#1) (hL : LenOk v1) {α : Type} {k : (Σ' (v440 : BitVec 32) (v468 : Elt F .i32), k0_chk36 v1 k0_t1 v468) → Prog (TpuEff nD τ sig (Elt F) Λ₀ .tc) α} {Q : α → sProp 𝕄} :
    iprop(tbPt0 c tbM0_0 xt0 ∗ Iss c fh (half (k0_t1.val + 1)) g (pgs c xt0 HP b (k0_t1.val + 1)) 0)
      ⊢ iprop((∀ hw : k0_chk36 v1 k0_t1 (wd c xt0 b (pidx (k0_t1.val + 1) 2)), iprop(tbPt0 c tbM0_0 xt0 ∗ Iss c fh (half (k0_t1.val + 1)) g (pgs c xt0 HP b (k0_t1.val + 1)) 2) -∗ WP c (k ⟨Scalar.addi arg11 1#32, wd c xt0 b (pidx (k0_t1.val + 1) 2), hw⟩) Q)
        -∗ WP c (k0_part10 i tbM0_0 htbM0_0 tbM0_1 htbM0_1 arg3 harg3 arg4 harg4 arg5 harg5 (Memref.whole main_arg3) (Memref.isWhole_whole _) arg7 harg7 arg8 harg8 (Memref.whole cc0_scratch0) (Memref.isWhole_whole _) cc0_scratch1 arg0 v1 k0_hw33 k0_t1 arg11 v144 k0_h2 >>= k) Q) := by
  iintro ⟨HT, HI⟩ Hk
  iapply bind_step
  rw [k0_part10_eq_skeleton]; unfold k0_part10_skel; dsimp only
  iapply (word_step c xt0 b (pidx (k0_t1.val + 1) 0) (eq_off66 i b hb v1 hL k0_t1 k0_h2)) $$ HT; iintro HT
  iapply (assume_step c ⟨fun _ => inb_page (HP _), fun _ hinb => words_page _ hinb⟩)
  iapply (issue_step' c fh (half (k0_t1.val + 1)) g (pgs c xt0 HP b (k0_t1.val + 1)) 0 (by decide) (eq_off68 v1 hL k0_t1) (eq_off67 v1 hL k0_t1) rfl) $$ HI; iintro HI
  iapply (word_step c xt0 b (pidx (k0_t1.val + 1) 1) (eq_off70 i b hb v1 hL k0_t1 k0_h2)) $$ HT; iintro HT
  iapply (assume_step c ⟨fun _ => inb_page (HP _), fun _ hinb => words_page _ hinb⟩)
  iapply (issue_step' c fh (half (k0_t1.val + 1)) g (pgs c xt0 HP b (k0_t1.val + 1)) 1 (by decide) (eq_off72 v1 hL k0_t1) (eq_off71 v1 hL k0_t1) rfl) $$ HI; iintro HI
  iapply (word_step c xt0 b (pidx (k0_t1.val + 1) 2) (eq_off74 i b hb v1 hL k0_t1 k0_h2)) $$ HT; iintro HT
  iapply (assume_step c ⟨fun _ => inb_page (HP _), fun _ hinb => words_page _ hinb⟩)
  iapply ret_step
  iapply Hk
  isplitl [HT]; · iexact HT
  iexact HI

theorem run_part11 (g : Buf (Elt F) (bufL c)) (arg0 : BitVec 32) (v1 : Elt F .i32) (k0_hw33 : k0_chk33 i v1) (k0_t1 : Fin (k0_t1_loop v1).trips) (k0_h2 : k0_cond2 v1 k0_t1 = 1#1) (v440 : BitVec 32) (v468 : Elt F .i32) (k0_hw36 : k0_chk36 v1 k0_t1 v468) (hL : LenOk v1) (hv : v468 = wd c xt0 b (pidx (k0_t1.val + 1) 2)) {α : Type} {k : (Σ' (v501 : Elt F .i32), k0_chk39 v1 k0_t1 v501) → Prog (TpuEff nD τ sig (Elt F) Λ₀ .tc) α} {Q : α → sProp 𝕄} :
    iprop(tbPt0 c tbM0_0 xt0 ∗ Iss c fh (half (k0_t1.val + 1)) g (pgs c xt0 HP b (k0_t1.val + 1)) 2)
      ⊢ iprop((∀ hw : k0_chk39 v1 k0_t1 (wd c xt0 b (pidx (k0_t1.val + 1) 5)), iprop(tbPt0 c tbM0_0 xt0 ∗ Iss c fh (half (k0_t1.val + 1)) g (pgs c xt0 HP b (k0_t1.val + 1)) 5) -∗ WP c (k ⟨wd c xt0 b (pidx (k0_t1.val + 1) 5), hw⟩) Q)
        -∗ WP c (k0_part11 i tbM0_0 htbM0_0 tbM0_1 htbM0_1 arg3 harg3 arg4 harg4 arg5 harg5 (Memref.whole main_arg3) (Memref.isWhole_whole _) arg7 harg7 arg8 harg8 (Memref.whole cc0_scratch0) (Memref.isWhole_whole _) cc0_scratch1 arg0 v1 k0_hw33 k0_t1 k0_h2 v440 v468 k0_hw36 >>= k) Q) := by
  subst hv
  iintro ⟨HT, HI⟩ Hk
  iapply bind_step
  rw [k0_part11_eq_skeleton]; unfold k0_part11_skel; dsimp only
  iapply (issue_step' c fh (half (k0_t1.val + 1)) g (pgs c xt0 HP b (k0_t1.val + 1)) 2 (by decide) (eq_off76 v1 hL k0_t1) (eq_off75 v1 hL k0_t1) rfl) $$ HI; iintro HI
  iapply (word_step c xt0 b (pidx (k0_t1.val + 1) 3) (eq_off78 i b hb v1 hL k0_t1 k0_h2)) $$ HT; iintro HT
  iapply (assume_step c ⟨fun _ => inb_page (HP _), fun _ hinb => words_page _ hinb⟩)
  iapply (issue_step' c fh (half (k0_t1.val + 1)) g (pgs c xt0 HP b (k0_t1.val + 1)) 3 (by decide) (eq_off80 v1 hL k0_t1) (eq_off79 v1 hL k0_t1) rfl) $$ HI; iintro HI
  iapply (word_step c xt0 b (pidx (k0_t1.val + 1) 4) (eq_off82 i b hb v1 hL k0_t1 k0_h2)) $$ HT; iintro HT
  iapply (assume_step c ⟨fun _ => inb_page (HP _), fun _ hinb => words_page _ hinb⟩)
  iapply (issue_step' c fh (half (k0_t1.val + 1)) g (pgs c xt0 HP b (k0_t1.val + 1)) 4 (by decide) (eq_off84 v1 hL k0_t1) (eq_off83 v1 hL k0_t1) rfl) $$ HI; iintro HI
  iapply (word_step c xt0 b (pidx (k0_t1.val + 1) 5) (eq_off86 i b hb v1 hL k0_t1 k0_h2)) $$ HT; iintro HT
  iapply (assume_step c ⟨fun _ => inb_page (HP _), fun _ hinb => words_page _ hinb⟩)
  iapply ret_step
  iapply Hk
  isplitl [HT]; · iexact HT
  iexact HI

theorem run_part12 (g : Buf (Elt F) (bufL c)) (arg0 : BitVec 32) (v1 : Elt F .i32) (k0_hw33 : k0_chk33 i v1) (k0_t1 : Fin (k0_t1_loop v1).trips) (k0_h2 : k0_cond2 v1 k0_t1 = 1#1) (v440 : BitVec 32) (v501 : Elt F .i32) (k0_hw39 : k0_chk39 v1 k0_t1 v501) (hL : LenOk v1) (hv : v501 = wd c xt0 b (pidx (k0_t1.val + 1) 5)) {α : Type} {k : (Σ' (v534 : Elt F .i32), k0_chk42 v1 k0_t1 v534) → Prog (TpuEff nD τ sig (Elt F) Λ₀ .tc) α} {Q : α → sProp 𝕄} :
    iprop(tbPt0 c tbM0_0 xt0 ∗ Iss c fh (half (k0_t1.val + 1)) g (pgs c xt0 HP b (k0_t1.val + 1)) 5)
      ⊢ iprop((∀ hw : k0_chk42 v1 k0_t1 (wd c xt0 b (pidx (k0_t1.val + 1) 8)), iprop(tbPt0 c tbM0_0 xt0 ∗ Iss c fh (half (k0_t1.val + 1)) g (pgs c xt0 HP b (k0_t1.val + 1)) 8) -∗ WP c (k ⟨wd c xt0 b (pidx (k0_t1.val + 1) 8), hw⟩) Q)
        -∗ WP c (k0_part12 i tbM0_0 htbM0_0 tbM0_1 htbM0_1 arg3 harg3 arg4 harg4 arg5 harg5 (Memref.whole main_arg3) (Memref.isWhole_whole _) arg7 harg7 arg8 harg8 (Memref.whole cc0_scratch0) (Memref.isWhole_whole _) cc0_scratch1 arg0 v1 k0_hw33 k0_t1 k0_h2 v440 v501 k0_hw39 >>= k) Q) := by
  subst hv
  iintro ⟨HT, HI⟩ Hk
  iapply bind_step
  rw [k0_part12_eq_skeleton]; unfold k0_part12_skel; dsimp only
  iapply (issue_step' c fh (half (k0_t1.val + 1)) g (pgs c xt0 HP b (k0_t1.val + 1)) 5 (by decide) (eq_off88 v1 hL k0_t1) (eq_off87 v1 hL k0_t1) rfl) $$ HI; iintro HI
  iapply (word_step c xt0 b (pidx (k0_t1.val + 1) 6) (eq_off90 i b hb v1 hL k0_t1 k0_h2)) $$ HT; iintro HT
  iapply (assume_step c ⟨fun _ => inb_page (HP _), fun _ hinb => words_page _ hinb⟩)
  iapply (issue_step' c fh (half (k0_t1.val + 1)) g (pgs c xt0 HP b (k0_t1.val + 1)) 6 (by decide) (eq_off92 v1 hL k0_t1) (eq_off91 v1 hL k0_t1) rfl) $$ HI; iintro HI
  iapply (word_step c xt0 b (pidx (k0_t1.val + 1) 7) (eq_off94 i b hb v1 hL k0_t1 k0_h2)) $$ HT; iintro HT
  iapply (assume_step c ⟨fun _ => inb_page (HP _), fun _ hinb => words_page _ hinb⟩)
  iapply (issue_step' c fh (half (k0_t1.val + 1)) g (pgs c xt0 HP b (k0_t1.val + 1)) 7 (by decide) (eq_off96 v1 hL k0_t1) (eq_off95 v1 hL k0_t1) rfl) $$ HI; iintro HI
  iapply (word_step c xt0 b (pidx (k0_t1.val + 1) 8) (eq_off98 i b hb v1 hL k0_t1 k0_h2)) $$ HT; iintro HT
  iapply (assume_step c ⟨fun _ => inb_page (HP _), fun _ hinb => words_page _ hinb⟩)
  iapply ret_step
  iapply Hk
  isplitl [HT]; · iexact HT
  iexact HI

theorem run_part13 (g : Buf (Elt F) (bufL c)) (arg0 : BitVec 32) (v1 : Elt F .i32) (k0_hw33 : k0_chk33 i v1) (k0_t1 : Fin (k0_t1_loop v1).trips) (k0_h2 : k0_cond2 v1 k0_t1 = 1#1) (v440 : BitVec 32) (v534 : Elt F .i32) (k0_hw42 : k0_chk42 v1 k0_t1 v534) (hL : LenOk v1) (hv : v534 = wd c xt0 b (pidx (k0_t1.val + 1) 8)) {α : Type} {k : (Σ' (v567 : Elt F .i32), k0_chk45 v1 k0_t1 v567) → Prog (TpuEff nD τ sig (Elt F) Λ₀ .tc) α} {Q : α → sProp 𝕄} :
    iprop(tbPt0 c tbM0_0 xt0 ∗ Iss c fh (half (k0_t1.val + 1)) g (pgs c xt0 HP b (k0_t1.val + 1)) 8)
      ⊢ iprop((∀ hw : k0_chk45 v1 k0_t1 (wd c xt0 b (pidx (k0_t1.val + 1) 11)), iprop(tbPt0 c tbM0_0 xt0 ∗ Iss c fh (half (k0_t1.val + 1)) g (pgs c xt0 HP b (k0_t1.val + 1)) 11) -∗ WP c (k ⟨wd c xt0 b (pidx (k0_t1.val + 1) 11), hw⟩) Q)
        -∗ WP c (k0_part13 i tbM0_0 htbM0_0 tbM0_1 htbM0_1 arg3 harg3 arg4 harg4 arg5 harg5 (Memref.whole main_arg3) (Memref.isWhole_whole _) arg7 harg7 arg8 harg8 (Memref.whole cc0_scratch0) (Memref.isWhole_whole _) cc0_scratch1 arg0 v1 k0_hw33 k0_t1 k0_h2 v440 v534 k0_hw42 >>= k) Q) := by
  subst hv
  iintro ⟨HT, HI⟩ Hk
  iapply bind_step
  rw [k0_part13_eq_skeleton]; unfold k0_part13_skel; dsimp only
  iapply (issue_step' c fh (half (k0_t1.val + 1)) g (pgs c xt0 HP b (k0_t1.val + 1)) 8 (by decide) (eq_off100 v1 hL k0_t1) (eq_off99 v1 hL k0_t1) rfl) $$ HI; iintro HI
  iapply (word_step c xt0 b (pidx (k0_t1.val + 1) 9) (eq_off102 i b hb v1 hL k0_t1 k0_h2)) $$ HT; iintro HT
  iapply (assume_step c ⟨fun _ => inb_page (HP _), fun _ hinb => words_page _ hinb⟩)
  iapply (issue_step' c fh (half (k0_t1.val + 1)) g (pgs c xt0 HP b (k0_t1.val + 1)) 9 (by decide) (eq_off104 v1 hL k0_t1) (eq_off103 v1 hL k0_t1) rfl) $$ HI; iintro HI
  iapply (word_step c xt0 b (pidx (k0_t1.val + 1) 10) (eq_off106 i b hb v1 hL k0_t1 k0_h2)) $$ HT; iintro HT
  iapply (assume_step c ⟨fun _ => inb_page (HP _), fun _ hinb => words_page _ hinb⟩)
  iapply (issue_step' c fh (half (k0_t1.val + 1)) g (pgs c xt0 HP b (k0_t1.val + 1)) 10 (by decide) (eq_off108 v1 hL k0_t1) (eq_off107 v1 hL k0_t1) rfl) $$ HI; iintro HI
  iapply (word_step c xt0 b (pidx (k0_t1.val + 1) 11) (eq_off110 i b hb v1 hL k0_t1 k0_h2)) $$ HT; iintro HT
  iapply (assume_step c ⟨fun _ => inb_page (HP _), fun _ hinb => words_page _ hinb⟩)
  iapply ret_step
  iapply Hk
  isplitl [HT]; · iexact HT
  iexact HI

theorem run_part14 (g : Buf (Elt F) (bufL c)) (arg0 : BitVec 32) (v1 : Elt F .i32) (k0_hw33 : k0_chk33 i v1) (k0_t1 : Fin (k0_t1_loop v1).trips) (k0_h2 : k0_cond2 v1 k0_t1 = 1#1) (v440 : BitVec 32) (v567 : Elt F .i32) (k0_hw45 : k0_chk45 v1 k0_t1 v567) (hL : LenOk v1) (hv : v567 = wd c xt0 b (pidx (k0_t1.val + 1) 11)) {α : Type} {k : (Σ' (v600 : Elt F .i32), k0_chk48 v1 k0_t1 v600) → Prog (TpuEff nD τ sig (Elt F) Λ₀ .tc) α} {Q : α → sProp 𝕄} :
    iprop(tbPt0 c tbM0_0 xt0 ∗ Iss c fh (half (k0_t1.val + 1)) g (pgs c xt0 HP b (k0_t1.val + 1)) 11)
      ⊢ iprop((∀ hw : k0_chk48 v1 k0_t1 (wd c xt0 b (pidx (k0_t1.val + 1) 14)), iprop(tbPt0 c tbM0_0 xt0 ∗ Iss c fh (half (k0_t1.val + 1)) g (pgs c xt0 HP b (k0_t1.val + 1)) 14) -∗ WP c (k ⟨wd c xt0 b (pidx (k0_t1.val + 1) 14), hw⟩) Q)
        -∗ WP c (k0_part14 i tbM0_0 htbM0_0 tbM0_1 htbM0_1 arg3 harg3 arg4 harg4 arg5 harg5 (Memref.whole main_arg3) (Memref.isWhole_whole _) arg7 harg7 arg8 harg8 (Memref.whole cc0_scratch0) (Memref.isWhole_whole _) cc0_scratch1 arg0 v1 k0_hw33 k0_t1 k0_h2 v440 v567 k0_hw45 >>= k) Q) := by
  subst hv
  iintro ⟨HT, HI⟩ Hk
  iapply bind_step
  rw [k0_part14_eq_skeleton]; unfold k0_part14_skel; dsimp only
  iapply (issue_step' c fh (half (k0_t1.val + 1)) g (pgs c xt0 HP b (k0_t1.val + 1)) 11 (by decide) (eq_off112 v1 hL k0_t1) (eq_off111 v1 hL k0_t1) rfl) $$ HI; iintro HI
  iapply (word_step c xt0 b (pidx (k0_t1.val + 1) 12) (eq_off114 i b hb v1 hL k0_t1 k0_h2)) $$ HT; iintro HT
  iapply (assume_step c ⟨fun _ => inb_page (HP _), fun _ hinb => words_page _ hinb⟩)
  iapply (issue_step' c fh (half (k0_t1.val + 1)) g (pgs c xt0 HP b (k0_t1.val + 1)) 12 (by decide) (eq_off116 v1 hL k0_t1) (eq_off115 v1 hL k0_t1) rfl) $$ HI; iintro HI
  iapply (word_step c xt0 b (pidx (k0_t1.val + 1) 13) (eq_off118 i b hb v1 hL k0_t1 k0_h2)) $$ HT; iintro HT
  iapply (assume_step c ⟨fun _ => inb_page (HP _), fun _ hinb => words_page _ hinb⟩)
  iapply (issue_step' c fh (half (k0_t1.val + 1)) g (pgs c xt0 HP b (k0_t1.val + 1)) 13 (by decide) (eq_off120 v1 hL k0_t1) (eq_off119 v1 hL k0_t1) rfl) $$ HI; iintro HI
  iapply (word_step c xt0 b (pidx (k0_t1.val + 1) 14) (eq_off122 i b hb v1 hL k0_t1 k0_h2)) $$ HT; iintro HT
  iapply (assume_step c ⟨fun _ => inb_page (HP _), fun _ hinb => words_page _ hinb⟩)
  iapply ret_step
  iapply Hk
  isplitl [HT]; · iexact HT
  iexact HI

theorem run_part15 (g : Buf (Elt F) (bufL c)) (arg0 : BitVec 32) (v1 : Elt F .i32) (k0_hw33 : k0_chk33 i v1) (k0_t1 : Fin (k0_t1_loop v1).trips) (k0_h2 : k0_cond2 v1 k0_t1 = 1#1) (v440 : BitVec 32) (v600 : Elt F .i32) (k0_hw48 : k0_chk48 v1 k0_t1 v600) (hL : LenOk v1) (hv : v600 = wd c xt0 b (pidx (k0_t1.val + 1) 14)) {α : Type} {k : (Σ' (v633 : Elt F .i32), k0_chk51 v1 k0_t1 v633) → Prog (TpuEff nD τ sig (Elt F) Λ₀ .tc) α} {Q : α → sProp 𝕄} :
    iprop(tbPt0 c tbM0_0 xt0 ∗ Iss c fh (half (k0_t1.val + 1)) g (pgs c xt0 HP b (k0_t1.val + 1)) 14)
      ⊢ iprop((∀ hw : k0_chk51 v1 k0_t1 (wd c xt0 b (pidx (k0_t1.val + 1) 17)), iprop(tbPt0 c tbM0_0 xt0 ∗ Iss c fh (half (k0_t1.val + 1)) g (pgs c xt0 HP b (k0_t1.val + 1)) 17) -∗ WP c (k ⟨wd c xt0 b (pidx (k0_t1.val + 1) 17), hw⟩) Q)
        -∗ WP c (k0_part15 i tbM0_0 htbM0_0 tbM0_1 htbM0_1 arg3 harg3 arg4 harg4 arg5 harg5 (Memref.whole main_arg3) (Memref.isWhole_whole _) arg7 harg7 arg8 harg8 (Memref.whole cc0_scratch0) (Memref.isWhole_whole _) cc0_scratch1 arg0 v1 k0_hw33 k0_t1 k0_h2 v440 v600 k0_hw48 >>= k) Q) := by
  subst hv
  iintro ⟨HT, HI⟩ Hk
  iapply bind_step
  rw [k0_part15_eq_skeleton]; unfold k0_part15_skel; dsimp only
  iapply (issue_step' c fh (half (k0_t1.val + 1)) g (pgs c xt0 HP b (k0_t1.val + 1)) 14 (by decide) (eq_off124 v1 hL k0_t1) (eq_off123 v1 hL k0_t1) rfl) $$ HI; iintro HI
  iapply (word_step c xt0 b (pidx (k0_t1.val + 1) 15) (eq_off126 i b hb v1 hL k0_t1 k0_h2)) $$ HT; iintro HT
  iapply (assume_step c ⟨fun _ => inb_page (HP _), fun _ hinb => words_page _ hinb⟩)
  iapply (issue_step' c fh (half (k0_t1.val + 1)) g (pgs c xt0 HP b (k0_t1.val + 1)) 15 (by decide) (eq_off128 v1 hL k0_t1) (eq_off127 v1 hL k0_t1) rfl) $$ HI; iintro HI
  iapply (word_step c xt0 b (pidx (k0_t1.val + 1) 16) (eq_off130 i b hb v1 hL k0_t1 k0_h2)) $$ HT; iintro HT
  iapply (assume_step c ⟨fun _ => inb_page (HP _), fun _ hinb => words_page _ hinb⟩)
  iapply (issue_step' c fh (half (k0_t1.val + 1)) g (pgs c xt0 HP b (k0_t1.val + 1)) 16 (by decide) (eq_off132 v1 hL k0_t1) (eq_off131 v1 hL k0_t1) rfl) $$ HI; iintro HI
  iapply (word_step c xt0 b (pidx (k0_t1.val + 1) 17) (eq_off134 i b hb v1 hL k0_t1 k0_h2)) $$ HT; iintro HT
  iapply (assume_step c ⟨fun _ => inb_page (HP _), fun _ hinb => words_page _ hinb⟩)
  iapply ret_step
  iapply Hk
  isplitl [HT]; · iexact HT
  iexact HI

theorem run_part16 (g : Buf (Elt F) (bufL c)) (arg0 : BitVec 32) (v1 : Elt F .i32) (k0_hw33 : k0_chk33 i v1) (k0_t1 : Fin (k0_t1_loop v1).trips) (k0_h2 : k0_cond2 v1 k0_t1 = 1#1) (v440 : BitVec 32) (v633 : Elt F .i32) (k0_hw51 : k0_chk51 v1 k0_t1 v633) (hL : LenOk v1) (hv : v633 = wd c xt0 b (pidx (k0_t1.val + 1) 17)) {α : Type} {k : (Σ' (v666 : Elt F .i32), k0_chk54 v1 k0_t1 v666) → Prog (TpuEff nD τ sig (Elt F) Λ₀ .tc) α} {Q : α → sProp 𝕄} :
    iprop(tbPt0 c tbM0_0 xt0 ∗ Iss c fh (half (k0_t1.val + 1)) g (pgs c xt0 HP b (k0_t1.val + 1)) 17)
      ⊢ iprop((∀ hw : k0_chk54 v1 k0_t1 (wd c xt0 b (pidx (k0_t1.val + 1) 20)), iprop(tbPt0 c tbM0_0 xt0 ∗ Iss c fh (half (k0_t1.val + 1)) g (pgs c xt0 HP b (k0_t1.val + 1)) 20) -∗ WP c (k ⟨wd c xt0 b (pidx (k0_t1.val + 1) 20), hw⟩) Q)
        -∗ WP c (k0_part16 i tbM0_0 htbM0_0 tbM0_1 htbM0_1 arg3 harg3 arg4 harg4 arg5 harg5 (Memref.whole main_arg3) (Memref.isWhole_whole _) arg7 harg7 arg8 harg8 (Memref.whole cc0_scratch0) (Memref.isWhole_whole _) cc0_scratch1 arg0 v1 k0_hw33 k0_t1 k0_h2 v440 v633 k0_hw51 >>= k) Q) := by
  subst hv
  iintro ⟨HT, HI⟩ Hk
  iapply bind_step
  rw [k0_part16_eq_skeleton]; unfold k0_part16_skel; dsimp only
  iapply (issue_step' c fh (half (k0_t1.val + 1)) g (pgs c xt0 HP b (k0_t1.val + 1)) 17 (by decide) (eq_off136 v1 hL k0_t1) (eq_off135 v1 hL k0_t1) rfl) $$ HI; iintro HI
  iapply (word_step c xt0 b (pidx (k0_t1.val + 1) 18) (eq_off138 i b hb v1 hL k0_t1 k0_h2)) $$ HT; iintro HT
  iapply (assume_step c ⟨fun _ => inb_page (HP _), fun _ hinb => words_page _ hinb⟩)
  iapply (issue_step' c fh (half (k0_t1.val + 1)) g (pgs c xt0 HP b (k0_t1.val + 1)) 18 (by decide) (eq_off140 v1 hL k0_t1) (eq_off139 v1 hL k0_t1) rfl) $$ HI; iintro HI
  iapply (word_step c xt0 b (pidx (k0_t1.val + 1) 19) (eq_off142 i b hb v1 hL k0_t1 k0_h2)) $$ HT; iintro HT
  iapply (assume_step c ⟨fun _ => inb_page (HP _), fun _ hinb => words_page _ hinb⟩)
  iapply (issue_step' c fh (half (k0_t1.val + 1)) g (pgs c xt0 HP b (k0_t1.val + 1)) 19 (by decide) (eq_off144 v1 hL k0_t1) (eq_off143 v1 hL k0_t1) rfl) $$ HI; iintro HI
  iapply (word_step c xt0 b (pidx (k0_t1.val + 1) 20) (eq_off146 i b hb v1 hL k0_t1 k0_h2)) $$ HT; iintro HT
  iapply (assume_step c ⟨fun _ => inb_page (HP _), fun _ hinb => words_page _ hinb⟩)
  iapply ret_step
  iapply Hk
  isplitl [HT]; · iexact HT
  iexact HI

theorem run_part17 (g : Buf (Elt F) (bufL c)) (arg0 : BitVec 32) (v1 : Elt F .i32) (k0_hw33 : k0_chk33 i v1) (k0_t1 : Fin (k0_t1_loop v1).trips) (k0_h2 : k0_cond2 v1 k0_t1 = 1#1) (v440 : BitVec 32) (v666 : Elt F .i32) (k0_hw54 : k0_chk54 v1 k0_t1 v666) (hL : LenOk v1) (hv : v666 = wd c xt0 b (pidx (k0_t1.val + 1) 20)) {α : Type} {k : (Σ' (v699 : Elt F .i32), k0_chk57 v1 k0_t1 v699) → Prog (TpuEff nD τ sig (Elt F) Λ₀ .tc) α} {Q : α → sProp 𝕄} :
    iprop(tbPt0 c tbM0_0 xt0 ∗ Iss c fh (half (k0_t1.val + 1)) g (pgs c xt0 HP b (k0_t1.val + 1)) 20)
      ⊢ iprop((∀ hw : k0_chk57 v1 k0_t1 (wd c xt0 b (pidx (k0_t1.val + 1) 23)), iprop(tbPt0 c tbM0_0 xt0 ∗ Iss c fh (half (k0_t1.val + 1)) g (pgs c xt0 HP b (k0_t1.val + 1)) 23) -∗ WP c (k ⟨wd c xt0 b (pidx (k0_t1.val + 1) 23), hw⟩) Q)
        -∗ WP c (k0_part17 i tbM0_0 htbM0_0 tbM0_1 htbM0_1 arg3 harg3 arg4 harg4 arg5 harg5 (Memref.whole main_arg3) (Memref.isWhole_whole _) arg7 harg7 arg8 harg8 (Memref.whole cc0_scratch0) (Memref.isWhole_whole _) cc0_scratch1 arg0 v1 k0_hw33 k0_t1 k0_h2 v440 v666 k0_hw54 >>= k) Q) := by
  subst hv
  iintro ⟨HT, HI⟩ Hk
  iapply bind_step
  rw [k0_part17_eq_skeleton]; unfold k0_part17_skel; dsimp only
  iapply (issue_step' c fh (half (k0_t1.val + 1)) g (pgs c xt0 HP b (k0_t1.val + 1)) 20 (by decide) (eq_off148 v1 hL k0_t1) (eq_off147 v1 hL k0_t1) rfl) $$ HI; iintro HI
  iapply (word_step c xt0 b (pidx (k0_t1.val + 1) 21) (eq_off150 i b hb v1 hL k0_t1 k0_h2)) $$ HT; iintro HT
  iapply (assume_step c ⟨fun _ => inb_page (HP _), fun _ hinb => words_page _ hinb⟩)
  iapply (issue_step' c fh (half (k0_t1.val + 1)) g (pgs c xt0 HP b (k0_t1.val + 1)) 21 (by decide) (eq_off152 v1 hL k0_t1) (eq_off151 v1 hL k0_t1) rfl) $$ HI; iintro HI
  iapply (word_step c xt0 b (pidx (k0_t1.val + 1) 22) (eq_off154 i b hb v1 hL k0_t1 k0_h2)) $$ HT; iintro HT
  iapply (assume_step c ⟨fun _ => inb_page (HP _), fun _ hinb => words_page _ hinb⟩)
  iapply (issue_step' c fh (half (k0_t1.val + 1)) g (pgs c xt0 HP b (k0_t1.val + 1)) 22 (by decide) (eq_off156 v1 hL k0_t1) (eq_off155 v1 hL k0_t1) rfl) $$ HI; iintro HI
  iapply (word_step c xt0 b (pidx (k0_t1.val + 1) 23) (eq_off158 i b hb v1 hL k0_t1 k0_h2)) $$ HT; iintro HT
  iapply (assume_step c ⟨fun _ => inb_page (HP _), fun _ hinb => words_page _ hinb⟩)
  iapply ret_step
  iapply Hk
  isplitl [HT]; · iexact HT
  iexact HI

theorem run_part18 (g : Buf (Elt F) (bufL c)) (arg0 : BitVec 32) (v1 : Elt F .i32) (k0_hw33 : k0_chk33 i v1) (k0_t1 : Fin (k0_t1_loop v1).trips) (k0_h2 : k0_cond2 v1 k0_t1 = 1#1) (v440 : BitVec 32) (v699 : Elt F .i32) (k0_hw57 : k0_chk57 v1 k0_t1 v699) (hL : LenOk v1) (hv : v699 = wd c xt0 b (pidx (k0_t1.val + 1) 23)) {α : Type} {k : (Σ' (v732 : Elt F .i32), k0_chk60 v1 k0_t1 v732) → Prog (TpuEff nD τ sig (Elt F) Λ₀ .tc) α} {Q : α → sProp 𝕄} :
    iprop(tbPt0 c tbM0_0 xt0 ∗ Iss c fh (half (k0_t1.val + 1)) g (pgs c xt0 HP b (k0_t1.val + 1)) 23)
      ⊢ iprop((∀ hw : k0_chk60 v1 k0_t1 (wd c xt0 b (pidx (k0_t1.val + 1) 26)), iprop(tbPt0 c tbM0_0 xt0 ∗ Iss c fh (half (k0_t1.val + 1)) g (pgs c xt0 HP b (k0_t1.val + 1)) 26) -∗ WP c (k ⟨wd c xt0 b (pidx (k0_t1.val + 1) 26), hw⟩) Q)
        -∗ WP c (k0_part18 i tbM0_0 htbM0_0 tbM0_1 htbM0_1 arg3 harg3 arg4 harg4 arg5 harg5 (Memref.whole main_arg3) (Memref.isWhole_whole _) arg7 harg7 arg8 harg8 (Memref.whole cc0_scratch0) (Memref.isWhole_whole _) cc0_scratch1 arg0 v1 k0_hw33 k0_t1 k0_h2 v440 v699 k0_hw57 >>= k) Q) := by
  subst hv
  iintro ⟨HT, HI⟩ Hk
  iapply bind_step
  rw [k0_part18_eq_skeleton]; unfold k0_part18_skel; dsimp only
  iapply (issue_step' c fh (half (k0_t1.val + 1)) g (pgs c xt0 HP b (k0_t1.val + 1)) 23 (by decide) (eq_off160 v1 hL k0_t1) (eq_off159 v1 hL k0_t1) rfl) $$ HI; iintro HI
  iapply (word_step c xt0 b (pidx (k0_t1.val + 1) 24) (eq_off162 i b hb v1 hL k0_t1 k0_h2)) $$ HT; iintro HT
  iapply (assume_step c ⟨fun _ => inb_page (HP _), fun _ hinb => words_page _ hinb⟩)
  iapply (issue_step' c fh (half (k0_t1.val + 1)) g (pgs c xt0 HP b (k0_t1.val + 1)) 24 (by decide) (eq_off164 v1 hL k0_t1) (eq_off163 v1 hL k0_t1) rfl) $$ HI; iintro HI
  iapply (word_step c xt0 b (pidx (k0_t1.val + 1) 25) (eq_off166 i b hb v1 hL k0_t1 k0_h2)) $$ HT; iintro HT
  iapply (assume_step c ⟨fun _ => inb_page (HP _), fun _ hinb => words_page _ hinb⟩)
  iapply (issue_step' c fh (half (k0_t1.val + 1)) g (pgs c xt0 HP b (k0_t1.val + 1)) 25 (by decide) (eq_off168 v1 hL k0_t1) (eq_off167 v1 hL k0_t1) rfl) $$ HI; iintro HI
  iapply (word_step c xt0 b (pidx (k0_t1.val + 1) 26) (eq_off170 i b hb v1 hL k0_t1 k0_h2)) $$ HT; iintro HT
  iapply (assume_step c ⟨fun _ => inb_page (HP _), fun _ hinb => words_page _ hinb⟩)
  iapply ret_step
  iapply Hk
  isplitl [HT]; · iexact HT
  iexact HI

theorem run_part19 (g : Buf (Elt F) (bufL c)) (arg0 : BitVec 32) (v1 : Elt F .i32) (k0_hw33 : k0_chk33 i v1) (k0_t1 : Fin (k0_t1_loop v1).trips) (k0_h2 : k0_cond2 v1 k0_t1 = 1#1) (v440 : BitVec 32) (v732 : Elt F .i32) (k0_hw60 : k0_chk60 v1 k0_t1 v732) (hL : LenOk v1) (hv : v732 = wd c xt0 b (pidx (k0_t1.val + 1) 26)) {α : Type} {k : (Σ' (v765 : Elt F .i32), k0_chk63 v1 k0_t1 v765) → Prog (TpuEff nD τ sig (Elt F) Λ₀ .tc) α} {Q : α → sProp 𝕄} :
    iprop(tbPt0 c tbM0_0 xt0 ∗ Iss c fh (half (k0_t1.val + 1)) g (pgs c xt0 HP b (k0_t1.val + 1)) 26)
      ⊢ iprop((∀ hw : k0_chk63 v1 k0_t1 (wd c xt0 b (pidx (k0_t1.val + 1) 29)), iprop(tbPt0 c tbM0_0 xt0 ∗ Iss c fh (half (k0_t1.val + 1)) g (pgs c xt0 HP b (k0_t1.val + 1)) 29) -∗ WP c (k ⟨wd c xt0 b (pidx (k0_t1.val + 1) 29), hw⟩) Q)
        -∗ WP c (k0_part19 i tbM0_0 htbM0_0 tbM0_1 htbM0_1 arg3 harg3 arg4 harg4 arg5 harg5 (Memref.whole main_arg3) (Memref.isWhole_whole _) arg7 harg7 arg8 harg8 (Memref.whole cc0_scratch0) (Memref.isWhole_whole _) cc0_scratch1 arg0 v1 k0_hw33 k0_t1 k0_h2 v440 v732 k0_hw60 >>= k) Q) := by
  subst hv
  iintro ⟨HT, HI⟩ Hk
  iapply bind_step
  rw [k0_part19_eq_skeleton]; unfold k0_part19_skel; dsimp only
  iapply (issue_step' c fh (half (k0_t1.val + 1)) g (pgs c xt0 HP b (k0_t1.val + 1)) 26 (by decide) (eq_off172 v1 hL k0_t1) (eq_off171 v1 hL k0_t1) rfl) $$ HI; iintro HI
  iapply (word_step c xt0 b (pidx (k0_t1.val + 1) 27) (eq_off174 i b hb v1 hL k0_t1 k0_h2)) $$ HT; iintro HT
  iapply (assume_step c ⟨fun _ => inb_page (HP _), fun _ hinb => words_page _ hinb⟩)
  iapply (issue_step' c fh (half (k0_t1.val + 1)) g (pgs c xt0 HP b (k0_t1.val + 1)) 27 (by decide) (eq_off176 v1 hL k0_t1) (eq_off175 v1 hL k0_t1) rfl) $$ HI; iintro HI
  iapply (word_step c xt0 b (pidx (k0_t1.val + 1) 28) (eq_off178 i b hb v1 hL k0_t1 k0_h2)) $$ HT; iintro HT
  iapply (assume_step c ⟨fun _ => inb_page (HP _), fun _ hinb => words_page _ hinb⟩)
  iapply (issue_step' c fh (half (k0_t1.val + 1)) g (pgs c xt0 HP b (k0_t1.val + 1)) 28 (by decide) (eq_off180 v1 hL k0_t1) (eq_off179 v1 hL k0_t1) rfl) $$ HI; iintro HI
  iapply (word_step c xt0 b (pidx (k0_t1.val + 1) 29) (eq_off182 i b hb v1 hL k0_t1 k0_h2)) $$ HT; iintro HT
  iapply (assume_step c ⟨fun _ => inb_page (HP _), fun _ hinb => words_page _ hinb⟩)
  iapply ret_step
  iapply Hk
  isplitl [HT]; · iexact HT
  iexact HI

end

end Cert.KernelIdeal.Gen

end
-- ==== Proof.KernelIdeal.Trip.lean ====
/- One trip of the loop over a row's blocks: the next block's copies started, this block's waited for and read, the running
   maximum, sum and output carried forward. -/
module

public import proofs.«01_k».proof.Proof.KernelIdeal.Base
public import proofs.«01_k».proof.Proof.KernelIdeal.Next

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

variable (c : Dev nD) (i : grid0.Coords) (arg3 : Memref sig .tc .vmem S1x128x512 .bf16) (harg3 : arg3.IsWhole) (arg4 : Memref sig .tc .vmem S1x128x144 .bf16) (harg4 : arg4.IsWhole)
  (arg5 : Memref sig .tc .vmem S1x1x656 .i8) (harg5 : arg5.IsWhole) (arg7 : Memref sig .tc .vmem S1x128x512 .bf16) (harg7 : arg7.IsWhole) (arg8 : Memref sig .tc .vmem S1x128x1 .f32) (harg8 : arg8.IsWhole)
  (xt0 : TbBuf0 (F := F) c tbM0_0) (HP : ∀ x, (xt0 x).toNat < 40960) (fh : Buf (Elt F) (poolL c)) (b : Fin 32) (hb : (i 0).val = b.val)

theorem run_part21 (v1 : Elt F .i32) (k0_hw33 : k0_chk33 i v1) (k0_t1 : Fin (k0_t1_loop v1).trips) (hL : LenOk v1) {α : Type} {k : PUnit → Prog (TpuEff nD τ sig (Elt F) Λ₀ .tc) α} {Q : α → sProp 𝕄} :
    iprop(Wt c fh (half k0_t1.val) (pgs c xt0 HP b k0_t1.val) 2 ∗ Ow c)
      ⊢ iprop((iprop(Wt c fh (half k0_t1.val) (pgs c xt0 HP b k0_t1.val) 7 ∗ Ow c) -∗ WP c (k ⟨⟩) Q)
        -∗ WP c (k0_part21 i tbM0_0 htbM0_0 tbM0_1 htbM0_1 arg3 harg3 arg4 harg4 arg5 harg5 (Memref.whole main_arg3) (Memref.isWhole_whole _) arg7 harg7 arg8 harg8 (Memref.whole cc0_scratch0) (Memref.isWhole_whole _) cc0_scratch1 v1 k0_hw33 k0_t1 >>= k) Q) := by
  iintro HW Hk
  iapply (bind_step c)
  rw [k0_part21_eq_skeleton]; unfold k0_part21_skel; dsimp only
  iapply (wait_step c fh (half k0_t1.val) (pgs c xt0 HP b k0_t1.val) 2 (by decide) (eq_off194 v1 hL k0_t1)) $$ HW; iintro HW
  iapply (wait_step c fh (half k0_t1.val) (pgs c xt0 HP b k0_t1.val) 3 (by decide) (eq_off194 v1 hL k0_t1)) $$ HW; iintro HW
  iapply (wait_step c fh (half k0_t1.val) (pgs c xt0 HP b k0_t1.val) 4 (by decide) (eq_off194 v1 hL k0_t1)) $$ HW; iintro HW
  iapply (wait_step c fh (half k0_t1.val) (pgs c xt0 HP b k0_t1.val) 5 (by decide) (eq_off194 v1 hL k0_t1)) $$ HW; iintro HW
  iapply (wait_step c fh (half k0_t1.val) (pgs c xt0 HP b k0_t1.val) 6 (by decide) (eq_off194 v1 hL k0_t1)) $$ HW; iintro HW
  iapply (ret_step c)
  iapply Hk
  iexact HW

theorem run_part22 (v1 : Elt F .i32) (k0_hw33 : k0_chk33 i v1) (k0_t1 : Fin (k0_t1_loop v1).trips) (hL : LenOk v1) {α : Type} {k : PUnit → Prog (TpuEff nD τ sig (Elt F) Λ₀ .tc) α} {Q : α → sProp 𝕄} :
    iprop(Wt c fh (half k0_t1.val) (pgs c xt0 HP b k0_t1.val) 7 ∗ Ow c)
      ⊢ iprop((iprop(Wt c fh (half k0_t1.val) (pgs c xt0 HP b k0_t1.val) 12 ∗ Ow c) -∗ WP c (k ⟨⟩) Q)
        -∗ WP c (k0_part22 i tbM0_0 htbM0_0 tbM0_1 htbM0_1 arg3 harg3 arg4 harg4 arg5 harg5 (Memref.whole main_arg3) (Memref.isWhole_whole _) arg7 harg7 arg8 harg8 (Memref.whole cc0_scratch0) (Memref.isWhole_whole _) cc0_scratch1 v1 k0_hw33 k0_t1 >>= k) Q) := by
  iintro HW Hk
  iapply (bind_step c)
  rw [k0_part22_eq_skeleton]; unfold k0_part22_skel; dsimp only
  iapply (wait_step c fh (half k0_t1.val) (pgs c xt0 HP b k0_t1.val) 7 (by decide) (eq_off194 v1 hL k0_t1)) $$ HW; iintro HW
  iapply (wait_step c fh (half k0_t1.val) (pgs c xt0 HP b k0_t1.val) 8 (by decide) (eq_off194 v1 hL k0_t1)) $$ HW; iintro HW
  iapply (wait_step c fh (half k0_t1.val) (pgs c xt0 HP b k0_t1.val) 9 (by decide) (eq_off194 v1 hL k0_t1)) $$ HW; iintro HW
  iapply (wait_step c fh (half k0_t1.val) (pgs c xt0 HP b k0_t1.val) 10 (by decide) (eq_off194 v1 hL k0_t1)) $$ HW; iintro HW
  iapply (wait_step c fh (half k0_t1.val) (pgs c xt0 HP b k0_t1.val) 11 (by decide) (eq_off194 v1 hL k0_t1)) $$ HW; iintro HW
  iapply (ret_step c)
  iapply Hk
  iexact HW

theorem run_part23 (v1 : Elt F .i32) (k0_hw33 : k0_chk33 i v1) (k0_t1 : Fin (k0_t1_loop v1).trips) (hL : LenOk v1) {α : Type} {k : PUnit → Prog (TpuEff nD τ sig (Elt F) Λ₀ .tc) α} {Q : α → sProp 𝕄} :
    iprop(Wt c fh (half k0_t1.val) (pgs c xt0 HP b k0_t1.val) 12 ∗ Ow c)
      ⊢ iprop((iprop(Wt c fh (half k0_t1.val) (pgs c xt0 HP b k0_t1.val) 16 ∗ Ow c) -∗ WP c (k ⟨⟩) Q)
        -∗ WP c (k0_part23 i tbM0_0 htbM0_0 tbM0_1 htbM0_1 arg3 harg3 arg4 harg4 arg5 harg5 (Memref.whole main_arg3) (Memref.isWhole_whole _) arg7 harg7 arg8 harg8 (Memref.whole cc0_scratch0) (Memref.isWhole_whole _) cc0_scratch1 v1 k0_hw33 k0_t1 >>= k) Q) := by
  iintro HW Hk
  iapply (bind_step c)
  rw [k0_part23_eq_skeleton]; unfold k0_part23_skel; dsimp only
  iapply (wait_step c fh (half k0_t1.val) (pgs c xt0 HP b k0_t1.val) 12 (by decide) (eq_off194 v1 hL k0_t1)) $$ HW; iintro HW
  iapply (wait_step c fh (half k0_t1.val) (pgs c xt0 HP b k0_t1.val) 13 (by decide) (eq_off194 v1 hL k0_t1)) $$ HW; iintro HW
  iapply (wait_step c fh (half k0_t1.val) (pgs c xt0 HP b k0_t1.val) 14 (by decide) (eq_off194 v1 hL k0_t1)) $$ HW; iintro HW
  iapply (wait_step c fh (half k0_t1.val) (pgs c xt0 HP b k0_t1.val) 15 (by decide) (eq_off194 v1 hL k0_t1)) $$ HW; iintro HW
  iapply (ret_step c)
  iapply Hk
  iexact HW

theorem run_part24 (v1 : Elt F .i32) (k0_hw33 : k0_chk33 i v1) (k0_t1 : Fin (k0_t1_loop v1).trips) (hL : LenOk v1) {α : Type} {k : PUnit → Prog (TpuEff nD τ sig (Elt F) Λ₀ .tc) α} {Q : α → sProp 𝕄} :
    iprop(Wt c fh (half k0_t1.val) (pgs c xt0 HP b k0_t1.val) 16 ∗ Ow c)
      ⊢ iprop((iprop(Wt c fh (half k0_t1.val) (pgs c xt0 HP b k0_t1.val) 21 ∗ Ow c) -∗ WP c (k ⟨⟩) Q)
        -∗ WP c (k0_part24 i tbM0_0 htbM0_0 tbM0_1 htbM0_1 arg3 harg3 arg4 harg4 arg5 harg5 (Memref.whole main_arg3) (Memref.isWhole_whole _) arg7 harg7 arg8 harg8 (Memref.whole cc0_scratch0) (Memref.isWhole_whole _) cc0_scratch1 v1 k0_hw33 k0_t1 >>= k) Q) := by
  iintro HW Hk
  iapply (bind_step c)
  rw [k0_part24_eq_skeleton]; unfold k0_part24_skel; dsimp only
  iapply (wait_step c fh (half k0_t1.val) (pgs c xt0 HP b k0_t1.val) 16 (by decide) (eq_off194 v1 hL k0_t1)) $$ HW; iintro HW
  iapply (wait_step c fh (half k0_t1.val) (pgs c xt0 HP b k0_t1.val) 17 (by decide) (eq_off194 v1 hL k0_t1)) $$ HW; iintro HW
  iapply (wait_step c fh (half k0_t1.val) (pgs c xt0 HP b k0_t1.val) 18 (by decide) (eq_off194 v1 hL k0_t1)) $$ HW; iintro HW
  iapply (wait_step c fh (half k0_t1.val) (pgs c xt0 HP b k0_t1.val) 19 (by decide) (eq_off194 v1 hL k0_t1)) $$ HW; iintro HW
  iapply (wait_step c fh (half k0_t1.val) (pgs c xt0 HP b k0_t1.val) 20 (by decide) (eq_off194 v1 hL k0_t1)) $$ HW; iintro HW
  iapply (ret_step c)
  iapply Hk
  iexact HW

theorem run_part25 (v1 : Elt F .i32) (k0_hw33 : k0_chk33 i v1) (k0_t1 : Fin (k0_t1_loop v1).trips) (hL : LenOk v1) {α : Type} {k : PUnit → Prog (TpuEff nD τ sig (Elt F) Λ₀ .tc) α} {Q : α → sProp 𝕄} :
    iprop(Wt c fh (half k0_t1.val) (pgs c xt0 HP b k0_t1.val) 21 ∗ Ow c)
      ⊢ iprop((iprop(Wt c fh (half k0_t1.val) (pgs c xt0 HP b k0_t1.val) 25 ∗ Ow c) -∗ WP c (k ⟨⟩) Q)
        -∗ WP c (k0_part25 i tbM0_0 htbM0_0 tbM0_1 htbM0_1 arg3 harg3 arg4 harg4 arg5 harg5 (Memref.whole main_arg3) (Memref.isWhole_whole _) arg7 harg7 arg8 harg8 (Memref.whole cc0_scratch0) (Memref.isWhole_whole _) cc0_scratch1 v1 k0_hw33 k0_t1 >>= k) Q) := by
  iintro HW Hk
  iapply (bind_step c)
  rw [k0_part25_eq_skeleton]; unfold k0_part25_skel; dsimp only
  iapply (wait_step c fh (half k0_t1.val) (pgs c xt0 HP b k0_t1.val) 21 (by decide) (eq_off194 v1 hL k0_t1)) $$ HW; iintro HW
  iapply (wait_step c fh (half k0_t1.val) (pgs c xt0 HP b k0_t1.val) 22 (by decide) (eq_off194 v1 hL k0_t1)) $$ HW; iintro HW
  iapply (wait_step c fh (half k0_t1.val) (pgs c xt0 HP b k0_t1.val) 23 (by decide) (eq_off194 v1 hL k0_t1)) $$ HW; iintro HW
  iapply (wait_step c fh (half k0_t1.val) (pgs c xt0 HP b k0_t1.val) 24 (by decide) (eq_off194 v1 hL k0_t1)) $$ HW; iintro HW
  iapply (ret_step c)
  iapply Hk
  iexact HW

theorem run_part26 (v1 : Elt F .i32) (k0_hw33 : k0_chk33 i v1) (k0_t1 : Fin (k0_t1_loop v1).trips) (hL : LenOk v1) {α : Type} {k : PUnit → Prog (TpuEff nD τ sig (Elt F) Λ₀ .tc) α} {Q : α → sProp 𝕄} :
    iprop(Wt c fh (half k0_t1.val) (pgs c xt0 HP b k0_t1.val) 25 ∗ Ow c)
      ⊢ iprop((iprop(Wt c fh (half k0_t1.val) (pgs c xt0 HP b k0_t1.val) 30 ∗ Ow c) -∗ WP c (k ⟨⟩) Q)
        -∗ WP c (k0_part26 i tbM0_0 htbM0_0 tbM0_1 htbM0_1 arg3 harg3 arg4 harg4 arg5 harg5 (Memref.whole main_arg3) (Memref.isWhole_whole _) arg7 harg7 arg8 harg8 (Memref.whole cc0_scratch0) (Memref.isWhole_whole _) cc0_scratch1 v1 k0_hw33 k0_t1 >>= k) Q) := by
  iintro HW Hk
  iapply (bind_step c)
  rw [k0_part26_eq_skeleton]; unfold k0_part26_skel; dsimp only
  iapply (wait_step c fh (half k0_t1.val) (pgs c xt0 HP b k0_t1.val) 25 (by decide) (eq_off194 v1 hL k0_t1)) $$ HW; iintro HW
  iapply (wait_step c fh (half k0_t1.val) (pgs c xt0 HP b k0_t1.val) 26 (by decide) (eq_off194 v1 hL k0_t1)) $$ HW; iintro HW
  iapply (wait_step c fh (half k0_t1.val) (pgs c xt0 HP b k0_t1.val) 27 (by decide) (eq_off194 v1 hL k0_t1)) $$ HW; iintro HW
  iapply (wait_step c fh (half k0_t1.val) (pgs c xt0 HP b k0_t1.val) 28 (by decide) (eq_off194 v1 hL k0_t1)) $$ HW; iintro HW
  iapply (wait_step c fh (half k0_t1.val) (pgs c xt0 HP b k0_t1.val) 29 (by decide) (eq_off194 v1 hL k0_t1)) $$ HW; iintro HW
  iapply (ret_step c)
  iapply Hk
  iexact HW

-- (kept folded: a program's head is a conditional on a computed word)
attribute [local irreducible] k0_part20 k0_t1_body

/-- The half a trip does not wait on: the next block's copies under way, or, after the last trip, idle. -/
def Nx (g : Buf (Elt F) (bufL c)) (k N : ℕ) : sProp 𝕄 :=
  if k < N then Wt c fh (half k) (pgs c xt0 HP b k) 0 else Idle c fh (half k) g

set_option maxHeartbeats 400000 in
include hb in
theorem run_part20 (g : Buf (Elt F) (bufL c)) (arg0 : BitVec 32) (v1 : Elt F .i32) (k0_hw33 : k0_chk33 i v1) (v3 : BitVec 32) (k0_t1 : Fin (k0_t1_loop v1).trips) (hL : LenOk v1) {α : Type}
    {k : (Σ' (arg11 : BitVec 32), BitVec 32) → Prog (TpuEff nD τ sig (Elt F) Λ₀ .tc) α} {Q : α → sProp 𝕄} :
    iprop(tbPt0 c tbM0_0 xt0 ∗ Idle c fh (half (k0_t1.val + 1)) g ∗ Wt c fh (half k0_t1.val) (pgs c xt0 HP b k0_t1.val) 0 ∗ Ow c)
      ⊢ iprop((∀ v144, iprop(tbPt0 c tbM0_0 xt0 ∗ Nx c xt0 HP fh b g (k0_t1.val + 1) (nblk v1.toNat) ∗ Wt c fh (half k0_t1.val) (pgs c xt0 HP b k0_t1.val) 2 ∗ Ow c)
          -∗ WP c (k ⟨Scf.iv 0#32 1#32 k0_t1, v144⟩) Q)
        -∗ WP c (k0_part20 i tbM0_0 htbM0_0 tbM0_1 htbM0_1 arg3 harg3 arg4 harg4 arg5 harg5 (Memref.whole main_arg3) (Memref.isWhole_whole _) arg7 harg7 arg8 harg8 (Memref.whole cc0_scratch0) (Memref.isWhole_whole _) cc0_scratch1 arg0 v1 k0_hw33 v3 0#32 1#32 k0_t1 >>= k) Q) := by
  rw [k0_part20_eq_skeleton]; unfold k0_part20_skel Nx; dsimp only
  rcases Nat.lt_or_ge (k0_t1.val + 1) (nblk v1.toNat) with hlt | hge
  · have h2 : k0_cond2 v1 k0_t1 = 1#1 := (cond2_iff v1 hL k0_t1).mpr hlt
    rw [dif_pos h2, if_pos hlt]
    iintro ⟨HT, HI, HW⟩ Hk
    iapply (bind_step c)
    imod (idle_start c fh (half (k0_t1.val + 1)) g (pgs c xt0 HP b (k0_t1.val + 1))) $$ HI with HI
    iapply (run_part10 c i arg3 harg3 arg4 harg4 arg5 harg5 arg7 harg7 arg8 harg8 xt0 HP fh b hb g arg0 v1 k0_hw33 k0_t1 (Scf.iv 0#32 1#32 k0_t1) (curW (Scf.iv 0#32 1#32 k0_t1)) h2 hL) $$ [HT HI]
    · isplitl [HT] <;> iassumption
    iintro %hw ⟨HT, HI⟩
    try dsimp only
    iapply (run_part11 c i arg3 harg3 arg4 harg4 arg5 harg5 arg7 harg7 arg8 harg8 xt0 HP fh b hb g arg0 v1 k0_hw33 k0_t1 h2 (Scalar.addi (Scf.iv 0#32 1#32 k0_t1) 1#32) (wd c xt0 b (pidx (k0_t1.val + 1) 2)) hw hL rfl) $$ [HT HI]
    · isplitl [HT] <;> iassumption
    iintro %hw ⟨HT, HI⟩
    try dsimp only
    iapply (run_part12 c i arg3 harg3 arg4 harg4 arg5 harg5 arg7 harg7 arg8 harg8 xt0 HP fh b hb g arg0 v1 k0_hw33 k0_t1 h2 (Scalar.addi (Scf.iv 0#32 1#32 k0_t1) 1#32) (wd c xt0 b (pidx (k0_t1.val + 1) 5)) hw hL rfl) $$ [HT HI]
    · isplitl [HT] <;> iassumption
    iintro %hw ⟨HT, HI⟩
    try dsimp only
    iapply (run_part13 c i arg3 harg3 arg4 harg4 arg5 harg5 arg7 harg7 arg8 harg8 xt0 HP fh b hb g arg0 v1 k0_hw33 k0_t1 h2 (Scalar.addi (Scf.iv 0#32 1#32 k0_t1) 1#32) (wd c xt0 b (pidx (k0_t1.val + 1) 8)) hw hL rfl) $$ [HT HI]
    · isplitl [HT] <;> iassumption
    iintro %hw ⟨HT, HI⟩
    try dsimp only
    iapply (run_part14 c i arg3 harg3 arg4 harg4 arg5 harg5 arg7 harg7 arg8 harg8 xt0 HP fh b hb g arg0 v1 k0_hw33 k0_t1 h2 (Scalar.addi (Scf.iv 0#32 1#32 k0_t1) 1#32) (wd c xt0 b (pidx (k0_t1.val + 1) 11)) hw hL rfl) $$ [HT HI]
    · isplitl [HT] <;> iassumption
    iintro %hw ⟨HT, HI⟩
    try dsimp only
    iapply (run_part15 c i arg3 harg3 arg4 harg4 arg5 harg5 arg7 harg7 arg8 harg8 xt0 HP fh b hb g arg0 v1 k0_hw33 k0_t1 h2 (Scalar.addi (Scf.iv 0#32 1#32 k0_t1) 1#32) (wd c xt0 b (pidx (k0_t1.val + 1) 14)) hw hL rfl) $$ [HT HI]
    · isplitl [HT] <;> iassumption
    iintro %hw ⟨HT, HI⟩
    try dsimp only
    iapply (run_part16 c i arg3 harg3 arg4 harg4 arg5 harg5 arg7 harg7 arg8 harg8 xt0 HP fh b hb g arg0 v1 k0_hw33 k0_t1 h2 (Scalar.addi (Scf.iv 0#32 1#32 k0_t1) 1#32) (wd c xt0 b (pidx (k0_t1.val + 1) 17)) hw hL rfl) $$ [HT HI]
    · isplitl [HT] <;> iassumption
    iintro %hw ⟨HT, HI⟩
    try dsimp only
    iapply (run_part17 c i arg3 harg3 arg4 harg4 arg5 harg5 arg7 harg7 arg8 harg8 xt0 HP fh b hb g arg0 v1 k0_hw33 k0_t1 h2 (Scalar.addi (Scf.iv 0#32 1#32 k0_t1) 1#32) (wd c xt0 b (pidx (k0_t1.val + 1) 20)) hw hL rfl) $$ [HT HI]
    · isplitl [HT] <;> iassumption
    iintro %hw ⟨HT, HI⟩
    try dsimp only
    iapply (run_part18 c i arg3 harg3 arg4 harg4 arg5 harg5 arg7 harg7 arg8 harg8 xt0 HP fh b hb g arg0 v1 k0_hw33 k0_t1 h2 (Scalar.addi (Scf.iv 0#32 1#32 k0_t1) 1#32) (wd c xt0 b (pidx (k0_t1.val + 1) 23)) hw hL rfl) $$ [HT HI]
    · isplitl [HT] <;> iassumption
    iintro %hw ⟨HT, HI⟩
    try dsimp only
    iapply (run_part19 c i arg3 harg3 arg4 harg4 arg5 harg5 arg7 harg7 arg8 harg8 xt0 HP fh b hb g arg0 v1 k0_hw33 k0_t1 h2 (Scalar.addi (Scf.iv 0#32 1#32 k0_t1) 1#32) (wd c xt0 b (pidx (k0_t1.val + 1) 26)) hw hL rfl) $$ [HT HI]
    · isplitl [HT] <;> iassumption
    iintro %hw ⟨HT, HI⟩
    try dsimp only
    iapply (issue_step' c fh (half (k0_t1.val + 1)) g (pgs c xt0 HP b (k0_t1.val + 1)) 29 (by decide) (eq_off184 v1 hL k0_t1) (eq_off183 v1 hL k0_t1) rfl) $$ HI; iintro HI
    iapply (word_step c xt0 b (pidx (k0_t1.val + 1) 30) (eq_off186 i b hb v1 hL k0_t1 h2)) $$ HT; iintro HT
    iapply (assume_step c ⟨fun _ => inb_page (HP _), fun _ hinb => words_page _ hinb⟩)
    iapply (issue_step' c fh (half (k0_t1.val + 1)) g (pgs c xt0 HP b (k0_t1.val + 1)) 30 (by decide) (eq_off188 v1 hL k0_t1) (eq_off187 v1 hL k0_t1) rfl) $$ HI; iintro HI
    iapply (word_step c xt0 b (pidx (k0_t1.val + 1) 31) (eq_off190 i b hb v1 hL k0_t1 h2)) $$ HT; iintro HT
    iapply (assume_step c ⟨fun _ => inb_page (HP _), fun _ hinb => words_page _ hinb⟩)
    iapply (issue_step' c fh (half (k0_t1.val + 1)) g (pgs c xt0 HP b (k0_t1.val + 1)) 31 (by decide) (eq_off192 v1 hL k0_t1) (eq_off191 v1 hL k0_t1) rfl) $$ HI; iintro HI
    iapply (wait_step c fh (half k0_t1.val) (pgs c xt0 HP b k0_t1.val) 0 (by decide) (eq_off194 v1 hL k0_t1)) $$ HW; iintro HW
    iapply (wait_step c fh (half k0_t1.val) (pgs c xt0 HP b k0_t1.val) 1 (by decide) (eq_off194 v1 hL k0_t1)) $$ HW; iintro HW
    iapply (ret_step c)
    iapply Hk
    isplitl [HT]; · iexact HT
    isplitl [HI]; · iapply (iss_full c fh (half (k0_t1.val + 1)) g (pgs c xt0 HP b (k0_t1.val + 1))) $$ HI
    iexact HW
  · have h2 : ¬ k0_cond2 v1 k0_t1 = 1#1 := fun h => absurd ((cond2_iff v1 hL k0_t1).mp h) (Nat.not_lt.mpr hge)
    rw [dif_neg h2, if_neg (Nat.not_lt.mpr hge)]
    iintro ⟨HT, HI, HW⟩ Hk
    iapply (bind_step c)
    iapply (wait_step c fh (half k0_t1.val) (pgs c xt0 HP b k0_t1.val) 0 (by decide) (eq_off194 v1 hL k0_t1)) $$ HW; iintro HW
    iapply (wait_step c fh (half k0_t1.val) (pgs c xt0 HP b k0_t1.val) 1 (by decide) (eq_off194 v1 hL k0_t1)) $$ HW; iintro HW
    iapply (ret_step c)
    iapply Hk
    isplitl [HT]; · iexact HT
    isplitl [HI]; · iexact HI
    iexact HW

theorem run_part27 (v1 : Elt F .i32) (k0_hw33 : k0_chk33 i v1) (k0_t1 : Fin (k0_t1_loop v1).trips) (arg11 v144 : BitVec 32) (hL : LenOk v1) {α : Type}
    {k : (Σ' (v350 : IVec S128x512 1) (v353 : FVec F S512x512 .bf16) (v360 : IVec S512x144 32) (v363 : FVec F S512x144 .f32) (v365 : IVec S512x144 1) (v367 : BitVec 32), IVec S512x144 32) → Prog (TpuEff nD τ sig (Elt F) Λ₀ .tc) α} {Q : α → sProp 𝕄} :
    iprop(Wt c fh (half k0_t1.val) (pgs c xt0 HP b k0_t1.val) 30 ∗ Ow c)
      ⊢ iprop((iprop(Idle c fh (half k0_t1.val) (landed c (pgs c xt0 HP b k0_t1.val) fh) ∗ Ow c) -∗ WP c (k ⟨k0_pay3 (F := F) v1 arg11, k0_pay4 (block c (pgs c xt0 HP b k0_t1.val) fh), k0_pay5 (block c (pgs c xt0 HP b k0_t1.val) fh),
            k0_pay6 (block c (pgs c xt0 HP b k0_t1.val) fh), k0_pay7, Scalar.select (Scalar.cmpi .eq 2#32 0#32) 1#32 2#32, k0_pay8⟩) Q)
        -∗ WP c (k0_part27 i tbM0_0 htbM0_0 tbM0_1 htbM0_1 arg3 harg3 arg4 harg4 arg5 harg5 (Memref.whole main_arg3) (Memref.isWhole_whole _) arg7 harg7 arg8 harg8 (Memref.whole cc0_scratch0) (Memref.isWhole_whole _) cc0_scratch1 v1 k0_hw33 k0_t1 arg11 v144 >>= k) Q) := by
  iintro HW Hk
  iapply (bind_step c)
  rw [k0_part27_eq_skeleton]; unfold k0_part27_skel; dsimp only
  iapply (wait_step c fh (half k0_t1.val) (pgs c xt0 HP b k0_t1.val) 30 (by decide) (eq_off194 v1 hL k0_t1)) $$ HW; iintro HW
  iapply (wait_last c fh (half k0_t1.val) (pgs c xt0 HP b k0_t1.val) (eq_off194 v1 hL k0_t1)) $$ HW; iintro ⟨HW, HO⟩
  iapply (load_half c fh (half k0_t1.val) (pgs c xt0 HP b k0_t1.val) (eq_off227 v1 hL k0_t1)) $$ HW; iintro HW
  iapply (ret_step c)
  iapply Hk
  isplitl [HW] <;> iassumption

/-- A trip's arithmetic: the running maximum, the running sum and the running output, after block `blk` at trip `t`. -/
def tripVal (v1 : BitVec 32) (v5 : FVec F S128x512 .bf16) (v7 : FVec F S128x144 .bf16) (t : ℕ) (blk : Vec F S1x32x16x656 .i8)
    (s : FVec F S128x1 .f32 × FVec F S128x1 .f32 × FVec F S128x512 .f32) : FVec F S128x1 .f32 × FVec F S128x1 .f32 × FVec F S128x512 .f32 :=
  let v350 := k0_pay3 (F := F) v1 (Scf.iv 0#32 1#32 t)
  let v418 := k0_pay10 v5 v7 (k0_pay4 blk) (k0_pay5 blk) (k0_pay6 blk) k0_pay7 (Scalar.select (Scalar.cmpi .eq 2#32 0#32) 1#32 2#32) k0_pay8
  let v413 := k0_pay9 (k0_pay4 blk) (k0_pay5 blk)
  let cst : F .f32 := Scalar.ofBits .f32 0xF149F2CA#32
  (k0_pay39 s.1 v350 v418 cst, k0_pay42 s.1 s.2.1 v350 v418 cst, k0_pay43 s.1 s.2.2 v350 v413 v418 cst)

set_option maxHeartbeats 400000 in
include hb in
/-- One trip of the loop. -/
theorem run_trip (g : Buf (Elt F) (bufL c)) (arg0 : BitVec 32) (v1 : Elt F .i32) (k0_hw33 : k0_chk33 i v1) (v3 : BitVec 32) (v5 : FVec F S128x512 .bf16) (v7 : FVec F S128x144 .bf16) (v11 : FVec F S128x1 .f32) (v12 : FVec F S128x1 .f32) (v13 : FVec F S128x512 .f32) (v22 : IVec S128x32 1) (v59 : FVec F S32x144 .bf16) (v85 : FVec F S32x512 .bf16)
    (k0_t1 : Fin (k0_t1_loop v1).trips) (s : FVec F S128x1 .f32 × FVec F S128x1 .f32 × FVec F S128x512 .f32) (hL : LenOk v1) {Q : (FVec F S128x1 .f32 × FVec F S128x1 .f32 × FVec F S128x512 .f32) → sProp 𝕄} :
    iprop(tbPt0 c tbM0_0 xt0 ∗ Idle c fh (half (k0_t1.val + 1)) g ∗ Wt c fh (half k0_t1.val) (pgs c xt0 HP b k0_t1.val) 0 ∗ Ow c)
      ⊢ iprop((iprop(tbPt0 c tbM0_0 xt0 ∗ Nx c xt0 HP fh b g (k0_t1.val + 1) (nblk v1.toNat) ∗ Idle c fh (half k0_t1.val) (landed c (pgs c xt0 HP b k0_t1.val) fh) ∗ Ow c)
          -∗ Q (tripVal v1 v5 v7 k0_t1 (block c (pgs c xt0 HP b k0_t1.val) fh) s))
        -∗ WP c (k0_t1_body i tbM0_0 htbM0_0 tbM0_1 htbM0_1 arg3 harg3 arg4 harg4 arg5 harg5 (Memref.whole main_arg3) (Memref.isWhole_whole _) arg7 harg7 arg8 harg8 (Memref.whole cc0_scratch0) (Memref.isWhole_whole _) cc0_scratch1 arg0 v1 k0_hw33 v3 v5 v7 v11 v12 v13 v22 v59 v85 k0_t1 s) Q) := by
  obtain ⟨s1, s2, s3⟩ := s
  unfold k0_t1_body; dsimp only
  iintro H Hk
  iapply (run_part20 c i arg3 harg3 arg4 harg4 arg5 harg5 arg7 harg7 arg8 harg8 xt0 HP fh b hb g arg0 v1 k0_hw33 v3 k0_t1 hL) $$ H
  iintro %v144 ⟨HT, HI, HW⟩
  try dsimp only
  iapply (run_part21 c i arg3 harg3 arg4 harg4 arg5 harg5 arg7 harg7 arg8 harg8 xt0 HP fh b v1 k0_hw33 k0_t1 hL) $$ HW; iintro HW
  iapply (run_part22 c i arg3 harg3 arg4 harg4 arg5 harg5 arg7 harg7 arg8 harg8 xt0 HP fh b v1 k0_hw33 k0_t1 hL) $$ HW; iintro HW
  iapply (run_part23 c i arg3 harg3 arg4 harg4 arg5 harg5 arg7 harg7 arg8 harg8 xt0 HP fh b v1 k0_hw33 k0_t1 hL) $$ HW; iintro HW
  iapply (run_part24 c i arg3 harg3 arg4 harg4 arg5 harg5 arg7 harg7 arg8 harg8 xt0 HP fh b v1 k0_hw33 k0_t1 hL) $$ HW; iintro HW
  iapply (run_part25 c i arg3 harg3 arg4 harg4 arg5 harg5 arg7 harg7 arg8 harg8 xt0 HP fh b v1 k0_hw33 k0_t1 hL) $$ HW; iintro HW
  iapply (run_part26 c i arg3 harg3 arg4 harg4 arg5 harg5 arg7 harg7 arg8 harg8 xt0 HP fh b v1 k0_hw33 k0_t1 hL) $$ HW; iintro HW
  iapply (run_part27 c i arg3 harg3 arg4 harg4 arg5 harg5 arg7 harg7 arg8 harg8 xt0 HP fh b v1 k0_hw33 k0_t1 (Scf.iv 0#32 1#32 k0_t1) v144 hL) $$ HW; iintro ⟨HW, HO⟩
  try dsimp only
  rw [k0_part28_eq_skeleton]; unfold k0_part28_skel; dsimp only
  iapply (bind_step c)
  iapply (ret_step c)
  try dsimp only
  iapply (ret_step c)
  unfold tripVal; dsimp only
  iapply Hk
  isplitl [HT]; · iexact HT
  isplitl [HI]; · iexact HI
  isplitl [HW] <;> iassumption

end Cert.KernelIdeal.Gen

end
-- ==== Proof.KernelIdeal.First.lean ====
/- The copies of a row's first block, as the kernel issues them before its loop. -/
module

public import proofs.«01_k».proof.Proof.KernelIdeal.Base
public import proofs.«01_k».proof.Proof.KernelIdeal.Pages

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

variable (c : Dev nD) (i : grid0.Coords) (arg3 : Memref sig .tc .vmem S1x128x512 .bf16) (harg3 : arg3.IsWhole) (arg4 : Memref sig .tc .vmem S1x128x144 .bf16) (harg4 : arg4.IsWhole)
  (arg5 : Memref sig .tc .vmem S1x1x656 .i8) (harg5 : arg5.IsWhole) (arg7 : Memref sig .tc .vmem S1x128x512 .bf16) (harg7 : arg7.IsWhole) (arg8 : Memref sig .tc .vmem S1x128x1 .f32) (harg8 : arg8.IsWhole)
  (xt0 : TbBuf0 (F := F) c tbM0_0) (HP : ∀ x, (xt0 x).toNat < 40960) (fh : Buf (Elt F) (poolL c)) (b : Fin 32) (hb : (i 0).val = b.val)

section
include hb

theorem run_part1 (g : Buf (Elt F) (bufL c)) (arg0 : BitVec 32) (v1 : Elt F .i32) (k0_h1 : k0_cond1 v1 = 1#1) (hL : LenOk v1) {α : Type} {k : (Σ' (v160 : Elt F .i32), k0_chk4 v1 v160) → Prog (TpuEff nD τ sig (Elt F) Λ₀ .tc) α} {Q : α → sProp 𝕄} :
    iprop(tbPt0 c tbM0_0 xt0 ∗ Iss c fh 0 g (pgs c xt0 HP b 0) 0)
      ⊢ iprop((∀ hw : k0_chk4 v1 (wd c xt0 b (pidx 0 3)), iprop(tbPt0 c tbM0_0 xt0 ∗ Iss c fh 0 g (pgs c xt0 HP b 0) 3) -∗ WP c (k ⟨wd c xt0 b (pidx 0 3), hw⟩) Q)
        -∗ WP c (k0_part1 i tbM0_0 htbM0_0 tbM0_1 htbM0_1 arg3 harg3 arg4 harg4 arg5 harg5 (Memref.whole main_arg3) (Memref.isWhole_whole _) arg7 harg7 arg8 harg8 (Memref.whole cc0_scratch0) (Memref.isWhole_whole _) cc0_scratch1 arg0 v1 k0_h1 >>= k) Q) := by
  iintro ⟨HT, HI⟩ Hk
  iapply bind_step
  rw [k0_part1_eq_skeleton]; unfold k0_part1_skel; dsimp only
  iapply (word_step c xt0 b (pidx 0 0) (off_row i b hb rfl)) $$ HT; iintro HT
  iapply (assume_step c ⟨fun _ => inb_page (HP _), fun _ hinb => words_page _ hinb⟩)
  iapply (issue_step' c fh 0 g (pgs c xt0 HP b 0) 0 (by decide) rfl rfl rfl) $$ HI; iintro HI
  iapply (word_step c xt0 b (pidx 0 1) (off_row i b hb rfl)) $$ HT; iintro HT
  iapply (assume_step c ⟨fun _ => inb_page (HP _), fun _ hinb => words_page _ hinb⟩)
  iapply (issue_step' c fh 0 g (pgs c xt0 HP b 0) 1 (by decide) rfl rfl rfl) $$ HI; iintro HI
  iapply (word_step c xt0 b (pidx 0 2) (off_row i b hb rfl)) $$ HT; iintro HT
  iapply (assume_step c ⟨fun _ => inb_page (HP _), fun _ hinb => words_page _ hinb⟩)
  iapply (issue_step' c fh 0 g (pgs c xt0 HP b 0) 2 (by decide) rfl rfl rfl) $$ HI; iintro HI
  iapply (word_step c xt0 b (pidx 0 3) (off_row i b hb rfl)) $$ HT; iintro HT
  iapply (assume_step c ⟨fun _ => inb_page (HP _), fun _ hinb => words_page _ hinb⟩)
  iapply ret_step
  iapply Hk
  isplitl [HT]; · iexact HT
  iexact HI

theorem run_part2 (g : Buf (Elt F) (bufL c)) (arg0 : BitVec 32) (v1 : Elt F .i32) (k0_h1 : k0_cond1 v1 = 1#1) (v160 : Elt F .i32) (k0_hw4 : k0_chk4 v1 v160) (hL : LenOk v1) (hv : v160 = wd c xt0 b (pidx 0 3)) {α : Type} {k : (Σ' (v184 : Elt F .i32), k0_chk7 v1 v184) → Prog (TpuEff nD τ sig (Elt F) Λ₀ .tc) α} {Q : α → sProp 𝕄} :
    iprop(tbPt0 c tbM0_0 xt0 ∗ Iss c fh 0 g (pgs c xt0 HP b 0) 3)
      ⊢ iprop((∀ hw : k0_chk7 v1 (wd c xt0 b (pidx 0 6)), iprop(tbPt0 c tbM0_0 xt0 ∗ Iss c fh 0 g (pgs c xt0 HP b 0) 6) -∗ WP c (k ⟨wd c xt0 b (pidx 0 6), hw⟩) Q)
        -∗ WP c (k0_part2 i tbM0_0 htbM0_0 tbM0_1 htbM0_1 arg3 harg3 arg4 harg4 arg5 harg5 (Memref.whole main_arg3) (Memref.isWhole_whole _) arg7 harg7 arg8 harg8 (Memref.whole cc0_scratch0) (Memref.isWhole_whole _) cc0_scratch1 arg0 v1 k0_h1 v160 k0_hw4 >>= k) Q) := by
  subst hv
  iintro ⟨HT, HI⟩ Hk
  iapply bind_step
  rw [k0_part2_eq_skeleton]; unfold k0_part2_skel; dsimp only
  iapply (issue_step' c fh 0 g (pgs c xt0 HP b 0) 3 (by decide) rfl rfl rfl) $$ HI; iintro HI
  iapply (word_step c xt0 b (pidx 0 4) (off_row i b hb rfl)) $$ HT; iintro HT
  iapply (assume_step c ⟨fun _ => inb_page (HP _), fun _ hinb => words_page _ hinb⟩)
  iapply (issue_step' c fh 0 g (pgs c xt0 HP b 0) 4 (by decide) rfl rfl rfl) $$ HI; iintro HI
  iapply (word_step c xt0 b (pidx 0 5) (off_row i b hb rfl)) $$ HT; iintro HT
  iapply (assume_step c ⟨fun _ => inb_page (HP _), fun _ hinb => words_page _ hinb⟩)
  iapply (issue_step' c fh 0 g (pgs c xt0 HP b 0) 5 (by decide) rfl rfl rfl) $$ HI; iintro HI
  iapply (word_step c xt0 b (pidx 0 6) (off_row i b hb rfl)) $$ HT; iintro HT
  iapply (assume_step c ⟨fun _ => inb_page (HP _), fun _ hinb => words_page _ hinb⟩)
  iapply ret_step
  iapply Hk
  isplitl [HT]; · iexact HT
  iexact HI

theorem run_part3 (g : Buf (Elt F) (bufL c)) (arg0 : BitVec 32) (v1 : Elt F .i32) (k0_h1 : k0_cond1 v1 = 1#1) (v184 : Elt F .i32) (k0_hw7 : k0_chk7 v1 v184) (hL : LenOk v1) (hv : v184 = wd c xt0 b (pidx 0 6)) {α : Type} {k : (PUnit) → Prog (TpuEff nD τ sig (Elt F) Λ₀ .tc) α} {Q : α → sProp 𝕄} :
    iprop(tbPt0 c tbM0_0 xt0 ∗ Iss c fh 0 g (pgs c xt0 HP b 0) 6)
      ⊢ iprop((iprop(tbPt0 c tbM0_0 xt0 ∗ Iss c fh 0 g (pgs c xt0 HP b 0) 10) -∗ WP c (k ⟨⟩) Q)
        -∗ WP c (k0_part3 i tbM0_0 htbM0_0 tbM0_1 htbM0_1 arg3 harg3 arg4 harg4 arg5 harg5 (Memref.whole main_arg3) (Memref.isWhole_whole _) arg7 harg7 arg8 harg8 (Memref.whole cc0_scratch0) (Memref.isWhole_whole _) cc0_scratch1 arg0 v1 k0_h1 v184 k0_hw7 >>= k) Q) := by
  subst hv
  iintro ⟨HT, HI⟩ Hk
  iapply bind_step
  rw [k0_part3_eq_skeleton]; unfold k0_part3_skel; dsimp only
  iapply (issue_step' c fh 0 g (pgs c xt0 HP b 0) 6 (by decide) rfl rfl rfl) $$ HI; iintro HI
  iapply (word_step c xt0 b (pidx 0 7) (off_row i b hb rfl)) $$ HT; iintro HT
  iapply (assume_step c ⟨fun _ => inb_page (HP _), fun _ hinb => words_page _ hinb⟩)
  iapply (issue_step' c fh 0 g (pgs c xt0 HP b 0) 7 (by decide) rfl rfl rfl) $$ HI; iintro HI
  iapply (word_step c xt0 b (pidx 0 8) (off_row i b hb rfl)) $$ HT; iintro HT
  iapply (assume_step c ⟨fun _ => inb_page (HP _), fun _ hinb => words_page _ hinb⟩)
  iapply (issue_step' c fh 0 g (pgs c xt0 HP b 0) 8 (by decide) rfl rfl rfl) $$ HI; iintro HI
  iapply (word_step c xt0 b (pidx 0 9) (off_row i b hb rfl)) $$ HT; iintro HT
  iapply (assume_step c ⟨fun _ => inb_page (HP _), fun _ hinb => words_page _ hinb⟩)
  iapply (issue_step' c fh 0 g (pgs c xt0 HP b 0) 9 (by decide) rfl rfl rfl) $$ HI; iintro HI
  iapply ret_step
  iapply Hk
  isplitl [HT]; · iexact HT
  iexact HI

theorem run_part4 (g : Buf (Elt F) (bufL c)) (arg0 : BitVec 32) (v1 : Elt F .i32) (k0_h1 : k0_cond1 v1 = 1#1) (hL : LenOk v1) {α : Type} {k : (Σ' (v240 : Elt F .i32), k0_chk14 v1 v240) → Prog (TpuEff nD τ sig (Elt F) Λ₀ .tc) α} {Q : α → sProp 𝕄} :
    iprop(tbPt0 c tbM0_0 xt0 ∗ Iss c fh 0 g (pgs c xt0 HP b 0) 10)
      ⊢ iprop((∀ hw : k0_chk14 v1 (wd c xt0 b (pidx 0 13)), iprop(tbPt0 c tbM0_0 xt0 ∗ Iss c fh 0 g (pgs c xt0 HP b 0) 13) -∗ WP c (k ⟨wd c xt0 b (pidx 0 13), hw⟩) Q)
        -∗ WP c (k0_part4 i tbM0_0 htbM0_0 tbM0_1 htbM0_1 arg3 harg3 arg4 harg4 arg5 harg5 (Memref.whole main_arg3) (Memref.isWhole_whole _) arg7 harg7 arg8 harg8 (Memref.whole cc0_scratch0) (Memref.isWhole_whole _) cc0_scratch1 arg0 v1 k0_h1 >>= k) Q) := by
  iintro ⟨HT, HI⟩ Hk
  iapply bind_step
  rw [k0_part4_eq_skeleton]; unfold k0_part4_skel; dsimp only
  iapply (word_step c xt0 b (pidx 0 10) (off_row i b hb rfl)) $$ HT; iintro HT
  iapply (assume_step c ⟨fun _ => inb_page (HP _), fun _ hinb => words_page _ hinb⟩)
  iapply (issue_step' c fh 0 g (pgs c xt0 HP b 0) 10 (by decide) rfl rfl rfl) $$ HI; iintro HI
  iapply (word_step c xt0 b (pidx 0 11) (off_row i b hb rfl)) $$ HT; iintro HT
  iapply (assume_step c ⟨fun _ => inb_page (HP _), fun _ hinb => words_page _ hinb⟩)
  iapply (issue_step' c fh 0 g (pgs c xt0 HP b 0) 11 (by decide) rfl rfl rfl) $$ HI; iintro HI
  iapply (word_step c xt0 b (pidx 0 12) (off_row i b hb rfl)) $$ HT; iintro HT
  iapply (assume_step c ⟨fun _ => inb_page (HP _), fun _ hinb => words_page _ hinb⟩)
  iapply (issue_step' c fh 0 g (pgs c xt0 HP b 0) 12 (by decide) rfl rfl rfl) $$ HI; iintro HI
  iapply (word_step c xt0 b (pidx 0 13) (off_row i b hb rfl)) $$ HT; iintro HT
  iapply (assume_step c ⟨fun _ => inb_page (HP _), fun _ hinb => words_page _ hinb⟩)
  iapply ret_step
  iapply Hk
  isplitl [HT]; · iexact HT
  iexact HI

theorem run_part5 (g : Buf (Elt F) (bufL c)) (arg0 : BitVec 32) (v1 : Elt F .i32) (k0_h1 : k0_cond1 v1 = 1#1) (v240 : Elt F .i32) (k0_hw14 : k0_chk14 v1 v240) (hL : LenOk v1) (hv : v240 = wd c xt0 b (pidx 0 13)) {α : Type} {k : (Σ' (v264 : Elt F .i32), k0_chk17 v1 v264) → Prog (TpuEff nD τ sig (Elt F) Λ₀ .tc) α} {Q : α → sProp 𝕄} :
    iprop(tbPt0 c tbM0_0 xt0 ∗ Iss c fh 0 g (pgs c xt0 HP b 0) 13)
      ⊢ iprop((∀ hw : k0_chk17 v1 (wd c xt0 b (pidx 0 16)), iprop(tbPt0 c tbM0_0 xt0 ∗ Iss c fh 0 g (pgs c xt0 HP b 0) 16) -∗ WP c (k ⟨wd c xt0 b (pidx 0 16), hw⟩) Q)
        -∗ WP c (k0_part5 i tbM0_0 htbM0_0 tbM0_1 htbM0_1 arg3 harg3 arg4 harg4 arg5 harg5 (Memref.whole main_arg3) (Memref.isWhole_whole _) arg7 harg7 arg8 harg8 (Memref.whole cc0_scratch0) (Memref.isWhole_whole _) cc0_scratch1 arg0 v1 k0_h1 v240 k0_hw14 >>= k) Q) := by
  subst hv
  iintro ⟨HT, HI⟩ Hk
  iapply bind_step
  rw [k0_part5_eq_skeleton]; unfold k0_part5_skel; dsimp only
  iapply (issue_step' c fh 0 g (pgs c xt0 HP b 0) 13 (by decide) rfl rfl rfl) $$ HI; iintro HI
  iapply (word_step c xt0 b (pidx 0 14) (off_row i b hb rfl)) $$ HT; iintro HT
  iapply (assume_step c ⟨fun _ => inb_page (HP _), fun _ hinb => words_page _ hinb⟩)
  iapply (issue_step' c fh 0 g (pgs c xt0 HP b 0) 14 (by decide) rfl rfl rfl) $$ HI; iintro HI
  iapply (word_step c xt0 b (pidx 0 15) (off_row i b hb rfl)) $$ HT; iintro HT
  iapply (assume_step c ⟨fun _ => inb_page (HP _), fun _ hinb => words_page _ hinb⟩)
  iapply (issue_step' c fh 0 g (pgs c xt0 HP b 0) 15 (by decide) rfl rfl rfl) $$ HI; iintro HI
  iapply (word_step c xt0 b (pidx 0 16) (off_row i b hb rfl)) $$ HT; iintro HT
  iapply (assume_step c ⟨fun _ => inb_page (HP _), fun _ hinb => words_page _ hinb⟩)
  iapply ret_step
  iapply Hk
  isplitl [HT]; · iexact HT
  iexact HI

theorem run_part6 (g : Buf (Elt F) (bufL c)) (arg0 : BitVec 32) (v1 : Elt F .i32) (k0_h1 : k0_cond1 v1 = 1#1) (v264 : Elt F .i32) (k0_hw17 : k0_chk17 v1 v264) (hL : LenOk v1) (hv : v264 = wd c xt0 b (pidx 0 16)) {α : Type} {k : (PUnit) → Prog (TpuEff nD τ sig (Elt F) Λ₀ .tc) α} {Q : α → sProp 𝕄} :
    iprop(tbPt0 c tbM0_0 xt0 ∗ Iss c fh 0 g (pgs c xt0 HP b 0) 16)
      ⊢ iprop((iprop(tbPt0 c tbM0_0 xt0 ∗ Iss c fh 0 g (pgs c xt0 HP b 0) 20) -∗ WP c (k ⟨⟩) Q)
        -∗ WP c (k0_part6 i tbM0_0 htbM0_0 tbM0_1 htbM0_1 arg3 harg3 arg4 harg4 arg5 harg5 (Memref.whole main_arg3) (Memref.isWhole_whole _) arg7 harg7 arg8 harg8 (Memref.whole cc0_scratch0) (Memref.isWhole_whole _) cc0_scratch1 arg0 v1 k0_h1 v264 k0_hw17 >>= k) Q) := by
  subst hv
  iintro ⟨HT, HI⟩ Hk
  iapply bind_step
  rw [k0_part6_eq_skeleton]; unfold k0_part6_skel; dsimp only
  iapply (issue_step' c fh 0 g (pgs c xt0 HP b 0) 16 (by decide) rfl rfl rfl) $$ HI; iintro HI
  iapply (word_step c xt0 b (pidx 0 17) (off_row i b hb rfl)) $$ HT; iintro HT
  iapply (assume_step c ⟨fun _ => inb_page (HP _), fun _ hinb => words_page _ hinb⟩)
  iapply (issue_step' c fh 0 g (pgs c xt0 HP b 0) 17 (by decide) rfl rfl rfl) $$ HI; iintro HI
  iapply (word_step c xt0 b (pidx 0 18) (off_row i b hb rfl)) $$ HT; iintro HT
  iapply (assume_step c ⟨fun _ => inb_page (HP _), fun _ hinb => words_page _ hinb⟩)
  iapply (issue_step' c fh 0 g (pgs c xt0 HP b 0) 18 (by decide) rfl rfl rfl) $$ HI; iintro HI
  iapply (word_step c xt0 b (pidx 0 19) (off_row i b hb rfl)) $$ HT; iintro HT
  iapply (assume_step c ⟨fun _ => inb_page (HP _), fun _ hinb => words_page _ hinb⟩)
  iapply (issue_step' c fh 0 g (pgs c xt0 HP b 0) 19 (by decide) rfl rfl rfl) $$ HI; iintro HI
  iapply ret_step
  iapply Hk
  isplitl [HT]; · iexact HT
  iexact HI

theorem run_part7 (g : Buf (Elt F) (bufL c)) (arg0 : BitVec 32) (v1 : Elt F .i32) (k0_h1 : k0_cond1 v1 = 1#1) (hL : LenOk v1) {α : Type} {k : (Σ' (v320 : Elt F .i32), k0_chk24 v1 v320) → Prog (TpuEff nD τ sig (Elt F) Λ₀ .tc) α} {Q : α → sProp 𝕄} :
    iprop(tbPt0 c tbM0_0 xt0 ∗ Iss c fh 0 g (pgs c xt0 HP b 0) 20)
      ⊢ iprop((∀ hw : k0_chk24 v1 (wd c xt0 b (pidx 0 23)), iprop(tbPt0 c tbM0_0 xt0 ∗ Iss c fh 0 g (pgs c xt0 HP b 0) 23) -∗ WP c (k ⟨wd c xt0 b (pidx 0 23), hw⟩) Q)
        -∗ WP c (k0_part7 i tbM0_0 htbM0_0 tbM0_1 htbM0_1 arg3 harg3 arg4 harg4 arg5 harg5 (Memref.whole main_arg3) (Memref.isWhole_whole _) arg7 harg7 arg8 harg8 (Memref.whole cc0_scratch0) (Memref.isWhole_whole _) cc0_scratch1 arg0 v1 k0_h1 >>= k) Q) := by
  iintro ⟨HT, HI⟩ Hk
  iapply bind_step
  rw [k0_part7_eq_skeleton]; unfold k0_part7_skel; dsimp only
  iapply (word_step c xt0 b (pidx 0 20) (off_row i b hb rfl)) $$ HT; iintro HT
  iapply (assume_step c ⟨fun _ => inb_page (HP _), fun _ hinb => words_page _ hinb⟩)
  iapply (issue_step' c fh 0 g (pgs c xt0 HP b 0) 20 (by decide) rfl rfl rfl) $$ HI; iintro HI
  iapply (word_step c xt0 b (pidx 0 21) (off_row i b hb rfl)) $$ HT; iintro HT
  iapply (assume_step c ⟨fun _ => inb_page (HP _), fun _ hinb => words_page _ hinb⟩)
  iapply (issue_step' c fh 0 g (pgs c xt0 HP b 0) 21 (by decide) rfl rfl rfl) $$ HI; iintro HI
  iapply (word_step c xt0 b (pidx 0 22) (off_row i b hb rfl)) $$ HT; iintro HT
  iapply (assume_step c ⟨fun _ => inb_page (HP _), fun _ hinb => words_page _ hinb⟩)
  iapply (issue_step' c fh 0 g (pgs c xt0 HP b 0) 22 (by decide) rfl rfl rfl) $$ HI; iintro HI
  iapply (word_step c xt0 b (pidx 0 23) (off_row i b hb rfl)) $$ HT; iintro HT
  iapply (assume_step c ⟨fun _ => inb_page (HP _), fun _ hinb => words_page _ hinb⟩)
  iapply ret_step
  iapply Hk
  isplitl [HT]; · iexact HT
  iexact HI

theorem run_part8 (g : Buf (Elt F) (bufL c)) (arg0 : BitVec 32) (v1 : Elt F .i32) (k0_h1 : k0_cond1 v1 = 1#1) (v320 : Elt F .i32) (k0_hw24 : k0_chk24 v1 v320) (hL : LenOk v1) (hv : v320 = wd c xt0 b (pidx 0 23)) {α : Type} {k : (Σ' (v344 : Elt F .i32), k0_chk27 v1 v344) → Prog (TpuEff nD τ sig (Elt F) Λ₀ .tc) α} {Q : α → sProp 𝕄} :
    iprop(tbPt0 c tbM0_0 xt0 ∗ Iss c fh 0 g (pgs c xt0 HP b 0) 23)
      ⊢ iprop((∀ hw : k0_chk27 v1 (wd c xt0 b (pidx 0 26)), iprop(tbPt0 c tbM0_0 xt0 ∗ Iss c fh 0 g (pgs c xt0 HP b 0) 26) -∗ WP c (k ⟨wd c xt0 b (pidx 0 26), hw⟩) Q)
        -∗ WP c (k0_part8 i tbM0_0 htbM0_0 tbM0_1 htbM0_1 arg3 harg3 arg4 harg4 arg5 harg5 (Memref.whole main_arg3) (Memref.isWhole_whole _) arg7 harg7 arg8 harg8 (Memref.whole cc0_scratch0) (Memref.isWhole_whole _) cc0_scratch1 arg0 v1 k0_h1 v320 k0_hw24 >>= k) Q) := by
  subst hv
  iintro ⟨HT, HI⟩ Hk
  iapply bind_step
  rw [k0_part8_eq_skeleton]; unfold k0_part8_skel; dsimp only
  iapply (issue_step' c fh 0 g (pgs c xt0 HP b 0) 23 (by decide) rfl rfl rfl) $$ HI; iintro HI
  iapply (word_step c xt0 b (pidx 0 24) (off_row i b hb rfl)) $$ HT; iintro HT
  iapply (assume_step c ⟨fun _ => inb_page (HP _), fun _ hinb => words_page _ hinb⟩)
  iapply (issue_step' c fh 0 g (pgs c xt0 HP b 0) 24 (by decide) rfl rfl rfl) $$ HI; iintro HI
  iapply (word_step c xt0 b (pidx 0 25) (off_row i b hb rfl)) $$ HT; iintro HT
  iapply (assume_step c ⟨fun _ => inb_page (HP _), fun _ hinb => words_page _ hinb⟩)
  iapply (issue_step' c fh 0 g (pgs c xt0 HP b 0) 25 (by decide) rfl rfl rfl) $$ HI; iintro HI
  iapply (word_step c xt0 b (pidx 0 26) (off_row i b hb rfl)) $$ HT; iintro HT
  iapply (assume_step c ⟨fun _ => inb_page (HP _), fun _ hinb => words_page _ hinb⟩)
  iapply ret_step
  iapply Hk
  isplitl [HT]; · iexact HT
  iexact HI

theorem run_part9 (g : Buf (Elt F) (bufL c)) (arg0 : BitVec 32) (v1 : Elt F .i32) (k0_h1 : k0_cond1 v1 = 1#1) (v344 : Elt F .i32) (k0_hw27 : k0_chk27 v1 v344) (hL : LenOk v1) (hv : v344 = wd c xt0 b (pidx 0 26)) {α : Type} {k : (PUnit) → Prog (TpuEff nD τ sig (Elt F) Λ₀ .tc) α} {Q : α → sProp 𝕄} :
    iprop(tbPt0 c tbM0_0 xt0 ∗ Iss c fh 0 g (pgs c xt0 HP b 0) 26)
      ⊢ iprop((iprop(tbPt0 c tbM0_0 xt0 ∗ Iss c fh 0 g (pgs c xt0 HP b 0) 30) -∗ WP c (k ⟨⟩) Q)
        -∗ WP c (k0_part9 i tbM0_0 htbM0_0 tbM0_1 htbM0_1 arg3 harg3 arg4 harg4 arg5 harg5 (Memref.whole main_arg3) (Memref.isWhole_whole _) arg7 harg7 arg8 harg8 (Memref.whole cc0_scratch0) (Memref.isWhole_whole _) cc0_scratch1 arg0 v1 k0_h1 v344 k0_hw27 >>= k) Q) := by
  subst hv
  iintro ⟨HT, HI⟩ Hk
  iapply bind_step
  rw [k0_part9_eq_skeleton]; unfold k0_part9_skel; dsimp only
  iapply (issue_step' c fh 0 g (pgs c xt0 HP b 0) 26 (by decide) rfl rfl rfl) $$ HI; iintro HI
  iapply (word_step c xt0 b (pidx 0 27) (off_row i b hb rfl)) $$ HT; iintro HT
  iapply (assume_step c ⟨fun _ => inb_page (HP _), fun _ hinb => words_page _ hinb⟩)
  iapply (issue_step' c fh 0 g (pgs c xt0 HP b 0) 27 (by decide) rfl rfl rfl) $$ HI; iintro HI
  iapply (word_step c xt0 b (pidx 0 28) (off_row i b hb rfl)) $$ HT; iintro HT
  iapply (assume_step c ⟨fun _ => inb_page (HP _), fun _ hinb => words_page _ hinb⟩)
  iapply (issue_step' c fh 0 g (pgs c xt0 HP b 0) 28 (by decide) rfl rfl rfl) $$ HI; iintro HI
  iapply (word_step c xt0 b (pidx 0 29) (off_row i b hb rfl)) $$ HT; iintro HT
  iapply (assume_step c ⟨fun _ => inb_page (HP _), fun _ hinb => words_page _ hinb⟩)
  iapply (issue_step' c fh 0 g (pgs c xt0 HP b 0) 29 (by decide) rfl rfl rfl) $$ HI; iintro HI
  iapply ret_step
  iapply Hk
  isplitl [HT]; · iexact HT
  iexact HI

end

end Cert.KernelIdeal.Gen

end
-- ==== Proof.KernelIdeal.Opening.lean ====
/- The opening of a row: its length read, the first block's copies started, the queries and the new record loaded. -/
module

public import proofs.«01_k».proof.Proof.KernelIdeal.Base
public import proofs.«01_k».proof.Proof.KernelIdeal.Loads
public import proofs.«01_k».proof.Proof.KernelIdeal.Trip
public import proofs.«01_k».proof.Proof.KernelIdeal.First

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

variable (c : Dev nD) (i : grid0.Coords) (arg3 : Memref sig .tc .vmem S1x128x512 .bf16) (harg3 : arg3.IsWhole) (arg4 : Memref sig .tc .vmem S1x128x144 .bf16) (harg4 : arg4.IsWhole)
  (arg5 : Memref sig .tc .vmem S1x1x656 .i8) (harg5 : arg5.IsWhole) (arg7 : Memref sig .tc .vmem S1x128x512 .bf16) (harg7 : arg7.IsWhole) (arg8 : Memref sig .tc .vmem S1x128x1 .f32) (harg8 : arg8.IsWhole)
  (xt0 : TbBuf0 (F := F) c tbM0_0) (HP : ∀ x, (xt0 x).toNat < 40960) (fh : Buf (Elt F) (poolL c)) (b : Fin 32) (hb : (i 0).val = b.val)
  (xt1 : TbBuf0 (F := F) c tbM0_1) (x0 : Vec F S1x128x512 .bf16) (x1 : Vec F S1x128x144 .bf16) (x2 : Vec F S1x1x656 .i8)

-- (kept folded: a program's head is a conditional on a computed word)
attribute [local irreducible] k0_part48

theorem off_len (i : grid0.Coords) (b : Fin 32) (hb : (i 0).val = b.val) : k0_off1 i = ![b.val] := by
  show (![(BitVec.ofNat 32 (i 0).val).toNat] : Fin 1 → ℕ) = ![b.val]
  rw [grid_ofNat, hb]
theorem zero3 : (![0, 0, 0] : Fin 3 → ℕ) = fun _ => 0 := by funext a; fin_cases a <;> rfl

set_option maxHeartbeats 1000000 in
include hb in
theorem run_part48 (g : Buf (Elt F) (bufL c)) (hL : LenOk (len c xt1 b)) {α : Type}
    {k : (Σ' (arg0 : BitVec 32) (v1 : Elt F .i32) (k0_hw33 : k0_chk33 i v1) (v3 : BitVec 32) (v5 : FVec F S128x512 .bf16) (v7 : FVec F S128x144 .bf16) (v11 : FVec F S128x1 .f32) (v12 : FVec F S128x1 .f32) (v13 : FVec F S128x512 .f32) (v22 : IVec S128x32 1) (v25 : FVec F S32x512 .bf16) (v28 : IVec S32x144 32) (v32 : IVec S32x144 32) (v35 : FVec F S32x144 .f32), BitVec 32) → Prog (TpuEff nD τ sig (Elt F) Λ₀ .tc) α} {Q : α → sProp 𝕄} :
    iprop(tbPt0 c tbM0_0 xt0 ∗ tbPt0 c tbM0_1 xt1 ∗ owns (c : Thread nD τ) arg3 fullShare x0 ∗ owns (c : Thread nD τ) arg4 fullShare x1 ∗ owns (c : Thread nD τ) arg5 fullShare x2 ∗ Idle c fh 0 g)
      ⊢ iprop((∀ hw33 : k0_chk33 i (len c xt1 b), iprop(tbPt0 c tbM0_0 xt0 ∗ tbPt0 c tbM0_1 xt1 ∗ owns (c : Thread nD τ) arg3 fullShare x0 ∗ owns (c : Thread nD τ) arg4 fullShare x1 ∗ owns (c : Thread nD τ) arg5 fullShare x2 ∗ Nx c xt0 HP fh b g 0 (nblk (len c xt1 b).toNat))
          -∗ WP c (k ⟨BitVec.ofNat 32 (i 0).val, len c xt1 b, hw33, Scalar.divsi (Scalar.addi (len c xt1 b) 511#32) 512#32, k0_pay20 x0, k0_pay21 x1, k0_pay22 (F := F), k0_pay23 (F := F), k0_pay24 (F := F), k0_pay26, k0_pay27 x2,
            iota .tc S32x144 32 [1] iota_S32x144_d1_w32, k0_pay28 x2, k0_pay29 x2, 16#32⟩) Q)
        -∗ WP c (k0_part48 i tbM0_0 htbM0_0 tbM0_1 htbM0_1 arg3 harg3 arg4 harg4 arg5 harg5 (Memref.whole main_arg3) (Memref.isWhole_whole _) arg7 harg7 arg8 harg8 (Memref.whole cc0_scratch0) (Memref.isWhole_whole _) cc0_scratch1 >>= k) Q) := by
  rw [k0_part48_eq_skeleton]; unfold k0_part48_skel Nx; dsimp only
  iintro ⟨HT, HT1, H3, H4, H5, HI⟩ Hk
  iapply (bind_step c)
  iapply (len_step c xt1 b (off_len i b hb)) $$ HT1; iintro HT1
  iapply (assume_step c (chk33 i _ hL))
  iapply (load_full c arg3 x0 zero3) $$ H3; iintro H3
  iapply (load_full c arg4 x1 zero3) $$ H4; iintro H4
  rcases Nat.lt_or_ge 0 (nblk (len c xt1 b).toNat) with hlt | hge
  · have h1 : k0_cond1 (len c xt1 b) = 1#1 := (cond1_iff _ hL).mpr hlt
    rw [dif_pos h1, if_pos hlt]
    imod (idle_start c fh 0 g (pgs c xt0 HP b 0)) $$ HI with HI
    iapply (run_part1 c i arg3 harg3 arg4 harg4 arg5 harg5 arg7 harg7 arg8 harg8 xt0 HP fh b hb g (BitVec.ofNat 32 (i 0).val) (len c xt1 b) h1 hL) $$ [HT HI]
    · isplitl [HT] <;> iassumption
    iintro %hw ⟨HT, HI⟩
    try dsimp only
    iapply (run_part2 c i arg3 harg3 arg4 harg4 arg5 harg5 arg7 harg7 arg8 harg8 xt0 HP fh b hb g (BitVec.ofNat 32 (i 0).val) (len c xt1 b) h1 (wd c xt0 b (pidx 0 3)) hw hL rfl) $$ [HT HI]
    · isplitl [HT] <;> iassumption
    iintro %hw ⟨HT, HI⟩
    try dsimp only
    iapply (run_part3 c i arg3 harg3 arg4 harg4 arg5 harg5 arg7 harg7 arg8 harg8 xt0 HP fh b hb g (BitVec.ofNat 32 (i 0).val) (len c xt1 b) h1 (wd c xt0 b (pidx 0 6)) hw hL rfl) $$ [HT HI]
    · isplitl [HT] <;> iassumption
    iintro ⟨HT, HI⟩
    try dsimp only
    iapply (run_part4 c i arg3 harg3 arg4 harg4 arg5 harg5 arg7 harg7 arg8 harg8 xt0 HP fh b hb g (BitVec.ofNat 32 (i 0).val) (len c xt1 b) h1 hL) $$ [HT HI]
    · isplitl [HT] <;> iassumption
    iintro %hw ⟨HT, HI⟩
    try dsimp only
    iapply (run_part5 c i arg3 harg3 arg4 harg4 arg5 harg5 arg7 harg7 arg8 harg8 xt0 HP fh b hb g (BitVec.ofNat 32 (i 0).val) (len c xt1 b) h1 (wd c xt0 b (pidx 0 13)) hw hL rfl) $$ [HT HI]
    · isplitl [HT] <;> iassumption
    iintro %hw ⟨HT, HI⟩
    try dsimp only
    iapply (run_part6 c i arg3 harg3 arg4 harg4 arg5 harg5 arg7 harg7 arg8 harg8 xt0 HP fh b hb g (BitVec.ofNat 32 (i 0).val) (len c xt1 b) h1 (wd c xt0 b (pidx 0 16)) hw hL rfl) $$ [HT HI]
    · isplitl [HT] <;> iassumption
    iintro ⟨HT, HI⟩
    try dsimp only
    iapply (run_part7 c i arg3 harg3 arg4 harg4 arg5 harg5 arg7 harg7 arg8 harg8 xt0 HP fh b hb g (BitVec.ofNat 32 (i 0).val) (len c xt1 b) h1 hL) $$ [HT HI]
    · isplitl [HT] <;> iassumption
    iintro %hw ⟨HT, HI⟩
    try dsimp only
    iapply (run_part8 c i arg3 harg3 arg4 harg4 arg5 harg5 arg7 harg7 arg8 harg8 xt0 HP fh b hb g (BitVec.ofNat 32 (i 0).val) (len c xt1 b) h1 (wd c xt0 b (pidx 0 23)) hw hL rfl) $$ [HT HI]
    · isplitl [HT] <;> iassumption
    iintro %hw ⟨HT, HI⟩
    try dsimp only
    iapply (run_part9 c i arg3 harg3 arg4 harg4 arg5 harg5 arg7 harg7 arg8 harg8 xt0 HP fh b hb g (BitVec.ofNat 32 (i 0).val) (len c xt1 b) h1 (wd c xt0 b (pidx 0 26)) hw hL rfl) $$ [HT HI]
    · isplitl [HT] <;> iassumption
    iintro ⟨HT, HI⟩
    try dsimp only
    iapply (word_step c xt0 b (pidx 0 30) (off_row i b hb rfl)) $$ HT; iintro HT
    iapply (assume_step c ⟨fun _ => inb_page (HP _), fun _ hinb => words_page _ hinb⟩)
    iapply (issue_step' c fh 0 g (pgs c xt0 HP b 0) 30 (by decide) rfl rfl rfl) $$ HI; iintro HI
    iapply (word_step c xt0 b (pidx 0 31) (off_row i b hb rfl)) $$ HT; iintro HT
    iapply (assume_step c ⟨fun _ => inb_page (HP _), fun _ hinb => words_page _ hinb⟩)
    iapply (issue_step' c fh 0 g (pgs c xt0 HP b 0) 31 (by decide) rfl rfl rfl) $$ HI; iintro HI
    iapply (load_full c arg5 x2 zero3) $$ H5; iintro H5
    iapply (ret_step c)
    iapply Hk
    isplitl [HT]; · iexact HT
    isplitl [HT1]; · iexact HT1
    isplitl [H3]; · iexact H3
    isplitl [H4]; · iexact H4
    isplitl [H5]; · iexact H5
    iapply (iss_full c fh 0 g (pgs c xt0 HP b 0)) $$ HI
  · have h1 : ¬ k0_cond1 (len c xt1 b) = 1#1 := fun h => absurd ((cond1_iff _ hL).mp h) (Nat.not_lt.mpr hge)
    rw [dif_neg h1, if_neg (Nat.not_lt.mpr hge)]
    iapply (load_full c arg5 x2 zero3) $$ H5; iintro H5
    iapply (ret_step c)
    iapply Hk
    isplitl [HT]; · iexact HT
    isplitl [HT1]; · iexact HT1
    isplitl [H3]; · iexact H3
    isplitl [H4]; · iexact H4
    isplitl [H5]; · iexact H5
    iexact HI

end Cert.KernelIdeal.Gen

end
-- ==== Proof.KernelIdeal.Split.lean ====
/- The double buffer and the pool, held whole, against the same split over the two halves' copies. -/
module

public import proofs.«01_k».proof.Proof.KernelIdeal.Base
public import proofs.«01_k».proof.Proof.KernelIdeal.Steps

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

/-- The elements of half `s`. -/
def halfSet (s : Fin 2) : Finset S2x32x16x656.Idx := (Finset.univ : Finset (Fin 32)).biUnion (slotSet s)

theorem slots_disjoint (s : Fin 2) : ∀ t ∈ (Finset.univ : Finset (Fin 32)), ∀ t' ∈ (Finset.univ : Finset (Fin 32)), t ≠ t' → Disjoint (slotSet s t) (slotSet s t') := by
  intro t _ t' _ hne
  rw [Finset.disjoint_left]
  intro i hi hi'
  simp only [slotSet, Finset.mem_filter, Finset.mem_univ, _root_.true_and] at hi hi'
  exact hne (Fin.ext (hi.2.symm.trans hi'.2))

theorem mem_halfSet (s : Fin 2) (i : S2x32x16x656.Idx) : i ∈ halfSet s ↔ (i 0).val = s.val := by
  simp only [halfSet, slotSet, Finset.mem_biUnion, Finset.mem_filter, Finset.mem_univ, _root_.true_and]
  constructor
  · rintro ⟨n, h, -⟩; exact h
  · intro h; exact ⟨i 1, h, rfl⟩

theorem halves_disjoint : Disjoint (halfSet 0) (halfSet 1) := by
  rw [Finset.disjoint_left]
  intro i h0 h1
  rw [mem_halfSet] at h0 h1
  rw [h0] at h1; exact absurd h1 (by decide)

theorem halves_univ : (Finset.univ : Finset S2x32x16x656.Idx) = halfSet 0 ∪ halfSet 1 := by
  ext i
  have h : ((i 0 : Fin 2)).val < 2 := (i 0).isLt
  simp only [Finset.mem_univ, Finset.mem_union, mem_halfSet, true_iff]
  show (i 0).val = 0 ∨ (i 0).val = 1
  omega

/-- An idle half, its slots gathered and its shares of the pool gathered. -/
theorem idle_eq (c : Dev nD) (fh : Buf (Elt F) (poolL c)) (s : Fin 2) (g : Buf (Elt F) (bufL c)) :
    Idle c fh s g = iprop(semVal ((c : Thread nD τ), SemLoc.dma (cellS s)) 0 ∗ (bufL c ↦[halfSet s]{fullShare} g) ∗ bigSep Finset.univ (fun n => (poolL c ↦{tk s n} fh))) := by
  unfold Idle halfSet
  have e : (bigSep Finset.univ (free1 c fh s g) : sProp 𝕄)
      = iprop((bufL c ↦[(Finset.univ : Finset (Fin 32)).biUnion (slotSet s)]{fullShare} g) ∗ bigSep Finset.univ (fun n => (poolL c ↦{tk s n} fh))) := by
    rw [pointsTo_biUnion (ℓ := bufL c) _ _ (slots_disjoint s)]
    exact BI.bigSep_sep Finset.univ _ _
  rw [e]

/-- The tokens of the pool, half by half. -/
theorem toks_eq (c : Dev nD) (fh : Buf (Elt F) (poolL c)) :
    (bigSep (Finset.range 64) (fun i => (poolL c ↦[Finset.univ]{Transfers.shareTokN fullShare i} fh)) : sProp 𝕄)
      = iprop(bigSep Finset.univ (fun n => (poolL c ↦{tk 0 n} fh)) ∗ bigSep Finset.univ (fun n => (poolL c ↦{tk 1 n} fh))) := by
  have e0 : (Finset.univ : Finset (Fin 32)).map ⟨fun n => 32 * (0 : Fin 2).val + n.val, fun a b h => Fin.ext (by simpa using h)⟩ = Finset.range 32 := by decide
  have e1 : (Finset.univ : Finset (Fin 32)).map ⟨fun n => 32 * (1 : Fin 2).val + n.val, fun a b h => Fin.ext (by simpa using h)⟩ = (Finset.range 64).filter (fun i => 32 ≤ i) := by decide
  have e2 : Finset.range 64 = Finset.range 32 ∪ (Finset.range 64).filter (fun i => 32 ≤ i) := by decide
  rw [e2, bigSep_union (by decide), ← e0, ← e1, bigSep_map, bigSep_map]
  rfl

theorem rows_split (c : Dev nD) (fh : Buf (Elt F) (poolL c)) (g : Buf (Elt F) (bufL c)) :
    iprop((bufL c ↦{fullShare} g) ∗ (poolL c ↦{fullShare} fh) ∗ semVal ((c : Thread nD τ), SemLoc.dma 10) 0 ∗ semVal ((c : Thread nD τ), SemLoc.dma 11) 0)
      ⊢ iprop(Idle c fh 0 g ∗ Idle c fh 1 g ∗ (poolL c ↦{Transfers.shareDrop fullShare 64} fh)) := by
  rw [idle_eq, idle_eq, cellS_zero, cellS_one]
  have hb : (bufL c ↦{fullShare} g : sProp 𝕄) ⊢ iprop((bufL c ↦[halfSet 0]{fullShare} g) ∗ (bufL c ↦[halfSet 1]{fullShare} g)) := by
    have : (bufL c ↦[halfSet 0 ∪ halfSet 1]{fullShare} g : sProp 𝕄) ⊢ iprop((bufL c ↦[halfSet 0]{fullShare} g) ∗ (bufL c ↦[halfSet 1]{fullShare} g)) := (pointsTo_union halves_disjoint).1
    rw [← halves_univ] at this
    exact this
  have hp : (poolL c ↦{fullShare} fh : sProp 𝕄) ⊢ iprop((poolL c ↦[Finset.univ]{Transfers.shareDrop fullShare 64} fh) ∗ bigSep (Finset.range 64) (fun i => (poolL c ↦[Finset.univ]{Transfers.shareTokN fullShare i} fh))) := (Transfers.pointsTo_toks_range (ℓ := poolL c) (S := Finset.univ) (f := fh) fullShare 64).1
  rw [toks_eq] at hp
  iintro ⟨Hb, Hp, Hs0, Hs1⟩
  ihave ⟨Hb0, Hb1⟩ := hb $$ Hb
  ihave ⟨Hr, Ht0, Ht1⟩ := hp $$ Hp
  isplitl [Hs0 Hb0 Ht0]
  · isplitl [Hs0]; · iexact Hs0
    isplitl [Hb0] <;> iassumption
  isplitl [Hs1 Hb1 Ht1]
  · isplitl [Hs1]; · iexact Hs1
    isplitl [Hb1] <;> iassumption
  iexact Hr

theorem rows_join (c : Dev nD) (fh : Buf (Elt F) (poolL c)) (g0 g1 : Buf (Elt F) (bufL c)) :
    iprop(Idle c fh 0 g0 ∗ Idle c fh 1 g1 ∗ (poolL c ↦{Transfers.shareDrop fullShare 64} fh))
      ⊢ iprop((∃ g, bufL c ↦{fullShare} g) ∗ (poolL c ↦{fullShare} fh) ∗ semVal ((c : Thread nD τ), SemLoc.dma 10) 0 ∗ semVal ((c : Thread nD τ), SemLoc.dma 11) 0) := by
  rw [idle_eq, idle_eq, cellS_zero, cellS_one]
  have hb : iprop((bufL c ↦[halfSet 0]{fullShare} g0) ∗ (bufL c ↦[halfSet 1]{fullShare} g1)) ⊢ (bufL c ↦{fullShare} ((halfSet 1).piecewise g1 g0) : sProp 𝕄) := by
    have : iprop((bufL c ↦[halfSet 0]{fullShare} g0) ∗ (bufL c ↦[halfSet 1]{fullShare} g1)) ⊢ (bufL c ↦[halfSet 0 ∪ halfSet 1]{fullShare} ((halfSet 1).piecewise g1 g0) : sProp 𝕄) := pointsTo_join halves_disjoint
    rw [← halves_univ] at this
    exact this
  have hp : iprop((poolL c ↦[Finset.univ]{Transfers.shareDrop fullShare 64} fh) ∗ bigSep (Finset.range 64) (fun i => (poolL c ↦[Finset.univ]{Transfers.shareTokN fullShare i} fh))) ⊢ (poolL c ↦{fullShare} fh : sProp 𝕄) := (Transfers.pointsTo_toks_range (ℓ := poolL c) (S := Finset.univ) (f := fh) fullShare 64).2
  rw [toks_eq] at hp
  iintro ⟨⟨Hs0, Hb0, Ht0⟩, ⟨Hs1, Hb1, Ht1⟩, Hr⟩
  isplitl [Hb0 Hb1]
  · iexists _
    iapply hb
    isplitl [Hb0] <;> iassumption
  isplitl [Hr Ht0 Ht1]
  · iapply hp
    isplitl [Hr]; · iexact Hr
    isplitl [Ht0] <;> iassumption
  isplitl [Hs0] <;> iassumption

end Cert.KernelIdeal.Gen

end
-- ==== Proof.KernelIdeal.Row.lean ====
/- A row: its opening, its loop over blocks, its two results stored. -/
module

public import proofs.«01_k».proof.Proof.KernelIdeal.Base
public import proofs.«01_k».proof.Proof.KernelIdeal.Opening
public import proofs.«01_k».proof.Proof.KernelIdeal.Split

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

variable (c : Dev nD) (i : grid0.Coords) (arg3 : Memref sig .tc .vmem S1x128x512 .bf16) (harg3 : arg3.IsWhole) (arg4 : Memref sig .tc .vmem S1x128x144 .bf16) (harg4 : arg4.IsWhole)
  (arg5 : Memref sig .tc .vmem S1x1x656 .i8) (harg5 : arg5.IsWhole) (arg7 : Memref sig .tc .vmem S1x128x512 .bf16) (harg7 : arg7.IsWhole) (arg8 : Memref sig .tc .vmem S1x128x1 .f32) (harg8 : arg8.IsWhole)
  (xt0 : TbBuf0 (F := F) c tbM0_0) (HP : ∀ x, (xt0 x).toNat < 40960) (fh : Buf (Elt F) (poolL c)) (b : Fin 32) (hb : (i 0).val = b.val)
  (xt1 : TbBuf0 (F := F) c tbM0_1) (x0 : Vec F S1x128x512 .bf16) (x1 : Vec F S1x128x144 .bf16) (x2 : Vec F S1x1x656 .i8)

/-- The running maximum, sum and output after the row's own new record. -/
def rowInit (x0 : Vec F S1x128x512 .bf16) (x1 : Vec F S1x128x144 .bf16) (x2 : Vec F S1x1x656 .i8) : FVec F S128x1 .f32 × FVec F S128x1 .f32 × FVec F S128x512 .f32 :=
  let v59 := k0_pay30 (iota .tc S32x144 32 [1] iota_S32x144_d1_w32) (k0_pay29 x2) 16#32
  let v85 := k0_pay31 (k0_pay27 x2) (k0_pay28 x2)
  (k0_pay33 (k0_pay20 x0) (k0_pay21 x1) (k0_pay22 (F := F)) k0_pay26 v59 v85,
   k0_pay36 (k0_pay20 x0) (k0_pay21 x1) (k0_pay22 (F := F)) (k0_pay23 (F := F)) k0_pay26 v59 v85,
   k0_pay37 (k0_pay20 x0) (k0_pay21 x1) (k0_pay22 (F := F)) (k0_pay24 (F := F)) k0_pay26 v59 v85)

/-- The running maximum, sum and output after `t` blocks, of a row of length `v1` whose blocks are `blk`. -/
def rowSt (v1 : BitVec 32) (x0 : Vec F S1x128x512 .bf16) (x1 : Vec F S1x128x144 .bf16) (x2 : Vec F S1x1x656 .i8) (blk : ℕ → Vec F S1x32x16x656 .i8) :
    ℕ → FVec F S128x1 .f32 × FVec F S128x1 .f32 × FVec F S128x512 .f32
  | 0 => rowInit x0 x1 x2
  | t + 1 => tripVal v1 (k0_pay20 x0) (k0_pay21 x1) t (blk t) (rowSt v1 x0 x1 x2 blk t)

/-- The row's first result. -/
def rowOut (v1 : BitVec 32) (x0 : Vec F S1x128x512 .bf16) (x1 : Vec F S1x128x144 .bf16) (x2 : Vec F S1x1x656 .i8) (blk : ℕ → Vec F S1x32x16x656 .i8) : Vec F S1x128x512 .bf16 :=
  k0_pay50 (rowSt v1 x0 x1 x2 blk (nblk v1.toNat)).2.1 (rowSt v1 x0 x1 x2 blk (nblk v1.toNat)).2.2
/-- The row's second result. -/
def rowLse (v1 : BitVec 32) (x0 : Vec F S1x128x512 .bf16) (x1 : Vec F S1x128x144 .bf16) (x2 : Vec F S1x1x656 .i8) (blk : ℕ → Vec F S1x32x16x656 .i8) : Vec F S1x128x1 .f32 :=
  k0_pay1 (k0_pay51 (rowSt v1 x0 x1 x2 blk (nblk v1.toNat)).1 (rowSt v1 x0 x1 x2 blk (nblk v1.toNat)).2.1) (k0_pay52 v1)

/-- The blocks of row `b`. -/
def rowBlk (c : Dev nD) (xt0 : TbBuf0 (F := F) c tbM0_0) (HP : ∀ x, (xt0 x).toNat < 40960) (fh : Buf (Elt F) (poolL c)) (b : Fin 32) (k : ℕ) : Vec F S1x32x16x656 .i8 :=
  block c (pgs c xt0 HP b k) fh

/-- Before trip `k`: what is carried is the running triple; block `k`'s copies are under way; the other half is idle. -/
def LInv (v1 : BitVec 32) (k : ℕ) (s : FVec F S128x1 .f32 × FVec F S128x1 .f32 × FVec F S128x512 .f32) : sProp 𝕄 :=
  iprop(⌜s = rowSt v1 x0 x1 x2 (rowBlk c xt0 HP fh b) k⌝ ∗ tbPt0 c tbM0_0 xt0 ∗ (∃ g, Nx c xt0 HP fh b g k (nblk v1.toNat)) ∗ (∃ g, Idle c fh (half (k + 1)) g) ∗ Ow c)

theorem half_two (k : ℕ) : half (k + 2) = half k := Fin.ext (by show (k + 2) % 2 = k % 2; omega)

-- (kept folded: a program's head is a conditional on a computed word)
attribute [local irreducible] k0_t1_body k0_part48 k0_part50

include hb in
theorem run_loop_step (arg0 : BitVec 32) (v1 : Elt F .i32) (k0_hw33 : k0_chk33 i v1) (v3 : BitVec 32) (v11 : FVec F S128x1 .f32) (v12 : FVec F S128x1 .f32) (v13 : FVec F S128x512 .f32) (v22 : IVec S128x32 1) (v59 : FVec F S32x144 .bf16) (v85 : FVec F S32x512 .bf16)
    (hL : LenOk v1) (t : Fin (k0_t1_loop v1).trips) (s : FVec F S128x1 .f32 × FVec F S128x1 .f32 × FVec F S128x512 .f32) :
    LInv c xt0 HP fh b x0 x1 x2 v1 t s ⊢ WP c (k0_t1_body i tbM0_0 htbM0_0 tbM0_1 htbM0_1 arg3 harg3 arg4 harg4 arg5 harg5 (Memref.whole main_arg3) (Memref.isWhole_whole _) arg7 harg7 arg8 harg8 (Memref.whole cc0_scratch0) (Memref.isWhole_whole _) cc0_scratch1 arg0 v1 k0_hw33 v3 (k0_pay20 x0) (k0_pay21 x1) v11 v12 v13 v22 v59 v85 t s) (LInv c xt0 HP fh b x0 x1 x2 v1 (t.val + 1)) := by
  have hlt : t.val < nblk v1.toNat := t1_trips v1 hL ▸ t.isLt
  have eN : ∀ g, Nx c xt0 HP fh b g t.val (nblk v1.toNat) = Wt c fh (half t.val) (pgs c xt0 HP b t.val) 0 := fun g => by unfold Nx; rw [if_pos hlt]
  unfold LInv
  simp only [eN]
  iintro ⟨%hs, HT, ⟨%g0, HN⟩, ⟨%g, HI⟩, HO⟩
  iapply (run_trip c i arg3 harg3 arg4 harg4 arg5 harg5 arg7 harg7 arg8 harg8 xt0 HP fh b hb g arg0 v1 k0_hw33 v3 (k0_pay20 x0) (k0_pay21 x1) v11 v12 v13 v22 v59 v85 t s hL) $$ [HT HN HI HO]
  · isplitl [HT]; · iexact HT
    isplitl [HI]; · iexact HI
    isplitl [HN] <;> iassumption
  iintro ⟨HT, HN, HI, HO⟩
  isplitr
  · ipureintro; subst hs; rfl
  isplitl [HT]; · iexact HT
  isplitl [HN]; · iexists g; iexact HN
  isplitl [HI]
  · iexists _; rw [half_two]; iexact HI
  iexact HO

set_option maxHeartbeats 1000000 in
include hb in
/-- A row's body, from its operands' buffers to its two results'. -/
theorem run_row (hL : LenOk (len c xt1 b)) (g : Buf (Elt F) (bufL c)) (y0 : Vec F S1x128x512 .bf16) (y1 : Vec F S1x128x1 .f32) {Q : PUnit → sProp 𝕄} :
    iprop(tbPt0 c tbM0_0 xt0 ∗ tbPt0 c tbM0_1 xt1 ∗ owns (c : Thread nD τ) arg3 fullShare x0 ∗ owns (c : Thread nD τ) arg4 fullShare x1 ∗ owns (c : Thread nD τ) arg5 fullShare x2
        ∗ owns (c : Thread nD τ) arg7 fullShare y0 ∗ owns (c : Thread nD τ) arg8 fullShare y1 ∗ Idle c fh 0 g ∗ Idle c fh 1 g ∗ Ow c)
      ⊢ iprop((iprop(tbPt0 c tbM0_0 xt0 ∗ tbPt0 c tbM0_1 xt1 ∗ owns (c : Thread nD τ) arg3 fullShare x0 ∗ owns (c : Thread nD τ) arg4 fullShare x1 ∗ owns (c : Thread nD τ) arg5 fullShare x2
            ∗ owns (c : Thread nD τ) arg7 fullShare (rowOut (len c xt1 b) x0 x1 x2 (rowBlk c xt0 HP fh b)) ∗ owns (c : Thread nD τ) arg8 fullShare (rowLse (len c xt1 b) x0 x1 x2 (rowBlk c xt0 HP fh b))
            ∗ (∃ g, Idle c fh 0 g) ∗ (∃ g, Idle c fh 1 g) ∗ Ow c) -∗ Q ⟨⟩)
        -∗ WP c (cc0_mla i tbM0_0 htbM0_0 tbM0_1 htbM0_1 arg3 harg3 arg4 harg4 arg5 harg5 (Memref.whole main_arg3) (Memref.isWhole_whole _) arg7 harg7 arg8 harg8 (Memref.whole cc0_scratch0) (Memref.isWhole_whole _) cc0_scratch1) Q) := by
  rw [cc0_mla_eq_skeleton]; unfold cc0_mla_skel; try dsimp only
  iintro ⟨HT, HT1, H3, H4, H5, H7, H8, HI0, HI1, HO⟩ Hk
  iapply (run_part48 c i arg3 harg3 arg4 harg4 arg5 harg5 arg7 harg7 arg8 harg8 xt0 HP fh b hb xt1 x0 x1 x2 g hL) $$ [HT HT1 H3 H4 H5 HI0]
  · isplitl [HT]; · iexact HT
    isplitl [HT1]; · iexact HT1
    isplitl [H3]; · iexact H3
    isplitl [H4]; · iexact H4
    isplitl [H5] <;> iassumption
  iintro %hw33 ⟨HT, HT1, H3, H4, H5, HN⟩
  try dsimp only
  rw [k0_part49_eq_skeleton]; unfold k0_part49_skel; try dsimp only
  iapply (bind_step c)
  iapply (ret_step c)
  try dsimp only
  rw [k0_part50_eq_skeleton]; unfold k0_part50_skel; try dsimp only
  iapply (bind_step c)
  iapply (Scf.wp_for_bind frame (wpE (defs₀ (F := F)) Variants.none (c : Thread nD τ) none) Set.univ _ _ _ _ _ _ (LInv c xt0 HP fh b x0 x1 x2 (len c xt1 b))
    (fun t s => run_loop_step c i arg3 harg3 arg4 harg4 arg5 harg5 arg7 harg7 arg8 harg8 xt0 HP fh b hb x0 x1 x2 _ _ _ _ _ _ _ _ _ _ hL t s)) $$ [HT HN HI1 HO]
  · unfold LInv
    isplitr; · ipureintro; rfl
    isplitl [HT]; · iexact HT
    isplitl [HN]; · iexists g; iexact HN
    isplitl [HI1]; · iexists g; iexact HI1
    iexact HO
  iintro %s1 HV
  iapply (Scf.wp_for_bind frame (wpE (defs₀ (F := F)) Variants.none (c : Thread nD τ) none) Set.univ _ _ _ _ _ _ (fun _ s => iprop(⌜s = s1⌝))
    (fun t s => (t2_false _ t).elim)) $$ []
  · ipureintro; rfl
  iintro %s2 %hs2
  subst hs2
  have et : Scf.trips (k0_t1_loop (len c xt1 b)).lb (k0_t1_loop (len c xt1 b)).ub (k0_t1_loop (len c xt1 b)).st = nblk (len c xt1 b).toNat := t1_trips _ hL
  rw [et]
  have eN : ∀ g, Nx c xt0 HP fh b g (nblk (len c xt1 b).toNat) (nblk (len c xt1 b).toNat) = Idle c fh (half (nblk (len c xt1 b).toNat)) g := fun g => by unfold Nx; rw [if_neg (Nat.lt_irrefl _)]
  unfold LInv
  simp only [eN]
  icases HV with ⟨%hs, HT, ⟨%g0, HA⟩, ⟨%g1, HB⟩, HO⟩
  subst hs
  iapply (load_full c arg7 y0 zero3) $$ H7; iintro H7
  iapply (store_full c arg7 y0 (rowOut (len c xt1 b) x0 x1 x2 (rowBlk c xt0 HP fh b)) zero3) $$ H7; iintro H7
  iapply (ret_step c)
  try dsimp only
  iapply (load_full c arg8 y1 zero3) $$ H8; iintro H8
  iapply (store_full c arg8 y1 (rowLse (len c xt1 b) x0 x1 x2 (rowBlk c xt0 HP fh b)) zero3) $$ H8; iintro H8
  iapply (ret_step c)
  iapply Hk
  isplitl [HT]; · iexact HT
  isplitl [HT1]; · iexact HT1
  isplitl [H3]; · iexact H3
  isplitl [H4]; · iexact H4
  isplitl [H5]; · iexact H5
  isplitl [H7]; · iexact H7
  isplitl [H8]; · iexact H8
  have hh : (half (nblk (len c xt1 b).toNat) = 0 ∧ half (nblk (len c xt1 b).toNat + 1) = 1) ∨ (half (nblk (len c xt1 b).toNat) = 1 ∧ half (nblk (len c xt1 b).toNat + 1) = 0) := by
    rcases Nat.mod_two_eq_zero_or_one (nblk (len c xt1 b).toNat) with h | h
    · left; constructor <;> apply Fin.ext
      · exact h
      · show (_ + 1) % 2 = 1; omega
    · right; constructor <;> apply Fin.ext
      · exact h
      · show (_ + 1) % 2 = 0; omega
  rcases hh with ⟨h0, h1⟩ | ⟨h0, h1⟩
  · rw [h0, h1]
    isplitl [HA]; · iexists _; iexact HA
    isplitl [HB]; · iexists _; iexact HB
    iexact HO
  · rw [h0, h1]
    isplitl [HB]; · iexists _; iexact HB
    isplitl [HA]; · iexists _; iexact HA
    iexact HO

end Cert.KernelIdeal.Gen

end
-- ==== Proof.KernelIdeal.Run.lean ====
/- The body's triple: a row, with the scratch buffer and the pool split between its two halves and put back. -/
module

public import proofs.«01_k».proof.Proof.KernelIdeal.Base
public import proofs.«01_k».proof.Proof.KernelIdeal.Row

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

/-- The grid point's row of the batch. -/
def rowIx (i : grid0.Coords) : Fin 32 := ⟨(i 0).val, (i 0).isLt⟩

attribute [local irreducible] cc0_mla

/-- The body's triple on whole staging memrefs: the inputs kept, the two outputs at the row's values, scratch, tables,
    counters and the pool handed back. -/
theorem kernelRun0 (c : Dev nD) (i : grid0.Coords)
    (arg3 : Memref sig .tc .vmem S1x128x512 .bf16) (harg3 : arg3.IsWhole) (arg4 : Memref sig .tc .vmem S1x128x144 .bf16) (harg4 : arg4.IsWhole)
    (arg5 : Memref sig .tc .vmem S1x1x656 .i8) (harg5 : arg5.IsWhole) (arg7 : Memref sig .tc .vmem S1x128x512 .bf16) (harg7 : arg7.IsWhole) (arg8 : Memref sig .tc .vmem S1x128x1 .f32) (harg8 : arg8.IsWhole)
    (x0 : Vec F S1x128x512 .bf16) (x1 : Vec F S1x128x144 .bf16) (x2 : Vec F S1x1x656 .i8)
    (xt0 : TbBuf0 (F := F) c tbM0_0) (xt1 : TbBuf0 (F := F) c tbM0_1) (fh : HbBuf0 (F := F) c hbM0_0)
    (HP : ∀ x, (xt0 x).toNat < 40960) (hL : LenOk (len c xt1 (rowIx i))) (W : _) (K : PUnit → sProp 𝕄) :
    iprop(owns (c : Thread nD τ) arg3 fullShare x0 ∗ owns (c : Thread nD τ) arg4 fullShare x1 ∗ owns (c : Thread nD τ) arg5 fullShare x2
      ∗ (∃ d, owns (c : Thread nD τ) arg7 fullShare d) ∗ (∃ d, owns (c : Thread nD τ) arg8 fullShare d) ∗ (∃ d, owns (c : Thread nD τ) scM0_0 fullShare d)
      ∗ tbPt0 c tbM0_0 xt0 ∗ tbPt0 c tbM0_1 xt1 ∗ semVal ((c : Thread nD τ), SemLoc.dma 10) 0 ∗ semVal ((c : Thread nD τ), SemLoc.dma 11) 0
      ∗ hbPt0 c hbM0_0 fh ∗ owes (c : Thread nD τ) 0 W
      ∗ (iprop(owns (c : Thread nD τ) arg3 fullShare x0 ∗ owns (c : Thread nD τ) arg4 fullShare x1 ∗ owns (c : Thread nD τ) arg5 fullShare x2
          ∗ owns (c : Thread nD τ) arg7 fullShare (rowOut (len c xt1 (rowIx i)) x0 x1 x2 (rowBlk c xt0 HP fh (rowIx i)))
          ∗ owns (c : Thread nD τ) arg8 fullShare (rowLse (len c xt1 (rowIx i)) x0 x1 x2 (rowBlk c xt0 HP fh (rowIx i)))
          ∗ (∃ d, owns (c : Thread nD τ) scM0_0 fullShare d)
          ∗ tbPt0 c tbM0_0 xt0 ∗ tbPt0 c tbM0_1 xt1 ∗ semVal ((c : Thread nD τ), SemLoc.dma 10) 0 ∗ semVal ((c : Thread nD τ), SemLoc.dma 11) 0
          ∗ hbPt0 c hbM0_0 fh ∗ (∃ W', owes (c : Thread nD τ) 0 W')) -∗ K ⟨⟩))
    ⊢ wp frame (wpE (defs₀ (F := F)) Variants.none c none) Set.univ (cc0_mla i tbM0_0 htbM0_0 tbM0_1 htbM0_1 arg3 harg3 arg4 harg4 arg5 harg5 hbM0_0 (Memref.isWhole_whole _) arg7 harg7 arg8 harg8 scM0_0 (Memref.isWhole_whole _) cc0_scratch1) K := by
  have hs : ∀ d, (owns (c : Thread nD τ) scM0_0 fullShare d : sProp 𝕄) = iprop(bufL c ↦{fullShare} d) := fun d => by
    simp only [scM0_0, owns_whole]
  have eO : (Ow c : sProp 𝕄) = iprop(∃ W', owes (c : Thread nD τ) 0 W') := rfl
  have R := fun y0 y1 g => run_row c i arg3 harg3 arg4 harg4 arg5 harg5 arg7 harg7 arg8 harg8 xt0 HP fh (rowIx i) rfl xt1 x0 x1 x2 hL g y0 y1 (Q := K)
  simp only [eO] at R
  simp only [hs]
  iintro ⟨H0, H1, H2, ⟨%y0, H3⟩, ⟨%y1, H4⟩, ⟨%g, HS⟩, HT0, HT1, Hq0, Hq1, Hh, HW, Hk⟩
  ihave HX := (rows_split c fh g) $$ [HS Hh Hq0 Hq1]
  · isplitl [HS]; · iexact HS
    isplitl [Hh]; · iexact Hh
    isplitl [Hq0] <;> iassumption
  icases HX with ⟨HI0, HI1, HR⟩
  iapply (R y0 y1 g) $$ [HT0 HT1 H0 H1 H2 H3 H4 HI0 HI1 HW]
  · isplitl [HT0]; · iexact HT0
    isplitl [HT1]; · iexact HT1
    isplitl [H0]; · iexact H0
    isplitl [H1]; · iexact H1
    isplitl [H2]; · iexact H2
    isplitl [H3]; · iexact H3
    isplitl [H4]; · iexact H4
    isplitl [HI0]; · iexact HI0
    isplitl [HI1]; · iexact HI1
    iexists W; iexact HW
  iintro ⟨HT0, HT1, H0, H1, H2, H3, H4, ⟨%g0, HI0⟩, ⟨%g1, HI1⟩, HO⟩
  ihave HX := (rows_join c fh g0 g1) $$ [HI0 HI1 HR]
  · isplitl [HI0]; · iexact HI0
    isplitl [HI1] <;> iassumption
  icases HX with ⟨HS, Hh, Hq0, Hq1⟩
  iapply Hk
  isplitl [H0]; · iexact H0
  isplitl [H1]; · iexact H1
  isplitl [H2]; · iexact H2
  isplitl [H3]; · iexact H3
  isplitl [H4]; · iexact H4
  isplitl [HS]; · iexact HS
  isplitl [HT0]; · iexact HT0
  isplitl [HT1]; · iexact HT1
  isplitl [Hq0]; · iexact Hq0
  isplitl [Hq1]; · iexact Hq1
  isplitl [Hh]; · iexact Hh
  iexact HO

end Cert.KernelIdeal.Gen

end
-- ==== Proof.KernelIdeal.Frame.lean ====
/- The pipeline's run: the proof data, the body obligation, the frame. -/
module

public import proofs.«01_k».proof.Proof.KernelIdeal.Base
public import proofs.«01_k».proof.Proof.KernelIdeal.Run
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What the proof asks of the two tables: the page words index the pool, the lengths are at most the page table's reach. -/
structure TblOk : Prop where
  pages : ∀ x, ((tbl m 0 : TbBuf0 (F := F) (default : Dev nD) tbM0_0) x).toNat < 40960
  lens : ∀ b : Fin 32, LenOk (len (default : Dev nD) (tbl m 1) b)

/-! ## The pipeline's proof data -/

/-- The attention output of grid point `t`, -/
def outv (hO : Ok m) (hB : TblOk m) (c : Dev nD) (t : Fin (cfgM m hO).N) : Vec F S1x128x512 .bf16 :=
  rowOut (len c (tbl m 1) (rowIx (grid0.coords t))) (iblk m hO c 0 t) (iblk m hO c 1 t) (iblk m hO c 2 t) (rowBlk c (tbl m 0) hB.pages (V m c main_arg3) (rowIx (grid0.coords t)))
/-- and its log-sum-exp. -/
def lsev (hO : Ok m) (hB : TblOk m) (c : Dev nD) (t : Fin (cfgM m hO).N) : Vec F S1x128x1 .f32 :=
  rowLse (len c (tbl m 1) (rowIx (grid0.coords t))) (iblk m hO c 0 t) (iblk m hO c 1 t) (iblk m hO c 2 t) (rowBlk c (tbl m 0) hB.pages (V m c main_arg3) (rowIx (grid0.coords t)))

/-- The proof data of the one pipeline on core `c`: the arrays as the region finds them (`V`); after the body at point `t`
    each input's buffer at its block and the outputs at the row's values; the invariant: the scoped rest, the generator
    register, the own cells at zero, the pool at its launch contents, and the tables' halves; nothing owed; full shares. -/
def dats (hO : Ok m) (hB : TblOk m) (_ : Fin 1) (c : Dev nD) : Dat τ (Elt F) Unit ℕ (Pipeline.UD sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => outv m hO hB c t
    | ⟨4, _⟩ => lsev m hO hB c t
  Φ _ := iprop(Pipeline.ΦD osem0 spec0 H0 (V m) c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (hB : TblOk m) (c : Dev nD) (w : Fin (cfgM m hO).W) : (dats m hO hB 0 c).A w = V m c (Pipeline.arrRef spec0 w) := by
  dsimp only [dats]

/-- What the body leaves, window by window (the proof data's `match` reduced by `dsimp`). -/
theorem after0_0 (hO : Ok m) (hB : TblOk m) (c : Dev nD) (t : Fin (cfgM m hO).N) : (dats m hO hB 0 c).after 0 t = iblk m hO c 0 t := by dsimp only [dats]; try rfl
theorem after0_1 (hO : Ok m) (hB : TblOk m) (c : Dev nD) (t : Fin (cfgM m hO).N) : (dats m hO hB 0 c).after 1 t = iblk m hO c 1 t := by dsimp only [dats]; try rfl
theorem after0_2 (hO : Ok m) (hB : TblOk m) (c : Dev nD) (t : Fin (cfgM m hO).N) : (dats m hO hB 0 c).after 2 t = iblk m hO c 2 t := by dsimp only [dats]; try rfl
theorem after0_3 (hO : Ok m) (hB : TblOk m) (c : Dev nD) (t : Fin (cfgM m hO).N) : (dats m hO hB 0 c).after 3 t = outv m hO hB c t := by dsimp only [dats]; try rfl
theorem after0_4 (hO : Ok m) (hB : TblOk m) (c : Dev nD) (t : Fin (cfgM m hO).N) : (dats m hO hB 0 c).after 4 t = lsev m hO hB c t := by dsimp only [dats]; try rfl

/-- Each input's current staging buffer holds its block at every point, fetched there or not (`beforeK_W_of`). -/
theorem before0_0 (hO : Ok m) (hB : TblOk m) (c : Dev nD) (t : Fin (cfgM m hO).N) (d) : (dats m hO hB 0 c).before 0 t d = iblk m hO c 0 t :=
  before0_0_of m hO (dats m hO hB 0 c) (A_eq m hO hB c 0) (after0_0 m hO hB c) t d
theorem before0_1 (hO : Ok m) (hB : TblOk m) (c : Dev nD) (t : Fin (cfgM m hO).N) (d) : (dats m hO hB 0 c).before 1 t d = iblk m hO c 1 t :=
  before0_1_of m hO (dats m hO hB 0 c) (A_eq m hO hB c 1) (after0_1 m hO hB c) t d
theorem before0_2 (hO : Ok m) (hB : TblOk m) (c : Dev nD) (t : Fin (cfgM m hO).N) (d) : (dats m hO hB 0 c).before 2 t d = iblk m hO c 2 t :=
  before0_2_of m hO (dats m hO hB 0 c) (A_eq m hO hB c 2) (after0_2 m hO hB c) t d

/-! ## The body obligation, at a generic point -/

/-- What the body is called with at point `t` (Lib/Pipeline.lean `BodyObligation`'s precondition, the windows one by one), -/
def bodyPre (hO : Ok m) (hB : TblOk m) (c : Dev nD) (t : Fin (cfgM m hO).N) : sProp 𝕄 :=
  iprop((dats m hO hB 0 c).Φ t.castSucc ∗ (dats m hO hB 0 c).owesAt () t.castSucc
    ∗ (∃ d, owns (c : Thread nD τ) (ms0_0 m hO t) fullShare ((dats m hO hB 0 c).before 0 t d))
    ∗ (∃ d, owns (c : Thread nD τ) (ms0_1 m hO t) fullShare ((dats m hO hB 0 c).before 1 t d))
    ∗ (∃ d, owns (c : Thread nD τ) (ms0_2 m hO t) fullShare ((dats m hO hB 0 c).before 2 t d))
    ∗ (∃ d, owns (c : Thread nD τ) (ms0_3 m hO t) fullShare ((dats m hO hB 0 c).before 3 t d))
    ∗ (∃ d, owns (c : Thread nD τ) (ms0_4 m hO t) fullShare ((dats m hO hB 0 c).before 4 t d)))

/-- and what it returns. -/
def bodyPost (hO : Ok m) (hB : TblOk m) (c : Dev nD) (t : Fin (cfgM m hO).N) : sProp 𝕄 :=
  iprop((dats m hO hB 0 c).Φ t.succ ∗ (dats m hO hB 0 c).owesAt () t.succ
    ∗ owns (c : Thread nD τ) (ms0_0 m hO t) fullShare ((dats m hO hB 0 c).after 0 t)
    ∗ owns (c : Thread nD τ) (ms0_1 m hO t) fullShare ((dats m hO hB 0 c).after 1 t)
    ∗ owns (c : Thread nD τ) (ms0_2 m hO t) fullShare ((dats m hO hB 0 c).after 2 t)
    ∗ owns (c : Thread nD τ) (ms0_3 m hO t) fullShare ((dats m hO hB 0 c).after 3 t)
    ∗ owns (c : Thread nD τ) (ms0_4 m hO t) fullShare ((dats m hO hB 0 c).after 4 t))

/-- The body at any point: the inputs' memrefs hold their blocks (`before0_W`); so the
    run applies; the invariant (`PhiD0_eq`) hands the body its scratch, the register, its DMA cells at zero and the HBM operands, and takes them back as they were; the core's `owes` goes in at whatever the points before recorded and comes back with this point's waits, within the next point's bound (everything). -/
theorem sound_body (hO : Ok m) (hB : TblOk m) (c : Dev nD) (t : Fin (cfgM m hO).N) :
    bodyPre m hO hB c t ⊢ wp frame (wpE (defs₀ (F := F)) Variants.none c none) Set.univ (bodyAt0 (adm m hO) t) (fun _ => bodyPost m hO hB c t) := by
  unfold bodyPre bodyPost bodyAt0
  simp only [before0_0, before0_1, before0_2]
  rw [show (dats m hO hB 0 c).Φ t.succ = (dats m hO hB 0 c).Φ t.castSucc from rfl,
    after0_0, after0_1, after0_2, after0_3, after0_4]
  rw [show (dats m hO hB 0 c).Φ t.castSucc = iprop(Pipeline.ΦD osem0 spec0 H0 (V m) c ∗ Pipeline.ΦT pre0 (tbl m) c) from rfl, PhiD0_eq, PhiT0_eq]
  unfold Dat.owesAt Pipeline.owesWithin
  rw [show (dats m hO hB 0 c).owed t.castSucc = 0 from rfl, show (dats m hO hB 0 c).owed t.succ = 0 from rfl]
  iintro ⟨⟨⟨HS0, Hg, ⟨Hq0, Hq1⟩, Hh0⟩, ⟨HT0, HT1⟩⟩, ⟨%W, -, HW⟩, ⟨%d0, H0⟩, ⟨%d1, H1⟩, ⟨%d2, H2⟩, ⟨%d3, H3⟩, ⟨%d4, H4⟩⟩
  iapply (kernelRun0 c (grid0.coords t) _ _ _ _ _ _ _ _ _ _ (iblk m hO c 0 t) (iblk m hO c 1 t) (iblk m hO c 2 t) (tbl m 0) (tbl m 1) (V m c main_arg3) hB.pages (hB.lens (rowIx (grid0.coords t))) W _)
  isplitl [H0]; · iexact H0
  isplitl [H1]; · iexact H1
  isplitl [H2]; · iexact H2
  isplitl [H3]; · iexists _; iexact H3
  isplitl [H4]; · iexists _; iexact H4
  isplitl [HS0]; · iexact HS0
  isplitl [HT0]; · iexact HT0
  isplitl [HT1]; · iexact HT1
  isplitl [Hq0]; · iexact Hq0
  isplitl [Hq1]; · iexact Hq1
  isplitl [Hh0]; · iexact Hh0
  isplitl [HW]; · iexact HW
  iintro ⟨H0, H1, H2, H3, H4, HS0, HT0, HT1, Hq0, Hq1, Hh0, ⟨%W', HW'⟩⟩
  isplitl [HS0 Hg Hq0 Hq1 Hh0 HT0 HT1]
  · isplitl [HS0 Hg Hq0 Hq1 Hh0]
    · isplitl [HS0]
      · iexact HS0
      isplitl [Hg]
      · iexact Hg
      isplitl [Hq0 Hq1]
      · isplitl [Hq0]; · iexact Hq0
        iexact Hq1
      iexact Hh0
    isplitl [HT0]; · iexact HT0
    iexact HT1
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  iexact H4

/-- The body table's row at point `t`'s slots is the body as `bodyAt0` spells it. -/
theorem defs₀_row (hO : Ok m) (hB : TblOk m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hB : TblOk m) (c : Dev nD) : BodyObligation (dats (F := F) m hO hB 0 c) (defs₀ (F := F)) Variants.none () Set.univ := fun t => by
  rw [bigSep_W0, bigSep_W0, defs₀_row m hO hB]
  exact triple_restated (sound_body m hO hB c t) rfl .rfl fun _ => .rfl

/-! ## The run and the frame -/

-- `θ_run_frameP_dma`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hB : TblOk m) : θ_run defs (onTc (τ := τ) (main (F := F))) (s₀ m ρ) (fun r => (Pipeline.FramePost (Pipeline.pin pcfgs fun _ => adm m hO) (dats m hO hB) 0 (V m)) r ∧ r.2.sem = fun _ => 0) :=
  Pipeline.θ_run_frameP_dma (Q' := _) pcfgs (fun _ => adm m hO) (dats m hO hB) (0 : Fin 1) launch0 osem0 defs₀ Variants.none ownSemFacts0 H0 H0_sub m ρ main
    (hbody := fun c => (body_obligation m hO hB c).loose) (hshare := fun c => (dats m hO hB 0 c).share_full fun _ => rfl)
    (howed := fun _ _ => rfl) (V := V m) (hmain := hmain m Variants.none) (hA := A_eq m hO hB) (hpf := V_pre m) (hin := fun _ => .rfl) (hout := fun c => by change iprop(_ ∗ _) ⊢ _; iintro ⟨HD, -⟩; iexact HD)

/-- Every weakly fair execution of @main terminates, and every final state has every array of the pipeline at the proof
    data's contents and every other unscoped buffer as the region found it. -/
theorem run_main (hO : Ok m) (hB : TblOk m) : θ_run defs (onTc (τ := τ) (main (F := F))) (s₀ m ρ) (Pipeline.FramePost (Pipeline.pin pcfgs fun _ => adm m hO) (dats m hO hB) 0 (V m)) :=
  (θ_run defs _ _).mono (fun _ h => h.1) (run_main_quiescent m ρ hO hB)

/-- `frame` without the counters: the argument arrays end unchanged. -/
theorem unchanged (hO : Ok m) (hB : TblOk m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (fun c => (dats m hO hB 0 c).toR) (A_eq m hO hB) ((θ_run defs _ _).mono (fun r h c => ⟨fun w => ((dats m hO hB 0 c).toR_arrAt_iff w _ _).mpr ((h c).1 w), (h c).2⟩) (run_main m ρ hO hB))

/-- The frame: the argument arrays end unchanged and every semaphore counter reads zero. -/
theorem frame (hO : Ok m) (hB : TblOk m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO hB) ((θ_run defs _ _).mono (fun _ h => h.2) (run_main_quiescent m ρ hO hB))

end Cert.KernelIdeal.Gen

end
-- ==== Proof.Pre.lean ====
/- What the precondition says of the two tables: page numbers index the pool, lengths are within the page table's reach. -/
module

public import proofs.«01_k».proof.Proof.Gen.Pre_in_range
public import Idealize.ShloMosaic.Lib.ReduceAll
public import Idealize.ShloMosaic.Lib.WordCmp

@[expose] public section

noncomputable section

namespace Cert.Pre_in_range.Gen

open Idealize.ShloMosaic

variable {F : FTy → Type} [FloatOps F]

instance : Subsingleton S_.Idx := ⟨fun _ _ => funext fun a => a.elim0⟩

theorem sge_zero_slt {w n : BitVec 32} (hn : n.toNat < 2 ^ 31) (h0 : IntOp.cmpi .sge w 0#32 = 1#1) (h1 : IntOp.cmpi .slt w n = 1#1) : w.toNat < n.toNat := by
  have a : BitVec.sle 0#32 w = true := by
    by_contra hc
    simp [IntOp.cmpi] at h0
    simp_all
  have b : BitVec.slt w n = true := by
    by_contra hc
    simp [IntOp.cmpi] at h1
    simp_all
  simp only [BitVec.sle, BitVec.slt, decide_eq_true_eq, BitVec.toInt_eq_toNat_cond, BitVec.toNat_ofNat] at a b
  have := w.isLt; have := n.isLt
  split at b <;> split at b <;> split at a <;> omega

theorem sge_zero_sle {w n : BitVec 32} (hn : n.toNat < 2 ^ 31) (h0 : IntOp.cmpi .sge w 0#32 = 1#1) (h1 : IntOp.cmpi .sle w n = 1#1) : w.toNat ≤ n.toNat := by
  have a : BitVec.sle 0#32 w = true := by
    by_contra hc
    simp [IntOp.cmpi] at h0
    simp_all
  have b : BitVec.sle w n = true := by
    by_contra hc
    simp [IntOp.cmpi] at h1
    simp_all
  simp only [BitVec.sle, decide_eq_true_eq, BitVec.toInt_eq_toNat_cond, BitVec.toNat_ofNat] at a b
  have := w.isLt; have := n.isLt
  split at b <;> split at b <;> split at a <;> omega

theorem in_range (q : FVec F S32x1x128x512 .bf16) (qr : FVec F S32x1x128x64 .bf16) (nr : IVec S32x1x656 8) (pool : IVec S40960x16x656 8)
    (pt : IVec S32x1024 32) (ln : IVec S32 32) (h : Cert.Pre_in_range.fn (F := F) q qr nr pool pt ln = fun _ => 1#1) :
    (∀ x, (pt x).toNat < 40960) ∧ ∀ x, (ln x).toNat ≤ 16384 := by
  have pre := congrFun h (fun a => a.elim0)
  dsimp only [Cert.Pre_in_range.fn] at pre
  obtain ⟨hp, hl⟩ := IntOp.andi_eq_one.1 pre
  constructor
  · intro x
    obtain ⟨h0, h1⟩ := IntOp.andi_eq_one.1 (Host.reduce_andi_all _ _ _ _ _ hp x)
    exact sge_zero_slt (n := 40960#32) (by decide) h0 h1
  · intro x
    obtain ⟨h0, h1⟩ := IntOp.andi_eq_one.1 (Host.reduce_andi_all _ _ _ _ _ hl x)
    exact sge_zero_sle (n := 16384#32) (by decide) h0 h1

end Cert.Pre_in_range.Gen

end
-- ==== Proof.Value.Softmax.lean ====
/- The softmax over the extended reals, where every score and every latent value is a real number: one block's update of
   the running maximum, sum and output, and the softmax taken at once over all positions. Both come to the quotient of
   the sum of `exp s * v` by the sum of `exp s` over the visible positions, whatever maximum was subtracted on the way. -/
module

public import Idealize.ShloMosaic.PureOps.Ideal
public import Mathlib.Data.EReal.Operations
public import Mathlib.Data.Finset.Fold

@[expose] public section

noncomputable section

namespace Cert.Val

open Idealize.ShloMosaic

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem fold_ne_top {n : ℕ} (f : Fin n → EReal) (h : ∀ i, f i ≠ ⊤) : Finset.univ.fold max ⊥ f ≠ ⊤ := by
  rw [← lt_top_iff_ne_top, Finset.fold_max_lt]
  exact ⟨bot_lt_top, fun i _ => lt_top_iff_ne_top.2 (h i)⟩

/-- A maximum of a real and of values below infinity is a real. -/
theorem max_real {n : ℕ} (m : ℝ) (f : Fin n → EReal) (h : ∀ i, f i ≠ ⊤) :
    ∃ m' : ℝ, max (m : EReal) (Finset.univ.fold max ⊥ f) = m' := by
  refine ⟨(max (m : EReal) (Finset.univ.fold max ⊥ f)).toReal, (EReal.coe_toReal ?_ ?_).symm⟩
  · rcases max_choice (m : EReal) (Finset.univ.fold max ⊥ f) with e | e <;> rw [e]
    · exact EReal.coe_ne_top m
    · exact fold_ne_top f h
  · intro e
    have := le_max_left (m : EReal) (Finset.univ.fold max ⊥ f)
    rw [e, le_bot_iff] at this
    exact EReal.coe_ne_bot m this

/-- So is a maximum of values below infinity among which there is a real. -/
theorem fold_real {n : ℕ} (f : Fin n → EReal) (h : ∀ i, f i ≠ ⊤) (j : Fin n) (hj : f j ≠ ⊥) :
    ∃ m' : ℝ, Finset.univ.fold max ⊥ f = m' := by
  refine ⟨(Finset.univ.fold max ⊥ f).toReal, (EReal.coe_toReal (fold_ne_top f h) ?_).symm⟩
  intro e
  have : f j ≤ Finset.univ.fold max ⊥ f := (Finset.le_fold_max _).2 (.inr ⟨j, Finset.mem_univ _, le_rfl⟩)
  rw [e, le_bot_iff] at this
  exact hj this

theorem div_real (a b : ℝ) (hb : b ≠ 0) : Ideal.div (a : EReal) (b : EReal) = ((a / b : ℝ) : EReal) := by
  rw [Ideal.div_coe hb, ← EReal.coe_mul]; congr 1; ring

/-- One position's weight, at a maximum `m`: zero where the position is not visible. -/
theorem weight (v : Bool) (σ m : ℝ) (z : EReal) :
    (if v then Ideal.exp ((if v then (σ : EReal) else z) - (m : EReal)) else 0) = ((Real.exp (-m) * (if v then Real.exp σ else 0) : ℝ) : EReal) := by
  cases v
  · simp
  · simp only [if_true]
    rw [← EReal.coe_sub, Ideal.exp_coe, ← Real.exp_add]; congr 2; ring

variable {n : ℕ} (v : Fin n → Bool) (σ : Fin n → ℝ) (z : EReal) (m m' : ℝ)

/-- The running sum after a block. -/
theorem step_sum (Z : ℝ) :
    ((Real.exp (-m) * Z : ℝ) : EReal) * Ideal.exp ((m : EReal) - (m' : EReal))
        + ∑ i, (if v i then Ideal.exp ((if v i then (σ i : EReal) else z) - (m' : EReal)) else 0)
      = ((Real.exp (-m') * (Z + ∑ i, if v i then Real.exp (σ i) else 0) : ℝ) : EReal) := by
  simp only [weight]
  rw [← coe_sum, ← EReal.coe_sub, Ideal.exp_coe, ← EReal.coe_mul, ← EReal.coe_add, ← Finset.mul_sum]
  congr 1
  have e : Real.exp (-m) * Real.exp (m - m') = Real.exp (-m') := by rw [← Real.exp_add]; congr 1; ring
  linear_combination Z * e

/-- The running output after a block. -/
theorem step_out (W : ℝ) (lat : Fin n → ℝ) :
    ((Real.exp (-m) * W : ℝ) : EReal) * Ideal.exp ((m : EReal) - (m' : EReal))
        + ∑ i, (if v i then Ideal.exp ((if v i then (σ i : EReal) else z) - (m' : EReal)) else 0) * (lat i : EReal)
      = ((Real.exp (-m') * (W + ∑ i, (if v i then Real.exp (σ i) else 0) * lat i) : ℝ) : EReal) := by
  simp only [weight, ← EReal.coe_mul]
  rw [← coe_sum, ← EReal.coe_sub, Ideal.exp_coe, ← EReal.coe_mul, ← EReal.coe_add]
  congr 1
  have e : Real.exp (-m) * Real.exp (m - m') = Real.exp (-m') := by rw [← Real.exp_add]; congr 1; ring
  rw [mul_add, Finset.mul_sum]
  simp only [mul_assoc]
  congr 1
  linear_combination W * e

/-- The sum of a real function over the visible ones of the positions below `N`. -/
def visSum (len : ℕ) (N : ℕ) (f : ℕ → ℝ) : ℝ := ∑ k ∈ Finset.range N, if k < len then f k else 0

theorem visSum_block (len N n : ℕ) (f : ℕ → ℝ) :
    visSum len (N + n) f = visSum len N f + ∑ i : Fin n, if N + i.val < len then f (N + i.val) else 0 := by
  unfold visSum
  rw [Finset.sum_range_add, ← Fin.sum_univ_eq_sum_range (fun i => if N + i < len then f (N + i) else 0)]

theorem visSum_enough (len N N' : ℕ) (f : ℕ → ℝ) (h : len ≤ N) (h' : len ≤ N') : visSum len N f = visSum len N' f := by
  have key : ∀ M, len ≤ M → visSum len M f = ∑ k ∈ Finset.range len, f k := fun M hM => by
    unfold visSum
    rw [← Finset.sum_filter]
    congr 1
    ext k; simp only [Finset.mem_filter, Finset.mem_range]; omega
  rw [key N h, key N' h']

theorem visSum_nonneg (len N : ℕ) (f : ℕ → ℝ) (h : ∀ k, 0 ≤ f k) : 0 ≤ visSum len N f :=
  Finset.sum_nonneg fun k _ => by split <;> [exact h k; exact le_rfl]

/-- The last step of the running softmax. -/
theorem final_out (m Z W : ℝ) (hZ : 0 < Z) :
    Ideal.div ((Real.exp (-m) * W : ℝ) : EReal) ((Real.exp (-m) * Z : ℝ) : EReal) = ((W / Z : ℝ) : EReal) := by
  rw [div_real _ _ (mul_pos (Real.exp_pos _) hZ).ne', mul_div_mul_left _ _ (Real.exp_pos _).ne']

theorem final_lse (m Z : ℝ) (hZ : 0 < Z) : (m : EReal) + Ideal.log ((Real.exp (-m) * Z : ℝ) : EReal) = (Real.log Z : EReal) := by
  rw [Ideal.log_coe, if_neg (not_le.2 (mul_pos (Real.exp_pos _) hZ)), Real.log_mul (Real.exp_pos _).ne' hZ.ne', Real.log_exp, ← EReal.coe_add]
  congr 1; ring

end Cert.Val

end
-- ==== Proof.Value.Record.lean ====
/- One record of 656 bytes as numbers: 512 codes of eight bits, four scales of 32 bits (one for each 128 codes), 64 rope
   values of 16 bits, all little-endian. -/
module

public import proofs.«01_k».proof.Proof.Value.Softmax
public import Idealize.ShloMosaic.Lib.BitcastFour
public import Idealize.ShloMosaic.Lib.BitcastConvert

@[expose] public section

noncomputable section

namespace Cert.Val

open Idealize.ShloMosaic

/-- A record's bytes. -/
abbrev Rec := Fin 656 → BitVec 8

/-- Two bytes as a word, the first one lowest, -/
def word2 (a b : BitVec 8) : BitVec 16 := a.setWidth 16 ||| b.setWidth 16 <<< 8
/-- and four. -/
def word4 (a b c d : BitVec 8) : BitVec 32 := a.setWidth 32 ||| b.setWidth 32 <<< 8 ||| c.setWidth 32 <<< 16 ||| d.setWidth 32 <<< 24

/-- The scale of codes `128 g …`. -/
def scale (r : Rec) (g : Fin 4) : EReal :=
  Ideal.ofBits .f32 (word4 (r ⟨512 + 4 * g.val, by omega⟩) (r ⟨512 + 4 * g.val + 1, by omega⟩) (r ⟨512 + 4 * g.val + 2, by omega⟩) (r ⟨512 + 4 * g.val + 3, by omega⟩))
/-- A latent value: a code by its scale. -/
def lat (r : Rec) (c : Fin 512) : EReal := Ideal.ofBits .fp8e4m3 (r ⟨c.val, by omega⟩) * scale r ⟨c.val / 128, by omega⟩
/-- A rope value. -/
def rope (r : Rec) (k : Fin 64) : EReal := Ideal.ofBits .bf16 (word2 (r ⟨528 + 2 * k.val, by omega⟩) (r ⟨528 + 2 * k.val + 1, by omega⟩))
/-- The softmax's scale, `1 / sqrt 192` rounded. -/
def smScale : EReal := Ideal.ofBits .f32 0x3D93CD3A#32
/-- The score of a query against a record. -/
def score (q : Fin 512 → EReal) (qr : Fin 64 → EReal) (r : Rec) : EReal := (∑ c, q c * lat r c + ∑ k, qr k * rope r k) * smScale

/-! ## Finite -/

/-- A real number, not an infinity. -/
def IsReal (x : EReal) : Prop := ∃ a : ℝ, x = a

theorem IsReal.mul {x y : EReal} : IsReal x → IsReal y → IsReal (x * y) := fun ⟨a, ha⟩ ⟨b, hb⟩ => ⟨a * b, by rw [ha, hb, EReal.coe_mul]⟩
theorem IsReal.add {x y : EReal} : IsReal x → IsReal y → IsReal (x + y) := fun ⟨a, ha⟩ ⟨b, hb⟩ => ⟨a + b, by rw [ha, hb, EReal.coe_add]⟩
theorem IsReal.sum {n : ℕ} {f : Fin n → EReal} (h : ∀ i, IsReal (f i)) : IsReal (∑ i, f i) := by
  choose g hg using h
  exact ⟨∑ i, g i, by rw [coe_sum]; exact Finset.sum_congr rfl fun i _ => hg i⟩
theorem IsReal.coe {x : EReal} (h : IsReal x) : (x.toReal : EReal) = x := by obtain ⟨a, rfl⟩ := h; rfl
theorem IsReal.ne_top {x : EReal} (h : IsReal x) : x ≠ ⊤ := by obtain ⟨a, rfl⟩ := h; exact EReal.coe_ne_top a
theorem IsReal.ne_bot {x : EReal} (h : IsReal x) : x ≠ ⊥ := by obtain ⟨a, rfl⟩ := h; exact EReal.coe_ne_bot a

theorem ieee_real (e m : ℕ) {w : ℕ} (b : BitVec w) (h : (b.extractLsb' m e).toNat ≠ 2 ^ e - 1) : IsReal (Ideal.ieee e m b) := by
  unfold Ideal.ieee
  simp only [if_neg h]
  split <;> exact ⟨_, rfl⟩

theorem fp8_real (b : BitVec 8) (h : b ≠ 127#8) (h' : b ≠ 255#8) : IsReal (Ideal.ofBits .fp8e4m3 b) := by
  show IsReal (Ideal.e4m3fn b)
  unfold Ideal.e4m3fn
  have hn : ¬ ((b.extractLsb' 3 4).toNat = 15 ∧ (b.extractLsb' 0 3).toNat = 7) := by
    revert h h'; revert b; decide
  simp only [if_neg hn]
  split <;> exact ⟨_, rfl⟩

theorem smScale_real : IsReal smScale := ieee_real 8 23 0x3D93CD3A#32 (by decide)

theorem extract_word4 (a b c d : BitVec 8) : (word4 a b c d).extractLsb' 23 8 = d <<< 1 ||| c >>> 7 := by
  unfold word4
  apply BitVec.eq_of_getLsbD_eq
  intro i hi
  interval_cases i <;> simp

theorem extract_word2 (a b : BitVec 8) : (word2 a b).extractLsb' 7 8 = b <<< 1 ||| a >>> 7 := by
  unfold word2
  apply BitVec.eq_of_getLsbD_eq
  intro i hi
  interval_cases i <;> simp

theorem top_ne (b a : BitVec 8) (h : (b ≠ 127#8 ∧ b ≠ 255#8) ∨ a.toNat < 128) : (b <<< 1 ||| a >>> 7).toNat ≠ 255 := by
  have ha := a.isLt; have hb := b.isLt
  have e : (b <<< 1 ||| a >>> 7).toNat = 2 * (b.toNat % 128) + a.toNat / 128 := by
    rw [BitVec.toNat_or, BitVec.toNat_shiftLeft, BitVec.toNat_ushiftRight, Nat.shiftLeft_eq, Nat.shiftRight_eq_div_pow]
    have h1 : b.toNat * 2 ^ 1 % 2 ^ 8 = 2 ^ 1 * (b.toNat % 128) := by omega
    rw [h1, ← Nat.two_pow_add_eq_or_of_lt (by omega)]
  rw [e]
  rcases h with ⟨h1, h2⟩ | h
  · have h1 : b.toNat ≠ 127 := fun e => h1 (BitVec.eq_of_toNat_eq e)
    have h2 : b.toNat ≠ 255 := fun e => h2 (BitVec.eq_of_toNat_eq e)
    omega
  · omega

theorem f32_real (a b c d : BitVec 8) (h : (d ≠ 127#8 ∧ d ≠ 255#8) ∨ c.toNat < 128) : IsReal (Ideal.ofBits .f32 (word4 a b c d)) :=
  ieee_real 8 23 _ (by rw [extract_word4]; exact top_ne d c h)
theorem bf16_real (a b : BitVec 8) (h : (b ≠ 127#8 ∧ b ≠ 255#8) ∨ a.toNat < 128) : IsReal (Ideal.ofBits .bf16 (word2 a b)) :=
  ieee_real 8 7 _ (by rw [extract_word2]; exact top_ne b a h)

/-- A record that decodes to finite numbers. -/
structure RecOk (r : Rec) : Prop where
  code : ∀ c : Fin 512, r ⟨c.val, by omega⟩ ≠ 127#8 ∧ r ⟨c.val, by omega⟩ ≠ 255#8
  scale : ∀ g : Fin 4, (r ⟨512 + 4 * g.val + 3, by omega⟩ ≠ 127#8 ∧ r ⟨512 + 4 * g.val + 3, by omega⟩ ≠ 255#8) ∨ (r ⟨512 + 4 * g.val + 2, by omega⟩).toNat < 128
  word : ∀ k : Fin 64, (r ⟨528 + 2 * k.val + 1, by omega⟩ ≠ 127#8 ∧ r ⟨528 + 2 * k.val + 1, by omega⟩ ≠ 255#8) ∨ (r ⟨528 + 2 * k.val, by omega⟩).toNat < 128

theorem RecOk.lat_real {r : Rec} (h : RecOk r) (c : Fin 512) : IsReal (lat r c) :=
  (fp8_real _ (h.code c).1 (h.code c).2).mul (f32_real _ _ _ _ (h.scale _))
theorem RecOk.rope_real {r : Rec} (h : RecOk r) (k : Fin 64) : IsReal (rope r k) := bf16_real _ _ (h.word k)
theorem RecOk.score_real {r : Rec} (h : RecOk r) {q : Fin 512 → EReal} {qr : Fin 64 → EReal} (hq : ∀ c, IsReal (q c)) (hr : ∀ k, IsReal (qr k)) :
    IsReal (score q qr r) :=
  ((IsReal.sum fun c => (hq c).mul (h.lat_real c)).add (IsReal.sum fun k => (hr k).mul (h.rope_real k))).mul smScale_real

/-! ## Words -/

/-- A 16-bit value widened to 32 bits by zeros below is the same number. -/
theorem widen_bf16 (w : BitVec 16) (u : BitVec 32) (h : u.setWidth 16 = w) : Ideal.ofBits .f32 (u <<< 16) = Ideal.ofBits .bf16 w := by
  subst h
  show Ideal.ieee 8 23 (u <<< 16) = Ideal.ieee 8 7 (u.setWidth 16)
  have e1 : (u <<< 16).extractLsb' (8 + 23) 1 = (u.setWidth 16).extractLsb' (8 + 7) 1 := by
    apply BitVec.eq_of_getLsbD_eq; intro i hi
    interval_cases i; simp
  have e2 : (u <<< 16).extractLsb' 23 8 = (u.setWidth 16).extractLsb' 7 8 := by
    apply BitVec.eq_of_getLsbD_eq; intro i hi
    interval_cases i <;> simp
  have e3 : ((u <<< 16).extractLsb' 0 23).toNat = ((u.setWidth 16).extractLsb' 0 7).toNat * 2 ^ 16 := by
    have : (u <<< 16).extractLsb' 0 23 = ((u.setWidth 16).extractLsb' 0 7).setWidth 23 <<< 16 := by
      apply BitVec.eq_of_getLsbD_eq; intro i hi
      interval_cases i <;> simp
    rw [this, BitVec.toNat_shiftLeft, BitVec.toNat_setWidth, Nat.shiftLeft_eq]
    have := ((u.setWidth 16).extractLsb' 0 7).isLt
    rw [Nat.mod_eq_of_lt (by omega), Nat.mod_eq_of_lt (by omega)]
  unfold Ideal.ieee
  simp only [e1, e2, e3]
  split
  · simp
  · split
    · congr 1
      norm_num
      ring_nf
    · congr 1
      have e : ∀ x : ℤ, (2 : ℝ) ^ (x - 127 - 7) = 2 ^ (x - 127 - 23) * 65536 := fun x => by
        rw [show x - 127 - 7 = x - 127 - 23 + 16 by ring, zpow_add₀ (by norm_num)]; norm_num
      norm_num
      rw [e]
      ring_nf

end Cert.Val

end
-- ==== Proof.Value.Spec.lean ====
/- What both programs compute for one row and one head: the softmax of the scores of the row's visible tokens and its own
   new record, over the reals. -/
module

public import proofs.«01_k».proof.Proof.Value.Record

@[expose] public section

noncomputable section

namespace Cert.Val

open Idealize.ShloMosaic

variable (q : Fin 512 → EReal) (qr : Fin 64 → EReal) (r0 : Rec) (tok : ℕ → Rec) (L : ℕ)

/-- The weight of a record, before the division by their sum. -/
def wt (r : Rec) : ℝ := Real.exp (score q qr r).toReal
/-- The sum of the weights of the new record and of the visible ones of the first `N` tokens, -/
def rowZ (N : ℕ) : ℝ := wt q qr r0 + visSum L N fun k => wt q qr (tok k)
/-- and the sum of their latent values by weight. -/
def rowW (c : Fin 512) (N : ℕ) : ℝ := wt q qr r0 * (lat r0 c).toReal + visSum L N fun k => wt q qr (tok k) * (lat (tok k) c).toReal

theorem rowZ_pos (N : ℕ) : 0 < rowZ q qr r0 tok L N :=
  add_pos_of_pos_of_nonneg (Real.exp_pos _) (visSum_nonneg _ _ _ fun _ => (Real.exp_pos _).le)

/-- The row's output -/
def outSpec (c : Fin 512) : EReal := ((rowW q qr r0 tok L c 16384 / rowZ q qr r0 tok L 16384 : ℝ) : EReal)
/-- and the logarithm of its sum of weights. -/
def lseSpec : EReal := (Real.log (rowZ q qr r0 tok L 16384) : EReal)

end Cert.Val

end
-- ==== Proof.Value.Decode.lean ====
/- The kernel's decoding of records and its scores, at an index. -/
module

public import proofs.«01_k».proof.Proof.Value.Record
public import proofs.«01_k».proof.Proof.KernelIdeal.Row
public import Idealize.ShloMosaic.Lib.Pointwise

@[expose] public section

set_option maxRecDepth 16384

noncomputable section

namespace Cert.Val

open Idealize.ShloMosaic Idealize.ShloMosaic.TcCoe
open Cert.KernelIdeal Cert.KernelIdeal.Gen

/-! ## Lanes: the two-byte words, the mask of the even lanes from 16 on -/

/-- Two neighbouring bytes in a lane. -/
def lane2 (a b : BitVec 8) : BitVec 32 := a.setWidth 32 ||| b.setWidth 32 <<< 8

theorem lane2_bf16 (a b : BitVec 8) : Ideal.ofBits .f32 (lane2 a b <<< 16) = Ideal.ofBits .bf16 (word2 a b) := by
  refine widen_bf16 _ _ ?_
  unfold lane2 word2
  apply BitVec.eq_of_getLsbD_eq
  intro i hi
  interval_cases i <;> simp

theorem lane2_f32 (a b c d : BitVec 8) : lane2 a b ||| lane2 c d <<< 16 = word4 a b c d := by
  unfold lane2 word4
  apply BitVec.eq_of_getLsbD_eq
  intro i hi
  interval_cases i <;> simp

theorem shl8 (x : BitVec 32) : IntOp.shli ArithUnit.vector x 8#32 = x <<< 8 := rfl
theorem shl16 (x : BitVec 32) : IntOp.shli ArithUnit.vector x 16#32 = x <<< 16 := rfl

/-- The lanes that start a rope value. -/
theorem rope_lane : ∀ x : Fin 144, IntOp.andi (IntOp.cmpi CmpIPredicate.sge (BitVec.ofNat 32 x.val) 16#32)
    (IntOp.cmpi CmpIPredicate.eq (Scalar.select (IntOp.andi (IntOp.xori
        (IntOp.cmpi CmpIPredicate.slt (IntOp.remsi ArithUnit.vector (BitVec.ofNat 32 x.val) (Scalar.select (Scalar.cmpi CmpIPredicate.eq 2#32 0#32) 1#32 2#32)) 0#32)
        (Scalar.cmpi CmpIPredicate.slt (Scalar.select (Scalar.cmpi CmpIPredicate.eq 2#32 0#32) 1#32 2#32) 0#32))
      (IntOp.cmpi CmpIPredicate.ne (IntOp.remsi ArithUnit.vector (BitVec.ofNat 32 x.val) (Scalar.select (Scalar.cmpi CmpIPredicate.eq 2#32 0#32) 1#32 2#32)) 0#32))
      (IntOp.addi (IntOp.remsi ArithUnit.vector (BitVec.ofNat 32 x.val) (Scalar.select (Scalar.cmpi CmpIPredicate.eq 2#32 0#32) 1#32 2#32)) (Scalar.select (Scalar.cmpi CmpIPredicate.eq 2#32 0#32) 1#32 2#32))
      (IntOp.remsi ArithUnit.vector (BitVec.ofNat 32 x.val) (Scalar.select (Scalar.cmpi CmpIPredicate.eq 2#32 0#32) 1#32 2#32))) 0#32)
    = BitVec.ofBool (decide (16 ≤ x.val ∧ x.val % 2 = 0)) := by decide +kernel

theorem sel_ofBool {α : Type} (b : Bool) (x y : α) : Scalar.select (BitVec.ofBool b) x y = if b then x else y := by cases b <;> rfl

/-- Rope lane `k` among the 144. -/
def ropeIx (k : Fin 64) : Fin 144 := ⟨16 + 2 * k.val, by omega⟩

theorem rope_sum (f : Fin 144 → EReal) : ∑ x : Fin 144, Scalar.select (BitVec.ofBool (decide (16 ≤ x.val ∧ x.val % 2 = 0))) (f x) 0 = ∑ k : Fin 64, f (ropeIx k) := by
  have inj : Function.Injective ropeIx := fun a b h => Fin.ext (by have := congrArg Fin.val h; simp only [ropeIx] at this; omega)
  have hs : (Finset.univ.filter fun x : Fin 144 => 16 ≤ x.val ∧ x.val % 2 = 0) = Finset.univ.map ⟨ropeIx, inj⟩ := by
    ext x
    simp only [Finset.mem_filter, Finset.mem_univ, true_and, Finset.mem_map, Function.Embedding.coeFn_mk]
    constructor
    · rintro ⟨h1, h2⟩
      exact ⟨⟨(x.val - 16) / 2, by omega⟩, Fin.ext (by simp only [ropeIx]; omega)⟩
    · rintro ⟨k, rfl⟩
      simp only [ropeIx]; omega
  simp only [sel_ofBool, decide_eq_true_eq]
  rw [← Finset.sum_filter, hs, Finset.sum_map]
  rfl

/-! ## A block of 512 records -/

/-- Record `n` of a block. -/
def blkRec (x : Vec Ideal S1x32x16x656 .i8) (n : Fin 512) : Rec := fun i => x (ix4 0 ⟨n.val / 16, by omega⟩ ⟨n.val % 16, by omega⟩ i)

theorem pay4_at (x : Vec Ideal S1x32x16x656 .i8) (n c : Fin 512) : k0_pay4 x (ix2 n c) = Ideal.ofBits .fp8e4m3 (blkRec x n ⟨c.val, by omega⟩) := by
  pointwise [k0_pay4, k0_pay2, blkRec]

theorem pay5_at (x : Vec Ideal S1x32x16x656 .i8) (n : Fin 512) (i : Fin 144) :
    k0_pay5 x (ix2 n i) = lane2 (blkRec x n ⟨512 + i.val, by omega⟩) (blkRec x n ⟨512 + (i.val + 144 - 143) % 144, by omega⟩) := by
  pointwise [k0_pay5, k0_pay2, blkRec]
  rfl

theorem pay5_at' (x : Vec Ideal S1x32x16x656 .i8) (n : Fin 512) (i : ℕ) (hi : i < 143) (j j' : Fin 656) (hj : j.val = 512 + i) (hj' : j'.val = 512 + i + 1) :
    k0_pay5 x (ix2 n ⟨i, by omega⟩) = lane2 (blkRec x n j) (blkRec x n j') := by
  rw [pay5_at]
  have e1 : (⟨512 + (⟨i, by omega⟩ : Fin 144).val, by simp only []; omega⟩ : Fin 656) = j := Fin.ext hj.symm
  have e2 : (⟨512 + ((⟨i, by omega⟩ : Fin 144).val + 144 - 143) % 144, by omega⟩ : Fin 656) = j' := Fin.ext (by simp only []; omega)
  rw [e1, e2]

theorem pay9_at (y : FVec Ideal S512x512 .bf16) (v : IVec S512x144 32) (n c : Fin 512) : k0_pay9 y v (ix2 n c) = y (ix2 n c) *
    Ideal.ofBits .f32 (v (ix2 n ⟨4 * (c.val / 128), by omega⟩) ||| v (ix2 n ⟨4 * (c.val / 128) + 2, by omega⟩) <<< 16) := by
  pointwise [k0_pay9]
  simp only [shl16]
  have key : ∀ (a : Fin 512) (i j : Fin 144), a = c → i.val = 4 * (c.val / 128) → j.val = 4 * (c.val / 128) + 2 →
      y (ix2 n a) * Ideal.ofBits FTy.f32 (IntOp.ori (v (ix2 n i)) (v (ix2 n j) <<< 16)) = y (ix2 n c) *
        Ideal.ofBits .f32 (v (ix2 n ⟨4 * (c.val / 128), by omega⟩) ||| v (ix2 n ⟨4 * (c.val / 128) + 2, by omega⟩) <<< 16) := by
    rintro a i j rfl hi hj
    rw [show i = ⟨4 * (a.val / 128), by omega⟩ from Fin.ext hi, show j = ⟨4 * (a.val / 128) + 2, by omega⟩ from Fin.ext hj]; rfl
  split
  · exact key _ 0 2 rfl (by show 0 = _; omega) (by show 2 = _; omega)
  split
  · exact key _ 4 6 (Fin.ext (by simp only []; omega)) (by show 4 = _; omega) (by show 6 = _; omega)
  split
  · exact key _ 8 10 (Fin.ext (by simp only []; omega)) (by show 8 = _; omega) (by show 10 = _; omega)
  · exact key _ 12 14 (Fin.ext (by simp only []; omega)) (by show 12 = _; omega) (by show 14 = _; omega)

/-- The latent values of a block. -/
theorem lat_at (x : Vec Ideal S1x32x16x656 .i8) (n c : Fin 512) : k0_pay9 (k0_pay4 x) (k0_pay5 x) (ix2 n c) = lat (blkRec x n) c := by
  rw [pay9_at, pay4_at,
    pay5_at' x n (4 * (c.val / 128)) (by omega) ⟨512 + 4 * (c.val / 128), by omega⟩ ⟨512 + 4 * (c.val / 128) + 1, by omega⟩ rfl rfl,
    pay5_at' x n (4 * (c.val / 128) + 2) (by omega) ⟨512 + 4 * (c.val / 128) + 2, by omega⟩ ⟨512 + 4 * (c.val / 128) + 3, by omega⟩ rfl rfl, lane2_f32]
  rfl

theorem rope_at (x : Vec Ideal S1x32x16x656 .i8) (n : Fin 512) (k : Fin 64) : k0_pay6 x (ix2 n (ropeIx k)) = rope (blkRec x n) k := by
  pointwise [k0_pay6]
  rw [shl16]
  rw [show (ropeIx k) = ⟨16 + 2 * k.val, by omega⟩ from rfl,
    pay5_at' x n (16 + 2 * k.val) (by omega) ⟨528 + 2 * k.val, by omega⟩ ⟨528 + 2 * k.val + 1, by omega⟩ (by simp only []; omega) (by simp only []; omega), lane2_bf16]
  rfl

/-- The scores of a block. -/
theorem score_at (q : FVec Ideal S128x512 .bf16) (qr : FVec Ideal S128x144 .bf16) (x : Vec Ideal S1x32x16x656 .i8) (h : Fin 128) (n : Fin 512) :
    k0_pay10 q qr (k0_pay4 x) (k0_pay5 x) (k0_pay6 x) k0_pay7 (Scalar.select (Scalar.cmpi .eq 2#32 0#32) 1#32 2#32) k0_pay8 (ix2 h n)
      = score (fun c => q (ix2 h c)) (fun k => qr (ix2 h (ropeIx k))) (blkRec x n) := by
  pointwise [k0_pay10, k0_pay7, k0_pay8]
  simp only [lat_at, rope_lane]
  rw [rope_sum (fun i => qr (ix2 h i) * k0_pay6 x (ix2 n i))]
  simp only [rope_at]
  rfl

/-! ## The row's own new record, repeated 32 times -/

/-- The record. -/
def newRec (x : Vec Ideal S1x1x656 .i8) : Rec := fun i => x (ix3 0 0 i)

theorem trunc_ext (b : BitVec 8) : (b.setWidth 32).setWidth 8 = b := by
  apply BitVec.eq_of_getLsbD_eq; intro i hi; simp [hi]

theorem pay25_at (x : Vec Ideal S1x1x656 .i8) (n : Fin 32) (i : Fin 656) : k0_pay25 x (ix2 n i) = newRec x i := by
  pointwise [k0_pay25, newRec]
  try exact trunc_ext _

theorem pay27_at (x : Vec Ideal S1x1x656 .i8) (n : Fin 32) (c : Fin 512) : k0_pay27 x (ix2 n c) = Ideal.ofBits .fp8e4m3 (newRec x ⟨c.val, by omega⟩) := by
  pointwise [k0_pay27]
  rw [pay25_at]

theorem pay28_at (x : Vec Ideal S1x1x656 .i8) (n : Fin 32) (i : Fin 144) :
    k0_pay28 x (ix2 n i) = lane2 (newRec x ⟨512 + i.val, by omega⟩) (newRec x ⟨512 + (i.val + 144 - 143) % 144, by omega⟩) := by
  pointwise [k0_pay28]
  rw [pay25_at, pay25_at]
  rfl

theorem pay28_at' (x : Vec Ideal S1x1x656 .i8) (n : Fin 32) (i : ℕ) (hi : i < 143) (j j' : Fin 656) (hj : j.val = 512 + i) (hj' : j'.val = 512 + i + 1) :
    k0_pay28 x (ix2 n ⟨i, by omega⟩) = lane2 (newRec x j) (newRec x j') := by
  rw [pay28_at]
  have e1 : (⟨512 + (⟨i, by omega⟩ : Fin 144).val, by simp only []; omega⟩ : Fin 656) = j := Fin.ext hj.symm
  have e2 : (⟨512 + ((⟨i, by omega⟩ : Fin 144).val + 144 - 143) % 144, by omega⟩ : Fin 656) = j' := Fin.ext (by simp only []; omega)
  rw [e1, e2]

theorem pay31_at (y : FVec Ideal S32x512 .bf16) (v : IVec S32x144 32) (n : Fin 32) (c : Fin 512) : k0_pay31 y v (ix2 n c) = y (ix2 n c) *
    Ideal.ofBits .f32 (v (ix2 n ⟨4 * (c.val / 128), by omega⟩) ||| v (ix2 n ⟨4 * (c.val / 128) + 2, by omega⟩) <<< 16) := by
  pointwise [k0_pay31]
  simp only [shl16]
  have key : ∀ (a : Fin 512) (i j : Fin 144), a = c → i.val = 4 * (c.val / 128) → j.val = 4 * (c.val / 128) + 2 →
      y (ix2 n a) * Ideal.ofBits FTy.f32 (IntOp.ori (v (ix2 n i)) (v (ix2 n j) <<< 16)) = y (ix2 n c) *
        Ideal.ofBits .f32 (v (ix2 n ⟨4 * (c.val / 128), by omega⟩) ||| v (ix2 n ⟨4 * (c.val / 128) + 2, by omega⟩) <<< 16) := by
    rintro a i j rfl hi hj
    rw [show i = ⟨4 * (a.val / 128), by omega⟩ from Fin.ext hi, show j = ⟨4 * (a.val / 128) + 2, by omega⟩ from Fin.ext hj]; rfl
  split
  · exact key _ 0 2 rfl (by show 0 = _; omega) (by show 2 = _; omega)
  split
  · exact key _ 4 6 (Fin.ext (by simp only []; omega)) (by show 4 = _; omega) (by show 6 = _; omega)
  split
  · exact key _ 8 10 (Fin.ext (by simp only []; omega)) (by show 8 = _; omega) (by show 10 = _; omega)
  · exact key _ 12 14 (Fin.ext (by simp only []; omega)) (by show 12 = _; omega) (by show 14 = _; omega)

/-- Its latent values, -/
theorem newLat_at (x : Vec Ideal S1x1x656 .i8) (n : Fin 32) (c : Fin 512) : k0_pay31 (k0_pay27 x) (k0_pay28 x) (ix2 n c) = lat (newRec x) c := by
  rw [pay31_at, pay27_at,
    pay28_at' x n (4 * (c.val / 128)) (by omega) ⟨512 + 4 * (c.val / 128), by omega⟩ ⟨512 + 4 * (c.val / 128) + 1, by omega⟩ rfl rfl,
    pay28_at' x n (4 * (c.val / 128) + 2) (by omega) ⟨512 + 4 * (c.val / 128) + 2, by omega⟩ ⟨512 + 4 * (c.val / 128) + 3, by omega⟩ rfl rfl, lane2_f32]
  rfl

theorem newRope_at (x : Vec Ideal S1x1x656 .i8) (n : Fin 32) (k : Fin 64) : k0_pay29 x (ix2 n (ropeIx k)) = rope (newRec x) k := by
  pointwise [k0_pay29]
  rw [shl16]
  rw [show (ropeIx k) = ⟨16 + 2 * k.val, by omega⟩ from rfl,
    pay28_at' x n (16 + 2 * k.val) (by omega) ⟨528 + 2 * k.val, by omega⟩ ⟨528 + 2 * k.val + 1, by omega⟩ (by simp only []; omega) (by simp only []; omega), lane2_bf16]
  rfl

/-- and its scores, hidden but for the first copy. -/
theorem newScore_at (q : FVec Ideal S128x512 .bf16) (qr : FVec Ideal S128x144 .bf16) (x : Vec Ideal S1x1x656 .i8) (w : IVec S128x32 1) (h : Fin 128) (n : Fin 32) :
    k0_pay32 q qr w (k0_pay30 (iota .tc S32x144 32 [1] iota_S32x144_d1_w32) (k0_pay29 x) 16#32) (k0_pay31 (k0_pay27 x) (k0_pay28 x)) (ix2 h n)
      = Scalar.select (w (ix2 h n)) (score (fun c => q (ix2 h c)) (fun k => qr (ix2 h (ropeIx k))) (newRec x)) (Ideal.ofBits .f32 0xF149F2CA#32) := by
  pointwise [k0_pay32, k0_pay30]
  simp only [newLat_at, rope_lane]
  rw [rope_sum (fun i => qr (ix2 h i) * k0_pay29 x (ix2 n i))]
  simp only [newRope_at]
  rfl

end Cert.Val

end
-- ==== Proof.Value.Update.lean ====
/- The kernel's update of the running maximum, sum and output, at an index. -/
module

public import proofs.«01_k».proof.Proof.Value.Decode
public import Idealize.ShloMosaic.Lib.WordArith.Masks

@[expose] public section

set_option maxRecDepth 16384

noncomputable section

namespace Cert.Val

open Idealize.ShloMosaic Idealize.ShloMosaic.TcCoe
open Cert.KernelIdeal Cert.KernelIdeal.Gen

/-- The kernel's stand-in for no score. -/
def neg : EReal := Ideal.ofBits .f32 0xF149F2CA#32

theorem neg_real : IsReal neg := ieee_real 8 23 0xF149F2CA#32 (by decide)

theorem neg_inf : Ideal.ofBits .f32 4286578688#32 = ⊥ := by
  show Ideal.ieee 8 23 (4286578688#32) = ⊥
  unfold Ideal.ieee
  simp only [show (4286578688#32 : BitVec 32).extractLsb' 23 8 = 255#8 by decide, show (4286578688#32 : BitVec 32).extractLsb' 0 23 = 0#23 by decide,
    show (4286578688#32 : BitVec 32).extractLsb' (8 + 23) 1 = 1#1 by decide]
  simp

theorem slt_nat (a b : BitVec 32) (ha : a.toNat < 2 ^ 31) (hb : b.toNat < 2 ^ 31) : IntOp.cmpi CmpIPredicate.slt a b = BitVec.ofBool (decide (a.toNat < b.toNat)) := by
  show BitVec.ofBool (a.slt b) = _
  rw [BitVec.slt_eq_decide, BitVec.toInt_eq_toNat_of_lt (by omega), BitVec.toInt_eq_toNat_of_lt (by omega)]
  congr 2
  exact propext Int.ofNat_lt

/-- The mask of block `t`: the positions before the row's length. -/
theorem mask_at (v1 : BitVec 32) (hv : v1.toNat ≤ 16384) (t : ℕ) (ht : t < 32) (h : Fin 128) (n : Fin 512) :
    k0_pay3 (F := Ideal) v1 (Scf.iv 0#32 1#32 t) (ix2 h n) = BitVec.ofBool (decide (512 * t + n.val < v1.toNat)) := by
  pointwise [k0_pay3]
  have e : (IntOp.addi (Scalar.muli (Scf.iv (0#32) (1#32) t) 512#32) (BitVec.ofNat 32 n.val)).toNat = 512 * t + n.val := by
    show ((Scf.iv (0#32) (1#32) t * 512#32) + BitVec.ofNat 32 n.val).toNat = _
    rw [BitVec.toNat_add, BitVec.toNat_mul, WordArith.toNat_iv_zero_one _ (by omega), BitVec.toNat_ofNat, BitVec.toNat_ofNat]
    have := n.isLt
    omega
  rw [slt_nat _ _ (by have := n.isLt; omega) (by omega), e]

theorem pay39_at (M : FVec Ideal S128x1 .f32) (w : IVec S128x512 1) (s : FVec Ideal S128x512 .f32) (cst : EReal) (h : Fin 128) :
    k0_pay39 (F := Ideal) M w s cst (ix2 h 0) = max (M (ix2 h 0)) (Finset.univ.fold max ⊥ fun n : Fin 512 => Scalar.select (w (ix2 h n)) (s (ix2 h n)) cst) := by
  pointwise [k0_pay39, k0_pay38]
  rw [neg_inf]

theorem pay42_at (M L : FVec Ideal S128x1 .f32) (w : IVec S128x512 1) (s : FVec Ideal S128x512 .f32) (cst : EReal) (h : Fin 128) :
    k0_pay42 (F := Ideal) M L w s cst (ix2 h 0) = L (ix2 h 0) * Ideal.exp (M (ix2 h 0) - k0_pay39 (F := Ideal) M w s cst (ix2 h 0))
      + ∑ n : Fin 512, Scalar.select (w (ix2 h n)) (Ideal.exp (Scalar.select (w (ix2 h n)) (s (ix2 h n)) cst - k0_pay39 (F := Ideal) M w s cst (ix2 h 0))) 0 := by
  pointwise [k0_pay42, k0_pay41, k0_pay40, k0_pay38]

theorem pay43_at (M : FVec Ideal S128x1 .f32) (A : FVec Ideal S128x512 .f32) (w : IVec S128x512 1) (l : FVec Ideal S512x512 .bf16) (s : FVec Ideal S128x512 .f32) (cst : EReal) (h : Fin 128) (c : Fin 512) :
    k0_pay43 (F := Ideal) M A w l s cst (ix2 h c) = A (ix2 h c) * Ideal.exp (M (ix2 h 0) - k0_pay39 (F := Ideal) M w s cst (ix2 h 0))
      + ∑ n : Fin 512, Scalar.select (w (ix2 h n)) (Ideal.exp (Scalar.select (w (ix2 h n)) (s (ix2 h n)) cst - k0_pay39 (F := Ideal) M w s cst (ix2 h 0))) 0 * l (ix2 n c) := by
  pointwise [k0_pay43, k0_pay41, k0_pay40, k0_pay38]

/-! ## The opening -/

theorem first_at (h : Fin 128) (n : Fin 32) : k0_pay26 (ix2 h n) = BitVec.ofBool (decide (n = 0)) := by
  pointwise [k0_pay26]
  revert n; decide +kernel

theorem pay33_at (q : FVec Ideal S128x512 .bf16) (qr : FVec Ideal S128x144 .bf16) (M : FVec Ideal S128x1 .f32) (w : IVec S128x32 1) (r : FVec Ideal S32x144 .bf16) (l : FVec Ideal S32x512 .bf16) (h : Fin 128) :
    k0_pay33 q qr M w r l (ix2 h 0) = max (M (ix2 h 0)) (Finset.univ.fold max ⊥ fun n : Fin 32 => k0_pay32 q qr w r l (ix2 h n)) := by
  pointwise [k0_pay33]
  rw [neg_inf]

theorem pay36_at (q : FVec Ideal S128x512 .bf16) (qr : FVec Ideal S128x144 .bf16) (M L : FVec Ideal S128x1 .f32) (w : IVec S128x32 1) (r : FVec Ideal S32x144 .bf16) (l : FVec Ideal S32x512 .bf16) (h : Fin 128) :
    k0_pay36 q qr M L w r l (ix2 h 0) = L (ix2 h 0) * Ideal.exp (M (ix2 h 0) - k0_pay33 q qr M w r l (ix2 h 0))
      + ∑ n : Fin 32, Scalar.select (w (ix2 h n)) (Ideal.exp (k0_pay32 q qr w r l (ix2 h n) - k0_pay33 q qr M w r l (ix2 h 0))) 0 := by
  pointwise [k0_pay36, k0_pay35, k0_pay34]

theorem pay37_at (q : FVec Ideal S128x512 .bf16) (qr : FVec Ideal S128x144 .bf16) (M : FVec Ideal S128x1 .f32) (A : FVec Ideal S128x512 .f32) (w : IVec S128x32 1) (r : FVec Ideal S32x144 .bf16) (l : FVec Ideal S32x512 .bf16) (h : Fin 128) (c : Fin 512) :
    k0_pay37 q qr M A w r l (ix2 h c) = A (ix2 h c) * Ideal.exp (M (ix2 h 0) - k0_pay33 q qr M w r l (ix2 h 0))
      + ∑ n : Fin 32, Scalar.select (w (ix2 h n)) (Ideal.exp (k0_pay32 q qr w r l (ix2 h n) - k0_pay33 q qr M w r l (ix2 h 0))) 0 * l (ix2 n c) := by
  pointwise [k0_pay37, k0_pay35, k0_pay34]

end Cert.Val

end
-- ==== Proof.Value.Row.lean ====
/- The kernel's row is the row of the specification: by induction over its blocks. -/
module

public import proofs.«01_k».proof.Proof.Value.Spec
public import proofs.«01_k».proof.Proof.Value.Update

@[expose] public section

set_option maxRecDepth 16384

noncomputable section

namespace Cert.Val

open Idealize.ShloMosaic Idealize.ShloMosaic.TcCoe
open Cert.KernelIdeal Cert.KernelIdeal.Gen

variable (v1 : BitVec 32) (hv : v1.toNat ≤ 16384) (x0 : Vec Ideal S1x128x512 .bf16) (x1 : Vec Ideal S1x128x144 .bf16) (x2 : Vec Ideal S1x1x656 .i8)
  (blk : ℕ → Vec Ideal S1x32x16x656 .i8)

/-- The row's queries, head by head, -/
def qv (h : Fin 128) (c : Fin 512) : EReal := x0 (ix3 0 h c)
def qrv (h : Fin 128) (k : Fin 64) : EReal := x1 (ix3 0 h (ropeIx k))
/-- and its tokens. -/
def tok (k : ℕ) : Rec := blkRec (blk (k / 512)) ⟨k % 512, Nat.mod_lt _ (by decide)⟩

theorem tok_blk (t : ℕ) (n : Fin 512) : tok blk (512 * t + n.val) = blkRec (blk t) n := by
  unfold tok
  rw [show (512 * t + n.val) / 512 = t by omega]
  congr 1
  exact Fin.ext (by show (512 * t + n.val) % 512 = n.val; omega)

theorem pay20_at (h : Fin 128) (c : Fin 512) : k0_pay20 x0 (ix2 h c) = qv x0 h c := by pointwise [k0_pay20, qv]
theorem pay21_at (h : Fin 128) (k : Fin 64) : k0_pay21 x1 (ix2 h (ropeIx k)) = qrv x1 h k := by pointwise [k0_pay21, qrv]

/-- What the row carries after `t` blocks. -/
def Inv (s : FVec Ideal S128x1 .f32 × FVec Ideal S128x1 .f32 × FVec Ideal S128x512 .f32) (t : ℕ) : Prop :=
  ∀ h : Fin 128, ∃ m : ℝ, s.1 (ix2 h 0) = (m : EReal)
    ∧ s.2.1 (ix2 h 0) = ((Real.exp (-m) * rowZ (qv x0 h) (qrv x1 h) (newRec x2) (tok blk) v1.toNat (512 * t) : ℝ) : EReal)
    ∧ ∀ c : Fin 512, s.2.2 (ix2 h c) = ((Real.exp (-m) * rowW (qv x0 h) (qrv x1 h) (newRec x2) (tok blk) v1.toNat c (512 * t) : ℝ) : EReal)

theorem fold_masked {n : ℕ} (m : ℝ) (v : Fin n → Bool) (σ : Fin n → ℝ) (z : ℝ) :
    ∃ m' : ℝ, max (m : EReal) (Finset.univ.fold max ⊥ fun i => if v i then (σ i : EReal) else (z : EReal)) = m' :=
  max_real m _ fun i => by split <;> exact EReal.coe_ne_top _

theorem inv_zero (hq : ∀ h c, IsReal (qv x0 h c)) (hr : ∀ h k, IsReal (qrv x1 h k)) (h0 : RecOk (newRec x2)) : Inv v1 x0 x1 x2 blk (rowInit x0 x1 x2) 0 := fun h => by
  obtain ⟨z, hz⟩ := neg_real
  have hz' : Ideal.ofBits .f32 0xF149F2CA#32 = (z : EReal) := hz
  obtain ⟨σ, hσ⟩ := h0.score_real (hq h) (hr h)
  choose l hl using h0.lat_real
  have es : ∀ n : Fin 32, k0_pay32 (k0_pay20 x0) (k0_pay21 x1) k0_pay26 (k0_pay30 (iota .tc S32x144 32 [1] iota_S32x144_d1_w32) (k0_pay29 x2) 16#32) (k0_pay31 (k0_pay27 x2) (k0_pay28 x2)) (ix2 h n)
      = if decide (n = 0) then (σ : EReal) else (z : EReal) := fun n => by
    rw [newScore_at, first_at, sel_ofBool, hz']
    simp only [pay20_at, pay21_at]
    rw [show score (fun c => qv x0 h c) (fun k => qrv x1 h k) (newRec x2) = σ from hσ]
  obtain ⟨m', hm'⟩ := fold_masked z (fun n : Fin 32 => decide (n = 0)) (fun _ => σ) z
  have eM : (rowInit x0 x1 x2).1 (ix2 h 0) = (m' : EReal) := by
    unfold rowInit
    show k0_pay33 _ _ _ _ _ _ _ = _
    rw [pay33_at]
    simp only [es]
    rw [show k0_pay22 (F := Ideal) (ix2 h 0) = (z : EReal) from hz', hm']
  have eM' : k0_pay33 (k0_pay20 x0) (k0_pay21 x1) (k0_pay22 (F := Ideal)) k0_pay26 (k0_pay30 (iota .tc S32x144 32 [1] iota_S32x144_d1_w32) (k0_pay29 x2) 16#32) (k0_pay31 (k0_pay27 x2) (k0_pay28 x2)) (ix2 h 0) = (m' : EReal) := eM
  have eZ : rowZ (qv x0 h) (qrv x1 h) (newRec x2) (tok blk) v1.toNat (512 * 0) = Real.exp σ := by
    unfold rowZ wt visSum; rw [hσ]; simp
  have eW : ∀ c, rowW (qv x0 h) (qrv x1 h) (newRec x2) (tok blk) v1.toNat c (512 * 0) = Real.exp σ * l c := fun c => by
    unfold rowW wt visSum; rw [hσ, hl]; simp
  refine ⟨m', eM, ?_, fun c => ?_⟩
  · have := step_sum (fun n : Fin 32 => decide (n = 0)) (fun _ => σ) z z m' 0
    simp only [decide_eq_true_eq, Finset.sum_ite_eq', Finset.sum_ite_eq, Finset.mem_univ, if_true, zero_add] at this
    rw [eZ, ← this]
    show k0_pay36 _ _ _ _ _ _ _ _ = _
    rw [pay36_at]
    simp only [es, first_at, sel_ofBool, decide_eq_true_eq]
    rw [eM', show k0_pay22 (F := Ideal) (ix2 h 0) = (z : EReal) from hz',
      show k0_pay23 (F := Ideal) (ix2 h 0) = 0 from Ideal.ofBits_zero_f32]
    simp
  · have := step_out (fun n : Fin 32 => decide (n = 0)) (fun _ => σ) z z m' 0 (fun _ => l c)
    simp only [decide_eq_true_eq, Finset.sum_ite_eq', Finset.sum_ite_eq, ite_mul, zero_mul, Finset.mem_univ, if_true, zero_add] at this
    rw [eW, ← this]
    show k0_pay37 _ _ _ _ _ _ _ _ = _
    rw [pay37_at]
    simp only [es, first_at, sel_ofBool, decide_eq_true_eq, newLat_at, hl]
    rw [eM', show k0_pay22 (F := Ideal) (ix2 h 0) = (z : EReal) from hz',
      show k0_pay24 (F := Ideal) (ix2 h c) = 0 from Ideal.ofBits_zero_f32]
    simp

include hv in
theorem inv_succ (hq : ∀ h c, IsReal (qv x0 h c)) (hr : ∀ h k, IsReal (qrv x1 h k)) (hb : ∀ t n, RecOk (blkRec (blk t) n)) (t : ℕ) (ht : t < 32)
    (s : FVec Ideal S128x1 .f32 × FVec Ideal S128x1 .f32 × FVec Ideal S128x512 .f32) (H : Inv v1 x0 x1 x2 blk s t) :
    Inv v1 x0 x1 x2 blk (tripVal v1 (k0_pay20 x0) (k0_pay21 x1) t (blk t) s) (t + 1) := fun h => by
  obtain ⟨m, hm, hZ, hW⟩ := H h
  obtain ⟨z, hz⟩ := neg_real
  have hz' : Ideal.ofBits .f32 0xF149F2CA#32 = (z : EReal) := hz
  choose σ hσ using fun n => (hb t n).score_real (hq h) (hr h)
  choose l hl using fun n => (hb t n).lat_real
  let v : Fin 512 → Bool := fun n => decide (512 * t + n.val < v1.toNat)
  have ew : ∀ n, k0_pay3 (F := Ideal) v1 (Scf.iv 0#32 1#32 t) (ix2 h n) = BitVec.ofBool (v n) := fun n => mask_at v1 hv t ht h n
  have es : ∀ n, k0_pay10 (k0_pay20 x0) (k0_pay21 x1) (k0_pay4 (blk t)) (k0_pay5 (blk t)) (k0_pay6 (blk t)) k0_pay7 (Scalar.select (Scalar.cmpi .eq 2#32 0#32) 1#32 2#32) k0_pay8 (ix2 h n) = (σ n : EReal) := fun n => by
    rw [score_at]
    simp only [pay20_at, pay21_at]
    exact hσ n
  obtain ⟨m', hm'⟩ := fold_masked m v σ z
  have eM : (tripVal v1 (k0_pay20 x0) (k0_pay21 x1) t (blk t) s).1 (ix2 h 0) = (m' : EReal) := by
    unfold tripVal
    show k0_pay39 _ _ _ _ _ = _
    rw [pay39_at]
    simp only [es, ew, sel_ofBool]
    rw [hm, show (Scalar.ofBits .f32 0xF149F2CA#32 : Ideal .f32) = (z : EReal) from hz', hm']
  have eM' : k0_pay39 (F := Ideal) s.1 (k0_pay3 (F := Ideal) v1 (Scf.iv 0#32 1#32 t)) (k0_pay10 (k0_pay20 x0) (k0_pay21 x1) (k0_pay4 (blk t)) (k0_pay5 (blk t)) (k0_pay6 (blk t)) k0_pay7 (Scalar.select (Scalar.cmpi .eq 2#32 0#32) 1#32 2#32) k0_pay8) (Scalar.ofBits .f32 0xF149F2CA#32 : Ideal .f32) (ix2 h 0) = (m' : EReal) := eM
  have eZ : rowZ (qv x0 h) (qrv x1 h) (newRec x2) (tok blk) v1.toNat (512 * (t + 1))
      = rowZ (qv x0 h) (qrv x1 h) (newRec x2) (tok blk) v1.toNat (512 * t) + ∑ n, if v n then Real.exp (σ n) else 0 := by
    unfold rowZ
    rw [Nat.mul_succ, visSum_block, add_assoc]
    congr 2
    refine Finset.sum_congr rfl fun n _ => ?_
    rw [tok_blk]; unfold wt; rw [hσ]
    simp only [v, decide_eq_true_eq, EReal.toReal_coe]
  have eW : ∀ c, rowW (qv x0 h) (qrv x1 h) (newRec x2) (tok blk) v1.toNat c (512 * (t + 1))
      = rowW (qv x0 h) (qrv x1 h) (newRec x2) (tok blk) v1.toNat c (512 * t) + ∑ n, (if v n then Real.exp (σ n) else 0) * l n c := fun c => by
    unfold rowW
    rw [Nat.mul_succ, visSum_block, add_assoc]
    congr 2
    refine Finset.sum_congr rfl fun n _ => ?_
    rw [tok_blk]; unfold wt; rw [hσ, hl]
    simp only [v, decide_eq_true_eq, EReal.toReal_coe, ite_mul, zero_mul]
  have ec : (Scalar.ofBits .f32 0xF149F2CA#32 : Ideal .f32) = (z : EReal) := hz'
  refine ⟨m', eM, ?_, fun c => ?_⟩
  · rw [eZ, ← step_sum v σ z m m']
    show k0_pay42 _ _ _ _ _ _ = _
    rw [pay42_at]
    simp only [es, ew, sel_ofBool]
    rw [eM', hm, hZ, ec]
  · rw [eW, ← step_out v σ z m m' _ (fun n => l n c)]
    show k0_pay43 _ _ _ _ _ _ _ = _
    rw [pay43_at]
    simp only [es, ew, sel_ofBool, lat_at, hl]
    rw [eM', hm, hW, ec]

include hv in
theorem inv_row (hq : ∀ h c, IsReal (qv x0 h c)) (hr : ∀ h k, IsReal (qrv x1 h k)) (h0 : RecOk (newRec x2)) (hb : ∀ t n, RecOk (blkRec (blk t) n)) :
    ∀ t, t ≤ 32 → Inv v1 x0 x1 x2 blk (rowSt v1 x0 x1 x2 blk t) t
  | 0, _ => inv_zero v1 x0 x1 x2 blk hq hr h0
  | t + 1, ht => inv_succ v1 hv x0 x1 x2 blk hq hr hb t (by omega) _ (inv_row hq hr h0 hb t (by omega))

theorem enough_Z (q qr r0 tk) (L : ℕ) (hL : L ≤ 16384) : rowZ q qr r0 tk L (512 * nblk L) = rowZ q qr r0 tk L 16384 := by
  unfold rowZ; rw [visSum_enough L _ 16384 _ (by unfold nblk; omega) hL]
theorem enough_W (q qr r0 tk) (L : ℕ) (c) (hL : L ≤ 16384) : rowW q qr r0 tk L c (512 * nblk L) = rowW q qr r0 tk L c 16384 := by
  unfold rowW; rw [visSum_enough L _ 16384 _ (by unfold nblk; omega) hL]

include hv in
/-- The row's output is the specification's, -/
theorem rowOut_at (hq : ∀ h c, IsReal (qv x0 h c)) (hr : ∀ h k, IsReal (qrv x1 h k)) (h0 : RecOk (newRec x2)) (hb : ∀ t n, RecOk (blkRec (blk t) n)) (h : Fin 128) (c : Fin 512) :
    rowOut v1 x0 x1 x2 blk (ix3 0 h c) = outSpec (qv x0 h) (qrv x1 h) (newRec x2) (tok blk) v1.toNat c := by
  obtain ⟨m, hm, hZ, hW⟩ := inv_row v1 hv x0 x1 x2 blk hq hr h0 hb (nblk v1.toNat) (nblk_le hv) h
  unfold rowOut
  pointwise [k0_pay50]
  rw [hZ, hW, final_out _ _ _ (rowZ_pos ..), enough_Z _ _ _ _ _ hv, enough_W _ _ _ _ _ _ hv]
  rfl

include hv in
/-- and so is its log-sum-exp, less the logarithm of the number of records. -/
theorem rowLse_at (hq : ∀ h c, IsReal (qv x0 h c)) (hr : ∀ h k, IsReal (qrv x1 h k)) (h0 : RecOk (newRec x2)) (hb : ∀ t n, RecOk (blkRec (blk t) n)) (h : Fin 128) :
    rowLse v1 x0 x1 x2 blk (ix3 0 h 0) = lseSpec (qv x0 h) (qrv x1 h) (newRec x2) (tok blk) v1.toNat - Ideal.log (((IntOp.addi v1 1#32).toInt : ℝ) : EReal) := by
  obtain ⟨m, hm, hZ, hW⟩ := inv_row v1 hv x0 x1 x2 blk hq hr h0 hb (nblk v1.toNat) (nblk_le hv) h
  unfold rowLse
  pointwise [k0_pay1, k0_pay51, k0_pay52]
  rw [hZ, hm, final_lse _ _ (rowZ_pos ..), enough_Z _ _ _ _ _ hv]
  rfl

end Cert.Val

end
-- ==== Proof.Value.Args.lean ====
/- The rows of the argument arrays: one head's queries, and the records of one row's tokens as its page table orders them. -/
module

public import proofs.«01_k».proof.Proof.Value.Row

@[expose] public section

noncomputable section

namespace Cert.Val

open Idealize.ShloMosaic
open Cert.KernelIdeal

variable (Q : FVec Ideal S32x1x128x512 .bf16) (QR : FVec Ideal S32x1x128x64 .bf16) (NR : IVec S32x1x656 8) (PO : IVec S40960x16x656 8)
  (PT : IVec S32x1024 32) (LN : IVec S32 32)

/-- The queries of one head of one row, -/
def aQ (b : Fin 32) (h : Fin 128) (c : Fin 512) : EReal := Q (ix4 b 0 h c)
def aQr (b : Fin 32) (h : Fin 128) (k : Fin 64) : EReal := QR (ix4 b 0 h k)
/-- a row's new record, -/
def aNew (b : Fin 32) : Rec := fun i => NR (ix3 b 0 i)
/-- its pages, -/
def aPage (b : Fin 32) (p : ℕ) : Fin 40960 := ⟨(PT (ix2 b ⟨p % 1024, Nat.mod_lt _ (by decide)⟩)).toNat % 40960, Nat.mod_lt _ (by decide)⟩
/-- its tokens, sixteen to the page, -/
def aTok (b : Fin 32) (n : ℕ) : Rec := fun i => PO (ix3 (aPage PT b (n / 16)) ⟨n % 16, Nat.mod_lt _ (by decide)⟩ i)
/-- and its length. -/
def aLen (b : Fin 32) : BitVec 32 := LN (ix1 b)

/-- The first result, -/
def outAt (b : Fin 32) (h : Fin 128) (c : Fin 512) : EReal :=
  outSpec (aQ Q b h) (aQr QR b h) (aNew NR b) (aTok PO PT b) (aLen LN b).toNat c
/-- and the second. -/
def lseAt (b : Fin 32) (h : Fin 128) : EReal :=
  lseSpec (aQ Q b h) (aQr QR b h) (aNew NR b) (aTok PO PT b) (aLen LN b).toNat - Ideal.log (((IntOp.addi (aLen LN b) 1#32).toInt : ℝ) : EReal)

/-- What the value claim asks of the arguments. -/
structure ArgsOk : Prop where
  q : ∀ x, IsReal (Q x)
  qr : ∀ x, IsReal (QR x)
  new : ∀ b, RecOk (aNew NR b)
  pool : ∀ (p : Fin 40960) (o : Fin 16), RecOk (fun i => PO (ix3 p o i))
  pages : ∀ x, (PT x).toNat < 40960
  lens : ∀ x, (LN x).toNat ≤ 16384

end Cert.Val

end
-- ==== Proof.Value.Final.lean ====
/- The kernel's two results, as functions of its argument arrays. -/
module

public import proofs.«01_k».proof.Proof.Value.Args
public import proofs.«01_k».proof.Proof.KernelIdeal.Frame
public import Idealize.ShloMosaic.Lib.Pipeline.ValueKit
public import Idealize.ShloMosaic.Lib.Pipeline.Covers
public import Idealize.ShloMosaic.Lib.Pointwise

@[expose] public section

set_option maxRecDepth 16384

noncomputable section

namespace Cert.Val

open Idealize.ShloMosaic Idealize.ShloMosaic.TcCoe Idealize.ShloMosaic.Tactic
open Cert.KernelIdeal Cert.KernelIdeal.Gen

variable (m : (ℓ : Loc nD τ sig) → Buf (Elt Ideal) ℓ) (hO : Ok m) (hB : TblOk m) (c : Dev nD)

abbrev g0 : FVec Ideal S32x1x128x512 .bf16 := m ((c : Thread nD τ).loc main_arg0)
abbrev g1 : FVec Ideal S32x1x128x64 .bf16 := m ((c : Thread nD τ).loc main_arg1)
abbrev g2 : IVec S32x1x656 8 := m ((c : Thread nD τ).loc main_arg2)
abbrev g3 : IVec S40960x16x656 8 := m ((c : Thread nD τ).loc main_arg3)
abbrev g4 : IVec S32x1024 32 := m ((c : Thread nD τ).loc main_arg4)
abbrev g5 : IVec S32 32 := m ((c : Thread nD τ).loc main_arg5)

theorem row_val (t : Fin grid0.N) : (rowIx (grid0.coords t)).val = t.val :=
  (by decide +kernel : ∀ t : Fin grid0.N, (rowIx (grid0.coords t)).val = t.val) t
/-- The row of grid point `t`. -/
def rw_ (t : Fin grid0.N) : Fin 32 := rowIx (grid0.coords t)

theorem idx0 : ∀ t : Fin (cfgM m hO).N, ((cfgM m hO).win 0).index t = ![(rw_ t).val, 0, 0] :=
  (by decide +kernel : ∀ t : Fin grid0.N, cc0_transform_0 (grid0.coords t) = ![(rowIx (grid0.coords t)).val, 0, 0])

theorem idx1 : ∀ t : Fin (cfgM m hO).N, ((cfgM m hO).win 1).index t = ![(rw_ t).val, 0, 0] :=
  (by decide +kernel : ∀ t : Fin grid0.N, cc0_transform_1 (grid0.coords t) = ![(rowIx (grid0.coords t)).val, 0, 0])
theorem idx2 : ∀ t : Fin (cfgM m hO).N, ((cfgM m hO).win 2).index t = ![(rw_ t).val, 0, 0] :=
  (by decide +kernel : ∀ t : Fin grid0.N, cc0_transform_2 (grid0.coords t) = ![(rowIx (grid0.coords t)).val, 0, 0])
theorem idx3 : ∀ t : Fin (cfgM m hO).N, ((cfgM m hO).win 3).index t = ![(rw_ t).val, 0, 0] :=
  (by decide +kernel : ∀ t : Fin grid0.N, cc0_transform_4 (grid0.coords t) = ![(rowIx (grid0.coords t)).val, 0, 0])
theorem idx4 : ∀ t : Fin (cfgM m hO).N, ((cfgM m hO).win 4).index t = ![(rw_ t).val, 0, 0] :=
  (by decide +kernel : ∀ t : Fin grid0.N, cc0_transform_5 (grid0.coords t) = ![(rowIx (grid0.coords t)).val, 0, 0])

theorem nb3 (a : Fin 3) : ((cfgM m hO).win 3).nblk a = (![32, 1, 1] : Fin 3 → ℕ) a := by
  match a with
  | 0 => exact Nat.div_one _
  | 1 => exact (by decide +kernel : (128 + 128 - 1) / 128 = 1)
  | 2 => exact (by decide +kernel : (512 + 512 - 1) / 512 = 1)
theorem nb4 (a : Fin 3) : ((cfgM m hO).win 4).nblk a = (![32, 1, 1] : Fin 3 → ℕ) a := by
  match a with
  | 0 => exact Nat.div_one _
  | 1 => exact (by decide +kernel : (128 + 128 - 1) / 128 = 1)
  | 2 => exact Nat.div_one _

/-- A first coordinate below 32 is a grid point. -/
def pt (n : ℕ) (h : n < 32) : Fin grid0.N := ⟨n, h⟩

theorem cov3 : ((cfgM m hO).win 3).Covers :=
  ((cfgM m hO).win 3).covers_of_indexMap_surj rfl (by decide : ∀ a : Fin 3, 0 < (![1, 128, 512] : Fin 3 → ℕ) a) fun β =>
    ⟨grid0.coords (pt (β (0 : Fin 3)).val (lt_of_lt_of_eq (β (0 : Fin 3)).isLt (nb3 m hO 0))), fun a => by
      refine (congrFun (idx3 m hO (pt (β (0 : Fin 3)).val (lt_of_lt_of_eq (β (0 : Fin 3)).isLt (nb3 m hO 0)))) a).trans ?_
      have h1 : (β (1 : Fin 3)).val < 1 := (lt_of_lt_of_eq (β (1 : Fin 3)).isLt (nb3 m hO 1))
      have h2 : (β (2 : Fin 3)).val < 1 := (lt_of_lt_of_eq (β (2 : Fin 3)).isLt (nb3 m hO 2))
      revert a
      show ∀ a : Fin 3, _
      intro a
      match a with
      | 0 => exact row_val _
      | 1 => show 0 = (β (1 : Fin 3)).val; omega
      | 2 => show 0 = (β (2 : Fin 3)).val; omega⟩

theorem cov4 : ((cfgM m hO).win 4).Covers :=
  ((cfgM m hO).win 4).covers_of_indexMap_surj rfl (by decide : ∀ a : Fin 3, 0 < (![1, 128, 1] : Fin 3 → ℕ) a) fun β =>
    ⟨grid0.coords (pt (β (0 : Fin 3)).val (lt_of_lt_of_eq (β (0 : Fin 3)).isLt (nb4 m hO 0))), fun a => by
      refine (congrFun (idx4 m hO (pt (β (0 : Fin 3)).val (lt_of_lt_of_eq (β (0 : Fin 3)).isLt (nb4 m hO 0)))) a).trans ?_
      have h1 : (β (1 : Fin 3)).val < 1 := (lt_of_lt_of_eq (β (1 : Fin 3)).isLt (nb4 m hO 1))
      have h2 : (β (2 : Fin 3)).val < 1 := (lt_of_lt_of_eq (β (2 : Fin 3)).isLt (nb4 m hO 2))
      revert a
      show ∀ a : Fin 3, _
      intro a
      match a with
      | 0 => exact row_val _
      | 1 => show 0 = (β (1 : Fin 3)).val; omega
      | 2 => show 0 = (β (2 : Fin 3)).val; omega⟩

theorem emb0 (t : Fin (cfgM m hO).N) (x : S1x128x512.Idx) : (((cfgM m hO).win 0).blk t).view.emb x = (ix3 (rw_ t) (x 1) (x 2) : S32x128x512.Idx) := by
  have e (a : Fin 3) : ((((cfgM m hO).win 0).blk t).view.emb x a).val = _ := Pipeline.Window.rect_emb_val ((cfgM m hO).win 0) t x a
  have hx : (x 0).val = 0 := by have := (x 0).isLt; exact Nat.lt_one_iff.mp this
  rw [idx0] at e
  funext a
  apply Fin.ext
  refine (e a).trans ?_
  revert a
  show ∀ a : Fin 3, _
  intro a
  match a with
  | 0 => show (rw_ t).val * 1 + (x 0).val = (rw_ t).val; omega
  | 1 => show 0 * 128 + (x 1).val = (x 1).val; omega
  | 2 => show 0 * 512 + (x 2).val = (x 2).val; omega

theorem emb1 (t : Fin (cfgM m hO).N) (x : S1x128x144.Idx) : (((cfgM m hO).win 1).blk t).view.emb x = (ix3 (rw_ t) (x 1) (x 2) : S32x128x144.Idx) := by
  have e (a : Fin 3) : ((((cfgM m hO).win 1).blk t).view.emb x a).val = _ := Pipeline.Window.rect_emb_val ((cfgM m hO).win 1) t x a
  have hx : (x 0).val = 0 := by have := (x 0).isLt; exact Nat.lt_one_iff.mp this
  rw [idx1] at e
  funext a
  apply Fin.ext
  refine (e a).trans ?_
  revert a
  show ∀ a : Fin 3, _
  intro a
  match a with
  | 0 => show (rw_ t).val * 1 + (x 0).val = (rw_ t).val; omega
  | 1 => show 0 * 128 + (x 1).val = (x 1).val; omega
  | 2 => show 0 * 144 + (x 2).val = (x 2).val; omega

theorem emb2 (t : Fin (cfgM m hO).N) (x : S1x1x656.Idx) : (((cfgM m hO).win 2).blk t).view.emb x = (ix3 (rw_ t) (x 1) (x 2) : S32x1x656.Idx) := by
  have e (a : Fin 3) : ((((cfgM m hO).win 2).blk t).view.emb x a).val = _ := Pipeline.Window.rect_emb_val ((cfgM m hO).win 2) t x a
  have hx : (x 0).val = 0 := by have := (x 0).isLt; exact Nat.lt_one_iff.mp this
  rw [idx2] at e
  funext a
  apply Fin.ext
  refine (e a).trans ?_
  revert a
  show ∀ a : Fin 3, _
  intro a
  match a with
  | 0 => show (rw_ t).val * 1 + (x 0).val = (rw_ t).val; omega
  | 1 => show 0 * 1 + (x 1).val = (x 1).val; omega
  | 2 => show 0 * 656 + (x 2).val = (x 2).val; omega

theorem emb3 (t : Fin (cfgM m hO).N) (x : S1x128x512.Idx) : (((cfgM m hO).win 3).blk t).view.emb x = (ix3 (rw_ t) (x 1) (x 2) : S32x128x512.Idx) := by
  have e (a : Fin 3) : ((((cfgM m hO).win 3).blk t).view.emb x a).val = _ := Pipeline.Window.rect_emb_val ((cfgM m hO).win 3) t x a
  have hx : (x 0).val = 0 := by have := (x 0).isLt; exact Nat.lt_one_iff.mp this
  rw [idx3] at e
  funext a
  apply Fin.ext
  refine (e a).trans ?_
  revert a
  show ∀ a : Fin 3, _
  intro a
  match a with
  | 0 => show (rw_ t).val * 1 + (x 0).val = (rw_ t).val; omega
  | 1 => show 0 * 128 + (x 1).val = (x 1).val; omega
  | 2 => show 0 * 512 + (x 2).val = (x 2).val; omega

theorem emb4 (t : Fin (cfgM m hO).N) (x : S1x128x1.Idx) : (((cfgM m hO).win 4).blk t).view.emb x = (ix3 (rw_ t) (x 1) (x 2) : S32x128x1.Idx) := by
  have e (a : Fin 3) : ((((cfgM m hO).win 4).blk t).view.emb x a).val = _ := Pipeline.Window.rect_emb_val ((cfgM m hO).win 4) t x a
  have hx : (x 0).val = 0 := by have := (x 0).isLt; exact Nat.lt_one_iff.mp this
  rw [idx4] at e
  funext a
  apply Fin.ext
  refine (e a).trans ?_
  revert a
  show ∀ a : Fin 3, _
  intro a
  match a with
  | 0 => show (rw_ t).val * 1 + (x 0).val = (rw_ t).val; omega
  | 1 => show 0 * 128 + (x 1).val = (x 1).val; omega
  | 2 => show 0 * 1 + (x 2).val = (x 2).val; omega

theorem blk0 (t : Fin (cfgM m hO).N) (h : Fin 128) (k : Fin 512) : (iblk m hO c 0 t : FVec Ideal S1x128x512 .bf16) (ix3 0 h k) = aQ (g0 m c) (rw_ t) h k := by
  unfold iblk
  show V m c main_v2 ((((cfgM m hO).win 0).blk t).view.emb (ix3 0 h k)) = _
  rw [emb0]
  entry_read
  pointwise [aQ]
theorem blk1 (t : Fin (cfgM m hO).N) (h : Fin 128) (k : Fin 64) : (iblk m hO c 1 t : FVec Ideal S1x128x144 .bf16) (ix3 0 h (ropeIx k)) = aQr (g1 m c) (rw_ t) h k := by
  unfold iblk
  show V m c main_v1 ((((cfgM m hO).win 1).blk t).view.emb (ix3 0 h (ropeIx k))) = _
  rw [emb1]
  entry_read
  pointwise [aQr, ropeIx]
  rw [dif_pos ⟨by omega, by omega⟩]
  congr 2
  exact Fin.ext (by show 2 * k.val / 2 = k.val; omega)
theorem blk2 (t : Fin (cfgM m hO).N) (i : Fin 656) : (iblk m hO c 2 t : IVec S1x1x656 8) (ix3 0 0 i) = aNew (g2 m c) (rw_ t) i := by
  unfold iblk
  show V m c main_arg2 ((((cfgM m hO).win 2).blk t).view.emb (ix3 0 0 i)) = _
  rw [emb2, V_main_arg2]
  rfl

/-- The kernel's tokens are the page table's, read off the pool. -/
theorem tok_at (t : Fin grid0.N) (n : ℕ) : tok (rowBlk c (tbl m 0) hB.pages (V m c main_arg3) (rw_ t)) n = aTok (g3 m c) (g4 m c) (rw_ t) n := by
  obtain rfl : c = 0 := Subsingleton.elim _ _
  have e : tbl m 0 = g4 m 0 := V_main_arg4 m 0
  have hp := hB.pages
  funext i
  unfold tok blkRec rowBlk block aTok
  rw [V_main_arg3]
  show g3 m 0 (ix3 _ _ _) = g3 m 0 (ix3 _ _ _)
  congr 2
  · apply Fin.ext
    have e' : ∀ x, (tbl m 0 : IVec S32x1024 32) x = g4 m 0 x := congrFun e
    have hp' : ∀ x, (g4 m 0 x).toNat < 40960 := fun x => by rw [← e' x]; exact hp x
    refine (congrArg BitVec.toNat (e' _)).trans ((congrArg (fun x => (g4 m 0 x).toNat) ?_).trans (Nat.mod_eq_of_lt (hp' _)).symm)
    show (ix2 (rw_ t) _ : S32x1024.Idx) = ix2 (rw_ t) _
    congr 1
    apply Fin.ext
    show (32 * (n / 512) + n % 512 / 16) % 1024 = n / 16 % 1024
    congr 1
    omega
  · apply Fin.ext
    show n % 512 % 16 = n % 16
    omega

variable (hA : ArgsOk (g0 m c) (g1 m c) (g2 m c) (g3 m c) (g4 m c) (g5 m c))

include hA in
theorem blkOk (t : Fin grid0.N) (k : ℕ) (n : Fin 512) : RecOk (blkRec (rowBlk c (tbl m 0) hB.pages (V m c main_arg3) (rw_ t) k) n) := by
  have := tok_at m hB c t (512 * k + n.val)
  rw [tok_blk] at this
  rw [this]
  exact hA.pool _ _

theorem len_at (t : Fin grid0.N) : len c (tbl m 1) (rw_ t) = aLen (g5 m c) (rw_ t) := by
  obtain rfl : c = 0 := Subsingleton.elim _ _
  have e : tbl m 1 = g5 m 0 := V_main_arg5 m 0
  rw [e]; rfl

include hA in
theorem outv_at (t : Fin (cfgM m hO).N) (h : Fin 128) (k : Fin 512) :
    outv m hO hB c t (ix3 0 h k) = outAt (g0 m c) (g1 m c) (g2 m c) (g3 m c) (g4 m c) (g5 m c) (rw_ t) h k := by
  have e0 : qv (iblk m hO c 0 t) = aQ (g0 m c) (rw_ t) := funext fun h => funext fun k => blk0 m hO c t h k
  have e1 : qrv (iblk m hO c 1 t) = aQr (g1 m c) (rw_ t) := funext fun h => funext fun k => blk1 m hO c t h k
  have e2 : newRec (iblk m hO c 2 t) = aNew (g2 m c) (rw_ t) := funext fun i => blk2 m hO c t i
  have e3 : tok (rowBlk c (tbl m 0) hB.pages (V m c main_arg3) (rw_ t)) = aTok (g3 m c) (g4 m c) (rw_ t) := funext (tok_at m hB c t)
  unfold outv outAt
  refine (rowOut_at _ (hB.lens _) _ _ _ _ (fun h k => ?_) (fun h k => ?_) ?_ (fun k n => blkOk m hB c hA t k n) h k).trans ?_
  · rw [e0]; exact hA.q _
  · rw [e1]; exact hA.qr _
  · rw [e2]; exact hA.new _
  · rw [e0, e1, e2, ← len_at m c t, ← e3]; rfl

include hA in
theorem lsev_at (t : Fin (cfgM m hO).N) (h : Fin 128) :
    lsev m hO hB c t (ix3 0 h 0) = lseAt (g0 m c) (g1 m c) (g2 m c) (g3 m c) (g4 m c) (g5 m c) (rw_ t) h := by
  have e0 : qv (iblk m hO c 0 t) = aQ (g0 m c) (rw_ t) := funext fun h => funext fun k => blk0 m hO c t h k
  have e1 : qrv (iblk m hO c 1 t) = aQr (g1 m c) (rw_ t) := funext fun h => funext fun k => blk1 m hO c t h k
  have e2 : newRec (iblk m hO c 2 t) = aNew (g2 m c) (rw_ t) := funext fun i => blk2 m hO c t i
  have e3 : tok (rowBlk c (tbl m 0) hB.pages (V m c main_arg3) (rw_ t)) = aTok (g3 m c) (g4 m c) (rw_ t) := funext (tok_at m hB c t)
  unfold lsev lseAt
  refine (rowLse_at _ (hB.lens _) _ _ _ _ (fun h k => ?_) (fun h k => ?_) ?_ (fun k n => blkOk m hB c hA t k n) h).trans ?_
  · rw [e0]; exact hA.q _
  · rw [e1]; exact hA.qr _
  · rw [e2]; exact hA.new _
  · rw [e0, e1, e2, ← len_at m c t, ← e3]; rfl

theorem etaO (y : S1x128x512.Idx) : y = ix3 0 (y 1) (y 2) := by
  funext a
  match a with
  | 0 => exact Subsingleton.elim (α := Fin 1) _ _
  | 1 => rfl
  | 2 => rfl
theorem etaL (y : S1x128x1.Idx) : y = ix3 0 (y 1) 0 := by
  funext a
  match a with
  | 0 => exact Subsingleton.elim (α := Fin 1) _ _
  | 1 => rfl
  | 2 => exact Subsingleton.elim (α := Fin 1) _ _

include hA in
/-- The first result after the run, -/
theorem final_out0 : (dats m hO hB 0 c).arrAt 3 (cfgM m hO).N
    = (fun j => outAt (g0 m c) (g1 m c) (g2 m c) (g3 m c) (g4 m c) (g5 m c) (j 0) (j 1) (j 2) : FVec Ideal S32x128x512 .bf16) := by
  refine (dats m hO hB 0 c).arrAt_eq_of_covers 3 _ (cov3 m hO) fun t hf y => ?_
  blk_simp
  rw [after0_3]
  have hy : (y : S1x128x512.Idx) = ix3 0 (y (1 : Fin 3)) (y (2 : Fin 3)) := etaO y
  refine Eq.trans ?_ (congrArg (fun j : S32x128x512.Idx => outAt (g0 m c) (g1 m c) (g2 m c) (g3 m c) (g4 m c) (g5 m c) (j 0) (j 1) (j 2)) (emb3 m hO t y)).symm
  exact (congrArg (outv m hO hB c t) hy).trans (outv_at m hO hB c hA t _ _)

include hA in
/-- and the second. -/
theorem final_lse0 : (dats m hO hB 0 c).arrAt 4 (cfgM m hO).N
    = (fun j => lseAt (g0 m c) (g1 m c) (g2 m c) (g3 m c) (g4 m c) (g5 m c) (j 0) (j 1) : FVec Ideal S32x128x1 .f32) := by
  refine (dats m hO hB 0 c).arrAt_eq_of_covers 4 _ (cov4 m hO) fun t hf y => ?_
  blk_simp
  rw [after0_4]
  have hy : (y : S1x128x1.Idx) = ix3 0 (y (1 : Fin 3)) 0 := etaL y
  refine Eq.trans ?_ (congrArg (fun j : S32x128x1.Idx => lseAt (g0 m c) (g1 m c) (g2 m c) (g3 m c) (g4 m c) (g5 m c) (j 0) (j 1)) (emb4 m hO t y)).symm
  exact (congrArg (lsev m hO hB c t) hy).trans (lsev_at m hO hB c hA t _)

end Cert.Val

end
-- ==== Proof.Value.PreFinite.lean ====
/- What the value claim's precondition says: the arguments are as the value proofs ask. -/
module

public import proofs.«01_k».proof.Proof.Gen.Pre_finite
public import proofs.«01_k».proof.Proof.Pre
public import proofs.«01_k».proof.Proof.Value.Args
public import Idealize.ShloMosaic.Lib.Pointwise

@[expose] public section

set_option maxRecDepth 16384

noncomputable section

namespace Cert.Pre_finite.Gen

open Idealize.ShloMosaic Idealize.ShloMosaic.Tactic
open Cert.Val
open Cert.Pre_finite

instance : Subsingleton S_.Idx := ⟨fun _ _ => funext fun a => a.elim0⟩

theorem ne_of_cmpi {w : ℕ} {u v : BitVec w} (h : IntOp.cmpi .ne u v = 1#1) : u ≠ v := by
  rintro rfl
  simp [IntOp.cmpi] at h

theorem lt_of_cmpi {w : ℕ} {u v : BitVec w} (h : IntOp.cmpi .ult u v = 1#1) : u.toNat < v.toNat := by
  by_contra hc
  have : u.ult v = false := by simpa [BitVec.ult] using hc
  simp [IntOp.cmpi, this] at h

theorem or_of_ori {u v : BitVec 1} (h : IntOp.ori u v = 1#1) : u = 1#1 ∨ v = 1#1 := by
  unfold IntOp.ori at h
  revert u v
  decide

theorem real_of_cmpf {x : EReal} (h : FloatOps.cmpf (F := Ideal) (φ := .bf16) .olt (FloatOps.absf (F := Ideal) (φ := .bf16) x) (FloatOps.ofBits (F := Ideal) .bf16 0x7F80#16) = 1#1) : IsReal x := by
  have ht : Ideal.ofBits .bf16 0x7F80#16 = ⊤ := by
    simp [Ideal.ofBits, Ideal.ieee]
  have hl : max x (-x) < Ideal.ofBits .bf16 0x7F80#16 := by
    by_contra hc
    have : BitVec.ofBool (decide (max x (-x) < Ideal.ofBits .bf16 0x7F80#16)) = 1#1 := h
    rw [decide_eq_false hc] at this
    revert this; decide
  rw [ht] at hl
  induction x using EReal.rec with
  | bot => simp at hl
  | top => simp at hl
  | coe a => exact ⟨a, rfl⟩

theorem args_ok (q : FVec Ideal S32x1x128x512 .bf16) (qr : FVec Ideal S32x1x128x64 .bf16) (nr : IVec S32x1x656 8) (pool : IVec S40960x16x656 8)
    (pt : IVec S32x1024 32) (ln : IVec S32 32) (h : Cert.Pre_finite.fn (F := Ideal) q qr nr pool pt ln = fun _ => 1#1) :
    ArgsOk q qr nr pool pt ln := by
  have pre := congrFun h (fun a => a.elim0)
  dsimp only [fn, fn_part1, fn_part2, fn_part3, fn_part4, fn_part5] at pre
  obtain ⟨p66, p109⟩ := IntOp.andi_eq_one.1 pre
  obtain ⟨p22, p65⟩ := IntOp.andi_eq_one.1 p66
  obtain ⟨p21, p8⟩ := IntOp.andi_eq_one.1 p22
  obtain ⟨p14, p20⟩ := IntOp.andi_eq_one.1 p21
  obtain ⟨p3, p7⟩ := IntOp.andi_eq_one.1 p8
  obtain ⟨p49, p64⟩ := IntOp.andi_eq_one.1 p65
  obtain ⟨p33, p48⟩ := IntOp.andi_eq_one.1 p49
  obtain ⟨p93, p108⟩ := IntOp.andi_eq_one.1 p109
  obtain ⟨p77, p92⟩ := IntOp.andi_eq_one.1 p93
  refine ⟨fun x => real_of_cmpf (Host.reduce_andi_all _ _ _ _ _ p3 x), fun x => real_of_cmpf (Host.reduce_andi_all _ _ _ _ _ p7 x),
    fun b => ⟨fun c => ?_, fun g => ?_, fun k => ?_⟩, fun p o => ⟨fun c => ?_, fun g => ?_, fun k => ?_⟩, fun x => ?_, fun x => ?_⟩
  · obtain ⟨h0, h1⟩ := IntOp.andi_eq_one.1 (Host.reduce_andi_all _ _ _ _ _ p33 (ix3 b 0 c))
    have e : extractStridedSlice S32x1x512 ![0, 0, 0] nr Facts.slices_S32x1x656_S32x1x512_0_0_0 (ix3 b 0 c) = (aNew nr b) ⟨c.val, by omega⟩ := by pointwise [aNew]
    have n0 := ne_of_cmpi h0
    have n1 := ne_of_cmpi h1
    rw [e] at n0 n1
    exact ⟨n0, n1⟩
  · have e : shapeCast S32x1x4 (extractStridedSlice S32x1x4x1 ![0, 0, 0, 3] (shapeCast S32x1x4x4 (extractStridedSlice S32x1x16 ![0, 0, 512] nr Facts.slices_S32x1x656_S32x1x16_0_0_512) Facts.shapeCasts_S32x1x16_S32x1x4x4) Facts.slices_S32x1x4x4_S32x1x4x1_0_0_0_3) Facts.shapeCasts_S32x1x4x1_S32x1x4 (ix3 b 0 g) = (aNew nr b) ⟨512 + 4 * g.val + 3, by omega⟩ := by pointwise [aNew] <;> exact congrArg _ (congrArg (ix3 _ _) (Fin.ext (by simp only []; omega)))
    have e' : shapeCast S32x1x4 (extractStridedSlice S32x1x4x1 ![0, 0, 0, 2] (shapeCast S32x1x4x4 (extractStridedSlice S32x1x16 ![0, 0, 512] nr Facts.slices_S32x1x656_S32x1x16_0_0_512) Facts.shapeCasts_S32x1x16_S32x1x4x4) Facts.slices_S32x1x4x4_S32x1x4x1_0_0_0_2) Facts.shapeCasts_S32x1x4x1_S32x1x4 (ix3 b 0 g) = (aNew nr b) ⟨512 + 4 * g.val + 2, by omega⟩ := by pointwise [aNew] <;> exact congrArg _ (congrArg (ix3 _ _) (Fin.ext (by simp only []; omega)))
    rcases or_of_ori (Host.reduce_andi_all _ _ _ _ _ p48 (ix3 b 0 g)) with h | h
    · obtain ⟨h0, h1⟩ := IntOp.andi_eq_one.1 h
      have n0 := ne_of_cmpi h0
      have n1 := ne_of_cmpi h1
      rw [e] at n0 n1
      exact Or.inl ⟨n0, n1⟩
    · have n0 := lt_of_cmpi h
      rw [e'] at n0
      exact Or.inr n0
  · have e : shapeCast S32x1x64 (extractStridedSlice S32x1x64x1 ![0, 0, 0, 1] (shapeCast S32x1x64x2 (extractStridedSlice S32x1x128 ![0, 0, 528] nr Facts.slices_S32x1x656_S32x1x128_0_0_528) Facts.shapeCasts_S32x1x128_S32x1x64x2) Facts.slices_S32x1x64x2_S32x1x64x1_0_0_0_1) Facts.shapeCasts_S32x1x64x1_S32x1x64 (ix3 b 0 k) = (aNew nr b) ⟨528 + 2 * k.val + 1, by omega⟩ := by pointwise [aNew] <;> exact congrArg _ (congrArg (ix3 _ _) (Fin.ext (by simp only []; omega)))
    have e' : shapeCast S32x1x64 (extractStridedSlice S32x1x64x1 ![0, 0, 0, 0] (shapeCast S32x1x64x2 (extractStridedSlice S32x1x128 ![0, 0, 528] nr Facts.slices_S32x1x656_S32x1x128_0_0_528) Facts.shapeCasts_S32x1x128_S32x1x64x2) Facts.slices_S32x1x64x2_S32x1x64x1_0_0_0_0) Facts.shapeCasts_S32x1x64x1_S32x1x64 (ix3 b 0 k) = (aNew nr b) ⟨528 + 2 * k.val, by omega⟩ := by pointwise [aNew] <;> exact congrArg _ (congrArg (ix3 _ _) (Fin.ext (by simp only []; omega)))
    rcases or_of_ori (Host.reduce_andi_all _ _ _ _ _ p64 (ix3 b 0 k)) with h | h
    · obtain ⟨h0, h1⟩ := IntOp.andi_eq_one.1 h
      have n0 := ne_of_cmpi h0
      have n1 := ne_of_cmpi h1
      rw [e] at n0 n1
      exact Or.inl ⟨n0, n1⟩
    · have n0 := lt_of_cmpi h
      rw [e'] at n0
      exact Or.inr n0
  · obtain ⟨h0, h1⟩ := IntOp.andi_eq_one.1 (Host.reduce_andi_all _ _ _ _ _ p77 (ix3 p o c))
    have e : extractStridedSlice S40960x16x512 ![0, 0, 0] pool Facts.slices_S40960x16x656_S40960x16x512_0_0_0 (ix3 p o c) = ((fun i => pool (ix3 p o i) : Rec)) ⟨c.val, by omega⟩ := by pointwise
    have n0 := ne_of_cmpi h0
    have n1 := ne_of_cmpi h1
    rw [e] at n0 n1
    exact ⟨n0, n1⟩
  · have e : shapeCast S40960x16x4 (extractStridedSlice S40960x16x4x1 ![0, 0, 0, 3] (shapeCast S40960x16x4x4 (extractStridedSlice S40960x16x16 ![0, 0, 512] pool Facts.slices_S40960x16x656_S40960x16x16_0_0_512) Facts.shapeCasts_S40960x16x16_S40960x16x4x4) Facts.slices_S40960x16x4x4_S40960x16x4x1_0_0_0_3) Facts.shapeCasts_S40960x16x4x1_S40960x16x4 (ix3 p o g) = ((fun i => pool (ix3 p o i) : Rec)) ⟨512 + 4 * g.val + 3, by omega⟩ := by pointwise <;> exact congrArg _ (congrArg (ix3 _ _) (Fin.ext (by simp only []; omega)))
    have e' : shapeCast S40960x16x4 (extractStridedSlice S40960x16x4x1 ![0, 0, 0, 2] (shapeCast S40960x16x4x4 (extractStridedSlice S40960x16x16 ![0, 0, 512] pool Facts.slices_S40960x16x656_S40960x16x16_0_0_512) Facts.shapeCasts_S40960x16x16_S40960x16x4x4) Facts.slices_S40960x16x4x4_S40960x16x4x1_0_0_0_2) Facts.shapeCasts_S40960x16x4x1_S40960x16x4 (ix3 p o g) = ((fun i => pool (ix3 p o i) : Rec)) ⟨512 + 4 * g.val + 2, by omega⟩ := by pointwise <;> exact congrArg _ (congrArg (ix3 _ _) (Fin.ext (by simp only []; omega)))
    rcases or_of_ori (Host.reduce_andi_all _ _ _ _ _ p92 (ix3 p o g)) with h | h
    · obtain ⟨h0, h1⟩ := IntOp.andi_eq_one.1 h
      have n0 := ne_of_cmpi h0
      have n1 := ne_of_cmpi h1
      rw [e] at n0 n1
      exact Or.inl ⟨n0, n1⟩
    · have n0 := lt_of_cmpi h
      rw [e'] at n0
      exact Or.inr n0
  · have e : shapeCast S40960x16x64 (extractStridedSlice S40960x16x64x1 ![0, 0, 0, 1] (shapeCast S40960x16x64x2 (extractStridedSlice S40960x16x128 ![0, 0, 528] pool Facts.slices_S40960x16x656_S40960x16x128_0_0_528) Facts.shapeCasts_S40960x16x128_S40960x16x64x2) Facts.slices_S40960x16x64x2_S40960x16x64x1_0_0_0_1) Facts.shapeCasts_S40960x16x64x1_S40960x16x64 (ix3 p o k) = ((fun i => pool (ix3 p o i) : Rec)) ⟨528 + 2 * k.val + 1, by omega⟩ := by pointwise <;> exact congrArg _ (congrArg (ix3 _ _) (Fin.ext (by simp only []; omega)))
    have e' : shapeCast S40960x16x64 (extractStridedSlice S40960x16x64x1 ![0, 0, 0, 0] (shapeCast S40960x16x64x2 (extractStridedSlice S40960x16x128 ![0, 0, 528] pool Facts.slices_S40960x16x656_S40960x16x128_0_0_528) Facts.shapeCasts_S40960x16x128_S40960x16x64x2) Facts.slices_S40960x16x64x2_S40960x16x64x1_0_0_0_0) Facts.shapeCasts_S40960x16x64x1_S40960x16x64 (ix3 p o k) = ((fun i => pool (ix3 p o i) : Rec)) ⟨528 + 2 * k.val, by omega⟩ := by pointwise <;> exact congrArg _ (congrArg (ix3 _ _) (Fin.ext (by simp only []; omega)))
    rcases or_of_ori (Host.reduce_andi_all _ _ _ _ _ p108 (ix3 p o k)) with h | h
    · obtain ⟨h0, h1⟩ := IntOp.andi_eq_one.1 h
      have n0 := ne_of_cmpi h0
      have n1 := ne_of_cmpi h1
      rw [e] at n0 n1
      exact Or.inl ⟨n0, n1⟩
    · have n0 := lt_of_cmpi h
      rw [e'] at n0
      exact Or.inr n0
  · obtain ⟨h0, h1⟩ := IntOp.andi_eq_one.1 (Host.reduce_andi_all _ _ _ _ _ p14 x)
    exact Pre_in_range.Gen.sge_zero_slt (n := 40960#32) (by decide) h0 h1
  · obtain ⟨h0, h1⟩ := IntOp.andi_eq_one.1 (Host.reduce_andi_all _ _ _ _ _ p20 x)
    exact Pre_in_range.Gen.sge_zero_sle (n := 16384#32) (by decide) h0 h1

end Cert.Pre_finite.Gen

end
-- ==== Proof.Value.RefA.lean ====
/- The reference's tokens: its gathered records. -/
module

public import proofs.«01_k».proof.Proof.Gen.ReferenceIdeal
public import proofs.«01_k».proof.Proof.Value.Args
public import Idealize.ShloMosaic.Lib.Pointwise
public import Idealize.ShloMosaic.Lib.BitcastConvert

@[expose] public section

set_option maxRecDepth 16384

noncomputable section

namespace Cert.Val

open Idealize.ShloMosaic Idealize.ShloMosaic.Tactic
open Cert.ReferenceIdeal Cert.ReferenceIdeal.Gen

variable (NR : IVec S32x1x656 8) (PO : IVec S40960x16x656 8) (PT : IVec S32x1024 32)

/-- The page numbers, wrapped. -/
def rIdx : IVec S32x1024 32 :=
  select (cmpi .slt PT (broadcastInDim S32x1024 ![] bcast_S_S32x1024 (constantI S_ 32 0#32)))
    (addi PT (broadcastInDim S32x1024 ![] bcast_S_S32x1024 (constantI S_ 32 40960#32))) PT
def rGat : IVec S32x1024x16x656 8 :=
  Host.gather gather_S40960x16x656_S32x1024x1_S32x1024x16x656_23_0_n_n_0_2_116656 PO (broadcastInDim S32x1024x1 ![0, 1] bcast_S32x1024_S32x1024x1_0_1 (rIdx PT))
/-- The records, the new one last. -/
def rRec : IVec S32x16385x656 8 :=
  concatenate S32x16385x656 1 [⟨S32x16384x656, shapeCast S32x16384x656 (rGat PO PT) shapeCasts_S32x1024x16x656_S32x16384x656⟩, ⟨S32x1x656, NR⟩] concatenates_S32x16384x656_S32x1x656_S32x16385x656_d1

theorem start_at (j : S32x1024x16x656.Idx) (idx : IVec S32x1024x1 32) :
    gather_S40960x16x656_S32x1024x1_S32x1024x16x656_23_0_n_n_0_2_116656.start j idx 0 = min (idx (ix3 (j 0) (j 1) 0)).toInt.toNat 40959 := by
  have e : ∀ c, gather_S40960x16x656_S32x1024x1_S32x1024x16x656_23_0_n_n_0_2_116656.siIdx j c = (ix3 (j 0) (j 1) (0 : Fin 1) : S32x1024x1.Idx) := fun c => by
    funext a
    match a with
    | ⟨0, _⟩ => rfl
    | ⟨1, _⟩ => rfl
    | ⟨2, _⟩ => exact Subsingleton.elim (α := Fin 1) _ _
  unfold GatherDims.start
  refine (dif_pos (List.mem_singleton.2 rfl)).trans ?_
  exact congrArg (fun i => min (idx i).toInt.toNat 40959) (e _)

theorem idx_at (hp : ∀ x, (PT x).toNat < 40960) (x : S32x1024.Idx) : rIdx PT x = PT x := by
  have h1 : IntOp.cmpi .slt (PT x) 0#32 = 0#1 := by
    have := hp x
    simp only [IntOp.cmpi, BitVec.slt]
    rw [BitVec.toInt_eq_toNat_of_lt (by omega)]
    have e : decide (((PT x).toNat : Int) < (0#32 : BitVec 32).toInt) = false := decide_eq_false (by simp)
    rw [e]
    rfl
  pointwise [rIdx]
  exact (congrArg (fun c => if c = 1#1 then _ else _) h1).trans (if_neg (by decide))

theorem gat_at (hp : ∀ x, (PT x).toNat < 40960) (b : Fin 32) (p : Fin 1024) (o : Fin 16) (i : Fin 656) : rGat PO PT (ix4 b p o i) = PO (ix3 (aPage PT b p.val) o i) := by
  unfold rGat Host.gather
  refine congrArg PO (funext fun a => Fin.ext ?_)
  match a with
  | ⟨0, _⟩ =>
    have h := hp (ix2 b p)
    have e : (broadcastInDim S32x1024x1 ![0, 1] bcast_S32x1024_S32x1024x1_0_1 (rIdx PT)) (ix3 b p (0 : Fin 1)) = PT (ix2 b p) := by
      refine Eq.trans ?_ (idx_at PT hp (ix2 b p))
      pointwise []
    have e2 : (⟨p.val % 1024, Nat.mod_lt _ (by decide)⟩ : Fin 1024) = p := Fin.ext (Nat.mod_eq_of_lt p.isLt)
    refine (congrArg (fun z => z + 0 + 0) (start_at (ix4 b p o i) _)).trans ?_
    show min ((broadcastInDim S32x1024x1 ![0, 1] bcast_S32x1024_S32x1024x1_0_1 (rIdx PT)) (ix3 b p (0 : Fin 1))).toInt.toNat 40959 = (PT (ix2 b ⟨p.val % 1024, _⟩)).toNat % 40960
    rw [e, e2, BitVec.toInt_eq_toNat_of_lt (by omega)]
    omega
  | ⟨1, _⟩ => exact Nat.zero_add _
  | ⟨2, _⟩ => exact Nat.zero_add _

theorem rec_at (hp : ∀ x, (PT x).toNat < 40960) (b : Fin 32) (n : Fin 16385) (i : Fin 656) : rRec NR PO PT (ix3 b n i) = if n.val < 16384 then aTok PO PT b n.val i else aNew NR b i := by
  pointwise [rRec]
  by_cases h : n.val < 16384
  · rw [dif_pos h, if_pos h]
    exact gat_at PO PT hp _ _ _ _
  · rw [dif_neg h, if_neg h]
    exact congrArg NR (congrArg (fun z => ix3 b z i) (Subsingleton.elim (α := Fin 1) _ _))

variable (R : IVec S32x16385x656 8)
def rRow (b : Fin 32) (n : Fin 16385) : Rec := fun i => R (ix3 b n i)
def rScale : FVec Ideal S32x16385x4 .f32 :=
  bitcastToFloat .f32 (Host.bitcastConvertWiden S32x16385x4 32 (shapeCast S32x16385x4x4 (extractStridedSlice S32x16385x16 ![0, 0, 512] R slices_S32x16385x656_S32x16385x16_0_0_512) shapeCasts_S32x16385x16_S32x16385x4x4) splits_S32x16385x4_w32_S32x16385x4x4_w8)
def rRope : FVec Ideal S32x16385x64 .bf16 :=
  bitcastToFloat .bf16 (Host.bitcastConvertWiden S32x16385x64 16 (shapeCast S32x16385x64x2 (extractStridedSlice S32x16385x128 ![0, 0, 528] R slices_S32x16385x656_S32x16385x128_0_0_528) shapeCasts_S32x16385x128_S32x16385x64x2) splits_S32x16385x64_w16_S32x16385x64x2_w8)
def rCode : FVec Ideal S32x16385x512 .fp8e4m3 := bitcastToFloat .fp8e4m3 (extractStridedSlice S32x16385x512 ![0, 0, 0] R slices_S32x16385x656_S32x16385x512_0_0_0)

theorem or4 (F : Fin 4 → BitVec 8) : (List.finRange 4).foldl (fun acc k => acc ||| (F k).setWidth 32 <<< (k.val * 8)) 0 = word4 (F 0) (F 1) (F 2) (F 3) := by
  unfold word4
  simp [List.finRange]
theorem or2 (F : Fin 2 → BitVec 8) : (List.finRange 2).foldl (fun acc k => acc ||| (F k).setWidth 16 <<< (k.val * 8)) 0 = word2 (F 0) (F 1) := by
  unfold word2
  simp [List.finRange]
theorem rScale_at (b : Fin 32) (n : Fin 16385) (g : Fin 4) : rScale R (ix3 b n g) = scale (rRow R b n) g := by
  refine congrArg (Ideal.ofBits .f32) (Eq.trans ?_ (or4 fun k => R (ix3 b n ⟨512 + 4 * g.val + k.val, by omega⟩)))
  have h : ∀ k : Fin 4, (shapeCast S32x16385x4x4 (extractStridedSlice S32x16385x16 ![0, 0, 512] R slices_S32x16385x656_S32x16385x16_0_0_512) shapeCasts_S32x16385x16_S32x16385x4x4) (ix4 b n g k) = R (ix3 b n ⟨512 + 4 * g.val + k.val, by omega⟩) := fun k => by
    pointwise [] <;> exact congrArg R (congrArg (ix3 b n) (Fin.ext (by simp only []; omega)))
  have e : ∀ k : Fin 4, Shape.SplitsWords.snoc splits_S32x16385x4_w32_S32x16385x4x4_w8 (ix3 b n g) k = ix4 b n g k := fun k => by
    funext a
    match a with
    | ⟨0, _⟩ => rfl
    | ⟨1, _⟩ => rfl
    | ⟨2, _⟩ => rfl
    | ⟨3, _⟩ => rfl
  exact congrArg (fun F : Fin 4 → BitVec 8 => (List.finRange 4).foldl (fun acc k => acc ||| (F k).setWidth 32 <<< (k.val * 8)) 0)
    (funext fun k => (congrArg _ (e k)).trans (h k))
theorem rRope_at (b : Fin 32) (n : Fin 16385) (k : Fin 64) : rRope R (ix3 b n k) = rope (rRow R b n) k := by
  refine congrArg (Ideal.ofBits .bf16) (Eq.trans ?_ (or2 fun e => R (ix3 b n ⟨528 + 2 * k.val + e.val, by omega⟩)))
  have h : ∀ e : Fin 2, (shapeCast S32x16385x64x2 (extractStridedSlice S32x16385x128 ![0, 0, 528] R slices_S32x16385x656_S32x16385x128_0_0_528) shapeCasts_S32x16385x128_S32x16385x64x2) (ix4 b n k e) = R (ix3 b n ⟨528 + 2 * k.val + e.val, by omega⟩) := fun e => by
    pointwise [] <;> exact congrArg R (congrArg (ix3 b n) (Fin.ext (by simp only []; omega)))
  have e : ∀ q : Fin 2, Shape.SplitsWords.snoc splits_S32x16385x64_w16_S32x16385x64x2_w8 (ix3 b n k) q = ix4 b n k q := fun q => by
    funext a
    match a with
    | ⟨0, _⟩ => rfl
    | ⟨1, _⟩ => rfl
    | ⟨2, _⟩ => rfl
    | ⟨3, _⟩ => rfl
  exact congrArg (fun F : Fin 2 → BitVec 8 => (List.finRange 2).foldl (fun acc k => acc ||| (F k).setWidth 16 <<< (k.val * 8)) 0)
    (funext fun q => (congrArg _ (e q)).trans (h q))
theorem rCode_at (b : Fin 32) (n : Fin 16385) (k : Fin 512) : rCode R (ix3 b n k) = Ideal.ofBits .fp8e4m3 (rRow R b n ⟨k.val, by omega⟩) := by
  pointwise [rCode]
  rfl

end Cert.Val

end
-- ==== Proof.Value.RefB.lean ====
/- The reference's operations after the widening of the codes, as one term, and its results read at an index. -/
module

public import proofs.«01_k».proof.Proof.Gen.ReferenceIdeal.Frame
public import proofs.«01_k».proof.Proof.Value.RefA
public import Idealize.ShloMosaic.Lib.StableHlo.RunRead

@[expose] public section

set_option maxRecDepth 16384

noncomputable section

namespace Cert.Val

open Idealize.ShloMosaic Idealize.ShloMosaic.Tactic
open Cert.ReferenceIdeal Cert.ReferenceIdeal.Gen

/-- The latents: the widened codes by their scales. -/
def rLat (WD : FVec Ideal S32x16385x512 .bf16) (SC : FVec Ideal S32x16385x4 .f32) : FVec Ideal S32x16385x512 .bf16 :=
  shapeCast S32x16385x512 (mulf (shapeCast S32x16385x4x128 WD shapeCasts_S32x16385x512_S32x16385x4x128)
    (broadcastInDim S32x16385x4x128 ![0, 1, 2, 3] bcast_S32x16385x4x1_S32x16385x4x128_0_1_2_3
      (broadcastInDim S32x16385x4x1 ![0, 1, 2] bcast_S32x16385x4_S32x16385x4x1_0_1_2 (truncf .bf16 SC bitsLt_bf16_f32)))) shapeCasts_S32x16385x4x128_S32x16385x512

variable (Q : FVec Ideal S32x1x128x512 .bf16) (QR : FVec Ideal S32x1x128x64 .bf16) (LN : IVec S32 32)
  (L : FVec Ideal S32x16385x512 .bf16) (RO : FVec Ideal S32x16385x64 .bf16)

def rLat0 : FVec Ideal S32x16384x512 .bf16 := extractStridedSlice S32x16384x512 ![0, 0, 0] L slices_S32x16385x512_S32x16384x512_0_0_0
def rLat1 : FVec Ideal S32x1x512 .bf16 := extractStridedSlice S32x1x512 ![0, 16384, 0] L slices_S32x16385x512_S32x1x512_0_16384_0
/-- The scores of the cached records. -/
def rS0 : FVec Ideal S32x1x128x16384 .f32 :=
  mulf (addf (Host.dotGeneral dot_S32x1x128x512_S32x16384x512_S32x1x128x16384_3_2_12_1_0_0 none Q (rLat0 L))
    (Host.dotGeneral dot_S32x1x128x64_S32x16384x64_S32x1x128x16384_3_2_12_1_0_0 none QR (extractStridedSlice S32x16384x64 ![0, 0, 0] RO slices_S32x16385x64_S32x16384x64_0_0_0)))
    (broadcastInDim S32x1x128x16384 ![] bcast_S_S32x1x128x16384 (constant S_ .f32 0x3D93CD3A#32))
/-- The new record's scores. -/
def rS1 : FVec Ideal S32x1x128x1 .f32 :=
  mulf (addf (Host.dotGeneral dot_S32x1x128x512_S32x1x512_S32x1x128x1_3_2_12_1_0_0 none Q (rLat1 L))
    (Host.dotGeneral dot_S32x1x128x64_S32x1x64_S32x1x128x1_3_2_12_1_0_0 none QR (extractStridedSlice S32x1x64 ![0, 16384, 0] RO slices_S32x16385x64_S32x1x64_0_16384_0)))
    (broadcastInDim S32x1x128x1 ![] bcast_S_S32x1x128x1 (constant S_ .f32 0x3D93CD3A#32))
/-- Which positions are visible. -/
def rMask : IVec S32x1x1x16384 1 :=
  broadcastInDim S32x1x1x16384 ![0, 3] bcast_S32x16384_S32x1x1x16384_0_3
    (cmpi .slt (broadcastInDim S32x16384 ![0, 1] bcast_S1x16384_S32x16384_0_1 (broadcastInDim S1x16384 ![1] bcast_S16384_S1x16384_1 (iotaInDim S16384 32 0)))
      (broadcastInDim S32x16384 ![0, 1] bcast_S32x1_S32x16384_0_1 (broadcastInDim S32x1 ![0] bcast_S32_S32x1_0 LN)))
/-- All the scores, the invisible positions' minus infinity. -/
def rS : FVec Ideal S32x1x128x16385 .f32 :=
  concatenate S32x1x128x16385 3 [⟨S32x1x128x16384, select (broadcastInDim S32x1x128x16384 ![0, 1, 2, 3] bcast_S32x1x1x16384_S32x1x128x16384_0_1_2_3 (rMask LN)) (rS0 Q QR L RO)
    (broadcastInDim S32x1x128x16384 ![] bcast_S_S32x1x128x16384 (constant S_ .f32 0xFF800000#32))⟩, ⟨S32x1x128x1, rS1 Q QR L RO⟩] concatenates_S32x1x128x16384_S32x1x128x1_S32x1x128x16385_d3

variable (S E : FVec Ideal S32x1x128x16385 .f32) (M Z : FVec Ideal S32x1x128x1 .f32) (P : FVec Ideal S32x1x128x16385 .bf16)
def rMax : FVec Ideal S32x1x128x1 .f32 :=
  broadcastInDim S32x1x128x1 ![0, 1, 2] bcast_S32x1x128_S32x1x128x1_0_1_2 (Host.reduce FloatOps.maximumf S (constant S_ .f32 0xFF800000#32) reducesTo_S32x1x128x16385_S32x1x128_d3 h_S_)
def rE : FVec Ideal S32x1x128x16385 .f32 :=
  Host.exp (subf S (broadcastInDim S32x1x128x16385 ![0, 1, 2, 3] bcast_S32x1x128x1_S32x1x128x16385_0_1_2_3 M))
def rZ : FVec Ideal S32x1x128x1 .f32 :=
  broadcastInDim S32x1x128x1 ![0, 1, 2] bcast_S32x1x128_S32x1x128x1_0_1_2 (Host.reduceAdd E (constant S_ .f32 0x00000000#32) reducesTo_S32x1x128x16385_S32x1x128_d3 h_S_)
def rP : FVec Ideal S32x1x128x16385 .bf16 :=
  truncf .bf16 (Host.divf E (broadcastInDim S32x1x128x16385 ![0, 1, 2, 3] bcast_S32x1x128x1_S32x1x128x16385_0_1_2_3 Z)) bitsLt_bf16_f32
def rOut : FVec Ideal S32x128x512 .bf16 :=
  shapeCast S32x128x512 (truncf .bf16 (addf
    (Host.dotGeneral dot_S32x1x128x16384_S32x16384x512_S32x1x128x512_3_1_12_2_0_0 none (extractStridedSlice S32x1x128x16384 ![0, 0, 0, 0] P slices_S32x1x128x16385_S32x1x128x16384_0_0_0_0) (rLat0 L))
    (Host.dotGeneral dot_S32x1x128x1_S32x1x512_S32x1x128x512_3_1_12_2_0_0 none (extractStridedSlice S32x1x128x1 ![0, 0, 0, 16384] P slices_S32x1x128x16385_S32x1x128x1_0_0_0_16384) (rLat1 L))) bitsLt_bf16_f32) shapeCasts_S32x1x128x512_S32x128x512
def rLse : FVec Ideal S32x128x1 .f32 :=
  broadcastInDim S32x128x1 ![0, 1] bcast_S32x128_S32x128x1_0_1 (shapeCast S32x128 (subf
    (shapeCast S32x1x128 (addf M (Host.log Z)) shapeCasts_S32x1x128x1_S32x1x128)
    (broadcastInDim S32x1x128 ![0, 1, 2] bcast_S32x1x1_S32x1x128_0_1_2 (broadcastInDim S32x1x1 ![0, 1] bcast_S32x1_S32x1x1_0_1
      (Host.log (sitofp .f32 (addi (broadcastInDim S32x1 ![0] bcast_S32_S32x1_0 LN) (broadcastInDim S32x1 ![] bcast_S_S32x1 (constantI S_ 32 1#32)))))))) shapeCasts_S32x1x128_S32x128)

/-- The weights. -/
abbrev sE : FVec Ideal S32x1x128x16385 .f32 := rE S (rMax S)
/-- Their sums. -/
abbrev sZ : FVec Ideal S32x1x128x1 .f32 := rZ (sE S)
/-- The first result, from the latents and the scores. -/
abbrev sOut : FVec Ideal S32x128x512 .bf16 := rOut L (rP (sE S) (sZ S))
/-- The second result, from the lengths and the scores. -/
abbrev sLse : FVec Ideal S32x128x1 .f32 := rLse LN (rMax S) (sZ S)

section Tail
variable (V : Valuation τ sig (Elt Ideal))

abbrev tLat : FVec Ideal S32x16385x512 .bf16 := rLat (V (Proc.devRef .tc main_v17)) (V (Proc.devRef .tc main_v13))
abbrev tS : FVec Ideal S32x1x128x16385 .f32 := rS (V (Proc.devRef .tc main_arg0)) (V (Proc.devRef .tc main_arg1)) (V (Proc.devRef .tc main_arg5)) (tLat V) (V (Proc.devRef .tc main_v16))

set_option maxHeartbeats 1600000 in
theorem tail_out : StableHlo.after (List.flatten [hostOps1, hostOps1_1, hostOps1_2]) V (Proc.devRef .tc main_v74) = sOut (tLat V) (tS V) := by
  simp only [hostOps1, hostOps1_1, hostOps1_2, List.flatten_cons, List.flatten_nil, List.append_nil, List.cons_append, List.nil_append]
  after_reads_simp
  rfl
set_option maxHeartbeats 1600000 in
theorem tail_lse : StableHlo.after (List.flatten [hostOps1, hostOps1_1, hostOps1_2]) V (Proc.devRef .tc main_v76) = sLse (V (Proc.devRef .tc main_arg5)) (tS V) := by
  simp only [hostOps1, hostOps1_1, hostOps1_2, List.flatten_cons, List.flatten_nil, List.append_nil, List.cons_append, List.nil_append]
  after_reads_simp
  rfl
end Tail

end Cert.Val

end
-- ==== Proof.Value.RefC.lean ====
/- The reference's run: its two results over its arguments. -/
module

public import proofs.«01_k».proof.Proof.Value.RefB
public import Idealize.ShloMosaic.Lib.Claim
public import Idealize.ShloMosaic.Lib.Pipeline.ValueKit
public import Idealize.ShloMosaic.Lib.Pipeline.ValueKit.Geometry

@[expose] public section

set_option maxRecDepth 16384

noncomputable section

namespace Cert.Val

open Idealize.ShloMosaic Idealize.ShloMosaic.TcCoe Idealize.ShloMosaic.Tactic
open Cert.ReferenceIdeal Cert.ReferenceIdeal.Gen

variable (m : (ℓ : Loc nD τ sig) → Buf (Elt Ideal) ℓ) (g : Dev nD → PrngReg) (c : Dev nD)

abbrev R0 : FVec Ideal S32x1x128x512 .bf16 := m ((c.tc : Thread nD τ).loc main_arg0)
abbrev R1 : FVec Ideal S32x1x128x64 .bf16 := m ((c.tc : Thread nD τ).loc main_arg1)
abbrev R2 : IVec S32x1x656 8 := m ((c.tc : Thread nD τ).loc main_arg2)
abbrev R3 : IVec S40960x16x656 8 := m ((c.tc : Thread nD τ).loc main_arg3)
abbrev R4 : IVec S32x1024 32 := m ((c.tc : Thread nD τ).loc main_arg4)
abbrev R5 : IVec S32 32 := m ((c.tc : Thread nD τ).loc main_arg5)

/-- The reference's records. -/
abbrev rR : IVec S32x16385x656 8 := rRec (R2 m c) (R3 m c) (R4 m c)

theorem head_code : V0 m c (Proc.devRef .tc main_v10) = rCode (rR m c) := by
  unfold V0
  simp only [hostOps0, List.flatten_cons, List.flatten_nil, List.append_nil, List.cons_append, List.nil_append]
  after_reads_simp
  rfl
theorem head_scale : V0 m c (Proc.devRef .tc main_v13) = rScale (rR m c) := by
  unfold V0
  simp only [hostOps0, List.flatten_cons, List.flatten_nil, List.append_nil, List.cons_append, List.nil_append]
  after_reads_simp
  rfl
theorem head_rope : V0 m c (Proc.devRef .tc main_v16) = rRope (rR m c) := by
  unfold V0
  simp only [hostOps0, List.flatten_cons, List.flatten_nil, List.append_nil, List.cons_append, List.nil_append]
  after_reads_simp
  rfl

/-- The codes' block is the whole array. -/
theorem block : iblk m c 0 t0_0 = (fun j => rCode (rR m c) j : FVec Ideal S32x16385x512 .fp8e4m3) := by
  funext j
  refine Eq.trans ?_ (congrFun (head_code m c) j)
  show V0 m c (Proc.devRef .tc main_v10) (((cfg0.win 0).blk t0_0).view.emb j) = _
  refine congrArg (V0 m c (Proc.devRef .tc main_v10)) ?_
  have h0 : ∀ a : Fin 3, win0_0.index t0_0 a = 0 := by decide +kernel
  blk_ext
  · rw [h0]; omega
  · rw [h0]; omega
  · rw [h0]; omega

/-- The widened codes. -/
theorem wide : (dats m 0 c).arrAt 1 cfg0.N = (fun j => rCode (rR m c) j : FVec Ideal S32x16385x512 .bf16) := by
  refine (dats m 0 c).arrAt_eq_of_after_last 1 t0_0 (by decide +kernel) _ fun j => ?_
  blk_simp
  rw [after0_1]
  frame_out
  rw [block]
  unfold k0_pay1
  rw [shapeCast_self]
  rfl

/-- The contents the tail starts from. -/
abbrev W0 : Valuation τ sig (Elt Ideal) := Pipeline.withArrays (cfgs 0).spec c (V0 m c) fun w => (dats m 0 c).arrAt w (cfgs 0).N

theorem w_wide : W0 m c (Proc.devRef .tc main_v17) = (fun j => rCode (rR m c) j : FVec Ideal S32x16385x512 .bf16) :=
  (Pipeline.withArrays_arr spec0 (by decide) c (V0 m c) (fun w => (dats m 0 c).arrAt w cfg0.N) 1).trans (wide m c)
theorem w_ne (b : Ref sig .tc) (hb : ∀ w, Pipeline.arrRef spec0 w ≠ b) : W0 m c (Proc.devRef .tc b) = V0 m c (Proc.devRef .tc b) :=
  Pipeline.withArrays_of_ne _ c (V0 m c) _ b hb

/-- The reference's latents and scores over its arguments. -/
abbrev fLat : FVec Ideal S32x16385x512 .bf16 := rLat (fun j => rCode (rR m c) j) (rScale (rR m c))
abbrev fS : FVec Ideal S32x1x128x16385 .f32 := rS (R0 m c) (R1 m c) (R5 m c) (fLat m c) (rRope (rR m c))

theorem t_lat : tLat (W0 m c) = fLat m c := by
  unfold tLat
  rw [w_wide, w_ne m c main_v13 (by decide), head_scale]
theorem t_S : tS (W0 m c) = fS m c := by
  unfold tS
  rw [t_lat, w_ne m c main_arg0 (by decide), w_ne m c main_arg1 (by decide), w_ne m c main_arg5 (by decide), w_ne m c main_v16 (by decide), head_rope]
  have e0 : V0 m c (Proc.devRef .tc main_arg0) = R0 m c := V_main_arg0 m c
  have e1 : V0 m c (Proc.devRef .tc main_arg1) = R1 m c := V_main_arg1 m c
  have e5 : V0 m c (Proc.devRef .tc main_arg5) = R5 m c := V_main_arg5 m c
  rw [e0, e1, e5]

theorem ref_run : θ_run defs (onTc (τ := τ) (main (F := Ideal))) ⟨m, fun _ => 0, g⟩ (fun r => ∀ c : Dev nD,
      r.2.mem ((c.tc : Thread nD τ).loc main_v74) = sOut (fLat m c) (fS m c)
      ∧ r.2.mem ((c.tc : Thread nD τ).loc main_v76) = sLse (R5 m c) (fS m c)) := by
  refine (θ_run defs _ _).mono (fun r h c => ⟨?_, ?_⟩) (run_main m g)
  · refine ((h c).2 main_v74 (Pipeline.mem_restRefs_of main_v74 (by decide) (by decide))).trans ?_
    refine (tail_out (W0 m c)).trans ?_
    rw [t_lat, t_S]
  · refine ((h c).2 main_v76 (Pipeline.mem_restRefs_of main_v76 (by decide) (by decide))).trans ?_
    refine (tail_lse (W0 m c)).trans ?_
    rw [t_S, w_ne m c main_arg5 (by decide)]
    exact congrArg (fun x => sLse x (fS m c)) (V_main_arg5 m c)

end Cert.Val

end
-- ==== Proof.Value.RefD.lean ====
/- The reference's results read at an index. -/
module

public import proofs.«01_k».proof.Proof.Value.RefB
public import proofs.«01_k».proof.Proof.Value.Softmax
public import proofs.«01_k».proof.Proof.Value.Update

@[expose] public section

set_option maxRecDepth 16384

noncomputable section

namespace Cert.Val

open Idealize.ShloMosaic Idealize.ShloMosaic.Tactic
open Cert.ReferenceIdeal Cert.ReferenceIdeal.Gen

theorem rLat_at (R : IVec S32x16385x656 8) (b : Fin 32) (n : Fin 16385) (k : Fin 512) :
    rLat (fun j => rCode R j) (rScale R) (ix3 b n k) = lat (rRow R b n) k := by
  refine Eq.trans (b := rCode R (ix3 b n k) * rScale R (ix3 b n ⟨k.val / 128, by omega⟩)) (by pointwise [rLat]) ?_
  rw [rCode_at, rScale_at]
  rfl

variable (Q : FVec Ideal S32x1x128x512 .bf16) (QR : FVec Ideal S32x1x128x64 .bf16) (LN : IVec S32 32)
  (L : FVec Ideal S32x16385x512 .bf16) (RO : FVec Ideal S32x16385x64 .bf16)

theorem rS_at (hl : ∀ b, (LN (ix1 b)).toNat ≤ 16384) (b : Fin 32) (h : Fin 128) (n : Fin 16385) :
    rS Q QR LN L RO (ix4 b 0 h n) = if n.val < 16384 ∧ ¬ n.val < (LN (ix1 b)).toNat then ⊥ else (∑ k : Fin 512, Q (ix4 b 0 h k) * L (ix3 b n k) + ∑ k : Fin 64, QR (ix4 b 0 h k) * RO (ix3 b n k)) * smScale := by
  have hb : (LN (ix1 b)).toNat < 2 ^ 31 := by have := hl b; omega
  have hn : (BitVec.ofNat 32 n.val).toNat = n.val := by simp; omega
  have hm := slt_nat (BitVec.ofNat 32 n.val) (LN (ix1 b)) (by rw [hn]; omega) hb
  rw [hn] at hm
  pointwise [rS, rS0, rS1, rMask, rLat0, rLat1]
  by_cases h0 : n.val < 16384
  · refine (dif_pos h0).trans ?_
    rw [hm]
    by_cases h1 : n.val < (LN (ix1 b)).toNat
    · refine Eq.trans ?_ (if_neg (fun q => q.2 h1)).symm
      rw [decide_eq_true h1]
      rfl
    · refine Eq.trans ?_ (if_pos ⟨h0, h1⟩).symm
      rw [decide_eq_false h1]
      exact neg_inf
  · refine (dif_neg h0).trans (Eq.trans ?_ (if_neg (fun q => h0 q.1)).symm)
    have e : ∀ hh, (⟨16384 + (n.val - 16384), hh⟩ : Fin 16385) = n := fun hh => Fin.ext (by simp only []; omega)
    simp only [e]
    rfl

variable (S E : FVec Ideal S32x1x128x16385 .f32) (M Z : FVec Ideal S32x1x128x1 .f32) (P : FVec Ideal S32x1x128x16385 .bf16)
theorem rMax_at (b : Fin 32) (h : Fin 128) : rMax S (ix4 b 0 h 0) = Finset.fold max ⊥ (fun n : Fin 16385 => S (ix4 b 0 h n)) Finset.univ := by
  pointwise [rMax]
  rw [neg_inf]
theorem rE_at (b : Fin 32) (h : Fin 128) (n : Fin 16385) : rE S M (ix4 b 0 h n) = Ideal.exp (S (ix4 b 0 h n) - M (ix4 b 0 h 0)) := by
  pointwise [rE]
theorem rZ_at (b : Fin 32) (h : Fin 128) : rZ E (ix4 b 0 h 0) = ∑ n : Fin 16385, E (ix4 b 0 h n) := by
  pointwise [rZ]
theorem rP_at (b : Fin 32) (h : Fin 128) (n : Fin 16385) : rP E Z (ix4 b 0 h n) = Ideal.div (E (ix4 b 0 h n)) (Z (ix4 b 0 h 0)) := by
  pointwise [rP]
theorem rOut_at (b : Fin 32) (h : Fin 128) (k : Fin 512) : rOut L P (ix3 b h k) =
    (∑ n : Fin 16384, P (ix4 b 0 h n.castSucc) * L (ix3 b n.castSucc k)) + P (ix4 b 0 h (Fin.last 16384)) * L (ix3 b (Fin.last 16384) k) := by
  pointwise [rOut, rLat0, rLat1]
  rw [Fin.sum_univ_one]
  rfl
theorem rLse_at (b : Fin 32) (h : Fin 128) : rLse LN M Z (ix3 b h 0) =
    (M (ix4 b 0 h 0) + Ideal.log (Z (ix4 b 0 h 0))) - Ideal.log (((IntOp.addi (LN (ix1 b)) 1#32).toInt : ℝ) : EReal) := by
  pointwise [rLse]
  rfl

end Cert.Val

end
-- ==== Proof.Value.RefE.lean ====
/- The reference's softmax, taken at once over all positions: its two results are the kernel's. -/
module

public import proofs.«01_k».proof.Proof.Value.RefD

@[expose] public section

set_option maxRecDepth 16384

noncomputable section

namespace Cert.Val

open Idealize.ShloMosaic

section Abstract
variable (len : ℕ) (f : Fin 16385 → EReal) (σ : ℕ → ℝ) (τ : ℝ)
  (h0 : ∀ n : Fin 16384, f n.castSucc = if n.val < len then (σ n.val : EReal) else ⊥) (h1 : f (Fin.last 16384) = (τ : EReal))
include h0 h1

/-- The maximum is a real number. -/
theorem all_max : ∃ M : ℝ, Finset.univ.fold max ⊥ f = (M : EReal) := by
  refine fold_real f (fun i => ?_) (Fin.last 16384) (by rw [h1]; exact EReal.coe_ne_bot _)
  refine Fin.lastCases ?_ (fun n => ?_) i
  · rw [h1]; exact EReal.coe_ne_top _
  · rw [h0]; split <;> [exact EReal.coe_ne_top _; exact bot_ne_top]

/-- A cached record's weight at a maximum `M`, -/
theorem all_exp (M : ℝ) (n : Fin 16384) :
    Ideal.exp (f n.castSucc - M) = ((Real.exp (-M) * (if n.val < len then Real.exp (σ n.val) else 0) : ℝ) : EReal) := by
  rw [h0]
  split
  · rw [← EReal.coe_sub, Ideal.exp_coe, ← Real.exp_add]; congr 2; ring
  · rw [EReal.bot_sub, mul_zero]; rfl
/-- the new record's -/
theorem all_exp_last (M : ℝ) : Ideal.exp (f (Fin.last 16384) - M) = ((Real.exp (-M) * Real.exp τ : ℝ) : EReal) := by
  rw [h1, ← EReal.coe_sub, Ideal.exp_coe, ← Real.exp_add]; congr 2; ring
/-- and the sum of them all. -/
theorem all_sum (M : ℝ) : ∑ n : Fin 16385, Ideal.exp (f n - M)
    = ((Real.exp (-M) * (Real.exp τ + visSum len 16384 fun k => Real.exp (σ k)) : ℝ) : EReal) := by
  rw [Fin.sum_univ_castSucc, all_exp_last len f σ τ h0 h1]
  simp only [all_exp len f σ τ h0 h1]
  rw [← coe_sum, ← EReal.coe_add]
  congr 1
  rw [← Finset.mul_sum, Fin.sum_univ_eq_sum_range (fun k => if k < len then Real.exp (σ k) else 0)]
  unfold visSum
  ring

/-- The weighted sum of the latent values. -/
theorem all_out (M : ℝ) (x : ℕ → ℝ) (x1 : ℝ) (z : ℝ) (hz : 0 < z) :
    (∑ n : Fin 16384, Ideal.div (Ideal.exp (f n.castSucc - M)) ((Real.exp (-M) * z : ℝ) : EReal) * (x n.val : EReal))
      + Ideal.div (Ideal.exp (f (Fin.last 16384) - M)) ((Real.exp (-M) * z : ℝ) : EReal) * (x1 : EReal)
    = (((Real.exp τ * x1 + visSum len 16384 fun k => Real.exp (σ k) * x k) / z : ℝ) : EReal) := by
  have hM := (Real.exp_pos (-M)).ne'
  have hZ : Real.exp (-M) * z ≠ 0 := (mul_pos (Real.exp_pos _) hz).ne'
  rw [all_exp_last len f σ τ h0 h1]
  simp only [all_exp len f σ τ h0 h1, div_real _ _ hZ, mul_div_mul_left _ _ hM, ← EReal.coe_mul]
  rw [← coe_sum, ← EReal.coe_add]
  congr 1
  rw [Fin.sum_univ_eq_sum_range (fun k => (if k < len then Real.exp (σ k) else 0) / z * x k)]
  unfold visSum
  have e : ∀ k, (if k < len then Real.exp (σ k) else 0) / z * x k = (if k < len then Real.exp (σ k) * x k else 0) / z := fun k => by
    split
    · ring
    · simp
  simp only [e]
  rw [← Finset.sum_div]
  ring
end Abstract

section Final
open Cert.KernelIdeal
variable (Q : FVec Ideal S32x1x128x512 .bf16) (QR : FVec Ideal S32x1x128x64 .bf16) (NR : IVec S32x1x656 8) (PO : IVec S40960x16x656 8)
  (PT : IVec S32x1024 32) (LN : IVec S32 32) (hA : ArgsOk Q QR NR PO PT LN)

abbrev eR : IVec Cert.ReferenceIdeal.S32x16385x656 8 := rRec NR PO PT
abbrev eLat : FVec Ideal Cert.ReferenceIdeal.S32x16385x512 .bf16 := rLat (fun j => rCode (eR NR PO PT) j) (rScale (eR NR PO PT))
abbrev eS : FVec Ideal Cert.ReferenceIdeal.S32x1x128x16385 .f32 := rS Q QR LN (eLat NR PO PT) (rRope (eR NR PO PT))

include hA
theorem row_old (b : Fin 32) (n : Fin 16384) : rRow (eR NR PO PT) b n.castSucc = aTok PO PT b n.val :=
  funext fun i => (rec_at NR PO PT hA.pages b n.castSucc i).trans (if_pos n.isLt)
theorem row_new (b : Fin 32) : rRow (eR NR PO PT) b (Fin.last 16384) = aNew NR b :=
  funext fun i => (rec_at NR PO PT hA.pages b (Fin.last 16384) i).trans (if_neg (lt_irrefl 16384))
theorem tok_ok (b : Fin 32) (n : ℕ) : RecOk (aTok PO PT b n) := hA.pool _ _

theorem S_at (b : Fin 32) (h : Fin 128) (n : Fin 16385) : eS Q QR NR PO PT LN (ix4 b 0 h n)
    = if n.val < 16384 ∧ ¬ n.val < (LN (ix1 b)).toNat then ⊥ else score (aQ Q b h) (aQr QR b h) (rRow (eR NR PO PT) b n) := by
  refine (rS_at Q QR LN _ _ (fun b => hA.lens _) b h n).trans ?_
  simp only [rLat_at, rRope_at]
  rfl
theorem S_old (b : Fin 32) (h : Fin 128) (n : Fin 16384) : eS Q QR NR PO PT LN (ix4 b 0 h n.castSucc)
    = if n.val < (aLen LN b).toNat then ((score (aQ Q b h) (aQr QR b h) (aTok PO PT b n.val)).toReal : EReal) else ⊥ := by
  refine (S_at Q QR NR PO PT LN hA b h n.castSucc).trans ?_
  rw [row_old Q QR NR PO PT LN hA, ((tok_ok Q QR NR PO PT LN hA b n.val).score_real (q := aQ Q b h) (qr := aQr QR b h) (fun _ => hA.q _) (fun _ => hA.qr _)).coe]
  by_cases hn : n.val < (aLen LN b).toNat
  · exact (if_neg fun q => q.2 hn).trans (if_pos hn).symm
  · exact (if_pos ⟨n.isLt, hn⟩).trans (if_neg hn).symm
theorem S_new (b : Fin 32) (h : Fin 128) : eS Q QR NR PO PT LN (ix4 b 0 h (Fin.last 16384))
    = ((score (aQ Q b h) (aQr QR b h) (aNew NR b)).toReal : EReal) := by
  refine (S_at Q QR NR PO PT LN hA b h (Fin.last 16384)).trans ?_
  rw [row_new Q QR NR PO PT LN hA, ((hA.new b).score_real (q := aQ Q b h) (qr := aQr QR b h) (fun _ => hA.q _) (fun _ => hA.qr _)).coe]
  exact if_neg fun q => absurd q.1 (lt_irrefl 16384)

theorem lat_old (b : Fin 32) (n : Fin 16384) (k : Fin 512) : eLat NR PO PT (ix3 b n.castSucc k) = ((lat (aTok PO PT b n.val) k).toReal : EReal) := by
  rw [((tok_ok Q QR NR PO PT LN hA b n.val).lat_real k).coe, ← row_old Q QR NR PO PT LN hA]
  exact rLat_at _ _ _ _
theorem lat_new (b : Fin 32) (k : Fin 512) : eLat NR PO PT (ix3 b (Fin.last 16384) k) = ((lat (aNew NR b) k).toReal : EReal) := by
  rw [((hA.new b).lat_real k).coe, ← row_new Q QR NR PO PT LN hA]
  exact rLat_at _ _ _ _

/-- The scores' maximum and sum of weights. -/
theorem max_sum (b : Fin 32) (h : Fin 128) : ∃ M : ℝ, rMax (eS Q QR NR PO PT LN) (ix4 b 0 h 0) = (M : EReal)
    ∧ sZ (eS Q QR NR PO PT LN) (ix4 b 0 h 0)
      = ((Real.exp (-M) * rowZ (aQ Q b h) (aQr QR b h) (aNew NR b) (aTok PO PT b) (aLen LN b).toNat 16384 : ℝ) : EReal) := by
  obtain ⟨M, hM⟩ := all_max (aLen LN b).toNat (fun n => eS Q QR NR PO PT LN (ix4 b 0 h n)) (fun k => (score (aQ Q b h) (aQr QR b h) (aTok PO PT b k)).toReal) _ (S_old Q QR NR PO PT LN hA b h) (S_new Q QR NR PO PT LN hA b h)
  have e := (rMax_at (eS Q QR NR PO PT LN) b h).trans hM
  refine ⟨M, e, (rZ_at _ b h).trans ?_⟩
  refine Eq.trans (Finset.sum_congr rfl fun n _ => (rE_at _ _ b h n).trans (by rw [e])) ?_
  exact all_sum _ (fun n => eS Q QR NR PO PT LN (ix4 b 0 h n)) (fun k => (score (aQ Q b h) (aQr QR b h) (aTok PO PT b k)).toReal) _ (S_old Q QR NR PO PT LN hA b h) (S_new Q QR NR PO PT LN hA b h) M

/-- The reference's first result is the kernel's, -/
theorem out_eq : sOut (eLat NR PO PT) (eS Q QR NR PO PT LN) = fun j => outAt Q QR NR PO PT LN (j 0) (j 1) (j 2) := by
  funext j
  obtain ⟨b, h, k, rfl⟩ : ∃ (b : Fin 32) (h : Fin 128) (k : Fin 512), j = ix3 b h k := ⟨j 0, j 1, j 2, by
    funext a; match a with | ⟨0, _⟩ => rfl | ⟨1, _⟩ => rfl | ⟨2, _⟩ => rfl⟩
  obtain ⟨M, hM, hZ⟩ := max_sum Q QR NR PO PT LN hA b h
  refine (rOut_at _ _ b h k).trans ?_
  have hP : ∀ n, rP (sE (eS Q QR NR PO PT LN)) (sZ (eS Q QR NR PO PT LN)) (ix4 b 0 h n)
      = Ideal.div (Ideal.exp (eS Q QR NR PO PT LN (ix4 b 0 h n) - M)) ((Real.exp (-M) * rowZ (aQ Q b h) (aQr QR b h) (aNew NR b) (aTok PO PT b) (aLen LN b).toNat 16384 : ℝ) : EReal) :=
    fun n => (rP_at _ _ b h n).trans (congr (congrArg Ideal.div ((rE_at _ _ b h n).trans (congrArg (fun z => Ideal.exp (eS Q QR NR PO PT LN (ix4 b 0 h n) - z)) hM))) hZ)
  simp only [hP, lat_old Q QR NR PO PT LN hA, lat_new Q QR NR PO PT LN hA]
  exact all_out _ (fun n => eS Q QR NR PO PT LN (ix4 b 0 h n)) (fun k => (score (aQ Q b h) (aQr QR b h) (aTok PO PT b k)).toReal) _ (S_old Q QR NR PO PT LN hA b h) (S_new Q QR NR PO PT LN hA b h) M
    (fun n => (lat (aTok PO PT b n) k).toReal) _ _ (rowZ_pos _ _ _ _ _ _)

/-- and so is its second. -/
theorem lse_eq : sLse LN (eS Q QR NR PO PT LN) = fun j => lseAt Q QR NR PO PT LN (j 0) (j 1) := by
  funext j
  obtain ⟨b, h, rfl⟩ : ∃ (b : Fin 32) (h : Fin 128), j = ix3 b h (0 : Fin 1) := ⟨j 0, j 1, by
    funext a; match a with | ⟨0, _⟩ => rfl | ⟨1, _⟩ => rfl | ⟨2, _⟩ => exact Subsingleton.elim (α := Fin 1) _ _⟩
  obtain ⟨M, hM, hZ⟩ := max_sum Q QR NR PO PT LN hA b h
  refine (rLse_at _ _ _ b h).trans ?_
  rw [hM, hZ, final_lse _ _ (rowZ_pos _ _ _ _ _ _)]
  rfl
end Final

end Cert.Val

end
-- ==== Proof.lean ====
/- The certificate's theorem, assembled. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_finite
public import proofs.«01_k».proof.Proof.Gen.Pre_in_range
public import proofs.«01_k».proof.Proof.Kernel.Frame
public import proofs.«01_k».proof.Proof.KernelIdeal.Frame
public import proofs.«01_k».proof.Proof.Pre
public import proofs.«01_k».proof.Proof.Value.Final
public import proofs.«01_k».proof.Proof.Value.PreFinite
public import proofs.«01_k».proof.Proof.Value.RefC
public import proofs.«01_k».proof.Proof.Value.RefE

@[expose] public section

noncomputable section

namespace Cert.Proof

open Idealize.ShloMosaic Idealize.SL.Sem

/-- The precondition admits the kernel's tables, -/
theorem kernel_tables (m : (ℓ : Loc Kernel.nD Kernel.τ Kernel.sig) → Buf (Elt Bits) ℓ) (h : Cert.Pre_Kernel m) : Kernel.Gen.TblOk m where
  pages x := (Pre_in_range.Gen.in_range _ _ _ _ _ _ (h 0)).1 x
  lens b := (Pre_in_range.Gen.in_range _ _ _ _ _ _ (h 0)).2 _

/-- and the ideal kernel's. -/
theorem ideal_tables (m : (ℓ : Loc KernelIdeal.nD KernelIdeal.τ KernelIdeal.sig) → Buf (Elt Ideal) ℓ) (h : Cert.Pre_KernelIdeal m) : KernelIdeal.Gen.TblOk m where
  pages x := (Pre_in_range.Gen.in_range _ _ _ _ _ _ (h 0)).1 x
  lens b := (Pre_in_range.Gen.in_range _ _ _ _ _ _ (h 0)).2 _

/-- The value claim's precondition, read. -/
theorem args (m : (ℓ : Loc KernelIdeal.nD KernelIdeal.τ KernelIdeal.sig) → Buf (Elt Ideal) ℓ) (h : Cert.Pre_KernelIdeal_finite m) (c : Dev KernelIdeal.nD) :
    Val.ArgsOk (Val.g0 m c) (Val.g1 m c) (Val.g2 m c) (Val.g3 m c) (Val.g4 m c) (Val.g5 m c) :=
  Pre_finite.Gen.args_ok _ _ _ _ _ _ (h c)

/-- It admits the ideal kernel's tables. -/
theorem finite_tables (m : (ℓ : Loc KernelIdeal.nD KernelIdeal.τ KernelIdeal.sig) → Buf (Elt Ideal) ℓ) (h : Cert.Pre_KernelIdeal_finite m) : KernelIdeal.Gen.TblOk m where
  pages x := (args m h 0).pages x
  lens b := (args m h 0).lens _

/-- The ideal kernel ends with the two results. -/
theorem kernel_run (m : (ℓ : Loc KernelIdeal.nD KernelIdeal.τ KernelIdeal.sig) → Buf (Elt Ideal) ℓ) (g : Dev KernelIdeal.nD → PrngReg) (h : Cert.Pre_KernelIdeal_finite m) :
    θ_run (KernelIdeal.defs (F := Ideal)) (onTc (τ := KernelIdeal.τ) (KernelIdeal.main (F := Ideal))) ⟨m, fun _ => 0, g⟩ (fun r => ∀ c : Dev KernelIdeal.nD,
      r.2.mem ((c.tc : Thread KernelIdeal.nD KernelIdeal.τ).loc KernelIdeal.main_v3_0)
        = (fun j => Val.outAt (Val.g0 m c) (Val.g1 m c) (Val.g2 m c) (Val.g3 m c) (Val.g4 m c) (Val.g5 m c) (j 0) (j 1) (j 2) : FVec Ideal KernelIdeal.S32x128x512 .bf16)
      ∧ r.2.mem ((c.tc : Thread KernelIdeal.nD KernelIdeal.τ).loc KernelIdeal.main_v3_1)
        = (fun j => Val.lseAt (Val.g0 m c) (Val.g1 m c) (Val.g2 m c) (Val.g3 m c) (Val.g4 m c) (Val.g5 m c) (j 0) (j 1) : FVec Ideal KernelIdeal.S32x128x1 .f32)) :=
  (θ_run _ _ _).mono (fun _ hr c => ⟨(hr.out_eq c 3).trans (Val.final_out0 m trivial (finite_tables m h) c (args m h c)),
    (hr.out_eq c 4).trans (Val.final_lse0 m trivial (finite_tables m h) c (args m h c))⟩) (KernelIdeal.Gen.run_main m g trivial (finite_tables m h))

/-- The two programs' results are equal. -/
theorem value : Cert.algebraic_KernelIdeal_ReferenceIdeal_pre_finite (hKernelIdeal := Cert.KernelIdeal.Gen.facts) (hReferenceIdeal := Cert.ReferenceIdeal.Gen.facts)
    (hPre_finite := Cert.Pre_finite.Gen.facts) := by
  intro m g m' g' h hag
  refine ⟨_, _, (θ_run _ _ _).mono (fun _ hr c => ⟨(hr.1 c).1, (hr.1 c).2, hr.2 c⟩) (θ_run_and (kernel_run m g h) (KernelIdeal.Gen.unchanged m g trivial (finite_tables m h))),
    (θ_run _ _ _).mono (fun _ hr c => ⟨(hr.1 c).1.trans ?_, (hr.1 c).2.trans ?_, hr.2 c⟩) (θ_run_and (Val.ref_run m' g') (ReferenceIdeal.Gen.unchanged m' g'))⟩
  all_goals
    obtain ⟨e0, e1, e2, e3, e4, e5⟩ := hag c
    have e0' : Val.R0 m' c = Val.g0 m c := e0
    have e1' : Val.R1 m' c = Val.g1 m c := e1
    have e2' : Val.R2 m' c = Val.g2 m c := e2
    have e3' : Val.R3 m' c = Val.g3 m c := e3
    have e4' : Val.R4 m' c = Val.g4 m c := e4
    have e5' : Val.R5 m' c = Val.g5 m c := e5
    unfold Val.fS Val.fLat Val.rR
    rw [e0', e1', e2', e3', e4', e5']
  · exact Val.out_eq _ _ _ _ _ _ (args m h c)
  · exact Val.lse_eq _ _ _ _ _ _ (args m h c)

theorem claim : Cert.Claim := ⟨Cert.Kernel.Gen.facts, Cert.KernelIdeal.Gen.facts, Cert.ReferenceIdeal.Gen.facts, Cert.Pre_in_range.Gen.facts, Cert.Pre_finite.Gen.facts,
  fun m g h => Cert.Kernel.Gen.frame m g trivial (kernel_tables m h),
  fun m g h => Cert.KernelIdeal.Gen.frame m g trivial (ideal_tables m h),
  fun m g h => Cert.KernelIdeal.Gen.frame m g trivial (finite_tables m h),
  fun m g _ => Cert.ReferenceIdeal.Gen.frame m g,
  fun m g _ => Cert.ReferenceIdeal.Gen.frame m g,
  trivial,
  value⟩

end Cert.Proof

end
